-- ==== Defs.lean ====
def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_FoxKernel (m : (ℓ : Loc Cert.FoxKernel.nD Cert.FoxKernel.τ Cert.FoxKernel.sig) → Buf (Elt Bits) ℓ) : Prop :=
  True

def Pre_FoxKernelIdeal (m : (ℓ : Loc Cert.FoxKernelIdeal.nD Cert.FoxKernelIdeal.τ Cert.FoxKernelIdeal.sig) → Buf (Elt Ideal) ℓ) : Prop :=
  True

def Pre_FoxKernelIdeal_fox_finite [hPre_fox_finite : Cert.Pre_fox_finite.Facts] (m : (ℓ : Loc Cert.FoxKernelIdeal.nD Cert.FoxKernelIdeal.τ Cert.FoxKernelIdeal.sig) → Buf (Elt Ideal) ℓ) : Prop :=
  ∀ c : Dev Cert.FoxKernelIdeal.nD,
    (Cert.Pre_fox_finite.fn (F := Ideal) (m ((c.tc : Thread Cert.FoxKernelIdeal.nD Cert.FoxKernelIdeal.τ).loc Cert.FoxKernelIdeal.main_arg0)) (m ((c.tc : Thread Cert.FoxKernelIdeal.nD Cert.FoxKernelIdeal.τ).loc Cert.FoxKernelIdeal.main_arg1)) (m ((c.tc : Thread Cert.FoxKernelIdeal.nD Cert.FoxKernelIdeal.τ).loc Cert.FoxKernelIdeal.main_arg2)) (m ((c.tc : Thread Cert.FoxKernelIdeal.nD Cert.FoxKernelIdeal.τ).loc Cert.FoxKernelIdeal.main_arg3)) (m ((c.tc : Thread Cert.FoxKernelIdeal.nD Cert.FoxKernelIdeal.τ).loc Cert.FoxKernelIdeal.main_arg4)) (m ((c.tc : Thread Cert.FoxKernelIdeal.nD Cert.FoxKernelIdeal.τ).loc Cert.FoxKernelIdeal.main_arg5))) = (fun _ => 1#1)

def Pre_FoxReferenceIdeal (m : (ℓ : Loc Cert.FoxReferenceIdeal.nD Cert.FoxReferenceIdeal.τ Cert.FoxReferenceIdeal.sig) → Buf (Elt Ideal) ℓ) : Prop :=
  True

def Pre_FoxReferenceIdeal_fox_finite [hPre_fox_finite : Cert.Pre_fox_finite.Facts] (m : (ℓ : Loc Cert.FoxReferenceIdeal.nD Cert.FoxReferenceIdeal.τ Cert.FoxReferenceIdeal.sig) → Buf (Elt Ideal) ℓ) : Prop :=
  ∀ c : Dev Cert.FoxReferenceIdeal.nD,
    (Cert.Pre_fox_finite.fn (F := Ideal) (m ((c.tc : Thread Cert.FoxReferenceIdeal.nD Cert.FoxReferenceIdeal.τ).loc Cert.FoxReferenceIdeal.main_arg0)) (m ((c.tc : Thread Cert.FoxReferenceIdeal.nD Cert.FoxReferenceIdeal.τ).loc Cert.FoxReferenceIdeal.main_arg1)) (m ((c.tc : Thread Cert.FoxReferenceIdeal.nD Cert.FoxReferenceIdeal.τ).loc Cert.FoxReferenceIdeal.main_arg2)) (m ((c.tc : Thread Cert.FoxReferenceIdeal.nD Cert.FoxReferenceIdeal.τ).loc Cert.FoxReferenceIdeal.main_arg3)) (m ((c.tc : Thread Cert.FoxReferenceIdeal.nD Cert.FoxReferenceIdeal.τ).loc Cert.FoxReferenceIdeal.main_arg4)) (m ((c.tc : Thread Cert.FoxReferenceIdeal.nD Cert.FoxReferenceIdeal.τ).loc Cert.FoxReferenceIdeal.main_arg5))) = (fun _ => 1#1)

def Pre_CumKernel (m : (ℓ : Loc Cert.CumKernel.nD Cert.CumKernel.τ Cert.CumKernel.sig) → Buf (Elt Bits) ℓ) : Prop :=
  True

def Pre_CumKernelIdeal (m : (ℓ : Loc Cert.CumKernelIdeal.nD Cert.CumKernelIdeal.τ Cert.CumKernelIdeal.sig) → Buf (Elt Ideal) ℓ) : Prop :=
  True

def Pre_CumKernelIdeal_cum_finite [hPre_cum_finite : Cert.Pre_cum_finite.Facts] (m : (ℓ : Loc Cert.CumKernelIdeal.nD Cert.CumKernelIdeal.τ Cert.CumKernelIdeal.sig) → Buf (Elt Ideal) ℓ) : Prop :=
  ∀ c : Dev Cert.CumKernelIdeal.nD,
    (Cert.Pre_cum_finite.fn (F := Ideal) (m ((c.tc : Thread Cert.CumKernelIdeal.nD Cert.CumKernelIdeal.τ).loc Cert.CumKernelIdeal.main_arg0)) (m ((c.tc : Thread Cert.CumKernelIdeal.nD Cert.CumKernelIdeal.τ).loc Cert.CumKernelIdeal.main_arg1)) (m ((c.tc : Thread Cert.CumKernelIdeal.nD Cert.CumKernelIdeal.τ).loc Cert.CumKernelIdeal.main_arg2)) (m ((c.tc : Thread Cert.CumKernelIdeal.nD Cert.CumKernelIdeal.τ).loc Cert.CumKernelIdeal.main_arg3))) = (fun _ => 1#1)

def Pre_CumReferenceIdeal (m : (ℓ : Loc Cert.CumReferenceIdeal.nD Cert.CumReferenceIdeal.τ Cert.CumReferenceIdeal.sig) → Buf (Elt Ideal) ℓ) : Prop :=
  True

def Pre_CumReferenceIdeal_cum_finite [hPre_cum_finite : Cert.Pre_cum_finite.Facts] (m : (ℓ : Loc Cert.CumReferenceIdeal.nD Cert.CumReferenceIdeal.τ Cert.CumReferenceIdeal.sig) → Buf (Elt Ideal) ℓ) : Prop :=
  ∀ c : Dev Cert.CumReferenceIdeal.nD,
    (Cert.Pre_cum_finite.fn (F := Ideal) (m ((c.tc : Thread Cert.CumReferenceIdeal.nD Cert.CumReferenceIdeal.τ).loc Cert.CumReferenceIdeal.main_arg0)) (m ((c.tc : Thread Cert.CumReferenceIdeal.nD Cert.CumReferenceIdeal.τ).loc Cert.CumReferenceIdeal.main_arg1)) (m ((c.tc : Thread Cert.CumReferenceIdeal.nD Cert.CumReferenceIdeal.τ).loc Cert.CumReferenceIdeal.main_arg2)) (m ((c.tc : Thread Cert.CumReferenceIdeal.nD Cert.CumReferenceIdeal.τ).loc Cert.CumReferenceIdeal.main_arg3))) = (fun _ => 1#1)

def Pre_MemKernel (m : (ℓ : Loc Cert.MemKernel.nD Cert.MemKernel.τ Cert.MemKernel.sig) → Buf (Elt Bits) ℓ) : Prop :=
  True

def Pre_MemKernelIdeal (m : (ℓ : Loc Cert.MemKernelIdeal.nD Cert.MemKernelIdeal.τ Cert.MemKernelIdeal.sig) → Buf (Elt Ideal) ℓ) : Prop :=
  True

def Pre_MemKernelIdeal_mem_finite [hPre_mem_finite : Cert.Pre_mem_finite.Facts] (m : (ℓ : Loc Cert.MemKernelIdeal.nD Cert.MemKernelIdeal.τ Cert.MemKernelIdeal.sig) → Buf (Elt Ideal) ℓ) : Prop :=
  ∀ c : Dev Cert.MemKernelIdeal.nD,
    (Cert.Pre_mem_finite.fn (F := Ideal) (m ((c.tc : Thread Cert.MemKernelIdeal.nD Cert.MemKernelIdeal.τ).loc Cert.MemKernelIdeal.main_arg0)) (m ((c.tc : Thread Cert.MemKernelIdeal.nD Cert.MemKernelIdeal.τ).loc Cert.MemKernelIdeal.main_arg1)) (m ((c.tc : Thread Cert.MemKernelIdeal.nD Cert.MemKernelIdeal.τ).loc Cert.MemKernelIdeal.main_arg2)) (m ((c.tc : Thread Cert.MemKernelIdeal.nD Cert.MemKernelIdeal.τ).loc Cert.MemKernelIdeal.main_arg3))) = (fun _ => 1#1)

def Pre_MemReferenceIdeal (m : (ℓ : Loc Cert.MemReferenceIdeal.nD Cert.MemReferenceIdeal.τ Cert.MemReferenceIdeal.sig) → Buf (Elt Ideal) ℓ) : Prop :=
  True

def Pre_MemReferenceIdeal_mem_finite [hPre_mem_finite : Cert.Pre_mem_finite.Facts] (m : (ℓ : Loc Cert.MemReferenceIdeal.nD Cert.MemReferenceIdeal.τ Cert.MemReferenceIdeal.sig) → Buf (Elt Ideal) ℓ) : Prop :=
  ∀ c : Dev Cert.MemReferenceIdeal.nD,
    (Cert.Pre_mem_finite.fn (F := Ideal) (m ((c.tc : Thread Cert.MemReferenceIdeal.nD Cert.MemReferenceIdeal.τ).loc Cert.MemReferenceIdeal.main_arg0)) (m ((c.tc : Thread Cert.MemReferenceIdeal.nD Cert.MemReferenceIdeal.τ).loc Cert.MemReferenceIdeal.main_arg1)) (m ((c.tc : Thread Cert.MemReferenceIdeal.nD Cert.MemReferenceIdeal.τ).loc Cert.MemReferenceIdeal.main_arg2)) (m ((c.tc : Thread Cert.MemReferenceIdeal.nD Cert.MemReferenceIdeal.τ).loc Cert.MemReferenceIdeal.main_arg3))) = (fun _ => 1#1)

def Pre_DownKernel (m : (ℓ : Loc Cert.DownKernel.nD Cert.DownKernel.τ Cert.DownKernel.sig) → Buf (Elt Bits) ℓ) : Prop :=
  True

def Pre_DownKernelIdeal (m : (ℓ : Loc Cert.DownKernelIdeal.nD Cert.DownKernelIdeal.τ Cert.DownKernelIdeal.sig) → Buf (Elt Ideal) ℓ) : Prop :=
  True

def Pre_DownKernelIdeal_down_finite [hPre_down_finite : Cert.Pre_down_finite.Facts] (m : (ℓ : Loc Cert.DownKernelIdeal.nD Cert.DownKernelIdeal.τ Cert.DownKernelIdeal.sig) → Buf (Elt Ideal) ℓ) : Prop :=
  ∀ c : Dev Cert.DownKernelIdeal.nD,
    (Cert.Pre_down_finite.fn (F := Ideal) (m ((c.tc : Thread Cert.DownKernelIdeal.nD Cert.DownKernelIdeal.τ).loc Cert.DownKernelIdeal.main_arg0)) (m ((c.tc : Thread Cert.DownKernelIdeal.nD Cert.DownKernelIdeal.τ).loc Cert.DownKernelIdeal.main_arg1)) (m ((c.tc : Thread Cert.DownKernelIdeal.nD Cert.DownKernelIdeal.τ).loc Cert.DownKernelIdeal.main_arg2)) (m ((c.tc : Thread Cert.DownKernelIdeal.nD Cert.DownKernelIdeal.τ).loc Cert.DownKernelIdeal.main_arg3))) = (fun _ => 1#1)

def Pre_DownReferenceIdeal (m : (ℓ : Loc Cert.DownReferenceIdeal.nD Cert.DownReferenceIdeal.τ Cert.DownReferenceIdeal.sig) → Buf (Elt Ideal) ℓ) : Prop :=
  True

def Pre_DownReferenceIdeal_down_finite [hPre_down_finite : Cert.Pre_down_finite.Facts] (m : (ℓ : Loc Cert.DownReferenceIdeal.nD Cert.DownReferenceIdeal.τ Cert.DownReferenceIdeal.sig) → Buf (Elt Ideal) ℓ) : Prop :=
  ∀ c : Dev Cert.DownReferenceIdeal.nD,
    (Cert.Pre_down_finite.fn (F := Ideal) (m ((c.tc : Thread Cert.DownReferenceIdeal.nD Cert.DownReferenceIdeal.τ).loc Cert.DownReferenceIdeal.main_arg0)) (m ((c.tc : Thread Cert.DownReferenceIdeal.nD Cert.DownReferenceIdeal.τ).loc Cert.DownReferenceIdeal.main_arg1)) (m ((c.tc : Thread Cert.DownReferenceIdeal.nD Cert.DownReferenceIdeal.τ).loc Cert.DownReferenceIdeal.main_arg2)) (m ((c.tc : Thread Cert.DownReferenceIdeal.nD Cert.DownReferenceIdeal.τ).loc Cert.DownReferenceIdeal.main_arg3))) = (fun _ => 1#1)

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutKernelIdeal_out_finite [hPre_out_finite : Cert.Pre_out_finite.Facts] (m : (ℓ : Loc Cert.OutKernelIdeal.nD Cert.OutKernelIdeal.τ Cert.OutKernelIdeal.sig) → Buf (Elt Ideal) ℓ) : Prop :=
  ∀ c : Dev Cert.OutKernelIdeal.nD,
    (Cert.Pre_out_finite.fn (F := Ideal) (m ((c.tc : Thread Cert.OutKernelIdeal.nD Cert.OutKernelIdeal.τ).loc Cert.OutKernelIdeal.main_arg0)) (m ((c.tc : Thread Cert.OutKernelIdeal.nD Cert.OutKernelIdeal.τ).loc Cert.OutKernelIdeal.main_arg1)) (m ((c.tc : Thread Cert.OutKernelIdeal.nD Cert.OutKernelIdeal.τ).loc Cert.OutKernelIdeal.main_arg2)) (m ((c.tc : Thread Cert.OutKernelIdeal.nD Cert.OutKernelIdeal.τ).loc Cert.OutKernelIdeal.main_arg3))) = (fun _ => 1#1)

def Pre_OutReferenceIdeal (m : (ℓ : Loc Cert.OutReferenceIdeal.nD Cert.OutReferenceIdeal.τ Cert.OutReferenceIdeal.sig) → Buf (Elt Ideal) ℓ) : Prop :=
  True

def Pre_OutReferenceIdeal_out_finite [hPre_out_finite : Cert.Pre_out_finite.Facts] (m : (ℓ : Loc Cert.OutReferenceIdeal.nD Cert.OutReferenceIdeal.τ Cert.OutReferenceIdeal.sig) → Buf (Elt Ideal) ℓ) : Prop :=
  ∀ c : Dev Cert.OutReferenceIdeal.nD,
    (Cert.Pre_out_finite.fn (F := Ideal) (m ((c.tc : Thread Cert.OutReferenceIdeal.nD Cert.OutReferenceIdeal.τ).loc Cert.OutReferenceIdeal.main_arg0)) (m ((c.tc : Thread Cert.OutReferenceIdeal.nD Cert.OutReferenceIdeal.τ).loc Cert.OutReferenceIdeal.main_arg1)) (m ((c.tc : Thread Cert.OutReferenceIdeal.nD Cert.OutReferenceIdeal.τ).loc Cert.OutReferenceIdeal.main_arg2)) (m ((c.tc : Thread Cert.OutReferenceIdeal.nD Cert.OutReferenceIdeal.τ).loc Cert.OutReferenceIdeal.main_arg3))) = (fun _ => 1#1)

def Pre_UpKernel (m : (ℓ : Loc Cert.UpKernel.nD Cert.UpKernel.τ Cert.UpKernel.sig) → Buf (Elt Bits) ℓ) : Prop :=
  True

def Pre_UpKernelIdeal (m : (ℓ : Loc Cert.UpKernelIdeal.nD Cert.UpKernelIdeal.τ Cert.UpKernelIdeal.sig) → Buf (Elt Ideal) ℓ) : Prop :=
  True

def Pre_UpKernelIdeal_up_finite [hPre_up_finite : Cert.Pre_up_finite.Facts] (m : (ℓ : Loc Cert.UpKernelIdeal.nD Cert.UpKernelIdeal.τ Cert.UpKernelIdeal.sig) → Buf (Elt Ideal) ℓ) : Prop :=
  ∀ c : Dev Cert.UpKernelIdeal.nD,
    (Cert.Pre_up_finite.fn (F := Ideal) (m ((c.tc : Thread Cert.UpKernelIdeal.nD Cert.UpKernelIdeal.τ).loc Cert.UpKernelIdeal.main_arg0)) (m ((c.tc : Thread Cert.UpKernelIdeal.nD Cert.UpKernelIdeal.τ).loc Cert.UpKernelIdeal.main_arg1)) (m ((c.tc : Thread Cert.UpKernelIdeal.nD Cert.UpKernelIdeal.τ).loc Cert.UpKernelIdeal.main_arg2)) (m ((c.tc : Thread Cert.UpKernelIdeal.nD Cert.UpKernelIdeal.τ).loc Cert.UpKernelIdeal.main_arg3)) (m ((c.tc : Thread Cert.UpKernelIdeal.nD Cert.UpKernelIdeal.τ).loc Cert.UpKernelIdeal.main_arg4))) = (fun _ => 1#1)

def Pre_UpReferenceIdeal (m : (ℓ : Loc Cert.UpReferenceIdeal.nD Cert.UpReferenceIdeal.τ Cert.UpReferenceIdeal.sig) → Buf (Elt Ideal) ℓ) : Prop :=
  True

def Pre_UpReferenceIdeal_up_finite [hPre_up_finite : Cert.Pre_up_finite.Facts] (m : (ℓ : Loc Cert.UpReferenceIdeal.nD Cert.UpReferenceIdeal.τ Cert.UpReferenceIdeal.sig) → Buf (Elt Ideal) ℓ) : Prop :=
  ∀ c : Dev Cert.UpReferenceIdeal.nD,
    (Cert.Pre_up_finite.fn (F := Ideal) (m ((c.tc : Thread Cert.UpReferenceIdeal.nD Cert.UpReferenceIdeal.τ).loc Cert.UpReferenceIdeal.main_arg0)) (m ((c.tc : Thread Cert.UpReferenceIdeal.nD Cert.UpReferenceIdeal.τ).loc Cert.UpReferenceIdeal.main_arg1)) (m ((c.tc : Thread Cert.UpReferenceIdeal.nD Cert.UpReferenceIdeal.τ).loc Cert.UpReferenceIdeal.main_arg2)) (m ((c.tc : Thread Cert.UpReferenceIdeal.nD Cert.UpReferenceIdeal.τ).loc Cert.UpReferenceIdeal.main_arg3)) (m ((c.tc : Thread Cert.UpReferenceIdeal.nD Cert.UpReferenceIdeal.τ).loc Cert.UpReferenceIdeal.main_arg4))) = (fun _ => 1#1)

def Pre_MemKvKernel (m : (ℓ : Loc Cert.MemKvKernel.nD Cert.MemKvKernel.τ Cert.MemKvKernel.sig) → Buf (Elt Bits) ℓ) : Prop :=
  True

def Pre_MemKvKernelIdeal (m : (ℓ : Loc Cert.MemKvKernelIdeal.nD Cert.MemKvKernelIdeal.τ Cert.MemKvKernelIdeal.sig) → Buf (Elt Ideal) ℓ) : Prop :=
  True

def Pre_MemKvKernelIdeal_memkv_finite [hPre_memkv_finite : Cert.Pre_memkv_finite.Facts] (m : (ℓ : Loc Cert.MemKvKernelIdeal.nD Cert.MemKvKernelIdeal.τ Cert.MemKvKernelIdeal.sig) → Buf (Elt Ideal) ℓ) : Prop :=
  ∀ c : Dev Cert.MemKvKernelIdeal.nD,
    (Cert.Pre_memkv_finite.fn (F := Ideal) (m ((c.tc : Thread Cert.MemKvKernelIdeal.nD Cert.MemKvKernelIdeal.τ).loc Cert.MemKvKernelIdeal.main_arg0)) (m ((c.tc : Thread Cert.MemKvKernelIdeal.nD Cert.MemKvKernelIdeal.τ).loc Cert.MemKvKernelIdeal.main_arg1)) (m ((c.tc : Thread Cert.MemKvKernelIdeal.nD Cert.MemKvKernelIdeal.τ).loc Cert.MemKvKernelIdeal.main_arg2)) (m ((c.tc : Thread Cert.MemKvKernelIdeal.nD Cert.MemKvKernelIdeal.τ).loc Cert.MemKvKernelIdeal.main_arg3)) (m ((c.tc : Thread Cert.MemKvKernelIdeal.nD Cert.MemKvKernelIdeal.τ).loc Cert.MemKvKernelIdeal.main_arg4)) (m ((c.tc : Thread Cert.MemKvKernelIdeal.nD Cert.MemKvKernelIdeal.τ).loc Cert.MemKvKernelIdeal.main_arg5))) = (fun _ => 1#1)

def Pre_MemKvReferenceIdeal (m : (ℓ : Loc Cert.MemKvReferenceIdeal.nD Cert.MemKvReferenceIdeal.τ Cert.MemKvReferenceIdeal.sig) → Buf (Elt Ideal) ℓ) : Prop :=
  True

def Pre_MemKvReferenceIdeal_memkv_finite [hPre_memkv_finite : Cert.Pre_memkv_finite.Facts] (m : (ℓ : Loc Cert.MemKvReferenceIdeal.nD Cert.MemKvReferenceIdeal.τ Cert.MemKvReferenceIdeal.sig) → Buf (Elt Ideal) ℓ) : Prop :=
  ∀ c : Dev Cert.MemKvReferenceIdeal.nD,
    (Cert.Pre_memkv_finite.fn (F := Ideal) (m ((c.tc : Thread Cert.MemKvReferenceIdeal.nD Cert.MemKvReferenceIdeal.τ).loc Cert.MemKvReferenceIdeal.main_arg0)) (m ((c.tc : Thread Cert.MemKvReferenceIdeal.nD Cert.MemKvReferenceIdeal.τ).loc Cert.MemKvReferenceIdeal.main_arg1)) (m ((c.tc : Thread Cert.MemKvReferenceIdeal.nD Cert.MemKvReferenceIdeal.τ).loc Cert.MemKvReferenceIdeal.main_arg2)) (m ((c.tc : Thread Cert.MemKvReferenceIdeal.nD Cert.MemKvReferenceIdeal.τ).loc Cert.MemKvReferenceIdeal.main_arg3)) (m ((c.tc : Thread Cert.MemKvReferenceIdeal.nD Cert.MemKvReferenceIdeal.τ).loc Cert.MemKvReferenceIdeal.main_arg4)) (m ((c.tc : Thread Cert.MemKvReferenceIdeal.nD Cert.MemKvReferenceIdeal.τ).loc Cert.MemKvReferenceIdeal.main_arg5))) = (fun _ => 1#1)

def Pre_MixInKernel (m : (ℓ : Loc Cert.MixInKernel.nD Cert.MixInKernel.τ Cert.MixInKernel.sig) → Buf (Elt Bits) ℓ) : Prop :=
  True

def Pre_MixInKernelIdeal (m : (ℓ : Loc Cert.MixInKernelIdeal.nD Cert.MixInKernelIdeal.τ Cert.MixInKernelIdeal.sig) → Buf (Elt Ideal) ℓ) : Prop :=
  True

def Pre_MixInKernelIdeal_mixin_finite [hPre_mixin_finite : Cert.Pre_mixin_finite.Facts] (m : (ℓ : Loc Cert.MixInKernelIdeal.nD Cert.MixInKernelIdeal.τ Cert.MixInKernelIdeal.sig) → Buf (Elt Ideal) ℓ) : Prop :=
  ∀ c : Dev Cert.MixInKernelIdeal.nD,
    (Cert.Pre_mixin_finite.fn (F := Ideal) (m ((c.tc : Thread Cert.MixInKernelIdeal.nD Cert.MixInKernelIdeal.τ).loc Cert.MixInKernelIdeal.main_arg0)) (m ((c.tc : Thread Cert.MixInKernelIdeal.nD Cert.MixInKernelIdeal.τ).loc Cert.MixInKernelIdeal.main_arg1)) (m ((c.tc : Thread Cert.MixInKernelIdeal.nD Cert.MixInKernelIdeal.τ).loc Cert.MixInKernelIdeal.main_arg2)) (m ((c.tc : Thread Cert.MixInKernelIdeal.nD Cert.MixInKernelIdeal.τ).loc Cert.MixInKernelIdeal.main_arg3)) (m ((c.tc : Thread Cert.MixInKernelIdeal.nD Cert.MixInKernelIdeal.τ).loc Cert.MixInKernelIdeal.main_arg4)) (m ((c.tc : Thread Cert.MixInKernelIdeal.nD Cert.MixInKernelIdeal.τ).loc Cert.MixInKernelIdeal.main_arg5)) (m ((c.tc : Thread Cert.MixInKernelIdeal.nD Cert.MixInKernelIdeal.τ).loc Cert.MixInKernelIdeal.main_arg6)) (m ((c.tc : Thread Cert.MixInKernelIdeal.nD Cert.MixInKernelIdeal.τ).loc Cert.MixInKernelIdeal.main_arg7)) (m ((c.tc : Thread Cert.MixInKernelIdeal.nD Cert.MixInKernelIdeal.τ).loc Cert.MixInKernelIdeal.main_arg8))) = (fun _ => 1#1)

def Pre_MixInReferenceIdeal (m : (ℓ : Loc Cert.MixInReferenceIdeal.nD Cert.MixInReferenceIdeal.τ Cert.MixInReferenceIdeal.sig) → Buf (Elt Ideal) ℓ) : Prop :=
  True

def Pre_MixInReferenceIdeal_mixin_finite [hPre_mixin_finite : Cert.Pre_mixin_finite.Facts] (m : (ℓ : Loc Cert.MixInReferenceIdeal.nD Cert.MixInReferenceIdeal.τ Cert.MixInReferenceIdeal.sig) → Buf (Elt Ideal) ℓ) : Prop :=
  ∀ c : Dev Cert.MixInReferenceIdeal.nD,
    (Cert.Pre_mixin_finite.fn (F := Ideal) (m ((c.tc : Thread Cert.MixInReferenceIdeal.nD Cert.MixInReferenceIdeal.τ).loc Cert.MixInReferenceIdeal.main_arg0)) (m ((c.tc : Thread Cert.MixInReferenceIdeal.nD Cert.MixInReferenceIdeal.τ).loc Cert.MixInReferenceIdeal.main_arg1)) (m ((c.tc : Thread Cert.MixInReferenceIdeal.nD Cert.MixInReferenceIdeal.τ).loc Cert.MixInReferenceIdeal.main_arg2)) (m ((c.tc : Thread Cert.MixInReferenceIdeal.nD Cert.MixInReferenceIdeal.τ).loc Cert.MixInReferenceIdeal.main_arg3)) (m ((c.tc : Thread Cert.MixInReferenceIdeal.nD Cert.MixInReferenceIdeal.τ).loc Cert.MixInReferenceIdeal.main_arg4)) (m ((c.tc : Thread Cert.MixInReferenceIdeal.nD Cert.MixInReferenceIdeal.τ).loc Cert.MixInReferenceIdeal.main_arg5)) (m ((c.tc : Thread Cert.MixInReferenceIdeal.nD Cert.MixInReferenceIdeal.τ).loc Cert.MixInReferenceIdeal.main_arg6)) (m ((c.tc : Thread Cert.MixInReferenceIdeal.nD Cert.MixInReferenceIdeal.τ).loc Cert.MixInReferenceIdeal.main_arg7)) (m ((c.tc : Thread Cert.MixInReferenceIdeal.nD Cert.MixInReferenceIdeal.τ).loc Cert.MixInReferenceIdeal.main_arg8))) = (fun _ => 1#1)

def Pre_ConvKernel (m : (ℓ : Loc Cert.ConvKernel.nD Cert.ConvKernel.τ Cert.ConvKernel.sig) → Buf (Elt Bits) ℓ) : Prop :=
  True

def Pre_ConvKernelIdeal (m : (ℓ : Loc Cert.ConvKernelIdeal.nD Cert.ConvKernelIdeal.τ Cert.ConvKernelIdeal.sig) → Buf (Elt Ideal) ℓ) : Prop :=
  True

def Pre_MemFKernel (m : (ℓ : Loc Cert.MemFKernel.nD Cert.MemFKernel.τ Cert.MemFKernel.sig) → Buf (Elt Bits) ℓ) : Prop :=
  True

def Pre_MemFKernelIdeal (m : (ℓ : Loc Cert.MemFKernelIdeal.nD Cert.MemFKernelIdeal.τ Cert.MemFKernelIdeal.sig) → Buf (Elt Ideal) ℓ) : Prop :=
  True

def Pre_MemFKernelIdeal_memf_finite [hPre_memf_finite : Cert.Pre_memf_finite.Facts] (m : (ℓ : Loc Cert.MemFKernelIdeal.nD Cert.MemFKernelIdeal.τ Cert.MemFKernelIdeal.sig) → Buf (Elt Ideal) ℓ) : Prop :=
  ∀ c : Dev Cert.MemFKernelIdeal.nD,
    (Cert.Pre_memf_finite.fn (F := Ideal) (m ((c.tc : Thread Cert.MemFKernelIdeal.nD Cert.MemFKernelIdeal.τ).loc Cert.MemFKernelIdeal.main_arg0)) (m ((c.tc : Thread Cert.MemFKernelIdeal.nD Cert.MemFKernelIdeal.τ).loc Cert.MemFKernelIdeal.main_arg1)) (m ((c.tc : Thread Cert.MemFKernelIdeal.nD Cert.MemFKernelIdeal.τ).loc Cert.MemFKernelIdeal.main_arg2))) = (fun _ => 1#1)

def Pre_MemFReferenceIdeal (m : (ℓ : Loc Cert.MemFReferenceIdeal.nD Cert.MemFReferenceIdeal.τ Cert.MemFReferenceIdeal.sig) → Buf (Elt Ideal) ℓ) : Prop :=
  True

def Pre_MemFReferenceIdeal_memf_finite [hPre_memf_finite : Cert.Pre_memf_finite.Facts] (m : (ℓ : Loc Cert.MemFReferenceIdeal.nD Cert.MemFReferenceIdeal.τ Cert.MemFReferenceIdeal.sig) → Buf (Elt Ideal) ℓ) : Prop :=
  ∀ c : Dev Cert.MemFReferenceIdeal.nD,
    (Cert.Pre_memf_finite.fn (F := Ideal) (m ((c.tc : Thread Cert.MemFReferenceIdeal.nD Cert.MemFReferenceIdeal.τ).loc Cert.MemFReferenceIdeal.main_arg0)) (m ((c.tc : Thread Cert.MemFReferenceIdeal.nD Cert.MemFReferenceIdeal.τ).loc Cert.MemFReferenceIdeal.main_arg1)) (m ((c.tc : Thread Cert.MemFReferenceIdeal.nD Cert.MemFReferenceIdeal.τ).loc Cert.MemFReferenceIdeal.main_arg2))) = (fun _ => 1#1)

def Pre_ResNKernel (m : (ℓ : Loc Cert.ResNKernel.nD Cert.ResNKernel.τ Cert.ResNKernel.sig) → Buf (Elt Bits) ℓ) : Prop :=
  True

def Pre_ResNKernelIdeal (m : (ℓ : Loc Cert.ResNKernelIdeal.nD Cert.ResNKernelIdeal.τ Cert.ResNKernelIdeal.sig) → Buf (Elt Ideal) ℓ) : Prop :=
  True

def Pre_ResNReferenceIdeal (m : (ℓ : Loc Cert.ResNReferenceIdeal.nD Cert.ResNReferenceIdeal.τ Cert.ResNReferenceIdeal.sig) → Buf (Elt Ideal) ℓ) : Prop :=
  True

def Pre_RmsMKernel (m : (ℓ : Loc Cert.RmsMKernel.nD Cert.RmsMKernel.τ Cert.RmsMKernel.sig) → Buf (Elt Bits) ℓ) : Prop :=
  True

def Pre_RmsMKernelIdeal (m : (ℓ : Loc Cert.RmsMKernelIdeal.nD Cert.RmsMKernelIdeal.τ Cert.RmsMKernelIdeal.sig) → Buf (Elt Ideal) ℓ) : Prop :=
  True

def Pre_RmsMReferenceIdeal (m : (ℓ : Loc Cert.RmsMReferenceIdeal.nD Cert.RmsMReferenceIdeal.τ Cert.RmsMReferenceIdeal.sig) → Buf (Elt Ideal) ℓ) : Prop :=
  True

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1))
      ∧ r.2.sem = fun _ => 0)

def quiescent_FoxKernel [hFoxKernel : Cert.FoxKernel.Facts] : Prop :=
  ∀ (m : (ℓ : Loc Cert.FoxKernel.nD Cert.FoxKernel.τ Cert.FoxKernel.sig) → Buf (Elt Bits) ℓ) (g : Dev Cert.FoxKernel.nD → PrngReg), Pre_FoxKernel m →
    θ_run (Cert.FoxKernel.defs (F := Bits)) (onTc (τ := Cert.FoxKernel.τ) (Cert.FoxKernel.main (F := Bits))) ⟨m, fun _ => 0, g⟩ (fun r => (∀ c : Dev Cert.FoxKernel.nD,
      r.2.mem ((c.tc : Thread Cert.FoxKernel.nD Cert.FoxKernel.τ).loc Cert.FoxKernel.main_arg0) = m ((c.tc : Thread Cert.FoxKernel.nD Cert.FoxKernel.τ).loc Cert.FoxKernel.main_arg0)
      ∧ r.2.mem ((c.tc : Thread Cert.FoxKernel.nD Cert.FoxKernel.τ).loc Cert.FoxKernel.main_arg1) = m ((c.tc : Thread Cert.FoxKernel.nD Cert.FoxKernel.τ).loc Cert.FoxKernel.main_arg1)
      ∧ r.2.mem ((c.tc : Thread Cert.FoxKernel.nD Cert.FoxKernel.τ).loc Cert.FoxKernel.main_arg2) = m ((c.tc : Thread Cert.FoxKernel.nD Cert.FoxKernel.τ).loc Cert.FoxKernel.main_arg2)
      ∧ r.2.mem ((c.tc : Thread Cert.FoxKernel.nD Cert.FoxKernel.τ).loc Cert.FoxKernel.main_arg3) = m ((c.tc : Thread Cert.FoxKernel.nD Cert.FoxKernel.τ).loc Cert.FoxKernel.main_arg3)
      ∧ r.2.mem ((c.tc : Thread Cert.FoxKernel.nD Cert.FoxKernel.τ).loc Cert.FoxKernel.main_arg4) = m ((c.tc : Thread Cert.FoxKernel.nD Cert.FoxKernel.τ).loc Cert.FoxKernel.main_arg4)
      ∧ r.2.mem ((c.tc : Thread Cert.FoxKernel.nD Cert.FoxKernel.τ).loc Cert.FoxKernel.main_arg5) = m ((c.tc : Thread Cert.FoxKernel.nD Cert.FoxKernel.τ).loc Cert.FoxKernel.main_arg5))
      ∧ r.2.sem = fun _ => 0)

def quiescent_FoxKernelIdeal [hFoxKernelIdeal : Cert.FoxKernelIdeal.Facts] : Prop :=
  ∀ (m : (ℓ : Loc Cert.FoxKernelIdeal.nD Cert.FoxKernelIdeal.τ Cert.FoxKernelIdeal.sig) → Buf (Elt Ideal) ℓ) (g : Dev Cert.FoxKernelIdeal.nD → PrngReg), Pre_FoxKernelIdeal m →
    θ_run (Cert.FoxKernelIdeal.defs (F := Ideal)) (onTc (τ := Cert.FoxKernelIdeal.τ) (Cert.FoxKernelIdeal.main (F := Ideal))) ⟨m, fun _ => 0, g⟩ (fun r => (∀ c : Dev Cert.FoxKernelIdeal.nD,
      r.2.mem ((c.tc : Thread Cert.FoxKernelIdeal.nD Cert.FoxKernelIdeal.τ).loc Cert.FoxKernelIdeal.main_arg0) = m ((c.tc : Thread Cert.FoxKernelIdeal.nD Cert.FoxKernelIdeal.τ).loc Cert.FoxKernelIdeal.main_arg0)
      ∧ r.2.mem ((c.tc : Thread Cert.FoxKernelIdeal.nD Cert.FoxKernelIdeal.τ).loc Cert.FoxKernelIdeal.main_arg1) = m ((c.tc : Thread Cert.FoxKernelIdeal.nD Cert.FoxKernelIdeal.τ).loc Cert.FoxKernelIdeal.main_arg1)
      ∧ r.2.mem ((c.tc : Thread Cert.FoxKernelIdeal.nD Cert.FoxKernelIdeal.τ).loc Cert.FoxKernelIdeal.main_arg2) = m ((c.tc : Thread Cert.FoxKernelIdeal.nD Cert.FoxKernelIdeal.τ).loc Cert.FoxKernelIdeal.main_arg2)
      ∧ r.2.mem ((c.tc : Thread Cert.FoxKernelIdeal.nD Cert.FoxKernelIdeal.τ).loc Cert.FoxKernelIdeal.main_arg3) = m ((c.tc : Thread Cert.FoxKernelIdeal.nD Cert.FoxKernelIdeal.τ).loc Cert.FoxKernelIdeal.main_arg3)
      ∧ r.2.mem ((c.tc : Thread Cert.FoxKernelIdeal.nD Cert.FoxKernelIdeal.τ).loc Cert.FoxKernelIdeal.main_arg4) = m ((c.tc : Thread Cert.FoxKernelIdeal.nD Cert.FoxKernelIdeal.τ).loc Cert.FoxKernelIdeal.main_arg4)
      ∧ r.2.mem ((c.tc : Thread Cert.FoxKernelIdeal.nD Cert.FoxKernelIdeal.τ).loc Cert.FoxKernelIdeal.main_arg5) = m ((c.tc : Thread Cert.FoxKernelIdeal.nD Cert.FoxKernelIdeal.τ).loc Cert.FoxKernelIdeal.main_arg5))
      ∧ r.2.sem = fun _ => 0)

def quiescent_FoxKernelIdeal_pre_fox_finite [hFoxKernelIdeal : Cert.FoxKernelIdeal.Facts] [hPre_fox_finite : Cert.Pre_fox_finite.Facts] : Prop :=
  ∀ (m : (ℓ : Loc Cert.FoxKernelIdeal.nD Cert.FoxKernelIdeal.τ Cert.FoxKernelIdeal.sig) → Buf (Elt Ideal) ℓ) (g : Dev Cert.FoxKernelIdeal.nD → PrngReg), Pre_FoxKernelIdeal_fox_finite m →
    θ_run (Cert.FoxKernelIdeal.defs (F := Ideal)) (onTc (τ := Cert.FoxKernelIdeal.τ) (Cert.FoxKernelIdeal.main (F := Ideal))) ⟨m, fun _ => 0, g⟩ (fun r => (∀ c : Dev Cert.FoxKernelIdeal.nD,
      r.2.mem ((c.tc : Thread Cert.FoxKernelIdeal.nD Cert.FoxKernelIdeal.τ).loc Cert.FoxKernelIdeal.main_arg0) = m ((c.tc : Thread Cert.FoxKernelIdeal.nD Cert.FoxKernelIdeal.τ).loc Cert.FoxKernelIdeal.main_arg0)
      ∧ r.2.mem ((c.tc : Thread Cert.FoxKernelIdeal.nD Cert.FoxKernelIdeal.τ).loc Cert.FoxKernelIdeal.main_arg1) = m ((c.tc : Thread Cert.FoxKernelIdeal.nD Cert.FoxKernelIdeal.τ).loc Cert.FoxKernelIdeal.main_arg1)
      ∧ r.2.mem ((c.tc : Thread Cert.FoxKernelIdeal.nD Cert.FoxKernelIdeal.τ).loc Cert.FoxKernelIdeal.main_arg2) = m ((c.tc : Thread Cert.FoxKernelIdeal.nD Cert.FoxKernelIdeal.τ).loc Cert.FoxKernelIdeal.main_arg2)
      ∧ r.2.mem ((c.tc : Thread Cert.FoxKernelIdeal.nD Cert.FoxKernelIdeal.τ).loc Cert.FoxKernelIdeal.main_arg3) = m ((c.tc : Thread Cert.FoxKernelIdeal.nD Cert.FoxKernelIdeal.τ).loc Cert.FoxKernelIdeal.main_arg3)
      ∧ r.2.mem ((c.tc : Thread Cert.FoxKernelIdeal.nD Cert.FoxKernelIdeal.τ).loc Cert.FoxKernelIdeal.main_arg4) = m ((c.tc : Thread Cert.FoxKernelIdeal.nD Cert.FoxKernelIdeal.τ).loc Cert.FoxKernelIdeal.main_arg4)
      ∧ r.2.mem ((c.tc : Thread Cert.FoxKernelIdeal.nD Cert.FoxKernelIdeal.τ).loc Cert.FoxKernelIdeal.main_arg5) = m ((c.tc : Thread Cert.FoxKernelIdeal.nD Cert.FoxKernelIdeal.τ).loc Cert.FoxKernelIdeal.main_arg5))
      ∧ r.2.sem = fun _ => 0)

def quiescent_FoxReferenceIdeal [hFoxReferenceIdeal : Cert.FoxReferenceIdeal.Facts] : Prop :=
  ∀ (m : (ℓ : Loc Cert.FoxReferenceIdeal.nD Cert.FoxReferenceIdeal.τ Cert.FoxReferenceIdeal.sig) → Buf (Elt Ideal) ℓ) (g : Dev Cert.FoxReferenceIdeal.nD → PrngReg), Pre_FoxReferenceIdeal m →
    θ_run (Cert.FoxReferenceIdeal.defs (F := Ideal)) (onTc (τ := Cert.FoxReferenceIdeal.τ) (Cert.FoxReferenceIdeal.main (F := Ideal))) ⟨m, fun _ => 0, g⟩ (fun r => (∀ c : Dev Cert.FoxReferenceIdeal.nD,
      r.2.mem ((c.tc : Thread Cert.FoxReferenceIdeal.nD Cert.FoxReferenceIdeal.τ).loc Cert.FoxReferenceIdeal.main_arg0) = m ((c.tc : Thread Cert.FoxReferenceIdeal.nD Cert.FoxReferenceIdeal.τ).loc Cert.FoxReferenceIdeal.main_arg0)
      ∧ r.2.mem ((c.tc : Thread Cert.FoxReferenceIdeal.nD Cert.FoxReferenceIdeal.τ).loc Cert.FoxReferenceIdeal.main_arg1) = m ((c.tc : Thread Cert.FoxReferenceIdeal.nD Cert.FoxReferenceIdeal.τ).loc Cert.FoxReferenceIdeal.main_arg1)
      ∧ r.2.mem ((c.tc : Thread Cert.FoxReferenceIdeal.nD Cert.FoxReferenceIdeal.τ).loc Cert.FoxReferenceIdeal.main_arg2) = m ((c.tc : Thread Cert.FoxReferenceIdeal.nD Cert.FoxReferenceIdeal.τ).loc Cert.FoxReferenceIdeal.main_arg2)
      ∧ r.2.mem ((c.tc : Thread Cert.FoxReferenceIdeal.nD Cert.FoxReferenceIdeal.τ).loc Cert.FoxReferenceIdeal.main_arg3) = m ((c.tc : Thread Cert.FoxReferenceIdeal.nD Cert.FoxReferenceIdeal.τ).loc Cert.FoxReferenceIdeal.main_arg3)
      ∧ r.2.mem ((c.tc : Thread Cert.FoxReferenceIdeal.nD Cert.FoxReferenceIdeal.τ).loc Cert.FoxReferenceIdeal.main_arg4) = m ((c.tc : Thread Cert.FoxReferenceIdeal.nD Cert.FoxReferenceIdeal.τ).loc Cert.FoxReferenceIdeal.main_arg4)
      ∧ r.2.mem ((c.tc : Thread Cert.FoxReferenceIdeal.nD Cert.FoxReferenceIdeal.τ).loc Cert.FoxReferenceIdeal.main_arg5) = m ((c.tc : Thread Cert.FoxReferenceIdeal.nD Cert.FoxReferenceIdeal.τ).loc Cert.FoxReferenceIdeal.main_arg5))
      ∧ r.2.sem = fun _ => 0)

def quiescent_FoxReferenceIdeal_pre_fox_finite [hFoxReferenceIdeal : Cert.FoxReferenceIdeal.Facts] [hPre_fox_finite : Cert.Pre_fox_finite.Facts] : Prop :=
  ∀ (m : (ℓ : Loc Cert.FoxReferenceIdeal.nD Cert.FoxReferenceIdeal.τ Cert.FoxReferenceIdeal.sig) → Buf (Elt Ideal) ℓ) (g : Dev Cert.FoxReferenceIdeal.nD → PrngReg), Pre_FoxReferenceIdeal_fox_finite m →
    θ_run (Cert.FoxReferenceIdeal.defs (F := Ideal)) (onTc (τ := Cert.FoxReferenceIdeal.τ) (Cert.FoxReferenceIdeal.main (F := Ideal))) ⟨m, fun _ => 0, g⟩ (fun r => (∀ c : Dev Cert.FoxReferenceIdeal.nD,
      r.2.mem ((c.tc : Thread Cert.FoxReferenceIdeal.nD Cert.FoxReferenceIdeal.τ).loc Cert.FoxReferenceIdeal.main_arg0) = m ((c.tc : Thread Cert.FoxReferenceIdeal.nD Cert.FoxReferenceIdeal.τ).loc Cert.FoxReferenceIdeal.main_arg0)
      ∧ r.2.mem ((c.tc : Thread Cert.FoxReferenceIdeal.nD Cert.FoxReferenceIdeal.τ).loc Cert.FoxReferenceIdeal.main_arg1) = m ((c.tc : Thread Cert.FoxReferenceIdeal.nD Cert.FoxReferenceIdeal.τ).loc Cert.FoxReferenceIdeal.main_arg1)
      ∧ r.2.mem ((c.tc : Thread Cert.FoxReferenceIdeal.nD Cert.FoxReferenceIdeal.τ).loc Cert.FoxReferenceIdeal.main_arg2) = m ((c.tc : Thread Cert.FoxReferenceIdeal.nD Cert.FoxReferenceIdeal.τ).loc Cert.FoxReferenceIdeal.main_arg2)
      ∧ r.2.mem ((c.tc : Thread Cert.FoxReferenceIdeal.nD Cert.FoxReferenceIdeal.τ).loc Cert.FoxReferenceIdeal.main_arg3) = m ((c.tc : Thread Cert.FoxReferenceIdeal.nD Cert.FoxReferenceIdeal.τ).loc Cert.FoxReferenceIdeal.main_arg3)
      ∧ r.2.mem ((c.tc : Thread Cert.FoxReferenceIdeal.nD Cert.FoxReferenceIdeal.τ).loc Cert.FoxReferenceIdeal.main_arg4) = m ((c.tc : Thread Cert.FoxReferenceIdeal.nD Cert.FoxReferenceIdeal.τ).loc Cert.FoxReferenceIdeal.main_arg4)
      ∧ r.2.mem ((c.tc : Thread Cert.FoxReferenceIdeal.nD Cert.FoxReferenceIdeal.τ).loc Cert.FoxReferenceIdeal.main_arg5) = m ((c.tc : Thread Cert.FoxReferenceIdeal.nD Cert.FoxReferenceIdeal.τ).loc Cert.FoxReferenceIdeal.main_arg5))
      ∧ r.2.sem = fun _ => 0)

def quiescent_CumKernel [hCumKernel : Cert.CumKernel.Facts] : Prop :=
  ∀ (m : (ℓ : Loc Cert.CumKernel.nD Cert.CumKernel.τ Cert.CumKernel.sig) → Buf (Elt Bits) ℓ) (g : Dev Cert.CumKernel.nD → PrngReg), Pre_CumKernel m →
    θ_run (Cert.CumKernel.defs (F := Bits)) (onTc (τ := Cert.CumKernel.τ) (Cert.CumKernel.main (F := Bits))) ⟨m, fun _ => 0, g⟩ (fun r => (∀ c : Dev Cert.CumKernel.nD,
      r.2.mem ((c.tc : Thread Cert.CumKernel.nD Cert.CumKernel.τ).loc Cert.CumKernel.main_arg0) = m ((c.tc : Thread Cert.CumKernel.nD Cert.CumKernel.τ).loc Cert.CumKernel.main_arg0)
      ∧ r.2.mem ((c.tc : Thread Cert.CumKernel.nD Cert.CumKernel.τ).loc Cert.CumKernel.main_arg1) = m ((c.tc : Thread Cert.CumKernel.nD Cert.CumKernel.τ).loc Cert.CumKernel.main_arg1)
      ∧ r.2.mem ((c.tc : Thread Cert.CumKernel.nD Cert.CumKernel.τ).loc Cert.CumKernel.main_arg2) = m ((c.tc : Thread Cert.CumKernel.nD Cert.CumKernel.τ).loc Cert.CumKernel.main_arg2)
      ∧ r.2.mem ((c.tc : Thread Cert.CumKernel.nD Cert.CumKernel.τ).loc Cert.CumKernel.main_arg3) = m ((c.tc : Thread Cert.CumKernel.nD Cert.CumKernel.τ).loc Cert.CumKernel.main_arg3))
      ∧ r.2.sem = fun _ => 0)

def quiescent_CumKernelIdeal [hCumKernelIdeal : Cert.CumKernelIdeal.Facts] : Prop :=
  ∀ (m : (ℓ : Loc Cert.CumKernelIdeal.nD Cert.CumKernelIdeal.τ Cert.CumKernelIdeal.sig) → Buf (Elt Ideal) ℓ) (g : Dev Cert.CumKernelIdeal.nD → PrngReg), Pre_CumKernelIdeal m →
    θ_run (Cert.CumKernelIdeal.defs (F := Ideal)) (onTc (τ := Cert.CumKernelIdeal.τ) (Cert.CumKernelIdeal.main (F := Ideal))) ⟨m, fun _ => 0, g⟩ (fun r => (∀ c : Dev Cert.CumKernelIdeal.nD,
      r.2.mem ((c.tc : Thread Cert.CumKernelIdeal.nD Cert.CumKernelIdeal.τ).loc Cert.CumKernelIdeal.main_arg0) = m ((c.tc : Thread Cert.CumKernelIdeal.nD Cert.CumKernelIdeal.τ).loc Cert.CumKernelIdeal.main_arg0)
      ∧ r.2.mem ((c.tc : Thread Cert.CumKernelIdeal.nD Cert.CumKernelIdeal.τ).loc Cert.CumKernelIdeal.main_arg1) = m ((c.tc : Thread Cert.CumKernelIdeal.nD Cert.CumKernelIdeal.τ).loc Cert.CumKernelIdeal.main_arg1)
      ∧ r.2.mem ((c.tc : Thread Cert.CumKernelIdeal.nD Cert.CumKernelIdeal.τ).loc Cert.CumKernelIdeal.main_arg2) = m ((c.tc : Thread Cert.CumKernelIdeal.nD Cert.CumKernelIdeal.τ).loc Cert.CumKernelIdeal.main_arg2)
      ∧ r.2.mem ((c.tc : Thread Cert.CumKernelIdeal.nD Cert.CumKernelIdeal.τ).loc Cert.CumKernelIdeal.main_arg3) = m ((c.tc : Thread Cert.CumKernelIdeal.nD Cert.CumKernelIdeal.τ).loc Cert.CumKernelIdeal.main_arg3))
      ∧ r.2.sem = fun _ => 0)

def quiescent_CumKernelIdeal_pre_cum_finite [hCumKernelIdeal : Cert.CumKernelIdeal.Facts] [hPre_cum_finite : Cert.Pre_cum_finite.Facts] : Prop :=
  ∀ (m : (ℓ : Loc Cert.CumKernelIdeal.nD Cert.CumKernelIdeal.τ Cert.CumKernelIdeal.sig) → Buf (Elt Ideal) ℓ) (g : Dev Cert.CumKernelIdeal.nD → PrngReg), Pre_CumKernelIdeal_cum_finite m →
    θ_run (Cert.CumKernelIdeal.defs (F := Ideal)) (onTc (τ := Cert.CumKernelIdeal.τ) (Cert.CumKernelIdeal.main (F := Ideal))) ⟨m, fun _ => 0, g⟩ (fun r => (∀ c : Dev Cert.CumKernelIdeal.nD,
      r.2.mem ((c.tc : Thread Cert.CumKernelIdeal.nD Cert.CumKernelIdeal.τ).loc Cert.CumKernelIdeal.main_arg0) = m ((c.tc : Thread Cert.CumKernelIdeal.nD Cert.CumKernelIdeal.τ).loc Cert.CumKernelIdeal.main_arg0)
      ∧ r.2.mem ((c.tc : Thread Cert.CumKernelIdeal.nD Cert.CumKernelIdeal.τ).loc Cert.CumKernelIdeal.main_arg1) = m ((c.tc : Thread Cert.CumKernelIdeal.nD Cert.CumKernelIdeal.τ).loc Cert.CumKernelIdeal.main_arg1)
      ∧ r.2.mem ((c.tc : Thread Cert.CumKernelIdeal.nD Cert.CumKernelIdeal.τ).loc Cert.CumKernelIdeal.main_arg2) = m ((c.tc : Thread Cert.CumKernelIdeal.nD Cert.CumKernelIdeal.τ).loc Cert.CumKernelIdeal.main_arg2)
      ∧ r.2.mem ((c.tc : Thread Cert.CumKernelIdeal.nD Cert.CumKernelIdeal.τ).loc Cert.CumKernelIdeal.main_arg3) = m ((c.tc : Thread Cert.CumKernelIdeal.nD Cert.CumKernelIdeal.τ).loc Cert.CumKernelIdeal.main_arg3))
      ∧ r.2.sem = fun _ => 0)

def quiescent_CumReferenceIdeal [hCumReferenceIdeal : Cert.CumReferenceIdeal.Facts] : Prop :=
  ∀ (m : (ℓ : Loc Cert.CumReferenceIdeal.nD Cert.CumReferenceIdeal.τ Cert.CumReferenceIdeal.sig) → Buf (Elt Ideal) ℓ) (g : Dev Cert.CumReferenceIdeal.nD → PrngReg), Pre_CumReferenceIdeal m →
    θ_run (Cert.CumReferenceIdeal.defs (F := Ideal)) (onTc (τ := Cert.CumReferenceIdeal.τ) (Cert.CumReferenceIdeal.main (F := Ideal))) ⟨m, fun _ => 0, g⟩ (fun r => (∀ c : Dev Cert.CumReferenceIdeal.nD,
      r.2.mem ((c.tc : Thread Cert.CumReferenceIdeal.nD Cert.CumReferenceIdeal.τ).loc Cert.CumReferenceIdeal.main_arg0) = m ((c.tc : Thread Cert.CumReferenceIdeal.nD Cert.CumReferenceIdeal.τ).loc Cert.CumReferenceIdeal.main_arg0)
      ∧ r.2.mem ((c.tc : Thread Cert.CumReferenceIdeal.nD Cert.CumReferenceIdeal.τ).loc Cert.CumReferenceIdeal.main_arg1) = m ((c.tc : Thread Cert.CumReferenceIdeal.nD Cert.CumReferenceIdeal.τ).loc Cert.CumReferenceIdeal.main_arg1)
      ∧ r.2.mem ((c.tc : Thread Cert.CumReferenceIdeal.nD Cert.CumReferenceIdeal.τ).loc Cert.CumReferenceIdeal.main_arg2) = m ((c.tc : Thread Cert.CumReferenceIdeal.nD Cert.CumReferenceIdeal.τ).loc Cert.CumReferenceIdeal.main_arg2)
      ∧ r.2.mem ((c.tc : Thread Cert.CumReferenceIdeal.nD Cert.CumReferenceIdeal.τ).loc Cert.CumReferenceIdeal.main_arg3) = m ((c.tc : Thread Cert.CumReferenceIdeal.nD Cert.CumReferenceIdeal.τ).loc Cert.CumReferenceIdeal.main_arg3))
      ∧ r.2.sem = fun _ => 0)

def quiescent_CumReferenceIdeal_pre_cum_finite [hCumReferenceIdeal : Cert.CumReferenceIdeal.Facts] [hPre_cum_finite : Cert.Pre_cum_finite.Facts] : Prop :=
  ∀ (m : (ℓ : Loc Cert.CumReferenceIdeal.nD Cert.CumReferenceIdeal.τ Cert.CumReferenceIdeal.sig) → Buf (Elt Ideal) ℓ) (g : Dev Cert.CumReferenceIdeal.nD → PrngReg), Pre_CumReferenceIdeal_cum_finite m →
    θ_run (Cert.CumReferenceIdeal.defs (F := Ideal)) (onTc (τ := Cert.CumReferenceIdeal.τ) (Cert.CumReferenceIdeal.main (F := Ideal))) ⟨m, fun _ => 0, g⟩ (fun r => (∀ c : Dev Cert.CumReferenceIdeal.nD,
      r.2.mem ((c.tc : Thread Cert.CumReferenceIdeal.nD Cert.CumReferenceIdeal.τ).loc Cert.CumReferenceIdeal.main_arg0) = m ((c.tc : Thread Cert.CumReferenceIdeal.nD Cert.CumReferenceIdeal.τ).loc Cert.CumReferenceIdeal.main_arg0)
      ∧ r.2.mem ((c.tc : Thread Cert.CumReferenceIdeal.nD Cert.CumReferenceIdeal.τ).loc Cert.CumReferenceIdeal.main_arg1) = m ((c.tc : Thread Cert.CumReferenceIdeal.nD Cert.CumReferenceIdeal.τ).loc Cert.CumReferenceIdeal.main_arg1)
      ∧ r.2.mem ((c.tc : Thread Cert.CumReferenceIdeal.nD Cert.CumReferenceIdeal.τ).loc Cert.CumReferenceIdeal.main_arg2) = m ((c.tc : Thread Cert.CumReferenceIdeal.nD Cert.CumReferenceIdeal.τ).loc Cert.CumReferenceIdeal.main_arg2)
      ∧ r.2.mem ((c.tc : Thread Cert.CumReferenceIdeal.nD Cert.CumReferenceIdeal.τ).loc Cert.CumReferenceIdeal.main_arg3) = m ((c.tc : Thread Cert.CumReferenceIdeal.nD Cert.CumReferenceIdeal.τ).loc Cert.CumReferenceIdeal.main_arg3))
      ∧ r.2.sem = fun _ => 0)

def quiescent_MemKernel [hMemKernel : Cert.MemKernel.Facts] : Prop :=
  ∀ (m : (ℓ : Loc Cert.MemKernel.nD Cert.MemKernel.τ Cert.MemKernel.sig) → Buf (Elt Bits) ℓ) (g : Dev Cert.MemKernel.nD → PrngReg), Pre_MemKernel m →
    θ_run (Cert.MemKernel.defs (F := Bits)) (onTc (τ := Cert.MemKernel.τ) (Cert.MemKernel.main (F := Bits))) ⟨m, fun _ => 0, g⟩ (fun r => (∀ c : Dev Cert.MemKernel.nD,
      r.2.mem ((c.tc : Thread Cert.MemKernel.nD Cert.MemKernel.τ).loc Cert.MemKernel.main_arg0) = m ((c.tc : Thread Cert.MemKernel.nD Cert.MemKernel.τ).loc Cert.MemKernel.main_arg0)
      ∧ r.2.mem ((c.tc : Thread Cert.MemKernel.nD Cert.MemKernel.τ).loc Cert.MemKernel.main_arg1) = m ((c.tc : Thread Cert.MemKernel.nD Cert.MemKernel.τ).loc Cert.MemKernel.main_arg1)
      ∧ r.2.mem ((c.tc : Thread Cert.MemKernel.nD Cert.MemKernel.τ).loc Cert.MemKernel.main_arg2) = m ((c.tc : Thread Cert.MemKernel.nD Cert.MemKernel.τ).loc Cert.MemKernel.main_arg2)
      ∧ r.2.mem ((c.tc : Thread Cert.MemKernel.nD Cert.MemKernel.τ).loc Cert.MemKernel.main_arg3) = m ((c.tc : Thread Cert.MemKernel.nD Cert.MemKernel.τ).loc Cert.MemKernel.main_arg3))
      ∧ r.2.sem = fun _ => 0)

def quiescent_MemKernelIdeal [hMemKernelIdeal : Cert.MemKernelIdeal.Facts] : Prop :=
  ∀ (m : (ℓ : Loc Cert.MemKernelIdeal.nD Cert.MemKernelIdeal.τ Cert.MemKernelIdeal.sig) → Buf (Elt Ideal) ℓ) (g : Dev Cert.MemKernelIdeal.nD → PrngReg), Pre_MemKernelIdeal m →
    θ_run (Cert.MemKernelIdeal.defs (F := Ideal)) (onTc (τ := Cert.MemKernelIdeal.τ) (Cert.MemKernelIdeal.main (F := Ideal))) ⟨m, fun _ => 0, g⟩ (fun r => (∀ c : Dev Cert.MemKernelIdeal.nD,
      r.2.mem ((c.tc : Thread Cert.MemKernelIdeal.nD Cert.MemKernelIdeal.τ).loc Cert.MemKernelIdeal.main_arg0) = m ((c.tc : Thread Cert.MemKernelIdeal.nD Cert.MemKernelIdeal.τ).loc Cert.MemKernelIdeal.main_arg0)
      ∧ r.2.mem ((c.tc : Thread Cert.MemKernelIdeal.nD Cert.MemKernelIdeal.τ).loc Cert.MemKernelIdeal.main_arg1) = m ((c.tc : Thread Cert.MemKernelIdeal.nD Cert.MemKernelIdeal.τ).loc Cert.MemKernelIdeal.main_arg1)
      ∧ r.2.mem ((c.tc : Thread Cert.MemKernelIdeal.nD Cert.MemKernelIdeal.τ).loc Cert.MemKernelIdeal.main_arg2) = m ((c.tc : Thread Cert.MemKernelIdeal.nD Cert.MemKernelIdeal.τ).loc Cert.MemKernelIdeal.main_arg2)
      ∧ r.2.mem ((c.tc : Thread Cert.MemKernelIdeal.nD Cert.MemKernelIdeal.τ).loc Cert.MemKernelIdeal.main_arg3) = m ((c.tc : Thread Cert.MemKernelIdeal.nD Cert.MemKernelIdeal.τ).loc Cert.MemKernelIdeal.main_arg3))
      ∧ r.2.sem = fun _ => 0)

def quiescent_MemKernelIdeal_pre_mem_finite [hMemKernelIdeal : Cert.MemKernelIdeal.Facts] [hPre_mem_finite : Cert.Pre_mem_finite.Facts] : Prop :=
  ∀ (m : (ℓ : Loc Cert.MemKernelIdeal.nD Cert.MemKernelIdeal.τ Cert.MemKernelIdeal.sig) → Buf (Elt Ideal) ℓ) (g : Dev Cert.MemKernelIdeal.nD → PrngReg), Pre_MemKernelIdeal_mem_finite m →
    θ_run (Cert.MemKernelIdeal.defs (F := Ideal)) (onTc (τ := Cert.MemKernelIdeal.τ) (Cert.MemKernelIdeal.main (F := Ideal))) ⟨m, fun _ => 0, g⟩ (fun r => (∀ c : Dev Cert.MemKernelIdeal.nD,
      r.2.mem ((c.tc : Thread Cert.MemKernelIdeal.nD Cert.MemKernelIdeal.τ).loc Cert.MemKernelIdeal.main_arg0) = m ((c.tc : Thread Cert.MemKernelIdeal.nD Cert.MemKernelIdeal.τ).loc Cert.MemKernelIdeal.main_arg0)
      ∧ r.2.mem ((c.tc : Thread Cert.MemKernelIdeal.nD Cert.MemKernelIdeal.τ).loc Cert.MemKernelIdeal.main_arg1) = m ((c.tc : Thread Cert.MemKernelIdeal.nD Cert.MemKernelIdeal.τ).loc Cert.MemKernelIdeal.main_arg1)
      ∧ r.2.mem ((c.tc : Thread Cert.MemKernelIdeal.nD Cert.MemKernelIdeal.τ).loc Cert.MemKernelIdeal.main_arg2) = m ((c.tc : Thread Cert.MemKernelIdeal.nD Cert.MemKernelIdeal.τ).loc Cert.MemKernelIdeal.main_arg2)
      ∧ r.2.mem ((c.tc : Thread Cert.MemKernelIdeal.nD Cert.MemKernelIdeal.τ).loc Cert.MemKernelIdeal.main_arg3) = m ((c.tc : Thread Cert.MemKernelIdeal.nD Cert.MemKernelIdeal.τ).loc Cert.MemKernelIdeal.main_arg3))
      ∧ r.2.sem = fun _ => 0)

def quiescent_MemReferenceIdeal [hMemReferenceIdeal : Cert.MemReferenceIdeal.Facts] : Prop :=
  ∀ (m : (ℓ : Loc Cert.MemReferenceIdeal.nD Cert.MemReferenceIdeal.τ Cert.MemReferenceIdeal.sig) → Buf (Elt Ideal) ℓ) (g : Dev Cert.MemReferenceIdeal.nD → PrngReg), Pre_MemReferenceIdeal m →
    θ_run (Cert.MemReferenceIdeal.defs (F := Ideal)) (onTc (τ := Cert.MemReferenceIdeal.τ) (Cert.MemReferenceIdeal.main (F := Ideal))) ⟨m, fun _ => 0, g⟩ (fun r => (∀ c : Dev Cert.MemReferenceIdeal.nD,
      r.2.mem ((c.tc : Thread Cert.MemReferenceIdeal.nD Cert.MemReferenceIdeal.τ).loc Cert.MemReferenceIdeal.main_arg0) = m ((c.tc : Thread Cert.MemReferenceIdeal.nD Cert.MemReferenceIdeal.τ).loc Cert.MemReferenceIdeal.main_arg0)
      ∧ r.2.mem ((c.tc : Thread Cert.MemReferenceIdeal.nD Cert.MemReferenceIdeal.τ).loc Cert.MemReferenceIdeal.main_arg1) = m ((c.tc : Thread Cert.MemReferenceIdeal.nD Cert.MemReferenceIdeal.τ).loc Cert.MemReferenceIdeal.main_arg1)
      ∧ r.2.mem ((c.tc : Thread Cert.MemReferenceIdeal.nD Cert.MemReferenceIdeal.τ).loc Cert.MemReferenceIdeal.main_arg2) = m ((c.tc : Thread Cert.MemReferenceIdeal.nD Cert.MemReferenceIdeal.τ).loc Cert.MemReferenceIdeal.main_arg2)
      ∧ r.2.mem ((c.tc : Thread Cert.MemReferenceIdeal.nD Cert.MemReferenceIdeal.τ).loc Cert.MemReferenceIdeal.main_arg3) = m ((c.tc : Thread Cert.MemReferenceIdeal.nD Cert.MemReferenceIdeal.τ).loc Cert.MemReferenceIdeal.main_arg3))
      ∧ r.2.sem = fun _ => 0)

def quiescent_MemReferenceIdeal_pre_mem_finite [hMemReferenceIdeal : Cert.MemReferenceIdeal.Facts] [hPre_mem_finite : Cert.Pre_mem_finite.Facts] : Prop :=
  ∀ (m : (ℓ : Loc Cert.MemReferenceIdeal.nD Cert.MemReferenceIdeal.τ Cert.MemReferenceIdeal.sig) → Buf (Elt Ideal) ℓ) (g : Dev Cert.MemReferenceIdeal.nD → PrngReg), Pre_MemReferenceIdeal_mem_finite m →
    θ_run (Cert.MemReferenceIdeal.defs (F := Ideal)) (onTc (τ := Cert.MemReferenceIdeal.τ) (Cert.MemReferenceIdeal.main (F := Ideal))) ⟨m, fun _ => 0, g⟩ (fun r => (∀ c : Dev Cert.MemReferenceIdeal.nD,
      r.2.mem ((c.tc : Thread Cert.MemReferenceIdeal.nD Cert.MemReferenceIdeal.τ).loc Cert.MemReferenceIdeal.main_arg0) = m ((c.tc : Thread Cert.MemReferenceIdeal.nD Cert.MemReferenceIdeal.τ).loc Cert.MemReferenceIdeal.main_arg0)
      ∧ r.2.mem ((c.tc : Thread Cert.MemReferenceIdeal.nD Cert.MemReferenceIdeal.τ).loc Cert.MemReferenceIdeal.main_arg1) = m ((c.tc : Thread Cert.MemReferenceIdeal.nD Cert.MemReferenceIdeal.τ).loc Cert.MemReferenceIdeal.main_arg1)
      ∧ r.2.mem ((c.tc : Thread Cert.MemReferenceIdeal.nD Cert.MemReferenceIdeal.τ).loc Cert.MemReferenceIdeal.main_arg2) = m ((c.tc : Thread Cert.MemReferenceIdeal.nD Cert.MemReferenceIdeal.τ).loc Cert.MemReferenceIdeal.main_arg2)
      ∧ r.2.mem ((c.tc : Thread Cert.MemReferenceIdeal.nD Cert.MemReferenceIdeal.τ).loc Cert.MemReferenceIdeal.main_arg3) = m ((c.tc : Thread Cert.MemReferenceIdeal.nD Cert.MemReferenceIdeal.τ).loc Cert.MemReferenceIdeal.main_arg3))
      ∧ r.2.sem = fun _ => 0)

def quiescent_DownKernel [hDownKernel : Cert.DownKernel.Facts] : Prop :=
  ∀ (m : (ℓ : Loc Cert.DownKernel.nD Cert.DownKernel.τ Cert.DownKernel.sig) → Buf (Elt Bits) ℓ) (g : Dev Cert.DownKernel.nD → PrngReg), Pre_DownKernel m →
    θ_run (Cert.DownKernel.defs (F := Bits)) (onTc (τ := Cert.DownKernel.τ) (Cert.DownKernel.main (F := Bits))) ⟨m, fun _ => 0, g⟩ (fun r => (∀ c : Dev Cert.DownKernel.nD,
      r.2.mem ((c.tc : Thread Cert.DownKernel.nD Cert.DownKernel.τ).loc Cert.DownKernel.main_arg0) = m ((c.tc : Thread Cert.DownKernel.nD Cert.DownKernel.τ).loc Cert.DownKernel.main_arg0)
      ∧ r.2.mem ((c.tc : Thread Cert.DownKernel.nD Cert.DownKernel.τ).loc Cert.DownKernel.main_arg1) = m ((c.tc : Thread Cert.DownKernel.nD Cert.DownKernel.τ).loc Cert.DownKernel.main_arg1)
      ∧ r.2.mem ((c.tc : Thread Cert.DownKernel.nD Cert.DownKernel.τ).loc Cert.DownKernel.main_arg2) = m ((c.tc : Thread Cert.DownKernel.nD Cert.DownKernel.τ).loc Cert.DownKernel.main_arg2)
      ∧ r.2.mem ((c.tc : Thread Cert.DownKernel.nD Cert.DownKernel.τ).loc Cert.DownKernel.main_arg3) = m ((c.tc : Thread Cert.DownKernel.nD Cert.DownKernel.τ).loc Cert.DownKernel.main_arg3))
      ∧ r.2.sem = fun _ => 0)

def quiescent_DownKernelIdeal [hDownKernelIdeal : Cert.DownKernelIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg), Pre_DownKernelIdeal m →
    θ_run (Cert.DownKernelIdeal.defs (F := Ideal)) (onTc (τ := Cert.DownKernelIdeal.τ) (Cert.DownKernelIdeal.main (F := Ideal))) ⟨m, fun _ => 0, g⟩ (fun r => (∀ c : Dev Cert.DownKernelIdeal.nD,
      r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
      ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
      ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2)
      ∧ r.2.mem ((c.tc : Thread Cert.DownKernelIdeal.nD Cert.DownKernelIdeal.τ).loc Cert.DownKernelIdeal.main_arg3) = m ((c.tc : Thread Cert.DownKernelIdeal.nD Cert.DownKernelIdeal.τ).loc Cert.DownKernelIdeal.main_arg3))
      ∧ r.2.sem = fun _ => 0)

def quiescent_DownKernelIdeal_pre_down_finite [hDownKernelIdeal : Cert.DownKernelIdeal.Facts] [hPre_down_finite : Cert.Pre_down_finite.Facts] : Prop :=
  ∀ (m : (ℓ : Loc Cert.DownKernelIdeal.nD Cert.DownKernelIdeal.τ Cert.DownKernelIdeal.sig) → Buf (Elt Ideal) ℓ) (g : Dev Cert.DownKernelIdeal.nD → PrngReg), Pre_DownKernelIdeal_down_finite m →
    θ_run (Cert.DownKernelIdeal.defs (F := Ideal)) (onTc (τ := Cert.DownKernelIdeal.τ) (Cert.DownKernelIdeal.main (F := Ideal))) ⟨m, fun _ => 0, g⟩ (fun r => (∀ c : Dev Cert.DownKernelIdeal.nD,
      r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
      ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
      ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2)
      ∧ r.2.mem ((c.tc : Thread Cert.DownKernelIdeal.nD Cert.DownKernelIdeal.τ).loc Cert.DownKernelIdeal.main_arg3) = m ((c.tc : Thread Cert.DownKernelIdeal.nD Cert.DownKernelIdeal.τ).loc Cert.DownKernelIdeal.main_arg3))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3))
      ∧ r.2.sem = fun _ => 0)

def quiescent_DownReferenceIdeal_pre_down_finite [hDownReferenceIdeal : Cert.DownReferenceIdeal.Facts] [hPre_down_finite : Cert.Pre_down_finite.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal_down_finite m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3))
      ∧ r.2.sem = fun _ => 0)

def quiescent_OutKernelIdeal_pre_out_finite [hOutKernelIdeal : Cert.OutKernelIdeal.Facts] [hPre_out_finite : Cert.Pre_out_finite.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal_out_finite m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3))
      ∧ r.2.sem = fun _ => 0)

def quiescent_OutReferenceIdeal_pre_out_finite [hOutReferenceIdeal : Cert.OutReferenceIdeal.Facts] [hPre_out_finite : Cert.Pre_out_finite.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal_out_finite m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3))
      ∧ r.2.sem = fun _ => 0)

def quiescent_UpKernel [hUpKernel : Cert.UpKernel.Facts] : Prop :=
  ∀ (m : (ℓ : Loc Cert.UpKernel.nD Cert.UpKernel.τ Cert.UpKernel.sig) → Buf (Elt Bits) ℓ) (g : Dev Cert.UpKernel.nD → PrngReg), Pre_UpKernel m →
    θ_run (Cert.UpKernel.defs (F := Bits)) (onTc (τ := Cert.UpKernel.τ) (Cert.UpKernel.main (F := Bits))) ⟨m, fun _ => 0, g⟩ (fun r => (∀ c : Dev Cert.UpKernel.nD,
      r.2.mem ((c.tc : Thread Cert.UpKernel.nD Cert.UpKernel.τ).loc Cert.UpKernel.main_arg0) = m ((c.tc : Thread Cert.UpKernel.nD Cert.UpKernel.τ).loc Cert.UpKernel.main_arg0)
      ∧ r.2.mem ((c.tc : Thread Cert.UpKernel.nD Cert.UpKernel.τ).loc Cert.UpKernel.main_arg1) = m ((c.tc : Thread Cert.UpKernel.nD Cert.UpKernel.τ).loc Cert.UpKernel.main_arg1)
      ∧ r.2.mem ((c.tc : Thread Cert.UpKernel.nD Cert.UpKernel.τ).loc Cert.UpKernel.main_arg2) = m ((c.tc : Thread Cert.UpKernel.nD Cert.UpKernel.τ).loc Cert.UpKernel.main_arg2)
      ∧ r.2.mem ((c.tc : Thread Cert.UpKernel.nD Cert.UpKernel.τ).loc Cert.UpKernel.main_arg3) = m ((c.tc : Thread Cert.UpKernel.nD Cert.UpKernel.τ).loc Cert.UpKernel.main_arg3)
      ∧ r.2.mem ((c.tc : Thread Cert.UpKernel.nD Cert.UpKernel.τ).loc Cert.UpKernel.main_arg4) = m ((c.tc : Thread Cert.UpKernel.nD Cert.UpKernel.τ).loc Cert.UpKernel.main_arg4))
      ∧ r.2.sem = fun _ => 0)

def quiescent_UpKernelIdeal [hUpKernelIdeal : Cert.UpKernelIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg), Pre_UpKernelIdeal m →
    θ_run (Cert.UpKernelIdeal.defs (F := Ideal)) (onTc (τ := Cert.UpKernelIdeal.τ) (Cert.UpKernelIdeal.main (F := Ideal))) ⟨m, fun _ => 0, g⟩ (fun r => (∀ c : Dev Cert.UpKernelIdeal.nD,
      r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
      ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
      ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2)
      ∧ r.2.mem ((c.tc : Thread Cert.UpKernelIdeal.nD Cert.UpKernelIdeal.τ).loc Cert.UpKernelIdeal.main_arg3) = m ((c.tc : Thread Cert.UpKernelIdeal.nD Cert.UpKernelIdeal.τ).loc Cert.UpKernelIdeal.main_arg3)
      ∧ r.2.mem ((c.tc : Thread Cert.UpKernelIdeal.nD Cert.UpKernelIdeal.τ).loc Cert.UpKernelIdeal.main_arg4) = m ((c.tc : Thread Cert.UpKernelIdeal.nD Cert.UpKernelIdeal.τ).loc Cert.UpKernelIdeal.main_arg4))
      ∧ r.2.sem = fun _ => 0)

def quiescent_UpKernelIdeal_pre_up_finite [hUpKernelIdeal : Cert.UpKernelIdeal.Facts] [hPre_up_finite : Cert.Pre_up_finite.Facts] : Prop :=
  ∀ (m : (ℓ : Loc Cert.UpKernelIdeal.nD Cert.UpKernelIdeal.τ Cert.UpKernelIdeal.sig) → Buf (Elt Ideal) ℓ) (g : Dev Cert.UpKernelIdeal.nD → PrngReg), Pre_UpKernelIdeal_up_finite m →
    θ_run (Cert.UpKernelIdeal.defs (F := Ideal)) (onTc (τ := Cert.UpKernelIdeal.τ) (Cert.UpKernelIdeal.main (F := Ideal))) ⟨m, fun _ => 0, g⟩ (fun r => (∀ c : Dev Cert.UpKernelIdeal.nD,
      r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
      ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
      ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2)
      ∧ r.2.mem ((c.tc : Thread Cert.UpKernelIdeal.nD Cert.UpKernelIdeal.τ).loc Cert.UpKernelIdeal.main_arg3) = m ((c.tc : Thread Cert.UpKernelIdeal.nD Cert.UpKernelIdeal.τ).loc Cert.UpKernelIdeal.main_arg3)
      ∧ r.2.mem ((c.tc : Thread Cert.UpKernelIdeal.nD Cert.UpKernelIdeal.τ).loc Cert.UpKernelIdeal.main_arg4) = m ((c.tc : Thread Cert.UpKernelIdeal.nD Cert.UpKernelIdeal.τ).loc Cert.UpKernelIdeal.main_arg4))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3)
      ∧ r.2.mem ((c.tc : Thread Cert.UpReferenceIdeal.nD Cert.UpReferenceIdeal.τ).loc Cert.UpReferenceIdeal.main_arg4) = m ((c.tc : Thread Cert.UpReferenceIdeal.nD Cert.UpReferenceIdeal.τ).loc Cert.UpReferenceIdeal.main_arg4))
      ∧ r.2.sem = fun _ => 0)

def quiescent_UpReferenceIdeal_pre_up_finite [hUpReferenceIdeal : Cert.UpReferenceIdeal.Facts] [hPre_up_finite : Cert.Pre_up_finite.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal_up_finite m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3)
      ∧ r.2.mem ((c.tc : Thread Cert.UpReferenceIdeal.nD Cert.UpReferenceIdeal.τ).loc Cert.UpReferenceIdeal.main_arg4) = m ((c.tc : Thread Cert.UpReferenceIdeal.nD Cert.UpReferenceIdeal.τ).loc Cert.UpReferenceIdeal.main_arg4))
      ∧ r.2.sem = fun _ => 0)

def quiescent_MemKvKernel [hMemKvKernel : Cert.MemKvKernel.Facts] : Prop :=
  ∀ (m : (ℓ : Loc Cert.MemKvKernel.nD Cert.MemKvKernel.τ Cert.MemKvKernel.sig) → Buf (Elt Bits) ℓ) (g : Dev Cert.MemKvKernel.nD → PrngReg), Pre_MemKvKernel m →
    θ_run (Cert.MemKvKernel.defs (F := Bits)) (onTc (τ := Cert.MemKvKernel.τ) (Cert.MemKvKernel.main (F := Bits))) ⟨m, fun _ => 0, g⟩ (fun r => (∀ c : Dev Cert.MemKvKernel.nD,
      r.2.mem ((c.tc : Thread Cert.MemKvKernel.nD Cert.MemKvKernel.τ).loc Cert.MemKvKernel.main_arg0) = m ((c.tc : Thread Cert.MemKvKernel.nD Cert.MemKvKernel.τ).loc Cert.MemKvKernel.main_arg0)
      ∧ r.2.mem ((c.tc : Thread Cert.MemKvKernel.nD Cert.MemKvKernel.τ).loc Cert.MemKvKernel.main_arg1) = m ((c.tc : Thread Cert.MemKvKernel.nD Cert.MemKvKernel.τ).loc Cert.MemKvKernel.main_arg1)
      ∧ r.2.mem ((c.tc : Thread Cert.MemKvKernel.nD Cert.MemKvKernel.τ).loc Cert.MemKvKernel.main_arg2) = m ((c.tc : Thread Cert.MemKvKernel.nD Cert.MemKvKernel.τ).loc Cert.MemKvKernel.main_arg2)
      ∧ r.2.mem ((c.tc : Thread Cert.MemKvKernel.nD Cert.MemKvKernel.τ).loc Cert.MemKvKernel.main_arg3) = m ((c.tc : Thread Cert.MemKvKernel.nD Cert.MemKvKernel.τ).loc Cert.MemKvKernel.main_arg3)
      ∧ r.2.mem ((c.tc : Thread Cert.MemKvKernel.nD Cert.MemKvKernel.τ).loc Cert.MemKvKernel.main_arg4) = m ((c.tc : Thread Cert.MemKvKernel.nD Cert.MemKvKernel.τ).loc Cert.MemKvKernel.main_arg4)
      ∧ r.2.mem ((c.tc : Thread Cert.MemKvKernel.nD Cert.MemKvKernel.τ).loc Cert.MemKvKernel.main_arg5) = m ((c.tc : Thread Cert.MemKvKernel.nD Cert.MemKvKernel.τ).loc Cert.MemKvKernel.main_arg5))
      ∧ r.2.sem = fun _ => 0)

def quiescent_MemKvKernelIdeal [hMemKvKernelIdeal : Cert.MemKvKernelIdeal.Facts] : Prop :=
  ∀ (m : (ℓ : Loc Cert.MemKvKernelIdeal.nD Cert.MemKvKernelIdeal.τ Cert.MemKvKernelIdeal.sig) → Buf (Elt Ideal) ℓ) (g : Dev Cert.MemKvKernelIdeal.nD → PrngReg), Pre_MemKvKernelIdeal m →
    θ_run (Cert.MemKvKernelIdeal.defs (F := Ideal)) (onTc (τ := Cert.MemKvKernelIdeal.τ) (Cert.MemKvKernelIdeal.main (F := Ideal))) ⟨m, fun _ => 0, g⟩ (fun r => (∀ c : Dev Cert.MemKvKernelIdeal.nD,
      r.2.mem ((c.tc : Thread Cert.MemKvKernelIdeal.nD Cert.MemKvKernelIdeal.τ).loc Cert.MemKvKernelIdeal.main_arg0) = m ((c.tc : Thread Cert.MemKvKernelIdeal.nD Cert.MemKvKernelIdeal.τ).loc Cert.MemKvKernelIdeal.main_arg0)
      ∧ r.2.mem ((c.tc : Thread Cert.MemKvKernelIdeal.nD Cert.MemKvKernelIdeal.τ).loc Cert.MemKvKernelIdeal.main_arg1) = m ((c.tc : Thread Cert.MemKvKernelIdeal.nD Cert.MemKvKernelIdeal.τ).loc Cert.MemKvKernelIdeal.main_arg1)
      ∧ r.2.mem ((c.tc : Thread Cert.MemKvKernelIdeal.nD Cert.MemKvKernelIdeal.τ).loc Cert.MemKvKernelIdeal.main_arg2) = m ((c.tc : Thread Cert.MemKvKernelIdeal.nD Cert.MemKvKernelIdeal.τ).loc Cert.MemKvKernelIdeal.main_arg2)
      ∧ r.2.mem ((c.tc : Thread Cert.MemKvKernelIdeal.nD Cert.MemKvKernelIdeal.τ).loc Cert.MemKvKernelIdeal.main_arg3) = m ((c.tc : Thread Cert.MemKvKernelIdeal.nD Cert.MemKvKernelIdeal.τ).loc Cert.MemKvKernelIdeal.main_arg3)
      ∧ r.2.mem ((c.tc : Thread Cert.MemKvKernelIdeal.nD Cert.MemKvKernelIdeal.τ).loc Cert.MemKvKernelIdeal.main_arg4) = m ((c.tc : Thread Cert.MemKvKernelIdeal.nD Cert.MemKvKernelIdeal.τ).loc Cert.MemKvKernelIdeal.main_arg4)
      ∧ r.2.mem ((c.tc : Thread Cert.MemKvKernelIdeal.nD Cert.MemKvKernelIdeal.τ).loc Cert.MemKvKernelIdeal.main_arg5) = m ((c.tc : Thread Cert.MemKvKernelIdeal.nD Cert.MemKvKernelIdeal.τ).loc Cert.MemKvKernelIdeal.main_arg5))
      ∧ r.2.sem = fun _ => 0)

def quiescent_MemKvKernelIdeal_pre_memkv_finite [hMemKvKernelIdeal : Cert.MemKvKernelIdeal.Facts] [hPre_memkv_finite : Cert.Pre_memkv_finite.Facts] : Prop :=
  ∀ (m : (ℓ : Loc Cert.MemKvKernelIdeal.nD Cert.MemKvKernelIdeal.τ Cert.MemKvKernelIdeal.sig) → Buf (Elt Ideal) ℓ) (g : Dev Cert.MemKvKernelIdeal.nD → PrngReg), Pre_MemKvKernelIdeal_memkv_finite m →
    θ_run (Cert.MemKvKernelIdeal.defs (F := Ideal)) (onTc (τ := Cert.MemKvKernelIdeal.τ) (Cert.MemKvKernelIdeal.main (F := Ideal))) ⟨m, fun _ => 0, g⟩ (fun r => (∀ c : Dev Cert.MemKvKernelIdeal.nD,
      r.2.mem ((c.tc : Thread Cert.MemKvKernelIdeal.nD Cert.MemKvKernelIdeal.τ).loc Cert.MemKvKernelIdeal.main_arg0) = m ((c.tc : Thread Cert.MemKvKernelIdeal.nD Cert.MemKvKernelIdeal.τ).loc Cert.MemKvKernelIdeal.main_arg0)
      ∧ r.2.mem ((c.tc : Thread Cert.MemKvKernelIdeal.nD Cert.MemKvKernelIdeal.τ).loc Cert.MemKvKernelIdeal.main_arg1) = m ((c.tc : Thread Cert.MemKvKernelIdeal.nD Cert.MemKvKernelIdeal.τ).loc Cert.MemKvKernelIdeal.main_arg1)
      ∧ r.2.mem ((c.tc : Thread Cert.MemKvKernelIdeal.nD Cert.MemKvKernelIdeal.τ).loc Cert.MemKvKernelIdeal.main_arg2) = m ((c.tc : Thread Cert.MemKvKernelIdeal.nD Cert.MemKvKernelIdeal.τ).loc Cert.MemKvKernelIdeal.main_arg2)
      ∧ r.2.mem ((c.tc : Thread Cert.MemKvKernelIdeal.nD Cert.MemKvKernelIdeal.τ).loc Cert.MemKvKernelIdeal.main_arg3) = m ((c.tc : Thread Cert.MemKvKernelIdeal.nD Cert.MemKvKernelIdeal.τ).loc Cert.MemKvKernelIdeal.main_arg3)
      ∧ r.2.mem ((c.tc : Thread Cert.MemKvKernelIdeal.nD Cert.MemKvKernelIdeal.τ).loc Cert.MemKvKernelIdeal.main_arg4) = m ((c.tc : Thread Cert.MemKvKernelIdeal.nD Cert.MemKvKernelIdeal.τ).loc Cert.MemKvKernelIdeal.main_arg4)
      ∧ r.2.mem ((c.tc : Thread Cert.MemKvKernelIdeal.nD Cert.MemKvKernelIdeal.τ).loc Cert.MemKvKernelIdeal.main_arg5) = m ((c.tc : Thread Cert.MemKvKernelIdeal.nD Cert.MemKvKernelIdeal.τ).loc Cert.MemKvKernelIdeal.main_arg5))
      ∧ r.2.sem = fun _ => 0)

def quiescent_MemKvReferenceIdeal [hMemKvReferenceIdeal : Cert.MemKvReferenceIdeal.Facts] : Prop :=
  ∀ (m : (ℓ : Loc Cert.MemKvReferenceIdeal.nD Cert.MemKvReferenceIdeal.τ Cert.MemKvReferenceIdeal.sig) → Buf (Elt Ideal) ℓ) (g : Dev Cert.MemKvReferenceIdeal.nD → PrngReg), Pre_MemKvReferenceIdeal m →
    θ_run (Cert.MemKvReferenceIdeal.defs (F := Ideal)) (onTc (τ := Cert.MemKvReferenceIdeal.τ) (Cert.MemKvReferenceIdeal.main (F := Ideal))) ⟨m, fun _ => 0, g⟩ (fun r => (∀ c : Dev Cert.MemKvReferenceIdeal.nD,
      r.2.mem ((c.tc : Thread Cert.MemKvReferenceIdeal.nD Cert.MemKvReferenceIdeal.τ).loc Cert.MemKvReferenceIdeal.main_arg0) = m ((c.tc : Thread Cert.MemKvReferenceIdeal.nD Cert.MemKvReferenceIdeal.τ).loc Cert.MemKvReferenceIdeal.main_arg0)
      ∧ r.2.mem ((c.tc : Thread Cert.MemKvReferenceIdeal.nD Cert.MemKvReferenceIdeal.τ).loc Cert.MemKvReferenceIdeal.main_arg1) = m ((c.tc : Thread Cert.MemKvReferenceIdeal.nD Cert.MemKvReferenceIdeal.τ).loc Cert.MemKvReferenceIdeal.main_arg1)
      ∧ r.2.mem ((c.tc : Thread Cert.MemKvReferenceIdeal.nD Cert.MemKvReferenceIdeal.τ).loc Cert.MemKvReferenceIdeal.main_arg2) = m ((c.tc : Thread Cert.MemKvReferenceIdeal.nD Cert.MemKvReferenceIdeal.τ).loc Cert.MemKvReferenceIdeal.main_arg2)
      ∧ r.2.mem ((c.tc : Thread Cert.MemKvReferenceIdeal.nD Cert.MemKvReferenceIdeal.τ).loc Cert.MemKvReferenceIdeal.main_arg3) = m ((c.tc : Thread Cert.MemKvReferenceIdeal.nD Cert.MemKvReferenceIdeal.τ).loc Cert.MemKvReferenceIdeal.main_arg3)
      ∧ r.2.mem ((c.tc : Thread Cert.MemKvReferenceIdeal.nD Cert.MemKvReferenceIdeal.τ).loc Cert.MemKvReferenceIdeal.main_arg4) = m ((c.tc : Thread Cert.MemKvReferenceIdeal.nD Cert.MemKvReferenceIdeal.τ).loc Cert.MemKvReferenceIdeal.main_arg4)
      ∧ r.2.mem ((c.tc : Thread Cert.MemKvReferenceIdeal.nD Cert.MemKvReferenceIdeal.τ).loc Cert.MemKvReferenceIdeal.main_arg5) = m ((c.tc : Thread Cert.MemKvReferenceIdeal.nD Cert.MemKvReferenceIdeal.τ).loc Cert.MemKvReferenceIdeal.main_arg5))
      ∧ r.2.sem = fun _ => 0)

def quiescent_MemKvReferenceIdeal_pre_memkv_finite [hMemKvReferenceIdeal : Cert.MemKvReferenceIdeal.Facts] [hPre_memkv_finite : Cert.Pre_memkv_finite.Facts] : Prop :=
  ∀ (m : (ℓ : Loc Cert.MemKvReferenceIdeal.nD Cert.MemKvReferenceIdeal.τ Cert.MemKvReferenceIdeal.sig) → Buf (Elt Ideal) ℓ) (g : Dev Cert.MemKvReferenceIdeal.nD → PrngReg), Pre_MemKvReferenceIdeal_memkv_finite m →
    θ_run (Cert.MemKvReferenceIdeal.defs (F := Ideal)) (onTc (τ := Cert.MemKvReferenceIdeal.τ) (Cert.MemKvReferenceIdeal.main (F := Ideal))) ⟨m, fun _ => 0, g⟩ (fun r => (∀ c : Dev Cert.MemKvReferenceIdeal.nD,
      r.2.mem ((c.tc : Thread Cert.MemKvReferenceIdeal.nD Cert.MemKvReferenceIdeal.τ).loc Cert.MemKvReferenceIdeal.main_arg0) = m ((c.tc : Thread Cert.MemKvReferenceIdeal.nD Cert.MemKvReferenceIdeal.τ).loc Cert.MemKvReferenceIdeal.main_arg0)
      ∧ r.2.mem ((c.tc : Thread Cert.MemKvReferenceIdeal.nD Cert.MemKvReferenceIdeal.τ).loc Cert.MemKvReferenceIdeal.main_arg1) = m ((c.tc : Thread Cert.MemKvReferenceIdeal.nD Cert.MemKvReferenceIdeal.τ).loc Cert.MemKvReferenceIdeal.main_arg1)
      ∧ r.2.mem ((c.tc : Thread Cert.MemKvReferenceIdeal.nD Cert.MemKvReferenceIdeal.τ).loc Cert.MemKvReferenceIdeal.main_arg2) = m ((c.tc : Thread Cert.MemKvReferenceIdeal.nD Cert.MemKvReferenceIdeal.τ).loc Cert.MemKvReferenceIdeal.main_arg2)
      ∧ r.2.mem ((c.tc : Thread Cert.MemKvReferenceIdeal.nD Cert.MemKvReferenceIdeal.τ).loc Cert.MemKvReferenceIdeal.main_arg3) = m ((c.tc : Thread Cert.MemKvReferenceIdeal.nD Cert.MemKvReferenceIdeal.τ).loc Cert.MemKvReferenceIdeal.main_arg3)
      ∧ r.2.mem ((c.tc : Thread Cert.MemKvReferenceIdeal.nD Cert.MemKvReferenceIdeal.τ).loc Cert.MemKvReferenceIdeal.main_arg4) = m ((c.tc : Thread Cert.MemKvReferenceIdeal.nD Cert.MemKvReferenceIdeal.τ).loc Cert.MemKvReferenceIdeal.main_arg4)
      ∧ r.2.mem ((c.tc : Thread Cert.MemKvReferenceIdeal.nD Cert.MemKvReferenceIdeal.τ).loc Cert.MemKvReferenceIdeal.main_arg5) = m ((c.tc : Thread Cert.MemKvReferenceIdeal.nD Cert.MemKvReferenceIdeal.τ).loc Cert.MemKvReferenceIdeal.main_arg5))
      ∧ r.2.sem = fun _ => 0)

def quiescent_MixInKernel [hMixInKernel : Cert.MixInKernel.Facts] : Prop :=
  ∀ (m : (ℓ : Loc Cert.MixInKernel.nD Cert.MixInKernel.τ Cert.MixInKernel.sig) → Buf (Elt Bits) ℓ) (g : Dev Cert.MixInKernel.nD → PrngReg), Pre_MixInKernel m →
    θ_run (Cert.MixInKernel.defs (F := Bits)) (onTc (τ := Cert.MixInKernel.τ) (Cert.MixInKernel.main (F := Bits))) ⟨m, fun _ => 0, g⟩ (fun r => (∀ c : Dev Cert.MixInKernel.nD,
      r.2.mem ((c.tc : Thread Cert.MixInKernel.nD Cert.MixInKernel.τ).loc Cert.MixInKernel.main_arg0) = m ((c.tc : Thread Cert.MixInKernel.nD Cert.MixInKernel.τ).loc Cert.MixInKernel.main_arg0)
      ∧ r.2.mem ((c.tc : Thread Cert.MixInKernel.nD Cert.MixInKernel.τ).loc Cert.MixInKernel.main_arg1) = m ((c.tc : Thread Cert.MixInKernel.nD Cert.MixInKernel.τ).loc Cert.MixInKernel.main_arg1)
      ∧ r.2.mem ((c.tc : Thread Cert.MixInKernel.nD Cert.MixInKernel.τ).loc Cert.MixInKernel.main_arg2) = m ((c.tc : Thread Cert.MixInKernel.nD Cert.MixInKernel.τ).loc Cert.MixInKernel.main_arg2)
      ∧ r.2.mem ((c.tc : Thread Cert.MixInKernel.nD Cert.MixInKernel.τ).loc Cert.MixInKernel.main_arg3) = m ((c.tc : Thread Cert.MixInKernel.nD Cert.MixInKernel.τ).loc Cert.MixInKernel.main_arg3)
      ∧ r.2.mem ((c.tc : Thread Cert.MixInKernel.nD Cert.MixInKernel.τ).loc Cert.MixInKernel.main_arg4) = m ((c.tc : Thread Cert.MixInKernel.nD Cert.MixInKernel.τ).loc Cert.MixInKernel.main_arg4)
      ∧ r.2.mem ((c.tc : Thread Cert.MixInKernel.nD Cert.MixInKernel.τ).loc Cert.MixInKernel.main_arg5) = m ((c.tc : Thread Cert.MixInKernel.nD Cert.MixInKernel.τ).loc Cert.MixInKernel.main_arg5)
      ∧ r.2.mem ((c.tc : Thread Cert.MixInKernel.nD Cert.MixInKernel.τ).loc Cert.MixInKernel.main_arg6) = m ((c.tc : Thread Cert.MixInKernel.nD Cert.MixInKernel.τ).loc Cert.MixInKernel.main_arg6)
      ∧ r.2.mem ((c.tc : Thread Cert.MixInKernel.nD Cert.MixInKernel.τ).loc Cert.MixInKernel.main_arg7) = m ((c.tc : Thread Cert.MixInKernel.nD Cert.MixInKernel.τ).loc Cert.MixInKernel.main_arg7)
      ∧ r.2.mem ((c.tc : Thread Cert.MixInKernel.nD Cert.MixInKernel.τ).loc Cert.MixInKernel.main_arg8) = m ((c.tc : Thread Cert.MixInKernel.nD Cert.MixInKernel.τ).loc Cert.MixInKernel.main_arg8))
      ∧ r.2.sem = fun _ => 0)

def quiescent_MixInKernelIdeal [hMixInKernelIdeal : Cert.MixInKernelIdeal.Facts] : Prop :=
  ∀ (m : (ℓ : Loc Cert.MixInKernelIdeal.nD Cert.MixInKernelIdeal.τ Cert.MixInKernelIdeal.sig) → Buf (Elt Ideal) ℓ) (g : Dev Cert.MixInKernelIdeal.nD → PrngReg), Pre_MixInKernelIdeal m →
    θ_run (Cert.MixInKernelIdeal.defs (F := Ideal)) (onTc (τ := Cert.MixInKernelIdeal.τ) (Cert.MixInKernelIdeal.main (F := Ideal))) ⟨m, fun _ => 0, g⟩ (fun r => (∀ c : Dev Cert.MixInKernelIdeal.nD,
      r.2.mem ((c.tc : Thread Cert.MixInKernelIdeal.nD Cert.MixInKernelIdeal.τ).loc Cert.MixInKernelIdeal.main_arg0) = m ((c.tc : Thread Cert.MixInKernelIdeal.nD Cert.MixInKernelIdeal.τ).loc Cert.MixInKernelIdeal.main_arg0)
      ∧ r.2.mem ((c.tc : Thread Cert.MixInKernelIdeal.nD Cert.MixInKernelIdeal.τ).loc Cert.MixInKernelIdeal.main_arg1) = m ((c.tc : Thread Cert.MixInKernelIdeal.nD Cert.MixInKernelIdeal.τ).loc Cert.MixInKernelIdeal.main_arg1)
      ∧ r.2.mem ((c.tc : Thread Cert.MixInKernelIdeal.nD Cert.MixInKernelIdeal.τ).loc Cert.MixInKernelIdeal.main_arg2) = m ((c.tc : Thread Cert.MixInKernelIdeal.nD Cert.MixInKernelIdeal.τ).loc Cert.MixInKernelIdeal.main_arg2)
      ∧ r.2.mem ((c.tc : Thread Cert.MixInKernelIdeal.nD Cert.MixInKernelIdeal.τ).loc Cert.MixInKernelIdeal.main_arg3) = m ((c.tc : Thread Cert.MixInKernelIdeal.nD Cert.MixInKernelIdeal.τ).loc Cert.MixInKernelIdeal.main_arg3)
      ∧ r.2.mem ((c.tc : Thread Cert.MixInKernelIdeal.nD Cert.MixInKernelIdeal.τ).loc Cert.MixInKernelIdeal.main_arg4) = m ((c.tc : Thread Cert.MixInKernelIdeal.nD Cert.MixInKernelIdeal.τ).loc Cert.MixInKernelIdeal.main_arg4)
      ∧ r.2.mem ((c.tc : Thread Cert.MixInKernelIdeal.nD Cert.MixInKernelIdeal.τ).loc Cert.MixInKernelIdeal.main_arg5) = m ((c.tc : Thread Cert.MixInKernelIdeal.nD Cert.MixInKernelIdeal.τ).loc Cert.MixInKernelIdeal.main_arg5)
      ∧ r.2.mem ((c.tc : Thread Cert.MixInKernelIdeal.nD Cert.MixInKernelIdeal.τ).loc Cert.MixInKernelIdeal.main_arg6) = m ((c.tc : Thread Cert.MixInKernelIdeal.nD Cert.MixInKernelIdeal.τ).loc Cert.MixInKernelIdeal.main_arg6)
      ∧ r.2.mem ((c.tc : Thread Cert.MixInKernelIdeal.nD Cert.MixInKernelIdeal.τ).loc Cert.MixInKernelIdeal.main_arg7) = m ((c.tc : Thread Cert.MixInKernelIdeal.nD Cert.MixInKernelIdeal.τ).loc Cert.MixInKernelIdeal.main_arg7)
      ∧ r.2.mem ((c.tc : Thread Cert.MixInKernelIdeal.nD Cert.MixInKernelIdeal.τ).loc Cert.MixInKernelIdeal.main_arg8) = m ((c.tc : Thread Cert.MixInKernelIdeal.nD Cert.MixInKernelIdeal.τ).loc Cert.MixInKernelIdeal.main_arg8))
      ∧ r.2.sem = fun _ => 0)

def quiescent_MixInKernelIdeal_pre_mixin_finite [hMixInKernelIdeal : Cert.MixInKernelIdeal.Facts] [hPre_mixin_finite : Cert.Pre_mixin_finite.Facts] : Prop :=
  ∀ (m : (ℓ : Loc Cert.MixInKernelIdeal.nD Cert.MixInKernelIdeal.τ Cert.MixInKernelIdeal.sig) → Buf (Elt Ideal) ℓ) (g : Dev Cert.MixInKernelIdeal.nD → PrngReg), Pre_MixInKernelIdeal_mixin_finite m →
    θ_run (Cert.MixInKernelIdeal.defs (F := Ideal)) (onTc (τ := Cert.MixInKernelIdeal.τ) (Cert.MixInKernelIdeal.main (F := Ideal))) ⟨m, fun _ => 0, g⟩ (fun r => (∀ c : Dev Cert.MixInKernelIdeal.nD,
      r.2.mem ((c.tc : Thread Cert.MixInKernelIdeal.nD Cert.MixInKernelIdeal.τ).loc Cert.MixInKernelIdeal.main_arg0) = m ((c.tc : Thread Cert.MixInKernelIdeal.nD Cert.MixInKernelIdeal.τ).loc Cert.MixInKernelIdeal.main_arg0)
      ∧ r.2.mem ((c.tc : Thread Cert.MixInKernelIdeal.nD Cert.MixInKernelIdeal.τ).loc Cert.MixInKernelIdeal.main_arg1) = m ((c.tc : Thread Cert.MixInKernelIdeal.nD Cert.MixInKernelIdeal.τ).loc Cert.MixInKernelIdeal.main_arg1)
      ∧ r.2.mem ((c.tc : Thread Cert.MixInKernelIdeal.nD Cert.MixInKernelIdeal.τ).loc Cert.MixInKernelIdeal.main_arg2) = m ((c.tc : Thread Cert.MixInKernelIdeal.nD Cert.MixInKernelIdeal.τ).loc Cert.MixInKernelIdeal.main_arg2)
      ∧ r.2.mem ((c.tc : Thread Cert.MixInKernelIdeal.nD Cert.MixInKernelIdeal.τ).loc Cert.MixInKernelIdeal.main_arg3) = m ((c.tc : Thread Cert.MixInKernelIdeal.nD Cert.MixInKernelIdeal.τ).loc Cert.MixInKernelIdeal.main_arg3)
      ∧ r.2.mem ((c.tc : Thread Cert.MixInKernelIdeal.nD Cert.MixInKernelIdeal.τ).loc Cert.MixInKernelIdeal.main_arg4) = m ((c.tc : Thread Cert.MixInKernelIdeal.nD Cert.MixInKernelIdeal.τ).loc Cert.MixInKernelIdeal.main_arg4)
      ∧ r.2.mem ((c.tc : Thread Cert.MixInKernelIdeal.nD Cert.MixInKernelIdeal.τ).loc Cert.MixInKernelIdeal.main_arg5) = m ((c.tc : Thread Cert.MixInKernelIdeal.nD Cert.MixInKernelIdeal.τ).loc Cert.MixInKernelIdeal.main_arg5)
      ∧ r.2.mem ((c.tc : Thread Cert.MixInKernelIdeal.nD Cert.MixInKernelIdeal.τ).loc Cert.MixInKernelIdeal.main_arg6) = m ((c.tc : Thread Cert.MixInKernelIdeal.nD Cert.MixInKernelIdeal.τ).loc Cert.MixInKernelIdeal.main_arg6)
      ∧ r.2.mem ((c.tc : Thread Cert.MixInKernelIdeal.nD Cert.MixInKernelIdeal.τ).loc Cert.MixInKernelIdeal.main_arg7) = m ((c.tc : Thread Cert.MixInKernelIdeal.nD Cert.MixInKernelIdeal.τ).loc Cert.MixInKernelIdeal.main_arg7)
      ∧ r.2.mem ((c.tc : Thread Cert.MixInKernelIdeal.nD Cert.MixInKernelIdeal.τ).loc Cert.MixInKernelIdeal.main_arg8) = m ((c.tc : Thread Cert.MixInKernelIdeal.nD Cert.MixInKernelIdeal.τ).loc Cert.MixInKernelIdeal.main_arg8))
      ∧ r.2.sem = fun _ => 0)

def quiescent_MixInReferenceIdeal [hMixInReferenceIdeal : Cert.MixInReferenceIdeal.Facts] : Prop :=
  ∀ (m : (ℓ : Loc Cert.MixInReferenceIdeal.nD Cert.MixInReferenceIdeal.τ Cert.MixInReferenceIdeal.sig) → Buf (Elt Ideal) ℓ) (g : Dev Cert.MixInReferenceIdeal.nD → PrngReg), Pre_MixInReferenceIdeal m →
    θ_run (Cert.MixInReferenceIdeal.defs (F := Ideal)) (onTc (τ := Cert.MixInReferenceIdeal.τ) (Cert.MixInReferenceIdeal.main (F := Ideal))) ⟨m, fun _ => 0, g⟩ (fun r => (∀ c : Dev Cert.MixInReferenceIdeal.nD,
      r.2.mem ((c.tc : Thread Cert.MixInReferenceIdeal.nD Cert.MixInReferenceIdeal.τ).loc Cert.MixInReferenceIdeal.main_arg0) = m ((c.tc : Thread Cert.MixInReferenceIdeal.nD Cert.MixInReferenceIdeal.τ).loc Cert.MixInReferenceIdeal.main_arg0)
      ∧ r.2.mem ((c.tc : Thread Cert.MixInReferenceIdeal.nD Cert.MixInReferenceIdeal.τ).loc Cert.MixInReferenceIdeal.main_arg1) = m ((c.tc : Thread Cert.MixInReferenceIdeal.nD Cert.MixInReferenceIdeal.τ).loc Cert.MixInReferenceIdeal.main_arg1)
      ∧ r.2.mem ((c.tc : Thread Cert.MixInReferenceIdeal.nD Cert.MixInReferenceIdeal.τ).loc Cert.MixInReferenceIdeal.main_arg2) = m ((c.tc : Thread Cert.MixInReferenceIdeal.nD Cert.MixInReferenceIdeal.τ).loc Cert.MixInReferenceIdeal.main_arg2)
      ∧ r.2.mem ((c.tc : Thread Cert.MixInReferenceIdeal.nD Cert.MixInReferenceIdeal.τ).loc Cert.MixInReferenceIdeal.main_arg3) = m ((c.tc : Thread Cert.MixInReferenceIdeal.nD Cert.MixInReferenceIdeal.τ).loc Cert.MixInReferenceIdeal.main_arg3)
      ∧ r.2.mem ((c.tc : Thread Cert.MixInReferenceIdeal.nD Cert.MixInReferenceIdeal.τ).loc Cert.MixInReferenceIdeal.main_arg4) = m ((c.tc : Thread Cert.MixInReferenceIdeal.nD Cert.MixInReferenceIdeal.τ).loc Cert.MixInReferenceIdeal.main_arg4)
      ∧ r.2.mem ((c.tc : Thread Cert.MixInReferenceIdeal.nD Cert.MixInReferenceIdeal.τ).loc Cert.MixInReferenceIdeal.main_arg5) = m ((c.tc : Thread Cert.MixInReferenceIdeal.nD Cert.MixInReferenceIdeal.τ).loc Cert.MixInReferenceIdeal.main_arg5)
      ∧ r.2.mem ((c.tc : Thread Cert.MixInReferenceIdeal.nD Cert.MixInReferenceIdeal.τ).loc Cert.MixInReferenceIdeal.main_arg6) = m ((c.tc : Thread Cert.MixInReferenceIdeal.nD Cert.MixInReferenceIdeal.τ).loc Cert.MixInReferenceIdeal.main_arg6)
      ∧ r.2.mem ((c.tc : Thread Cert.MixInReferenceIdeal.nD Cert.MixInReferenceIdeal.τ).loc Cert.MixInReferenceIdeal.main_arg7) = m ((c.tc : Thread Cert.MixInReferenceIdeal.nD Cert.MixInReferenceIdeal.τ).loc Cert.MixInReferenceIdeal.main_arg7)
      ∧ r.2.mem ((c.tc : Thread Cert.MixInReferenceIdeal.nD Cert.MixInReferenceIdeal.τ).loc Cert.MixInReferenceIdeal.main_arg8) = m ((c.tc : Thread Cert.MixInReferenceIdeal.nD Cert.MixInReferenceIdeal.τ).loc Cert.MixInReferenceIdeal.main_arg8))
      ∧ r.2.sem = fun _ => 0)

def quiescent_MixInReferenceIdeal_pre_mixin_finite [hMixInReferenceIdeal : Cert.MixInReferenceIdeal.Facts] [hPre_mixin_finite : Cert.Pre_mixin_finite.Facts] : Prop :=
  ∀ (m : (ℓ : Loc Cert.MixInReferenceIdeal.nD Cert.MixInReferenceIdeal.τ Cert.MixInReferenceIdeal.sig) → Buf (Elt Ideal) ℓ) (g : Dev Cert.MixInReferenceIdeal.nD → PrngReg), Pre_MixInReferenceIdeal_mixin_finite m →
    θ_run (Cert.MixInReferenceIdeal.defs (F := Ideal)) (onTc (τ := Cert.MixInReferenceIdeal.τ) (Cert.MixInReferenceIdeal.main (F := Ideal))) ⟨m, fun _ => 0, g⟩ (fun r => (∀ c : Dev Cert.MixInReferenceIdeal.nD,
      r.2.mem ((c.tc : Thread Cert.MixInReferenceIdeal.nD Cert.MixInReferenceIdeal.τ).loc Cert.MixInReferenceIdeal.main_arg0) = m ((c.tc : Thread Cert.MixInReferenceIdeal.nD Cert.MixInReferenceIdeal.τ).loc Cert.MixInReferenceIdeal.main_arg0)
      ∧ r.2.mem ((c.tc : Thread Cert.MixInReferenceIdeal.nD Cert.MixInReferenceIdeal.τ).loc Cert.MixInReferenceIdeal.main_arg1) = m ((c.tc : Thread Cert.MixInReferenceIdeal.nD Cert.MixInReferenceIdeal.τ).loc Cert.MixInReferenceIdeal.main_arg1)
      ∧ r.2.mem ((c.tc : Thread Cert.MixInReferenceIdeal.nD Cert.MixInReferenceIdeal.τ).loc Cert.MixInReferenceIdeal.main_arg2) = m ((c.tc : Thread Cert.MixInReferenceIdeal.nD Cert.MixInReferenceIdeal.τ).loc Cert.MixInReferenceIdeal.main_arg2)
      ∧ r.2.mem ((c.tc : Thread Cert.MixInReferenceIdeal.nD Cert.MixInReferenceIdeal.τ).loc Cert.MixInReferenceIdeal.main_arg3) = m ((c.tc : Thread Cert.MixInReferenceIdeal.nD Cert.MixInReferenceIdeal.τ).loc Cert.MixInReferenceIdeal.main_arg3)
      ∧ r.2.mem ((c.tc : Thread Cert.MixInReferenceIdeal.nD Cert.MixInReferenceIdeal.τ).loc Cert.MixInReferenceIdeal.main_arg4) = m ((c.tc : Thread Cert.MixInReferenceIdeal.nD Cert.MixInReferenceIdeal.τ).loc Cert.MixInReferenceIdeal.main_arg4)
      ∧ r.2.mem ((c.tc : Thread Cert.MixInReferenceIdeal.nD Cert.MixInReferenceIdeal.τ).loc Cert.MixInReferenceIdeal.main_arg5) = m ((c.tc : Thread Cert.MixInReferenceIdeal.nD Cert.MixInReferenceIdeal.τ).loc Cert.MixInReferenceIdeal.main_arg5)
      ∧ r.2.mem ((c.tc : Thread Cert.MixInReferenceIdeal.nD Cert.MixInReferenceIdeal.τ).loc Cert.MixInReferenceIdeal.main_arg6) = m ((c.tc : Thread Cert.MixInReferenceIdeal.nD Cert.MixInReferenceIdeal.τ).loc Cert.MixInReferenceIdeal.main_arg6)
      ∧ r.2.mem ((c.tc : Thread Cert.MixInReferenceIdeal.nD Cert.MixInReferenceIdeal.τ).loc Cert.MixInReferenceIdeal.main_arg7) = m ((c.tc : Thread Cert.MixInReferenceIdeal.nD Cert.MixInReferenceIdeal.τ).loc Cert.MixInReferenceIdeal.main_arg7)
      ∧ r.2.mem ((c.tc : Thread Cert.MixInReferenceIdeal.nD Cert.MixInReferenceIdeal.τ).loc Cert.MixInReferenceIdeal.main_arg8) = m ((c.tc : Thread Cert.MixInReferenceIdeal.nD Cert.MixInReferenceIdeal.τ).loc Cert.MixInReferenceIdeal.main_arg8))
      ∧ r.2.sem = fun _ => 0)

def quiescent_ConvKernel [hConvKernel : Cert.ConvKernel.Facts] : Prop :=
  ∀ (m : (ℓ : Loc Cert.ConvKernel.nD Cert.ConvKernel.τ Cert.ConvKernel.sig) → Buf (Elt Bits) ℓ) (g : Dev Cert.ConvKernel.nD → PrngReg), Pre_ConvKernel m →
    θ_run (Cert.ConvKernel.defs (F := Bits)) (onTc (τ := Cert.ConvKernel.τ) (Cert.ConvKernel.main (F := Bits))) ⟨m, fun _ => 0, g⟩ (fun r => (∀ c : Dev Cert.ConvKernel.nD,
      r.2.mem ((c.tc : Thread Cert.ConvKernel.nD Cert.ConvKernel.τ).loc Cert.ConvKernel.main_arg0) = m ((c.tc : Thread Cert.ConvKernel.nD Cert.ConvKernel.τ).loc Cert.ConvKernel.main_arg0)
      ∧ r.2.mem ((c.tc : Thread Cert.ConvKernel.nD Cert.ConvKernel.τ).loc Cert.ConvKernel.main_arg1) = m ((c.tc : Thread Cert.ConvKernel.nD Cert.ConvKernel.τ).loc Cert.ConvKernel.main_arg1)
      ∧ r.2.mem ((c.tc : Thread Cert.ConvKernel.nD Cert.ConvKernel.τ).loc Cert.ConvKernel.main_arg2) = m ((c.tc : Thread Cert.ConvKernel.nD Cert.ConvKernel.τ).loc Cert.ConvKernel.main_arg2)
      ∧ r.2.mem ((c.tc : Thread Cert.ConvKernel.nD Cert.ConvKernel.τ).loc Cert.ConvKernel.main_arg3) = m ((c.tc : Thread Cert.ConvKernel.nD Cert.ConvKernel.τ).loc Cert.ConvKernel.main_arg3)
      ∧ r.2.mem ((c.tc : Thread Cert.ConvKernel.nD Cert.ConvKernel.τ).loc Cert.ConvKernel.main_arg4) = m ((c.tc : Thread Cert.ConvKernel.nD Cert.ConvKernel.τ).loc Cert.ConvKernel.main_arg4)
      ∧ r.2.mem ((c.tc : Thread Cert.ConvKernel.nD Cert.ConvKernel.τ).loc Cert.ConvKernel.main_arg5) = m ((c.tc : Thread Cert.ConvKernel.nD Cert.ConvKernel.τ).loc Cert.ConvKernel.main_arg5)
      ∧ r.2.mem ((c.tc : Thread Cert.ConvKernel.nD Cert.ConvKernel.τ).loc Cert.ConvKernel.main_arg6) = m ((c.tc : Thread Cert.ConvKernel.nD Cert.ConvKernel.τ).loc Cert.ConvKernel.main_arg6))
      ∧ r.2.sem = fun _ => 0)

def quiescent_ConvKernelIdeal [hConvKernelIdeal : Cert.ConvKernelIdeal.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg), Pre_ConvKernelIdeal m →
    θ_run (Cert.ConvKernelIdeal.defs (F := Ideal)) (onTc (τ := Cert.ConvKernelIdeal.τ) (Cert.ConvKernelIdeal.main (F := Ideal))) ⟨m, fun _ => 0, g⟩ (fun r => (∀ c : Dev Cert.ConvKernelIdeal.nD,
      r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
      ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
      ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2)
      ∧ r.2.mem ((c.tc : Thread Cert.ConvKernelIdeal.nD Cert.ConvKernelIdeal.τ).loc Cert.ConvKernelIdeal.main_arg3) = m ((c.tc : Thread Cert.ConvKernelIdeal.nD Cert.ConvKernelIdeal.τ).loc Cert.ConvKernelIdeal.main_arg3)
      ∧ r.2.mem ((c.tc : Thread Cert.ConvKernelIdeal.nD Cert.ConvKernelIdeal.τ).loc Cert.ConvKernelIdeal.main_arg4) = m ((c.tc : Thread Cert.ConvKernelIdeal.nD Cert.ConvKernelIdeal.τ).loc Cert.ConvKernelIdeal.main_arg4)
      ∧ r.2.mem ((c.tc : Thread Cert.ConvKernelIdeal.nD Cert.ConvKernelIdeal.τ).loc Cert.ConvKernelIdeal.main_arg5) = m ((c.tc : Thread Cert.ConvKernelIdeal.nD Cert.ConvKernelIdeal.τ).loc Cert.ConvKernelIdeal.main_arg5)
      ∧ r.2.mem ((c.tc : Thread Cert.ConvKernelIdeal.nD Cert.ConvKernelIdeal.τ).loc Cert.ConvKernelIdeal.main_arg6) = m ((c.tc : Thread Cert.ConvKernelIdeal.nD Cert.ConvKernelIdeal.τ).loc Cert.ConvKernelIdeal.main_arg6))
      ∧ r.2.sem = fun _ => 0)

def quiescent_MemFKernel [hMemFKernel : Cert.MemFKernel.Facts] : Prop :=
  ∀ (m : (ℓ : Loc Cert.MemFKernel.nD Cert.MemFKernel.τ Cert.MemFKernel.sig) → Buf (Elt Bits) ℓ) (g : Dev Cert.MemFKernel.nD → PrngReg), Pre_MemFKernel m →
    θ_run (Cert.MemFKernel.defs (F := Bits)) (onTc (τ := Cert.MemFKernel.τ) (Cert.MemFKernel.main (F := Bits))) ⟨m, fun _ => 0, g⟩ (fun r => (∀ c : Dev Cert.MemFKernel.nD,
      r.2.mem ((c.tc : Thread Cert.MemFKernel.nD Cert.MemFKernel.τ).loc Cert.MemFKernel.main_arg0) = m ((c.tc : Thread Cert.MemFKernel.nD Cert.MemFKernel.τ).loc Cert.MemFKernel.main_arg0)
      ∧ r.2.mem ((c.tc : Thread Cert.MemFKernel.nD Cert.MemFKernel.τ).loc Cert.MemFKernel.main_arg1) = m ((c.tc : Thread Cert.MemFKernel.nD Cert.MemFKernel.τ).loc Cert.MemFKernel.main_arg1)
      ∧ r.2.mem ((c.tc : Thread Cert.MemFKernel.nD Cert.MemFKernel.τ).loc Cert.MemFKernel.main_arg2) = m ((c.tc : Thread Cert.MemFKernel.nD Cert.MemFKernel.τ).loc Cert.MemFKernel.main_arg2))
      ∧ r.2.sem = fun _ => 0)

def quiescent_MemFKernelIdeal [hMemFKernelIdeal : Cert.MemFKernelIdeal.Facts] : Prop :=
  ∀ (m : (ℓ : Loc Cert.MemFKernelIdeal.nD Cert.MemFKernelIdeal.τ Cert.MemFKernelIdeal.sig) → Buf (Elt Ideal) ℓ) (g : Dev Cert.MemFKernelIdeal.nD → PrngReg), Pre_MemFKernelIdeal m →
    θ_run (Cert.MemFKernelIdeal.defs (F := Ideal)) (onTc (τ := Cert.MemFKernelIdeal.τ) (Cert.MemFKernelIdeal.main (F := Ideal))) ⟨m, fun _ => 0, g⟩ (fun r => (∀ c : Dev Cert.MemFKernelIdeal.nD,
      r.2.mem ((c.tc : Thread Cert.MemFKernelIdeal.nD Cert.MemFKernelIdeal.τ).loc Cert.MemFKernelIdeal.main_arg0) = m ((c.tc : Thread Cert.MemFKernelIdeal.nD Cert.MemFKernelIdeal.τ).loc Cert.MemFKernelIdeal.main_arg0)
      ∧ r.2.mem ((c.tc : Thread Cert.MemFKernelIdeal.nD Cert.MemFKernelIdeal.τ).loc Cert.MemFKernelIdeal.main_arg1) = m ((c.tc : Thread Cert.MemFKernelIdeal.nD Cert.MemFKernelIdeal.τ).loc Cert.MemFKernelIdeal.main_arg1)
      ∧ r.2.mem ((c.tc : Thread Cert.MemFKernelIdeal.nD Cert.MemFKernelIdeal.τ).loc Cert.MemFKernelIdeal.main_arg2) = m ((c.tc : Thread Cert.MemFKernelIdeal.nD Cert.MemFKernelIdeal.τ).loc Cert.MemFKernelIdeal.main_arg2))
      ∧ r.2.sem = fun _ => 0)

def quiescent_MemFKernelIdeal_pre_memf_finite [hMemFKernelIdeal : Cert.MemFKernelIdeal.Facts] [hPre_memf_finite : Cert.Pre_memf_finite.Facts] : Prop :=
  ∀ (m : (ℓ : Loc Cert.MemFKernelIdeal.nD Cert.MemFKernelIdeal.τ Cert.MemFKernelIdeal.sig) → Buf (Elt Ideal) ℓ) (g : Dev Cert.MemFKernelIdeal.nD → PrngReg), Pre_MemFKernelIdeal_memf_finite m →
    θ_run (Cert.MemFKernelIdeal.defs (F := Ideal)) (onTc (τ := Cert.MemFKernelIdeal.τ) (Cert.MemFKernelIdeal.main (F := Ideal))) ⟨m, fun _ => 0, g⟩ (fun r => (∀ c : Dev Cert.MemFKernelIdeal.nD,
      r.2.mem ((c.tc : Thread Cert.MemFKernelIdeal.nD Cert.MemFKernelIdeal.τ).loc Cert.MemFKernelIdeal.main_arg0) = m ((c.tc : Thread Cert.MemFKernelIdeal.nD Cert.MemFKernelIdeal.τ).loc Cert.MemFKernelIdeal.main_arg0)
      ∧ r.2.mem ((c.tc : Thread Cert.MemFKernelIdeal.nD Cert.MemFKernelIdeal.τ).loc Cert.MemFKernelIdeal.main_arg1) = m ((c.tc : Thread Cert.MemFKernelIdeal.nD Cert.MemFKernelIdeal.τ).loc Cert.MemFKernelIdeal.main_arg1)
      ∧ r.2.mem ((c.tc : Thread Cert.MemFKernelIdeal.nD Cert.MemFKernelIdeal.τ).loc Cert.MemFKernelIdeal.main_arg2) = m ((c.tc : Thread Cert.MemFKernelIdeal.nD Cert.MemFKernelIdeal.τ).loc Cert.MemFKernelIdeal.main_arg2))
      ∧ r.2.sem = fun _ => 0)

def quiescent_MemFReferenceIdeal [hMemFReferenceIdeal : Cert.MemFReferenceIdeal.Facts] : Prop :=
  ∀ (m : (ℓ : Loc Cert.MemFReferenceIdeal.nD Cert.MemFReferenceIdeal.τ Cert.MemFReferenceIdeal.sig) → Buf (Elt Ideal) ℓ) (g : Dev Cert.MemFReferenceIdeal.nD → PrngReg), Pre_MemFReferenceIdeal m →
    θ_run (Cert.MemFReferenceIdeal.defs (F := Ideal)) (onTc (τ := Cert.MemFReferenceIdeal.τ) (Cert.MemFReferenceIdeal.main (F := Ideal))) ⟨m, fun _ => 0, g⟩ (fun r => (∀ c : Dev Cert.MemFReferenceIdeal.nD,
      r.2.mem ((c.tc : Thread Cert.MemFReferenceIdeal.nD Cert.MemFReferenceIdeal.τ).loc Cert.MemFReferenceIdeal.main_arg0) = m ((c.tc : Thread Cert.MemFReferenceIdeal.nD Cert.MemFReferenceIdeal.τ).loc Cert.MemFReferenceIdeal.main_arg0)
      ∧ r.2.mem ((c.tc : Thread Cert.MemFReferenceIdeal.nD Cert.MemFReferenceIdeal.τ).loc Cert.MemFReferenceIdeal.main_arg1) = m ((c.tc : Thread Cert.MemFReferenceIdeal.nD Cert.MemFReferenceIdeal.τ).loc Cert.MemFReferenceIdeal.main_arg1)
      ∧ r.2.mem ((c.tc : Thread Cert.MemFReferenceIdeal.nD Cert.MemFReferenceIdeal.τ).loc Cert.MemFReferenceIdeal.main_arg2) = m ((c.tc : Thread Cert.MemFReferenceIdeal.nD Cert.MemFReferenceIdeal.τ).loc Cert.MemFReferenceIdeal.main_arg2))
      ∧ r.2.sem = fun _ => 0)

def quiescent_MemFReferenceIdeal_pre_memf_finite [hMemFReferenceIdeal : Cert.MemFReferenceIdeal.Facts] [hPre_memf_finite : Cert.Pre_memf_finite.Facts] : Prop :=
  ∀ (m : (ℓ : Loc Cert.MemFReferenceIdeal.nD Cert.MemFReferenceIdeal.τ Cert.MemFReferenceIdeal.sig) → Buf (Elt Ideal) ℓ) (g : Dev Cert.MemFReferenceIdeal.nD → PrngReg), Pre_MemFReferenceIdeal_memf_finite m →
    θ_run (Cert.MemFReferenceIdeal.defs (F := Ideal)) (onTc (τ := Cert.MemFReferenceIdeal.τ) (Cert.MemFReferenceIdeal.main (F := Ideal))) ⟨m, fun _ => 0, g⟩ (fun r => (∀ c : Dev Cert.MemFReferenceIdeal.nD,
      r.2.mem ((c.tc : Thread Cert.MemFReferenceIdeal.nD Cert.MemFReferenceIdeal.τ).loc Cert.MemFReferenceIdeal.main_arg0) = m ((c.tc : Thread Cert.MemFReferenceIdeal.nD Cert.MemFReferenceIdeal.τ).loc Cert.MemFReferenceIdeal.main_arg0)
      ∧ r.2.mem ((c.tc : Thread Cert.MemFReferenceIdeal.nD Cert.MemFReferenceIdeal.τ).loc Cert.MemFReferenceIdeal.main_arg1) = m ((c.tc : Thread Cert.MemFReferenceIdeal.nD Cert.MemFReferenceIdeal.τ).loc Cert.MemFReferenceIdeal.main_arg1)
      ∧ r.2.mem ((c.tc : Thread Cert.MemFReferenceIdeal.nD Cert.MemFReferenceIdeal.τ).loc Cert.MemFReferenceIdeal.main_arg2) = m ((c.tc : Thread Cert.MemFReferenceIdeal.nD Cert.MemFReferenceIdeal.τ).loc Cert.MemFReferenceIdeal.main_arg2))
      ∧ r.2.sem = fun _ => 0)

def quiescent_ResNKernel [hResNKernel : Cert.ResNKernel.Facts] : Prop :=
  ∀ (m : (ℓ : Loc Cert.ResNKernel.nD Cert.ResNKernel.τ Cert.ResNKernel.sig) → Buf (Elt Bits) ℓ) (g : Dev Cert.ResNKernel.nD → PrngReg), Pre_ResNKernel m →
    θ_run (Cert.ResNKernel.defs (F := Bits)) (onTc (τ := Cert.ResNKernel.τ) (Cert.ResNKernel.main (F := Bits))) ⟨m, fun _ => 0, g⟩ (fun r => (∀ c : Dev Cert.ResNKernel.nD,
      r.2.mem ((c.tc : Thread Cert.ResNKernel.nD Cert.ResNKernel.τ).loc Cert.ResNKernel.main_arg0) = m ((c.tc : Thread Cert.ResNKernel.nD Cert.ResNKernel.τ).loc Cert.ResNKernel.main_arg0)
      ∧ r.2.mem ((c.tc : Thread Cert.ResNKernel.nD Cert.ResNKernel.τ).loc Cert.ResNKernel.main_arg1) = m ((c.tc : Thread Cert.ResNKernel.nD Cert.ResNKernel.τ).loc Cert.ResNKernel.main_arg1)
      ∧ r.2.mem ((c.tc : Thread Cert.ResNKernel.nD Cert.ResNKernel.τ).loc Cert.ResNKernel.main_arg2) = m ((c.tc : Thread Cert.ResNKernel.nD Cert.ResNKernel.τ).loc Cert.ResNKernel.main_arg2)
      ∧ r.2.mem ((c.tc : Thread Cert.ResNKernel.nD Cert.ResNKernel.τ).loc Cert.ResNKernel.main_arg3) = m ((c.tc : Thread Cert.ResNKernel.nD Cert.ResNKernel.τ).loc Cert.ResNKernel.main_arg3))
      ∧ r.2.sem = fun _ => 0)

def quiescent_ResNKernelIdeal [hResNKernelIdeal : Cert.ResNKernelIdeal.Facts] : Prop :=
  ∀ (m : (ℓ : Loc Cert.ResNKernelIdeal.nD Cert.ResNKernelIdeal.τ Cert.ResNKernelIdeal.sig) → Buf (Elt Ideal) ℓ) (g : Dev Cert.ResNKernelIdeal.nD → PrngReg), Pre_ResNKernelIdeal m →
    θ_run (Cert.ResNKernelIdeal.defs (F := Ideal)) (onTc (τ := Cert.ResNKernelIdeal.τ) (Cert.ResNKernelIdeal.main (F := Ideal))) ⟨m, fun _ => 0, g⟩ (fun r => (∀ c : Dev Cert.ResNKernelIdeal.nD,
      r.2.mem ((c.tc : Thread Cert.ResNKernelIdeal.nD Cert.ResNKernelIdeal.τ).loc Cert.ResNKernelIdeal.main_arg0) = m ((c.tc : Thread Cert.ResNKernelIdeal.nD Cert.ResNKernelIdeal.τ).loc Cert.ResNKernelIdeal.main_arg0)
      ∧ r.2.mem ((c.tc : Thread Cert.ResNKernelIdeal.nD Cert.ResNKernelIdeal.τ).loc Cert.ResNKernelIdeal.main_arg1) = m ((c.tc : Thread Cert.ResNKernelIdeal.nD Cert.ResNKernelIdeal.τ).loc Cert.ResNKernelIdeal.main_arg1)
      ∧ r.2.mem ((c.tc : Thread Cert.ResNKernelIdeal.nD Cert.ResNKernelIdeal.τ).loc Cert.ResNKernelIdeal.main_arg2) = m ((c.tc : Thread Cert.ResNKernelIdeal.nD Cert.ResNKernelIdeal.τ).loc Cert.ResNKernelIdeal.main_arg2)
      ∧ r.2.mem ((c.tc : Thread Cert.ResNKernelIdeal.nD Cert.ResNKernelIdeal.τ).loc Cert.ResNKernelIdeal.main_arg3) = m ((c.tc : Thread Cert.ResNKernelIdeal.nD Cert.ResNKernelIdeal.τ).loc Cert.ResNKernelIdeal.main_arg3))
      ∧ r.2.sem = fun _ => 0)

def quiescent_ResNReferenceIdeal [hResNReferenceIdeal : Cert.ResNReferenceIdeal.Facts] : Prop :=
  ∀ (m : (ℓ : Loc Cert.ResNReferenceIdeal.nD Cert.ResNReferenceIdeal.τ Cert.ResNReferenceIdeal.sig) → Buf (Elt Ideal) ℓ) (g : Dev Cert.ResNReferenceIdeal.nD → PrngReg), Pre_ResNReferenceIdeal m →
    θ_run (Cert.ResNReferenceIdeal.defs (F := Ideal)) (onTc (τ := Cert.ResNReferenceIdeal.τ) (Cert.ResNReferenceIdeal.main (F := Ideal))) ⟨m, fun _ => 0, g⟩ (fun r => (∀ c : Dev Cert.ResNReferenceIdeal.nD,
      r.2.mem ((c.tc : Thread Cert.ResNReferenceIdeal.nD Cert.ResNReferenceIdeal.τ).loc Cert.ResNReferenceIdeal.main_arg0) = m ((c.tc : Thread Cert.ResNReferenceIdeal.nD Cert.ResNReferenceIdeal.τ).loc Cert.ResNReferenceIdeal.main_arg0)
      ∧ r.2.mem ((c.tc : Thread Cert.ResNReferenceIdeal.nD Cert.ResNReferenceIdeal.τ).loc Cert.ResNReferenceIdeal.main_arg1) = m ((c.tc : Thread Cert.ResNReferenceIdeal.nD Cert.ResNReferenceIdeal.τ).loc Cert.ResNReferenceIdeal.main_arg1)
      ∧ r.2.mem ((c.tc : Thread Cert.ResNReferenceIdeal.nD Cert.ResNReferenceIdeal.τ).loc Cert.ResNReferenceIdeal.main_arg2) = m ((c.tc : Thread Cert.ResNReferenceIdeal.nD Cert.ResNReferenceIdeal.τ).loc Cert.ResNReferenceIdeal.main_arg2)
      ∧ r.2.mem ((c.tc : Thread Cert.ResNReferenceIdeal.nD Cert.ResNReferenceIdeal.τ).loc Cert.ResNReferenceIdeal.main_arg3) = m ((c.tc : Thread Cert.ResNReferenceIdeal.nD Cert.ResNReferenceIdeal.τ).loc Cert.ResNReferenceIdeal.main_arg3))
      ∧ r.2.sem = fun _ => 0)

def quiescent_RmsMKernel [hRmsMKernel : Cert.RmsMKernel.Facts] : Prop :=
  ∀ (m : (ℓ : Loc Cert.RmsMKernel.nD Cert.RmsMKernel.τ Cert.RmsMKernel.sig) → Buf (Elt Bits) ℓ) (g : Dev Cert.RmsMKernel.nD → PrngReg), Pre_RmsMKernel m →
    θ_run (Cert.RmsMKernel.defs (F := Bits)) (onTc (τ := Cert.RmsMKernel.τ) (Cert.RmsMKernel.main (F := Bits))) ⟨m, fun _ => 0, g⟩ (fun r => (∀ c : Dev Cert.RmsMKernel.nD,
      r.2.mem ((c.tc : Thread Cert.RmsMKernel.nD Cert.RmsMKernel.τ).loc Cert.RmsMKernel.main_arg0) = m ((c.tc : Thread Cert.RmsMKernel.nD Cert.RmsMKernel.τ).loc Cert.RmsMKernel.main_arg0)
      ∧ r.2.mem ((c.tc : Thread Cert.RmsMKernel.nD Cert.RmsMKernel.τ).loc Cert.RmsMKernel.main_arg1) = m ((c.tc : Thread Cert.RmsMKernel.nD Cert.RmsMKernel.τ).loc Cert.RmsMKernel.main_arg1)
      ∧ r.2.mem ((c.tc : Thread Cert.RmsMKernel.nD Cert.RmsMKernel.τ).loc Cert.RmsMKernel.main_arg2) = m ((c.tc : Thread Cert.RmsMKernel.nD Cert.RmsMKernel.τ).loc Cert.RmsMKernel.main_arg2))
      ∧ r.2.sem = fun _ => 0)

def quiescent_RmsMKernelIdeal [hRmsMKernelIdeal : Cert.RmsMKernelIdeal.Facts] : Prop :=
  ∀ (m : (ℓ : Loc Cert.RmsMKernelIdeal.nD Cert.RmsMKernelIdeal.τ Cert.RmsMKernelIdeal.sig) → Buf (Elt Ideal) ℓ) (g : Dev Cert.RmsMKernelIdeal.nD → PrngReg), Pre_RmsMKernelIdeal m →
    θ_run (Cert.RmsMKernelIdeal.defs (F := Ideal)) (onTc (τ := Cert.RmsMKernelIdeal.τ) (Cert.RmsMKernelIdeal.main (F := Ideal))) ⟨m, fun _ => 0, g⟩ (fun r => (∀ c : Dev Cert.RmsMKernelIdeal.nD,
      r.2.mem ((c.tc : Thread Cert.RmsMKernelIdeal.nD Cert.RmsMKernelIdeal.τ).loc Cert.RmsMKernelIdeal.main_arg0) = m ((c.tc : Thread Cert.RmsMKernelIdeal.nD Cert.RmsMKernelIdeal.τ).loc Cert.RmsMKernelIdeal.main_arg0)
      ∧ r.2.mem ((c.tc : Thread Cert.RmsMKernelIdeal.nD Cert.RmsMKernelIdeal.τ).loc Cert.RmsMKernelIdeal.main_arg1) = m ((c.tc : Thread Cert.RmsMKernelIdeal.nD Cert.RmsMKernelIdeal.τ).loc Cert.RmsMKernelIdeal.main_arg1)
      ∧ r.2.mem ((c.tc : Thread Cert.RmsMKernelIdeal.nD Cert.RmsMKernelIdeal.τ).loc Cert.RmsMKernelIdeal.main_arg2) = m ((c.tc : Thread Cert.RmsMKernelIdeal.nD Cert.RmsMKernelIdeal.τ).loc Cert.RmsMKernelIdeal.main_arg2))
      ∧ r.2.sem = fun _ => 0)

def quiescent_RmsMReferenceIdeal [hRmsMReferenceIdeal : Cert.RmsMReferenceIdeal.Facts] : Prop :=
  ∀ (m : (ℓ : Loc Cert.RmsMReferenceIdeal.nD Cert.RmsMReferenceIdeal.τ Cert.RmsMReferenceIdeal.sig) → Buf (Elt Ideal) ℓ) (g : Dev Cert.RmsMReferenceIdeal.nD → PrngReg), Pre_RmsMReferenceIdeal m →
    θ_run (Cert.RmsMReferenceIdeal.defs (F := Ideal)) (onTc (τ := Cert.RmsMReferenceIdeal.τ) (Cert.RmsMReferenceIdeal.main (F := Ideal))) ⟨m, fun _ => 0, g⟩ (fun r => (∀ c : Dev Cert.RmsMReferenceIdeal.nD,
      r.2.mem ((c.tc : Thread Cert.RmsMReferenceIdeal.nD Cert.RmsMReferenceIdeal.τ).loc Cert.RmsMReferenceIdeal.main_arg0) = m ((c.tc : Thread Cert.RmsMReferenceIdeal.nD Cert.RmsMReferenceIdeal.τ).loc Cert.RmsMReferenceIdeal.main_arg0)
      ∧ r.2.mem ((c.tc : Thread Cert.RmsMReferenceIdeal.nD Cert.RmsMReferenceIdeal.τ).loc Cert.RmsMReferenceIdeal.main_arg1) = m ((c.tc : Thread Cert.RmsMReferenceIdeal.nD Cert.RmsMReferenceIdeal.τ).loc Cert.RmsMReferenceIdeal.main_arg1)
      ∧ r.2.mem ((c.tc : Thread Cert.RmsMReferenceIdeal.nD Cert.RmsMReferenceIdeal.τ).loc Cert.RmsMReferenceIdeal.main_arg2) = m ((c.tc : Thread Cert.RmsMReferenceIdeal.nD Cert.RmsMReferenceIdeal.τ).loc Cert.RmsMReferenceIdeal.main_arg2))
      ∧ r.2.sem = fun _ => 0)

def preserves_LossKernel_LossKernelIdeal : Prop :=
  True

def algebraic_LossKernelIdeal_LossReferenceIdeal [hLossKernelIdeal : Cert.LossKernelIdeal.Facts] [hLossReferenceIdeal : Cert.LossReferenceIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)) →
    ∃ (v0 : (c : Dev Cert.LossKernelIdeal.nD) → Buf (Elt Ideal) ((c.tc : Thread Cert.LossKernelIdeal.nD Cert.LossKernelIdeal.τ).loc Cert.LossKernelIdeal.main_v0_0)) (v1 : (c : Dev Cert.LossKernelIdeal.nD) → Buf (Elt Ideal) ((c.tc : Thread Cert.LossKernelIdeal.nD Cert.LossKernelIdeal.τ).loc Cert.LossKernelIdeal.main_v1)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v0_0) = v0 c
          ∧ r.2.mem ((c.tc : Thread Cert.LossKernelIdeal.nD Cert.LossKernelIdeal.τ).loc Cert.LossKernelIdeal.main_v1) = v1 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v14) = v0 c
          ∧ r.2.mem ((c.tc : Thread Cert.LossReferenceIdeal.nD Cert.LossReferenceIdeal.τ).loc Cert.LossReferenceIdeal.main_v8) = v1 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1))

def preserves_FoxKernel_FoxKernelIdeal : Prop :=
  IdealRules.named_const.Statement Cert.FoxKernelIdeal.κ "mask" .f32 0xF149F2CA#32 ⊥

def algebraic_FoxKernelIdeal_FoxReferenceIdeal_pre_fox_finite [hFoxKernelIdeal : Cert.FoxKernelIdeal.Facts] [hFoxReferenceIdeal : Cert.FoxReferenceIdeal.Facts] [hPre_fox_finite : Cert.Pre_fox_finite.Facts] : Prop :=
  ∀ (m : (ℓ : Loc Cert.FoxKernelIdeal.nD Cert.FoxKernelIdeal.τ Cert.FoxKernelIdeal.sig) → Buf (Elt Ideal) ℓ) (g : Dev Cert.FoxKernelIdeal.nD → PrngReg)
    (m' : (ℓ : Loc Cert.FoxReferenceIdeal.nD Cert.FoxReferenceIdeal.τ Cert.FoxReferenceIdeal.sig) → Buf (Elt Ideal) ℓ) (g' : Dev Cert.FoxReferenceIdeal.nD → PrngReg), Pre_FoxKernelIdeal_fox_finite m →
    (∀ c : Dev Cert.FoxKernelIdeal.nD,
      m' ((c.tc : Thread Cert.FoxReferenceIdeal.nD Cert.FoxReferenceIdeal.τ).loc Cert.FoxReferenceIdeal.main_arg0) = m ((c.tc : Thread Cert.FoxKernelIdeal.nD Cert.FoxKernelIdeal.τ).loc Cert.FoxKernelIdeal.main_arg0)
      ∧ m' ((c.tc : Thread Cert.FoxReferenceIdeal.nD Cert.FoxReferenceIdeal.τ).loc Cert.FoxReferenceIdeal.main_arg1) = m ((c.tc : Thread Cert.FoxKernelIdeal.nD Cert.FoxKernelIdeal.τ).loc Cert.FoxKernelIdeal.main_arg1)
      ∧ m' ((c.tc : Thread Cert.FoxReferenceIdeal.nD Cert.FoxReferenceIdeal.τ).loc Cert.FoxReferenceIdeal.main_arg2) = m ((c.tc : Thread Cert.FoxKernelIdeal.nD Cert.FoxKernelIdeal.τ).loc Cert.FoxKernelIdeal.main_arg2)
      ∧ m' ((c.tc : Thread Cert.FoxReferenceIdeal.nD Cert.FoxReferenceIdeal.τ).loc Cert.FoxReferenceIdeal.main_arg3) = m ((c.tc : Thread Cert.FoxKernelIdeal.nD Cert.FoxKernelIdeal.τ).loc Cert.FoxKernelIdeal.main_arg3)
      ∧ m' ((c.tc : Thread Cert.FoxReferenceIdeal.nD Cert.FoxReferenceIdeal.τ).loc Cert.FoxReferenceIdeal.main_arg4) = m ((c.tc : Thread Cert.FoxKernelIdeal.nD Cert.FoxKernelIdeal.τ).loc Cert.FoxKernelIdeal.main_arg4)
      ∧ m' ((c.tc : Thread Cert.FoxReferenceIdeal.nD Cert.FoxReferenceIdeal.τ).loc Cert.FoxReferenceIdeal.main_arg5) = m ((c.tc : Thread Cert.FoxKernelIdeal.nD Cert.FoxKernelIdeal.τ).loc Cert.FoxKernelIdeal.main_arg5)) →
    ∃ (v0 : (c : Dev Cert.FoxKernelIdeal.nD) → Buf (Elt Ideal) ((c.tc : Thread Cert.FoxKernelIdeal.nD Cert.FoxKernelIdeal.τ).loc Cert.FoxKernelIdeal.main_v74_2)) (v1 : (c : Dev Cert.FoxKernelIdeal.nD) → Buf (Elt Ideal) ((c.tc : Thread Cert.FoxKernelIdeal.nD Cert.FoxKernelIdeal.τ).loc Cert.FoxKernelIdeal.main_v75_0)) (v2 : (c : Dev Cert.FoxKernelIdeal.nD) → Buf (Elt Ideal) ((c.tc : Thread Cert.FoxKernelIdeal.nD Cert.FoxKernelIdeal.τ).loc Cert.FoxKernelIdeal.main_v76_0)) (v3 : (c : Dev Cert.FoxKernelIdeal.nD) → Buf (Elt Ideal) ((c.tc : Thread Cert.FoxKernelIdeal.nD Cert.FoxKernelIdeal.τ).loc Cert.FoxKernelIdeal.main_v76_1)) (v4 : (c : Dev Cert.FoxKernelIdeal.nD) → Buf (Elt Ideal) ((c.tc : Thread Cert.FoxKernelIdeal.nD Cert.FoxKernelIdeal.τ).loc Cert.FoxKernelIdeal.main_v75_1)) (v5 : (c : Dev Cert.FoxKernelIdeal.nD) → Buf (Elt Ideal) ((c.tc : Thread Cert.FoxKernelIdeal.nD Cert.FoxKernelIdeal.τ).loc Cert.FoxKernelIdeal.main_v76_2)),
      θ_run (Cert.FoxKernelIdeal.defs (F := Ideal)) (onTc (τ := Cert.FoxKernelIdeal.τ) (Cert.FoxKernelIdeal.main (F := Ideal))) ⟨m, fun _ => 0, g⟩ (fun r => ∀ c : Dev Cert.FoxKernelIdeal.nD,
          r.2.mem ((c.tc : Thread Cert.FoxKernelIdeal.nD Cert.FoxKernelIdeal.τ).loc Cert.FoxKernelIdeal.main_v74_2) = v0 c
          ∧ r.2.mem ((c.tc : Thread Cert.FoxKernelIdeal.nD Cert.FoxKernelIdeal.τ).loc Cert.FoxKernelIdeal.main_v75_0) = v1 c
          ∧ r.2.mem ((c.tc : Thread Cert.FoxKernelIdeal.nD Cert.FoxKernelIdeal.τ).loc Cert.FoxKernelIdeal.main_v76_0) = v2 c
          ∧ r.2.mem ((c.tc : Thread Cert.FoxKernelIdeal.nD Cert.FoxKernelIdeal.τ).loc Cert.FoxKernelIdeal.main_v76_1) = v3 c
          ∧ r.2.mem ((c.tc : Thread Cert.FoxKernelIdeal.nD Cert.FoxKernelIdeal.τ).loc Cert.FoxKernelIdeal.main_v75_1) = v4 c
          ∧ r.2.mem ((c.tc : Thread Cert.FoxKernelIdeal.nD Cert.FoxKernelIdeal.τ).loc Cert.FoxKernelIdeal.main_v76_2) = v5 c
          ∧ r.2.mem ((c.tc : Thread Cert.FoxKernelIdeal.nD Cert.FoxKernelIdeal.τ).loc Cert.FoxKernelIdeal.main_arg0) = m ((c.tc : Thread Cert.FoxKernelIdeal.nD Cert.FoxKernelIdeal.τ).loc Cert.FoxKernelIdeal.main_arg0)
          ∧ r.2.mem ((c.tc : Thread Cert.FoxKernelIdeal.nD Cert.FoxKernelIdeal.τ).loc Cert.FoxKernelIdeal.main_arg1) = m ((c.tc : Thread Cert.FoxKernelIdeal.nD Cert.FoxKernelIdeal.τ).loc Cert.FoxKernelIdeal.main_arg1)
          ∧ r.2.mem ((c.tc : Thread Cert.FoxKernelIdeal.nD Cert.FoxKernelIdeal.τ).loc Cert.FoxKernelIdeal.main_arg2) = m ((c.tc : Thread Cert.FoxKernelIdeal.nD Cert.FoxKernelIdeal.τ).loc Cert.FoxKernelIdeal.main_arg2)
          ∧ r.2.mem ((c.tc : Thread Cert.FoxKernelIdeal.nD Cert.FoxKernelIdeal.τ).loc Cert.FoxKernelIdeal.main_arg3) = m ((c.tc : Thread Cert.FoxKernelIdeal.nD Cert.FoxKernelIdeal.τ).loc Cert.FoxKernelIdeal.main_arg3)
          ∧ r.2.mem ((c.tc : Thread Cert.FoxKernelIdeal.nD Cert.FoxKernelIdeal.τ).loc Cert.FoxKernelIdeal.main_arg4) = m ((c.tc : Thread Cert.FoxKernelIdeal.nD Cert.FoxKernelIdeal.τ).loc Cert.FoxKernelIdeal.main_arg4)
          ∧ r.2.mem ((c.tc : Thread Cert.FoxKernelIdeal.nD Cert.FoxKernelIdeal.τ).loc Cert.FoxKernelIdeal.main_arg5) = m ((c.tc : Thread Cert.FoxKernelIdeal.nD Cert.FoxKernelIdeal.τ).loc Cert.FoxKernelIdeal.main_arg5))
      ∧ θ_run (Cert.FoxReferenceIdeal.defs (F := Ideal)) (onTc (τ := Cert.FoxReferenceIdeal.τ) (Cert.FoxReferenceIdeal.main (F := Ideal))) ⟨m', fun _ => 0, g'⟩ (fun r => ∀ c : Dev Cert.FoxReferenceIdeal.nD,
          r.2.mem ((c.tc : Thread Cert.FoxReferenceIdeal.nD Cert.FoxReferenceIdeal.τ).loc Cert.FoxReferenceIdeal.main_v92) = v0 c
          ∧ r.2.mem ((c.tc : Thread Cert.FoxReferenceIdeal.nD Cert.FoxReferenceIdeal.τ).loc Cert.FoxReferenceIdeal.main_v93) = v1 c
          ∧ r.2.mem ((c.tc : Thread Cert.FoxReferenceIdeal.nD Cert.FoxReferenceIdeal.τ).loc Cert.FoxReferenceIdeal.main_v94) = v2 c
          ∧ r.2.mem ((c.tc : Thread Cert.FoxReferenceIdeal.nD Cert.FoxReferenceIdeal.τ).loc Cert.FoxReferenceIdeal.main_v95) = v3 c
          ∧ r.2.mem ((c.tc : Thread Cert.FoxReferenceIdeal.nD Cert.FoxReferenceIdeal.τ).loc Cert.FoxReferenceIdeal.main_v97) = v4 c
          ∧ r.2.mem ((c.tc : Thread Cert.FoxReferenceIdeal.nD Cert.FoxReferenceIdeal.τ).loc Cert.FoxReferenceIdeal.main_v100) = v5 c
          ∧ r.2.mem ((c.tc : Thread Cert.FoxReferenceIdeal.nD Cert.FoxReferenceIdeal.τ).loc Cert.FoxReferenceIdeal.main_arg0) = m' ((c.tc : Thread Cert.FoxReferenceIdeal.nD Cert.FoxReferenceIdeal.τ).loc Cert.FoxReferenceIdeal.main_arg0)
          ∧ r.2.mem ((c.tc : Thread Cert.FoxReferenceIdeal.nD Cert.FoxReferenceIdeal.τ).loc Cert.FoxReferenceIdeal.main_arg1) = m' ((c.tc : Thread Cert.FoxReferenceIdeal.nD Cert.FoxReferenceIdeal.τ).loc Cert.FoxReferenceIdeal.main_arg1)
          ∧ r.2.mem ((c.tc : Thread Cert.FoxReferenceIdeal.nD Cert.FoxReferenceIdeal.τ).loc Cert.FoxReferenceIdeal.main_arg2) = m' ((c.tc : Thread Cert.FoxReferenceIdeal.nD Cert.FoxReferenceIdeal.τ).loc Cert.FoxReferenceIdeal.main_arg2)
          ∧ r.2.mem ((c.tc : Thread Cert.FoxReferenceIdeal.nD Cert.FoxReferenceIdeal.τ).loc Cert.FoxReferenceIdeal.main_arg3) = m' ((c.tc : Thread Cert.FoxReferenceIdeal.nD Cert.FoxReferenceIdeal.τ).loc Cert.FoxReferenceIdeal.main_arg3)
          ∧ r.2.mem ((c.tc : Thread Cert.FoxReferenceIdeal.nD Cert.FoxReferenceIdeal.τ).loc Cert.FoxReferenceIdeal.main_arg4) = m' ((c.tc : Thread Cert.FoxReferenceIdeal.nD Cert.FoxReferenceIdeal.τ).loc Cert.FoxReferenceIdeal.main_arg4)
          ∧ r.2.mem ((c.tc : Thread Cert.FoxReferenceIdeal.nD Cert.FoxReferenceIdeal.τ).loc Cert.FoxReferenceIdeal.main_arg5) = m' ((c.tc : Thread Cert.FoxReferenceIdeal.nD Cert.FoxReferenceIdeal.τ).loc Cert.FoxReferenceIdeal.main_arg5))

def preserves_CumKernel_CumKernelIdeal : Prop :=
  True

def algebraic_CumKernelIdeal_CumReferenceIdeal_pre_cum_finite [hCumKernelIdeal : Cert.CumKernelIdeal.Facts] [hCumReferenceIdeal : Cert.CumReferenceIdeal.Facts] [hPre_cum_finite : Cert.Pre_cum_finite.Facts] : Prop :=
  ∀ (m : (ℓ : Loc Cert.CumKernelIdeal.nD Cert.CumKernelIdeal.τ Cert.CumKernelIdeal.sig) → Buf (Elt Ideal) ℓ) (g : Dev Cert.CumKernelIdeal.nD → PrngReg)
    (m' : (ℓ : Loc Cert.CumReferenceIdeal.nD Cert.CumReferenceIdeal.τ Cert.CumReferenceIdeal.sig) → Buf (Elt Ideal) ℓ) (g' : Dev Cert.CumReferenceIdeal.nD → PrngReg), Pre_CumKernelIdeal_cum_finite m →
    (∀ c : Dev Cert.CumKernelIdeal.nD,
      m' ((c.tc : Thread Cert.CumReferenceIdeal.nD Cert.CumReferenceIdeal.τ).loc Cert.CumReferenceIdeal.main_arg0) = m ((c.tc : Thread Cert.CumKernelIdeal.nD Cert.CumKernelIdeal.τ).loc Cert.CumKernelIdeal.main_arg0)
      ∧ m' ((c.tc : Thread Cert.CumReferenceIdeal.nD Cert.CumReferenceIdeal.τ).loc Cert.CumReferenceIdeal.main_arg1) = m ((c.tc : Thread Cert.CumKernelIdeal.nD Cert.CumKernelIdeal.τ).loc Cert.CumKernelIdeal.main_arg1)
      ∧ m' ((c.tc : Thread Cert.CumReferenceIdeal.nD Cert.CumReferenceIdeal.τ).loc Cert.CumReferenceIdeal.main_arg2) = m ((c.tc : Thread Cert.CumKernelIdeal.nD Cert.CumKernelIdeal.τ).loc Cert.CumKernelIdeal.main_arg2)
      ∧ m' ((c.tc : Thread Cert.CumReferenceIdeal.nD Cert.CumReferenceIdeal.τ).loc Cert.CumReferenceIdeal.main_arg3) = m ((c.tc : Thread Cert.CumKernelIdeal.nD Cert.CumKernelIdeal.τ).loc Cert.CumKernelIdeal.main_arg3)) →
    ∃ (v0 : (c : Dev Cert.CumKernelIdeal.nD) → Buf (Elt Ideal) ((c.tc : Thread Cert.CumKernelIdeal.nD Cert.CumKernelIdeal.τ).loc Cert.CumKernelIdeal.main_v6_0)) (v1 : (c : Dev Cert.CumKernelIdeal.nD) → Buf (Elt Ideal) ((c.tc : Thread Cert.CumKernelIdeal.nD Cert.CumKernelIdeal.τ).loc Cert.CumKernelIdeal.main_v6_1)),
      θ_run (Cert.CumKernelIdeal.defs (F := Ideal)) (onTc (τ := Cert.CumKernelIdeal.τ) (Cert.CumKernelIdeal.main (F := Ideal))) ⟨m, fun _ => 0, g⟩ (fun r => ∀ c : Dev Cert.CumKernelIdeal.nD,
          r.2.mem ((c.tc : Thread Cert.CumKernelIdeal.nD Cert.CumKernelIdeal.τ).loc Cert.CumKernelIdeal.main_v6_0) = v0 c
          ∧ r.2.mem ((c.tc : Thread Cert.CumKernelIdeal.nD Cert.CumKernelIdeal.τ).loc Cert.CumKernelIdeal.main_v6_1) = v1 c
          ∧ r.2.mem ((c.tc : Thread Cert.CumKernelIdeal.nD Cert.CumKernelIdeal.τ).loc Cert.CumKernelIdeal.main_arg0) = m ((c.tc : Thread Cert.CumKernelIdeal.nD Cert.CumKernelIdeal.τ).loc Cert.CumKernelIdeal.main_arg0)
          ∧ r.2.mem ((c.tc : Thread Cert.CumKernelIdeal.nD Cert.CumKernelIdeal.τ).loc Cert.CumKernelIdeal.main_arg1) = m ((c.tc : Thread Cert.CumKernelIdeal.nD Cert.CumKernelIdeal.τ).loc Cert.CumKernelIdeal.main_arg1)
          ∧ r.2.mem ((c.tc : Thread Cert.CumKernelIdeal.nD Cert.CumKernelIdeal.τ).loc Cert.CumKernelIdeal.main_arg2) = m ((c.tc : Thread Cert.CumKernelIdeal.nD Cert.CumKernelIdeal.τ).loc Cert.CumKernelIdeal.main_arg2)
          ∧ r.2.mem ((c.tc : Thread Cert.CumKernelIdeal.nD Cert.CumKernelIdeal.τ).loc Cert.CumKernelIdeal.main_arg3) = m ((c.tc : Thread Cert.CumKernelIdeal.nD Cert.CumKernelIdeal.τ).loc Cert.CumKernelIdeal.main_arg3))
      ∧ θ_run (Cert.CumReferenceIdeal.defs (F := Ideal)) (onTc (τ := Cert.CumReferenceIdeal.τ) (Cert.CumReferenceIdeal.main (F := Ideal))) ⟨m', fun _ => 0, g'⟩ (fun r => ∀ c : Dev Cert.CumReferenceIdeal.nD,
          r.2.mem ((c.tc : Thread Cert.CumReferenceIdeal.nD Cert.CumReferenceIdeal.τ).loc Cert.CumReferenceIdeal.main_v12) = v0 c
          ∧ r.2.mem ((c.tc : Thread Cert.CumReferenceIdeal.nD Cert.CumReferenceIdeal.τ).loc Cert.CumReferenceIdeal.main_v13) = v1 c
          ∧ r.2.mem ((c.tc : Thread Cert.CumReferenceIdeal.nD Cert.CumReferenceIdeal.τ).loc Cert.CumReferenceIdeal.main_arg0) = m' ((c.tc : Thread Cert.CumReferenceIdeal.nD Cert.CumReferenceIdeal.τ).loc Cert.CumReferenceIdeal.main_arg0)
          ∧ r.2.mem ((c.tc : Thread Cert.CumReferenceIdeal.nD Cert.CumReferenceIdeal.τ).loc Cert.CumReferenceIdeal.main_arg1) = m' ((c.tc : Thread Cert.CumReferenceIdeal.nD Cert.CumReferenceIdeal.τ).loc Cert.CumReferenceIdeal.main_arg1)
          ∧ r.2.mem ((c.tc : Thread Cert.CumReferenceIdeal.nD Cert.CumReferenceIdeal.τ).loc Cert.CumReferenceIdeal.main_arg2) = m' ((c.tc : Thread Cert.CumReferenceIdeal.nD Cert.CumReferenceIdeal.τ).loc Cert.CumReferenceIdeal.main_arg2)
          ∧ r.2.mem ((c.tc : Thread Cert.CumReferenceIdeal.nD Cert.CumReferenceIdeal.τ).loc Cert.CumReferenceIdeal.main_arg3) = m' ((c.tc : Thread Cert.CumReferenceIdeal.nD Cert.CumReferenceIdeal.τ).loc Cert.CumReferenceIdeal.main_arg3))

def preserves_MemKernel_MemKernelIdeal : Prop :=
  True

def algebraic_MemKernelIdeal_MemReferenceIdeal_pre_mem_finite [hMemKernelIdeal : Cert.MemKernelIdeal.Facts] [hMemReferenceIdeal : Cert.MemReferenceIdeal.Facts] [hPre_mem_finite : Cert.Pre_mem_finite.Facts] : Prop :=
  ∀ (m : (ℓ : Loc Cert.MemKernelIdeal.nD Cert.MemKernelIdeal.τ Cert.MemKernelIdeal.sig) → Buf (Elt Ideal) ℓ) (g : Dev Cert.MemKernelIdeal.nD → PrngReg)
    (m' : (ℓ : Loc Cert.MemReferenceIdeal.nD Cert.MemReferenceIdeal.τ Cert.MemReferenceIdeal.sig) → Buf (Elt Ideal) ℓ) (g' : Dev Cert.MemReferenceIdeal.nD → PrngReg), Pre_MemKernelIdeal_mem_finite m →
    (∀ c : Dev Cert.MemKernelIdeal.nD,
      m' ((c.tc : Thread Cert.MemReferenceIdeal.nD Cert.MemReferenceIdeal.τ).loc Cert.MemReferenceIdeal.main_arg0) = m ((c.tc : Thread Cert.MemKernelIdeal.nD Cert.MemKernelIdeal.τ).loc Cert.MemKernelIdeal.main_arg0)
      ∧ m' ((c.tc : Thread Cert.MemReferenceIdeal.nD Cert.MemReferenceIdeal.τ).loc Cert.MemReferenceIdeal.main_arg1) = m ((c.tc : Thread Cert.MemKernelIdeal.nD Cert.MemKernelIdeal.τ).loc Cert.MemKernelIdeal.main_arg1)
      ∧ m' ((c.tc : Thread Cert.MemReferenceIdeal.nD Cert.MemReferenceIdeal.τ).loc Cert.MemReferenceIdeal.main_arg2) = m ((c.tc : Thread Cert.MemKernelIdeal.nD Cert.MemKernelIdeal.τ).loc Cert.MemKernelIdeal.main_arg2)
      ∧ m' ((c.tc : Thread Cert.MemReferenceIdeal.nD Cert.MemReferenceIdeal.τ).loc Cert.MemReferenceIdeal.main_arg3) = m ((c.tc : Thread Cert.MemKernelIdeal.nD Cert.MemKernelIdeal.τ).loc Cert.MemKernelIdeal.main_arg3)) →
    ∃ (v0 : (c : Dev Cert.MemKernelIdeal.nD) → Buf (Elt Ideal) ((c.tc : Thread Cert.MemKernelIdeal.nD Cert.MemKernelIdeal.τ).loc Cert.MemKernelIdeal.main_v4_0)) (v1 : (c : Dev Cert.MemKernelIdeal.nD) → Buf (Elt Ideal) ((c.tc : Thread Cert.MemKernelIdeal.nD Cert.MemKernelIdeal.τ).loc Cert.MemKernelIdeal.main_v4_1)),
      θ_run (Cert.MemKernelIdeal.defs (F := Ideal)) (onTc (τ := Cert.MemKernelIdeal.τ) (Cert.MemKernelIdeal.main (F := Ideal))) ⟨m, fun _ => 0, g⟩ (fun r => ∀ c : Dev Cert.MemKernelIdeal.nD,
          r.2.mem ((c.tc : Thread Cert.MemKernelIdeal.nD Cert.MemKernelIdeal.τ).loc Cert.MemKernelIdeal.main_v4_0) = v0 c
          ∧ r.2.mem ((c.tc : Thread Cert.MemKernelIdeal.nD Cert.MemKernelIdeal.τ).loc Cert.MemKernelIdeal.main_v4_1) = v1 c
          ∧ r.2.mem ((c.tc : Thread Cert.MemKernelIdeal.nD Cert.MemKernelIdeal.τ).loc Cert.MemKernelIdeal.main_arg0) = m ((c.tc : Thread Cert.MemKernelIdeal.nD Cert.MemKernelIdeal.τ).loc Cert.MemKernelIdeal.main_arg0)
          ∧ r.2.mem ((c.tc : Thread Cert.MemKernelIdeal.nD Cert.MemKernelIdeal.τ).loc Cert.MemKernelIdeal.main_arg1) = m ((c.tc : Thread Cert.MemKernelIdeal.nD Cert.MemKernelIdeal.τ).loc Cert.MemKernelIdeal.main_arg1)
          ∧ r.2.mem ((c.tc : Thread Cert.MemKernelIdeal.nD Cert.MemKernelIdeal.τ).loc Cert.MemKernelIdeal.main_arg2) = m ((c.tc : Thread Cert.MemKernelIdeal.nD Cert.MemKernelIdeal.τ).loc Cert.MemKernelIdeal.main_arg2)
          ∧ r.2.mem ((c.tc : Thread Cert.MemKernelIdeal.nD Cert.MemKernelIdeal.τ).loc Cert.MemKernelIdeal.main_arg3) = m ((c.tc : Thread Cert.MemKernelIdeal.nD Cert.MemKernelIdeal.τ).loc Cert.MemKernelIdeal.main_arg3))
      ∧ θ_run (Cert.MemReferenceIdeal.defs (F := Ideal)) (onTc (τ := Cert.MemReferenceIdeal.τ) (Cert.MemReferenceIdeal.main (F := Ideal))) ⟨m', fun _ => 0, g'⟩ (fun r => ∀ c : Dev Cert.MemReferenceIdeal.nD,
          r.2.mem ((c.tc : Thread Cert.MemReferenceIdeal.nD Cert.MemReferenceIdeal.τ).loc Cert.MemReferenceIdeal.main_v63) = v0 c
          ∧ r.2.mem ((c.tc : Thread Cert.MemReferenceIdeal.nD Cert.MemReferenceIdeal.τ).loc Cert.MemReferenceIdeal.main_v64) = v1 c
          ∧ r.2.mem ((c.tc : Thread Cert.MemReferenceIdeal.nD Cert.MemReferenceIdeal.τ).loc Cert.MemReferenceIdeal.main_arg0) = m' ((c.tc : Thread Cert.MemReferenceIdeal.nD Cert.MemReferenceIdeal.τ).loc Cert.MemReferenceIdeal.main_arg0)
          ∧ r.2.mem ((c.tc : Thread Cert.MemReferenceIdeal.nD Cert.MemReferenceIdeal.τ).loc Cert.MemReferenceIdeal.main_arg1) = m' ((c.tc : Thread Cert.MemReferenceIdeal.nD Cert.MemReferenceIdeal.τ).loc Cert.MemReferenceIdeal.main_arg1)
          ∧ r.2.mem ((c.tc : Thread Cert.MemReferenceIdeal.nD Cert.MemReferenceIdeal.τ).loc Cert.MemReferenceIdeal.main_arg2) = m' ((c.tc : Thread Cert.MemReferenceIdeal.nD Cert.MemReferenceIdeal.τ).loc Cert.MemReferenceIdeal.main_arg2)
          ∧ r.2.mem ((c.tc : Thread Cert.MemReferenceIdeal.nD Cert.MemReferenceIdeal.τ).loc Cert.MemReferenceIdeal.main_arg3) = m' ((c.tc : Thread Cert.MemReferenceIdeal.nD Cert.MemReferenceIdeal.τ).loc Cert.MemReferenceIdeal.main_arg3))

def preserves_DownKernel_DownKernelIdeal : Prop :=
  True

def algebraic_DownKernelIdeal_DownReferenceIdeal_pre_down_finite [hDownKernelIdeal : Cert.DownKernelIdeal.Facts] [hDownReferenceIdeal : Cert.DownReferenceIdeal.Facts] [hPre_down_finite : Cert.Pre_down_finite.Facts] : Prop :=
  ∀ (m : (ℓ : Loc Cert.DownKernelIdeal.nD Cert.DownKernelIdeal.τ Cert.DownKernelIdeal.sig) → Buf (Elt Ideal) ℓ) (g : Dev Cert.DownKernelIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownKernelIdeal_down_finite m →
    (∀ c : Dev Cert.DownKernelIdeal.nD,
      m' ((c.tc : Thread Cert.DownReferenceIdeal.nD Cert.DownReferenceIdeal.τ).loc Cert.DownReferenceIdeal.main_arg0) = m ((c.tc : Thread Cert.DownKernelIdeal.nD Cert.DownKernelIdeal.τ).loc Cert.DownKernelIdeal.main_arg0)
      ∧ m' ((c.tc : Thread Cert.DownReferenceIdeal.nD Cert.DownReferenceIdeal.τ).loc Cert.DownReferenceIdeal.main_arg1) = m ((c.tc : Thread Cert.DownKernelIdeal.nD Cert.DownKernelIdeal.τ).loc Cert.DownKernelIdeal.main_arg1)
      ∧ m' ((c.tc : Thread Cert.DownReferenceIdeal.nD Cert.DownReferenceIdeal.τ).loc Cert.DownReferenceIdeal.main_arg2) = m ((c.tc : Thread Cert.DownKernelIdeal.nD Cert.DownKernelIdeal.τ).loc Cert.DownKernelIdeal.main_arg2)
      ∧ m' ((c.tc : Thread Cert.DownReferenceIdeal.nD Cert.DownReferenceIdeal.τ).loc Cert.DownReferenceIdeal.main_arg3) = m ((c.tc : Thread Cert.DownKernelIdeal.nD Cert.DownKernelIdeal.τ).loc Cert.DownKernelIdeal.main_arg3)) →
    ∃ (v0 : (c : Dev Cert.DownKernelIdeal.nD) → Buf (Elt Ideal) ((c.tc : Thread Cert.DownKernelIdeal.nD Cert.DownKernelIdeal.τ).loc Cert.DownKernelIdeal.main_v6_0)) (v1 : (c : Dev Cert.DownKernelIdeal.nD) → Buf (Elt Ideal) ((c.tc : Thread Cert.DownKernelIdeal.nD Cert.DownKernelIdeal.τ).loc Cert.DownKernelIdeal.main_v6_1)) (v2 : (c : Dev Cert.DownKernelIdeal.nD) → Buf (Elt Ideal) ((c.tc : Thread Cert.DownKernelIdeal.nD Cert.DownKernelIdeal.τ).loc Cert.DownKernelIdeal.main_v6_2)),
      θ_run (Cert.DownKernelIdeal.defs (F := Ideal)) (onTc (τ := Cert.DownKernelIdeal.τ) (Cert.DownKernelIdeal.main (F := Ideal))) ⟨m, fun _ => 0, g⟩ (fun r => ∀ c : Dev Cert.DownKernelIdeal.nD,
          r.2.mem ((c.tc : Thread Cert.DownKernelIdeal.nD Cert.DownKernelIdeal.τ).loc Cert.DownKernelIdeal.main_v6_0) = v0 c
          ∧ r.2.mem ((c.tc : Thread Cert.DownKernelIdeal.nD Cert.DownKernelIdeal.τ).loc Cert.DownKernelIdeal.main_v6_1) = v1 c
          ∧ r.2.mem ((c.tc : Thread Cert.DownKernelIdeal.nD Cert.DownKernelIdeal.τ).loc Cert.DownKernelIdeal.main_v6_2) = v2 c
          ∧ r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
          ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
          ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2)
          ∧ r.2.mem ((c.tc : Thread Cert.DownKernelIdeal.nD Cert.DownKernelIdeal.τ).loc Cert.DownKernelIdeal.main_arg3) = m ((c.tc : Thread Cert.DownKernelIdeal.nD Cert.DownKernelIdeal.τ).loc Cert.DownKernelIdeal.main_arg3))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v42) = v0 c
          ∧ r.2.mem ((c.tc : Thread Cert.DownReferenceIdeal.nD Cert.DownReferenceIdeal.τ).loc Cert.DownReferenceIdeal.main_v47) = v1 c
          ∧ r.2.mem ((c.tc : Thread Cert.DownReferenceIdeal.nD Cert.DownReferenceIdeal.τ).loc Cert.DownReferenceIdeal.main_v25) = v2 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3))

def preserves_OutKernel_OutKernelIdeal : Prop :=
  True

def algebraic_OutKernelIdeal_OutReferenceIdeal_pre_out_finite [hOutKernelIdeal : Cert.OutKernelIdeal.Facts] [hOutReferenceIdeal : Cert.OutReferenceIdeal.Facts] [hPre_out_finite : Cert.Pre_out_finite.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal_out_finite m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)) →
    ∃ (v0 : (c : Dev Cert.OutKernelIdeal.nD) → Buf (Elt Ideal) ((c.tc : Thread Cert.OutKernelIdeal.nD Cert.OutKernelIdeal.τ).loc Cert.OutKernelIdeal.main_v2_0)) (v1 : (c : Dev Cert.OutKernelIdeal.nD) → Buf (Elt Ideal) ((c.tc : Thread Cert.OutKernelIdeal.nD Cert.OutKernelIdeal.τ).loc Cert.OutKernelIdeal.main_v2_1)) (v2 : (c : Dev Cert.OutKernelIdeal.nD) → Buf (Elt Ideal) ((c.tc : Thread Cert.OutKernelIdeal.nD Cert.OutKernelIdeal.τ).loc Cert.OutKernelIdeal.main_v2_2)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v2_0) = v0 c
          ∧ r.2.mem ((c.tc : Thread Cert.OutKernelIdeal.nD Cert.OutKernelIdeal.τ).loc Cert.OutKernelIdeal.main_v2_1) = v1 c
          ∧ r.2.mem ((c.tc : Thread Cert.OutKernelIdeal.nD Cert.OutKernelIdeal.τ).loc Cert.OutKernelIdeal.main_v2_2) = v2 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v35) = v0 c
          ∧ r.2.mem ((c.tc : Thread Cert.OutReferenceIdeal.nD Cert.OutReferenceIdeal.τ).loc Cert.OutReferenceIdeal.main_v36) = v1 c
          ∧ r.2.mem ((c.tc : Thread Cert.OutReferenceIdeal.nD Cert.OutReferenceIdeal.τ).loc Cert.OutReferenceIdeal.main_v18) = v2 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3))

def preserves_UpKernel_UpKernelIdeal : Prop :=
  True

def algebraic_UpKernelIdeal_UpReferenceIdeal_pre_up_finite [hUpKernelIdeal : Cert.UpKernelIdeal.Facts] [hUpReferenceIdeal : Cert.UpReferenceIdeal.Facts] [hPre_up_finite : Cert.Pre_up_finite.Facts] : Prop :=
  ∀ (m : (ℓ : Loc Cert.UpKernelIdeal.nD Cert.UpKernelIdeal.τ Cert.UpKernelIdeal.sig) → Buf (Elt Ideal) ℓ) (g : Dev Cert.UpKernelIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpKernelIdeal_up_finite m →
    (∀ c : Dev Cert.UpKernelIdeal.nD,
      m' ((c.tc : Thread Cert.UpReferenceIdeal.nD Cert.UpReferenceIdeal.τ).loc Cert.UpReferenceIdeal.main_arg0) = m ((c.tc : Thread Cert.UpKernelIdeal.nD Cert.UpKernelIdeal.τ).loc Cert.UpKernelIdeal.main_arg0)
      ∧ m' ((c.tc : Thread Cert.UpReferenceIdeal.nD Cert.UpReferenceIdeal.τ).loc Cert.UpReferenceIdeal.main_arg1) = m ((c.tc : Thread Cert.UpKernelIdeal.nD Cert.UpKernelIdeal.τ).loc Cert.UpKernelIdeal.main_arg1)
      ∧ m' ((c.tc : Thread Cert.UpReferenceIdeal.nD Cert.UpReferenceIdeal.τ).loc Cert.UpReferenceIdeal.main_arg2) = m ((c.tc : Thread Cert.UpKernelIdeal.nD Cert.UpKernelIdeal.τ).loc Cert.UpKernelIdeal.main_arg2)
      ∧ m' ((c.tc : Thread Cert.UpReferenceIdeal.nD Cert.UpReferenceIdeal.τ).loc Cert.UpReferenceIdeal.main_arg3) = m ((c.tc : Thread Cert.UpKernelIdeal.nD Cert.UpKernelIdeal.τ).loc Cert.UpKernelIdeal.main_arg3)
      ∧ m' ((c.tc : Thread Cert.UpReferenceIdeal.nD Cert.UpReferenceIdeal.τ).loc Cert.UpReferenceIdeal.main_arg4) = m ((c.tc : Thread Cert.UpKernelIdeal.nD Cert.UpKernelIdeal.τ).loc Cert.UpKernelIdeal.main_arg4)) →
    ∃ (v0 : (c : Dev Cert.UpKernelIdeal.nD) → Buf (Elt Ideal) ((c.tc : Thread Cert.UpKernelIdeal.nD Cert.UpKernelIdeal.τ).loc Cert.UpKernelIdeal.main_v2_0)) (v1 : (c : Dev Cert.UpKernelIdeal.nD) → Buf (Elt Ideal) ((c.tc : Thread Cert.UpKernelIdeal.nD Cert.UpKernelIdeal.τ).loc Cert.UpKernelIdeal.main_v2_1)),
      θ_run (Cert.UpKernelIdeal.defs (F := Ideal)) (onTc (τ := Cert.UpKernelIdeal.τ) (Cert.UpKernelIdeal.main (F := Ideal))) ⟨m, fun _ => 0, g⟩ (fun r => ∀ c : Dev Cert.UpKernelIdeal.nD,
          r.2.mem ((c.tc : Thread Cert.UpKernelIdeal.nD Cert.UpKernelIdeal.τ).loc Cert.UpKernelIdeal.main_v2_0) = v0 c
          ∧ r.2.mem ((c.tc : Thread Cert.UpKernelIdeal.nD Cert.UpKernelIdeal.τ).loc Cert.UpKernelIdeal.main_v2_1) = v1 c
          ∧ r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
          ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
          ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2)
          ∧ r.2.mem ((c.tc : Thread Cert.UpKernelIdeal.nD Cert.UpKernelIdeal.τ).loc Cert.UpKernelIdeal.main_arg3) = m ((c.tc : Thread Cert.UpKernelIdeal.nD Cert.UpKernelIdeal.τ).loc Cert.UpKernelIdeal.main_arg3)
          ∧ r.2.mem ((c.tc : Thread Cert.UpKernelIdeal.nD Cert.UpKernelIdeal.τ).loc Cert.UpKernelIdeal.main_arg4) = m ((c.tc : Thread Cert.UpKernelIdeal.nD Cert.UpKernelIdeal.τ).loc Cert.UpKernelIdeal.main_arg4))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v36) = v0 c
          ∧ r.2.mem ((c.tc : Thread Cert.UpReferenceIdeal.nD Cert.UpReferenceIdeal.τ).loc Cert.UpReferenceIdeal.main_v19) = v1 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2)
          ∧ r.2.mem ((c.tc : Thread Cert.UpReferenceIdeal.nD Cert.UpReferenceIdeal.τ).loc Cert.UpReferenceIdeal.main_arg3) = m' ((c.tc : Thread Cert.UpReferenceIdeal.nD Cert.UpReferenceIdeal.τ).loc Cert.UpReferenceIdeal.main_arg3)
          ∧ r.2.mem ((c.tc : Thread Cert.UpReferenceIdeal.nD Cert.UpReferenceIdeal.τ).loc Cert.UpReferenceIdeal.main_arg4) = m' ((c.tc : Thread Cert.UpReferenceIdeal.nD Cert.UpReferenceIdeal.τ).loc Cert.UpReferenceIdeal.main_arg4))

def preserves_MemKvKernel_MemKvKernelIdeal : Prop :=
  True

def algebraic_MemKvKernelIdeal_MemKvReferenceIdeal_pre_memkv_finite [hMemKvKernelIdeal : Cert.MemKvKernelIdeal.Facts] [hMemKvReferenceIdeal : Cert.MemKvReferenceIdeal.Facts] [hPre_memkv_finite : Cert.Pre_memkv_finite.Facts] : Prop :=
  ∀ (m : (ℓ : Loc Cert.MemKvKernelIdeal.nD Cert.MemKvKernelIdeal.τ Cert.MemKvKernelIdeal.sig) → Buf (Elt Ideal) ℓ) (g : Dev Cert.MemKvKernelIdeal.nD → PrngReg)
    (m' : (ℓ : Loc Cert.MemKvReferenceIdeal.nD Cert.MemKvReferenceIdeal.τ Cert.MemKvReferenceIdeal.sig) → Buf (Elt Ideal) ℓ) (g' : Dev Cert.MemKvReferenceIdeal.nD → PrngReg), Pre_MemKvKernelIdeal_memkv_finite m →
    (∀ c : Dev Cert.MemKvKernelIdeal.nD,
      m' ((c.tc : Thread Cert.MemKvReferenceIdeal.nD Cert.MemKvReferenceIdeal.τ).loc Cert.MemKvReferenceIdeal.main_arg0) = m ((c.tc : Thread Cert.MemKvKernelIdeal.nD Cert.MemKvKernelIdeal.τ).loc Cert.MemKvKernelIdeal.main_arg0)
      ∧ m' ((c.tc : Thread Cert.MemKvReferenceIdeal.nD Cert.MemKvReferenceIdeal.τ).loc Cert.MemKvReferenceIdeal.main_arg1) = m ((c.tc : Thread Cert.MemKvKernelIdeal.nD Cert.MemKvKernelIdeal.τ).loc Cert.MemKvKernelIdeal.main_arg1)
      ∧ m' ((c.tc : Thread Cert.MemKvReferenceIdeal.nD Cert.MemKvReferenceIdeal.τ).loc Cert.MemKvReferenceIdeal.main_arg2) = m ((c.tc : Thread Cert.MemKvKernelIdeal.nD Cert.MemKvKernelIdeal.τ).loc Cert.MemKvKernelIdeal.main_arg2)
      ∧ m' ((c.tc : Thread Cert.MemKvReferenceIdeal.nD Cert.MemKvReferenceIdeal.τ).loc Cert.MemKvReferenceIdeal.main_arg3) = m ((c.tc : Thread Cert.MemKvKernelIdeal.nD Cert.MemKvKernelIdeal.τ).loc Cert.MemKvKernelIdeal.main_arg3)
      ∧ m' ((c.tc : Thread Cert.MemKvReferenceIdeal.nD Cert.MemKvReferenceIdeal.τ).loc Cert.MemKvReferenceIdeal.main_arg4) = m ((c.tc : Thread Cert.MemKvKernelIdeal.nD Cert.MemKvKernelIdeal.τ).loc Cert.MemKvKernelIdeal.main_arg4)
      ∧ m' ((c.tc : Thread Cert.MemKvReferenceIdeal.nD Cert.MemKvReferenceIdeal.τ).loc Cert.MemKvReferenceIdeal.main_arg5) = m ((c.tc : Thread Cert.MemKvKernelIdeal.nD Cert.MemKvKernelIdeal.τ).loc Cert.MemKvKernelIdeal.main_arg5)) →
    ∃ (v0 : (c : Dev Cert.MemKvKernelIdeal.nD) → Buf (Elt Ideal) ((c.tc : Thread Cert.MemKvKernelIdeal.nD Cert.MemKvKernelIdeal.τ).loc Cert.MemKvKernelIdeal.main_v4_0)) (v1 : (c : Dev Cert.MemKvKernelIdeal.nD) → Buf (Elt Ideal) ((c.tc : Thread Cert.MemKvKernelIdeal.nD Cert.MemKvKernelIdeal.τ).loc Cert.MemKvKernelIdeal.main_v4_1)),
      θ_run (Cert.MemKvKernelIdeal.defs (F := Ideal)) (onTc (τ := Cert.MemKvKernelIdeal.τ) (Cert.MemKvKernelIdeal.main (F := Ideal))) ⟨m, fun _ => 0, g⟩ (fun r => ∀ c : Dev Cert.MemKvKernelIdeal.nD,
          r.2.mem ((c.tc : Thread Cert.MemKvKernelIdeal.nD Cert.MemKvKernelIdeal.τ).loc Cert.MemKvKernelIdeal.main_v4_0) = v0 c
          ∧ r.2.mem ((c.tc : Thread Cert.MemKvKernelIdeal.nD Cert.MemKvKernelIdeal.τ).loc Cert.MemKvKernelIdeal.main_v4_1) = v1 c
          ∧ r.2.mem ((c.tc : Thread Cert.MemKvKernelIdeal.nD Cert.MemKvKernelIdeal.τ).loc Cert.MemKvKernelIdeal.main_arg0) = m ((c.tc : Thread Cert.MemKvKernelIdeal.nD Cert.MemKvKernelIdeal.τ).loc Cert.MemKvKernelIdeal.main_arg0)
          ∧ r.2.mem ((c.tc : Thread Cert.MemKvKernelIdeal.nD Cert.MemKvKernelIdeal.τ).loc Cert.MemKvKernelIdeal.main_arg1) = m ((c.tc : Thread Cert.MemKvKernelIdeal.nD Cert.MemKvKernelIdeal.τ).loc Cert.MemKvKernelIdeal.main_arg1)
          ∧ r.2.mem ((c.tc : Thread Cert.MemKvKernelIdeal.nD Cert.MemKvKernelIdeal.τ).loc Cert.MemKvKernelIdeal.main_arg2) = m ((c.tc : Thread Cert.MemKvKernelIdeal.nD Cert.MemKvKernelIdeal.τ).loc Cert.MemKvKernelIdeal.main_arg2)
          ∧ r.2.mem ((c.tc : Thread Cert.MemKvKernelIdeal.nD Cert.MemKvKernelIdeal.τ).loc Cert.MemKvKernelIdeal.main_arg3) = m ((c.tc : Thread Cert.MemKvKernelIdeal.nD Cert.MemKvKernelIdeal.τ).loc Cert.MemKvKernelIdeal.main_arg3)
          ∧ r.2.mem ((c.tc : Thread Cert.MemKvKernelIdeal.nD Cert.MemKvKernelIdeal.τ).loc Cert.MemKvKernelIdeal.main_arg4) = m ((c.tc : Thread Cert.MemKvKernelIdeal.nD Cert.MemKvKernelIdeal.τ).loc Cert.MemKvKernelIdeal.main_arg4)
          ∧ r.2.mem ((c.tc : Thread Cert.MemKvKernelIdeal.nD Cert.MemKvKernelIdeal.τ).loc Cert.MemKvKernelIdeal.main_arg5) = m ((c.tc : Thread Cert.MemKvKernelIdeal.nD Cert.MemKvKernelIdeal.τ).loc Cert.MemKvKernelIdeal.main_arg5))
      ∧ θ_run (Cert.MemKvReferenceIdeal.defs (F := Ideal)) (onTc (τ := Cert.MemKvReferenceIdeal.τ) (Cert.MemKvReferenceIdeal.main (F := Ideal))) ⟨m', fun _ => 0, g'⟩ (fun r => ∀ c : Dev Cert.MemKvReferenceIdeal.nD,
          r.2.mem ((c.tc : Thread Cert.MemKvReferenceIdeal.nD Cert.MemKvReferenceIdeal.τ).loc Cert.MemKvReferenceIdeal.main_v38) = v0 c
          ∧ r.2.mem ((c.tc : Thread Cert.MemKvReferenceIdeal.nD Cert.MemKvReferenceIdeal.τ).loc Cert.MemKvReferenceIdeal.main_v22) = v1 c
          ∧ r.2.mem ((c.tc : Thread Cert.MemKvReferenceIdeal.nD Cert.MemKvReferenceIdeal.τ).loc Cert.MemKvReferenceIdeal.main_arg0) = m' ((c.tc : Thread Cert.MemKvReferenceIdeal.nD Cert.MemKvReferenceIdeal.τ).loc Cert.MemKvReferenceIdeal.main_arg0)
          ∧ r.2.mem ((c.tc : Thread Cert.MemKvReferenceIdeal.nD Cert.MemKvReferenceIdeal.τ).loc Cert.MemKvReferenceIdeal.main_arg1) = m' ((c.tc : Thread Cert.MemKvReferenceIdeal.nD Cert.MemKvReferenceIdeal.τ).loc Cert.MemKvReferenceIdeal.main_arg1)
          ∧ r.2.mem ((c.tc : Thread Cert.MemKvReferenceIdeal.nD Cert.MemKvReferenceIdeal.τ).loc Cert.MemKvReferenceIdeal.main_arg2) = m' ((c.tc : Thread Cert.MemKvReferenceIdeal.nD Cert.MemKvReferenceIdeal.τ).loc Cert.MemKvReferenceIdeal.main_arg2)
          ∧ r.2.mem ((c.tc : Thread Cert.MemKvReferenceIdeal.nD Cert.MemKvReferenceIdeal.τ).loc Cert.MemKvReferenceIdeal.main_arg3) = m' ((c.tc : Thread Cert.MemKvReferenceIdeal.nD Cert.MemKvReferenceIdeal.τ).loc Cert.MemKvReferenceIdeal.main_arg3)
          ∧ r.2.mem ((c.tc : Thread Cert.MemKvReferenceIdeal.nD Cert.MemKvReferenceIdeal.τ).loc Cert.MemKvReferenceIdeal.main_arg4) = m' ((c.tc : Thread Cert.MemKvReferenceIdeal.nD Cert.MemKvReferenceIdeal.τ).loc Cert.MemKvReferenceIdeal.main_arg4)
          ∧ r.2.mem ((c.tc : Thread Cert.MemKvReferenceIdeal.nD Cert.MemKvReferenceIdeal.τ).loc Cert.MemKvReferenceIdeal.main_arg5) = m' ((c.tc : Thread Cert.MemKvReferenceIdeal.nD Cert.MemKvReferenceIdeal.τ).loc Cert.MemKvReferenceIdeal.main_arg5))

def preserves_MixInKernel_MixInKernelIdeal : Prop :=
  True

def algebraic_MixInKernelIdeal_MixInReferenceIdeal_pre_mixin_finite [hMixInKernelIdeal : Cert.MixInKernelIdeal.Facts] [hMixInReferenceIdeal : Cert.MixInReferenceIdeal.Facts] [hPre_mixin_finite : Cert.Pre_mixin_finite.Facts] : Prop :=
  ∀ (m : (ℓ : Loc Cert.MixInKernelIdeal.nD Cert.MixInKernelIdeal.τ Cert.MixInKernelIdeal.sig) → Buf (Elt Ideal) ℓ) (g : Dev Cert.MixInKernelIdeal.nD → PrngReg)
    (m' : (ℓ : Loc Cert.MixInReferenceIdeal.nD Cert.MixInReferenceIdeal.τ Cert.MixInReferenceIdeal.sig) → Buf (Elt Ideal) ℓ) (g' : Dev Cert.MixInReferenceIdeal.nD → PrngReg), Pre_MixInKernelIdeal_mixin_finite m →
    (∀ c : Dev Cert.MixInKernelIdeal.nD,
      m' ((c.tc : Thread Cert.MixInReferenceIdeal.nD Cert.MixInReferenceIdeal.τ).loc Cert.MixInReferenceIdeal.main_arg0) = m ((c.tc : Thread Cert.MixInKernelIdeal.nD Cert.MixInKernelIdeal.τ).loc Cert.MixInKernelIdeal.main_arg0)
      ∧ m' ((c.tc : Thread Cert.MixInReferenceIdeal.nD Cert.MixInReferenceIdeal.τ).loc Cert.MixInReferenceIdeal.main_arg1) = m ((c.tc : Thread Cert.MixInKernelIdeal.nD Cert.MixInKernelIdeal.τ).loc Cert.MixInKernelIdeal.main_arg1)
      ∧ m' ((c.tc : Thread Cert.MixInReferenceIdeal.nD Cert.MixInReferenceIdeal.τ).loc Cert.MixInReferenceIdeal.main_arg2) = m ((c.tc : Thread Cert.MixInKernelIdeal.nD Cert.MixInKernelIdeal.τ).loc Cert.MixInKernelIdeal.main_arg2)
      ∧ m' ((c.tc : Thread Cert.MixInReferenceIdeal.nD Cert.MixInReferenceIdeal.τ).loc Cert.MixInReferenceIdeal.main_arg3) = m ((c.tc : Thread Cert.MixInKernelIdeal.nD Cert.MixInKernelIdeal.τ).loc Cert.MixInKernelIdeal.main_arg3)
      ∧ m' ((c.tc : Thread Cert.MixInReferenceIdeal.nD Cert.MixInReferenceIdeal.τ).loc Cert.MixInReferenceIdeal.main_arg4) = m ((c.tc : Thread Cert.MixInKernelIdeal.nD Cert.MixInKernelIdeal.τ).loc Cert.MixInKernelIdeal.main_arg4)
      ∧ m' ((c.tc : Thread Cert.MixInReferenceIdeal.nD Cert.MixInReferenceIdeal.τ).loc Cert.MixInReferenceIdeal.main_arg5) = m ((c.tc : Thread Cert.MixInKernelIdeal.nD Cert.MixInKernelIdeal.τ).loc Cert.MixInKernelIdeal.main_arg5)
      ∧ m' ((c.tc : Thread Cert.MixInReferenceIdeal.nD Cert.MixInReferenceIdeal.τ).loc Cert.MixInReferenceIdeal.main_arg6) = m ((c.tc : Thread Cert.MixInKernelIdeal.nD Cert.MixInKernelIdeal.τ).loc Cert.MixInKernelIdeal.main_arg6)
      ∧ m' ((c.tc : Thread Cert.MixInReferenceIdeal.nD Cert.MixInReferenceIdeal.τ).loc Cert.MixInReferenceIdeal.main_arg7) = m ((c.tc : Thread Cert.MixInKernelIdeal.nD Cert.MixInKernelIdeal.τ).loc Cert.MixInKernelIdeal.main_arg7)
      ∧ m' ((c.tc : Thread Cert.MixInReferenceIdeal.nD Cert.MixInReferenceIdeal.τ).loc Cert.MixInReferenceIdeal.main_arg8) = m ((c.tc : Thread Cert.MixInKernelIdeal.nD Cert.MixInKernelIdeal.τ).loc Cert.MixInKernelIdeal.main_arg8)) →
    ∃ (v0 : (c : Dev Cert.MixInKernelIdeal.nD) → Buf (Elt Ideal) ((c.tc : Thread Cert.MixInKernelIdeal.nD Cert.MixInKernelIdeal.τ).loc Cert.MixInKernelIdeal.main_v9_0)) (v1 : (c : Dev Cert.MixInKernelIdeal.nD) → Buf (Elt Ideal) ((c.tc : Thread Cert.MixInKernelIdeal.nD Cert.MixInKernelIdeal.τ).loc Cert.MixInKernelIdeal.main_v9_1)),
      θ_run (Cert.MixInKernelIdeal.defs (F := Ideal)) (onTc (τ := Cert.MixInKernelIdeal.τ) (Cert.MixInKernelIdeal.main (F := Ideal))) ⟨m, fun _ => 0, g⟩ (fun r => ∀ c : Dev Cert.MixInKernelIdeal.nD,
          r.2.mem ((c.tc : Thread Cert.MixInKernelIdeal.nD Cert.MixInKernelIdeal.τ).loc Cert.MixInKernelIdeal.main_v9_0) = v0 c
          ∧ r.2.mem ((c.tc : Thread Cert.MixInKernelIdeal.nD Cert.MixInKernelIdeal.τ).loc Cert.MixInKernelIdeal.main_v9_1) = v1 c
          ∧ r.2.mem ((c.tc : Thread Cert.MixInKernelIdeal.nD Cert.MixInKernelIdeal.τ).loc Cert.MixInKernelIdeal.main_arg0) = m ((c.tc : Thread Cert.MixInKernelIdeal.nD Cert.MixInKernelIdeal.τ).loc Cert.MixInKernelIdeal.main_arg0)
          ∧ r.2.mem ((c.tc : Thread Cert.MixInKernelIdeal.nD Cert.MixInKernelIdeal.τ).loc Cert.MixInKernelIdeal.main_arg1) = m ((c.tc : Thread Cert.MixInKernelIdeal.nD Cert.MixInKernelIdeal.τ).loc Cert.MixInKernelIdeal.main_arg1)
          ∧ r.2.mem ((c.tc : Thread Cert.MixInKernelIdeal.nD Cert.MixInKernelIdeal.τ).loc Cert.MixInKernelIdeal.main_arg2) = m ((c.tc : Thread Cert.MixInKernelIdeal.nD Cert.MixInKernelIdeal.τ).loc Cert.MixInKernelIdeal.main_arg2)
          ∧ r.2.mem ((c.tc : Thread Cert.MixInKernelIdeal.nD Cert.MixInKernelIdeal.τ).loc Cert.MixInKernelIdeal.main_arg3) = m ((c.tc : Thread Cert.MixInKernelIdeal.nD Cert.MixInKernelIdeal.τ).loc Cert.MixInKernelIdeal.main_arg3)
          ∧ r.2.mem ((c.tc : Thread Cert.MixInKernelIdeal.nD Cert.MixInKernelIdeal.τ).loc Cert.MixInKernelIdeal.main_arg4) = m ((c.tc : Thread Cert.MixInKernelIdeal.nD Cert.MixInKernelIdeal.τ).loc Cert.MixInKernelIdeal.main_arg4)
          ∧ r.2.mem ((c.tc : Thread Cert.MixInKernelIdeal.nD Cert.MixInKernelIdeal.τ).loc Cert.MixInKernelIdeal.main_arg5) = m ((c.tc : Thread Cert.MixInKernelIdeal.nD Cert.MixInKernelIdeal.τ).loc Cert.MixInKernelIdeal.main_arg5)
          ∧ r.2.mem ((c.tc : Thread Cert.MixInKernelIdeal.nD Cert.MixInKernelIdeal.τ).loc Cert.MixInKernelIdeal.main_arg6) = m ((c.tc : Thread Cert.MixInKernelIdeal.nD Cert.MixInKernelIdeal.τ).loc Cert.MixInKernelIdeal.main_arg6)
          ∧ r.2.mem ((c.tc : Thread Cert.MixInKernelIdeal.nD Cert.MixInKernelIdeal.τ).loc Cert.MixInKernelIdeal.main_arg7) = m ((c.tc : Thread Cert.MixInKernelIdeal.nD Cert.MixInKernelIdeal.τ).loc Cert.MixInKernelIdeal.main_arg7)
          ∧ r.2.mem ((c.tc : Thread Cert.MixInKernelIdeal.nD Cert.MixInKernelIdeal.τ).loc Cert.MixInKernelIdeal.main_arg8) = m ((c.tc : Thread Cert.MixInKernelIdeal.nD Cert.MixInKernelIdeal.τ).loc Cert.MixInKernelIdeal.main_arg8))
      ∧ θ_run (Cert.MixInReferenceIdeal.defs (F := Ideal)) (onTc (τ := Cert.MixInReferenceIdeal.τ) (Cert.MixInReferenceIdeal.main (F := Ideal))) ⟨m', fun _ => 0, g'⟩ (fun r => ∀ c : Dev Cert.MixInReferenceIdeal.nD,
          r.2.mem ((c.tc : Thread Cert.MixInReferenceIdeal.nD Cert.MixInReferenceIdeal.τ).loc Cert.MixInReferenceIdeal.main_v50) = v0 c
          ∧ r.2.mem ((c.tc : Thread Cert.MixInReferenceIdeal.nD Cert.MixInReferenceIdeal.τ).loc Cert.MixInReferenceIdeal.main_v33) = v1 c
          ∧ r.2.mem ((c.tc : Thread Cert.MixInReferenceIdeal.nD Cert.MixInReferenceIdeal.τ).loc Cert.MixInReferenceIdeal.main_arg0) = m' ((c.tc : Thread Cert.MixInReferenceIdeal.nD Cert.MixInReferenceIdeal.τ).loc Cert.MixInReferenceIdeal.main_arg0)
          ∧ r.2.mem ((c.tc : Thread Cert.MixInReferenceIdeal.nD Cert.MixInReferenceIdeal.τ).loc Cert.MixInReferenceIdeal.main_arg1) = m' ((c.tc : Thread Cert.MixInReferenceIdeal.nD Cert.MixInReferenceIdeal.τ).loc Cert.MixInReferenceIdeal.main_arg1)
          ∧ r.2.mem ((c.tc : Thread Cert.MixInReferenceIdeal.nD Cert.MixInReferenceIdeal.τ).loc Cert.MixInReferenceIdeal.main_arg2) = m' ((c.tc : Thread Cert.MixInReferenceIdeal.nD Cert.MixInReferenceIdeal.τ).loc Cert.MixInReferenceIdeal.main_arg2)
          ∧ r.2.mem ((c.tc : Thread Cert.MixInReferenceIdeal.nD Cert.MixInReferenceIdeal.τ).loc Cert.MixInReferenceIdeal.main_arg3) = m' ((c.tc : Thread Cert.MixInReferenceIdeal.nD Cert.MixInReferenceIdeal.τ).loc Cert.MixInReferenceIdeal.main_arg3)
          ∧ r.2.mem ((c.tc : Thread Cert.MixInReferenceIdeal.nD Cert.MixInReferenceIdeal.τ).loc Cert.MixInReferenceIdeal.main_arg4) = m' ((c.tc : Thread Cert.MixInReferenceIdeal.nD Cert.MixInReferenceIdeal.τ).loc Cert.MixInReferenceIdeal.main_arg4)
          ∧ r.2.mem ((c.tc : Thread Cert.MixInReferenceIdeal.nD Cert.MixInReferenceIdeal.τ).loc Cert.MixInReferenceIdeal.main_arg5) = m' ((c.tc : Thread Cert.MixInReferenceIdeal.nD Cert.MixInReferenceIdeal.τ).loc Cert.MixInReferenceIdeal.main_arg5)
          ∧ r.2.mem ((c.tc : Thread Cert.MixInReferenceIdeal.nD Cert.MixInReferenceIdeal.τ).loc Cert.MixInReferenceIdeal.main_arg6) = m' ((c.tc : Thread Cert.MixInReferenceIdeal.nD Cert.MixInReferenceIdeal.τ).loc Cert.MixInReferenceIdeal.main_arg6)
          ∧ r.2.mem ((c.tc : Thread Cert.MixInReferenceIdeal.nD Cert.MixInReferenceIdeal.τ).loc Cert.MixInReferenceIdeal.main_arg7) = m' ((c.tc : Thread Cert.MixInReferenceIdeal.nD Cert.MixInReferenceIdeal.τ).loc Cert.MixInReferenceIdeal.main_arg7)
          ∧ r.2.mem ((c.tc : Thread Cert.MixInReferenceIdeal.nD Cert.MixInReferenceIdeal.τ).loc Cert.MixInReferenceIdeal.main_arg8) = m' ((c.tc : Thread Cert.MixInReferenceIdeal.nD Cert.MixInReferenceIdeal.τ).loc Cert.MixInReferenceIdeal.main_arg8))

def preserves_ConvKernel_ConvKernelIdeal : Prop :=
  True

def preserves_MemFKernel_MemFKernelIdeal : Prop :=
  True

def algebraic_MemFKernelIdeal_MemFReferenceIdeal_pre_memf_finite [hMemFKernelIdeal : Cert.MemFKernelIdeal.Facts] [hMemFReferenceIdeal : Cert.MemFReferenceIdeal.Facts] [hPre_memf_finite : Cert.Pre_memf_finite.Facts] : Prop :=
  ∀ (m : (ℓ : Loc Cert.MemFKernelIdeal.nD Cert.MemFKernelIdeal.τ Cert.MemFKernelIdeal.sig) → Buf (Elt Ideal) ℓ) (g : Dev Cert.MemFKernelIdeal.nD → PrngReg)
    (m' : (ℓ : Loc Cert.MemFReferenceIdeal.nD Cert.MemFReferenceIdeal.τ Cert.MemFReferenceIdeal.sig) → Buf (Elt Ideal) ℓ) (g' : Dev Cert.MemFReferenceIdeal.nD → PrngReg), Pre_MemFKernelIdeal_memf_finite m →
    (∀ c : Dev Cert.MemFKernelIdeal.nD,
      m' ((c.tc : Thread Cert.MemFReferenceIdeal.nD Cert.MemFReferenceIdeal.τ).loc Cert.MemFReferenceIdeal.main_arg0) = m ((c.tc : Thread Cert.MemFKernelIdeal.nD Cert.MemFKernelIdeal.τ).loc Cert.MemFKernelIdeal.main_arg0)
      ∧ m' ((c.tc : Thread Cert.MemFReferenceIdeal.nD Cert.MemFReferenceIdeal.τ).loc Cert.MemFReferenceIdeal.main_arg1) = m ((c.tc : Thread Cert.MemFKernelIdeal.nD Cert.MemFKernelIdeal.τ).loc Cert.MemFKernelIdeal.main_arg1)
      ∧ m' ((c.tc : Thread Cert.MemFReferenceIdeal.nD Cert.MemFReferenceIdeal.τ).loc Cert.MemFReferenceIdeal.main_arg2) = m ((c.tc : Thread Cert.MemFKernelIdeal.nD Cert.MemFKernelIdeal.τ).loc Cert.MemFKernelIdeal.main_arg2)) →
    ∃ (v0 : (c : Dev Cert.MemFKernelIdeal.nD) → Buf (Elt Ideal) ((c.tc : Thread Cert.MemFKernelIdeal.nD Cert.MemFKernelIdeal.τ).loc Cert.MemFKernelIdeal.main_v3)),
      θ_run (Cert.MemFKernelIdeal.defs (F := Ideal)) (onTc (τ := Cert.MemFKernelIdeal.τ) (Cert.MemFKernelIdeal.main (F := Ideal))) ⟨m, fun _ => 0, g⟩ (fun r => ∀ c : Dev Cert.MemFKernelIdeal.nD,
          r.2.mem ((c.tc : Thread Cert.MemFKernelIdeal.nD Cert.MemFKernelIdeal.τ).loc Cert.MemFKernelIdeal.main_v3) = v0 c
          ∧ r.2.mem ((c.tc : Thread Cert.MemFKernelIdeal.nD Cert.MemFKernelIdeal.τ).loc Cert.MemFKernelIdeal.main_arg0) = m ((c.tc : Thread Cert.MemFKernelIdeal.nD Cert.MemFKernelIdeal.τ).loc Cert.MemFKernelIdeal.main_arg0)
          ∧ r.2.mem ((c.tc : Thread Cert.MemFKernelIdeal.nD Cert.MemFKernelIdeal.τ).loc Cert.MemFKernelIdeal.main_arg1) = m ((c.tc : Thread Cert.MemFKernelIdeal.nD Cert.MemFKernelIdeal.τ).loc Cert.MemFKernelIdeal.main_arg1)
          ∧ r.2.mem ((c.tc : Thread Cert.MemFKernelIdeal.nD Cert.MemFKernelIdeal.τ).loc Cert.MemFKernelIdeal.main_arg2) = m ((c.tc : Thread Cert.MemFKernelIdeal.nD Cert.MemFKernelIdeal.τ).loc Cert.MemFKernelIdeal.main_arg2))
      ∧ θ_run (Cert.MemFReferenceIdeal.defs (F := Ideal)) (onTc (τ := Cert.MemFReferenceIdeal.τ) (Cert.MemFReferenceIdeal.main (F := Ideal))) ⟨m', fun _ => 0, g'⟩ (fun r => ∀ c : Dev Cert.MemFReferenceIdeal.nD,
          r.2.mem ((c.tc : Thread Cert.MemFReferenceIdeal.nD Cert.MemFReferenceIdeal.τ).loc Cert.MemFReferenceIdeal.main_v20) = v0 c
          ∧ r.2.mem ((c.tc : Thread Cert.MemFReferenceIdeal.nD Cert.MemFReferenceIdeal.τ).loc Cert.MemFReferenceIdeal.main_arg0) = m' ((c.tc : Thread Cert.MemFReferenceIdeal.nD Cert.MemFReferenceIdeal.τ).loc Cert.MemFReferenceIdeal.main_arg0)
          ∧ r.2.mem ((c.tc : Thread Cert.MemFReferenceIdeal.nD Cert.MemFReferenceIdeal.τ).loc Cert.MemFReferenceIdeal.main_arg1) = m' ((c.tc : Thread Cert.MemFReferenceIdeal.nD Cert.MemFReferenceIdeal.τ).loc Cert.MemFReferenceIdeal.main_arg1)
          ∧ r.2.mem ((c.tc : Thread Cert.MemFReferenceIdeal.nD Cert.MemFReferenceIdeal.τ).loc Cert.MemFReferenceIdeal.main_arg2) = m' ((c.tc : Thread Cert.MemFReferenceIdeal.nD Cert.MemFReferenceIdeal.τ).loc Cert.MemFReferenceIdeal.main_arg2))

def preserves_ResNKernel_ResNKernelIdeal : Prop :=
  True

def algebraic_ResNKernelIdeal_ResNReferenceIdeal [hResNKernelIdeal : Cert.ResNKernelIdeal.Facts] [hResNReferenceIdeal : Cert.ResNReferenceIdeal.Facts] : Prop :=
  ∀ (m : (ℓ : Loc Cert.ResNKernelIdeal.nD Cert.ResNKernelIdeal.τ Cert.ResNKernelIdeal.sig) → Buf (Elt Ideal) ℓ) (g : Dev Cert.ResNKernelIdeal.nD → PrngReg)
    (m' : (ℓ : Loc Cert.ResNReferenceIdeal.nD Cert.ResNReferenceIdeal.τ Cert.ResNReferenceIdeal.sig) → Buf (Elt Ideal) ℓ) (g' : Dev Cert.ResNReferenceIdeal.nD → PrngReg), Pre_ResNKernelIdeal m →
    (∀ c : Dev Cert.ResNKernelIdeal.nD,
      m' ((c.tc : Thread Cert.ResNReferenceIdeal.nD Cert.ResNReferenceIdeal.τ).loc Cert.ResNReferenceIdeal.main_arg0) = m ((c.tc : Thread Cert.ResNKernelIdeal.nD Cert.ResNKernelIdeal.τ).loc Cert.ResNKernelIdeal.main_arg0)
      ∧ m' ((c.tc : Thread Cert.ResNReferenceIdeal.nD Cert.ResNReferenceIdeal.τ).loc Cert.ResNReferenceIdeal.main_arg1) = m ((c.tc : Thread Cert.ResNKernelIdeal.nD Cert.ResNKernelIdeal.τ).loc Cert.ResNKernelIdeal.main_arg1)
      ∧ m' ((c.tc : Thread Cert.ResNReferenceIdeal.nD Cert.ResNReferenceIdeal.τ).loc Cert.ResNReferenceIdeal.main_arg2) = m ((c.tc : Thread Cert.ResNKernelIdeal.nD Cert.ResNKernelIdeal.τ).loc Cert.ResNKernelIdeal.main_arg2)
      ∧ m' ((c.tc : Thread Cert.ResNReferenceIdeal.nD Cert.ResNReferenceIdeal.τ).loc Cert.ResNReferenceIdeal.main_arg3) = m ((c.tc : Thread Cert.ResNKernelIdeal.nD Cert.ResNKernelIdeal.τ).loc Cert.ResNKernelIdeal.main_arg3)) →
    ∃ (v0 : (c : Dev Cert.ResNKernelIdeal.nD) → Buf (Elt Ideal) ((c.tc : Thread Cert.ResNKernelIdeal.nD Cert.ResNKernelIdeal.τ).loc Cert.ResNKernelIdeal.main_v2_0)) (v1 : (c : Dev Cert.ResNKernelIdeal.nD) → Buf (Elt Ideal) ((c.tc : Thread Cert.ResNKernelIdeal.nD Cert.ResNKernelIdeal.τ).loc Cert.ResNKernelIdeal.main_v2_1)),
      θ_run (Cert.ResNKernelIdeal.defs (F := Ideal)) (onTc (τ := Cert.ResNKernelIdeal.τ) (Cert.ResNKernelIdeal.main (F := Ideal))) ⟨m, fun _ => 0, g⟩ (fun r => ∀ c : Dev Cert.ResNKernelIdeal.nD,
          r.2.mem ((c.tc : Thread Cert.ResNKernelIdeal.nD Cert.ResNKernelIdeal.τ).loc Cert.ResNKernelIdeal.main_v2_0) = v0 c
          ∧ r.2.mem ((c.tc : Thread Cert.ResNKernelIdeal.nD Cert.ResNKernelIdeal.τ).loc Cert.ResNKernelIdeal.main_v2_1) = v1 c
          ∧ r.2.mem ((c.tc : Thread Cert.ResNKernelIdeal.nD Cert.ResNKernelIdeal.τ).loc Cert.ResNKernelIdeal.main_arg0) = m ((c.tc : Thread Cert.ResNKernelIdeal.nD Cert.ResNKernelIdeal.τ).loc Cert.ResNKernelIdeal.main_arg0)
          ∧ r.2.mem ((c.tc : Thread Cert.ResNKernelIdeal.nD Cert.ResNKernelIdeal.τ).loc Cert.ResNKernelIdeal.main_arg1) = m ((c.tc : Thread Cert.ResNKernelIdeal.nD Cert.ResNKernelIdeal.τ).loc Cert.ResNKernelIdeal.main_arg1)
          ∧ r.2.mem ((c.tc : Thread Cert.ResNKernelIdeal.nD Cert.ResNKernelIdeal.τ).loc Cert.ResNKernelIdeal.main_arg2) = m ((c.tc : Thread Cert.ResNKernelIdeal.nD Cert.ResNKernelIdeal.τ).loc Cert.ResNKernelIdeal.main_arg2)
          ∧ r.2.mem ((c.tc : Thread Cert.ResNKernelIdeal.nD Cert.ResNKernelIdeal.τ).loc Cert.ResNKernelIdeal.main_arg3) = m ((c.tc : Thread Cert.ResNKernelIdeal.nD Cert.ResNKernelIdeal.τ).loc Cert.ResNKernelIdeal.main_arg3))
      ∧ θ_run (Cert.ResNReferenceIdeal.defs (F := Ideal)) (onTc (τ := Cert.ResNReferenceIdeal.τ) (Cert.ResNReferenceIdeal.main (F := Ideal))) ⟨m', fun _ => 0, g'⟩ (fun r => ∀ c : Dev Cert.ResNReferenceIdeal.nD,
          r.2.mem ((c.tc : Thread Cert.ResNReferenceIdeal.nD Cert.ResNReferenceIdeal.τ).loc Cert.ResNReferenceIdeal.main_v0) = v0 c
          ∧ r.2.mem ((c.tc : Thread Cert.ResNReferenceIdeal.nD Cert.ResNReferenceIdeal.τ).loc Cert.ResNReferenceIdeal.main_v13) = v1 c
          ∧ r.2.mem ((c.tc : Thread Cert.ResNReferenceIdeal.nD Cert.ResNReferenceIdeal.τ).loc Cert.ResNReferenceIdeal.main_arg0) = m' ((c.tc : Thread Cert.ResNReferenceIdeal.nD Cert.ResNReferenceIdeal.τ).loc Cert.ResNReferenceIdeal.main_arg0)
          ∧ r.2.mem ((c.tc : Thread Cert.ResNReferenceIdeal.nD Cert.ResNReferenceIdeal.τ).loc Cert.ResNReferenceIdeal.main_arg1) = m' ((c.tc : Thread Cert.ResNReferenceIdeal.nD Cert.ResNReferenceIdeal.τ).loc Cert.ResNReferenceIdeal.main_arg1)
          ∧ r.2.mem ((c.tc : Thread Cert.ResNReferenceIdeal.nD Cert.ResNReferenceIdeal.τ).loc Cert.ResNReferenceIdeal.main_arg2) = m' ((c.tc : Thread Cert.ResNReferenceIdeal.nD Cert.ResNReferenceIdeal.τ).loc Cert.ResNReferenceIdeal.main_arg2)
          ∧ r.2.mem ((c.tc : Thread Cert.ResNReferenceIdeal.nD Cert.ResNReferenceIdeal.τ).loc Cert.ResNReferenceIdeal.main_arg3) = m' ((c.tc : Thread Cert.ResNReferenceIdeal.nD Cert.ResNReferenceIdeal.τ).loc Cert.ResNReferenceIdeal.main_arg3))

def preserves_RmsMKernel_RmsMKernelIdeal : Prop :=
  True

def algebraic_RmsMKernelIdeal_RmsMReferenceIdeal [hRmsMKernelIdeal : Cert.RmsMKernelIdeal.Facts] [hRmsMReferenceIdeal : Cert.RmsMReferenceIdeal.Facts] : Prop :=
  ∀ (m : (ℓ : Loc Cert.RmsMKernelIdeal.nD Cert.RmsMKernelIdeal.τ Cert.RmsMKernelIdeal.sig) → Buf (Elt Ideal) ℓ) (g : Dev Cert.RmsMKernelIdeal.nD → PrngReg)
    (m' : (ℓ : Loc Cert.RmsMReferenceIdeal.nD Cert.RmsMReferenceIdeal.τ Cert.RmsMReferenceIdeal.sig) → Buf (Elt Ideal) ℓ) (g' : Dev Cert.RmsMReferenceIdeal.nD → PrngReg), Pre_RmsMKernelIdeal m →
    (∀ c : Dev Cert.RmsMKernelIdeal.nD,
      m' ((c.tc : Thread Cert.RmsMReferenceIdeal.nD Cert.RmsMReferenceIdeal.τ).loc Cert.RmsMReferenceIdeal.main_arg0) = m ((c.tc : Thread Cert.RmsMKernelIdeal.nD Cert.RmsMKernelIdeal.τ).loc Cert.RmsMKernelIdeal.main_arg0)
      ∧ m' ((c.tc : Thread Cert.RmsMReferenceIdeal.nD Cert.RmsMReferenceIdeal.τ).loc Cert.RmsMReferenceIdeal.main_arg1) = m ((c.tc : Thread Cert.RmsMKernelIdeal.nD Cert.RmsMKernelIdeal.τ).loc Cert.RmsMKernelIdeal.main_arg1)
      ∧ m' ((c.tc : Thread Cert.RmsMReferenceIdeal.nD Cert.RmsMReferenceIdeal.τ).loc Cert.RmsMReferenceIdeal.main_arg2) = m ((c.tc : Thread Cert.RmsMKernelIdeal.nD Cert.RmsMKernelIdeal.τ).loc Cert.RmsMKernelIdeal.main_arg2)) →
    ∃ (v0 : (c : Dev Cert.RmsMKernelIdeal.nD) → Buf (Elt Ideal) ((c.tc : Thread Cert.RmsMKernelIdeal.nD Cert.RmsMKernelIdeal.τ).loc Cert.RmsMKernelIdeal.main_v1_0)) (v1 : (c : Dev Cert.RmsMKernelIdeal.nD) → Buf (Elt Ideal) ((c.tc : Thread Cert.RmsMKernelIdeal.nD Cert.RmsMKernelIdeal.τ).loc Cert.RmsMKernelIdeal.main_v1_1)) (v2 : (c : Dev Cert.RmsMKernelIdeal.nD) → Buf (Elt Ideal) ((c.tc : Thread Cert.RmsMKernelIdeal.nD Cert.RmsMKernelIdeal.τ).loc Cert.RmsMKernelIdeal.main_v1_2)),
      θ_run (Cert.RmsMKernelIdeal.defs (F := Ideal)) (onTc (τ := Cert.RmsMKernelIdeal.τ) (Cert.RmsMKernelIdeal.main (F := Ideal))) ⟨m, fun _ => 0, g⟩ (fun r => ∀ c : Dev Cert.RmsMKernelIdeal.nD,
          r.2.mem ((c.tc : Thread Cert.RmsMKernelIdeal.nD Cert.RmsMKernelIdeal.τ).loc Cert.RmsMKernelIdeal.main_v1_0) = v0 c
          ∧ r.2.mem ((c.tc : Thread Cert.RmsMKernelIdeal.nD Cert.RmsMKernelIdeal.τ).loc Cert.RmsMKernelIdeal.main_v1_1) = v1 c
          ∧ r.2.mem ((c.tc : Thread Cert.RmsMKernelIdeal.nD Cert.RmsMKernelIdeal.τ).loc Cert.RmsMKernelIdeal.main_v1_2) = v2 c
          ∧ r.2.mem ((c.tc : Thread Cert.RmsMKernelIdeal.nD Cert.RmsMKernelIdeal.τ).loc Cert.RmsMKernelIdeal.main_arg0) = m ((c.tc : Thread Cert.RmsMKernelIdeal.nD Cert.RmsMKernelIdeal.τ).loc Cert.RmsMKernelIdeal.main_arg0)
          ∧ r.2.mem ((c.tc : Thread Cert.RmsMKernelIdeal.nD Cert.RmsMKernelIdeal.τ).loc Cert.RmsMKernelIdeal.main_arg1) = m ((c.tc : Thread Cert.RmsMKernelIdeal.nD Cert.RmsMKernelIdeal.τ).loc Cert.RmsMKernelIdeal.main_arg1)
          ∧ r.2.mem ((c.tc : Thread Cert.RmsMKernelIdeal.nD Cert.RmsMKernelIdeal.τ).loc Cert.RmsMKernelIdeal.main_arg2) = m ((c.tc : Thread Cert.RmsMKernelIdeal.nD Cert.RmsMKernelIdeal.τ).loc Cert.RmsMKernelIdeal.main_arg2))
      ∧ θ_run (Cert.RmsMReferenceIdeal.defs (F := Ideal)) (onTc (τ := Cert.RmsMReferenceIdeal.τ) (Cert.RmsMReferenceIdeal.main (F := Ideal))) ⟨m', fun _ => 0, g'⟩ (fun r => ∀ c : Dev Cert.RmsMReferenceIdeal.nD,
          r.2.mem ((c.tc : Thread Cert.RmsMReferenceIdeal.nD Cert.RmsMReferenceIdeal.τ).loc Cert.RmsMReferenceIdeal.main_v13) = v0 c
          ∧ r.2.mem ((c.tc : Thread Cert.RmsMReferenceIdeal.nD Cert.RmsMReferenceIdeal.τ).loc Cert.RmsMReferenceIdeal.main_v14) = v1 c
          ∧ r.2.mem ((c.tc : Thread Cert.RmsMReferenceIdeal.nD Cert.RmsMReferenceIdeal.τ).loc Cert.RmsMReferenceIdeal.main_v17) = v2 c
          ∧ r.2.mem ((c.tc : Thread Cert.RmsMReferenceIdeal.nD Cert.RmsMReferenceIdeal.τ).loc Cert.RmsMReferenceIdeal.main_arg0) = m' ((c.tc : Thread Cert.RmsMReferenceIdeal.nD Cert.RmsMReferenceIdeal.τ).loc Cert.RmsMReferenceIdeal.main_arg0)
          ∧ r.2.mem ((c.tc : Thread Cert.RmsMReferenceIdeal.nD Cert.RmsMReferenceIdeal.τ).loc Cert.RmsMReferenceIdeal.main_arg1) = m' ((c.tc : Thread Cert.RmsMReferenceIdeal.nD Cert.RmsMReferenceIdeal.τ).loc Cert.RmsMReferenceIdeal.main_arg1)
          ∧ r.2.mem ((c.tc : Thread Cert.RmsMReferenceIdeal.nD Cert.RmsMReferenceIdeal.τ).loc Cert.RmsMReferenceIdeal.main_arg2) = m' ((c.tc : Thread Cert.RmsMReferenceIdeal.nD Cert.RmsMReferenceIdeal.τ).loc Cert.RmsMReferenceIdeal.main_arg2))

def Claim : Prop :=
  ∃ (hLossKernel : Cert.LossKernel.Facts) (hLossKernelIdeal : Cert.LossKernelIdeal.Facts) (hLossReferenceIdeal : Cert.LossReferenceIdeal.Facts) (hFoxKernel : Cert.FoxKernel.Facts) (hFoxKernelIdeal : Cert.FoxKernelIdeal.Facts) (hFoxReferenceIdeal : Cert.FoxReferenceIdeal.Facts) (hCumKernel : Cert.CumKernel.Facts) (hCumKernelIdeal : Cert.CumKernelIdeal.Facts) (hCumReferenceIdeal : Cert.CumReferenceIdeal.Facts) (hMemKernel : Cert.MemKernel.Facts) (hMemKernelIdeal : Cert.MemKernelIdeal.Facts) (hMemReferenceIdeal : Cert.MemReferenceIdeal.Facts) (hDownKernel : Cert.DownKernel.Facts) (hDownKernelIdeal : Cert.DownKernelIdeal.Facts) (hDownReferenceIdeal : Cert.DownReferenceIdeal.Facts) (hOutKernel : Cert.OutKernel.Facts) (hOutKernelIdeal : Cert.OutKernelIdeal.Facts) (hOutReferenceIdeal : Cert.OutReferenceIdeal.Facts) (hUpKernel : Cert.UpKernel.Facts) (hUpKernelIdeal : Cert.UpKernelIdeal.Facts) (hUpReferenceIdeal : Cert.UpReferenceIdeal.Facts) (hMemKvKernel : Cert.MemKvKernel.Facts) (hMemKvKernelIdeal : Cert.MemKvKernelIdeal.Facts) (hMemKvReferenceIdeal : Cert.MemKvReferenceIdeal.Facts) (hMixInKernel : Cert.MixInKernel.Facts) (hMixInKernelIdeal : Cert.MixInKernelIdeal.Facts) (hMixInReferenceIdeal : Cert.MixInReferenceIdeal.Facts) (hConvKernel : Cert.ConvKernel.Facts) (hConvKernelIdeal : Cert.ConvKernelIdeal.Facts) (hMemFKernel : Cert.MemFKernel.Facts) (hMemFKernelIdeal : Cert.MemFKernelIdeal.Facts) (hMemFReferenceIdeal : Cert.MemFReferenceIdeal.Facts) (hResNKernel : Cert.ResNKernel.Facts) (hResNKernelIdeal : Cert.ResNKernelIdeal.Facts) (hResNReferenceIdeal : Cert.ResNReferenceIdeal.Facts) (hRmsMKernel : Cert.RmsMKernel.Facts) (hRmsMKernelIdeal : Cert.RmsMKernelIdeal.Facts) (hRmsMReferenceIdeal : Cert.RmsMReferenceIdeal.Facts) (hPre_fox_finite : Cert.Pre_fox_finite.Facts) (hPre_cum_finite : Cert.Pre_cum_finite.Facts) (hPre_mem_finite : Cert.Pre_mem_finite.Facts) (hPre_down_finite : Cert.Pre_down_finite.Facts) (hPre_out_finite : Cert.Pre_out_finite.Facts) (hPre_up_finite : Cert.Pre_up_finite.Facts) (hPre_memkv_finite : Cert.Pre_memkv_finite.Facts) (hPre_mixin_finite : Cert.Pre_mixin_finite.Facts) (hPre_memf_finite : Cert.Pre_memf_finite.Facts),
    quiescent_LossKernel (hLossKernel := hLossKernel)
    ∧ quiescent_LossKernelIdeal (hLossKernelIdeal := hLossKernelIdeal)
    ∧ quiescent_LossReferenceIdeal (hLossReferenceIdeal := hLossReferenceIdeal)
    ∧ quiescent_FoxKernel (hFoxKernel := hFoxKernel)
    ∧ quiescent_FoxKernelIdeal (hFoxKernelIdeal := hFoxKernelIdeal)
    ∧ quiescent_FoxKernelIdeal_pre_fox_finite (hFoxKernelIdeal := hFoxKernelIdeal) (hPre_fox_finite := hPre_fox_finite)
    ∧ quiescent_FoxReferenceIdeal (hFoxReferenceIdeal := hFoxReferenceIdeal)
    ∧ quiescent_FoxReferenceIdeal_pre_fox_finite (hFoxReferenceIdeal := hFoxReferenceIdeal) (hPre_fox_finite := hPre_fox_finite)
    ∧ quiescent_CumKernel (hCumKernel := hCumKernel)
    ∧ quiescent_CumKernelIdeal (hCumKernelIdeal := hCumKernelIdeal)
    ∧ quiescent_CumKernelIdeal_pre_cum_finite (hCumKernelIdeal := hCumKernelIdeal) (hPre_cum_finite := hPre_cum_finite)
    ∧ quiescent_CumReferenceIdeal (hCumReferenceIdeal := hCumReferenceIdeal)
    ∧ quiescent_CumReferenceIdeal_pre_cum_finite (hCumReferenceIdeal := hCumReferenceIdeal) (hPre_cum_finite := hPre_cum_finite)
    ∧ quiescent_MemKernel (hMemKernel := hMemKernel)
    ∧ quiescent_MemKernelIdeal (hMemKernelIdeal := hMemKernelIdeal)
    ∧ quiescent_MemKernelIdeal_pre_mem_finite (hMemKernelIdeal := hMemKernelIdeal) (hPre_mem_finite := hPre_mem_finite)
    ∧ quiescent_MemReferenceIdeal (hMemReferenceIdeal := hMemReferenceIdeal)
    ∧ quiescent_MemReferenceIdeal_pre_mem_finite (hMemReferenceIdeal := hMemReferenceIdeal) (hPre_mem_finite := hPre_mem_finite)
    ∧ quiescent_DownKernel (hDownKernel := hDownKernel)
    ∧ quiescent_DownKernelIdeal (hDownKernelIdeal := hDownKernelIdeal)
    ∧ quiescent_DownKernelIdeal_pre_down_finite (hDownKernelIdeal := hDownKernelIdeal) (hPre_down_finite := hPre_down_finite)
    ∧ quiescent_DownReferenceIdeal (hDownReferenceIdeal := hDownReferenceIdeal)
    ∧ quiescent_DownReferenceIdeal_pre_down_finite (hDownReferenceIdeal := hDownReferenceIdeal) (hPre_down_finite := hPre_down_finite)
    ∧ quiescent_OutKernel (hOutKernel := hOutKernel)
    ∧ quiescent_OutKernelIdeal (hOutKernelIdeal := hOutKernelIdeal)
    ∧ quiescent_OutKernelIdeal_pre_out_finite (hOutKernelIdeal := hOutKernelIdeal) (hPre_out_finite := hPre_out_finite)
    ∧ quiescent_OutReferenceIdeal (hOutReferenceIdeal := hOutReferenceIdeal)
    ∧ quiescent_OutReferenceIdeal_pre_out_finite (hOutReferenceIdeal := hOutReferenceIdeal) (hPre_out_finite := hPre_out_finite)
    ∧ quiescent_UpKernel (hUpKernel := hUpKernel)
    ∧ quiescent_UpKernelIdeal (hUpKernelIdeal := hUpKernelIdeal)
    ∧ quiescent_UpKernelIdeal_pre_up_finite (hUpKernelIdeal := hUpKernelIdeal) (hPre_up_finite := hPre_up_finite)
    ∧ quiescent_UpReferenceIdeal (hUpReferenceIdeal := hUpReferenceIdeal)
    ∧ quiescent_UpReferenceIdeal_pre_up_finite (hUpReferenceIdeal := hUpReferenceIdeal) (hPre_up_finite := hPre_up_finite)
    ∧ quiescent_MemKvKernel (hMemKvKernel := hMemKvKernel)
    ∧ quiescent_MemKvKernelIdeal (hMemKvKernelIdeal := hMemKvKernelIdeal)
    ∧ quiescent_MemKvKernelIdeal_pre_memkv_finite (hMemKvKernelIdeal := hMemKvKernelIdeal) (hPre_memkv_finite := hPre_memkv_finite)
    ∧ quiescent_MemKvReferenceIdeal (hMemKvReferenceIdeal := hMemKvReferenceIdeal)
    ∧ quiescent_MemKvReferenceIdeal_pre_memkv_finite (hMemKvReferenceIdeal := hMemKvReferenceIdeal) (hPre_memkv_finite := hPre_memkv_finite)
    ∧ quiescent_MixInKernel (hMixInKernel := hMixInKernel)
    ∧ quiescent_MixInKernelIdeal (hMixInKernelIdeal := hMixInKernelIdeal)
    ∧ quiescent_MixInKernelIdeal_pre_mixin_finite (hMixInKernelIdeal := hMixInKernelIdeal) (hPre_mixin_finite := hPre_mixin_finite)
    ∧ quiescent_MixInReferenceIdeal (hMixInReferenceIdeal := hMixInReferenceIdeal)
    ∧ quiescent_MixInReferenceIdeal_pre_mixin_finite (hMixInReferenceIdeal := hMixInReferenceIdeal) (hPre_mixin_finite := hPre_mixin_finite)
    ∧ quiescent_ConvKernel (hConvKernel := hConvKernel)
    ∧ quiescent_ConvKernelIdeal (hConvKernelIdeal := hConvKernelIdeal)
    ∧ quiescent_MemFKernel (hMemFKernel := hMemFKernel)
    ∧ quiescent_MemFKernelIdeal (hMemFKernelIdeal := hMemFKernelIdeal)
    ∧ quiescent_MemFKernelIdeal_pre_memf_finite (hMemFKernelIdeal := hMemFKernelIdeal) (hPre_memf_finite := hPre_memf_finite)
    ∧ quiescent_MemFReferenceIdeal (hMemFReferenceIdeal := hMemFReferenceIdeal)
    ∧ quiescent_MemFReferenceIdeal_pre_memf_finite (hMemFReferenceIdeal := hMemFReferenceIdeal) (hPre_memf_finite := hPre_memf_finite)
    ∧ quiescent_ResNKernel (hResNKernel := hResNKernel)
    ∧ quiescent_ResNKernelIdeal (hResNKernelIdeal := hResNKernelIdeal)
    ∧ quiescent_ResNReferenceIdeal (hResNReferenceIdeal := hResNReferenceIdeal)
    ∧ quiescent_RmsMKernel (hRmsMKernel := hRmsMKernel)
    ∧ quiescent_RmsMKernelIdeal (hRmsMKernelIdeal := hRmsMKernelIdeal)
    ∧ quiescent_RmsMReferenceIdeal (hRmsMReferenceIdeal := hRmsMReferenceIdeal)
    ∧ preserves_LossKernel_LossKernelIdeal
    ∧ algebraic_LossKernelIdeal_LossReferenceIdeal (hLossKernelIdeal := hLossKernelIdeal) (hLossReferenceIdeal := hLossReferenceIdeal)
    ∧ preserves_FoxKernel_FoxKernelIdeal
    ∧ algebraic_FoxKernelIdeal_FoxReferenceIdeal_pre_fox_finite (hFoxKernelIdeal := hFoxKernelIdeal) (hFoxReferenceIdeal := hFoxReferenceIdeal) (hPre_fox_finite := hPre_fox_finite)
    ∧ preserves_CumKernel_CumKernelIdeal
    ∧ algebraic_CumKernelIdeal_CumReferenceIdeal_pre_cum_finite (hCumKernelIdeal := hCumKernelIdeal) (hCumReferenceIdeal := hCumReferenceIdeal) (hPre_cum_finite := hPre_cum_finite)
    ∧ preserves_MemKernel_MemKernelIdeal
    ∧ algebraic_MemKernelIdeal_MemReferenceIdeal_pre_mem_finite (hMemKernelIdeal := hMemKernelIdeal) (hMemReferenceIdeal := hMemReferenceIdeal) (hPre_mem_finite := hPre_mem_finite)
    ∧ preserves_DownKernel_DownKernelIdeal
    ∧ algebraic_DownKernelIdeal_DownReferenceIdeal_pre_down_finite (hDownKernelIdeal := hDownKernelIdeal) (hDownReferenceIdeal := hDownReferenceIdeal) (hPre_down_finite := hPre_down_finite)
    ∧ preserves_OutKernel_OutKernelIdeal
    ∧ algebraic_OutKernelIdeal_OutReferenceIdeal_pre_out_finite (hOutKernelIdeal := hOutKernelIdeal) (hOutReferenceIdeal := hOutReferenceIdeal) (hPre_out_finite := hPre_out_finite)
    ∧ preserves_UpKernel_UpKernelIdeal
    ∧ algebraic_UpKernelIdeal_UpReferenceIdeal_pre_up_finite (hUpKernelIdeal := hUpKernelIdeal) (hUpReferenceIdeal := hUpReferenceIdeal) (hPre_up_finite := hPre_up_finite)
    ∧ preserves_MemKvKernel_MemKvKernelIdeal
    ∧ algebraic_MemKvKernelIdeal_MemKvReferenceIdeal_pre_memkv_finite (hMemKvKernelIdeal := hMemKvKernelIdeal) (hMemKvReferenceIdeal := hMemKvReferenceIdeal) (hPre_memkv_finite := hPre_memkv_finite)
    ∧ preserves_MixInKernel_MixInKernelIdeal
    ∧ algebraic_MixInKernelIdeal_MixInReferenceIdeal_pre_mixin_finite (hMixInKernelIdeal := hMixInKernelIdeal) (hMixInReferenceIdeal := hMixInReferenceIdeal) (hPre_mixin_finite := hPre_mixin_finite)
    ∧ preserves_ConvKernel_ConvKernelIdeal
    ∧ preserves_MemFKernel_MemFKernelIdeal
    ∧ algebraic_MemFKernelIdeal_MemFReferenceIdeal_pre_memf_finite (hMemFKernelIdeal := hMemFKernelIdeal) (hMemFReferenceIdeal := hMemFReferenceIdeal) (hPre_memf_finite := hPre_memf_finite)
    ∧ preserves_ResNKernel_ResNKernelIdeal
    ∧ algebraic_ResNKernelIdeal_ResNReferenceIdeal (hResNKernelIdeal := hResNKernelIdeal) (hResNReferenceIdeal := hResNReferenceIdeal)
    ∧ preserves_RmsMKernel_RmsMKernelIdeal
    ∧ algebraic_RmsMKernelIdeal_RmsMReferenceIdeal (hRmsMKernelIdeal := hRmsMKernelIdeal) (hRmsMReferenceIdeal := hRmsMReferenceIdeal)
-- ==== Pre_cum_finite.lean ====
abbrev S4096x8 : Shape := ⟨2, ![4096, 8]⟩
abbrev S1x8 : Shape := ⟨2, ![1, 8]⟩
abbrev S_ : Shape := ⟨0, ![]⟩

class Facts : Prop where
  bcast_S_S4096x8 : S_.BroadcastsInDim S4096x8 (![] : Fin 0 → Fin S4096x8.rank)
  reducesTo_S4096x8_S_d0_1 : S4096x8.ReducesTo [0, 1] S_
  h_S_ : 0 < S_.numel
  bcast_S_S1x8 : S_.BroadcastsInDim S1x8 (![] : Fin 0 → Fin S1x8.rank)
  reducesTo_S1x8_S_d0_1 : S1x8.ReducesTo [0, 1] S_

variable [Facts]

def fn {F : FTy → Type} [FloatOps F] (main_arg0 : FVec F S4096x8 .f32) (main_arg1 : FVec F S1x8 .f32) (main_arg2 : FVec F S4096x8 .f32) (main_arg3 : FVec F S4096x8 .f32) : IVec S_ 1 :=
  let main_v0 : FVec F S4096x8 .f32 := Host.absf main_arg0
  let main_cst : FVec F S_ .f32 := constant S_ .f32 0x7F800000#32
  let main_v1 : FVec F S4096x8 .f32 := broadcastInDim S4096x8 ![] bcast_S_S4096x8 main_cst
  let main_v2 : IVec S4096x8 1 := cmpf .olt main_v0 main_v1
  let main_c : IVec S_ 1 := constantI S_ 1 1#1
  let main_v3 : IVec S_ 1 := (fun x v => Host.reduce IntOp.andi x v reducesTo_S4096x8_S_d0_1 h_S_) main_v2 main_c
  let main_v4 : FVec F S1x8 .f32 := Host.absf main_arg1
  let main_cst_0 : FVec F S_ .f32 := constant S_ .f32 0x7F800000#32
  let main_v5 : FVec F S1x8 .f32 := broadcastInDim S1x8 ![] bcast_S_S1x8 main_cst_0
  let main_v6 : IVec S1x8 1 := cmpf .olt main_v4 main_v5
  let main_c_1 : IVec S_ 1 := constantI S_ 1 1#1
  let main_v7 : IVec S_ 1 := (fun x v => Host.reduce IntOp.andi x v reducesTo_S1x8_S_d0_1 h_S_) main_v6 main_c_1
  let main_v8 : IVec S_ 1 := andi main_v3 main_v7
  main_v8
-- ==== Pre_down_finite.lean ====
abbrev S4096x4096 : Shape := ⟨2, ![4096, 4096]⟩
abbrev S4096x1024 : Shape := ⟨2, ![4096, 1024]⟩
abbrev S1x1024 : Shape := ⟨2, ![1, 1024]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  main_v18

def fn {F : FTy → Type} [FloatOps F] (main_arg0 : FVec F S4096x4096 .f32) (main_arg1 : FVec F S4096x1024 .f32) (main_arg2 : FVec F S1x1024 .f32) (main_arg3 : FVec F S4096x1024 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_v13 main_v16
-- ==== Pre_fox_finite.lean ====
abbrev S4096x512 : Shape := ⟨2, ![4096, 512]⟩
abbrev S4096x8 : Shape := ⟨2, ![4096, 8]⟩
abbrev S1x8 : Shape := ⟨2, ![1, 8]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x8 : S_.BroadcastsInDim S4096x8 (![] : Fin 0 → Fin S4096x8.rank)
  reducesTo_S4096x8_S_d0_1 : S4096x8.ReducesTo [0, 1] S_
  bcast_S_S1x8 : S_.BroadcastsInDim S1x8 (![] : Fin 0 → Fin S1x8.rank)
  reducesTo_S1x8_S_d0_1 : S1x8.ReducesTo [0, 1] S_

variable [Facts]

def fn_part1 {F : FTy → Type} [FloatOps F] (main_arg4 : FVec F S1x8 .f32) (main_arg5 : FVec F S4096x512 .f32) (main_v13 : IVec S_ 1) (main_v16 : IVec S4096x8 1) : IVec S_ 1 :=
  let main_c_5 : IVec S_ 1 := constantI S_ 1 1#1
  let main_v17 : IVec S_ 1 := (fun x v => Host.reduce IntOp.andi x v reducesTo_S4096x8_S_d0_1 h_S_) main_v16 main_c_5
  let main_v18 : IVec S_ 1 := andi main_v13 main_v17
  let main_v19 : FVec F S1x8 .f32 := Host.absf main_arg4
  let main_cst_6 : FVec F S_ .f32 := constant S_ .f32 0x7F800000#32
  let main_v20 : FVec F S1x8 .f32 := broadcastInDim S1x8 ![] bcast_S_S1x8 main_cst_6
  let main_v21 : IVec S1x8 1 := cmpf .olt main_v19 main_v20
  let main_c_7 : IVec S_ 1 := constantI S_ 1 1#1
  let main_v22 : IVec S_ 1 := (fun x v => Host.reduce IntOp.andi x v reducesTo_S1x8_S_d0_1 h_S_) main_v21 main_c_7
  let main_v23 : IVec S_ 1 := andi main_v18 main_v22
  let main_v24 : FVec F S4096x512 .f32 := Host.absf main_arg5
  let main_cst_8 : FVec F S_ .f32 := constant S_ .f32 0x7F800000#32
  let main_v25 : FVec F S4096x512 .f32 := broadcastInDim S4096x512 ![] bcast_S_S4096x512 main_cst_8
  let main_v26 : IVec S4096x512 1 := cmpf .olt main_v24 main_v25
  let main_c_9 : IVec S_ 1 := constantI S_ 1 1#1
  let main_v27 : IVec S_ 1 := (fun x v => Host.reduce IntOp.andi x v reducesTo_S4096x512_S_d0_1 h_S_) main_v26 main_c_9
  let main_v28 : IVec S_ 1 := andi main_v23 main_v27
  main_v28

def fn {F : FTy → Type} [FloatOps F] (main_arg0 : FVec F S4096x512 .f32) (main_arg1 : FVec F S4096x512 .f32) (main_arg2 : FVec F S4096x512 .f32) (main_arg3 : FVec F S4096x8 .f32) (main_arg4 : FVec F S1x8 .f32) (main_arg5 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : FVec F S4096x8 .f32 := Host.absf main_arg3
  let main_cst_4 : FVec F S_ .f32 := constant S_ .f32 0x7F800000#32
  let main_v15 : FVec F S4096x8 .f32 := broadcastInDim S4096x8 ![] bcast_S_S4096x8 main_cst_4
  let main_v16 : IVec S4096x8 1 := cmpf .olt main_v14 main_v15
  fn_part1 (F := F) main_arg4 main_arg5 main_v13 main_v16
-- ==== Pre_mem_finite.lean ====
abbrev S4096x512 : Shape := ⟨2, ![4096, 512]⟩
abbrev S256x512 : Shape := ⟨2, ![256, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_

variable [Facts]

def fn_part1 {F : FTy → Type} [FloatOps F] (main_v13 : IVec S_ 1) (main_v16 : IVec S4096x512 1) : IVec S_ 1 :=
  let main_c_5 : IVec S_ 1 := constantI S_ 1 1#1
  let main_v17 : IVec S_ 1 := (fun x v => Host.reduce IntOp.andi x v reducesTo_S4096x512_S_d0_1 h_S_) main_v16 main_c_5
  let main_v18 : IVec S_ 1 := andi main_v13 main_v17
  main_v18

def fn {F : FTy → Type} [FloatOps F] (main_arg0 : FVec F S4096x512 .f32) (main_arg1 : FVec F S256x512 .f32) (main_arg2 : FVec F S256x512 .f32) (main_arg3 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S256x512 .f32 := Host.absf main_arg2
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S4096x512 .f32 := Host.absf main_arg3
  let main_cst_4 : FVec F S_ .f32 := constant S_ .f32 0x7F800000#32
  let main_v15 : FVec F S4096x512 .f32 := broadcastInDim S4096x512 ![] bcast_S_S4096x512 main_cst_4
  let main_v16 : IVec S4096x512 1 := cmpf .olt main_v14 main_v15
  fn_part1 (F := F) main_v13 main_v16
-- ==== Pre_memf_finite.lean ====
abbrev S4096x512 : Shape := ⟨2, ![4096, 512]⟩
abbrev S256x512 : Shape := ⟨2, ![256, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_

variable [Facts]

def fn {F : FTy → Type} [FloatOps F] (main_arg0 : FVec F S4096x512 .f32) (main_arg1 : FVec F S256x512 .f32) (main_arg2 : FVec F S256x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S256x512 .f32 := Host.absf main_arg2
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  main_v13
-- ==== Pre_memkv_finite.lean ====
abbrev S256x1024 : Shape := ⟨2, ![256, 1024]⟩
abbrev S1x1024 : Shape := ⟨2, ![1, 1024]⟩
abbrev S1024x512 : Shape := ⟨2, ![1024, 512]⟩
abbrev S256x512 : Shape := ⟨2, ![256, 512]⟩
abbrev S_ : Shape := ⟨0, ![]⟩

class Facts : Prop where
  bcast_S_S256x1024 : S_.BroadcastsInDim S256x1024 (![] : Fin 0 → Fin S256x1024.rank)
  reducesTo_S256x1024_S_d0_1 : S256x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x512 : S_.BroadcastsInDim S1024x512 (![] : Fin 0 → Fin S1024x512.rank)
  reducesTo_S1024x512_S_d0_1 : S1024x512.ReducesTo [0, 1] S_
  bcast_S_S256x512 : S_.BroadcastsInDim S256x512 (![] : Fin 0 → Fin S256x512.rank)
  reducesTo_S256x512_S_d0_1 : S256x512.ReducesTo [0, 1] S_

variable [Facts]

def fn_part1 {F : FTy → Type} [FloatOps F] (main_arg4 : FVec F S256x512 .f32) (main_arg5 : FVec F S256x512 .f32) (main_v13 : IVec S_ 1) (main_v16 : IVec S1024x512 1) : IVec S_ 1 :=
  let main_c_5 : IVec S_ 1 := constantI S_ 1 1#1
  let main_v17 : IVec S_ 1 := (fun x v => Host.reduce IntOp.andi x v reducesTo_S1024x512_S_d0_1 h_S_) main_v16 main_c_5
  let main_v18 : IVec S_ 1 := andi main_v13 main_v17
  let main_v19 : FVec F S256x512 .f32 := Host.absf main_arg4
  let main_cst_6 : FVec F S_ .f32 := constant S_ .f32 0x7F800000#32
  let main_v20 : FVec F S256x512 .f32 := broadcastInDim S256x512 ![] bcast_S_S256x512 main_cst_6
  let main_v21 : IVec S256x512 1 := cmpf .olt main_v19 main_v20
  let main_c_7 : IVec S_ 1 := constantI S_ 1 1#1
  let main_v22 : IVec S_ 1 := (fun x v => Host.reduce IntOp.andi x v reducesTo_S256x512_S_d0_1 h_S_) main_v21 main_c_7
  let main_v23 : IVec S_ 1 := andi main_v18 main_v22
  let main_v24 : FVec F S256x512 .f32 := Host.absf main_arg5
  let main_cst_8 : FVec F S_ .f32 := constant S_ .f32 0x7F800000#32
  let main_v25 : FVec F S256x512 .f32 := broadcastInDim S256x512 ![] bcast_S_S256x512 main_cst_8
  let main_v26 : IVec S256x512 1 := cmpf .olt main_v24 main_v25
  let main_c_9 : IVec S_ 1 := constantI S_ 1 1#1
  let main_v27 : IVec S_ 1 := (fun x v => Host.reduce IntOp.andi x v reducesTo_S256x512_S_d0_1 h_S_) main_v26 main_c_9
  let main_v28 : IVec S_ 1 := andi main_v23 main_v27
  main_v28

def fn {F : FTy → Type} [FloatOps F] (main_arg0 : FVec F S256x1024 .f32) (main_arg1 : FVec F S1x1024 .f32) (main_arg2 : FVec F S1024x512 .f32) (main_arg3 : FVec F S1024x512 .f32) (main_arg4 : FVec F S256x512 .f32) (main_arg5 : FVec F S256x512 .f32) : IVec S_ 1 :=
  let main_v0 : FVec F S256x1024 .f32 := Host.absf main_arg0
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  let main_c : IVec S_ 1 := constantI S_ 1 1#1
  let main_v3 : IVec S_ 1 := (fun x v => Host.reduce IntOp.andi x v reducesTo_S256x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x512 .f32 := Host.absf main_arg2
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S1024x512 .f32 := Host.absf main_arg3
  let main_cst_4 : FVec F S_ .f32 := constant S_ .f32 0x7F800000#32
  let main_v15 : FVec F S1024x512 .f32 := broadcastInDim S1024x512 ![] bcast_S_S1024x512 main_cst_4
  let main_v16 : IVec S1024x512 1 := cmpf .olt main_v14 main_v15
  fn_part1 (F := F) main_arg4 main_arg5 main_v13 main_v16
-- ==== Pre_mixin_finite.lean ====
abbrev S4096x1024 : Shape := ⟨2, ![4096, 1024]⟩
abbrev S1x1024 : Shape := ⟨2, ![1, 1024]⟩
abbrev S1024x2568 : Shape := ⟨2, ![1024, 2568]⟩
abbrev S4096x512 : Shape := ⟨2, ![4096, 512]⟩
abbrev S4096x8 : Shape := ⟨2, ![4096, 8]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2568 : S_.BroadcastsInDim S1024x2568 (![] : Fin 0 → Fin S1024x2568.rank)
  reducesTo_S1024x2568_S_d0_1 : S1024x2568.ReducesTo [0, 1] S_
  bcast_S_S4096x512 : S_.BroadcastsInDim S4096x512 (![] : Fin 0 → Fin S4096x512.rank)
  reducesTo_S4096x512_S_d0_1 : S4096x512.ReducesTo [0, 1] S_
  bcast_S_S4096x8 : S_.BroadcastsInDim S4096x8 (![] : Fin 0 → Fin S4096x8.rank)
  reducesTo_S4096x8_S_d0_1 : S4096x8.ReducesTo [0, 1] S_

variable [Facts]

def fn_part2 {F : FTy → Type} [FloatOps F] (main_arg8 : FVec F S4096x8 .f32) (main_v33 : IVec S_ 1) : IVec S_ 1 :=
  let main_v34 : FVec F S4096x8 .f32 := Host.absf main_arg8
  let main_cst_12 : FVec F S_ .f32 := constant S_ .f32 0x7F800000#32
  let main_v35 : FVec F S4096x8 .f32 := broadcastInDim S4096x8 ![] bcast_S_S4096x8 main_cst_12
  let main_v36 : IVec S4096x8 1 := cmpf .olt main_v34 main_v35
  let main_c_13 : IVec S_ 1 := constantI S_ 1 1#1
  let main_v37 : IVec S_ 1 := (fun x v => Host.reduce IntOp.andi x v reducesTo_S4096x8_S_d0_1 h_S_) main_v36 main_c_13
  let main_v38 : IVec S_ 1 := andi main_v33 main_v37
  main_v38

def fn_part1 {F : FTy → Type} [FloatOps F] (main_arg5 : FVec F S4096x512 .f32) (main_arg6 : FVec F S4096x512 .f32) (main_arg7 : FVec F S4096x512 .f32) (main_arg8 : FVec F S4096x8 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096x512 .f32 := Host.absf main_arg5
  let main_cst_6 : FVec F S_ .f32 := constant S_ .f32 0x7F800000#32
  let main_v20 : FVec F S4096x512 .f32 := broadcastInDim S4096x512 ![] bcast_S_S4096x512 main_cst_6
  let main_v21 : IVec S4096x512 1 := cmpf .olt main_v19 main_v20
  let main_c_7 : IVec S_ 1 := constantI S_ 1 1#1
  let main_v22 : IVec S_ 1 := (fun x v => Host.reduce IntOp.andi x v reducesTo_S4096x512_S_d0_1 h_S_) main_v21 main_c_7
  let main_v23 : IVec S_ 1 := andi main_v18 main_v22
  let main_v24 : FVec F S4096x512 .f32 := Host.absf main_arg6
  let main_cst_8 : FVec F S_ .f32 := constant S_ .f32 0x7F800000#32
  let main_v25 : FVec F S4096x512 .f32 := broadcastInDim S4096x512 ![] bcast_S_S4096x512 main_cst_8
  let main_v26 : IVec S4096x512 1 := cmpf .olt main_v24 main_v25
  let main_c_9 : IVec S_ 1 := constantI S_ 1 1#1
  let main_v27 : IVec S_ 1 := (fun x v => Host.reduce IntOp.andi x v reducesTo_S4096x512_S_d0_1 h_S_) main_v26 main_c_9
  let main_v28 : IVec S_ 1 := andi main_v23 main_v27
  let main_v29 : FVec F S4096x512 .f32 := Host.absf main_arg7
  let main_cst_10 : FVec F S_ .f32 := constant S_ .f32 0x7F800000#32
  let main_v30 : FVec F S4096x512 .f32 := broadcastInDim S4096x512 ![] bcast_S_S4096x512 main_cst_10
  let main_v31 : IVec S4096x512 1 := cmpf .olt main_v29 main_v30
  let main_c_11 : IVec S_ 1 := constantI S_ 1 1#1
  let main_v32 : IVec S_ 1 := (fun x v => Host.reduce IntOp.andi x v reducesTo_S4096x512_S_d0_1 h_S_) main_v31 main_c_11
  let main_v33 : IVec S_ 1 := andi main_v28 main_v32
  fn_part2 (F := F) main_arg8 main_v33

def fn {F : FTy → Type} [FloatOps F] (main_arg0 : FVec F S4096x1024 .f32) (main_arg1 : FVec F S1x1024 .f32) (main_arg2 : FVec F S1024x2568 .f32) (main_arg3 : FVec F S4096x1024 .f32) (main_arg4 : FVec F S4096x1024 .f32) (main_arg5 : FVec F S4096x512 .f32) (main_arg6 : FVec F S4096x512 .f32) (main_arg7 : FVec F S4096x512 .f32) (main_arg8 : FVec F S4096x8 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x2568 .f32 := Host.absf main_arg2
  let main_cst_2 : FVec F S_ .f32 := constant S_ .f32 0x7F800000#32
  let main_v10 : FVec F S1024x2568 .f32 := broadcastInDim S1024x2568 ![] bcast_S_S1024x2568 main_cst_2
  let main_v11 : IVec S1024x2568 1 := cmpf .olt main_v9 main_v10
  let main_c_3 : IVec S_ 1 := constantI S_ 1 1#1
  let main_v12 : IVec S_ 1 := (fun x v => Host.reduce IntOp.andi x v reducesTo_S1024x2568_S_d0_1 h_S_) main_v11 main_c_3
  let main_v13 : IVec S_ 1 := andi main_v8 main_v12
  let main_v14 : FVec F S4096x1024 .f32 := Host.absf main_arg4
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg5 main_arg6 main_arg7 main_arg8 main_v13 main_v16
-- ==== Pre_out_finite.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  main_v18

def fn {F : FTy → Type} [FloatOps F] (main_arg0 : FVec F S4096x1024 .f32) (main_arg1 : FVec F S1024x1024 .f32) (main_arg2 : FVec F S1x1024 .f32) (main_arg3 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_v13 main_v16
-- ==== Pre_up_finite.lean ====
abbrev S4096x1024 : Shape := ⟨2, ![4096, 1024]⟩
abbrev S1x1024 : Shape := ⟨2, ![1, 1024]⟩
abbrev S1024x4096 : Shape := ⟨2, ![1024, 4096]⟩
abbrev S4096x4096 : Shape := ⟨2, ![4096, 4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  main_v18

def fn {F : FTy → Type} [FloatOps F] (main_arg0 : FVec F S4096x1024 .f32) (main_arg1 : FVec F S1x1024 .f32) (main_arg2 : FVec F S1024x4096 .f32) (main_arg3 : FVec F S4096x1024 .f32) (main_arg4 : FVec F S4096x4096 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x4096 .f32 := Host.absf main_arg2
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_c_3 : IVec S_ 1 := constantI S_ 1 1#1
  let main_v12 : IVec S_ 1 := (fun x v => Host.reduce IntOp.andi x v reducesTo_S1024x4096_S_d0_1 h_S_) main_v11 main_c_3
  let main_v13 : IVec S_ 1 := andi main_v8 main_v12
  let main_v14 : FVec F S4096x4096 .f32 := Host.absf main_arg4
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_v13 main_v16
-- ==== LossKernel.lean ====
abbrev S4096x1024 : Shape := ⟨2, ![4096, 1024]⟩
abbrev S1x1024 : Shape := ⟨2, ![1, 1024]⟩
abbrev S512x1024 : Shape := ⟨2, ![512, 1024]⟩
abbrev S1024 : Shape := ⟨1, ![1024]⟩
abbrev S_ : Shape := ⟨0, ![]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S_, .f32⟩
  | .hbm, ⟨5, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossReferenceIdeal.lean ====
abbrev S4096x1024 : Shape := ⟨2, ![4096, 1024]⟩
abbrev S_ : Shape := ⟨0, ![]⟩
abbrev S4096 : Shape := ⟨1, ![4096]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x1024, .f32⟩
  | .hbm, ⟨24, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]
-- ==== FoxKernel.lean ====
abbrev S4096x512 : Shape := ⟨2, ![4096, 512]⟩
abbrev S4096x8 : Shape := ⟨2, ![4096, 8]⟩
abbrev S1x8 : Shape := ⟨2, ![1, 8]⟩
abbrev S_ : Shape := ⟨0, ![]⟩
abbrev S4096x8x1 : Shape := ⟨3, ![4096, 8, 1]⟩
abbrev S4096x8x3 : Shape := ⟨3, ![4096, 8, 3]⟩
abbrev S4096x8x58 : Shape := ⟨3, ![4096, 8, 58]⟩
abbrev S4096x8x64 : Shape := ⟨3, ![4096, 8, 64]⟩
abbrev S4096x4x2x64 : Shape := ⟨4, ![4096, 4, 2, 64]⟩
abbrev S4096x4x1x64 : Shape := ⟨4, ![4096, 4, 1, 64]⟩
abbrev S4096x4x64 : Shape := ⟨3, ![4096, 4, 64]⟩
abbrev S4096x4x256 : Shape := ⟨3, ![4096, 4, 256]⟩
abbrev S4096x1024 : Shape := ⟨2, ![4096, 1024]⟩
abbrev S4096x8x55 : Shape := ⟨3, ![4096, 8, 55]⟩
abbrev S4096x8x61 : Shape := ⟨3, ![4096, 8, 61]⟩
abbrev S256x256 : Shape := ⟨2, ![256, 256]⟩
abbrev S4096x256 : Shape := ⟨2, ![4096, 256]⟩
abbrev S256x128 : Shape := ⟨2, ![256, 128]⟩
abbrev S1x128 : Shape := ⟨2, ![1, 128]⟩
abbrev S256x512 : Shape := ⟨2, ![256, 512]⟩
abbrev S512x128 : Shape := ⟨2, ![512, 128]⟩
abbrev S256x1 : Shape := ⟨2, ![256, 1]⟩
abbrev S256 : Shape := ⟨1, ![256]⟩

abbrev nBuf : Space → Nat
  | .hbm => 113
  | .vmem => 46
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x8, .f32⟩
  | .hbm, ⟨4, _⟩ => ⟨S1x8, .f32⟩
  | .hbm, ⟨5, _⟩ => ⟨S4096x512, .f32⟩
  | .hbm, ⟨6, _⟩ => ⟨S4096x8, .f32⟩
  | .hbm, ⟨7, _⟩ => ⟨S4096x8, .f32⟩
  | .hbm, ⟨8, _⟩ => ⟨S4096x8, .f32⟩
  | .hbm, ⟨9, _⟩ => ⟨S_, .f32⟩
  | .hbm, ⟨10, _⟩ => ⟨S4096x8, .f32⟩
  | .hbm, ⟨11, _⟩ => ⟨S4096x8, .f32⟩
  | .hbm, ⟨12, _⟩ => ⟨S4096x8, .f32⟩
  | .hbm, ⟨13, _⟩ => ⟨S4096x8, .f32⟩
  | .hbm, ⟨14, _⟩ => ⟨S4096x8, .i1⟩
  | .hbm, ⟨15, _⟩ => ⟨S4096x8, .f32⟩
  | .hbm, ⟨16, _⟩ => ⟨S4096x8, .f32⟩
  | .hbm, ⟨17, _⟩ => ⟨S4096x8, .f32⟩
  | .hbm, ⟨18, _⟩ => ⟨S4096x8, .f32⟩
  | .hbm, ⟨19, _⟩ => ⟨S4096x8, .f32⟩
  | .hbm, ⟨20, _⟩ => ⟨S4096x8, .f32⟩
  | .hbm, ⟨21, _⟩ => ⟨S4096x8, .f32⟩
  | .hbm, ⟨22, _⟩ => ⟨S4096x8, .f32⟩
  | .hbm, ⟨23, _⟩ => ⟨S4096x8, .f32⟩
  | .hbm, ⟨24, _⟩ => ⟨S_, .f32⟩
  | .hbm, ⟨25, _⟩ => ⟨S_, .f32⟩
  | .hbm, ⟨26, _⟩ => ⟨S4096x8, .f32⟩
  | .hbm, ⟨27, _⟩ => ⟨S4096x8, .bf16⟩
  | .hbm, ⟨28, _⟩ => ⟨S4096x8, .f32⟩
  | .hbm, ⟨29, _⟩ => ⟨S4096x8, .f32⟩
  | .hbm, ⟨30, _⟩ => ⟨S4096x8, .bf16⟩
  | .hbm, ⟨31, _⟩ => ⟨S4096x8, .f32⟩
  | .hbm, ⟨32, _⟩ => ⟨S4096x8, .f32⟩
  | .hbm, ⟨33, _⟩ => ⟨S4096x8, .bf16⟩
  | .hbm, ⟨34, _⟩ => ⟨S4096x8, .f32⟩
  | .hbm, ⟨35, _⟩ => ⟨S4096x8x1, .f32⟩
  | .hbm, ⟨36, _⟩ => ⟨S4096x8x1, .f32⟩
  | .hbm, ⟨37, _⟩ => ⟨S4096x8x1, .f32⟩
  | .hbm, ⟨38, _⟩ => ⟨S_, .f32⟩
  | .hbm, ⟨39, _⟩ => ⟨S4096x8x3, .f32⟩
  | .hbm, ⟨40, _⟩ => ⟨S4096x512, .bf16⟩
  | .hbm, ⟨41, _⟩ => ⟨S4096x512, .f32⟩
  | .hbm, ⟨42, _⟩ => ⟨S_, .f32⟩
  | .hbm, ⟨43, _⟩ => ⟨S4096x512, .f32⟩
  | .hbm, ⟨44, _⟩ => ⟨S4096x512, .f32⟩
  | .hbm, ⟨45, _⟩ => ⟨S_, .f32⟩
  | .hbm, ⟨46, _⟩ => ⟨S4096x8x58, .f32⟩
  | .hbm, ⟨47, _⟩ => ⟨S4096x8x64, .f32⟩
  | .hbm, ⟨48, _⟩ => ⟨S4096x4x2x64, .f32⟩
  | .hbm, ⟨49, _⟩ => ⟨S4096x4x2x64, .f32⟩
  | .hbm, ⟨50, _⟩ => ⟨S4096x4x1x64, .f32⟩
  | .hbm, ⟨51, _⟩ => ⟨S4096x4x64, .f32⟩
  | .hbm, ⟨52, _⟩ => ⟨S4096x4x1x64, .f32⟩
  | .hbm, ⟨53, _⟩ => ⟨S4096x4x64, .f32⟩
  | .hbm, ⟨54, _⟩ => ⟨S4096x4x1x64, .f32⟩
  | .hbm, ⟨55, _⟩ => ⟨S4096x4x64, .f32⟩
  | .hbm, ⟨56, _⟩ => ⟨S4096x4x1x64, .f32⟩
  | .hbm, ⟨57, _⟩ => ⟨S4096x4x64, .f32⟩
  | .hbm, ⟨58, _⟩ => ⟨S4096x4x256, .f32⟩
  | .hbm, ⟨59, _⟩ => ⟨S4096x1024, .f32⟩
  | .hbm, ⟨60, _⟩ => ⟨S4096x1024, .bf16⟩
  | .hbm, ⟨61, _⟩ => ⟨S4096x512, .bf16⟩
  | .hbm, ⟨62, _⟩ => ⟨S4096x512, .f32⟩
  | .hbm, ⟨63, _⟩ => ⟨S4096x8x1, .f32⟩
  | .hbm, ⟨64, _⟩ => ⟨S4096x8x1, .f32⟩
  | .hbm, ⟨65, _⟩ => ⟨S4096x8x1, .f32⟩
  | .hbm, ⟨66, _⟩ => ⟨S_, .f32⟩
  | .hbm, ⟨67, _⟩ => ⟨S4096x8x55, .f32⟩
  | .hbm, ⟨68, _⟩ => ⟨S4096x8x64, .f32⟩
  | .hbm, ⟨69, _⟩ => ⟨S4096x4x2x64, .f32⟩
  | .hbm, ⟨70, _⟩ => ⟨S4096x4x2x64, .f32⟩
  | .hbm, ⟨71, _⟩ => ⟨S4096x4x1x64, .f32⟩
  | .hbm, ⟨72, _⟩ => ⟨S4096x4x64, .f32⟩
  | .hbm, ⟨73, _⟩ => ⟨S4096x4x1x64, .f32⟩
  | .hbm, ⟨74, _⟩ => ⟨S4096x4x64, .f32⟩
  | .hbm, ⟨75, _⟩ => ⟨S4096x4x1x64, .f32⟩
  | .hbm, ⟨76, _⟩ => ⟨S4096x4x64, .f32⟩
  | .hbm, ⟨77, _⟩ => ⟨S4096x4x1x64, .f32⟩
  | .hbm, ⟨78, _⟩ => ⟨S4096x4x64, .f32⟩
  | .hbm, ⟨79, _⟩ => ⟨S4096x4x256, .f32⟩
  | .hbm, ⟨80, _⟩ => ⟨S4096x1024, .f32⟩
  | .hbm, ⟨81, _⟩ => ⟨S4096x1024, .bf16⟩
  | .hbm, ⟨82, _⟩ => ⟨S4096x512, .bf16⟩
  | .hbm, ⟨83, _⟩ => ⟨S4096x512, .f32⟩
  | .hbm, ⟨84, _⟩ => ⟨S_, .f32⟩
  | .hbm, ⟨85, _⟩ => ⟨S4096x8x61, .f32⟩
  | .hbm, ⟨86, _⟩ => ⟨S4096x8x64, .f32⟩
  | .hbm, ⟨87, _⟩ => ⟨S4096x4x2x64, .f32⟩
  | .hbm, ⟨88, _⟩ => ⟨S4096x4x2x64, .f32⟩
  | .hbm, ⟨89, _⟩ => ⟨S4096x4x1x64, .f32⟩
  | .hbm, ⟨90, _⟩ => ⟨S4096x4x64, .f32⟩
  | .hbm, ⟨91, _⟩ => ⟨S4096x4x1x64, .f32⟩
  | .hbm, ⟨92, _⟩ => ⟨S4096x4x64, .f32⟩
  | .hbm, ⟨93, _⟩ => ⟨S4096x4x1x64, .f32⟩
  | .hbm, ⟨94, _⟩ => ⟨S4096x4x64, .f32⟩
  | .hbm, ⟨95, _⟩ => ⟨S4096x4x1x64, .f32⟩
  | .hbm, ⟨96, _⟩ => ⟨S4096x4x64, .f32⟩
  | .hbm, ⟨97, _⟩ => ⟨S4096x4x256, .f32⟩
  | .hbm, ⟨98, _⟩ => ⟨S4096x1024, .f32⟩
  | .hbm, ⟨99, _⟩ => ⟨S4096x1024, .bf16⟩
  | .hbm, ⟨100, _⟩ => ⟨S_, .f32⟩
  | .hbm, ⟨101, _⟩ => ⟨S4096x512, .f32⟩
  | .hbm, ⟨102, _⟩ => ⟨S4096x1024, .f32⟩
  | .hbm, ⟨103, _⟩ => ⟨S4096x512, .f32⟩
  | .hbm, ⟨104, _⟩ => ⟨S4096x512, .f32⟩
  | .hbm, ⟨105, _⟩ => ⟨S4096x512, .bf16⟩
  | .hbm, ⟨106, _⟩ => ⟨S4096x512, .bf16⟩
  | .hbm, ⟨107, _⟩ => ⟨S4096x512, .f32⟩
  | .hbm, ⟨108, _⟩ => ⟨S4096x1024, .bf16⟩
  | .hbm, ⟨109, _⟩ => ⟨S4096x1024, .bf16⟩
  | .hbm, ⟨110, _⟩ => ⟨S4096x512, .bf16⟩
  | .hbm, ⟨111, _⟩ => ⟨S4096x512, .bf16⟩
  | .hbm, ⟨112, _⟩ => ⟨S4096x512, .f32⟩
  | .local _ .vmem, ⟨0, _⟩ => ⟨S256x256, .bf16⟩
  | .local _ .vmem, ⟨1, _⟩ => ⟨S256x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .bf16⟩
  | .local _ .vmem, ⟨11, _⟩ => ⟨S256x128, .bf16⟩
  | .local _ .vmem, ⟨12, _⟩ => ⟨S256x256, .bf16⟩
  | .local _ .vmem, ⟨13, _⟩ => ⟨S256x256, .bf16⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S4096x256, .bf16⟩
  | .local _ .vmem, ⟨21, _⟩ => ⟨S4096x256, .bf16⟩
  | .local _ .vmem, ⟨22, _⟩ => ⟨S4096x256, .bf16⟩
  | .local _ .vmem, ⟨23, _⟩ => ⟨S4096x256, .bf16⟩
  | .local _ .vmem, ⟨24, _⟩ => ⟨S256x128, .bf16⟩
  | .local _ .vmem, ⟨25, _⟩ => ⟨S256x128, .bf16⟩
  | .local _ .vmem, ⟨26, _⟩ => ⟨S256x128, .f32⟩
  | .local _ .vmem, ⟨27, _⟩ => ⟨S256x128, .f32⟩
  | .local _ .vmem, ⟨28, _⟩ => ⟨S256x256, .bf16⟩
  | .local _ .vmem, ⟨29, _⟩ => ⟨S256x256, .bf16⟩
  | .local _ .vmem, ⟨30, _⟩ => ⟨S256x256, .bf16⟩
  | .local _ .vmem, ⟨31, _⟩ => ⟨S256x256, .bf16⟩
  | .local _ .vmem, ⟨32, _⟩ => ⟨S256x256, .bf16⟩
  | .local _ .vmem, ⟨33, _⟩ => ⟨S256x256, .bf16⟩
  | .local _ .vmem, ⟨34, _⟩ => ⟨S256x256, .bf16⟩
  | .local _ .vmem, ⟨35, _⟩ => ⟨S256x256, .bf16⟩
  | .local _ .vmem, ⟨36, _⟩ => ⟨S4096x256, .bf16⟩
  | .local _ .vmem, ⟨37, _⟩ => ⟨S4096x256, .bf16⟩
  | .local _ .vmem, ⟨38, _⟩ => ⟨S4096x256, .bf16⟩
  | .local _ .vmem, ⟨39, _⟩ => ⟨S4096x256, .bf16⟩
  | .local _ .vmem, ⟨40, _⟩ => ⟨S256x128, .bf16⟩
  | .local _ .vmem, ⟨41, _⟩ => ⟨S256x128, .bf16⟩
  | .local _ .vmem, ⟨42, _⟩ => ⟨S256x128, .bf16⟩
  | .local _ .vmem, ⟨43, _⟩ => ⟨S256x128, .bf16⟩
  | .local _ .vmem, ⟨44, _⟩ => ⟨S256x128, .f32⟩
  | .local _ .vmem, ⟨45, _⟩ => ⟨S256x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_call0_cst : Ref sig .tc := ⟨.hbm, 9, rfl⟩
abbrev main_call0_call0_v0 : Ref sig .tc := ⟨.hbm, 10, rfl⟩
abbrev main_call0_call0_v1 : Ref sig .tc := ⟨.hbm, 11, rfl⟩
abbrev main_call0_call0_v2 : Ref sig .tc := ⟨.hbm, 12, rfl⟩
abbrev main_call0_call0_v3 : Ref sig .tc := ⟨.hbm, 13, rfl⟩
abbrev main_call0_call0_v4 : Ref sig .tc := ⟨.hbm, 14, rfl⟩
abbrev main_call0_call0_v5 : Ref sig .tc := ⟨.hbm, 15, rfl⟩
abbrev main_call0_call0_v6 : Ref sig .tc := ⟨.hbm, 16, rfl⟩
abbrev main_call0_call0_v7 : Ref sig .tc := ⟨.hbm, 17, rfl⟩
abbrev main_call0_call0_v8 : Ref sig .tc := ⟨.hbm, 18, rfl⟩
abbrev main_call0_call0_v9 : Ref sig .tc := ⟨.hbm, 19, rfl⟩
abbrev main_call0_call0_v10 : Ref sig .tc := ⟨.hbm, 20, rfl⟩
abbrev main_call0_call0_v11 : Ref sig .tc := ⟨.hbm, 21, rfl⟩
abbrev main_call0_v1 : Ref sig .tc := ⟨.hbm, 22, rfl⟩
abbrev main_v2 : Ref sig .tc := ⟨.hbm, 23, rfl⟩
abbrev main_call1_call0_cst : Ref sig .tc := ⟨.hbm, 24, rfl⟩
abbrev main_call1_call0_v0 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_cst : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst_0 : Ref sig .tc := ⟨.hbm, 42, rfl⟩
abbrev main_v18 : Ref sig .tc := ⟨.hbm, 43, rfl⟩
abbrev main_v19 : Ref sig .tc := ⟨.hbm, 44, rfl⟩
abbrev main_cst_1 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_2 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_3 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_4 : Ref sig .tc := ⟨.hbm, 100, rfl⟩
abbrev main_v72 : Ref sig .tc := ⟨.hbm, 101, rfl⟩
abbrev main_v73 : Ref sig .tc := ⟨.hbm, 102, rfl⟩
abbrev main_v74_0 : Ref sig .tc := ⟨.hbm, 103, rfl⟩
abbrev main_v74_1 : Ref sig .tc := ⟨.hbm, 104, rfl⟩
abbrev main_v74_2 : Ref sig .tc := ⟨.hbm, 105, rfl⟩
abbrev main_v75_0 : Ref sig .tc := ⟨.hbm, 106, rfl⟩
abbrev main_v75_1 : Ref sig .tc := ⟨.hbm, 107, rfl⟩
abbrev main_v75_2 : Ref sig .tc := ⟨.hbm, 108, rfl⟩
abbrev main_v75_3 : Ref sig .tc := ⟨.hbm, 109, rfl⟩
abbrev main_v76_0 : Ref sig .tc := ⟨.hbm, 110, rfl⟩
abbrev main_v76_1 : Ref sig .tc := ⟨.hbm, 111, rfl⟩
abbrev main_v76_2 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc1_stg8_0 : Ref sig .tc := ⟨.vmem, 28, rfl⟩
abbrev cc1_stg8_1 : Ref sig .tc := ⟨.vmem, 29, rfl⟩
abbrev cc1_stg9_0 : Ref sig .tc := ⟨.vmem, 30, rfl⟩
abbrev cc1_stg9_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg3_1 : Ref sig .tc := ⟨.vmem, 39, rfl⟩
abbrev cc2_stg4_0 : Ref sig .tc := ⟨.vmem, 40, rfl⟩
abbrev cc2_stg4_1 : Ref sig .tc := ⟨.vmem, 41, rfl⟩
abbrev cc2_stg5_0 : Ref sig .tc := ⟨.vmem, 42, rfl⟩
abbrev cc2_stg5_1 : Ref sig .tc := ⟨.vmem, 43, rfl⟩
abbrev cc2_stg6_0 : Ref sig .tc := ⟨.vmem, 44, rfl⟩
abbrev cc2_stg6_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27
abbrev cc1_sem8_0 : DmaSem sig := 28
abbrev cc1_sem8_1 : DmaSem sig := 29
abbrev cc1_sem9_0 : DmaSem sig := 30
abbrev cc1_sem9_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem3_1 : DmaSem sig := 39
abbrev cc2_sem4_0 : DmaSem sig := 40
abbrev cc2_sem4_1 : DmaSem sig := 41
abbrev cc2_sem5_0 : DmaSem sig := 42
abbrev cc2_sem5_1 : DmaSem sig := 43
abbrev cc2_sem6_0 : DmaSem sig := 44
abbrev cc2_sem6_1 : DmaSem sig := 45

abbrev nD : Nat := 1
abbrev τ : Topo := Topo.v7x

variable {F : FTy → Type} [FloatOps F]

abbrev grid0 : Pipeline.Grid := ⟨2, ![4, 16], ![false, false]⟩

def k0_mult1 : BitVec 32 :=
  let c0_i32 : BitVec 32 := 0#32
  c0_i32
@[reducible] def k0_t1_loop (i : grid0.Coords) : Scf.Loop 32 :=
  let c0_i32_7 : BitVec 32 := 0#32
  let arg1 : BitVec 32 := BitVec.ofNat 32 (i 1).val
  let c1_i32 : BitVec 32 := 1#32
  let v5 : BitVec 32 := Scalar.shrui arg1 c1_i32
  let v22 : BitVec 32 := Scalar.subi v5 c0_i32_7
  let c1_i32_8 : BitVec 32 := 1#32
  let v24 : BitVec 32 := Scalar.divsi v22 c1_i32_8
  let v25 : BitVec 32 := Scalar.muli v24 c1_i32_8
  let v26 : BitVec 32 := Scalar.addi c0_i32_7 v25
  let c1_i32_9 : BitVec 32 := 1#32
  ⟨c0_i32_7, v26, c1_i32_9⟩
def k0_mult2 (i : grid0.Coords) (k0_t1 : Fin (k0_t1_loop i).trips) : BitVec 32 :=
  let c0_i32_7 : BitVec 32 := 0#32
  let c1_i32_9 : BitVec 32 := 1#32
  let arg8 : BitVec 32 := Scf.iv c0_i32_7 c1_i32_9 k0_t1
  let c1_i32_28 : BitVec 32 := 1#32
  let v99 : BitVec 32 := Scalar.addi arg8 c1_i32_28
  let c512_i32_29 : BitVec 32 := 512#32
  let v100 : BitVec 32 := Scalar.muli v99 c512_i32_29
  v100
def k0_off1 (i : grid0.Coords) (k0_t1 : Fin (k0_t1_loop i).trips) : Fin 2 → Nat :=
  let c0_i32_7 : BitVec 32 := 0#32
  let c1_i32_9 : BitVec 32 := 1#32
  let arg8 : BitVec 32 := Scf.iv c0_i32_7 c1_i32_9 k0_t1
  let c1_i32_28 : BitVec 32 := 1#32
  let v99 : BitVec 32 := Scalar.addi arg8 c1_i32_28
  let c512_i32_29 : BitVec 32 := 512#32
  let v100 : BitVec 32 := Scalar.muli v99 c512_i32_29
  let v101 : BitVec 32 := v100
  let v102 : Index := Scalar.indexCast v101
  let c0_30 : Index := 0#32
  ![v102.toNat, 0]
def k0_off2 (i : grid0.Coords) (k0_t1 : Fin (k0_t1_loop i).trips) : Fin 2 → Nat :=
  let c0_i32_7 : BitVec 32 := 0#32
  let c1_i32_9 : BitVec 32 := 1#32
  let arg8 : BitVec 32 := Scf.iv c0_i32_7 c1_i32_9 k0_t1
  let c1_i32_28 : BitVec 32 := 1#32
  let v99 : BitVec 32 := Scalar.addi arg8 c1_i32_28
  let c512_i32_29 : BitVec 32 := 512#32
  let v100 : BitVec 32 := Scalar.muli v99 c512_i32_29
  let v101 : BitVec 32 := v100
  let v106 : Index := Scalar.indexCast v101
  let c128_32 : Index := 128#32
  ![v106.toNat, 128]
def k0_mult3 (i : grid0.Coords) (k0_t1 : Fin (k0_t1_loop i).trips) : BitVec 32 :=
  let c0_i32_7 : BitVec 32 := 0#32
  let c1_i32_9 : BitVec 32 := 1#32
  let arg8 : BitVec 32 := Scf.iv c0_i32_7 c1_i32_9 k0_t1
  let c512_i32_34 : BitVec 32 := 512#32
  let v110 : BitVec 32 := Scalar.muli arg8 c512_i32_34
  v110
def k0_off3 (i : grid0.Coords) (k0_t1 : Fin (k0_t1_loop i).trips) : Fin 2 → Nat :=
  let c0_i32_7 : BitVec 32 := 0#32
  let c1_i32_9 : BitVec 32 := 1#32
  let arg8 : BitVec 32 := Scf.iv c0_i32_7 c1_i32_9 k0_t1
  let c512_i32_34 : BitVec 32 := 512#32
  let v110 : BitVec 32 := Scalar.muli arg8 c512_i32_34
  let v111 : BitVec 32 := v110
  let v123 : Index := Scalar.indexCast v111
  let c0_36 : Index := 0#32
  ![v123.toNat, 0]
def k0_off4 (i : grid0.Coords) (k0_t1 : Fin (k0_t1_loop i).trips) : Fin 2 → Nat :=
  let c0_i32_7 : BitVec 32 := 0#32
  let c1_i32_9 : BitVec 32 := 1#32
  let arg8 : BitVec 32 := Scf.iv c0_i32_7 c1_i32_9 k0_t1
  let c512_i32_34 : BitVec 32 := 512#32
  let v110 : BitVec 32 := Scalar.muli arg8 c512_i32_34
  let v111 : BitVec 32 := v110
  let v139 : Index := Scalar.indexCast v111
  let c128_39 : Index := 128#32
  ![v139.toNat, 128]
@[reducible] def k0_t2_loop (i : grid0.Coords) : Scf.Loop 32 :=
  let c0_i32_7 : BitVec 32 := 0#32
  let arg1 : BitVec 32 := BitVec.ofNat 32 (i 1).val
  let c1_i32 : BitVec 32 := 1#32
  let v5 : BitVec 32 := Scalar.shrui arg1 c1_i32
  let v22 : BitVec 32 := Scalar.subi v5 c0_i32_7
  let c1_i32_8 : BitVec 32 := 1#32
  let v24 : BitVec 32 := Scalar.divsi v22 c1_i32_8
  let v25 : BitVec 32 := Scalar.muli v24 c1_i32_8
  let v26 : BitVec 32 := Scalar.addi c0_i32_7 v25
  let v23 : BitVec 32 := Scalar.addi c0_i32_7 v22
  let c1_i32_10 : BitVec 32 := 1#32
  ⟨v26, v23, c1_i32_10⟩
def k0_mult4 (i : grid0.Coords) (k0_t2 : Fin (k0_t2_loop i).trips) : BitVec 32 :=
  let c0_i32_7 : BitVec 32 := 0#32
  let arg1 : BitVec 32 := BitVec.ofNat 32 (i 1).val
  let c1_i32 : BitVec 32 := 1#32
  let v5 : BitVec 32 := Scalar.shrui arg1 c1_i32
  let v22 : BitVec 32 := Scalar.subi v5 c0_i32_7
  let c1_i32_8 : BitVec 32 := 1#32
  let v24 : BitVec 32 := Scalar.divsi v22 c1_i32_8
  let v25 : BitVec 32 := Scalar.muli v24 c1_i32_8
  let v26 : BitVec 32 := Scalar.addi c0_i32_7 v25
  let c1_i32_10 : BitVec 32 := 1#32
  let arg8 : BitVec 32 := Scf.iv v26 c1_i32_10 k0_t2
  let c1_i32_28 : BitVec 32 := 1#32
  let v99 : BitVec 32 := Scalar.addi arg8 c1_i32_28
  let c512_i32_29 : BitVec 32 := 512#32
  let v100 : BitVec 32 := Scalar.muli v99 c512_i32_29
  v100
def k0_off5 (i : grid0.Coords) (k0_t2 : Fin (k0_t2_loop i).trips) : Fin 2 → Nat :=
  let c0_i32_7 : BitVec 32 := 0#32
  let arg1 : BitVec 32 := BitVec.ofNat 32 (i 1).val
  let c1_i32 : BitVec 32 := 1#32
  let v5 : BitVec 32 := Scalar.shrui arg1 c1_i32
  let v22 : BitVec 32 := Scalar.subi v5 c0_i32_7
  let c1_i32_8 : BitVec 32 := 1#32
  let v24 : BitVec 32 := Scalar.divsi v22 c1_i32_8
  let v25 : BitVec 32 := Scalar.muli v24 c1_i32_8
  let v26 : BitVec 32 := Scalar.addi c0_i32_7 v25
  let c1_i32_10 : BitVec 32 := 1#32
  let arg8 : BitVec 32 := Scf.iv v26 c1_i32_10 k0_t2
  let c1_i32_28 : BitVec 32 := 1#32
  let v99 : BitVec 32 := Scalar.addi arg8 c1_i32_28
  let c512_i32_29 : BitVec 32 := 512#32
  let v100 : BitVec 32 := Scalar.muli v99 c512_i32_29
  let v101 : BitVec 32 := v100
  let v102 : Index := Scalar.indexCast v101
  let c0_30 : Index := 0#32
  ![v102.toNat, 0]
def k0_off6 (i : grid0.Coords) (k0_t2 : Fin (k0_t2_loop i).trips) : Fin 2 → Nat :=
  let c0_i32_7 : BitVec 32 := 0#32
  let arg1 : BitVec 32 := BitVec.ofNat 32 (i 1).val
  let c1_i32 : BitVec 32 := 1#32
  let v5 : BitVec 32 := Scalar.shrui arg1 c1_i32
  let v22 : BitVec 32 := Scalar.subi v5 c0_i32_7
  let c1_i32_8 : BitVec 32 := 1#32
  let v24 : BitVec 32 := Scalar.divsi v22 c1_i32_8
  let v25 : BitVec 32 := Scalar.muli v24 c1_i32_8
  let v26 : BitVec 32 := Scalar.addi c0_i32_7 v25
  let c1_i32_10 : BitVec 32 := 1#32
  let arg8 : BitVec 32 := Scf.iv v26 c1_i32_10 k0_t2
  let c1_i32_28 : BitVec 32 := 1#32
  let v99 : BitVec 32 := Scalar.addi arg8 c1_i32_28
  let c512_i32_29 : BitVec 32 := 512#32
  let v100 : BitVec 32 := Scalar.muli v99 c512_i32_29
  let v101 : BitVec 32 := v100
  let v106 : Index := Scalar.indexCast v101
  let c128_32 : Index := 128#32
  ![v106.toNat, 128]
def k0_mult5 (i : grid0.Coords) (k0_t2 : Fin (k0_t2_loop i).trips) : BitVec 32 :=
  let c0_i32_7 : BitVec 32 := 0#32
  let arg1 : BitVec 32 := BitVec.ofNat 32 (i 1).val
  let c1_i32 : BitVec 32 := 1#32
  let v5 : BitVec 32 := Scalar.shrui arg1 c1_i32
  let v22 : BitVec 32 := Scalar.subi v5 c0_i32_7
  let c1_i32_8 : BitVec 32 := 1#32
  let v24 : BitVec 32 := Scalar.divsi v22 c1_i32_8
  let v25 : BitVec 32 := Scalar.muli v24 c1_i32_8
  let v26 : BitVec 32 := Scalar.addi c0_i32_7 v25
  let c1_i32_10 : BitVec 32 := 1#32
  let arg8 : BitVec 32 := Scf.iv v26 c1_i32_10 k0_t2
  let c512_i32_34 : BitVec 32 := 512#32
  let v110 : BitVec 32 := Scalar.muli arg8 c512_i32_34
  v110
def k0_off7 (i : grid0.Coords) (k0_t2 : Fin (k0_t2_loop i).trips) : Fin 2 → Nat :=
  let c0_i32_7 : BitVec 32 := 0#32
  let arg1 : BitVec 32 := BitVec.ofNat 32 (i 1).val
  let c1_i32 : BitVec 32 := 1#32
  let v5 : BitVec 32 := Scalar.shrui arg1 c1_i32
  let v22 : BitVec 32 := Scalar.subi v5 c0_i32_7
  let c1_i32_8 : BitVec 32 := 1#32
  let v24 : BitVec 32 := Scalar.divsi v22 c1_i32_8
  let v25 : BitVec 32 := Scalar.muli v24 c1_i32_8
  let v26 : BitVec 32 := Scalar.addi c0_i32_7 v25
  let c1_i32_10 : BitVec 32 := 1#32
  let arg8 : BitVec 32 := Scf.iv v26 c1_i32_10 k0_t2
  let c512_i32_34 : BitVec 32 := 512#32
  let v110 : BitVec 32 := Scalar.muli arg8 c512_i32_34
  let v111 : BitVec 32 := v110
  let v123 : Index := Scalar.indexCast v111
  let c0_36 : Index := 0#32
  ![v123.toNat, 0]
def k0_off8 (i : grid0.Coords) (k0_t2 : Fin (k0_t2_loop i).trips) : Fin 2 → Nat :=
  let c0_i32_7 : BitVec 32 := 0#32
  let arg1 : BitVec 32 := BitVec.ofNat 32 (i 1).val
  let c1_i32 : BitVec 32 := 1#32
  let v5 : BitVec 32 := Scalar.shrui arg1 c1_i32
  let v22 : BitVec 32 := Scalar.subi v5 c0_i32_7
  let c1_i32_8 : BitVec 32 := 1#32
  let v24 : BitVec 32 := Scalar.divsi v22 c1_i32_8
  let v25 : BitVec 32 := Scalar.muli v24 c1_i32_8
  let v26 : BitVec 32 := Scalar.addi c0_i32_7 v25
  let c1_i32_10 : BitVec 32 := 1#32
  let arg8 : BitVec 32 := Scf.iv v26 c1_i32_10 k0_t2
  let c512_i32_34 : BitVec 32 := 512#32
  let v110 : BitVec 32 := Scalar.muli arg8 c512_i32_34
  let v111 : BitVec 32 := v110
  let v139 : Index := Scalar.indexCast v111
  let c128_39 : Index := 128#32
  ![v139.toNat, 128]
def k0_mult6 (i : grid0.Coords) : BitVec 32 :=
  let arg1 : BitVec 32 := BitVec.ofNat 32 (i 1).val
  let c1_i32 : BitVec 32 := 1#32
  let v5 : BitVec 32 := Scalar.shrui arg1 c1_i32
  let c0_i32_11 : BitVec 32 := 0#32
  let v29 : BitVec 32 := Scalar.addi v5 c0_i32_11
  let c512_i32_13 : BitVec 32 := 512#32
  let v35 : BitVec 32 := Scalar.muli v29 c512_i32_13
  v35
def k0_off9 (i : grid0.Coords) : Fin 2 → Nat :=
  let arg1 : BitVec 32 := BitVec.ofNat 32 (i 1).val
  let c1_i32 : BitVec 32 := 1#32
  let v5 : BitVec 32 := Scalar.shrui arg1 c1_i32
  let c0_i32_11 : BitVec 32 := 0#32
  let v29 : BitVec 32 := Scalar.addi v5 c0_i32_11
  let c512_i32_13 : BitVec 32 := 512#32
  let v35 : BitVec 32 := Scalar.muli v29 c512_i32_13
  let v36 : BitVec 32 := v35
  let v50 : Index := Scalar.indexCast v36
  let c0_16 : Index := 0#32
  ![v50.toNat, 0]
def k0_off10 (i : grid0.Coords) : Fin 2 → Nat :=
  let arg1 : BitVec 32 := BitVec.ofNat 32 (i 1).val
  let c1_i32 : BitVec 32 := 1#32
  let v5 : BitVec 32 := Scalar.shrui arg1 c1_i32
  let c0_i32_11 : BitVec 32 := 0#32
  let v29 : BitVec 32 := Scalar.addi v5 c0_i32_11
  let c512_i32_13 : BitVec 32 := 512#32
  let v35 : BitVec 32 := Scalar.muli v29 c512_i32_13
  let v36 : BitVec 32 := v35
  let v68 : Index := Scalar.indexCast v36
  let c128_20 : Index := 128#32
  ![v68.toNat, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![4, 16], ![false, false]⟩

@[reducible] def k1_t1_loop (i : grid1.Coords) : Scf.Loop 32 :=
  let c0_i32_41 : BitVec 32 := 0#32
  let arg1 : BitVec 32 := BitVec.ofNat 32 (i 1).val
  let c1_i32_39 : BitVec 32 := 1#32
  let v188 : BitVec 32 := Scalar.shrui arg1 c1_i32_39
  let v195 : BitVec 32 := Scalar.subi v188 c0_i32_41
  let c1_i32_42 : BitVec 32 := 1#32
  let v197 : BitVec 32 := Scalar.divsi v195 c1_i32_42
  let v198 : BitVec 32 := Scalar.muli v197 c1_i32_42
  let v199 : BitVec 32 := Scalar.addi c0_i32_41 v198
  let c1_i32_43 : BitVec 32 := 1#32
  ⟨c0_i32_41, v199, c1_i32_43⟩
def k1_mult1 (i : grid1.Coords) (k1_t1 : Fin (k1_t1_loop i).trips) : BitVec 32 :=
  let c0_i32_41 : BitVec 32 := 0#32
  let c1_i32_43 : BitVec 32 := 1#32
  let arg12 : BitVec 32 := Scf.iv c0_i32_41 c1_i32_43 k1_t1
  let c512_i32_66 : BitVec 32 := 512#32
  let v259 : BitVec 32 := Scalar.muli arg12 c512_i32_66
  v259
def k1_off1 (i : grid1.Coords) (k1_t1 : Fin (k1_t1_loop i).trips) : Fin 2 → Nat :=
  let c0_i32_41 : BitVec 32 := 0#32
  let c1_i32_43 : BitVec 32 := 1#32
  let arg12 : BitVec 32 := Scf.iv c0_i32_41 c1_i32_43 k1_t1
  let c512_i32_66 : BitVec 32 := 512#32
  let v259 : BitVec 32 := Scalar.muli arg12 c512_i32_66
  let v260 : BitVec 32 := v259
  let v261 : Index := Scalar.indexCast v260
  let c0_67 : Index := 0#32
  ![v261.toNat, 0]
def k1_off2 (i : grid1.Coords) (k1_t1 : Fin (k1_t1_loop i).trips) : Fin 2 → Nat :=
  let c0_i32_41 : BitVec 32 := 0#32
  let c1_i32_43 : BitVec 32 := 1#32
  let arg12 : BitVec 32 := Scf.iv c0_i32_41 c1_i32_43 k1_t1
  let c512_i32_66 : BitVec 32 := 512#32
  let v259 : BitVec 32 := Scalar.muli arg12 c512_i32_66
  let v260 : BitVec 32 := v259
  let v274 : Index := Scalar.indexCast v260
  let c128_72 : Index := 128#32
  ![v274.toNat, 128]
@[reducible] def k1_t2_loop (i : grid1.Coords) : Scf.Loop 32 :=
  let c0_i32_41 : BitVec 32 := 0#32
  let arg1 : BitVec 32 := BitVec.ofNat 32 (i 1).val
  let c1_i32_39 : BitVec 32 := 1#32
  let v188 : BitVec 32 := Scalar.shrui arg1 c1_i32_39
  let v195 : BitVec 32 := Scalar.subi v188 c0_i32_41
  let c1_i32_42 : BitVec 32 := 1#32
  let v197 : BitVec 32 := Scalar.divsi v195 c1_i32_42
  let v198 : BitVec 32 := Scalar.muli v197 c1_i32_42
  let v199 : BitVec 32 := Scalar.addi c0_i32_41 v198
  let v196 : BitVec 32 := Scalar.addi c0_i32_41 v195
  let c1_i32_44 : BitVec 32 := 1#32
  ⟨v199, v196, c1_i32_44⟩
def k1_mult2 (i : grid1.Coords) (k1_t2 : Fin (k1_t2_loop i).trips) : BitVec 32 :=
  let c0_i32_41 : BitVec 32 := 0#32
  let arg1 : BitVec 32 := BitVec.ofNat 32 (i 1).val
  let c1_i32_39 : BitVec 32 := 1#32
  let v188 : BitVec 32 := Scalar.shrui arg1 c1_i32_39
  let v195 : BitVec 32 := Scalar.subi v188 c0_i32_41
  let c1_i32_42 : BitVec 32 := 1#32
  let v197 : BitVec 32 := Scalar.divsi v195 c1_i32_42
  let v198 : BitVec 32 := Scalar.muli v197 c1_i32_42
  let v199 : BitVec 32 := Scalar.addi c0_i32_41 v198
  let c1_i32_44 : BitVec 32 := 1#32
  let arg12 : BitVec 32 := Scf.iv v199 c1_i32_44 k1_t2
  let c512_i32_66 : BitVec 32 := 512#32
  let v259 : BitVec 32 := Scalar.muli arg12 c512_i32_66
  v259
def k1_off3 (i : grid1.Coords) (k1_t2 : Fin (k1_t2_loop i).trips) : Fin 2 → Nat :=
  let c0_i32_41 : BitVec 32 := 0#32
  let arg1 : BitVec 32 := BitVec.ofNat 32 (i 1).val
  let c1_i32_39 : BitVec 32 := 1#32
  let v188 : BitVec 32 := Scalar.shrui arg1 c1_i32_39
  let v195 : BitVec 32 := Scalar.subi v188 c0_i32_41
  let c1_i32_42 : BitVec 32 := 1#32
  let v197 : BitVec 32 := Scalar.divsi v195 c1_i32_42
  let v198 : BitVec 32 := Scalar.muli v197 c1_i32_42
  let v199 : BitVec 32 := Scalar.addi c0_i32_41 v198
  let c1_i32_44 : BitVec 32 := 1#32
  let arg12 : BitVec 32 := Scf.iv v199 c1_i32_44 k1_t2
  let c512_i32_66 : BitVec 32 := 512#32
  let v259 : BitVec 32 := Scalar.muli arg12 c512_i32_66
  let v260 : BitVec 32 := v259
  let v261 : Index := Scalar.indexCast v260
  let c0_67 : Index := 0#32
  ![v261.toNat, 0]
def k1_off4 (i : grid1.Coords) (k1_t2 : Fin (k1_t2_loop i).trips) : Fin 2 → Nat :=
  let c0_i32_41 : BitVec 32 := 0#32
  let arg1 : BitVec 32 := BitVec.ofNat 32 (i 1).val
  let c1_i32_39 : BitVec 32 := 1#32
  let v188 : BitVec 32 := Scalar.shrui arg1 c1_i32_39
  let v195 : BitVec 32 := Scalar.subi v188 c0_i32_41
  let c1_i32_42 : BitVec 32 := 1#32
  let v197 : BitVec 32 := Scalar.divsi v195 c1_i32_42
  let v198 : BitVec 32 := Scalar.muli v197 c1_i32_42
  let v199 : BitVec 32 := Scalar.addi c0_i32_41 v198
  let c1_i32_44 : BitVec 32 := 1#32
  let arg12 : BitVec 32 := Scf.iv v199 c1_i32_44 k1_t2
  let c512_i32_66 : BitVec 32 := 512#32
  let v259 : BitVec 32 := Scalar.muli arg12 c512_i32_66
  let v260 : BitVec 32 := v259
  let v274 : Index := Scalar.indexCast v260
  let c128_72 : Index := 128#32
  ![v274.toNat, 128]
def k1_mult3 (i : grid1.Coords) : BitVec 32 :=
  let arg1 : BitVec 32 := BitVec.ofNat 32 (i 1).val
  let c1_i32_39 : BitVec 32 := 1#32
  let v188 : BitVec 32 := Scalar.shrui arg1 c1_i32_39
  let c0_i32_45 : BitVec 32 := 0#32
  let v202 : BitVec 32 := Scalar.addi v188 c0_i32_45
  let c512_i32_47 : BitVec 32 := 512#32
  let v208 : BitVec 32 := Scalar.muli v202 c512_i32_47
  v208
def k1_off5 (i : grid1.Coords) : Fin 2 → Nat :=
  let arg1 : BitVec 32 := BitVec.ofNat 32 (i 1).val
  let c1_i32_39 : BitVec 32 := 1#32
  let v188 : BitVec 32 := Scalar.shrui arg1 c1_i32_39
  let c0_i32_45 : BitVec 32 := 0#32
  let v202 : BitVec 32 := Scalar.addi v188 c0_i32_45
  let c512_i32_47 : BitVec 32 := 512#32
  let v208 : BitVec 32 := Scalar.muli v202 c512_i32_47
  let v209 : BitVec 32 := v208
  let v210 : Index := Scalar.indexCast v209
  let c0_48 : Index := 0#32
  ![v210.toNat, 0]
def k1_off6 (i : grid1.Coords) : Fin 2 → Nat :=
  let arg1 : BitVec 32 := BitVec.ofNat 32 (i 1).val
  let c1_i32_39 : BitVec 32 := 1#32
  let v188 : BitVec 32 := Scalar.shrui arg1 c1_i32_39
  let c0_i32_45 : BitVec 32 := 0#32
  let v202 : BitVec 32 := Scalar.addi v188 c0_i32_45
  let c512_i32_47 : BitVec 32 := 512#32
  let v208 : BitVec 32 := Scalar.muli v202 c512_i32_47
  let v209 : BitVec 32 := v208
  let v225 : Index := Scalar.indexCast v209
  let c128_54 : Index := 128#32
  ![v225.toNat, 128]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S256x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S256x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S256x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S4096x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S4096x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S256x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S256x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S256x256 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S256x256 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev grid2 : Pipeline.Grid := ⟨2, ![4, 16], ![false, false]⟩

def k2_mult1 (i : grid2.Coords) : BitVec 32 :=
  let arg1 : BitVec 32 := BitVec.ofNat 32 (i 1).val
  let c1_i32 : BitVec 32 := 1#32
  let v9 : BitVec 32 := Scalar.shrui arg1 c1_i32
  let c0_i32 : BitVec 32 := 0#32
  let v16 : BitVec 32 := Scalar.addi v9 c0_i32
  let c512_i32_7 : BitVec 32 := 512#32
  let v22 : BitVec 32 := Scalar.muli v16 c512_i32_7
  v22
def k2_off1 (i : grid2.Coords) : Fin 2 → Nat :=
  let arg1 : BitVec 32 := BitVec.ofNat 32 (i 1).val
  let c1_i32 : BitVec 32 := 1#32
  let v9 : BitVec 32 := Scalar.shrui arg1 c1_i32
  let c0_i32 : BitVec 32 := 0#32
  let v16 : BitVec 32 := Scalar.addi v9 c0_i32
  let c512_i32_7 : BitVec 32 := 512#32
  let v22 : BitVec 32 := Scalar.muli v16 c512_i32_7
  let v23 : BitVec 32 := v22
  let v24 : Index := Scalar.indexCast v23
  let c0_8 : Index := 0#32
  ![v24.toNat, 0]
def k2_off2 (i : grid2.Coords) : Fin 2 → Nat :=
  let arg1 : BitVec 32 := BitVec.ofNat 32 (i 1).val
  let c1_i32 : BitVec 32 := 1#32
  let v9 : BitVec 32 := Scalar.shrui arg1 c1_i32
  let c0_i32 : BitVec 32 := 0#32
  let v16 : BitVec 32 := Scalar.addi v9 c0_i32
  let c512_i32_7 : BitVec 32 := 512#32
  let v22 : BitVec 32 := Scalar.muli v16 c512_i32_7
  let v23 : BitVec 32 := v22
  let v42 : Index := Scalar.indexCast v23
  let c128_15 : Index := 128#32
  ![v42.toNat, 128]
@[reducible] def k2_t1_loop (i : grid2.Coords) : Scf.Loop 32 :=
  let arg1 : BitVec 32 := BitVec.ofNat 32 (i 1).val
  let c1_i32 : BitVec 32 := 1#32
  let v9 : BitVec 32 := Scalar.shrui arg1 c1_i32
  let c1_i32_22 : BitVec 32 := 1#32
  let v60 : BitVec 32 := Scalar.addi v9 c1_i32_22
  let c8_i32 : BitVec 32 := 8#32
  let v61 : BitVec 32 := Scalar.subi c8_i32 v60
  let c1_i32_23 : BitVec 32 := 1#32
  let v63 : BitVec 32 := Scalar.divsi v61 c1_i32_23
  let v64 : BitVec 32 := Scalar.muli v63 c1_i32_23
  let v65 : BitVec 32 := Scalar.addi v60 v64
  let c1_i32_24 : BitVec 32 := 1#32
  ⟨v60, v65, c1_i32_24⟩
def k2_mult2 (i : grid2.Coords) (k2_t1 : Fin (k2_t1_loop i).trips) : BitVec 32 :=
  let arg1 : BitVec 32 := BitVec.ofNat 32 (i 1).val
  let c1_i32 : BitVec 32 := 1#32
  let v9 : BitVec 32 := Scalar.shrui arg1 c1_i32
  let c1_i32_22 : BitVec 32 := 1#32
  let v60 : BitVec 32 := Scalar.addi v9 c1_i32_22
  let c1_i32_24 : BitVec 32 := 1#32
  let arg9 : BitVec 32 := Scf.iv v60 c1_i32_24 k2_t1
  let c512_i32_32 : BitVec 32 := 512#32
  let v90 : BitVec 32 := Scalar.muli arg9 c512_i32_32
  v90
def k2_off3 (i : grid2.Coords) (k2_t1 : Fin (k2_t1_loop i).trips) : Fin 2 → Nat :=
  let arg1 : BitVec 32 := BitVec.ofNat 32 (i 1).val
  let c1_i32 : BitVec 32 := 1#32
  let v9 : BitVec 32 := Scalar.shrui arg1 c1_i32
  let c1_i32_22 : BitVec 32 := 1#32
  let v60 : BitVec 32 := Scalar.addi v9 c1_i32_22
  let c1_i32_24 : BitVec 32 := 1#32
  let arg9 : BitVec 32 := Scf.iv v60 c1_i32_24 k2_t1
  let c512_i32_32 : BitVec 32 := 512#32
  let v90 : BitVec 32 := Scalar.muli arg9 c512_i32_32
  let v91 : BitVec 32 := v90
  let v92 : Index := Scalar.indexCast v91
  let c0_33 : Index := 0#32
  ![v92.toNat, 0]
def k2_off4 (i : grid2.Coords) (k2_t1 : Fin (k2_t1_loop i).trips) : Fin 2 → Nat :=
  let arg1 : BitVec 32 := BitVec.ofNat 32 (i 1).val
  let c1_i32 : BitVec 32 := 1#32
  let v9 : BitVec 32 := Scalar.shrui arg1 c1_i32
  let c1_i32_22 : BitVec 32 := 1#32
  let v60 : BitVec 32 := Scalar.addi v9 c1_i32_22
  let c1_i32_24 : BitVec 32 := 1#32
  let arg9 : BitVec 32 := Scf.iv v60 c1_i32_24 k2_t1
  let c512_i32_32 : BitVec 32 := 512#32
  let v90 : BitVec 32 := Scalar.muli arg9 c512_i32_32
  let v91 : BitVec 32 := v90
  let v108 : Index := Scalar.indexCast v91
  let c128_39 : Index := 128#32
  ![v108.toNat, 128]
@[reducible] def k2_t2_loop (i : grid2.Coords) : Scf.Loop 32 :=
  let arg1 : BitVec 32 := BitVec.ofNat 32 (i 1).val
  let c1_i32 : BitVec 32 := 1#32
  let v9 : BitVec 32 := Scalar.shrui arg1 c1_i32
  let c1_i32_22 : BitVec 32 := 1#32
  let v60 : BitVec 32 := Scalar.addi v9 c1_i32_22
  let c8_i32 : BitVec 32 := 8#32
  let v61 : BitVec 32 := Scalar.subi c8_i32 v60
  let c1_i32_23 : BitVec 32 := 1#32
  let v63 : BitVec 32 := Scalar.divsi v61 c1_i32_23
  let v64 : BitVec 32 := Scalar.muli v63 c1_i32_23
  let v65 : BitVec 32 := Scalar.addi v60 v64
  let v62 : BitVec 32 := Scalar.addi v60 v61
  let c1_i32_25 : BitVec 32 := 1#32
  ⟨v65, v62, c1_i32_25⟩
def k2_mult3 (i : grid2.Coords) (k2_t2 : Fin (k2_t2_loop i).trips) : BitVec 32 :=
  let arg1 : BitVec 32 := BitVec.ofNat 32 (i 1).val
  let c1_i32 : BitVec 32 := 1#32
  let v9 : BitVec 32 := Scalar.shrui arg1 c1_i32
  let c1_i32_22 : BitVec 32 := 1#32
  let v60 : BitVec 32 := Scalar.addi v9 c1_i32_22
  let c8_i32 : BitVec 32 := 8#32
  let v61 : BitVec 32 := Scalar.subi c8_i32 v60
  let c1_i32_23 : BitVec 32 := 1#32
  let v63 : BitVec 32 := Scalar.divsi v61 c1_i32_23
  let v64 : BitVec 32 := Scalar.muli v63 c1_i32_23
  let v65 : BitVec 32 := Scalar.addi v60 v64
  let c1_i32_25 : BitVec 32 := 1#32
  let arg9 : BitVec 32 := Scf.iv v65 c1_i32_25 k2_t2
  let c512_i32_32 : BitVec 32 := 512#32
  let v90 : BitVec 32 := Scalar.muli arg9 c512_i32_32
  v90
def k2_off5 (i : grid2.Coords) (k2_t2 : Fin (k2_t2_loop i).trips) : Fin 2 → Nat :=
  let arg1 : BitVec 32 := BitVec.ofNat 32 (i 1).val
  let c1_i32 : BitVec 32 := 1#32
  let v9 : BitVec 32 := Scalar.shrui arg1 c1_i32
  let c1_i32_22 : BitVec 32 := 1#32
  let v60 : BitVec 32 := Scalar.addi v9 c1_i32_22
  let c8_i32 : BitVec 32 := 8#32
  let v61 : BitVec 32 := Scalar.subi c8_i32 v60
  let c1_i32_23 : BitVec 32 := 1#32
  let v63 : BitVec 32 := Scalar.divsi v61 c1_i32_23
  let v64 : BitVec 32 := Scalar.muli v63 c1_i32_23
  let v65 : BitVec 32 := Scalar.addi v60 v64
  let c1_i32_25 : BitVec 32 := 1#32
  let arg9 : BitVec 32 := Scf.iv v65 c1_i32_25 k2_t2
  let c512_i32_32 : BitVec 32 := 512#32
  let v90 : BitVec 32 := Scalar.muli arg9 c512_i32_32
  let v91 : BitVec 32 := v90
  let v92 : Index := Scalar.indexCast v91
  let c0_33 : Index := 0#32
  ![v92.toNat, 0]
def k2_off6 (i : grid2.Coords) (k2_t2 : Fin (k2_t2_loop i).trips) : Fin 2 → Nat :=
  let arg1 : BitVec 32 := BitVec.ofNat 32 (i 1).val
  let c1_i32 : BitVec 32 := 1#32
  let v9 : BitVec 32 := Scalar.shrui arg1 c1_i32
  let c1_i32_22 : BitVec 32 := 1#32
  let v60 : BitVec 32 := Scalar.addi v9 c1_i32_22
  let c8_i32 : BitVec 32 := 8#32
  let v61 : BitVec 32 := Scalar.subi c8_i32 v60
  let c1_i32_23 : BitVec 32 := 1#32
  let v63 : BitVec 32 := Scalar.divsi v61 c1_i32_23
  let v64 : BitVec 32 := Scalar.muli v63 c1_i32_23
  let v65 : BitVec 32 := Scalar.addi v60 v64
  let c1_i32_25 : BitVec 32 := 1#32
  let arg9 : BitVec 32 := Scf.iv v65 c1_i32_25 k2_t2
  let c512_i32_32 : BitVec 32 := 512#32
  let v90 : BitVec 32 := Scalar.muli arg9 c512_i32_32
  let v91 : BitVec 32 := v90
  let v108 : Index := Scalar.indexCast v91
  let c128_39 : Index := 128#32
  ![v108.toNat, 128]
def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S256x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S256x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S4096x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S4096x256 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S256x128 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S256x128 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S256x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]
-- ==== FoxKernelIdeal.lean ====
variable {F : FTy → Type} [FloatOps F] [Named F]
def κ : String → Option EReal := fun
  | "mask" => some ⊥
  | _ => none
-- ==== FoxReferenceIdeal.lean ====
abbrev S4096x512 : Shape := ⟨2, ![4096, 512]⟩
abbrev S4096x8 : Shape := ⟨2, ![4096, 8]⟩
abbrev S1x8 : Shape := ⟨2, ![1, 8]⟩
abbrev S_ : Shape := ⟨0, ![]⟩
abbrev S4096x8x64 : Shape := ⟨3, ![4096, 8, 64]⟩
abbrev S8x4096x4096 : Shape := ⟨3, ![8, 4096, 4096]⟩
abbrev S8x4096 : Shape := ⟨2, ![8, 4096]⟩
abbrev S8x4096x1 : Shape := ⟨3, ![8, 4096, 1]⟩
abbrev S8x1x4096 : Shape := ⟨3, ![8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x64x4096 : Shape := ⟨3, ![8, 64, 4096]⟩
abbrev S8x4096x64 : Shape := ⟨3, ![8, 4096, 64]⟩

abbrev nBuf : Space → Nat
  | .hbm => 150
  | .vmem => 0
  | .smem => 0
  | _ => 0

abbrev hbmTy0_0 (i : Nat) : BufTy := match i % 128 with
  | 0 => ⟨S4096x512, .f32⟩
  | 1 => ⟨S4096x512, .f32⟩
  | 2 => ⟨S4096x512, .f32⟩
  | 3 => ⟨S4096x8, .f32⟩
  | 4 => ⟨S1x8, .f32⟩
  | 5 => ⟨S4096x512, .f32⟩
  | 6 => ⟨S4096x8, .f32⟩
  | 7 => ⟨S4096x8, .f32⟩
  | 8 => ⟨S4096x8, .f32⟩
  | 9 => ⟨S_, .f32⟩
  | 10 => ⟨S4096x8, .f32⟩
  | 11 => ⟨S4096x8, .f32⟩
  | 12 => ⟨S4096x8, .f32⟩
  | 13 => ⟨S4096x8, .f32⟩
  | 14 => ⟨S4096x8, .i1⟩
  | 15 => ⟨S4096x8, .f32⟩
  | 16 => ⟨S4096x8, .f32⟩
  | 17 => ⟨S4096x8, .f32⟩
  | 18 => ⟨S4096x8, .f32⟩
  | 19 => ⟨S4096x8, .f32⟩
  | 20 => ⟨S4096x8, .f32⟩
  | 21 => ⟨S4096x8, .f32⟩
  | 22 => ⟨S4096x8, .f32⟩
  | 23 => ⟨S4096x8, .f32⟩
  | 24 => ⟨S_, .f32⟩
  | 25 => ⟨S_, .f32⟩
  | 26 => ⟨S4096x8, .f32⟩
  | 27 => ⟨S4096x8x64, .f32⟩
  | 28 => ⟨S4096x8x64, .f32⟩
  | 29 => ⟨S4096x8x64, .f32⟩
  | 30 => ⟨S8x4096x4096, .f32⟩
  | 31 => ⟨S_, .f32⟩
  | 32 => ⟨S8x4096x4096, .f32⟩
  | 33 => ⟨S8x4096x4096, .f32⟩
  | 34 => ⟨S8x4096, .f32⟩
  | 35 => ⟨S8x4096x1, .f32⟩
  | 36 => ⟨S8x4096x4096, .f32⟩
  | 37 => ⟨S8x4096x4096, .f32⟩
  | 38 => ⟨S8x4096, .f32⟩
  | 39 => ⟨S8x1x4096, .f32⟩
  | 40 => ⟨S8x4096x4096, .f32⟩
  | 41 => ⟨S8x4096x4096, .f32⟩
  | 42 => ⟨S4096, .i32⟩
  | 43 => ⟨S1x4096, .i32⟩
  | 44 => ⟨S4096x1, .i32⟩
  | 45 => ⟨S4096x4096, .i32⟩
  | 46 => ⟨S4096x4096, .i32⟩
  | 47 => ⟨S4096x4096, .i1⟩
  | 48 => ⟨S_, .f32⟩
  | 49 => ⟨S_, .f32⟩
  | 50 => ⟨S8x4096x4096, .i1⟩
  | 51 => ⟨S8x4096x4096, .f32⟩
  | 52 => ⟨S8x4096x4096, .f32⟩
  | 53 => ⟨S_, .f32⟩
  | 54 => ⟨S8x4096x4096, .f32⟩
  | 55 => ⟨S_, .f32⟩
  | 56 => ⟨S8x4096, .f32⟩
  | 57 => ⟨S8x4096x1, .f32⟩
  | 58 => ⟨S8x4096x4096, .f32⟩
  | 59 => ⟨S8x4096x4096, .i1⟩
  | 60 => ⟨S8x4096x4096, .f32⟩
  | 61 => ⟨S_, .f32⟩
  | 62 => ⟨S8x4096, .f32⟩
  | 63 => ⟨S_, .f32⟩
  | 64 => ⟨S8x4096, .f32⟩
  | 65 => ⟨S8x4096, .f32⟩
  | 66 => ⟨S_, .f32⟩
  | 67 => ⟨S8x4096, .f32⟩
  | 68 => ⟨S8x4096, .i1⟩
  | 69 => ⟨S_, .f32⟩
  | 70 => ⟨S8x4096, .f32⟩
  | 71 => ⟨S8x4096, .i1⟩
  | 72 => ⟨S_, .f32⟩
  | 73 => ⟨S8x4096, .f32⟩
  | 74 => ⟨S_, .f32⟩
  | 75 => ⟨S8x4096, .f32⟩
  | 76 => ⟨S_, .f32⟩
  | 77 => ⟨S8x4096, .f32⟩
  | 78 => ⟨S8x4096, .f32⟩
  | 79 => ⟨S8x4096, .f32⟩
  | 80 => ⟨S8x4096x1, .f32⟩
  | 81 => ⟨S8x4096x4096, .f32⟩
  | 82 => ⟨S8x4096x4096, .f32⟩
  | 83 => ⟨S8x4096x4096, .f32⟩
  | 84 => ⟨S_, .f32⟩
  | 85 => ⟨S8x4096, .f32⟩
  | 86 => ⟨S8x4096x1, .f32⟩
  | 87 => ⟨S8x4096x4096, .f32⟩
  | 88 => ⟨S8x4096x4096, .f32⟩
  | 89 => ⟨S8x4096x1, .f32⟩
  | 90 => ⟨S_, .f32⟩
  | 91 => ⟨S8x4096x1, .f32⟩
  | 92 => ⟨S8x4096x1, .f32⟩
  | 93 => ⟨S8x64x4096, .f32⟩
  | 94 => ⟨S4096x8x64, .f32⟩
  | 95 => ⟨S4096x512, .f32⟩
  | 96 => ⟨S4096x8x64, .f32⟩
  | 97 => ⟨S8x64x4096, .f32⟩
  | 98 => ⟨S8x4096x4096, .f32⟩
  | 99 => ⟨S8x64x4096, .f32⟩
  | 100 => ⟨S4096x8x64, .f32⟩
  | 101 => ⟨S8x4096x4096, .f32⟩
  | 102 => ⟨S8x4096x4096, .f32⟩
  | 103 => ⟨S8x4096x4096, .f32⟩
  | 104 => ⟨S_, .f32⟩
  | 105 => ⟨S8x4096, .f32⟩
  | 106 => ⟨S8x4096x1, .f32⟩
  | 107 => ⟨S8x4096x1, .f32⟩
  | 108 => ⟨S8x4096x4096, .f32⟩
  | 109 => ⟨S8x4096x4096, .f32⟩
  | 110 => ⟨S_, .f32⟩
  | 111 => ⟨S8x4096, .f32⟩
  | 112 => ⟨S8x4096x4096, .f32⟩
  | 113 => ⟨S8x4096x4096, .f32⟩
  | 114 => ⟨S8x4096x4096, .f32⟩
  | 115 => ⟨S_, .f32⟩
  | 116 => ⟨S8x4096x4096, .f32⟩
  | 117 => ⟨S8x4096x4096, .f32⟩
  | 118 => ⟨S8x4096x4096, .f32⟩
  | 119 => ⟨S_, .f32⟩
  | 120 => ⟨S8x4096, .f32⟩
  | 121 => ⟨S8x1x4096, .f32⟩
  | 122 => ⟨S_, .f32⟩
  | 123 => ⟨S8x4096, .f32⟩
  | 124 => ⟨S4096x8, .f32⟩
  | 125 => ⟨S_, .f32⟩
  | 126 => ⟨S8x4096, .f32⟩
  | 127 => ⟨S8x4096x1, .f32⟩
  | _ => ⟨S4096x512, .f32⟩

abbrev hbmTy0_1 (i : Nat) : BufTy := match i % 128 with
  | 0 => ⟨S_, .f32⟩
  | 1 => ⟨S8x4096, .f32⟩
  | 2 => ⟨S4096x8, .f32⟩
  | 3 => ⟨S_, .f32⟩
  | 4 => ⟨S8x4096x4096, .f32⟩
  | 5 => ⟨S8x4096x4096, .f32⟩
  | 6 => ⟨S8x4096x64, .f32⟩
  | 7 => ⟨S4096x8x64, .f32⟩
  | 8 => ⟨S8x4096x64, .f32⟩
  | 9 => ⟨S4096x8x64, .f32⟩
  | 10 => ⟨S4096x512, .f32⟩
  | 11 => ⟨S4096x512, .f32⟩
  | 12 => ⟨S4096x512, .f32⟩
  | 13 => ⟨S4096x512, .bf16⟩
  | 14 => ⟨S4096x512, .bf16⟩
  | 15 => ⟨S4096x512, .bf16⟩
  | 16 => ⟨S4096x512, .bf16⟩
  | 17 => ⟨S4096x8x64, .f32⟩
  | 18 => ⟨S4096x512, .f32⟩
  | 19 => ⟨S4096x8, .f32⟩
  | 20 => ⟨S4096x8x64, .f32⟩
  | 21 => ⟨S4096x512, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_call0_cst : Ref sig .tc := ⟨.hbm, 9, rfl⟩
abbrev main_call0_call0_v0 : Ref sig .tc := ⟨.hbm, 10, rfl⟩
abbrev main_call0_call0_v1 : Ref sig .tc := ⟨.hbm, 11, rfl⟩
abbrev main_call0_call0_v2 : Ref sig .tc := ⟨.hbm, 12, rfl⟩
abbrev main_call0_call0_v3 : Ref sig .tc := ⟨.hbm, 13, rfl⟩
abbrev main_call0_call0_v4 : Ref sig .tc := ⟨.hbm, 14, rfl⟩
abbrev main_call0_call0_v5 : Ref sig .tc := ⟨.hbm, 15, rfl⟩
abbrev main_call0_call0_v6 : Ref sig .tc := ⟨.hbm, 16, rfl⟩
abbrev main_call0_call0_v7 : Ref sig .tc := ⟨.hbm, 17, rfl⟩
abbrev main_call0_call0_v8 : Ref sig .tc := ⟨.hbm, 18, rfl⟩
abbrev main_call0_call0_v9 : Ref sig .tc := ⟨.hbm, 19, rfl⟩
abbrev main_call0_call0_v10 : Ref sig .tc := ⟨.hbm, 20, rfl⟩
abbrev main_call0_call0_v11 : Ref sig .tc := ⟨.hbm, 21, rfl⟩
abbrev main_call0_v1 : Ref sig .tc := ⟨.hbm, 22, rfl⟩
abbrev main_v2 : Ref sig .tc := ⟨.hbm, 23, rfl⟩
abbrev main_call1_call0_cst : Ref sig .tc := ⟨.hbm, 24, rfl⟩
abbrev main_call1_call0_v0 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_cst : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst_0 : Ref sig .tc := ⟨.hbm, 48, rfl⟩
abbrev main_call2_v0 : Ref sig .tc := ⟨.hbm, 49, rfl⟩
abbrev main_v24_1 : Ref sig .tc := ⟨.hbm, 50, rfl⟩
abbrev main_call2_v2 : Ref sig .tc := ⟨.hbm, 51, rfl⟩
abbrev main_v24_0 : Ref sig .tc := ⟨.hbm, 52, rfl⟩
abbrev main_call2_cst : Ref sig .tc := ⟨.hbm, 53, rfl⟩
abbrev main_v24_2 : Ref sig .tc := ⟨.hbm, 54, rfl⟩
abbrev main_cst_1 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_cst_2 : Ref sig .tc := ⟨.hbm, 61, rfl⟩
abbrev main_v30 : Ref sig .tc := ⟨.hbm, 62, rfl⟩
abbrev main_cst_3 : Ref sig .tc := ⟨.hbm, 63, rfl⟩
abbrev main_v31 : Ref sig .tc := ⟨.hbm, 64, rfl⟩
abbrev main_v32 : Ref sig .tc := ⟨.hbm, 65, rfl⟩
abbrev main_cst_4 : Ref sig .tc := ⟨.hbm, 66, rfl⟩
abbrev main_v33 : Ref sig .tc := ⟨.hbm, 67, rfl⟩
abbrev main_v34 : Ref sig .tc := ⟨.hbm, 68, rfl⟩
abbrev main_cst_5 : Ref sig .tc := ⟨.hbm, 69, rfl⟩
abbrev main_v35 : Ref sig .tc := ⟨.hbm, 70, rfl⟩
abbrev main_v36 : Ref sig .tc := ⟨.hbm, 71, rfl⟩
abbrev main_cst_6 : Ref sig .tc := ⟨.hbm, 72, rfl⟩
abbrev main_v37 : Ref sig .tc := ⟨.hbm, 73, rfl⟩
abbrev main_cst_7 : Ref sig .tc := ⟨.hbm, 74, rfl⟩
abbrev main_v38 : Ref sig .tc := ⟨.hbm, 75, rfl⟩
abbrev main_cst_8 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_cst_9 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_cst_10 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_11 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_cst_12 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_call3_cst : Ref sig .tc := ⟨.hbm, 115, rfl⟩
abbrev main_call3_v0 : Ref sig .tc := ⟨.hbm, 116, rfl⟩
abbrev main_v73 : Ref sig .tc := ⟨.hbm, 117, rfl⟩
abbrev main_v74 : Ref sig .tc := ⟨.hbm, 118, rfl⟩
abbrev main_cst_13 : Ref sig .tc := ⟨.hbm, 119, rfl⟩
abbrev main_v75 : Ref sig .tc := ⟨.hbm, 120, rfl⟩
abbrev main_v76 : Ref sig .tc := ⟨.hbm, 121, rfl⟩
abbrev main_cst_14 : Ref sig .tc := ⟨.hbm, 122, rfl⟩
abbrev main_v77 : Ref sig .tc := ⟨.hbm, 123, rfl⟩
abbrev main_v78 : Ref sig .tc := ⟨.hbm, 124, rfl⟩
abbrev main_cst_15 : Ref sig .tc := ⟨.hbm, 125, rfl⟩
abbrev main_v79 : Ref sig .tc := ⟨.hbm, 126, rfl⟩
abbrev main_v80 : Ref sig .tc := ⟨.hbm, 127, rfl⟩
abbrev main_cst_16 : Ref sig .tc := ⟨.hbm, 128, rfl⟩
abbrev main_v81 : Ref sig .tc := ⟨.hbm, 129, rfl⟩
abbrev main_v82 : Ref sig .tc := ⟨.hbm, 130, rfl⟩
abbrev main_cst_17 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩

abbrev nD : Nat := 1
abbrev τ : Topo := Topo.v7x

variable {F : FTy → Type} [FloatOps F]
-- ==== CumKernel.lean ====
abbrev S4096x8 : Shape := ⟨2, ![4096, 8]⟩
abbrev S1x8 : Shape := ⟨2, ![1, 8]⟩
abbrev S_ : Shape := ⟨0, ![]⟩
abbrev S4096x128 : Shape := ⟨2, ![4096, 128]⟩
abbrev S1x128 : Shape := ⟨2, ![1, 128]⟩
abbrev S4096x8x64 : Shape := ⟨3, ![4096, 8, 64]⟩
abbrev S4096x512 : Shape := ⟨2, ![4096, 512]⟩
abbrev S512x512 : Shape := ⟨2, ![512, 512]⟩
abbrev S512x128 : Shape := ⟨2, ![512, 128]⟩
abbrev S128 : Shape := ⟨1, ![128]⟩

abbrev nBuf : Space → Nat
  | .hbm => 16
  | .vmem => 11
  | .smem => 0
  | _ => 0

abbrev bufTy : (tb : Table) → Fin (tcTables nBuf tb) → BufTy
  | .hbm, ⟨0, _⟩ => ⟨S4096x8, .f32⟩
  | .hbm, ⟨1, _⟩ => ⟨S1x8, .f32⟩
  | .hbm, ⟨2, _⟩ => ⟨S4096x8, .f32⟩
  | .hbm, ⟨3, _⟩ => ⟨S4096x8, .f32⟩
  | .hbm, ⟨4, _⟩ => ⟨S_, .i32⟩
  | .hbm, ⟨5, _⟩ => ⟨S_, .f32⟩
  | .hbm, ⟨6, _⟩ => ⟨S4096x128, .f32⟩
  | .hbm, ⟨7, _⟩ => ⟨S_, .i32⟩
  | .hbm, ⟨8, _⟩ => ⟨S_, .f32⟩
  | .hbm, ⟨9, _⟩ => ⟨S1x128, .f32⟩
  | .hbm, ⟨10, _⟩ => ⟨S4096x8x64, .f32⟩
  | .hbm, ⟨11, _⟩ => ⟨S4096x512, .f32⟩
  | .hbm, ⟨12, _⟩ => ⟨S4096x8x64, .f32⟩
  | .hbm, ⟨13, _⟩ => ⟨S4096x512, .f32⟩
  | .hbm, ⟨14, _⟩ => ⟨S4096x128, .bf16⟩
  | .hbm, ⟨15, _⟩ => ⟨S1x128, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x128, .f32⟩
  | .local _ .vmem, ⟨5, _⟩ => ⟨S512x128, .f32⟩
  | .local _ .vmem, ⟨6, _⟩ => ⟨S1x128, .f32⟩
  | .local _ .vmem, ⟨7, _⟩ => ⟨S512x128, .bf16⟩
  | .local _ .vmem, ⟨8, _⟩ => ⟨S512x128, .bf16⟩
  | .local _ .vmem, ⟨9, _⟩ => ⟨S1x128, .f32⟩
  | .local _ .vmem, ⟨10, _⟩ => ⟨S1x128, .f32⟩
  | _, _ => ⟨S4096x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== CumReferenceIdeal.lean ====
abbrev S4096x8 : Shape := ⟨2, ![4096, 8]⟩
abbrev S1x8 : Shape := ⟨2, ![1, 8]⟩
abbrev S_ : Shape := ⟨0, ![]⟩
abbrev S8 : Shape := ⟨1, ![8]⟩
abbrev S4096x128 : Shape := ⟨2, ![4096, 128]⟩
abbrev S1x128 : Shape := ⟨2, ![1, 128]⟩

abbrev nBuf : Space → Nat
  | .hbm => 76
  | .vmem => 0
  | .smem => 0
  | _ => 0

abbrev bufTy : (tb : Table) → Fin (tcTables nBuf tb) → BufTy
  | .hbm, ⟨0, _⟩ => ⟨S4096x8, .f32⟩
  | .hbm, ⟨1, _⟩ => ⟨S1x8, .f32⟩
  | .hbm, ⟨2, _⟩ => ⟨S4096x8, .f32⟩
  | .hbm, ⟨3, _⟩ => ⟨S4096x8, .f32⟩
  | .hbm, ⟨4, _⟩ => ⟨S4096x8, .f32⟩
  | .hbm, ⟨5, _⟩ => ⟨S4096x8, .f32⟩
  | .hbm, ⟨6, _⟩ => ⟨S4096x8, .f32⟩
  | .hbm, ⟨7, _⟩ => ⟨S_, .f32⟩
  | .hbm, ⟨8, _⟩ => ⟨S4096x8, .f32⟩
  | .hbm, ⟨9, _⟩ => ⟨S4096x8, .f32⟩
  | .hbm, ⟨10, _⟩ => ⟨S4096x8, .f32⟩
  | .hbm, ⟨11, _⟩ => ⟨S4096x8, .f32⟩
  | .hbm, ⟨12, _⟩ => ⟨S4096x8, .i1⟩
  | .hbm, ⟨13, _⟩ => ⟨S4096x8, .f32⟩
  | .hbm, ⟨14, _⟩ => ⟨S4096x8, .f32⟩
  | .hbm, ⟨15, _⟩ => ⟨S4096x8, .f32⟩
  | .hbm, ⟨16, _⟩ => ⟨S4096x8, .f32⟩
  | .hbm, ⟨17, _⟩ => ⟨S4096x8, .f32⟩
  | .hbm, ⟨18, _⟩ => ⟨S4096x8, .f32⟩
  | .hbm, ⟨19, _⟩ => ⟨S4096x8, .f32⟩
  | .hbm, ⟨20, _⟩ => ⟨S4096x8, .f32⟩
  | .hbm, ⟨21, _⟩ => ⟨S_, .f32⟩
  | .hbm, ⟨22, _⟩ => ⟨S4096x8, .f32⟩
  | .hbm, ⟨23, _⟩ => ⟨S4096x8, .i1⟩
  | .hbm, ⟨24, _⟩ => ⟨S_, .f32⟩
  | .hbm, ⟨25, _⟩ => ⟨S4096x8, .f32⟩
  | .hbm, ⟨26, _⟩ => ⟨S4096x8, .f32⟩
  | .hbm, ⟨27, _⟩ => ⟨S_, .f32⟩
  | .hbm, ⟨28, _⟩ => ⟨S4096x8, .f32⟩
  | .hbm, ⟨29, _⟩ => ⟨S4096x8, .i1⟩
  | .hbm, ⟨30, _⟩ => ⟨S_, .f32⟩
  | .hbm, ⟨31, _⟩ => ⟨S4096x8, .f32⟩
  | .hbm, ⟨32, _⟩ => ⟨S4096x8, .f32⟩
  | .hbm, ⟨33, _⟩ => ⟨S4096x8, .f32⟩
  | .hbm, ⟨34, _⟩ => ⟨S4096x8, .f32⟩
  | .hbm, ⟨35, _⟩ => ⟨S_, .f32⟩
  | .hbm, ⟨36, _⟩ => ⟨S_, .f32⟩
  | .hbm, ⟨37, _⟩ => ⟨S_, .i1⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S4096x8, .f32⟩
  | .hbm, ⟨43, _⟩ => ⟨S4096x8, .i1⟩
  | .hbm, ⟨44, _⟩ => ⟨S_, .f32⟩
  | .hbm, ⟨45, _⟩ => ⟨S4096x8, .f32⟩
  | .hbm, ⟨46, _⟩ => ⟨S4096x8, .f32⟩
  | .hbm, ⟨47, _⟩ => ⟨S4096x8, .f32⟩
  | .hbm, ⟨48, _⟩ => ⟨S4096x8, .f32⟩
  | .hbm, ⟨49, _⟩ => ⟨S4096x8, .f32⟩
  | .hbm, ⟨50, _⟩ => ⟨S_, .f32⟩
  | .hbm, ⟨51, _⟩ => ⟨S4096x8, .f32⟩
  | .hbm, ⟨52, _⟩ => ⟨S4096x8, .f32⟩
  | .hbm, ⟨53, _⟩ => ⟨S4096x8, .f32⟩
  | .hbm, ⟨54, _⟩ => ⟨S_, .f32⟩
  | .hbm, ⟨55, _⟩ => ⟨S_, .f32⟩
  | .hbm, ⟨56, _⟩ => ⟨S4096x8, .f32⟩
  | .hbm, ⟨57, _⟩ => ⟨S4096x8, .f32⟩
  | .hbm, ⟨58, _⟩ => ⟨S4096x8, .f32⟩
  | .hbm, ⟨59, _⟩ => ⟨S4096x8, .f32⟩
  | .hbm, ⟨60, _⟩ => ⟨S_, .f32⟩
  | .hbm, ⟨61, _⟩ => ⟨S_, .f32⟩
  | .hbm, ⟨62, _⟩ => ⟨S4096x8, .f32⟩
  | .hbm, ⟨63, _⟩ => ⟨S4096x8, .f32⟩
  | .hbm, ⟨64, _⟩ => ⟨S4096x8, .f32⟩
  | .hbm, ⟨65, _⟩ => ⟨S4096x8, .f32⟩
  | .hbm, ⟨66, _⟩ => ⟨S_, .f32⟩
  | .hbm, ⟨67, _⟩ => ⟨S8, .f32⟩
  | .hbm, ⟨68, _⟩ => ⟨S1x8, .f32⟩
  | .hbm, ⟨69, _⟩ => ⟨S_, .i32⟩
  | .hbm, ⟨70, _⟩ => ⟨S_, .f32⟩
  | .hbm, ⟨71, _⟩ => ⟨S4096x128, .f32⟩
  | .hbm, ⟨72, _⟩ => ⟨S4096x128, .bf16⟩
  | .hbm, ⟨73, _⟩ => ⟨S_, .i32⟩
  | .hbm, ⟨74, _⟩ => ⟨S_, .f32⟩
  | .hbm, ⟨75, _⟩ => ⟨S1x128, .f32⟩
  | _, _ => ⟨S4096x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_call0_cst : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_v2 : Ref sig .tc := ⟨.hbm, 10, rfl⟩
abbrev main_call0_call0_v3 : Ref sig .tc := ⟨.hbm, 11, rfl⟩
abbrev main_call0_call0_v4 : Ref sig .tc := ⟨.hbm, 12, rfl⟩
abbrev main_call0_call0_v5 : Ref sig .tc := ⟨.hbm, 13, rfl⟩
abbrev main_call0_call0_v6 : Ref sig .tc := ⟨.hbm, 14, rfl⟩
abbrev main_call0_call0_v7 : Ref sig .tc := ⟨.hbm, 15, rfl⟩
abbrev main_call0_call0_v8 : Ref sig .tc := ⟨.hbm, 16, rfl⟩
abbrev main_call0_call0_v9 : Ref sig .tc := ⟨.hbm, 17, rfl⟩
abbrev main_call0_call0_v10 : Ref sig .tc := ⟨.hbm, 18, rfl⟩
abbrev main_call0_call0_v11 : Ref sig .tc := ⟨.hbm, 19, rfl⟩
abbrev main_call0_v1_0 : Ref sig .tc := ⟨.hbm, 20, rfl⟩
abbrev main_call0_call0_cst_0 : Ref sig .tc := ⟨.hbm, 21, rfl⟩
abbrev main_call0_call0_v13 : Ref sig .tc := ⟨.hbm, 22, rfl⟩
abbrev main_call0_call0_v14 : Ref sig .tc := ⟨.hbm, 23, rfl⟩
abbrev main_call0_call0_cst_1 : Ref sig .tc := ⟨.hbm, 24, rfl⟩
abbrev main_call0_call0_v15 : Ref sig .tc := ⟨.hbm, 25, rfl⟩
abbrev main_call0_call0_v16 : Ref sig .tc := ⟨.hbm, 26, rfl⟩
abbrev main_call0_call0_cst_2 : Ref sig .tc := ⟨.hbm, 27, rfl⟩
abbrev main_call0_call0_v17 : Ref sig .tc := ⟨.hbm, 28, rfl⟩
abbrev main_call0_call0_v18 : Ref sig .tc := ⟨.hbm, 29, rfl⟩
abbrev main_call0_call0_cst_3 : Ref sig .tc := ⟨.hbm, 30, rfl⟩
abbrev main_call0_call0_v19 : Ref sig .tc := ⟨.hbm, 31, rfl⟩
abbrev main_call0_call0_v20 : Ref sig .tc := ⟨.hbm, 32, rfl⟩
abbrev main_call0_call0_v21 : Ref sig .tc := ⟨.hbm, 33, rfl⟩
abbrev main_v2_1 : Ref sig .tc := ⟨.hbm, 34, rfl⟩
abbrev main_call0_call0_cst_4 : Ref sig .tc := ⟨.hbm, 35, rfl⟩
abbrev main_call0_call0_cst_5 : Ref sig .tc := ⟨.hbm, 36, rfl⟩
abbrev main_call0_call0_v23 : Ref sig .tc := ⟨.hbm, 37, rfl⟩
abbrev main_call0_call0_cst_6 : Ref sig .tc := ⟨.hbm, 38, rfl⟩
abbrev main_call0_call0_cst_7 : Ref sig .tc := ⟨.hbm, 39, rfl⟩
abbrev main_call0_call0_v24 : Ref sig .tc := ⟨.hbm, 40, rfl⟩
abbrev main_call0_call0_cst_8 : Ref sig .tc := ⟨.hbm, 41, rfl⟩
abbrev main_call0_call0_v25 : Ref sig .tc := ⟨.hbm, 42, rfl⟩
abbrev main_call0_call0_v26 : Ref sig .tc := ⟨.hbm, 43, rfl⟩
abbrev main_call0_call0_cst_9 : Ref sig .tc := ⟨.hbm, 44, rfl⟩
abbrev main_call0_call0_v27 : Ref sig .tc := ⟨.hbm, 45, rfl⟩
abbrev main_call0_call0_v28 : Ref sig .tc := ⟨.hbm, 46, rfl⟩
abbrev main_call0_call0_v29 : Ref sig .tc := ⟨.hbm, 47, rfl⟩
abbrev main_call0_call0_v30 : Ref sig .tc := ⟨.hbm, 48, rfl⟩
abbrev main_call0_call0_v31 : Ref sig .tc := ⟨.hbm, 49, rfl⟩
abbrev main_call0_call0_cst_10 : Ref sig .tc := ⟨.hbm, 50, rfl⟩
abbrev main_call0_call0_v32 : Ref sig .tc := ⟨.hbm, 51, rfl⟩
abbrev main_v2_2 : Ref sig .tc := ⟨.hbm, 52, rfl⟩
abbrev main_v2_0 : Ref sig .tc := ⟨.hbm, 53, rfl⟩
abbrev main_call1_call0_cst : Ref sig .tc := ⟨.hbm, 54, rfl⟩
abbrev main_call1_call0_v0 : Ref sig .tc := ⟨.hbm, 55, rfl⟩
abbrev main_v3 : Ref sig .tc := ⟨.hbm, 56, rfl⟩
abbrev main_v4 : Ref sig .tc := ⟨.hbm, 57, rfl⟩
abbrev main_v5 : Ref sig .tc := ⟨.hbm, 58, rfl⟩
abbrev main_v6 : Ref sig .tc := ⟨.hbm, 59, rfl⟩
abbrev main_call2_call0_cst : Ref sig .tc := ⟨.hbm, 60, rfl⟩
abbrev main_call2_call0_v0 : Ref sig .tc := ⟨.hbm, 61, rfl⟩
abbrev main_v7 : Ref sig .tc := ⟨.hbm, 62, rfl⟩
abbrev main_call3_v0 : Ref sig .tc := ⟨.hbm, 63, rfl⟩
abbrev main_call3_v1 : Ref sig .tc := ⟨.hbm, 64, rfl⟩
abbrev main_v8 : Ref sig .tc := ⟨.hbm, 65, rfl⟩
abbrev main_cst : Ref sig .tc := ⟨.hbm, 66, rfl⟩
abbrev main_v9 : Ref sig .tc := ⟨.hbm, 67, rfl⟩
abbrev main_v10 : Ref sig .tc := ⟨.hbm, 68, rfl⟩
abbrev main_c : Ref sig .tc := ⟨.hbm, 69, rfl⟩
abbrev main_call4_v0 : Ref sig .tc := ⟨.hbm, 70, rfl⟩
abbrev main_v11 : Ref sig .tc := ⟨.hbm, 71, rfl⟩
abbrev main_v12 : Ref sig .tc := ⟨.hbm, 72, rfl⟩
abbrev main_c_0 : Ref sig .tc := ⟨.hbm, 73, rfl⟩
abbrev main_call5_v0 : Ref sig .tc := ⟨.hbm, 74, rfl⟩
abbrev main_v13 : Ref sig .tc := ⟨.hbm, 75, rfl⟩

abbrev nD : Nat := 1
abbrev τ : Topo := Topo.v7x

variable {F : FTy → Type} [FloatOps F]
-- ==== MemKernel.lean ====
abbrev S4096x512 : Shape := ⟨2, ![4096, 512]⟩
abbrev S256x512 : Shape := ⟨2, ![256, 512]⟩
abbrev S256x1024 : Shape := ⟨2, ![256, 1024]⟩
abbrev S512x512 : Shape := ⟨2, ![512, 512]⟩
abbrev S512x128 : Shape := ⟨2, ![512, 128]⟩
abbrev S256x128 : Shape := ⟨2, ![256, 128]⟩
abbrev S512 : Shape := ⟨1, ![512]⟩
abbrev S1x512 : Shape := ⟨2, ![1, 512]⟩

abbrev nBuf : Space → Nat
  | .hbm => 10
  | .vmem => 8
  | .smem => 0
  | _ => 0

abbrev bufTy : (tb : Table) → Fin (tcTables nBuf tb) → BufTy
  | .hbm, ⟨0, _⟩ => ⟨S4096x512, .f32⟩
  | .hbm, ⟨1, _⟩ => ⟨S256x512, .f32⟩
  | .hbm, ⟨2, _⟩ => ⟨S256x512, .f32⟩
  | .hbm, ⟨3, _⟩ => ⟨S4096x512, .f32⟩
  | .hbm, ⟨4, _⟩ => ⟨S256x1024, .f32⟩
  | .hbm, ⟨5, _⟩ => ⟨S256x1024, .bf16⟩
  | .hbm, ⟨6, _⟩ => ⟨S4096x512, .bf16⟩
  | .hbm, ⟨7, _⟩ => ⟨S4096x512, .bf16⟩
  | .hbm, ⟨8, _⟩ => ⟨S4096x512, .bf16⟩
  | .hbm, ⟨9, _⟩ => ⟨S256x1024, .f32⟩
  | .local _ .vmem, ⟨0, _⟩ => ⟨S512x512, .bf16⟩
  | .local _ .vmem, ⟨1, _⟩ => ⟨S512x512, .bf16⟩
  | .local _ .vmem, ⟨2, _⟩ => ⟨S256x1024, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S256x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== MemReferenceIdeal.lean ====
abbrev S4096x512 : Shape := ⟨2, ![4096, 512]⟩
abbrev S256x512 : Shape := ⟨2, ![256, 512]⟩
abbrev S4096x4x128 : Shape := ⟨3, ![4096, 4, 128]⟩
abbrev S256x4x128 : Shape := ⟨3, ![256, 4, 128]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x128x4096 : Shape := ⟨3, ![4, 128, 4096]⟩
abbrev S4x128x256 : Shape := ⟨3, ![4, 128, 256]⟩
abbrev S4x256x128 : Shape := ⟨3, ![4, 256, 128]⟩
abbrev S4x4096x128 : Shape := ⟨3, ![4, 4096, 128]⟩
abbrev S256x1024 : Shape := ⟨2, ![256, 1024]⟩

abbrev nBuf : Space → Nat
  | .hbm => 83
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S256x512, .f32⟩
  | .hbm, ⟨2, _⟩ => ⟨S256x512, .f32⟩
  | .hbm, ⟨3, _⟩ => ⟨S4096x512, .f32⟩
  | .hbm, ⟨4, _⟩ => ⟨S4096x4x128, .f32⟩
  | .hbm, ⟨5, _⟩ => ⟨S256x4x128, .f32⟩
  | .hbm, ⟨6, _⟩ => ⟨S256x4x128, .f32⟩
  | .hbm, ⟨7, _⟩ => ⟨S4x4096x256, .f32⟩
  | .hbm, ⟨8, _⟩ => ⟨S_, .f32⟩
  | .hbm, ⟨9, _⟩ => ⟨S4x4096x256, .f32⟩
  | .hbm, ⟨10, _⟩ => ⟨S4x4096x256, .f32⟩
  | .hbm, ⟨11, _⟩ => ⟨S_, .f32⟩
  | .hbm, ⟨12, _⟩ => ⟨S4x4096, .f32⟩
  | .hbm, ⟨13, _⟩ => ⟨S4x4096x1, .f32⟩
  | .hbm, ⟨14, _⟩ => ⟨S4x4096x256, .f32⟩
  | .hbm, ⟨15, _⟩ => ⟨S4x4096x256, .i1⟩
  | .hbm, ⟨16, _⟩ => ⟨S4x4096x256, .f32⟩
  | .hbm, ⟨17, _⟩ => ⟨S_, .f32⟩
  | .hbm, ⟨18, _⟩ => ⟨S4x4096, .f32⟩
  | .hbm, ⟨19, _⟩ => ⟨S_, .f32⟩
  | .hbm, ⟨20, _⟩ => ⟨S4x4096, .f32⟩
  | .hbm, ⟨21, _⟩ => ⟨S4x4096, .f32⟩
  | .hbm, ⟨22, _⟩ => ⟨S_, .f32⟩
  | .hbm, ⟨23, _⟩ => ⟨S4x4096, .f32⟩
  | .hbm, ⟨24, _⟩ => ⟨S4x4096, .i1⟩
  | .hbm, ⟨25, _⟩ => ⟨S_, .f32⟩
  | .hbm, ⟨26, _⟩ => ⟨S4x4096, .f32⟩
  | .hbm, ⟨27, _⟩ => ⟨S4x4096, .i1⟩
  | .hbm, ⟨28, _⟩ => ⟨S_, .f32⟩
  | .hbm, ⟨29, _⟩ => ⟨S4x4096, .f32⟩
  | .hbm, ⟨30, _⟩ => ⟨S_, .f32⟩
  | .hbm, ⟨31, _⟩ => ⟨S4x4096, .f32⟩
  | .hbm, ⟨32, _⟩ => ⟨S_, .f32⟩
  | .hbm, ⟨33, _⟩ => ⟨S4x4096, .f32⟩
  | .hbm, ⟨34, _⟩ => ⟨S4x4096, .f32⟩
  | .hbm, ⟨35, _⟩ => ⟨S4x4096, .f32⟩
  | .hbm, ⟨36, _⟩ => ⟨S4x4096x1, .f32⟩
  | .hbm, ⟨37, _⟩ => ⟨S4x4096x256, .f32⟩
  | .hbm, ⟨38, _⟩ => ⟨S4x4096x256, .f32⟩
  | .hbm, ⟨39, _⟩ => ⟨S4x4096x256, .f32⟩
  | .hbm, ⟨40, _⟩ => ⟨S_, .f32⟩
  | .hbm, ⟨41, _⟩ => ⟨S4x4096, .f32⟩
  | .hbm, ⟨42, _⟩ => ⟨S4x4096x1, .f32⟩
  | .hbm, ⟨43, _⟩ => ⟨S4x4096x256, .f32⟩
  | .hbm, ⟨44, _⟩ => ⟨S4x4096x256, .f32⟩
  | .hbm, ⟨45, _⟩ => ⟨S4x4096x1, .f32⟩
  | .hbm, ⟨46, _⟩ => ⟨S_, .f32⟩
  | .hbm, ⟨47, _⟩ => ⟨S4x4096x1, .f32⟩
  | .hbm, ⟨48, _⟩ => ⟨S4x4096x1, .f32⟩
  | .hbm, ⟨49, _⟩ => ⟨S4x128x4096, .f32⟩
  | .hbm, ⟨50, _⟩ => ⟨S4096x4x128, .f32⟩
  | .hbm, ⟨51, _⟩ => ⟨S4096x512, .f32⟩
  | .hbm, ⟨52, _⟩ => ⟨S4096x4x128, .f32⟩
  | .hbm, ⟨53, _⟩ => ⟨S4x128x4096, .f32⟩
  | .hbm, ⟨54, _⟩ => ⟨S4x4096x256, .f32⟩
  | .hbm, ⟨55, _⟩ => ⟨S4x128x256, .f32⟩
  | .hbm, ⟨56, _⟩ => ⟨S256x4x128, .f32⟩
  | .hbm, ⟨57, _⟩ => ⟨S4x4096x256, .f32⟩
  | .hbm, ⟨58, _⟩ => ⟨S4x4096x256, .f32⟩
  | .hbm, ⟨59, _⟩ => ⟨S4x4096x256, .f32⟩
  | .hbm, ⟨60, _⟩ => ⟨S_, .f32⟩
  | .hbm, ⟨61, _⟩ => ⟨S4x4096, .f32⟩
  | .hbm, ⟨62, _⟩ => ⟨S4x4096x1, .f32⟩
  | .hbm, ⟨63, _⟩ => ⟨S4x4096x1, .f32⟩
  | .hbm, ⟨64, _⟩ => ⟨S4x4096x256, .f32⟩
  | .hbm, ⟨65, _⟩ => ⟨S4x4096x256, .f32⟩
  | .hbm, ⟨66, _⟩ => ⟨S_, .f32⟩
  | .hbm, ⟨67, _⟩ => ⟨S4x4096, .f32⟩
  | .hbm, ⟨68, _⟩ => ⟨S4x4096x256, .f32⟩
  | .hbm, ⟨69, _⟩ => ⟨S4x4096x256, .f32⟩
  | .hbm, ⟨70, _⟩ => ⟨S4x4096x256, .f32⟩
  | .hbm, ⟨71, _⟩ => ⟨S_, .f32⟩
  | .hbm, ⟨72, _⟩ => ⟨S4x4096x256, .f32⟩
  | .hbm, ⟨73, _⟩ => ⟨S4x4096x256, .f32⟩
  | .hbm, ⟨74, _⟩ => ⟨S4x256x128, .f32⟩
  | .hbm, ⟨75, _⟩ => ⟨S256x4x128, .f32⟩
  | .hbm, ⟨76, _⟩ => ⟨S4x4096x128, .f32⟩
  | .hbm, ⟨77, _⟩ => ⟨S4096x4x128, .f32⟩
  | .hbm, ⟨78, _⟩ => ⟨S256x512, .f32⟩
  | .hbm, ⟨79, _⟩ => ⟨S256x512, .f32⟩
  | .hbm, ⟨80, _⟩ => ⟨S4096x512, .f32⟩
  | .hbm, ⟨81, _⟩ => ⟨S4096x512, .bf16⟩
  | .hbm, ⟨82, _⟩ => ⟨S256x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_9 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_10 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_11 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_12 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩

abbrev nD : Nat := 1
abbrev τ : Topo := Topo.v7x

variable {F : FTy → Type} [FloatOps F]
-- ==== DownKernel.lean ====
abbrev S4096x4096 : Shape := ⟨2, ![4096, 4096]⟩
abbrev S4096x1024 : Shape := ⟨2, ![4096, 1024]⟩
abbrev S1x1024 : Shape := ⟨2, ![1, 1024]⟩
abbrev S_ : Shape := ⟨0, ![]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1024 : Shape := ⟨1, ![1024]⟩
abbrev S512x512 : Shape := ⟨2, ![512, 512]⟩

abbrev nBuf : Space → Nat
  | .hbm => 14
  | .vmem => 13
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x1024, .f32⟩
  | .hbm, ⟨9, _⟩ => ⟨S4096x1024, .bf16⟩
  | .hbm, ⟨10, _⟩ => ⟨S4096x4096, .bf16⟩
  | .hbm, ⟨11, _⟩ => ⟨S4096x1024, .bf16⟩
  | .hbm, ⟨12, _⟩ => ⟨S4096x4096, .bf16⟩
  | .hbm, ⟨13, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S4096x1024, .bf16⟩
  | .local _ .vmem, ⟨6, _⟩ => ⟨S512x4096, .bf16⟩
  | .local _ .vmem, ⟨7, _⟩ => ⟨S512x4096, .bf16⟩
  | .local _ .vmem, ⟨8, _⟩ => ⟨S512x1024, .bf16⟩
  | .local _ .vmem, ⟨9, _⟩ => ⟨S512x1024, .bf16⟩
  | .local _ .vmem, ⟨10, _⟩ => ⟨S512x4096, .bf16⟩
  | .local _ .vmem, ⟨11, _⟩ => ⟨S512x4096, .bf16⟩
  | .local _ .vmem, ⟨12, _⟩ => ⟨S1x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== DownReferenceIdeal.lean ====
abbrev S4096x4096 : Shape := ⟨2, ![4096, 4096]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 66
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .i1⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096, .f32⟩
  | .hbm, ⟨45, _⟩ => ⟨S4096x1, .f32⟩
  | .hbm, ⟨46, _⟩ => ⟨S4096x1024, .f32⟩
  | .hbm, ⟨47, _⟩ => ⟨S4096x1024, .f32⟩
  | .hbm, ⟨48, _⟩ => ⟨S4096x1, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S_, .f32⟩
  | .hbm, ⟨53, _⟩ => ⟨S4096, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .bf16⟩
  | .hbm, ⟨60, _⟩ => ⟨S4096x4096, .f32⟩
  | .hbm, ⟨61, _⟩ => ⟨S4096x4096, .f32⟩
  | .hbm, ⟨62, _⟩ => ⟨S_, .f32⟩
  | .hbm, ⟨63, _⟩ => ⟨S4096x4096, .f32⟩
  | .hbm, ⟨64, _⟩ => ⟨S4096x4096, .f32⟩
  | .hbm, ⟨65, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_cst_4 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_v35 : Ref sig .tc := ⟨.hbm, 51, rfl⟩
abbrev main_cst_9 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩

abbrev nD : Nat := 1
abbrev τ : Topo := Topo.v7x

variable {F : FTy → Type} [FloatOps F]
-- ==== OutKernel.lean ====
abbrev S4096x1024 : Shape := ⟨2, ![4096, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩
abbrev S512x512 : Shape := ⟨2, ![512, 512]⟩

abbrev nBuf : Space → Nat
  | .hbm => 9
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S1024x1024, .bf16⟩
  | .hbm, ⟨6, _⟩ => ⟨S4096x1024, .bf16⟩
  | .hbm, ⟨7, _⟩ => ⟨S4096x1024, .f32⟩
  | .hbm, ⟨8, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1024x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== OutReferenceIdeal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 49
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .bf16⟩
  | .hbm, ⟨48, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== UpKernel.lean ====
abbrev S4096x1024 : Shape := ⟨2, ![4096, 1024]⟩
abbrev S1x1024 : Shape := ⟨2, ![1, 1024]⟩
abbrev S1024x4096 : Shape := ⟨2, ![1024, 4096]⟩
abbrev S4096x4096 : Shape := ⟨2, ![4096, 4096]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S4096x4096, .f32⟩
  | .hbm, ⟨5, _⟩ => ⟨S4096x4096, .bf16⟩
  | .hbm, ⟨6, _⟩ => ⟨S1024x4096, .bf16⟩
  | .hbm, ⟨7, _⟩ => ⟨S4096x1024, .f32⟩
  | .hbm, ⟨8, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== UpReferenceIdeal.lean ====
abbrev S4096x1024 : Shape := ⟨2, ![4096, 1024]⟩
abbrev S1x1024 : Shape := ⟨2, ![1, 1024]⟩
abbrev S1024x4096 : Shape := ⟨2, ![1024, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S4096x4096, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x4096, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== MemKvKernel.lean ====
abbrev S256x1024 : Shape := ⟨2, ![256, 1024]⟩
abbrev S1x1024 : Shape := ⟨2, ![1, 1024]⟩
abbrev S1024x512 : Shape := ⟨2, ![1024, 512]⟩
abbrev S256x512 : Shape := ⟨2, ![256, 512]⟩
abbrev S1024x1024 : Shape := ⟨2, ![1024, 1024]⟩
abbrev S256 : Shape := ⟨1, ![256]⟩
abbrev S256x1 : Shape := ⟨2, ![256, 1]⟩
abbrev S1024 : Shape := ⟨1, ![1024]⟩

abbrev nBuf : Space → Nat
  | .hbm => 12
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x512, .f32⟩
  | .hbm, ⟨3, _⟩ => ⟨S1024x512, .f32⟩
  | .hbm, ⟨4, _⟩ => ⟨S256x512, .f32⟩
  | .hbm, ⟨5, _⟩ => ⟨S256x512, .f32⟩
  | .hbm, ⟨6, _⟩ => ⟨S1024x1024, .f32⟩
  | .hbm, ⟨7, _⟩ => ⟨S1024x1024, .bf16⟩
  | .hbm, ⟨8, _⟩ => ⟨S256x1024, .f32⟩
  | .hbm, ⟨9, _⟩ => ⟨S256x1024, .bf16⟩
  | .hbm, ⟨10, _⟩ => ⟨S256x1024, .f32⟩
  | .hbm, ⟨11, _⟩ => ⟨S1x1024, .f32⟩
  | .local _ .vmem, ⟨0, _⟩ => ⟨S256x1024, .bf16⟩
  | .local _ .vmem, ⟨1, _⟩ => ⟨S1024x1024, .bf16⟩
  | .local _ .vmem, ⟨2, _⟩ => ⟨S256x1024, .f32⟩
  | .local _ .vmem, ⟨3, _⟩ => ⟨S1x1024, .f32⟩
  | .local _ .vmem, ⟨4, _⟩ => ⟨S256x1024, .f32⟩
  | .local _ .vmem, ⟨5, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== MemKvReferenceIdeal.lean ====
abbrev S256x1024 : Shape := ⟨2, ![256, 1024]⟩
abbrev S1x1024 : Shape := ⟨2, ![1, 1024]⟩
abbrev S1024x512 : Shape := ⟨2, ![1024, 512]⟩
abbrev S256x512 : Shape := ⟨2, ![256, 512]⟩
abbrev S_ : Shape := ⟨0, ![]⟩
abbrev S256 : Shape := ⟨1, ![256]⟩
abbrev S256x1 : Shape := ⟨2, ![256, 1]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x512, .f32⟩
  | .hbm, ⟨3, _⟩ => ⟨S1024x512, .f32⟩
  | .hbm, ⟨4, _⟩ => ⟨S256x512, .f32⟩
  | .hbm, ⟨5, _⟩ => ⟨S256x512, .f32⟩
  | .hbm, ⟨6, _⟩ => ⟨S256x1024, .f32⟩
  | .hbm, ⟨7, _⟩ => ⟨S_, .f32⟩
  | .hbm, ⟨8, _⟩ => ⟨S256, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S256x1, .f32⟩
  | .hbm, ⟨18, _⟩ => ⟨S_, .f32⟩
  | .hbm, ⟨19, _⟩ => ⟨S256x1, .f32⟩
  | .hbm, ⟨20, _⟩ => ⟨S256x1, .f32⟩
  | .hbm, ⟨21, _⟩ => ⟨S256x1024, .f32⟩
  | .hbm, ⟨22, _⟩ => ⟨S256x1024, .f32⟩
  | .hbm, ⟨23, _⟩ => ⟨S256x1024, .f32⟩
  | .hbm, ⟨24, _⟩ => ⟨S256x1024, .f32⟩
  | .hbm, ⟨25, _⟩ => ⟨S256x512, .f32⟩
  | .hbm, ⟨26, _⟩ => ⟨S256x512, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S256x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256, .f32⟩
  | .hbm, ⟨39, _⟩ => ⟨S256x1, .f32⟩
  | .hbm, ⟨40, _⟩ => ⟨S256x1024, .f32⟩
  | .hbm, ⟨41, _⟩ => ⟨S256x1024, .f32⟩
  | .hbm, ⟨42, _⟩ => ⟨S256x1, .f32⟩
  | .hbm, ⟨43, _⟩ => ⟨S_, .f32⟩
  | .hbm, ⟨44, _⟩ => ⟨S256x1, .f32⟩
  | .hbm, ⟨45, _⟩ => ⟨S256x1, .f32⟩
  | .hbm, ⟨46, _⟩ => ⟨S_, .f32⟩
  | .hbm, ⟨47, _⟩ => ⟨S256, .f32⟩
  | .hbm, ⟨48, _⟩ => ⟨S256x1024, .f32⟩
  | .hbm, ⟨49, _⟩ => ⟨S256x1024, .f32⟩
  | .hbm, ⟨50, _⟩ => ⟨S256x1024, .f32⟩
  | .hbm, ⟨51, _⟩ => ⟨S256x1024, .f32⟩
  | .hbm, ⟨52, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== MixInKernel.lean ====
abbrev S4096x1024 : Shape := ⟨2, ![4096, 1024]⟩
abbrev S1x1024 : Shape := ⟨2, ![1, 1024]⟩
abbrev S1024x2568 : Shape := ⟨2, ![1024, 2568]⟩
abbrev S4096x512 : Shape := ⟨2, ![4096, 512]⟩
abbrev S4096x8 : Shape := ⟨2, ![4096, 8]⟩
abbrev S2568x1024 : Shape := ⟨2, ![2568, 1024]⟩
abbrev S_ : Shape := ⟨0, ![]⟩
abbrev S2688x1024 : Shape := ⟨2, ![2688, 1024]⟩
abbrev S4096x128 : Shape := ⟨2, ![4096, 128]⟩
abbrev S512x1024 : Shape := ⟨2, ![512, 1024]⟩
abbrev S512x512 : Shape := ⟨2, ![512, 512]⟩
abbrev S512x128 : Shape := ⟨2, ![512, 128]⟩
abbrev S1024x1024 : Shape := ⟨2, ![1024, 1024]⟩
abbrev S128x1024 : Shape := ⟨2, ![128, 1024]⟩
abbrev S512 : Shape := ⟨1, ![512]⟩
abbrev S512x1 : Shape := ⟨2, ![512, 1]⟩
abbrev S1024 : Shape := ⟨1, ![1024]⟩

abbrev nBuf : Space → Nat
  | .hbm => 24
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2568, .f32⟩
  | .hbm, ⟨3, _⟩ => ⟨S4096x1024, .f32⟩
  | .hbm, ⟨4, _⟩ => ⟨S4096x1024, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x8, .f32⟩
  | .hbm, ⟨9, _⟩ => ⟨S2568x1024, .f32⟩
  | .hbm, ⟨10, _⟩ => ⟨S_, .i32⟩
  | .hbm, ⟨11, _⟩ => ⟨S_, .f32⟩
  | .hbm, ⟨12, _⟩ => ⟨S2688x1024, .f32⟩
  | .hbm, ⟨13, _⟩ => ⟨S2688x1024, .bf16⟩
  | .hbm, ⟨14, _⟩ => ⟨S_, .i32⟩
  | .hbm, ⟨15, _⟩ => ⟨S_, .f32⟩
  | .hbm, ⟨16, _⟩ => ⟨S4096x128, .f32⟩
  | .hbm, ⟨17, _⟩ => ⟨S4096x1024, .bf16⟩
  | .hbm, ⟨18, _⟩ => ⟨S4096x512, .bf16⟩
  | .hbm, ⟨19, _⟩ => ⟨S4096x512, .bf16⟩
  | .hbm, ⟨20, _⟩ => ⟨S4096x512, .bf16⟩
  | .hbm, ⟨21, _⟩ => ⟨S4096x128, .bf16⟩
  | .hbm, ⟨22, _⟩ => ⟨S4096x1024, .f32⟩
  | .hbm, ⟨23, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x128, .bf16⟩
  | .local _ .vmem, ⟨9, _⟩ => ⟨S512x128, .bf16⟩
  | .local _ .vmem, ⟨10, _⟩ => ⟨S2688x1024, .bf16⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_call1_v0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9_0 : Ref sig .tc := ⟨.hbm, 22, rfl⟩
abbrev main_v9_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2688x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== MixInReferenceIdeal.lean ====
abbrev S4096x1024 : Shape := ⟨2, ![4096, 1024]⟩
abbrev S1x1024 : Shape := ⟨2, ![1, 1024]⟩
abbrev S1024x2568 : Shape := ⟨2, ![1024, 2568]⟩
abbrev S4096x512 : Shape := ⟨2, ![4096, 512]⟩
abbrev S4096x8 : Shape := ⟨2, ![4096, 8]⟩
abbrev S_ : Shape := ⟨0, ![]⟩
abbrev S4096 : Shape := ⟨1, ![4096]⟩
abbrev S4096x1 : Shape := ⟨2, ![4096, 1]⟩
abbrev S4096x2568 : Shape := ⟨2, ![4096, 2568]⟩
abbrev S1024 : Shape := ⟨1, ![1024]⟩

abbrev nBuf : Space → Nat
  | .hbm => 73
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2568, .f32⟩
  | .hbm, ⟨3, _⟩ => ⟨S4096x1024, .f32⟩
  | .hbm, ⟨4, _⟩ => ⟨S4096x1024, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x8, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x2568, .f32⟩
  | .hbm, ⟨29, _⟩ => ⟨S4096x1024, .f32⟩
  | .hbm, ⟨30, _⟩ => ⟨S4096x512, .f32⟩
  | .hbm, ⟨31, _⟩ => ⟨S4096x512, .f32⟩
  | .hbm, ⟨32, _⟩ => ⟨S4096x512, .f32⟩
  | .hbm, ⟨33, _⟩ => ⟨S4096x8, .f32⟩
  | .hbm, ⟨34, _⟩ => ⟨S_, .f32⟩
  | .hbm, ⟨35, _⟩ => ⟨S4096x2568, .f32⟩
  | .hbm, ⟨36, _⟩ => ⟨S_, .f32⟩
  | .hbm, ⟨37, _⟩ => ⟨S4096x2568, .f32⟩
  | .hbm, ⟨38, _⟩ => ⟨S4096x2568, .f32⟩
  | .hbm, ⟨39, _⟩ => ⟨S_, .f32⟩
  | .hbm, ⟨40, _⟩ => ⟨S4096x2568, .f32⟩
  | .hbm, ⟨41, _⟩ => ⟨S4096x2568, .f32⟩
  | .hbm, ⟨42, _⟩ => ⟨S_, .f32⟩
  | .hbm, ⟨43, _⟩ => ⟨S4096x2568, .f32⟩
  | .hbm, ⟨44, _⟩ => ⟨S4096x2568, .f32⟩
  | .hbm, ⟨45, _⟩ => ⟨S_, .f32⟩
  | .hbm, ⟨46, _⟩ => ⟨S4096x2568, .f32⟩
  | .hbm, ⟨47, _⟩ => ⟨S4096x2568, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S_, .f32⟩
  | .hbm, ⟨67, _⟩ => ⟨S4096, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_cst_7 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_8 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_9 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_10 : Ref sig .tc := ⟨.hbm, 63, rfl⟩
abbrev main_v43 : Ref sig .tc := ⟨.hbm, 64, rfl⟩
abbrev main_v44 : Ref sig .tc := ⟨.hbm, 65, rfl⟩
abbrev main_cst_11 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩

abbrev nD : Nat := 1
abbrev τ : Topo := Topo.v7x

variable {F : FTy → Type} [FloatOps F]
-- ==== ConvKernel.lean ====
abbrev S4096x512 : Shape := ⟨2, ![4096, 512]⟩
abbrev S31x512 : Shape := ⟨2, ![31, 512]⟩
abbrev S1x512 : Shape := ⟨2, ![1, 512]⟩
abbrev S4096x1024 : Shape := ⟨2, ![4096, 1024]⟩
abbrev S_ : Shape := ⟨0, ![]⟩
abbrev S30x512 : Shape := ⟨2, ![30, 512]⟩
abbrev S4126x512 : Shape := ⟨2, ![4126, 512]⟩
abbrev S512 : Shape := ⟨1, ![512]⟩
abbrev S32x512 : Shape := ⟨2, ![32, 512]⟩
abbrev S8x512 : Shape := ⟨2, ![8, 512]⟩
abbrev S512x1024 : Shape := ⟨2, ![512, 1024]⟩
abbrev S32x1024 : Shape := ⟨2, ![32, 1024]⟩
abbrev S512x512 : Shape := ⟨2, ![512, 512]⟩
abbrev S552x512 : Shape := ⟨2, ![552, 512]⟩
abbrev S8x544x512 : Shape := ⟨3, ![8, 544, 512]⟩
abbrev S32x8x512 : Shape := ⟨3, ![32, 8, 512]⟩
abbrev S40x512 : Shape := ⟨2, ![40, 512]⟩
abbrev S544x512 : Shape := ⟨2, ![544, 512]⟩
abbrev S1x544x512 : Shape := ⟨3, ![1, 544, 512]⟩
abbrev S64x512 : Shape := ⟨2, ![64, 512]⟩
abbrev S64 : Shape := ⟨1, ![64]⟩
abbrev S64x1 : Shape := ⟨2, ![64, 1]⟩
abbrev S1x8x512 : Shape := ⟨3, ![1, 8, 512]⟩
abbrev S1x64x512 : Shape := ⟨3, ![1, 64, 512]⟩

abbrev nBuf : Space → Nat
  | .hbm => 247
  | .vmem => 19
  | .smem => 0
  | _ => 0

abbrev hbmTy0_0 (i : Nat) : BufTy := match i % 128 with
  | 0 => ⟨S4096x512, .f32⟩
  | 1 => ⟨S4096x512, .f32⟩
  | 2 => ⟨S31x512, .f32⟩
  | 3 => ⟨S1x512, .f32⟩
  | 4 => ⟨S1x512, .f32⟩
  | 5 => ⟨S1x512, .f32⟩
  | 6 => ⟨S4096x512, .f32⟩
  | 7 => ⟨S4096x1024, .f32⟩
  | 8 => ⟨S4096x512, .f32⟩
  | 9 => ⟨S4096x512, .f32⟩
  | 10 => ⟨S_, .f32⟩
  | 11 => ⟨S4096x512, .f32⟩
  | 12 => ⟨S4096x512, .f32⟩
  | 13 => ⟨S_, .f32⟩
  | 14 => ⟨S4096x512, .f32⟩
  | 15 => ⟨S4096x512, .f32⟩
  | 16 => ⟨S4096x512, .f32⟩
  | 17 => ⟨S_, .f32⟩
  | 18 => ⟨S30x512, .f32⟩
  | 19 => ⟨S4126x512, .f32⟩
  | 20 => ⟨S1x512, .f32⟩
  | 21 => ⟨S512, .f32⟩
  | 22 => ⟨S4096x512, .f32⟩
  | 23 => ⟨S1x512, .f32⟩
  | 24 => ⟨S4096x512, .f32⟩
  | 25 => ⟨S4096x512, .f32⟩
  | 26 => ⟨S_, .f32⟩
  | 27 => ⟨S4096x512, .f32⟩
  | 28 => ⟨S4096x512, .f32⟩
  | 29 => ⟨S1x512, .f32⟩
  | 30 => ⟨S512, .f32⟩
  | 31 => ⟨S4096x512, .f32⟩
  | 32 => ⟨S1x512, .f32⟩
  | 33 => ⟨S4096x512, .f32⟩
  | 34 => ⟨S4096x512, .f32⟩
  | 35 => ⟨S4096x512, .f32⟩
  | 36 => ⟨S1x512, .f32⟩
  | 37 => ⟨S512, .f32⟩
  | 38 => ⟨S4096x512, .f32⟩
  | 39 => ⟨S1x512, .f32⟩
  | 40 => ⟨S4096x512, .f32⟩
  | 41 => ⟨S4096x512, .f32⟩
  | 42 => ⟨S4096x512, .f32⟩
  | 43 => ⟨S1x512, .f32⟩
  | 44 => ⟨S512, .f32⟩
  | 45 => ⟨S4096x512, .f32⟩
  | 46 => ⟨S1x512, .f32⟩
  | 47 => ⟨S4096x512, .f32⟩
  | 48 => ⟨S4096x512, .f32⟩
  | 49 => ⟨S4096x512, .f32⟩
  | 50 => ⟨S1x512, .f32⟩
  | 51 => ⟨S512, .f32⟩
  | 52 => ⟨S4096x512, .f32⟩
  | 53 => ⟨S1x512, .f32⟩
  | 54 => ⟨S4096x512, .f32⟩
  | 55 => ⟨S4096x512, .f32⟩
  | 56 => ⟨S4096x512, .f32⟩
  | 57 => ⟨S1x512, .f32⟩
  | 58 => ⟨S512, .f32⟩
  | 59 => ⟨S4096x512, .f32⟩
  | 60 => ⟨S1x512, .f32⟩
  | 61 => ⟨S4096x512, .f32⟩
  | 62 => ⟨S4096x512, .f32⟩
  | 63 => ⟨S4096x512, .f32⟩
  | 64 => ⟨S1x512, .f32⟩
  | 65 => ⟨S512, .f32⟩
  | 66 => ⟨S4096x512, .f32⟩
  | 67 => ⟨S1x512, .f32⟩
  | 68 => ⟨S4096x512, .f32⟩
  | 69 => ⟨S4096x512, .f32⟩
  | 70 => ⟨S4096x512, .f32⟩
  | 71 => ⟨S1x512, .f32⟩
  | 72 => ⟨S512, .f32⟩
  | 73 => ⟨S4096x512, .f32⟩
  | 74 => ⟨S1x512, .f32⟩
  | 75 => ⟨S4096x512, .f32⟩
  | 76 => ⟨S4096x512, .f32⟩
  | 77 => ⟨S4096x512, .f32⟩
  | 78 => ⟨S1x512, .f32⟩
  | 79 => ⟨S512, .f32⟩
  | 80 => ⟨S4096x512, .f32⟩
  | 81 => ⟨S1x512, .f32⟩
  | 82 => ⟨S4096x512, .f32⟩
  | 83 => ⟨S4096x512, .f32⟩
  | 84 => ⟨S4096x512, .f32⟩
  | 85 => ⟨S1x512, .f32⟩
  | 86 => ⟨S512, .f32⟩
  | 87 => ⟨S4096x512, .f32⟩
  | 88 => ⟨S1x512, .f32⟩
  | 89 => ⟨S4096x512, .f32⟩
  | 90 => ⟨S4096x512, .f32⟩
  | 91 => ⟨S4096x512, .f32⟩
  | 92 => ⟨S1x512, .f32⟩
  | 93 => ⟨S512, .f32⟩
  | 94 => ⟨S4096x512, .f32⟩
  | 95 => ⟨S1x512, .f32⟩
  | 96 => ⟨S4096x512, .f32⟩
  | 97 => ⟨S4096x512, .f32⟩
  | 98 => ⟨S4096x512, .f32⟩
  | 99 => ⟨S1x512, .f32⟩
  | 100 => ⟨S512, .f32⟩
  | 101 => ⟨S4096x512, .f32⟩
  | 102 => ⟨S1x512, .f32⟩
  | 103 => ⟨S4096x512, .f32⟩
  | 104 => ⟨S4096x512, .f32⟩
  | 105 => ⟨S4096x512, .f32⟩
  | 106 => ⟨S1x512, .f32⟩
  | 107 => ⟨S512, .f32⟩
  | 108 => ⟨S4096x512, .f32⟩
  | 109 => ⟨S1x512, .f32⟩
  | 110 => ⟨S4096x512, .f32⟩
  | 111 => ⟨S4096x512, .f32⟩
  | 112 => ⟨S4096x512, .f32⟩
  | 113 => ⟨S1x512, .f32⟩
  | 114 => ⟨S512, .f32⟩
  | 115 => ⟨S4096x512, .f32⟩
  | 116 => ⟨S1x512, .f32⟩
  | 117 => ⟨S4096x512, .f32⟩
  | 118 => ⟨S4096x512, .f32⟩
  | 119 => ⟨S4096x512, .f32⟩
  | 120 => ⟨S1x512, .f32⟩
  | 121 => ⟨S512, .f32⟩
  | 122 => ⟨S4096x512, .f32⟩
  | 123 => ⟨S1x512, .f32⟩
  | 124 => ⟨S4096x512, .f32⟩
  | 125 => ⟨S4096x512, .f32⟩
  | 126 => ⟨S4096x512, .f32⟩
  | 127 => ⟨S1x512, .f32⟩
  | _ => ⟨S4096x512, .f32⟩

abbrev hbmTy0_1 (i : Nat) : BufTy := match i % 128 with
  | 0 => ⟨S512, .f32⟩
  | 1 => ⟨S4096x512, .f32⟩
  | 2 => ⟨S1x512, .f32⟩
  | 3 => ⟨S4096x512, .f32⟩
  | 4 => ⟨S4096x512, .f32⟩
  | 5 => ⟨S4096x512, .f32⟩
  | 6 => ⟨S1x512, .f32⟩
  | 7 => ⟨S512, .f32⟩
  | 8 => ⟨S4096x512, .f32⟩
  | 9 => ⟨S1x512, .f32⟩
  | 10 => ⟨S4096x512, .f32⟩
  | 11 => ⟨S4096x512, .f32⟩
  | 12 => ⟨S4096x512, .f32⟩
  | 13 => ⟨S1x512, .f32⟩
  | 14 => ⟨S512, .f32⟩
  | 15 => ⟨S4096x512, .f32⟩
  | 16 => ⟨S1x512, .f32⟩
  | 17 => ⟨S4096x512, .f32⟩
  | 18 => ⟨S4096x512, .f32⟩
  | 19 => ⟨S4096x512, .f32⟩
  | 20 => ⟨S1x512, .f32⟩
  | 21 => ⟨S512, .f32⟩
  | 22 => ⟨S4096x512, .f32⟩
  | 23 => ⟨S1x512, .f32⟩
  | 24 => ⟨S4096x512, .f32⟩
  | 25 => ⟨S4096x512, .f32⟩
  | 26 => ⟨S4096x512, .f32⟩
  | 27 => ⟨S1x512, .f32⟩
  | 28 => ⟨S512, .f32⟩
  | 29 => ⟨S4096x512, .f32⟩
  | 30 => ⟨S1x512, .f32⟩
  | 31 => ⟨S4096x512, .f32⟩
  | 32 => ⟨S4096x512, .f32⟩
  | 33 => ⟨S4096x512, .f32⟩
  | 34 => ⟨S1x512, .f32⟩
  | 35 => ⟨S512, .f32⟩
  | 36 => ⟨S4096x512, .f32⟩
  | 37 => ⟨S1x512, .f32⟩
  | 38 => ⟨S4096x512, .f32⟩
  | 39 => ⟨S4096x512, .f32⟩
  | 40 => ⟨S4096x512, .f32⟩
  | 41 => ⟨S1x512, .f32⟩
  | 42 => ⟨S512, .f32⟩
  | 43 => ⟨S4096x512, .f32⟩
  | 44 => ⟨S1x512, .f32⟩
  | 45 => ⟨S4096x512, .f32⟩
  | 46 => ⟨S4096x512, .f32⟩
  | 47 => ⟨S4096x512, .f32⟩
  | 48 => ⟨S1x512, .f32⟩
  | 49 => ⟨S512, .f32⟩
  | 50 => ⟨S4096x512, .f32⟩
  | 51 => ⟨S1x512, .f32⟩
  | 52 => ⟨S4096x512, .f32⟩
  | 53 => ⟨S4096x512, .f32⟩
  | 54 => ⟨S4096x512, .f32⟩
  | 55 => ⟨S1x512, .f32⟩
  | 56 => ⟨S512, .f32⟩
  | 57 => ⟨S4096x512, .f32⟩
  | 58 => ⟨S1x512, .f32⟩
  | 59 => ⟨S4096x512, .f32⟩
  | 60 => ⟨S4096x512, .f32⟩
  | 61 => ⟨S4096x512, .f32⟩
  | 62 => ⟨S1x512, .f32⟩
  | 63 => ⟨S512, .f32⟩
  | 64 => ⟨S4096x512, .f32⟩
  | 65 => ⟨S1x512, .f32⟩
  | 66 => ⟨S4096x512, .f32⟩
  | 67 => ⟨S4096x512, .f32⟩
  | 68 => ⟨S4096x512, .f32⟩
  | 69 => ⟨S1x512, .f32⟩
  | 70 => ⟨S512, .f32⟩
  | 71 => ⟨S4096x512, .f32⟩
  | 72 => ⟨S1x512, .f32⟩
  | 73 => ⟨S4096x512, .f32⟩
  | 74 => ⟨S4096x512, .f32⟩
  | 75 => ⟨S4096x512, .f32⟩
  | 76 => ⟨S1x512, .f32⟩
  | 77 => ⟨S512, .f32⟩
  | 78 => ⟨S4096x512, .f32⟩
  | 79 => ⟨S1x512, .f32⟩
  | 80 => ⟨S4096x512, .f32⟩
  | 81 => ⟨S4096x512, .f32⟩
  | 82 => ⟨S4096x512, .f32⟩
  | 83 => ⟨S1x512, .f32⟩
  | 84 => ⟨S512, .f32⟩
  | 85 => ⟨S4096x512, .f32⟩
  | 86 => ⟨S1x512, .f32⟩
  | 87 => ⟨S4096x512, .f32⟩
  | 88 => ⟨S4096x512, .f32⟩
  | 89 => ⟨S4096x512, .f32⟩
  | 90 => ⟨S1x512, .f32⟩
  | 91 => ⟨S512, .f32⟩
  | 92 => ⟨S4096x512, .f32⟩
  | 93 => ⟨S1x512, .f32⟩
  | 94 => ⟨S4096x512, .f32⟩
  | 95 => ⟨S4096x512, .f32⟩
  | 96 => ⟨S4096x512, .f32⟩
  | 97 => ⟨S1x512, .f32⟩
  | 98 => ⟨S512, .f32⟩
  | 99 => ⟨S4096x512, .f32⟩
  | 100 => ⟨S1x512, .f32⟩
  | 101 => ⟨S4096x512, .f32⟩
  | 102 => ⟨S4096x512, .f32⟩
  | 103 => ⟨S4096x512, .f32⟩
  | 104 => ⟨S1x512, .f32⟩
  | 105 => ⟨S512, .f32⟩
  | 106 => ⟨S4096x512, .f32⟩
  | 107 => ⟨S1x512, .f32⟩
  | 108 => ⟨S4096x512, .f32⟩
  | 109 => ⟨S4096x512, .f32⟩
  | 110 => ⟨S4096x512, .f32⟩
  | 111 => ⟨S4096x512, .f32⟩
  | 112 => ⟨S4096x512, .f32⟩
  | 113 => ⟨S_, .i32⟩
  | 114 => ⟨S_, .f32⟩
  | 115 => ⟨S32x512, .f32⟩
  | 116 => ⟨S4096x1024, .bf16⟩
  | 117 => ⟨S32x512, .f32⟩
  | 118 => ⟨S8x512, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S32x1024, .f32⟩
  | .local _ .vmem, ⟨3, _⟩ => ⟨S32x1024, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S32x512, .f32⟩
  | .local _ .vmem, ⟨9, _⟩ => ⟨S1x512, .f32⟩
  | .local _ .vmem, ⟨10, _⟩ => ⟨S1x512, .f32⟩
  | .local _ .vmem, ⟨11, _⟩ => ⟨S512x1024, .bf16⟩
  | .local _ .vmem, ⟨12, _⟩ => ⟨S512x1024, .bf16⟩
  | .local _ .vmem, ⟨13, _⟩ => ⟨S32x512, .f32⟩
  | .local _ .vmem, ⟨14, _⟩ => ⟨S8x512, .f32⟩
  | .local _ .vmem, ⟨15, _⟩ => ⟨S552x512, .f32⟩
  | .local _ .vmem, ⟨16, _⟩ => ⟨S552x512, .f32⟩
  | .local _ .vmem, ⟨17, _⟩ => ⟨S8x544x512, .f32⟩
  | .local _ .vmem, ⟨18, _⟩ => ⟨S32x8x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩
abbrev main_v158 : Ref sig .tc := ⟨.hbm, 169, rfl⟩
abbrev main_v159 : Ref sig .tc := ⟨.hbm, 170, rfl⟩
abbrev main_v160 : Ref sig .tc := ⟨.hbm, 171, rfl⟩
abbrev main_v161 : Ref sig .tc := ⟨.hbm, 172, rfl⟩
abbrev main_v162 : Ref sig .tc := ⟨.hbm, 173, rfl⟩
abbrev main_v163 : Ref sig .tc := ⟨.hbm, 174, rfl⟩
abbrev main_v164 : Ref sig .tc := ⟨.hbm, 175, rfl⟩
abbrev main_v165 : Ref sig .tc := ⟨.hbm, 176, rfl⟩
abbrev main_v166 : Ref sig .tc := ⟨.hbm, 177, rfl⟩
abbrev main_v167 : Ref sig .tc := ⟨.hbm, 178, rfl⟩
abbrev main_v168 : Ref sig .tc := ⟨.hbm, 179, rfl⟩
abbrev main_v169 : Ref sig .tc := ⟨.hbm, 180, rfl⟩
abbrev main_v170 : Ref sig .tc := ⟨.hbm, 181, rfl⟩
abbrev main_v171 : Ref sig .tc := ⟨.hbm, 182, rfl⟩
abbrev main_v172 : Ref sig .tc := ⟨.hbm, 183, rfl⟩
abbrev main_v173 : Ref sig .tc := ⟨.hbm, 184, rfl⟩
abbrev main_v174 : Ref sig .tc := ⟨.hbm, 185, rfl⟩
abbrev main_v175 : Ref sig .tc := ⟨.hbm, 186, rfl⟩
abbrev main_v176 : Ref sig .tc := ⟨.hbm, 187, rfl⟩
abbrev main_v177 : Ref sig .tc := ⟨.hbm, 188, rfl⟩
abbrev main_v178 : Ref sig .tc := ⟨.hbm, 189, rfl⟩
abbrev main_v179 : Ref sig .tc := ⟨.hbm, 190, rfl⟩
abbrev main_v180 : Ref sig .tc := ⟨.hbm, 191, rfl⟩
abbrev main_v181 : Ref sig .tc := ⟨.hbm, 192, rfl⟩
abbrev main_v182 : Ref sig .tc := ⟨.hbm, 193, rfl⟩
abbrev main_v183 : Ref sig .tc := ⟨.hbm, 194, rfl⟩
abbrev main_v184 : Ref sig .tc := ⟨.hbm, 195, rfl⟩
abbrev main_v185 : Ref sig .tc := ⟨.hbm, 196, rfl⟩
abbrev main_v186 : Ref sig .tc := ⟨.hbm, 197, rfl⟩
abbrev main_v187 : Ref sig .tc := ⟨.hbm, 198, rfl⟩
abbrev main_v188 : Ref sig .tc := ⟨.hbm, 199, rfl⟩
abbrev main_v189 : Ref sig .tc := ⟨.hbm, 200, rfl⟩
abbrev main_v190 : Ref sig .tc := ⟨.hbm, 201, rfl⟩
abbrev main_v191 : Ref sig .tc := ⟨.hbm, 202, rfl⟩
abbrev main_v192 : Ref sig .tc := ⟨.hbm, 203, rfl⟩
abbrev main_v193 : Ref sig .tc := ⟨.hbm, 204, rfl⟩
abbrev main_v194 : Ref sig .tc := ⟨.hbm, 205, rfl⟩
abbrev main_v195 : Ref sig .tc := ⟨.hbm, 206, rfl⟩
abbrev main_v196 : Ref sig .tc := ⟨.hbm, 207, rfl⟩
abbrev main_v197 : Ref sig .tc := ⟨.hbm, 208, rfl⟩
abbrev main_v198 : Ref sig .tc := ⟨.hbm, 209, rfl⟩
abbrev main_v199 : Ref sig .tc := ⟨.hbm, 210, rfl⟩
abbrev main_v200 : Ref sig .tc := ⟨.hbm, 211, rfl⟩
abbrev main_v201 : Ref sig .tc := ⟨.hbm, 212, rfl⟩
abbrev main_v202 : Ref sig .tc := ⟨.hbm, 213, rfl⟩
abbrev main_v203 : Ref sig .tc := ⟨.hbm, 214, rfl⟩
abbrev main_v204 : Ref sig .tc := ⟨.hbm, 215, rfl⟩
abbrev main_v205 : Ref sig .tc := ⟨.hbm, 216, rfl⟩
abbrev main_v206 : Ref sig .tc := ⟨.hbm, 217, rfl⟩
abbrev main_v207 : Ref sig .tc := ⟨.hbm, 218, rfl⟩
abbrev main_v208 : Ref sig .tc := ⟨.hbm, 219, rfl⟩
abbrev main_v209 : Ref sig .tc := ⟨.hbm, 220, rfl⟩
abbrev main_v210 : Ref sig .tc := ⟨.hbm, 221, rfl⟩
abbrev main_v211 : Ref sig .tc := ⟨.hbm, 222, rfl⟩
abbrev main_v212 : Ref sig .tc := ⟨.hbm, 223, rfl⟩
abbrev main_v213 : Ref sig .tc := ⟨.hbm, 224, rfl⟩
abbrev main_v214 : Ref sig .tc := ⟨.hbm, 225, rfl⟩
abbrev main_v215 : Ref sig .tc := ⟨.hbm, 226, rfl⟩
abbrev main_v216 : Ref sig .tc := ⟨.hbm, 227, rfl⟩
abbrev main_v217 : Ref sig .tc := ⟨.hbm, 228, rfl⟩
abbrev main_v218 : Ref sig .tc := ⟨.hbm, 229, rfl⟩
abbrev main_v219 : Ref sig .tc := ⟨.hbm, 230, rfl⟩
abbrev main_v220 : Ref sig .tc := ⟨.hbm, 231, rfl⟩
abbrev main_v221 : Ref sig .tc := ⟨.hbm, 232, rfl⟩
abbrev main_v222 : Ref sig .tc := ⟨.hbm, 233, rfl⟩
abbrev main_v223 : Ref sig .tc := ⟨.hbm, 234, rfl⟩
abbrev main_v224 : Ref sig .tc := ⟨.hbm, 235, rfl⟩
abbrev main_v225 : Ref sig .tc := ⟨.hbm, 236, rfl⟩
abbrev main_v226 : Ref sig .tc := ⟨.hbm, 237, rfl⟩
abbrev main_v227 : Ref sig .tc := ⟨.hbm, 238, rfl⟩
abbrev main_v228 : Ref sig .tc := ⟨.hbm, 239, rfl⟩
abbrev main_v229 : Ref sig .tc := ⟨.hbm, 240, rfl⟩
abbrev main_c : Ref sig .tc := ⟨.hbm, 241, rfl⟩
abbrev main_call0_v0 : Ref sig .tc := ⟨.hbm, 242, rfl⟩
abbrev main_v230 : Ref sig .tc := ⟨.hbm, 243, rfl⟩
abbrev main_v231_0 : Ref sig .tc := ⟨.hbm, 244, rfl⟩
abbrev main_v231_1 : Ref sig .tc := ⟨.hbm, 245, rfl⟩
abbrev main_v231_2 : Ref sig .tc := ⟨.hbm, 246, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_50 : BitVec 32 := 0#32
  let c8_i32 : BitVec 32 := 8#32
  let v69 : BitVec 32 := Scalar.addi c0_i32_50 c8_i32
  let c1_i32 : BitVec 32 := 1#32
  ⟨c0_i32_50, v69, c1_i32⟩
def k0_mult1 (k0_t1 : Fin k0_t1_loop.trips) : BitVec 32 :=
  let c0_i32_50 : BitVec 32 := 0#32
  let c1_i32 : BitVec 32 := 1#32
  let arg15 : BitVec 32 := Scf.iv c0_i32_50 c1_i32 k0_t1
  let c64_i32 : BitVec 32 := 64#32
  let v110 : BitVec 32 := Scalar.muli arg15 c64_i32
  v110
def k0_off1 (k0_t1 : Fin k0_t1_loop.trips) : Fin 2 → Nat :=
  let c0_i32_50 : BitVec 32 := 0#32
  let c1_i32 : BitVec 32 := 1#32
  let arg15 : BitVec 32 := Scf.iv c0_i32_50 c1_i32 k0_t1
  let c64_i32 : BitVec 32 := 64#32
  let v110 : BitVec 32 := Scalar.muli arg15 c64_i32
  let v111 : BitVec 32 := v110
  let v112 : Index := Scalar.indexCast v111
  let c0_102 : Index := 0#32
  ![v112.toNat, 0]
def k0_mult2 (k0_t1 : Fin k0_t1_loop.trips) : BitVec 32 :=
  let c0_i32_50 : BitVec 32 := 0#32
  let c1_i32 : BitVec 32 := 1#32
  let arg15 : BitVec 32 := Scf.iv c0_i32_50 c1_i32 k0_t1
  let c64_i32 : BitVec 32 := 64#32
  let v110 : BitVec 32 := Scalar.muli arg15 c64_i32
  let v111 : BitVec 32 := v110
  let c0_i32_142 : BitVec 32 := 0#32
  let v193 : BitVec 32 := Scalar.addi v111 c0_i32_142
  v193
def k0_off2 (k0_t1 : Fin k0_t1_loop.trips) (c0_i32_142 : BitVec 32) : Fin 3 → Nat :=
  let c2_143 : Index := 2#32
  let c0_i32_50 : BitVec 32 := 0#32
  let c1_i32 : BitVec 32 := 1#32
  let arg15 : BitVec 32 := Scf.iv c0_i32_50 c1_i32 k0_t1
  let c64_i32 : BitVec 32 := 64#32
  let v110 : BitVec 32 := Scalar.muli arg15 c64_i32
  let v111 : BitVec 32 := v110
  let v193 : BitVec 32 := Scalar.addi v111 c0_i32_142
  let v194 : BitVec 32 := v193
  let v195 : Index := Scalar.indexCast v194
  let c0_144 : Index := 0#32
  ![2, v195.toNat, 0]
def k0_mult3 (k0_t1 : Fin k0_t1_loop.trips) : BitVec 32 :=
  let c0_i32_50 : BitVec 32 := 0#32
  let c1_i32 : BitVec 32 := 1#32
  let arg15 : BitVec 32 := Scf.iv c0_i32_50 c1_i32 k0_t1
  let c64_i32 : BitVec 32 := 64#32
  let v110 : BitVec 32 := Scalar.muli arg15 c64_i32
  let v111 : BitVec 32 := v110
  let c0_i32_151 : BitVec 32 := 0#32
  let v220 : BitVec 32 := Scalar.addi v111 c0_i32_151
  v220
def k0_off3 (k0_t1 : Fin k0_t1_loop.trips) (c0_i32_151 : BitVec 32) : Fin 3 → Nat :=
  let c3_152 : Index := 3#32
  let c0_i32_50 : BitVec 32 := 0#32
  let c1_i32 : BitVec 32 := 1#32
  let arg15 : BitVec 32 := Scf.iv c0_i32_50 c1_i32 k0_t1
  let c64_i32 : BitVec 32 := 64#32
  let v110 : BitVec 32 := Scalar.muli arg15 c64_i32
  let v111 : BitVec 32 := v110
  let v220 : BitVec 32 := Scalar.addi v111 c0_i32_151
  let v221 : BitVec 32 := v220
  let v222 : Index := Scalar.indexCast v221
  let c0_153 : Index := 0#32
  ![3, v222.toNat, 0]
def k0_mult4 (k0_t1 : Fin k0_t1_loop.trips) : BitVec 32 :=
  let c0_i32_50 : BitVec 32 := 0#32
  let c1_i32 : BitVec 32 := 1#32
  let arg15 : BitVec 32 := Scf.iv c0_i32_50 c1_i32 k0_t1
  let c64_i32 : BitVec 32 := 64#32
  let v110 : BitVec 32 := Scalar.muli arg15 c64_i32
  let v111 : BitVec 32 := v110
  let c0_i32_160 : BitVec 32 := 0#32
  let v247 : BitVec 32 := Scalar.addi v111 c0_i32_160
  v247
def k0_off4 (k0_t1 : Fin k0_t1_loop.trips) (c0_i32_160 : BitVec 32) : Fin 3 → Nat :=
  let c4_161 : Index := 4#32
  let c0_i32_50 : BitVec 32 := 0#32
  let c1_i32 : BitVec 32 := 1#32
  let arg15 : BitVec 32 := Scf.iv c0_i32_50 c1_i32 k0_t1
  let c64_i32 : BitVec 32 := 64#32
  let v110 : BitVec 32 := Scalar.muli arg15 c64_i32
  let v111 : BitVec 32 := v110
  let v247 : BitVec 32 := Scalar.addi v111 c0_i32_160
  let v248 : BitVec 32 := v247
  let v249 : Index := Scalar.indexCast v248
  let c0_162 : Index := 0#32
  ![4, v249.toNat, 0]
def k0_mult5 (k0_t1 : Fin k0_t1_loop.trips) : BitVec 32 :=
  let c0_i32_50 : BitVec 32 := 0#32
  let c1_i32 : BitVec 32 := 1#32
  let arg15 : BitVec 32 := Scf.iv c0_i32_50 c1_i32 k0_t1
  let c64_i32 : BitVec 32 := 64#32
  let v110 : BitVec 32 := Scalar.muli arg15 c64_i32
  let v111 : BitVec 32 := v110
  let c0_i32_169 : BitVec 32 := 0#32
  let v274 : BitVec 32 := Scalar.addi v111 c0_i32_169
  v274
def k0_off5 (k0_t1 : Fin k0_t1_loop.trips) (c0_i32_169 : BitVec 32) : Fin 3 → Nat :=
  let c5_170 : Index := 5#32
  let c0_i32_50 : BitVec 32 := 0#32
  let c1_i32 : BitVec 32 := 1#32
  let arg15 : BitVec 32 := Scf.iv c0_i32_50 c1_i32 k0_t1
  let c64_i32 : BitVec 32 := 64#32
  let v110 : BitVec 32 := Scalar.muli arg15 c64_i32
  let v111 : BitVec 32 := v110
  let v274 : BitVec 32 := Scalar.addi v111 c0_i32_169
  let v275 : BitVec 32 := v274
  let v276 : Index := Scalar.indexCast v275
  let c0_171 : Index := 0#32
  ![5, v276.toNat, 0]
def k0_mult6 (k0_t1 : Fin k0_t1_loop.trips) : BitVec 32 :=
  let c0_i32_50 : BitVec 32 := 0#32
  let c1_i32 : BitVec 32 := 1#32
  let arg15 : BitVec 32 := Scf.iv c0_i32_50 c1_i32 k0_t1
  let c64_i32 : BitVec 32 := 64#32
  let v110 : BitVec 32 := Scalar.muli arg15 c64_i32
  let v111 : BitVec 32 := v110
  let c0_i32_178 : BitVec 32 := 0#32
  let v301 : BitVec 32 := Scalar.addi v111 c0_i32_178
  v301
def k0_off6 (k0_t1 : Fin k0_t1_loop.trips) (c0_i32_178 : BitVec 32) : Fin 3 → Nat :=
  let c6_179 : Index := 6#32
  let c0_i32_50 : BitVec 32 := 0#32
  let c1_i32 : BitVec 32 := 1#32
  let arg15 : BitVec 32 := Scf.iv c0_i32_50 c1_i32 k0_t1
  let c64_i32 : BitVec 32 := 64#32
  let v110 : BitVec 32 := Scalar.muli arg15 c64_i32
  let v111 : BitVec 32 := v110
  let v301 : BitVec 32 := Scalar.addi v111 c0_i32_178
  let v302 : BitVec 32 := v301
  let v303 : Index := Scalar.indexCast v302
  let c0_180 : Index := 0#32
  ![6, v303.toNat, 0]
def k0_mult7 (k0_t1 : Fin k0_t1_loop.trips) : BitVec 32 :=
  let c0_i32_50 : BitVec 32 := 0#32
  let c1_i32 : BitVec 32 := 1#32
  let arg15 : BitVec 32 := Scf.iv c0_i32_50 c1_i32 k0_t1
  let c64_i32 : BitVec 32 := 64#32
  let v110 : BitVec 32 := Scalar.muli arg15 c64_i32
  let v111 : BitVec 32 := v110
  let c0_i32_187 : BitVec 32 := 0#32
  let v328 : BitVec 32 := Scalar.addi v111 c0_i32_187
  v328
def k0_off7 (k0_t1 : Fin k0_t1_loop.trips) (c0_i32_187 : BitVec 32) : Fin 3 → Nat :=
  let c7_188 : Index := 7#32
  let c0_i32_50 : BitVec 32 := 0#32
  let c1_i32 : BitVec 32 := 1#32
  let arg15 : BitVec 32 := Scf.iv c0_i32_50 c1_i32 k0_t1
  let c64_i32 : BitVec 32 := 64#32
  let v110 : BitVec 32 := Scalar.muli arg15 c64_i32
  let v111 : BitVec 32 := v110
  let v328 : BitVec 32 := Scalar.addi v111 c0_i32_187
  let v329 : BitVec 32 := v328
  let v330 : Index := Scalar.indexCast v329
  let c0_189 : Index := 0#32
  ![7, v330.toNat, 0]
def k0_mult8 (k0_t1 : Fin k0_t1_loop.trips) : BitVec 32 :=
  let c0_i32_50 : BitVec 32 := 0#32
  let c1_i32 : BitVec 32 := 1#32
  let arg15 : BitVec 32 := Scf.iv c0_i32_50 c1_i32 k0_t1
  let c64_i32 : BitVec 32 := 64#32
  let v110 : BitVec 32 := Scalar.muli arg15 c64_i32
  let v111 : BitVec 32 := v110
  let c8_i32_196 : BitVec 32 := 8#32
  let v355 : BitVec 32 := Scalar.addi v111 c8_i32_196
  v355
def k0_off8 (k0_t1 : Fin k0_t1_loop.trips) (c8_i32_196 : BitVec 32) : Fin 3 → Nat :=
  let c0_197 : Index := 0#32
  let c0_i32_50 : BitVec 32 := 0#32
  let c1_i32 : BitVec 32 := 1#32
  let arg15 : BitVec 32 := Scf.iv c0_i32_50 c1_i32 k0_t1
  let c64_i32 : BitVec 32 := 64#32
  let v110 : BitVec 32 := Scalar.muli arg15 c64_i32
  let v111 : BitVec 32 := v110
  let v355 : BitVec 32 := Scalar.addi v111 c8_i32_196
  let v356 : BitVec 32 := v355
  let v357 : Index := Scalar.indexCast v356
  let c0_198 : Index := 0#32
  ![0, v357.toNat, 0]
def k0_mult9 (k0_t1 : Fin k0_t1_loop.trips) : BitVec 32 :=
  let c0_i32_50 : BitVec 32 := 0#32
  let c1_i32 : BitVec 32 := 1#32
  let arg15 : BitVec 32 := Scf.iv c0_i32_50 c1_i32 k0_t1
  let c64_i32 : BitVec 32 := 64#32
  let v110 : BitVec 32 := Scalar.muli arg15 c64_i32
  let v111 : BitVec 32 := v110
  let c8_i32_205 : BitVec 32 := 8#32
  let v382 : BitVec 32 := Scalar.addi v111 c8_i32_205
  v382
def k0_off9 (k0_t1 : Fin k0_t1_loop.trips) (c8_i32_205 : BitVec 32) : Fin 3 → Nat :=
  let c1_206 : Index := 1#32
  let c0_i32_50 : BitVec 32 := 0#32
  let c1_i32 : BitVec 32 := 1#32
  let arg15 : BitVec 32 := Scf.iv c0_i32_50 c1_i32 k0_t1
  let c64_i32 : BitVec 32 := 64#32
  let v110 : BitVec 32 := Scalar.muli arg15 c64_i32
  let v111 : BitVec 32 := v110
  let v382 : BitVec 32 := Scalar.addi v111 c8_i32_205
  let v383 : BitVec 32 := v382
  let v384 : Index := Scalar.indexCast v383
  let c0_207 : Index := 0#32
  ![1, v384.toNat, 0]
def k0_mult10 (k0_t1 : Fin k0_t1_loop.trips) : BitVec 32 :=
  let c0_i32_50 : BitVec 32 := 0#32
  let c1_i32 : BitVec 32 := 1#32
  let arg15 : BitVec 32 := Scf.iv c0_i32_50 c1_i32 k0_t1
  let c64_i32 : BitVec 32 := 64#32
  let v110 : BitVec 32 := Scalar.muli arg15 c64_i32
  let v111 : BitVec 32 := v110
  let c8_i32_213 : BitVec 32 := 8#32
  let v409 : BitVec 32 := Scalar.addi v111 c8_i32_213
  v409
def k0_mult11 (k0_t1 : Fin k0_t1_loop.trips) : BitVec 32 :=
  let c0_i32_50 : BitVec 32 := 0#32
  let c1_i32 : BitVec 32 := 1#32
  let arg15 : BitVec 32 := Scf.iv c0_i32_50 c1_i32 k0_t1
  let c64_i32 : BitVec 32 := 64#32
  let v110 : BitVec 32 := Scalar.muli arg15 c64_i32
  let v111 : BitVec 32 := v110
  let c8_i32_221 : BitVec 32 := 8#32
  let v436 : BitVec 32 := Scalar.addi v111 c8_i32_221
  v436
def k0_mult12 (k0_t1 : Fin k0_t1_loop.trips) : BitVec 32 :=
  let c0_i32_50 : BitVec 32 := 0#32
  let c1_i32 : BitVec 32 := 1#32
  let arg15 : BitVec 32 := Scf.iv c0_i32_50 c1_i32 k0_t1
  let c64_i32 : BitVec 32 := 64#32
  let v110 : BitVec 32 := Scalar.muli arg15 c64_i32
  let v111 : BitVec 32 := v110
  let c8_i32_229 : BitVec 32 := 8#32
  let v463 : BitVec 32 := Scalar.addi v111 c8_i32_229
  v463
def k0_mult13 (k0_t1 : Fin k0_t1_loop.trips) : BitVec 32 :=
  let c0_i32_50 : BitVec 32 := 0#32
  let c1_i32 : BitVec 32 := 1#32
  let arg15 : BitVec 32 := Scf.iv c0_i32_50 c1_i32 k0_t1
  let c64_i32 : BitVec 32 := 64#32
  let v110 : BitVec 32 := Scalar.muli arg15 c64_i32
  let v111 : BitVec 32 := v110
  let c8_i32_237 : BitVec 32 := 8#32
  let v490 : BitVec 32 := Scalar.addi v111 c8_i32_237
  v490
def k0_mult14 (k0_t1 : Fin k0_t1_loop.trips) : BitVec 32 :=
  let c0_i32_50 : BitVec 32 := 0#32
  let c1_i32 : BitVec 32 := 1#32
  let arg15 : BitVec 32 := Scf.iv c0_i32_50 c1_i32 k0_t1
  let c64_i32 : BitVec 32 := 64#32
  let v110 : BitVec 32 := Scalar.muli arg15 c64_i32
  let v111 : BitVec 32 := v110
  let c8_i32_245 : BitVec 32 := 8#32
  let v517 : BitVec 32 := Scalar.addi v111 c8_i32_245
  v517
def k0_mult15 (k0_t1 : Fin k0_t1_loop.trips) : BitVec 32 :=
  let c0_i32_50 : BitVec 32 := 0#32
  let c1_i32 : BitVec 32 := 1#32
  let arg15 : BitVec 32 := Scf.iv c0_i32_50 c1_i32 k0_t1
  let c64_i32 : BitVec 32 := 64#32
  let v110 : BitVec 32 := Scalar.muli arg15 c64_i32
  let v111 : BitVec 32 := v110
  let c8_i32_253 : BitVec 32 := 8#32
  let v544 : BitVec 32 := Scalar.addi v111 c8_i32_253
  v544
def k0_mult16 (k0_t1 : Fin k0_t1_loop.trips) : BitVec 32 :=
  let c0_i32_50 : BitVec 32 := 0#32
  let c1_i32 : BitVec 32 := 1#32
  let arg15 : BitVec 32 := Scf.iv c0_i32_50 c1_i32 k0_t1
  let c64_i32 : BitVec 32 := 64#32
  let v110 : BitVec 32 := Scalar.muli arg15 c64_i32
  let v111 : BitVec 32 := v110
  let c16_i32 : BitVec 32 := 16#32
  let v571 : BitVec 32 := Scalar.addi v111 c16_i32
  v571
def k0_mult17 (k0_t1 : Fin k0_t1_loop.trips) : BitVec 32 :=
  let c0_i32_50 : BitVec 32 := 0#32
  let c1_i32 : BitVec 32 := 1#32
  let arg15 : BitVec 32 := Scf.iv c0_i32_50 c1_i32 k0_t1
  let c64_i32 : BitVec 32 := 64#32
  let v110 : BitVec 32 := Scalar.muli arg15 c64_i32
  let v111 : BitVec 32 := v110
  let c16_i32_268 : BitVec 32 := 16#32
  let v598 : BitVec 32 := Scalar.addi v111 c16_i32_268
  v598
def k0_mult18 (k0_t1 : Fin k0_t1_loop.trips) : BitVec 32 :=
  let c0_i32_50 : BitVec 32 := 0#32
  let c1_i32 : BitVec 32 := 1#32
  let arg15 : BitVec 32 := Scf.iv c0_i32_50 c1_i32 k0_t1
  let c64_i32 : BitVec 32 := 64#32
  let v110 : BitVec 32 := Scalar.muli arg15 c64_i32
  let v111 : BitVec 32 := v110
  let c16_i32_276 : BitVec 32 := 16#32
  let v625 : BitVec 32 := Scalar.addi v111 c16_i32_276
  v625
def k0_mult19 (k0_t1 : Fin k0_t1_loop.trips) : BitVec 32 :=
  let c0_i32_50 : BitVec 32 := 0#32
  let c1_i32 : BitVec 32 := 1#32
  let arg15 : BitVec 32 := Scf.iv c0_i32_50 c1_i32 k0_t1
  let c64_i32 : BitVec 32 := 64#32
  let v110 : BitVec 32 := Scalar.muli arg15 c64_i32
  let v111 : BitVec 32 := v110
  let c16_i32_284 : BitVec 32 := 16#32
  let v652 : BitVec 32 := Scalar.addi v111 c16_i32_284
  v652
def k0_mult20 (k0_t1 : Fin k0_t1_loop.trips) : BitVec 32 :=
  let c0_i32_50 : BitVec 32 := 0#32
  let c1_i32 : BitVec 32 := 1#32
  let arg15 : BitVec 32 := Scf.iv c0_i32_50 c1_i32 k0_t1
  let c64_i32 : BitVec 32 := 64#32
  let v110 : BitVec 32 := Scalar.muli arg15 c64_i32
  let v111 : BitVec 32 := v110
  let c16_i32_292 : BitVec 32 := 16#32
  let v679 : BitVec 32 := Scalar.addi v111 c16_i32_292
  v679
def k0_mult21 (k0_t1 : Fin k0_t1_loop.trips) : BitVec 32 :=
  let c0_i32_50 : BitVec 32 := 0#32
  let c1_i32 : BitVec 32 := 1#32
  let arg15 : BitVec 32 := Scf.iv c0_i32_50 c1_i32 k0_t1
  let c64_i32 : BitVec 32 := 64#32
  let v110 : BitVec 32 := Scalar.muli arg15 c64_i32
  let v111 : BitVec 32 := v110
  let c16_i32_300 : BitVec 32 := 16#32
  let v706 : BitVec 32 := Scalar.addi v111 c16_i32_300
  v706
def k0_mult22 (k0_t1 : Fin k0_t1_loop.trips) : BitVec 32 :=
  let c0_i32_50 : BitVec 32 := 0#32
  let c1_i32 : BitVec 32 := 1#32
  let arg15 : BitVec 32 := Scf.iv c0_i32_50 c1_i32 k0_t1
  let c64_i32 : BitVec 32 := 64#32
  let v110 : BitVec 32 := Scalar.muli arg15 c64_i32
  let v111 : BitVec 32 := v110
  let c16_i32_308 : BitVec 32 := 16#32
  let v733 : BitVec 32 := Scalar.addi v111 c16_i32_308
  v733
def k0_mult23 (k0_t1 : Fin k0_t1_loop.trips) : BitVec 32 :=
  let c0_i32_50 : BitVec 32 := 0#32
  let c1_i32 : BitVec 32 := 1#32
  let arg15 : BitVec 32 := Scf.iv c0_i32_50 c1_i32 k0_t1
  let c64_i32 : BitVec 32 := 64#32
  let v110 : BitVec 32 := Scalar.muli arg15 c64_i32
  let v111 : BitVec 32 := v110
  let c16_i32_316 : BitVec 32 := 16#32
  let v760 : BitVec 32 := Scalar.addi v111 c16_i32_316
  v760
def k0_mult24 (k0_t1 : Fin k0_t1_loop.trips) : BitVec 32 :=
  let c0_i32_50 : BitVec 32 := 0#32
  let c1_i32 : BitVec 32 := 1#32
  let arg15 : BitVec 32 := Scf.iv c0_i32_50 c1_i32 k0_t1
  let c64_i32 : BitVec 32 := 64#32
  let v110 : BitVec 32 := Scalar.muli arg15 c64_i32
  let v111 : BitVec 32 := v110
  let c24_i32 : BitVec 32 := 24#32
  let v787 : BitVec 32 := Scalar.addi v111 c24_i32
  v787
def k0_mult25 (k0_t1 : Fin k0_t1_loop.trips) : BitVec 32 :=
  let c0_i32_50 : BitVec 32 := 0#32
  let c1_i32 : BitVec 32 := 1#32
  let arg15 : BitVec 32 := Scf.iv c0_i32_50 c1_i32 k0_t1
  let c64_i32 : BitVec 32 := 64#32
  let v110 : BitVec 32 := Scalar.muli arg15 c64_i32
  let v111 : BitVec 32 := v110
  let c24_i32_331 : BitVec 32 := 24#32
  let v814 : BitVec 32 := Scalar.addi v111 c24_i32_331
  v814
def k0_mult26 (k0_t1 : Fin k0_t1_loop.trips) : BitVec 32 :=
  let c0_i32_50 : BitVec 32 := 0#32
  let c1_i32 : BitVec 32 := 1#32
  let arg15 : BitVec 32 := Scf.iv c0_i32_50 c1_i32 k0_t1
  let c64_i32 : BitVec 32 := 64#32
  let v110 : BitVec 32 := Scalar.muli arg15 c64_i32
  let v111 : BitVec 32 := v110
  let c24_i32_339 : BitVec 32 := 24#32
  let v841 : BitVec 32 := Scalar.addi v111 c24_i32_339
  v841
def k0_mult27 (k0_t1 : Fin k0_t1_loop.trips) : BitVec 32 :=
  let c0_i32_50 : BitVec 32 := 0#32
  let c1_i32 : BitVec 32 := 1#32
  let arg15 : BitVec 32 := Scf.iv c0_i32_50 c1_i32 k0_t1
  let c64_i32 : BitVec 32 := 64#32
  let v110 : BitVec 32 := Scalar.muli arg15 c64_i32
  let v111 : BitVec 32 := v110
  let c24_i32_347 : BitVec 32 := 24#32
  let v868 : BitVec 32 := Scalar.addi v111 c24_i32_347
  v868
def k0_mult28 (k0_t1 : Fin k0_t1_loop.trips) : BitVec 32 :=
  let c0_i32_50 : BitVec 32 := 0#32
  let c1_i32 : BitVec 32 := 1#32
  let arg15 : BitVec 32 := Scf.iv c0_i32_50 c1_i32 k0_t1
  let c64_i32 : BitVec 32 := 64#32
  let v110 : BitVec 32 := Scalar.muli arg15 c64_i32
  let v111 : BitVec 32 := v110
  let c24_i32_355 : BitVec 32 := 24#32
  let v895 : BitVec 32 := Scalar.addi v111 c24_i32_355
  v895
def k0_mult29 (k0_t1 : Fin k0_t1_loop.trips) : BitVec 32 :=
  let c0_i32_50 : BitVec 32 := 0#32
  let c1_i32 : BitVec 32 := 1#32
  let arg15 : BitVec 32 := Scf.iv c0_i32_50 c1_i32 k0_t1
  let c64_i32 : BitVec 32 := 64#32
  let v110 : BitVec 32 := Scalar.muli arg15 c64_i32
  let v111 : BitVec 32 := v110
  let c24_i32_363 : BitVec 32 := 24#32
  let v922 : BitVec 32 := Scalar.addi v111 c24_i32_363
  v922
def k0_mult30 (k0_t1 : Fin k0_t1_loop.trips) : BitVec 32 :=
  let c0_i32_50 : BitVec 32 := 0#32
  let c1_i32 : BitVec 32 := 1#32
  let arg15 : BitVec 32 := Scf.iv c0_i32_50 c1_i32 k0_t1
  let c64_i32 : BitVec 32 := 64#32
  let v110 : BitVec 32 := Scalar.muli arg15 c64_i32
  let v111 : BitVec 32 := v110
  let c24_i32_371 : BitVec 32 := 24#32
  let v949 : BitVec 32 := Scalar.addi v111 c24_i32_371
  v949
def k0_mult31 (k0_t1 : Fin k0_t1_loop.trips) : BitVec 32 :=
  let c0_i32_50 : BitVec 32 := 0#32
  let c1_i32 : BitVec 32 := 1#32
  let arg15 : BitVec 32 := Scf.iv c0_i32_50 c1_i32 k0_t1
  let c64_i32 : BitVec 32 := 64#32
  let v110 : BitVec 32 := Scalar.muli arg15 c64_i32
  let v111 : BitVec 32 := v110
  let c24_i32_379 : BitVec 32 := 24#32
  let v976 : BitVec 32 := Scalar.addi v111 c24_i32_379
  v976
def k0_mult32 (k0_t1 : Fin k0_t1_loop.trips) : BitVec 32 :=
  let c0_i32_50 : BitVec 32 := 0#32
  let c1_i32 : BitVec 32 := 1#32
  let arg15 : BitVec 32 := Scf.iv c0_i32_50 c1_i32 k0_t1
  let c64_i32 : BitVec 32 := 64#32
  let v110 : BitVec 32 := Scalar.muli arg15 c64_i32
  let v111 : BitVec 32 := v110
  let c32_i32 : BitVec 32 := 32#32
  let v1003 : BitVec 32 := Scalar.addi v111 c32_i32
  v1003
def k0_off10 (k0_t1 : Fin k0_t1_loop.trips) : Fin 2 → Nat :=
  let c0_i32_50 : BitVec 32 := 0#32
  let c1_i32 : BitVec 32 := 1#32
  let arg15 : BitVec 32 := Scf.iv c0_i32_50 c1_i32 k0_t1
  let c64_i32 : BitVec 32 := 64#32
  let v110 : BitVec 32 := Scalar.muli arg15 c64_i32
  let v111 : BitVec 32 := v110
  let v1028 : Index := Scalar.indexCast v111
  let c0_392 : Index := 0#32
  ![v1028.toNat, 0]
@[reducible] def k0_t2_loop : Scf.Loop 32 :=
  let c0_i32_92 : BitVec 32 := 0#32
  let c8_i32_93 : BitVec 32 := 8#32
  let v102 : BitVec 32 := Scalar.addi c0_i32_92 c8_i32_93
  let c1_i32_94 : BitVec 32 := 1#32
  ⟨c0_i32_92, v102, c1_i32_94⟩
def k0_mult33 (k0_t2 : Fin k0_t2_loop.trips) : BitVec 32 :=
  let c0_i32_92 : BitVec 32 := 0#32
  let c1_i32_94 : BitVec 32 := 1#32
  let arg15 : BitVec 32 := Scf.iv c0_i32_92 c1_i32_94 k0_t2
  let c64_i32 : BitVec 32 := 64#32
  let v110 : BitVec 32 := Scalar.muli arg15 c64_i32
  v110
def k0_mult34 (k0_t2 : Fin k0_t2_loop.trips) : BitVec 32 :=
  let c0_i32_92 : BitVec 32 := 0#32
  let c1_i32_94 : BitVec 32 := 1#32
  let arg15 : BitVec 32 := Scf.iv c0_i32_92 c1_i32_94 k0_t2
  let c64_i32 : BitVec 32 := 64#32
  let v110 : BitVec 32 := Scalar.muli arg15 c64_i32
  let v111 : BitVec 32 := v110
  let c24_i32 : BitVec 32 := 24#32
  let v114 : BitVec 32 := Scalar.addi v111 c24_i32
  v114
def k0_off11 (k0_t2 : Fin k0_t2_loop.trips) (c24_i32 : BitVec 32) : Fin 3 → Nat :=
  let c6_104 : Index := 6#32
  let c0_i32_92 : BitVec 32 := 0#32
  let c1_i32_94 : BitVec 32 := 1#32
  let arg15 : BitVec 32 := Scf.iv c0_i32_92 c1_i32_94 k0_t2
  let c64_i32 : BitVec 32 := 64#32
  let v110 : BitVec 32 := Scalar.muli arg15 c64_i32
  let v111 : BitVec 32 := v110
  let v114 : BitVec 32 := Scalar.addi v111 c24_i32
  let v115 : BitVec 32 := v114
  let v116 : Index := Scalar.indexCast v115
  let c0_105 : Index := 0#32
  ![6, v116.toNat, 0]
def k0_mult35 (k0_t2 : Fin k0_t2_loop.trips) : BitVec 32 :=
  let c0_i32_92 : BitVec 32 := 0#32
  let c1_i32_94 : BitVec 32 := 1#32
  let arg15 : BitVec 32 := Scf.iv c0_i32_92 c1_i32_94 k0_t2
  let c64_i32 : BitVec 32 := 64#32
  let v110 : BitVec 32 := Scalar.muli arg15 c64_i32
  let v111 : BitVec 32 := v110
  let c24_i32_108 : BitVec 32 := 24#32
  let v123 : BitVec 32 := Scalar.addi v111 c24_i32_108
  v123
def k0_off12 (k0_t2 : Fin k0_t2_loop.trips) (c24_i32_108 : BitVec 32) : Fin 3 → Nat :=
  let c5_109 : Index := 5#32
  let c0_i32_92 : BitVec 32 := 0#32
  let c1_i32_94 : BitVec 32 := 1#32
  let arg15 : BitVec 32 := Scf.iv c0_i32_92 c1_i32_94 k0_t2
  let c64_i32 : BitVec 32 := 64#32
  let v110 : BitVec 32 := Scalar.muli arg15 c64_i32
  let v111 : BitVec 32 := v110
  let v123 : BitVec 32 := Scalar.addi v111 c24_i32_108
  let v124 : BitVec 32 := v123
  let v125 : Index := Scalar.indexCast v124
  let c0_110 : Index := 0#32
  ![5, v125.toNat, 0]
def k0_mult36 (k0_t2 : Fin k0_t2_loop.trips) : BitVec 32 :=
  let c0_i32_92 : BitVec 32 := 0#32
  let c1_i32_94 : BitVec 32 := 1#32
  let arg15 : BitVec 32 := Scf.iv c0_i32_92 c1_i32_94 k0_t2
  let c64_i32 : BitVec 32 := 64#32
  let v110 : BitVec 32 := Scalar.muli arg15 c64_i32
  let v111 : BitVec 32 := v110
  let c24_i32_113 : BitVec 32 := 24#32
  let v133 : BitVec 32 := Scalar.addi v111 c24_i32_113
  v133
def k0_off13 (k0_t2 : Fin k0_t2_loop.trips) (c24_i32_113 : BitVec 32) : Fin 3 → Nat :=
  let c4_114 : Index := 4#32
  let c0_i32_92 : BitVec 32 := 0#32
  let c1_i32_94 : BitVec 32 := 1#32
  let arg15 : BitVec 32 := Scf.iv c0_i32_92 c1_i32_94 k0_t2
  let c64_i32 : BitVec 32 := 64#32
  let v110 : BitVec 32 := Scalar.muli arg15 c64_i32
  let v111 : BitVec 32 := v110
  let v133 : BitVec 32 := Scalar.addi v111 c24_i32_113
  let v134 : BitVec 32 := v133
  let v135 : Index := Scalar.indexCast v134
  let c0_115 : Index := 0#32
  ![4, v135.toNat, 0]
def k0_mult37 (k0_t2 : Fin k0_t2_loop.trips) : BitVec 32 :=
  let c0_i32_92 : BitVec 32 := 0#32
  let c1_i32_94 : BitVec 32 := 1#32
  let arg15 : BitVec 32 := Scf.iv c0_i32_92 c1_i32_94 k0_t2
  let c64_i32 : BitVec 32 := 64#32
  let v110 : BitVec 32 := Scalar.muli arg15 c64_i32
  let v111 : BitVec 32 := v110
  let c24_i32_118 : BitVec 32 := 24#32
  let v143 : BitVec 32 := Scalar.addi v111 c24_i32_118
  v143
def k0_off14 (k0_t2 : Fin k0_t2_loop.trips) (c24_i32_118 : BitVec 32) : Fin 3 → Nat :=
  let c3_119 : Index := 3#32
  let c0_i32_92 : BitVec 32 := 0#32
  let c1_i32_94 : BitVec 32 := 1#32
  let arg15 : BitVec 32 := Scf.iv c0_i32_92 c1_i32_94 k0_t2
  let c64_i32 : BitVec 32 := 64#32
  let v110 : BitVec 32 := Scalar.muli arg15 c64_i32
  let v111 : BitVec 32 := v110
  let v143 : BitVec 32 := Scalar.addi v111 c24_i32_118
  let v144 : BitVec 32 := v143
  let v145 : Index := Scalar.indexCast v144
  let c0_120 : Index := 0#32
  ![3, v145.toNat, 0]
def k0_mult38 (k0_t2 : Fin k0_t2_loop.trips) : BitVec 32 :=
  let c0_i32_92 : BitVec 32 := 0#32
  let c1_i32_94 : BitVec 32 := 1#32
  let arg15 : BitVec 32 := Scf.iv c0_i32_92 c1_i32_94 k0_t2
  let c64_i32 : BitVec 32 := 64#32
  let v110 : BitVec 32 := Scalar.muli arg15 c64_i32
  let v111 : BitVec 32 := v110
  let c24_i32_123 : BitVec 32 := 24#32
  let v153 : BitVec 32 := Scalar.addi v111 c24_i32_123
  v153
def k0_off15 (k0_t2 : Fin k0_t2_loop.trips) (c24_i32_123 : BitVec 32) : Fin 3 → Nat :=
  let c2_124 : Index := 2#32
  let c0_i32_92 : BitVec 32 := 0#32
  let c1_i32_94 : BitVec 32 := 1#32
  let arg15 : BitVec 32 := Scf.iv c0_i32_92 c1_i32_94 k0_t2
  let c64_i32 : BitVec 32 := 64#32
  let v110 : BitVec 32 := Scalar.muli arg15 c64_i32
  let v111 : BitVec 32 := v110
  let v153 : BitVec 32 := Scalar.addi v111 c24_i32_123
  let v154 : BitVec 32 := v153
  let v155 : Index := Scalar.indexCast v154
  let c0_125 : Index := 0#32
  ![2, v155.toNat, 0]
def k0_mult39 (k0_t2 : Fin k0_t2_loop.trips) : BitVec 32 :=
  let c0_i32_92 : BitVec 32 := 0#32
  let c1_i32_94 : BitVec 32 := 1#32
  let arg15 : BitVec 32 := Scf.iv c0_i32_92 c1_i32_94 k0_t2
  let c64_i32 : BitVec 32 := 64#32
  let v110 : BitVec 32 := Scalar.muli arg15 c64_i32
  let v111 : BitVec 32 := v110
  let c24_i32_128 : BitVec 32 := 24#32
  let v163 : BitVec 32 := Scalar.addi v111 c24_i32_128
  v163
def k0_off16 (k0_t2 : Fin k0_t2_loop.trips) (c24_i32_128 : BitVec 32) : Fin 3 → Nat :=
  let c1_129 : Index := 1#32
  let c0_i32_92 : BitVec 32 := 0#32
  let c1_i32_94 : BitVec 32 := 1#32
  let arg15 : BitVec 32 := Scf.iv c0_i32_92 c1_i32_94 k0_t2
  let c64_i32 : BitVec 32 := 64#32
  let v110 : BitVec 32 := Scalar.muli arg15 c64_i32
  let v111 : BitVec 32 := v110
  let v163 : BitVec 32 := Scalar.addi v111 c24_i32_128
  let v164 : BitVec 32 := v163
  let v165 : Index := Scalar.indexCast v164
  let c0_130 : Index := 0#32
  ![1, v165.toNat, 0]
def k0_mult40 (k0_t2 : Fin k0_t2_loop.trips) : BitVec 32 :=
  let c0_i32_92 : BitVec 32 := 0#32
  let c1_i32_94 : BitVec 32 := 1#32
  let arg15 : BitVec 32 := Scf.iv c0_i32_92 c1_i32_94 k0_t2
  let c64_i32 : BitVec 32 := 64#32
  let v110 : BitVec 32 := Scalar.muli arg15 c64_i32
  let v111 : BitVec 32 := v110
  let c24_i32_133 : BitVec 32 := 24#32
  let v173 : BitVec 32 := Scalar.addi v111 c24_i32_133
  v173
def k0_off17 (k0_t2 : Fin k0_t2_loop.trips) (c24_i32_133 : BitVec 32) : Fin 3 → Nat :=
  let c0_134 : Index := 0#32
  let c0_i32_92 : BitVec 32 := 0#32
  let c1_i32_94 : BitVec 32 := 1#32
  let arg15 : BitVec 32 := Scf.iv c0_i32_92 c1_i32_94 k0_t2
  let c64_i32 : BitVec 32 := 64#32
  let v110 : BitVec 32 := Scalar.muli arg15 c64_i32
  let v111 : BitVec 32 := v110
  let v173 : BitVec 32 := Scalar.addi v111 c24_i32_133
  let v174 : BitVec 32 := v173
  let v175 : Index := Scalar.indexCast v174
  let c0_135 : Index := 0#32
  ![0, v175.toNat, 0]
def k0_mult41 (k0_t2 : Fin k0_t2_loop.trips) : BitVec 32 :=
  let c0_i32_92 : BitVec 32 := 0#32
  let c1_i32_94 : BitVec 32 := 1#32
  let arg15 : BitVec 32 := Scf.iv c0_i32_92 c1_i32_94 k0_t2
  let c64_i32 : BitVec 32 := 64#32
  let v110 : BitVec 32 := Scalar.muli arg15 c64_i32
  let v111 : BitVec 32 := v110
  let c16_i32 : BitVec 32 := 16#32
  let v183 : BitVec 32 := Scalar.addi v111 c16_i32
  v183
def k0_off18 (k0_t2 : Fin k0_t2_loop.trips) (c16_i32 : BitVec 32) : Fin 3 → Nat :=
  let c7_138 : Index := 7#32
  let c0_i32_92 : BitVec 32 := 0#32
  let c1_i32_94 : BitVec 32 := 1#32
  let arg15 : BitVec 32 := Scf.iv c0_i32_92 c1_i32_94 k0_t2
  let c64_i32 : BitVec 32 := 64#32
  let v110 : BitVec 32 := Scalar.muli arg15 c64_i32
  let v111 : BitVec 32 := v110
  let v183 : BitVec 32 := Scalar.addi v111 c16_i32
  let v184 : BitVec 32 := v183
  let v185 : Index := Scalar.indexCast v184
  let c0_139 : Index := 0#32
  ![7, v185.toNat, 0]
def k0_mult42 (k0_t2 : Fin k0_t2_loop.trips) : BitVec 32 :=
  let c0_i32_92 : BitVec 32 := 0#32
  let c1_i32_94 : BitVec 32 := 1#32
  let arg15 : BitVec 32 := Scf.iv c0_i32_92 c1_i32_94 k0_t2
  let c64_i32 : BitVec 32 := 64#32
  let v110 : BitVec 32 := Scalar.muli arg15 c64_i32
  let v111 : BitVec 32 := v110
  let c16_i32_141 : BitVec 32 := 16#32
  let v193 : BitVec 32 := Scalar.addi v111 c16_i32_141
  v193
def k0_mult43 (k0_t2 : Fin k0_t2_loop.trips) : BitVec 32 :=
  let c0_i32_92 : BitVec 32 := 0#32
  let c1_i32_94 : BitVec 32 := 1#32
  let arg15 : BitVec 32 := Scf.iv c0_i32_92 c1_i32_94 k0_t2
  let c64_i32 : BitVec 32 := 64#32
  let v110 : BitVec 32 := Scalar.muli arg15 c64_i32
  let v111 : BitVec 32 := v110
  let c16_i32_145 : BitVec 32 := 16#32
  let v203 : BitVec 32 := Scalar.addi v111 c16_i32_145
  v203
def k0_mult44 (k0_t2 : Fin k0_t2_loop.trips) : BitVec 32 :=
  let c0_i32_92 : BitVec 32 := 0#32
  let c1_i32_94 : BitVec 32 := 1#32
  let arg15 : BitVec 32 := Scf.iv c0_i32_92 c1_i32_94 k0_t2
  let c64_i32 : BitVec 32 := 64#32
  let v110 : BitVec 32 := Scalar.muli arg15 c64_i32
  let v111 : BitVec 32 := v110
  let c16_i32_149 : BitVec 32 := 16#32
  let v213 : BitVec 32 := Scalar.addi v111 c16_i32_149
  v213
def k0_mult45 (k0_t2 : Fin k0_t2_loop.trips) : BitVec 32 :=
  let c0_i32_92 : BitVec 32 := 0#32
  let c1_i32_94 : BitVec 32 := 1#32
  let arg15 : BitVec 32 := Scf.iv c0_i32_92 c1_i32_94 k0_t2
  let c64_i32 : BitVec 32 := 64#32
  let v110 : BitVec 32 := Scalar.muli arg15 c64_i32
  let v111 : BitVec 32 := v110
  let c16_i32_153 : BitVec 32 := 16#32
  let v223 : BitVec 32 := Scalar.addi v111 c16_i32_153
  v223
def k0_mult46 (k0_t2 : Fin k0_t2_loop.trips) : BitVec 32 :=
  let c0_i32_92 : BitVec 32 := 0#32
  let c1_i32_94 : BitVec 32 := 1#32
  let arg15 : BitVec 32 := Scf.iv c0_i32_92 c1_i32_94 k0_t2
  let c64_i32 : BitVec 32 := 64#32
  let v110 : BitVec 32 := Scalar.muli arg15 c64_i32
  let v111 : BitVec 32 := v110
  let c16_i32_157 : BitVec 32 := 16#32
  let v233 : BitVec 32 := Scalar.addi v111 c16_i32_157
  v233
def k0_mult47 (k0_t2 : Fin k0_t2_loop.trips) : BitVec 32 :=
  let c0_i32_92 : BitVec 32 := 0#32
  let c1_i32_94 : BitVec 32 := 1#32
  let arg15 : BitVec 32 := Scf.iv c0_i32_92 c1_i32_94 k0_t2
  let c64_i32 : BitVec 32 := 64#32
  let v110 : BitVec 32 := Scalar.muli arg15 c64_i32
  let v111 : BitVec 32 := v110
  let c16_i32_161 : BitVec 32 := 16#32
  let v243 : BitVec 32 := Scalar.addi v111 c16_i32_161
  v243
def k0_mult48 (k0_t2 : Fin k0_t2_loop.trips) : BitVec 32 :=
  let c0_i32_92 : BitVec 32 := 0#32
  let c1_i32_94 : BitVec 32 := 1#32
  let arg15 : BitVec 32 := Scf.iv c0_i32_92 c1_i32_94 k0_t2
  let c64_i32 : BitVec 32 := 64#32
  let v110 : BitVec 32 := Scalar.muli arg15 c64_i32
  let v111 : BitVec 32 := v110
  let c16_i32_165 : BitVec 32 := 16#32
  let v253 : BitVec 32 := Scalar.addi v111 c16_i32_165
  v253
def k0_mult49 (k0_t2 : Fin k0_t2_loop.trips) : BitVec 32 :=
  let c0_i32_92 : BitVec 32 := 0#32
  let c1_i32_94 : BitVec 32 := 1#32
  let arg15 : BitVec 32 := Scf.iv c0_i32_92 c1_i32_94 k0_t2
  let c64_i32 : BitVec 32 := 64#32
  let v110 : BitVec 32 := Scalar.muli arg15 c64_i32
  let v111 : BitVec 32 := v110
  let c8_i32_169 : BitVec 32 := 8#32
  let v263 : BitVec 32 := Scalar.addi v111 c8_i32_169
  v263
def k0_mult50 (k0_t2 : Fin k0_t2_loop.trips) : BitVec 32 :=
  let c0_i32_92 : BitVec 32 := 0#32
  let c1_i32_94 : BitVec 32 := 1#32
  let arg15 : BitVec 32 := Scf.iv c0_i32_92 c1_i32_94 k0_t2
  let c64_i32 : BitVec 32 := 64#32
  let v110 : BitVec 32 := Scalar.muli arg15 c64_i32
  let v111 : BitVec 32 := v110
  let c8_i32_173 : BitVec 32 := 8#32
  let v273 : BitVec 32 := Scalar.addi v111 c8_i32_173
  v273
def k0_mult51 (k0_t2 : Fin k0_t2_loop.trips) : BitVec 32 :=
  let c0_i32_92 : BitVec 32 := 0#32
  let c1_i32_94 : BitVec 32 := 1#32
  let arg15 : BitVec 32 := Scf.iv c0_i32_92 c1_i32_94 k0_t2
  let c64_i32 : BitVec 32 := 64#32
  let v110 : BitVec 32 := Scalar.muli arg15 c64_i32
  let v111 : BitVec 32 := v110
  let c8_i32_177 : BitVec 32 := 8#32
  let v283 : BitVec 32 := Scalar.addi v111 c8_i32_177
  v283
def k0_mult52 (k0_t2 : Fin k0_t2_loop.trips) : BitVec 32 :=
  let c0_i32_92 : BitVec 32 := 0#32
  let c1_i32_94 : BitVec 32 := 1#32
  let arg15 : BitVec 32 := Scf.iv c0_i32_92 c1_i32_94 k0_t2
  let c64_i32 : BitVec 32 := 64#32
  let v110 : BitVec 32 := Scalar.muli arg15 c64_i32
  let v111 : BitVec 32 := v110
  let c8_i32_181 : BitVec 32 := 8#32
  let v293 : BitVec 32 := Scalar.addi v111 c8_i32_181
  v293
def k0_mult53 (k0_t2 : Fin k0_t2_loop.trips) : BitVec 32 :=
  let c0_i32_92 : BitVec 32 := 0#32
  let c1_i32_94 : BitVec 32 := 1#32
  let arg15 : BitVec 32 := Scf.iv c0_i32_92 c1_i32_94 k0_t2
  let c64_i32 : BitVec 32 := 64#32
  let v110 : BitVec 32 := Scalar.muli arg15 c64_i32
  let v111 : BitVec 32 := v110
  let c8_i32_185 : BitVec 32 := 8#32
  let v303 : BitVec 32 := Scalar.addi v111 c8_i32_185
  v303
def k0_mult54 (k0_t2 : Fin k0_t2_loop.trips) : BitVec 32 :=
  let c0_i32_92 : BitVec 32 := 0#32
  let c1_i32_94 : BitVec 32 := 1#32
  let arg15 : BitVec 32 := Scf.iv c0_i32_92 c1_i32_94 k0_t2
  let c64_i32 : BitVec 32 := 64#32
  let v110 : BitVec 32 := Scalar.muli arg15 c64_i32
  let v111 : BitVec 32 := v110
  let c8_i32_189 : BitVec 32 := 8#32
  let v313 : BitVec 32 := Scalar.addi v111 c8_i32_189
  v313
def k0_mult55 (k0_t2 : Fin k0_t2_loop.trips) : BitVec 32 :=
  let c0_i32_92 : BitVec 32 := 0#32
  let c1_i32_94 : BitVec 32 := 1#32
  let arg15 : BitVec 32 := Scf.iv c0_i32_92 c1_i32_94 k0_t2
  let c64_i32 : BitVec 32 := 64#32
  let v110 : BitVec 32 := Scalar.muli arg15 c64_i32
  let v111 : BitVec 32 := v110
  let c8_i32_193 : BitVec 32 := 8#32
  let v323 : BitVec 32 := Scalar.addi v111 c8_i32_193
  v323
def k0_mult56 (k0_t2 : Fin k0_t2_loop.trips) : BitVec 32 :=
  let c0_i32_92 : BitVec 32 := 0#32
  let c1_i32_94 : BitVec 32 := 1#32
  let arg15 : BitVec 32 := Scf.iv c0_i32_92 c1_i32_94 k0_t2
  let c64_i32 : BitVec 32 := 64#32
  let v110 : BitVec 32 := Scalar.muli arg15 c64_i32
  let v111 : BitVec 32 := v110
  let c8_i32_197 : BitVec 32 := 8#32
  let v333 : BitVec 32 := Scalar.addi v111 c8_i32_197
  v333
def k0_mult57 (k0_t2 : Fin k0_t2_loop.trips) : BitVec 32 :=
  let c0_i32_92 : BitVec 32 := 0#32
  let c1_i32_94 : BitVec 32 := 1#32
  let arg15 : BitVec 32 := Scf.iv c0_i32_92 c1_i32_94 k0_t2
  let c64_i32 : BitVec 32 := 64#32
  let v110 : BitVec 32 := Scalar.muli arg15 c64_i32
  let v111 : BitVec 32 := v110
  let c0_i32_201 : BitVec 32 := 0#32
  let v343 : BitVec 32 := Scalar.addi v111 c0_i32_201
  v343
def k0_mult58 (k0_t2 : Fin k0_t2_loop.trips) : BitVec 32 :=
  let c0_i32_92 : BitVec 32 := 0#32
  let c1_i32_94 : BitVec 32 := 1#32
  let arg15 : BitVec 32 := Scf.iv c0_i32_92 c1_i32_94 k0_t2
  let c64_i32 : BitVec 32 := 64#32
  let v110 : BitVec 32 := Scalar.muli arg15 c64_i32
  let v111 : BitVec 32 := v110
  let c0_i32_205 : BitVec 32 := 0#32
  let v353 : BitVec 32 := Scalar.addi v111 c0_i32_205
  v353
def k0_mult59 (k0_t2 : Fin k0_t2_loop.trips) : BitVec 32 :=
  let c0_i32_92 : BitVec 32 := 0#32
  let c1_i32_94 : BitVec 32 := 1#32
  let arg15 : BitVec 32 := Scf.iv c0_i32_92 c1_i32_94 k0_t2
  let c64_i32 : BitVec 32 := 64#32
  let v110 : BitVec 32 := Scalar.muli arg15 c64_i32
  let v111 : BitVec 32 := v110
  let c0_i32_209 : BitVec 32 := 0#32
  let v363 : BitVec 32 := Scalar.addi v111 c0_i32_209
  v363
def k0_mult60 (k0_t2 : Fin k0_t2_loop.trips) : BitVec 32 :=
  let c0_i32_92 : BitVec 32 := 0#32
  let c1_i32_94 : BitVec 32 := 1#32
  let arg15 : BitVec 32 := Scf.iv c0_i32_92 c1_i32_94 k0_t2
  let c64_i32 : BitVec 32 := 64#32
  let v110 : BitVec 32 := Scalar.muli arg15 c64_i32
  let v111 : BitVec 32 := v110
  let c0_i32_213 : BitVec 32 := 0#32
  let v373 : BitVec 32 := Scalar.addi v111 c0_i32_213
  v373
def k0_mult61 (k0_t2 : Fin k0_t2_loop.trips) : BitVec 32 :=
  let c0_i32_92 : BitVec 32 := 0#32
  let c1_i32_94 : BitVec 32 := 1#32
  let arg15 : BitVec 32 := Scf.iv c0_i32_92 c1_i32_94 k0_t2
  let c64_i32 : BitVec 32 := 64#32
  let v110 : BitVec 32 := Scalar.muli arg15 c64_i32
  let v111 : BitVec 32 := v110
  let c0_i32_217 : BitVec 32 := 0#32
  let v383 : BitVec 32 := Scalar.addi v111 c0_i32_217
  v383
def k0_mult62 (k0_t2 : Fin k0_t2_loop.trips) : BitVec 32 :=
  let c0_i32_92 : BitVec 32 := 0#32
  let c1_i32_94 : BitVec 32 := 1#32
  let arg15 : BitVec 32 := Scf.iv c0_i32_92 c1_i32_94 k0_t2
  let c64_i32 : BitVec 32 := 64#32
  let v110 : BitVec 32 := Scalar.muli arg15 c64_i32
  let v111 : BitVec 32 := v110
  let c0_i32_221 : BitVec 32 := 0#32
  let v393 : BitVec 32 := Scalar.addi v111 c0_i32_221
  v393
def k0_mult63 (k0_t2 : Fin k0_t2_loop.trips) : BitVec 32 :=
  let c0_i32_92 : BitVec 32 := 0#32
  let c1_i32_94 : BitVec 32 := 1#32
  let arg15 : BitVec 32 := Scf.iv c0_i32_92 c1_i32_94 k0_t2
  let c64_i32 : BitVec 32 := 64#32
  let v110 : BitVec 32 := Scalar.muli arg15 c64_i32
  let v111 : BitVec 32 := v110
  let c0_i32_225 : BitVec 32 := 0#32
  let v403 : BitVec 32 := Scalar.addi v111 c0_i32_225
  v403
def k0_mult64 (k0_t2 : Fin k0_t2_loop.trips) : BitVec 32 :=
  let c0_i32_92 : BitVec 32 := 0#32
  let c1_i32_94 : BitVec 32 := 1#32
  let arg15 : BitVec 32 := Scf.iv c0_i32_92 c1_i32_94 k0_t2
  let c64_i32 : BitVec 32 := 64#32
  let v110 : BitVec 32 := Scalar.muli arg15 c64_i32
  let v111 : BitVec 32 := v110
  let c0_i32_229 : BitVec 32 := 0#32
  let v413 : BitVec 32 := Scalar.addi v111 c0_i32_229
  v413
def k0_off19 (k0_t2 : Fin k0_t2_loop.trips) : Fin 2 → Nat :=
  let c0_i32_92 : BitVec 32 := 0#32
  let c1_i32_94 : BitVec 32 := 1#32
  let arg15 : BitVec 32 := Scf.iv c0_i32_92 c1_i32_94 k0_t2
  let c64_i32 : BitVec 32 := 64#32
  let v110 : BitVec 32 := Scalar.muli arg15 c64_i32
  let v111 : BitVec 32 := v110
  let v421 : Index := Scalar.indexCast v111
  let c0_232 : Index := 0#32
  ![v421.toNat, 0]
def k0_off20 (k0_t2 : Fin k0_t2_loop.trips) : Fin 2 → Nat :=
  let c0_i32_92 : BitVec 32 := 0#32
  let c1_i32_94 : BitVec 32 := 1#32
  let arg15 : BitVec 32 := Scf.iv c0_i32_92 c1_i32_94 k0_t2
  let c64_i32 : BitVec 32 := 64#32
  let v110 : BitVec 32 := Scalar.muli arg15 c64_i32
  let v111 : BitVec 32 := v110
  let v424 : Index := Scalar.indexCast v111
  let c512_233 : Index := 512#32
  ![v424.toNat, 512]
def k0_cond2 (i : grid0.Coords) : BitVec 1 :=
  let arg0 : BitVec 32 := BitVec.ofNat 32 (i 0).val
  let c7_i32_100 : BitVec 32 := 7#32
  let v107 : BitVec 1 := Scalar.cmpi .eq arg0 c7_i32_100
  let v108 : BitVec 32 := Scalar.extui v107
  let c0_i32_101 : BitVec 32 := 0#32
  let v109 : BitVec 1 := Scalar.cmpi .ne v108 c0_i32_101
  v109

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S32x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S32x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== MemFKernel.lean ====
abbrev S4096x512 : Shape := ⟨2, ![4096, 512]⟩
abbrev S256x512 : Shape := ⟨2, ![256, 512]⟩
abbrev S256x1024 : Shape := ⟨2, ![256, 1024]⟩
abbrev S512x512 : Shape := ⟨2, ![512, 512]⟩
abbrev S256x128 : Shape := ⟨2, ![256, 128]⟩
abbrev S512x128 : Shape := ⟨2, ![512, 128]⟩
abbrev S512 : Shape := ⟨1, ![512]⟩
abbrev S1x512 : Shape := ⟨2, ![1, 512]⟩

abbrev nBuf : Space → Nat
  | .hbm => 7
  | .vmem => 5
  | .smem => 0
  | _ => 0

abbrev bufTy : (tb : Table) → Fin (tcTables nBuf tb) → BufTy
  | .hbm, ⟨0, _⟩ => ⟨S4096x512, .f32⟩
  | .hbm, ⟨1, _⟩ => ⟨S256x512, .f32⟩
  | .hbm, ⟨2, _⟩ => ⟨S256x512, .f32⟩
  | .hbm, ⟨3, _⟩ => ⟨S256x1024, .f32⟩
  | .hbm, ⟨4, _⟩ => ⟨S256x1024, .bf16⟩
  | .hbm, ⟨5, _⟩ => ⟨S4096x512, .bf16⟩
  | .hbm, ⟨6, _⟩ => ⟨S4096x512, .bf16⟩
  | .local _ .vmem, ⟨0, _⟩ => ⟨S512x512, .bf16⟩
  | .local _ .vmem, ⟨1, _⟩ => ⟨S512x512, .bf16⟩
  | .local _ .vmem, ⟨2, _⟩ => ⟨S256x1024, .bf16⟩
  | .local _ .vmem, ⟨3, _⟩ => ⟨S512x512, .bf16⟩
  | .local _ .vmem, ⟨4, _⟩ => ⟨S512x512, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MemFReferenceIdeal.lean ====
abbrev S4096x512 : Shape := ⟨2, ![4096, 512]⟩
abbrev S256x512 : Shape := ⟨2, ![256, 512]⟩
abbrev S4096x4x128 : Shape := ⟨3, ![4096, 4, 128]⟩
abbrev S256x4x128 : Shape := ⟨3, ![256, 4, 128]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x128x4096 : Shape := ⟨3, ![4, 128, 4096]⟩

abbrev nBuf : Space → Nat
  | .hbm => 28
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S256x512, .f32⟩
  | .hbm, ⟨2, _⟩ => ⟨S256x512, .f32⟩
  | .hbm, ⟨3, _⟩ => ⟨S4096x4x128, .f32⟩
  | .hbm, ⟨4, _⟩ => ⟨S256x4x128, .f32⟩
  | .hbm, ⟨5, _⟩ => ⟨S256x4x128, .f32⟩
  | .hbm, ⟨6, _⟩ => ⟨S4x4096x256, .f32⟩
  | .hbm, ⟨7, _⟩ => ⟨S_, .f32⟩
  | .hbm, ⟨8, _⟩ => ⟨S4x4096x256, .f32⟩
  | .hbm, ⟨9, _⟩ => ⟨S4x4096x256, .f32⟩
  | .hbm, ⟨10, _⟩ => ⟨S_, .f32⟩
  | .hbm, ⟨11, _⟩ => ⟨S4x4096, .f32⟩
  | .hbm, ⟨12, _⟩ => ⟨S_, .f32⟩
  | .hbm, ⟨13, _⟩ => ⟨S4x4096, .f32⟩
  | .hbm, ⟨14, _⟩ => ⟨S4x4096, .f32⟩
  | .hbm, ⟨15, _⟩ => ⟨S4x4096x1, .f32⟩
  | .hbm, ⟨16, _⟩ => ⟨S4x4096x256, .f32⟩
  | .hbm, ⟨17, _⟩ => ⟨S4x4096x256, .f32⟩
  | .hbm, ⟨18, _⟩ => ⟨S4x4096x256, .f32⟩
  | .hbm, ⟨19, _⟩ => ⟨S_, .f32⟩
  | .hbm, ⟨20, _⟩ => ⟨S4x4096, .f32⟩
  | .hbm, ⟨21, _⟩ => ⟨S4x4096x1, .f32⟩
  | .hbm, ⟨22, _⟩ => ⟨S4x4096x256, .f32⟩
  | .hbm, ⟨23, _⟩ => ⟨S4x4096x256, .f32⟩
  | .hbm, ⟨24, _⟩ => ⟨S4x128x4096, .f32⟩
  | .hbm, ⟨25, _⟩ => ⟨S4096x4x128, .f32⟩
  | .hbm, ⟨26, _⟩ => ⟨S4096x512, .f32⟩
  | .hbm, ⟨27, _⟩ => ⟨S4096x512, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== ResNKernel.lean ====
abbrev S4096x4096 : Shape := ⟨2, ![4096, 4096]⟩
abbrev S4096x1024 : Shape := ⟨2, ![4096, 1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S4096x4096, .bf16⟩
  | .hbm, ⟨5, _⟩ => ⟨S4096x1024, .bf16⟩
  | .hbm, ⟨6, _⟩ => ⟨S4096x1024, .f32⟩
  | .hbm, ⟨7, _⟩ => ⟨S4096x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ResNReferenceIdeal.lean ====
abbrev S4096x4096 : Shape := ⟨2, ![4096, 4096]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 21
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]
-- ==== RmsMKernel.lean ====
abbrev S4096x1024 : Shape := ⟨2, ![4096, 1024]⟩
abbrev S1x1024 : Shape := ⟨2, ![1, 1024]⟩
abbrev S1024x4096 : Shape := ⟨2, ![1024, 4096]⟩
abbrev S4096x4096 : Shape := ⟨2, ![4096, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4096, .f32⟩
  | .hbm, ⟨3, _⟩ => ⟨S1024x4096, .bf16⟩
  | .hbm, ⟨4, _⟩ => ⟨S4096x1024, .bf16⟩
  | .hbm, ⟨5, _⟩ => ⟨S4096x4096, .bf16⟩
  | .hbm, ⟨6, _⟩ => ⟨S4096x4096, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S512x1024, .bf16⟩
  | .local _ .vmem, ⟨5, _⟩ => ⟨S512x1024, .bf16⟩
  | .local _ .vmem, ⟨6, _⟩ => ⟨S512x4096, .bf16⟩
  | .local _ .vmem, ⟨7, _⟩ => ⟨S512x4096, .bf16⟩
  | .local _ .vmem, ⟨8, _⟩ => ⟨S512x4096, .bf16⟩
  | .local _ .vmem, ⟨9, _⟩ => ⟨S512x4096, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RmsMReferenceIdeal.lean ====
abbrev S4096x1024 : Shape := ⟨2, ![4096, 1024]⟩
abbrev S1x1024 : Shape := ⟨2, ![1, 1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x4096, .f32⟩
  | .hbm, ⟨19, _⟩ => ⟨S4096x1024, .bf16⟩
  | .hbm, ⟨20, _⟩ => ⟨S4096x4096, .bf16⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_cst : Ref sig .tc := ⟨.hbm, 21, rfl⟩
abbrev main_call0_v0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Proof.Loss.Kernel.lean ====
module

public import proofs.«01_k».proof.Proof.Gen.LossKernelIdeal.Frame
public import Idealize.ShloMosaic.Lib.Pipeline.ValueKit
public import Idealize.ShloMosaic.Lib.Pointwise

/-! The loss head on one device: what its two result arrays hold after the run, index by index. -/

@[expose] public section

set_option maxRecDepth 16384

noncomputable section

open Idealize.ShloMosaic Idealize.ShloMosaic.TcCoe Idealize.SL.Sem
open Idealize.ShloMosaic.Pipeline (Dat)

namespace Cert.LossKernelIdeal.Hand

open Cert.LossKernelIdeal Cert.LossKernelIdeal.Gen

variable (m : (ℓ : Loc nD τ sig) → Buf (Elt Ideal) ℓ)

/-- The windows' block indices: the row-tiled windows move with the point, the loss row stays. -/
theorem idx : ∀ t : Fin cfg0.N, win0_0.index t = ![t.val, 0] ∧ win0_1.index t = ![t.val, 0] ∧ win0_2.index t = ![t.val, 0]
    ∧ win0_3.index t = ![0, 0] :=
  (by decide +kernel : ∀ t : Fin grid0.N, _)

/-- The prediction's array and the target's, at their literal types. -/
abbrev Y (c : Dev nD) : FVec Ideal S4096x1024 .f32 := m ((c : Thread nD τ).loc main_arg0)
abbrev T (c : Dev nD) : FVec Ideal S4096x1024 .f32 := m ((c : Thread nD τ).loc main_arg1)

/-- The gradient array: the difference times the kernel's `1/1024`. -/
theorem final_dy (c : Dev nD) : (dats m 0 c).arrAt 2 (cfgs 0).N
    = fun i => (Y m c i - T m c i) * Ideal.ofBits .f32 0x3A800000#32 := by
  refine (dats m 0 c).arrAt_eq_of_covers 2 _ (by decide +kernel) fun t _ y => ?_
  blk_simp
  rw [after0_2]
  by_cases h0 : t.val % 8 = 0
  · rw [outsAt0_A m c t h0]; frame_out
    pointwise [k0_pay3, k0_pay2]
    blk_point [iblk, V, idx t]
  · rw [outsAt0_B m c t h0]; frame_out
    pointwise [k0_pay3, k0_pay2]
    blk_point [iblk, V, idx t]

theorem hzero (j) : k0_pay1 (F := Ideal) j = 0 := by pointwise [k0_pay1]

theorem hpay (y t : FVec Ideal S512x1024 .f32) (acc : FVec Ideal S1x1024 .f32) (j : S1x1024.Idx) :
    k0_pay4 (F := Ideal) y t acc j
      = acc j + (∑ k : Fin 512, (y (ix2 k (j 1)) - t (ix2 k (j 1))) * (y (ix2 k (j 1)) - t (ix2 k (j 1)))) * Ideal.ofBits .f32 0x3A000000#32 := by
  pointwise [k0_pay4, k0_pay2]

/-- The squared error of one entry. -/
def sq (c : Dev nD) (r : Fin 4096) (j : Fin 1024) : EReal :=
  (Y m c (ix2 r j) - T m c (ix2 r j)) * (Y m c (ix2 r j) - T m c (ix2 r j))

/-- The row of partial losses: block after block, the column's squared errors times the kernel's `0.5/1024`. -/
theorem final_row (c : Dev nD) : (dats m 0 c).arrAt 3 (cfgs 0).N
    = (fun i : S1x1024.Idx => ∑ t : Fin 8, (∑ k : Fin 512, sq m c ⟨t.val * 512 + k.val, by omega⟩ (i 1))
        * Ideal.ofBits .f32 0x3A000000#32 : FVec Ideal S1x1024 .f32) := by
  refine (dats m 0 c).arrAt_eq_of_after_last 3 t0_7 (by decide +kernel) _ fun j => ?_
  blk_simp
  rw [after0_3]
  refine (Pipeline.eq_sum_fin_of_reset_step_apply_last (M := EReal) (ι := S1x1024.Idx) (fun n h => (outsAt0 m c n h).2) 8 (fun _ => 0)
    _
    (fun t h j => by rw [outsAt0_A m c t h]; frame_out; rw [hpay, hzero])
    (fun t h j => by rw [outsAt0_B m c t h]; frame_out; rw [hpay]) (le_of_eq N_0) t0_7 rfl j).trans ?_
  rw [zero_add]
  refine Finset.sum_congr rfl fun t _ => ?_
  refine Ideal.mul_congr (Finset.sum_congr rfl fun k _ => ?_) rfl
  unfold sq
  blk_point [iblk, V, idx t]

end Cert.LossKernelIdeal.Hand

end
-- ==== Proof.Reals.lean ====
module

public import Idealize.ShloMosaic.PureOps.Ideal
public import Idealize.ShloMosaic.Lib.Pointwise

/-! Sums of extended reals: a real factor that is not negative goes through a sum. -/

@[expose] public section

noncomputable section

namespace Cert.Reals

open Idealize.ShloMosaic

theorem sum_mul_coe {ι : Type*} (s : Finset ι) (f : ι → EReal) {r : ℝ} (hr : 0 ≤ r) :
    (∑ i ∈ s, f i) * (r : EReal) = ∑ i ∈ s, f i * (r : EReal) := by
  induction s using Finset.cons_induction with
  | empty => simp
  | cons a s ha ih =>
    rw [Finset.sum_cons, Finset.sum_cons, EReal.right_distrib_of_nonneg_of_ne_top (EReal.coe_nonneg.mpr hr) (EReal.coe_ne_top r), ih]

theorem coe_mul_sum {ι : Type*} (s : Finset ι) (f : ι → EReal) {r : ℝ} (hr : 0 ≤ r) :
    (r : EReal) * (∑ i ∈ s, f i) = ∑ i ∈ s, (r : EReal) * f i := by
  rw [mul_comm, sum_mul_coe s f hr]; exact Finset.sum_congr rfl fun i _ => mul_comm _ _

/-- A finite sum of reals, as an extended real. -/
theorem coe_sum {ι : Type*} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

end Cert.Reals

end
-- ==== Proof.Consts.lean ====
module

public import Idealize.ShloMosaic.PureOps.Ideal
public import Idealize.ShloMosaic.Lib.Pointwise

/-! The float words that the programs write, as the real numbers that they are. -/

@[expose] public section

noncomputable section

namespace Cert.Consts

open Idealize.ShloMosaic

theorem c1024 : Ideal.ofBits .f32 0x44800000#32 = ((1024 : ℝ) : EReal) := by
  simp [Ideal.ofBits, Ideal.ieee, -EReal.coe_mul]; norm_num
theorem c2 : Ideal.ofBits .f32 0x40000000#32 = ((2 : ℝ) : EReal) := by
  simp [Ideal.ofBits, Ideal.ieee, -EReal.coe_mul]; norm_num
theorem cHalf : Ideal.ofBits .f32 0x3F000000#32 = ((1 / 2 : ℝ) : EReal) := by
  simp [Ideal.ofBits, Ideal.ieee, -EReal.coe_mul]; norm_num
theorem c1 : Ideal.ofBits .f32 0x3F800000#32 = ((1 : ℝ) : EReal) := by
  simp [Ideal.ofBits, Ideal.ieee, -EReal.coe_mul]; norm_num
theorem cInv1024 : Ideal.ofBits .f32 0x3A800000#32 = ((1 / 1024 : ℝ) : EReal) := by
  simp [Ideal.ofBits, Ideal.ieee, -EReal.coe_mul]; norm_num
theorem cInv2048 : Ideal.ofBits .f32 0x3A000000#32 = ((1 / 2048 : ℝ) : EReal) := by
  simp [Ideal.ofBits, Ideal.ieee, -EReal.coe_mul]; norm_num

end Cert.Consts

end
-- ==== Proof.Loss.Claim.lean ====
module

public import proofs.«01_k».proof.Defs
public import proofs.«01_k».proof.Proof.Loss.Kernel
public import proofs.«01_k».proof.Proof.Reals
public import proofs.«01_k».proof.Proof.Consts
public import proofs.«01_k».proof.Proof.Gen.LossKernelIdeal.Frame
public import proofs.«01_k».proof.Proof.Gen.LossReferenceIdeal.Run
public import proofs.«01_k».proof.Proof.Gen.LossReferenceIdeal.Read
public import Idealize.ShloMosaic.Lib.Claim

/-! The loss head computes the gradient and the value of the mean squared error. -/

@[expose] public section

set_option maxRecDepth 16384

noncomputable section

open Idealize.ShloMosaic Idealize.ShloMosaic.TcCoe Idealize.SL.Sem

namespace Cert.Proof.Loss

open Cert.LossKernelIdeal.Hand Cert.Reals Cert.Consts

open Cert.LossReferenceIdeal.Read in
/-- The reference's gradient, entry by entry. -/
theorem ref_dy (y t : FVec Ideal Cert.LossReferenceIdeal.S4096x1024 .f32) (i) :
    val_main_v14 (F := Ideal) y t i = (y i - t i) * Ideal.ofBits .f32 0x3A800000#32 := by
  pointwise [val_main_v14_apply, val_main_v13_apply, val_main_v12_apply, val_main_v11_apply, val_main_v10_apply, val_main_v9_apply,
    val_main_v3_apply, val_main_v2_apply, val_main_v0_apply]
  simp only [val_main_cst_4_apply, val_main_cst_5_apply, val_main_cst_6_apply, val_main_cst_apply]
  show Ideal.div (Ideal.ofBits .f32 0x3F000000#32 * Ideal.ofBits .f32 0x3F800000#32) (Ideal.ofBits .f32 0x44800000#32)
    * (Ideal.ofBits .f32 0x40000000#32 * (y i - t i)) = _
  rw [cHalf, c1, c1024, c2, cInv1024, Ideal.div_coe (by norm_num), ← mul_assoc, ← EReal.coe_mul, ← EReal.coe_mul, ← EReal.coe_mul, mul_comm]
  congr 2; norm_num

open Cert.LossReferenceIdeal.Read in
/-- The reference's loss: every entry's squared error times `0.5/1024`, summed. -/
theorem ref_loss (y t : FVec Ideal Cert.LossReferenceIdeal.S4096x1024 .f32) (i) :
    val_main_v8 (F := Ideal) y t i = ∑ r : Fin 4096, ∑ j : Fin 1024,
      ((y (ix2 r j) - t (ix2 r j)) * (y (ix2 r j) - t (ix2 r j))) * Ideal.ofBits .f32 0x3A000000#32 := by
  rw [val_main_v8_apply, val_main_v7_apply, sum_idx1]
  simp only [val_main_v6_apply, val_main_v4_apply, val_main_v5_apply, val_main_v1_apply, val_main_v0_apply,
    val_main_cst_3_apply, val_main_cst_2_apply, val_main_cst_1_apply, val_main_cst_0_apply]
  have hi : ∀ (a : Fin 4096) (k : Fin 1024), idx_main_v4 (ix1 a) k = ix2 a k := fun a k => funext fun d => by
    match d with | ⟨0, _⟩ => rfl | ⟨1, _⟩ => rfl
  simp only [hi]
  show Ideal.ofBits .f32 0x3F000000#32 * (Ideal.ofBits .f32 0x00000000#32 + ∑ r : Fin 4096, Ideal.div (Ideal.ofBits .f32 0x00000000#32
    + ∑ j : Fin 1024, ((y (ix2 r j) - t (ix2 r j)) * (y (ix2 r j) - t (ix2 r j)))) (Ideal.ofBits .f32 0x44800000#32)) = _
  rw [Ideal.ofBits_zero_f32, zero_add, cHalf, c1024, cInv2048, coe_mul_sum _ _ (by norm_num)]
  refine Finset.sum_congr rfl fun r _ => ?_
  rw [zero_add, Ideal.div_coe (by norm_num), mul_comm, mul_assoc, ← EReal.coe_mul, sum_mul_coe _ _ (by norm_num)]
  refine Finset.sum_congr rfl fun j _ => ?_
  congr 2; norm_num

open Cert.LossKernelIdeal Cert.LossKernelIdeal.Gen in
/-- After the kernel, the host sums the row of partial losses. -/
theorem tail (m : (ℓ : Loc nD τ sig) → Buf (Elt Ideal) ℓ) (c : Dev nD) :
    Pipeline.afterTail₀ cfgs (dats m) 0 (V0 m) [hostOps1] c main_v1
      = Host.reduceAdd (F := Ideal) ((dats m 0 c).arrAt 3 (cfgs 0).N) (constant S_ .f32 0x00000000#32) reducesTo_S1x1024_S_d0_1 h_S_ := by
  show StableHlo.after hostOps1 _ _ = _
  after_results
  exact congrArg (fun X => Host.reduceAdd (F := Ideal) X (constant S_ .f32 0x00000000#32) reducesTo_S1x1024_S_d0_1 h_S_)
    (Pipeline.withArrays_arr spec0 (by decide) c _ (fun w => (dats m 0 c).arrAt w (cfgs 0).N) 3)

/-- The blocks of 512 rows, each weighted at once, against the rows one by one. -/
theorem sums (f : Fin 4096 → Fin 1024 → EReal) {r : ℝ} (hr : 0 ≤ r) :
    ∑ a : Fin 1, ∑ j : Fin 1024, ∑ t : Fin 8, (∑ k : Fin 512, f ⟨t.val * 512 + k.val, by omega⟩ j) * (r : EReal)
      = ∑ i : Fin 4096, ∑ j : Fin 1024, f i j * (r : EReal) := by
  rw [Fin.sum_univ_one, Finset.sum_comm (s := (Finset.univ : Finset (Fin 4096)))]
  refine Finset.sum_congr rfl fun j _ => ?_
  simp only [sum_mul_coe _ _ hr]
  exact (Fin.sum_univ_tiles 8 512 rfl fun i => f i j * (r : EReal)).symm

/-- The reference terminates, with its arguments unchanged and every counter at zero. -/
theorem frame_reference : Cert.quiescent_LossReferenceIdeal := by
  intro m g _
  exact (θ_run Cert.LossReferenceIdeal.defs _ _).mono (fun r h => ⟨fun c => (h c).2.2, sem_eq_zero_of_no_sems (by decide) r.2⟩)
    (Cert.LossReferenceIdeal.Value.run m g)

theorem algebraic : Cert.algebraic_LossKernelIdeal_LossReferenceIdeal := by
  pair_intro
  · run_from Cert.LossKernelIdeal.Gen.run_main m g
  · run_from Cert.LossReferenceIdeal.Value.run m' g'
    · rw [Cert.LossReferenceIdeal.Read.val_main_v14_eq, final_dy]
      exact funext fun i => ref_dy _ _ i
    · rw [Cert.LossReferenceIdeal.Read.val_main_v8_eq, tail, final_row]
      funext i
      refine (ref_loss _ _ i).trans ?_
      simp only [Host.reduceAdd, Ideal.hostReduceAdd_def]
      refine Eq.trans ?_ (Ideal.hostReduceAdd_total _ (fun b => b.elim0) _ _ i).symm
      refine Eq.trans ?_ (congrArg₂ (· + ·) Ideal.ofBits_zero_f32.symm (sum_idx2 (n0 := 1) (n1 := 1024) _).symm)
      rw [zero_add, cInv2048]
      exact (sums (fun i j => sq m c i j) (by norm_num)).symm

end Cert.Proof.Loss

end
-- ==== Proof.Fox.Math.lean ====
module

public import Idealize.ShloMosaic.Lib.Pointwise
public import Idealize.ShloMosaic.PureOps.Ideal

/-! The real mathematics of a softmax taken block by block.

A row keeps a running maximum `m` and running sums `acc`, scaled by `exp (-m)`; a block of scores changes the maximum and
rescales the sums. Whatever the maxima were, the quotient of two sums and `m + log` of a sum do not depend on them. -/

@[expose] public section

noncomputable section

namespace Cert.Fox

open Idealize.ShloMosaic

/-- The maximum of entries below `⊤`, one of them a real, is a real. -/
theorem fold_max_real {n : ℕ} (b : EReal) (f : Fin n → EReal) (hb : b ≠ ⊤) (hf : ∀ k, f k ≠ ⊤) (k₀ : Fin n) (hk : f k₀ ≠ ⊥) :
    ∃ M : ℝ, (Finset.univ : Finset (Fin n)).fold max b f = M := by
  have h1 : (Finset.univ : Finset (Fin n)).fold max b f < ⊤ :=
    Finset.fold_max_lt _ |>.2 ⟨lt_top_iff_ne_top.2 hb, fun k _ => lt_top_iff_ne_top.2 (hf k)⟩
  have h2 : ⊥ < (Finset.univ : Finset (Fin n)).fold max b f :=
    Finset.lt_fold_max _ |>.2 (.inr ⟨k₀, Finset.mem_univ _, bot_lt_iff_ne_bot.2 hk⟩)
  exact ⟨_, (EReal.coe_toReal h1.ne h2.ne').symm⟩

/-- A finite sum of reals, read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A row's state: the maximum so far, and the sums `W` scaled by it; before the first block the maximum is `⊥`. -/
def Inv {L : ℕ} (m : EReal) (acc : Fin L → EReal) (W : Fin L → ℝ) : Prop :=
  (m = ⊥ ∧ (∀ l, W l = 0) ∧ ∀ l, acc l = 0) ∨ ∃ M : ℝ, m = M ∧ ∀ l, acc l = ((Real.exp (-M) * W l : ℝ) : EReal)

/-- One block of scores `s`, of which the columns in `A` count. -/
theorem Inv.step {L n : ℕ} {m : EReal} {acc : Fin L → EReal} {W : Fin L → ℝ} (h : Inv m acc W) (A : Fin n → Prop) [DecidablePred A]
    (s : Fin n → ℝ) (sh : Fin n → EReal) (hsh : ∀ c, sh c = if A c then (s c : EReal) else ⊥) (c₀ : Fin n) (hc : A c₀)
    (V : Fin n → Fin L → ℝ) (m' : EReal) (hm' : m' = max m ((Finset.univ : Finset (Fin n)).fold max ⊥ sh)) :
    ∃ M : ℝ, m' = M ∧ ∀ l, Ideal.exp (m - m') * acc l + ∑ c, Ideal.exp (sh c - m') * (V c l : EReal)
      = ((Real.exp (-M) * (W l + ∑ c, if A c then Real.exp (s c) * V c l else 0) : ℝ) : EReal) := by
  obtain ⟨B, hB⟩ := fold_max_real ⊥ sh bot_ne_top (fun k => by rw [hsh]; split_ifs; exacts [EReal.coe_ne_top _, bot_ne_top]) c₀
    (by rw [hsh, if_pos hc]; exact EReal.coe_ne_bot _)
  have hsum : ∀ (M : ℝ) (l : Fin L), ∑ c, Ideal.exp (sh c - (M : EReal)) * (V c l : EReal)
      = ((Real.exp (-M) * ∑ c, (if A c then Real.exp (s c) * V c l else 0) : ℝ) : EReal) := by
    intro M l
    rw [Finset.mul_sum, coe_sum]
    refine Finset.sum_congr rfl fun c _ => ?_
    rw [hsh]
    split_ifs
    · rw [← EReal.coe_sub, Ideal.exp_coe, ← EReal.coe_mul, sub_eq_add_neg, Real.exp_add]
      congr 1; ring
    · rw [EReal.bot_sub, Ideal.exp_bot]; simp
  rcases h with ⟨hm, hW, hacc⟩ | ⟨M, hm, hacc⟩
  · refine ⟨B, by rw [hm', hB, hm]; simp, fun l => ?_⟩
    have : m' = B := by rw [hm', hB, hm]; simp
    rw [this, hsum, hm, hacc, hW, mul_zero, zero_add, zero_add]
  · have hmax : m' = ((max M B : ℝ) : EReal) := by rw [hm', hB, hm]; exact (EReal.coe_strictMono.monotone.map_max).symm
    refine ⟨max M B, hmax, fun l => ?_⟩
    rw [hmax, hsum, hm, hacc, ← EReal.coe_sub, Ideal.exp_coe, ← EReal.coe_mul, ← EReal.coe_add]
    congr 1
    rw [← mul_assoc, ← Real.exp_add, show M - max M B + -M = -max M B by ring]; ring

/-- The sum below a block and the block's entries up to `r`: the sum up to `r`. -/
theorem sum_upto {T : ℕ} (f : ℕ → ℝ) (a r : ℕ) (h₀ : a ≤ r) (h₁ : r < a + T) :
    ∑ j ∈ Finset.range a, f j + ∑ c : Fin T, (if a + c.val ≤ r then f (a + c.val) else 0) = ∑ j ∈ Finset.range (r + 1), f j := by
  rw [← Finset.sum_range (fun c => if a + c ≤ r then f (a + c) else 0), ← Finset.sum_range_add_sum_Ico f (show a ≤ r + 1 by omega),
    Finset.sum_Ico_eq_sum_range]
  congr 1
  rw [← Finset.sum_subset (Finset.range_subset_range.2 (show r + 1 - a ≤ T by omega))]
  · refine Finset.sum_congr rfl fun c hc => ?_
    have := Finset.mem_range.1 hc
    rw [if_pos (by omega)]
  · intro c hc hc'
    rw [if_neg (by rw [Finset.mem_range] at hc'; omega)]

/-- The sum below a block and the whole block. -/
theorem sum_block {T : ℕ} (f : ℕ → ℝ) (a : ℕ) :
    ∑ j ∈ Finset.range a, f j + ∑ c : Fin T, f (a + c.val) = ∑ j ∈ Finset.range (a + T), f j := by
  rw [Finset.sum_range_add, Finset.sum_range (fun x => f (a + x))]

/-- A block's entries from `r` on: a sum over an interval. -/
theorem sum_from {T : ℕ} (f : ℕ → ℝ) (a r : ℕ) (h₀ : a ≤ r) (h₁ : r < a + T) :
    ∑ c : Fin T, (if r ≤ a + c.val then f (a + c.val) else 0) = ∑ j ∈ Finset.Ico r (a + T), f j := by
  rw [← Finset.sum_range (fun c => if r ≤ a + c then f (a + c) else 0), Finset.sum_Ico_eq_sum_range,
    ← Finset.sum_range_add_sum_Ico _ (show r - a ≤ T by omega), Finset.sum_Ico_eq_sum_range]
  rw [Finset.sum_eq_zero, zero_add, show a + T - r = T - (r - a) by omega]
  · refine Finset.sum_congr rfl fun c hc => ?_
    rw [if_pos (by omega), show a + (r - a + c) = r + c by omega]
  · intro c hc
    have := Finset.mem_range.1 hc
    rw [if_neg (by omega)]

/-- An interval's sum and the block after it. -/
theorem sum_Ico_block {T : ℕ} (f : ℕ → ℝ) (r a : ℕ) (h : r ≤ a) :
    ∑ j ∈ Finset.Ico r a, f j + ∑ c : Fin T, f (a + c.val) = ∑ j ∈ Finset.Ico r (a + T), f j := by
  rw [← Finset.sum_Ico_consecutive f h (Nat.le_add_right a T), Finset.sum_Ico_eq_sum_range f a, Nat.add_sub_cancel_left,
    Finset.sum_range (fun x => f (a + x))]

end Cert.Fox

end
-- ==== Proof.Fox.FwdLoop.lean ====
module

public import proofs.«01_k».proof.Proof.Gen.FoxKernelIdeal.Loops
public import proofs.«01_k».proof.Proof.Fox.Math
public import Idealize.ShloMosaic.Lib.Claim
public import Idealize.ShloMosaic.Lib.WholeRead
public import Idealize.ShloMosaic.Lib.WordCmp

/-! The attention's forward call: one row of one head through the blocks of 512 columns.

Real functions of two natural numbers stand for the arrays: `Q r l` is the query's lane `l` in row `r` of the block, `K j l` and
`V j l` the keys' and values' lane `l` in row `j`. -/

@[expose] public section

set_option maxRecDepth 16384

noncomputable section

namespace Cert.FoxKernelIdeal.Fox

open Idealize.ShloMosaic Idealize.ShloMosaic.TcCoe Idealize.SL.Sem
open Cert.FoxKernelIdeal.Gen Cert.Fox

/-- The score of row `r` against column `j`. -/
def sc (Q K : ℕ → ℕ → ℝ) (r j : ℕ) : ℝ := ∑ l ∈ Finset.range 128, Q r l * K j l

/-- The sum of lane `l` of the values up to column `n`, weighted by the exponentials of row `r`'s scores. -/
def wsum (Q K V : ℕ → ℕ → ℝ) (r n l : ℕ) : ℝ := ∑ j ∈ Finset.range n, Real.exp (sc Q K r j) * V j l

/-- The mask's value: `⊥`. -/
theorem mask_eq : (Named.named (F := Ideal) Cert.FoxKernelIdeal.κ "mask" 0xF149F2CA#32 : Ideal .f32) = (⊥ : EReal) :=
  IdealRules.named_const.ideal_named_scalar _ _ _ _ rfl

/-- The causal comparison at grid row `i 1`: column `512 * (i 1 / 2) + c` against row `256 * i 1 + r`. -/
theorem causal (i : grid0.Coords) (r : Fin 256) (c : Fin 512) :
    k0_pay21 i (ix2 r c) = BitVec.ofBool (decide (512 * ((i 1).val / 2) + c.val ≤ 256 * (i 1).val + r.val)) := by
  have hi : Scalar.muli (Scalar.addi (Scalar.shrui (BitVec.ofNat 32 (i 1).val) 1#32) 0#32) 512#32 = BitVec.ofNat 32 (512 * ((i 1).val / 2)) :=
    (by decide +kernel : ∀ k : Fin 16, Scalar.muli (Scalar.addi (Scalar.shrui (BitVec.ofNat 32 k.val) 1#32) 0#32) 512#32
      = BitVec.ofNat 32 (512 * (k.val / 2))) (i 1)
  have hj : Scalar.muli (BitVec.ofNat 32 (i 1).val) 256#32 = BitVec.ofNat 32 (256 * (i 1).val) :=
    (by decide +kernel : ∀ k : Fin 16, Scalar.muli (BitVec.ofNat 32 k.val) 256#32 = BitVec.ofNat 32 (256 * k.val)) (i 1)
  have h16 : (i 1).val < 16 := (i 1).isLt
  pointwise [k0_pay21]
  rw [hi, hj]
  show IntOp.cmpi .sle (BitVec.ofNat 32 c.val + BitVec.ofNat 32 _) (BitVec.ofNat 32 r.val + BitVec.ofNat 32 _) = _
  rw [← BitVec.ofNat_add, ← BitVec.ofNat_add, WordCmp.cmpi_sle_ofNat (by omega) (by omega)]
  congr 2
  rw [Nat.add_comm, Nat.add_comm r.val]

/-- The masked scores. -/
theorem masked (i : grid0.Coords) (s : FVec Ideal S256x512 .f32) (r : Fin 256) (c : Fin 512) :
    k0_pay22 (F := Ideal) s (k0_pay21 i) (ix2 r c)
      = if 512 * ((i 1).val / 2) + c.val ≤ 256 * (i 1).val + r.val then s (ix2 r c) else (⊥ : EReal) := by
  have h := causal i r c
  have h2 : k0_pay22 (F := Ideal) s (k0_pay21 i) (ix2 r c)
      = Scalar.select (k0_pay21 i (ix2 r c)) (s (ix2 r c)) (Named.named (F := Ideal) Cert.FoxKernelIdeal.κ "mask" 0xF149F2CA#32) := by
    pointwise [k0_pay22]
  rw [h2, h, mask_eq]
  split_ifs with hc <;> simp [hc, Scalar.select]

/-- A block of scores, from real operands. -/
theorem scores (Q K : ℕ → ℕ → ℝ) (v : Vec Ideal S256x128 .bf16) (w : Vec Ideal S512x128 .bf16) (a : ℕ)
    (hv : ∀ (r : Fin 256) (l : Fin 128), v (ix2 r l) = ((Q r l : ℝ) : EReal))
    (hw : ∀ (c : Fin 512) (l : Fin 128), w (ix2 c l) = ((K (a + c) l : ℝ) : EReal)) (r : Fin 256) (c : Fin 512) :
    k0_pay5 (F := Ideal) v w (ix2 r c) = ((sc Q K r (a + c) : ℝ) : EReal) := by
  pointwise [k0_pay5, k0_pay3]
  rw [sc, Finset.sum_range, coe_sum]
  refine Finset.sum_congr rfl fun l _ => ?_
  rw [EReal.coe_mul]
  exact congrArg₂ (· * ·) (hv r l) (hw c l)

/-- One head's state before block `n`: the scores of block `n`, and each row's maximum and sums over the columns below `512 * n`. -/
def HeadSt (Q K V : ℕ → ℕ → ℝ) (n : ℕ) (s : FVec Ideal S256x512 .f32) (m : FVec Ideal S256x1 .f32) (a : FVec Ideal S256x128 .f32) : Prop :=
  ∀ r : Fin 256, (∀ c : Fin 512, s (ix2 r c) = ((sc Q K r (512 * n + c) : ℝ) : EReal))
    ∧ Inv (m (ix2 r 0)) (fun l : Fin 128 => a (ix2 r l)) (fun l => wsum Q K V r (512 * n) l)

/-- A row's update over a block of scores `sh`, the columns in `A` counted. -/
theorem row_update (m : FVec Ideal S256x1 .f32) (a : FVec Ideal S256x128 .f32) (v : Vec Ideal S512x128 .bf16) (sh : FVec Ideal S256x512 .f32)
    (r : Fin 256) (W : Fin 128 → ℝ) (hI : Inv (m (ix2 r 0)) (fun l : Fin 128 => a (ix2 r l)) W) (A : Fin 512 → Prop) [DecidablePred A]
    (s : Fin 512 → ℝ) (hsh : ∀ c, sh (ix2 r c) = if A c then (s c : EReal) else ⊥) (c₀ : Fin 512) (hc : A c₀) (V : Fin 512 → Fin 128 → ℝ)
    (hv : ∀ c l, v (ix2 c l) = ((V c l : ℝ) : EReal)) :
    ∃ M : ℝ, k0_pay11 (F := Ideal) sh m (ix2 r 0) = (M : EReal) ∧ ∀ l : Fin 128, k0_pay12 (F := Ideal) sh m a v (ix2 r l)
      = ((Real.exp (-M) * (W l + ∑ c, if A c then Real.exp (s c) * V c l else 0) : ℝ) : EReal) := by
  have hbot : Ideal.ofBits FTy.f32 0xFF800000#32 = (⊥ : EReal) := by simp [Ideal.ofBits, Ideal.ieee]
  obtain ⟨M, hM, h⟩ := hI.step A s (fun c => sh (ix2 r c)) hsh c₀ hc V (k0_pay11 (F := Ideal) sh m (ix2 r 0)) (by
    pointwise [k0_pay11]; rw [hbot])
  refine ⟨M, hM, fun l => ?_⟩
  rw [← h l]
  pointwise [k0_pay12]
  refine congrArg₂ (· + ·) rfl (Finset.sum_congr rfl fun c _ => ?_)
  rw [← hv c l]

/-- A whole block: the state before the next block. -/
theorem HeadSt.next {Q K V : ℕ → ℕ → ℝ} {n : ℕ} {s : FVec Ideal S256x512 .f32} {m : FVec Ideal S256x1 .f32} {a : FVec Ideal S256x128 .f32}
    (h : HeadSt Q K V n s m a) (v : Vec Ideal S512x128 .bf16)
    (hv : ∀ (c : Fin 512) (l : Fin 128), v (ix2 c l) = ((V (512 * n + c) l : ℝ) : EReal)) (s' : FVec Ideal S256x512 .f32)
    (hs' : ∀ (r : Fin 256) (c : Fin 512), s' (ix2 r c) = ((sc Q K r (512 * (n + 1) + c) : ℝ) : EReal)) :
    HeadSt Q K V (n + 1) s' (k0_pay11 (F := Ideal) s m) (k0_pay12 (F := Ideal) s m a v) := by
  intro r
  refine ⟨hs' r, .inr ?_⟩
  obtain ⟨M, hM, hl⟩ := row_update m a v s r _ (h r).2 (fun _ => True) (fun c => sc Q K r (512 * n + c))
    (fun c => by rw [(h r).1 c, if_pos trivial]) 0 trivial (fun c l => V (512 * n + c) l) hv
  refine ⟨M, hM, fun l => ?_⟩
  refine (hl l).trans ?_
  congr 3
  simp only [if_true]
  exact sum_block (T := 512) (fun j => Real.exp (sc Q K r j) * V j l) (512 * n)

/-- The last block, masked: every row's sums over its own columns. -/
theorem HeadSt.last {Q K V : ℕ → ℕ → ℝ} {i : grid0.Coords} {s : FVec Ideal S256x512 .f32} {m : FVec Ideal S256x1 .f32}
    {a : FVec Ideal S256x128 .f32} (h : HeadSt Q K V ((i 1).val / 2) s m a) (v : Vec Ideal S512x128 .bf16)
    (hv : ∀ (c : Fin 512) (l : Fin 128), v (ix2 c l) = ((V (512 * ((i 1).val / 2) + c) l : ℝ) : EReal)) (r : Fin 256) :
    ∃ M : ℝ, k0_pay11 (F := Ideal) (k0_pay22 s (k0_pay21 i)) m (ix2 r 0) = (M : EReal)
      ∧ ∀ l : Fin 128, k0_pay12 (F := Ideal) (k0_pay22 s (k0_pay21 i)) m a v (ix2 r l)
        = ((Real.exp (-M) * wsum Q K V r (256 * (i 1).val + r + 1) l : ℝ) : EReal) := by
  obtain ⟨M, hM, hl⟩ := row_update m a v (k0_pay22 s (k0_pay21 i)) r _ (h r).2
    (fun c => 512 * ((i 1).val / 2) + c.val ≤ 256 * (i 1).val + r.val) (fun c => sc Q K r (512 * ((i 1).val / 2) + c))
    (fun c => by rw [masked, (h r).1 c]) 0 (by simp; omega) (fun c l => V (512 * ((i 1).val / 2) + c) l) hv
  refine ⟨M, hM, fun l => ?_⟩
  rw [hl l]
  congr 3
  exact sum_upto (T := 512) (fun j => Real.exp (sc Q K r j) * V j l) (512 * ((i 1).val / 2)) (256 * (i 1).val + r) (by omega) (by omega)

end Cert.FoxKernelIdeal.Fox

end
-- ==== Proof.Fox.FwdBlock.lean ====
module

public import proofs.«01_k».proof.Proof.Gen.FoxKernelIdeal.Frame
public import proofs.«01_k».proof.Proof.Fox.FwdLoop
public import Idealize.ShloMosaic.Lib.Pipeline.ValueKit

/-! The attention's forward call: what one block computes, from real operands.

The block has 256 rows and two heads, each of 128 lanes: head `h` has the lanes `128 * h + l`. -/

@[expose] public section

set_option maxRecDepth 16384

noncomputable section

namespace Cert.FoxKernelIdeal.Fox

open Idealize.ShloMosaic Idealize.ShloMosaic.TcCoe Idealize.SL.Sem
open Cert.FoxKernelIdeal.Gen Cert.Fox

/-- A block's columns from lane `b` on. -/
abbrev lanes (b : ℕ) (X : ℕ → ℕ → ℝ) : ℕ → ℕ → ℝ := fun r l => X r (b + l)

/-- The array `x` holds the reals `X`. -/
def Holds {n d : ℕ} (x : (⟨2, ![n, d]⟩ : Shape).Idx → EReal) (X : ℕ → ℕ → ℝ) : Prop :=
  ∀ (r : Fin n) (l : Fin d), x (ix2 r l) = ((X r l : ℝ) : EReal)

/-- A load of `n` rows from `o` on and of 128 columns from `b` on. -/
theorem Holds.ld {n d k e : ℕ} {x : Vec Ideal ⟨2, ![n, d]⟩ .bf16} {X : ℕ → ℕ → ℝ} (h : Holds (n := n) (d := d) x X) (off : Fin 2 → ℕ)
    (inb : ∀ a, off a + (![k, e] : Fin 2 → ℕ) a ≤ (⟨2, ![n, d]⟩ : Shape).size a) (o b : ℕ) (ho : off = ![o, b]) (r : Fin k) (l : Fin e) :
    View.ld (Val := Elt Ideal) x (Rect.unit (s := ⟨2, ![n, d]⟩) off ![k, e] inb) (ix2 r l) = ((X (o + r) (b + l) : ℝ) : EReal) := by
  subst ho
  have h0 := inb 0
  have h1 := inb 1
  refine Eq.trans ?_ (h ⟨o + r, by have := r.isLt; simp at h0; omega⟩ ⟨b + l, by have := l.isLt; simp at h1; omega⟩)
  refine congrArg x (funext fun a => ?_)
  match a with
  | ⟨0, _⟩ => exact Fin.ext (by simp [Rect.unit, Rect.emb])
  | ⟨1, _⟩ => exact Fin.ext (by simp [Rect.unit, Rect.emb])

section

variable (c : Dev nD) (i : grid0.Coords) (arg2 : Memref sig .tc .vmem S256x256 .bf16) (harg2 : arg2.IsWhole)
  (arg3 : Memref sig .tc .vmem S4096x256 .bf16) (harg3 : arg3.IsWhole) (arg4 : Memref sig .tc .vmem S4096x256 .bf16) (harg4 : arg4.IsWhole)
  (arg5 : Memref sig .tc .vmem S256x128 .f32) (harg5 : arg5.IsWhole) (arg6 : Memref sig .tc .vmem S256x128 .f32) (harg6 : arg6.IsWhole)
  (arg7 : Memref sig .tc .vmem S256x128 .bf16) (harg7 : arg7.IsWhole) (x0 : Vec Ideal S256x256 .bf16) (x1 x2 : Vec Ideal S4096x256 .bf16)

/-- The two heads' lanes of the query block. -/
abbrev q0 := View.ld (Val := Elt Ideal) x0 (Rect.unit ![0, 0] ![256, 128] inb_S256x256_S256x128_0_0)
abbrev q1 := View.ld (Val := Elt Ideal) x0 (Rect.unit ![0, 128] ![256, 128] inb_S256x256_S256x128_0_128)

/-- What the loop over whole blocks carries before trip `n`. -/
def carried (n : ℕ) := st_k0_t1 (F := Ideal) Variants.none c none i arg2 harg2 arg3 harg3 arg4 harg4 arg5 harg5 arg6 harg6 arg7 harg7 (q0 x0) (q1 x0)
  (harg3.unread x1) (harg4.unread x2)
  (k0_pay5 (q0 x0) (View.ld x1 (Rect.unit ![0, 0] ![512, 128] inb_S4096x256_S512x128_0_0)),
    k0_pay6 (q1 x0) (View.ld x1 (Rect.unit ![0, 128] ![512, 128] inb_S4096x256_S512x128_0_128)), k0_pay7, k0_pay7, k0_pay8, k0_pay8) n

/-- Before trip `n` the carried value is both heads' state. -/
theorem carried_spec (Q K V : ℕ → ℕ → ℝ) (h0 : Holds x0 Q) (h1 : Holds x1 K) (h2 : Holds x2 V) (n : ℕ) (hn : n ≤ (i 1).val / 2) :
    let z := carried c i arg2 harg2 arg3 harg3 arg4 harg4 arg5 harg5 arg6 harg6 arg7 harg7 x0 x1 x2 n
    HeadSt (lanes 0 Q) (lanes 0 K) (lanes 0 V) n z.1 z.2.2.1 z.2.2.2.2.1
      ∧ HeadSt (lanes 128 Q) (lanes 128 K) (lanes 128 V) n z.2.1 z.2.2.2.1 z.2.2.2.2.2 := by
  have hq0 : ∀ (r : Fin 256) (l : Fin 128), q0 x0 (ix2 r l) = ((lanes 0 Q r l : ℝ) : EReal) := fun r l => by
    have := h0.ld ![0, 0] inb_S256x256_S256x128_0_0 0 0 rfl r l
    rwa [Nat.zero_add] at this
  have hq1 : ∀ (r : Fin 256) (l : Fin 128), q1 x0 (ix2 r l) = ((lanes 128 Q r l : ℝ) : EReal) := fun r l => by
    have := h0.ld ![0, 128] inb_S256x256_S256x128_0_128 0 128 rfl r l
    rwa [Nat.zero_add] at this
  have htr : (k0_t1_loop i).trips = (i 1).val / 2 := (by decide +kernel : ∀ i : grid0.Coords, (k0_t1_loop i).trips = (i 1).val / 2) i
  induction n with
  | zero =>
    have hz : ∀ r : Fin 256, (k0_pay7 (F := Ideal) (ix2 r 0) : EReal) = ⊥ := fun r => mask_eq
    have hz' : ∀ (r : Fin 256) (l : Fin 128), (k0_pay8 (F := Ideal) (ix2 r l) : EReal) = 0 := fun r l => by pointwise [k0_pay8]
    exact ⟨fun r => ⟨fun cc => scores _ _ _ _ (512 * 0) hq0 (fun a b => h1.ld ![0, 0] inb_S4096x256_S512x128_0_0 0 0 rfl a b) r cc,
        .inl ⟨hz r, fun l => by simp [wsum], hz' r⟩⟩,
      fun r => ⟨fun cc => scores _ _ _ _ (512 * 0) hq1 (fun a b => h1.ld ![0, 128] inb_S4096x256_S512x128_0_128 0 128 rfl a b) r cc,
        .inl ⟨hz r, fun l => by simp [wsum], hz' r⟩⟩⟩
  | succ n ih =>
    obtain ⟨ha, hb⟩ := ih (by omega)
    have hlt : n < (k0_t1_loop i).trips := by omega
    have hs := st_k0_t1_succ (F := Ideal) Variants.none c none i arg2 harg2 arg3 harg3 arg4 harg4 arg5 harg5 arg6 harg6 arg7 harg7 (q0 x0) (q1 x0)
      (harg3.unread x1) (harg4.unread x2)
      (k0_pay5 (q0 x0) (View.ld x1 (Rect.unit ![0, 0] ![512, 128] inb_S4096x256_S512x128_0_0)),
        k0_pay6 (q1 x0) (View.ld x1 (Rect.unit ![0, 128] ![512, 128] inb_S4096x256_S512x128_0_128)), k0_pay7, k0_pay7, k0_pay8, k0_pay8) ⟨n, hlt⟩
    have ho1 : k0_off1 i ⟨n, hlt⟩ = ![512 * (n + 1), 0] :=
      (by decide +kernel : ∀ (i : grid0.Coords) (k : Fin (k0_t1_loop i).trips), k0_off1 i k = ![512 * (k.val + 1), 0]) i ⟨n, hlt⟩
    have ho2 : k0_off2 i ⟨n, hlt⟩ = ![512 * (n + 1), 128] :=
      (by decide +kernel : ∀ (i : grid0.Coords) (k : Fin (k0_t1_loop i).trips), k0_off2 i k = ![512 * (k.val + 1), 128]) i ⟨n, hlt⟩
    have ho3 : k0_off3 i ⟨n, hlt⟩ = ![512 * n, 0] :=
      (by decide +kernel : ∀ (i : grid0.Coords) (k : Fin (k0_t1_loop i).trips), k0_off3 i k = ![512 * k.val, 0]) i ⟨n, hlt⟩
    have ho4 : k0_off4 i ⟨n, hlt⟩ = ![512 * n, 128] :=
      (by decide +kernel : ∀ (i : grid0.Coords) (k : Fin (k0_t1_loop i).trips), k0_off4 i k = ![512 * k.val, 128]) i ⟨n, hlt⟩
    change carried c i arg2 harg2 arg3 harg3 arg4 harg4 arg5 harg5 arg6 harg6 arg7 harg7 x0 x1 x2 (n + 1) = _ at hs
    intro z
    have hz : z = _ := hs
    clear_value z
    subst hz
    unfold tripR_k0_t1 trip_k0_t1
    dsimp only
    simp only [View.readAt_eq_ld, Memref.IsWhole.read_unread]
    exact ⟨ha.next _ (h2.ld _ _ _ _ ho3) _ (scores _ _ _ _ _ hq0 (h1.ld _ _ _ _ ho1)),
      hb.next _ (h2.ld _ _ _ _ ho4) _ (scores _ _ _ _ _ hq1 (h1.ld _ _ _ _ ho2))⟩

/-- After both loops (the second has no trip) the carried value is the state before the masked block. -/
theorem carried_last :
    st_k0_t2 (F := Ideal) Variants.none c none i arg2 harg2 arg3 harg3 arg4 harg4 arg5 harg5 arg6 harg6 arg7 harg7 (q0 x0) (q1 x0)
      (harg3.unread x1) (harg4.unread x2)
      (carried c i arg2 harg2 arg3 harg3 arg4 harg4 arg5 harg5 arg6 harg6 arg7 harg7 x0 x1 x2 (k0_t1_loop i).trips) (k0_t2_loop i).trips
    = carried c i arg2 harg2 arg3 harg3 arg4 harg4 arg5 harg5 arg6 harg6 arg7 harg7 x0 x1 x2 ((i 1).val / 2) := by
  rw [(by decide +kernel : ∀ i : grid0.Coords, (k0_t1_loop i).trips = (i 1).val / 2) i,
    (by decide +kernel : ∀ i : grid0.Coords, (k0_t2_loop i).trips = 0) i]
  rfl

/-- The values' masked block, of either head. -/
abbrev vlast0 := View.ld (Val := Elt Ideal) x2 (Rect.unit (s := S4096x256) (k0_off9 i) ![512, 128] (k0_off9_inb i))
abbrev vlast1 := View.ld (Val := Elt Ideal) x2 (Rect.unit (s := S4096x256) (k0_off10 i) ![512, 128] (k0_off10_inb i))

theorem out3_eq : out0_A_3 (F := Ideal) c i arg2 harg2 arg3 harg3 arg4 harg4 arg5 harg5 arg6 harg6 arg7 harg7 x0 x1 x2
    = (fun z => k0_pay33 (iota .tc S1x128 32 [1] iota_S1x128_d1_w32) z.1 z.2.1 z.2.2.1 z.2.2.2.1 z.2.2.2.2.1 z.2.2.2.2.2 (k0_pay21 i) (vlast0 i x2) (vlast1 i x2))
      (carried c i arg2 harg2 arg3 harg3 arg4 harg4 arg5 harg5 arg6 harg6 arg7 harg7 x0 x1 x2 ((i 1).val / 2)) := by
  rw [← carried_last]
  frame_out
  rfl

theorem out5_eq : out0_A_5 (F := Ideal) c i arg2 harg2 arg3 harg3 arg4 harg4 arg5 harg5 arg6 harg6 arg7 harg7 x0 x1 x2
    = out0_A_3 (F := Ideal) c i arg2 harg2 arg3 harg3 arg4 harg4 arg5 harg5 arg6 harg6 arg7 harg7 x0 x1 x2 := by
  rw [out3_eq, ← carried_last]
  frame_out
  rfl

theorem out4_eq : out0_A_4 (F := Ideal) c i arg2 harg2 arg3 harg3 arg4 harg4 arg5 harg5 arg6 harg6 arg7 harg7 x0 x1 x2
    = (fun z => k0_pay2 (k0_pay29 z.1 z.2.2.1 z.2.2.2.2.1 (k0_pay21 i) (vlast0 i x2)) (k0_pay31 z.2.1 z.2.2.2.1 z.2.2.2.2.2 (k0_pay21 i) (vlast1 i x2))
        (k0_pay32 (iota .tc S1x128 32 [1] iota_S1x128_d1_w32)))
      (carried c i arg2 harg2 arg3 harg3 arg4 harg4 arg5 harg5 arg6 harg6 arg7 harg7 x0 x1 x2 ((i 1).val / 2)) := by
  rw [← carried_last]
  frame_out
  rfl

/-- Lane `n` of the block's 128 output lanes belongs to the first head if it is below 64; the head's lanes start at `hb n`,
    and its spare lane is `hs n`. -/
def hb (n : ℕ) : ℕ := if n < 64 then 0 else 128
def hs (n : ℕ) : ℕ := if n < 64 then 64 else 0

/-- The comparison of a lane with 64. -/
theorem select_low (n : ℕ) (hn : n < 128) (a b : EReal) :
    Scalar.select (α := EReal) (IntOp.cmpi .slt (BitVec.ofNat 32 n) 64#32) a b = if n < 64 then a else b := by
  rw [show (64#32 : BitVec 32) = BitVec.ofNat 32 64 from rfl, WordCmp.cmpi_slt_ofNat (by omega) (by omega)]
  split_ifs with h <;> simp [h, Scalar.select]

/-- THE OUTPUT BLOCK AND THE LOG-SUMS: the weighted sum of a lane over that of the head's spare lane, and the latter's logarithm, where
    the weighted sum of the spare lane is positive. -/
theorem block_value (Q K V : ℕ → ℕ → ℝ) (h0 : Holds x0 Q) (h1 : Holds x1 K) (h2 : Holds x2 V)
    (hpos : ∀ (r : Fin 256) (n : ℕ), n < 128 →
      0 < wsum (lanes (hb n) Q) (lanes (hb n) K) (lanes (hb n) V) r (256 * (i 1).val + r + 1) (hs n)) (r : Fin 256) (n : Fin 128) :
    out0_A_3 (F := Ideal) c i arg2 harg2 arg3 harg3 arg4 harg4 arg5 harg5 arg6 harg6 arg7 harg7 x0 x1 x2 (ix2 r n)
        = ((wsum (lanes (hb n) Q) (lanes (hb n) K) (lanes (hb n) V) r (256 * (i 1).val + r + 1) n
          / wsum (lanes (hb n) Q) (lanes (hb n) K) (lanes (hb n) V) r (256 * (i 1).val + r + 1) (hs n) : ℝ) : EReal)
      ∧ out0_A_4 (F := Ideal) c i arg2 harg2 arg3 harg3 arg4 harg4 arg5 harg5 arg6 harg6 arg7 harg7 x0 x1 x2 (ix2 r n)
        = ((Real.log (wsum (lanes (hb n) Q) (lanes (hb n) K) (lanes (hb n) V) r (256 * (i 1).val + r + 1) (hs n)) : ℝ) : EReal) := by
  obtain ⟨ha, hb'⟩ := carried_spec c i arg2 harg2 arg3 harg3 arg4 harg4 arg5 harg5 arg6 harg6 arg7 harg7 x0 x1 x2 Q K V h0 h1 h2 _ le_rfl
  rw [out3_eq, out4_eq]
  set z := carried c i arg2 harg2 arg3 harg3 arg4 harg4 arg5 harg5 arg6 harg6 arg7 harg7 x0 x1 x2 ((i 1).val / 2) with hz
  clear_value z
  have ho9 : k0_off9 i = ![512 * ((i 1).val / 2), 0] := (by decide +kernel : ∀ i : grid0.Coords, k0_off9 i = ![512 * ((i 1).val / 2), 0]) i
  have ho10 : k0_off10 i = ![512 * ((i 1).val / 2), 128] :=
    (by decide +kernel : ∀ i : grid0.Coords, k0_off10 i = ![512 * ((i 1).val / 2), 128]) i
  obtain ⟨M, hM, hl⟩ := ha.last (vlast0 i x2) (h2.ld _ _ _ _ ho9) r
  obtain ⟨M', hM', hl'⟩ := hb'.last (vlast1 i x2) (h2.ld _ _ _ _ ho10) r
  have key : ∀ (M w u : ℝ), 0 < w → Ideal.div ((Real.exp (-M) * u : ℝ) : EReal) ((Real.exp (-M) * w : ℝ) : EReal) = ((u / w : ℝ) : EReal)
      ∧ (M : EReal) + Ideal.log ((Real.exp (-M) * w : ℝ) : EReal) = ((Real.log w : ℝ) : EReal) := fun M w u hw => by
    have he := Real.exp_pos (-M)
    constructor
    · rw [Ideal.div_coe (by positivity), ← EReal.coe_mul]
      congr 1
      field_simp
    · rw [Ideal.log_coe, if_neg (not_le.2 (by positivity)), ← EReal.coe_add, Real.log_mul he.ne' hw.ne', Real.log_exp]
      congr 1; ring
  constructor
  · have hp : k0_pay33 (F := Ideal) (iota .tc S1x128 32 [1] iota_S1x128_d1_w32) z.1 z.2.1 z.2.2.1 z.2.2.2.1 z.2.2.2.2.1 z.2.2.2.2.2 (k0_pay21 i)
        (vlast0 i x2) (vlast1 i x2) (ix2 r n) = Scalar.select (α := EReal) (IntOp.cmpi .slt (BitVec.ofNat 32 n.val) 64#32)
          (Ideal.div (k0_pay24 z.1 z.2.2.1 z.2.2.2.2.1 (k0_pay21 i) (vlast0 i x2) (ix2 r n)) (k0_pay24 z.1 z.2.2.1 z.2.2.2.2.1 (k0_pay21 i) (vlast0 i x2) (ix2 r 64)))
          (Ideal.div (k0_pay27 z.2.1 z.2.2.2.1 z.2.2.2.2.2 (k0_pay21 i) (vlast1 i x2) (ix2 r n)) (k0_pay27 z.2.1 z.2.2.2.1 z.2.2.2.2.2 (k0_pay21 i) (vlast1 i x2) (ix2 r 0))) := by
      pointwise [k0_pay33, k0_pay32, k0_pay28, k0_pay30]
    refine hp.trans ?_
    rw [select_low n n.isLt]
    have := hpos r n n.isLt
    unfold hb hs at this ⊢
    split_ifs at this ⊢ with hn
    · exact (congrArg₂ Ideal.div (hl n) (hl 64)).trans (key M _ _ this).1
    · exact (congrArg₂ Ideal.div (hl' n) (hl' 0)).trans (key M' _ _ this).1
  · have hp : k0_pay2 (F := Ideal) (k0_pay29 z.1 z.2.2.1 z.2.2.2.2.1 (k0_pay21 i) (vlast0 i x2)) (k0_pay31 z.2.1 z.2.2.2.1 z.2.2.2.2.2 (k0_pay21 i) (vlast1 i x2))
        (k0_pay32 (iota .tc S1x128 32 [1] iota_S1x128_d1_w32)) (ix2 r n) = Scalar.select (α := EReal) (IntOp.cmpi .slt (BitVec.ofNat 32 n.val) 64#32)
          ((k0_pay23 z.1 z.2.2.1 (k0_pay21 i) (ix2 r 0) : EReal) + Ideal.log (k0_pay24 z.1 z.2.2.1 z.2.2.2.2.1 (k0_pay21 i) (vlast0 i x2) (ix2 r 64)))
          ((k0_pay26 z.2.1 z.2.2.2.1 (k0_pay21 i) (ix2 r 0) : EReal) + Ideal.log (k0_pay27 z.2.1 z.2.2.2.1 z.2.2.2.2.2 (k0_pay21 i) (vlast1 i x2) (ix2 r 0))) := by
      pointwise [k0_pay2, k0_pay32, k0_pay29, k0_pay31, k0_pay28, k0_pay30]
    refine hp.trans ?_
    rw [select_low n n.isLt]
    have := hpos r n n.isLt
    unfold hb hs at this ⊢
    split_ifs at this ⊢ with hn
    · exact (congrArg₂ (fun a b => a + Ideal.log b) hM (hl 64)).trans (key M _ 0 this).2
    · exact (congrArg₂ (fun a b => a + Ideal.log b) hM' (hl' 0)).trans (key M' _ 0 this).2

end

end Cert.FoxKernelIdeal.Fox

end
-- ==== Proof.Fox.Fwd.lean ====
module

public import proofs.«01_k».proof.Proof.Fox.FwdBlock

/-! The attention's forward call: its three arrays, from real operand arrays. -/

@[expose] public section

set_option maxRecDepth 16384

noncomputable section

namespace Cert.FoxKernelIdeal.Fox

open Idealize.ShloMosaic Idealize.ShloMosaic.TcCoe Idealize.SL.Sem
open Idealize.ShloMosaic.Pipeline (Dat)
open Cert.FoxKernelIdeal.Gen Cert.Fox

variable (V : (c : Dev nD) → (b : Ref sig .tc) → Buf (Elt Ideal) ((c : Thread nD τ).loc b)) (c : Dev nD)

/-- The windows' block indices. -/
theorem idx0 : ∀ t : Fin cfg0.N, win0_0.index t = ![t.val % 16, t.val / 16] ∧ win0_1.index t = ![0, t.val / 16] ∧ win0_2.index t = ![0, t.val / 16]
    ∧ win0_3.index t = ![t.val % 16, t.val / 16] ∧ win0_4.index t = ![t.val % 16, t.val / 16] ∧ win0_5.index t = ![t.val % 16, t.val / 16]
    ∧ (grid0.coords t 1).val = t.val % 16 :=
  (by decide +kernel : ∀ t : Fin grid0.N, _)

/-- A block of the operands, as reals. -/
theorem blk0 (QA KA VA : ℕ → ℕ → ℝ) (h0 : Holds (n := 4096) (d := 1024) (V c (Pipeline.arrRef spec0 0)) QA)
    (h1 : Holds (n := 4096) (d := 1024) (V c (Pipeline.arrRef spec0 1)) KA) (h2 : Holds (n := 4096) (d := 1024) (V c (Pipeline.arrRef spec0 2)) VA)
    (t : Fin cfg0.N) :
    Holds (n := 256) (d := 256) (iblk0 V c 0 t) (fun r l => QA (256 * (t.val % 16) + r) (256 * (t.val / 16) + l))
      ∧ Holds (n := 4096) (d := 256) (iblk0 V c 1 t) (fun r l => KA r (256 * (t.val / 16) + l))
      ∧ Holds (n := 4096) (d := 256) (iblk0 V c 2 t) (fun r l => VA r (256 * (t.val / 16) + l)) := by
  have ht : t.val < 64 := lt_of_lt_of_eq t.isLt N_0
  refine ⟨fun r l => ?_, fun r l => ?_, fun r l => ?_⟩
  · rw [show ((QA (256 * (t.val % 16) + r) (256 * (t.val / 16) + l) : ℝ) : EReal) = _ from (h0 ⟨256 * (t.val % 16) + r, by omega⟩ ⟨256 * (t.val / 16) + l, by omega⟩).symm]
    blk_point [iblk0, idx0 t]
  · rw [show ((KA r (256 * (t.val / 16) + l) : ℝ) : EReal) = _ from (h1 r ⟨256 * (t.val / 16) + l, by omega⟩).symm]
    blk_point [iblk0, idx0 t]
  · rw [show ((VA r (256 * (t.val / 16) + l) : ℝ) : EReal) = _ from (h2 r ⟨256 * (t.val / 16) + l, by omega⟩).symm]
    blk_point [iblk0, idx0 t]

/-- The first lane of the head that column `n` of an output belongs to, and its spare lane. -/
def hd (n : ℕ) : ℕ := 128 * (n / 64)
def sp (n : ℕ) : ℕ := if n % 128 < 64 then 64 else 0

/-- The weighted sum of lane `l` over the columns up to row `r`, in the head of output column `n`. -/
def ws (QA KA VA : ℕ → ℕ → ℝ) (r n l : ℕ) : ℝ := wsum (lanes (hd n) QA) (lanes (hd n) KA) (lanes (hd n) VA) r (r + 1) l

/-- A block's lanes and rows, in the whole arrays'. -/
theorem ws_block (QA KA VA : ℕ → ℕ → ℝ) (i p r n l : ℕ) (hn : n < 128) :
    ws QA KA VA (256 * i + r) (128 * p + n) l
      = wsum (lanes (hb n) fun r l => QA (256 * i + r) (256 * p + l)) (lanes (hb n) fun r l => KA r (256 * p + l))
          (lanes (hb n) fun r l => VA r (256 * p + l)) r (256 * i + r + 1) l := by
  have h : hd (128 * p + n) = 256 * p + hb n := by
    unfold hd hb; split_ifs <;> omega
  unfold ws wsum sc lanes
  simp only [h, add_assoc]

theorem sp_block (p n : ℕ) (hn : n < 128) : sp (128 * p + n) = hs n := by
  unfold sp hs; rw [Nat.mul_add_mod, Nat.mod_eq_of_lt hn]

/-- THE FORWARD CALL: the attention's output and the rows' log-sums. -/
theorem region0 (QA KA VA : ℕ → ℕ → ℝ) (h0 : Holds (n := 4096) (d := 1024) (V c (Pipeline.arrRef spec0 0)) QA)
    (h1 : Holds (n := 4096) (d := 1024) (V c (Pipeline.arrRef spec0 1)) KA) (h2 : Holds (n := 4096) (d := 1024) (V c (Pipeline.arrRef spec0 2)) VA)
    (hpos : ∀ r n, r < 4096 → n < 512 → 0 < ws QA KA VA r n (sp n)) :
    Holds (n := 4096) (d := 512) ((dat0 V c).arrAt 3 cfg0.N) (fun r n => ws QA KA VA r n (n % 128) / ws QA KA VA r n (sp n))
      ∧ Holds (n := 4096) (d := 512) ((dat0 V c).arrAt 4 cfg0.N) (fun r n => Real.log (ws QA KA VA r n (sp n)))
      ∧ Holds (n := 4096) (d := 512) ((dat0 V c).arrAt 5 cfg0.N) (fun r n => ws QA KA VA r n (n % 128) / ws QA KA VA r n (sp n)) := by
  have key : ∀ (t : Fin cfg0.N) (y : S256x128.Idx),
      let G := fun r n => ws QA KA VA r n (n % 128) / ws QA KA VA r n (sp n)
      (outsAt0 V c t).1 y = ((G (t.val % 16 * 256 + (y 0).val) (t.val / 16 * 128 + (y 1).val) : ℝ) : EReal)
      ∧ (outsAt0 V c t).2.1 y = ((Real.log (ws QA KA VA (t.val % 16 * 256 + (y 0).val) (t.val / 16 * 128 + (y 1).val) (sp (t.val / 16 * 128 + (y 1).val))) : ℝ) : EReal)
      ∧ (outsAt0 V c t).2.2 y = ((G (t.val % 16 * 256 + (y 0).val) (t.val / 16 * 128 + (y 1).val) : ℝ) : EReal) := by
    intro t y
    have ht : t.val < 64 := lt_of_lt_of_eq t.isLt N_0
    obtain ⟨b0, b1, b2⟩ := blk0 V c QA KA VA h0 h1 h2 t
    obtain ⟨r, n, rfl⟩ : ∃ (r : Fin 256) (n : Fin 128), y = ix2 r n := ⟨y 0, y 1, by funext d; match d with | ⟨0, _⟩ => rfl | ⟨1, _⟩ => rfl⟩
    have hi := (idx0 t).2.2.2.2.2.2
    obtain ⟨e3, e4⟩ := block_value c (grid0.coords t) (ms0_0 t) (hs0_0 t) (ms0_1 t) (hs0_1 t) (ms0_2 t) (hs0_2 t) (ms0_3 t) (hs0_3 t) (ms0_4 t) (hs0_4 t)
      (ms0_5 t) (hs0_5 t) (iblk0 V c 0 t) (iblk0 V c 1 t) (iblk0 V c 2 t) _ _ _ b0 b1 b2 (fun r n hn => by
        have := hpos (256 * (t.val % 16) + r) (128 * (t.val / 16) + n) (by omega) (by omega)
        rw [ws_block _ _ _ _ _ _ _ _ hn, sp_block _ _ hn] at this
        rw [hi]; exact this) r n
    have hG : ((128 * (t.val / 16) + n.val) % 128) = n.val := by omega
    have hc : t.val % 16 * 256 + r.val = 256 * (t.val % 16) + r.val := by omega
    have hc' : t.val / 16 * 128 + n.val = 128 * (t.val / 16) + n.val := by omega
    rw [hi] at e3 e4
    show _ = ((ws QA KA VA (t.val % 16 * 256 + r.val) (t.val / 16 * 128 + n.val) ((t.val / 16 * 128 + n.val) % 128)
      / ws QA KA VA (t.val % 16 * 256 + r.val) (t.val / 16 * 128 + n.val) (sp (t.val / 16 * 128 + n.val)) : ℝ) : EReal)
      ∧ _ = ((Real.log (ws QA KA VA (t.val % 16 * 256 + r.val) (t.val / 16 * 128 + n.val) (sp (t.val / 16 * 128 + n.val))) : ℝ) : EReal)
      ∧ _ = ((ws QA KA VA (t.val % 16 * 256 + r.val) (t.val / 16 * 128 + n.val) ((t.val / 16 * 128 + n.val) % 128)
      / ws QA KA VA (t.val % 16 * 256 + r.val) (t.val / 16 * 128 + n.val) (sp (t.val / 16 * 128 + n.val)) : ℝ) : EReal)
    rw [hc, hc', hG, sp_block _ _ n.isLt, ws_block _ _ _ _ _ _ _ _ n.isLt, ws_block _ _ _ _ _ _ _ _ n.isLt]
    have e5 := congrFun (out5_eq c (grid0.coords t) (ms0_0 t) (hs0_0 t) (ms0_1 t) (hs0_1 t) (ms0_2 t) (hs0_2 t) (ms0_3 t) (hs0_3 t) (ms0_4 t) (hs0_4 t)
      (ms0_5 t) (hs0_5 t) (iblk0 V c 0 t) (iblk0 V c 1 t) (iblk0 V c 2 t)) (ix2 r n)
    unfold outsAt0
    dsimp only
    exact ⟨e3, e4, e5.trans e3⟩
  refine ⟨fun r n => ?_, fun r n => ?_, fun r n => ?_⟩
  · exact congrFun ((dat0 V c).arrAt_eq_of_covers 3 (fun y : S4096x512.Idx => ((ws QA KA VA (y 0) (y 1) ((y 1).val % 128) / ws QA KA VA (y 0) (y 1) (sp (y 1)) : ℝ) : EReal))
      (by decide +kernel) fun t _ y => by
        blk_simp
        rw [after0_3, (idx0 t).2.2.2.1]
        exact (key t y).1) (ix2 r n)
  · exact congrFun ((dat0 V c).arrAt_eq_of_covers 4 (fun y : S4096x512.Idx => ((Real.log (ws QA KA VA (y 0) (y 1) (sp (y 1))) : ℝ) : EReal))
      (by decide +kernel) fun t _ y => by
        blk_simp
        rw [after0_4, (idx0 t).2.2.2.2.1]
        exact (key t y).2.1) (ix2 r n)
  · exact congrFun ((dat0 V c).arrAt_eq_of_covers 5 (fun y : S4096x512.Idx => ((ws QA KA VA (y 0) (y 1) ((y 1).val % 128) / ws QA KA VA (y 0) (y 1) (sp (y 1)) : ℝ) : EReal))
      (by decide +kernel) fun t _ y => by
        blk_simp
        rw [after0_5, (idx0 t).2.2.2.2.2.1]
        exact (key t y).2.2) (ix2 r n)

end Cert.FoxKernelIdeal.Fox

end
-- ==== Proof.Fox.DqPay.lean ====
module

public import proofs.«01_k».proof.Proof.Fox.FwdBlock

/-! The queries' gradient: its operands (the queries and the output's cotangent with the row's scalars put into spare lanes) and one
update of its accumulator, read at an index from real operands. -/

@[expose] public section

set_option maxRecDepth 16384

noncomputable section

namespace Cert.FoxKernelIdeal.Fox

open Idealize.ShloMosaic Idealize.ShloMosaic.TcCoe Idealize.SL.Sem
open Cert.FoxKernelIdeal.Gen Cert.Fox

/-- The comparison of a lane with a constant. -/
theorem select_lane (n m : ℕ) (hn : n < 128) (hm : m < 128) (a b : EReal) :
    Scalar.select (α := EReal) (IntOp.cmpi .eq (BitVec.ofNat 32 n) (BitVec.ofNat 32 m)) a b = if n = m then a else b := by
  have : IntOp.cmpi .eq (BitVec.ofNat 32 n) (BitVec.ofNat 32 m) = BitVec.ofBool (decide (n = m)) := by
    show BitVec.ofBool _ = _
    congr 1
    have h : BitVec.ofNat 32 n = BitVec.ofNat 32 m ↔ n = m :=
      ⟨fun h => by have := congrArg BitVec.toNat h; simp at this; omega, fun h => by rw [h]⟩
    by_cases hnm : n = m <;> simp [hnm, h]
  rw [this]
  split_ifs with h <;> simp [h, Scalar.select]

/-- The queries' lanes with the negated log-sum in lane `e`, nothing in the two lanes after it. -/
def withLse (e : ℕ) (Q : ℕ → ℕ → ℝ) (L : ℕ → ℝ) (r l : ℕ) : ℝ := if l = e then -L r else if l = e + 1 then 0 else if l = e + 2 then 0 else Q r l

/-- The cotangent's lanes with the negated row sum in lane `e`, nothing in the other spare lanes. -/
def withDelta (e : ℕ) (D : ℕ → ℕ → ℝ) (δ : ℕ → ℝ) (r l : ℕ) : ℝ :=
  if l = e then -δ r else if e ≤ l ∧ l < e + 64 then 0 else D r l

/-- A head's row sum of cotangent times output, the head's spare lanes starting at `e`. -/
def rowDelta (e : ℕ) (D O : ℕ → ℕ → ℝ) (r : ℕ) : ℝ := ∑ l ∈ Finset.range 128, if e ≤ l ∧ l < e + 64 then 0 else D r l * O r l

/-- The word of an eighth. -/
theorem eighth : (Ideal.ofBits FTy.f32 0x3E000000#32 : EReal) = ((1 / 8 : ℝ) : EReal) := by
  simp [Ideal.ofBits, Ideal.ieee]
  rw [← EReal.coe_mul]
  norm_num

theorem sub_self_coe (x : ℝ) : (x : EReal) - (x : EReal) = ((0 : ℝ) : EReal) := by rw [← EReal.coe_sub, sub_self]

theorem zero_sub_coe (x : ℝ) : (0 : EReal) - (x : EReal) = ((-x : ℝ) : EReal) := by rw [← EReal.coe_zero, ← EReal.coe_sub, zero_sub]

section

variable (x0 : Vec Ideal S256x128 .bf16) (x1 : Vec Ideal S256x1 .f32) (Q : ℕ → ℕ → ℝ) (L : ℕ → ℝ)
  (h0 : ∀ (r : Fin 256) (l : Fin 128), x0 (ix2 r l) = ((Q r l : ℝ) : EReal)) (h1 : ∀ r : Fin 256, x1 (ix2 r 0) = ((L r : ℝ) : EReal))

include h0 h1

theorem query0 (r : Fin 256) (l : Fin 128) :
    k1_pay17 (F := Ideal) (iota .tc S1x128 32 [1] iota_S1x128_d1_w32) x1 x0 (ix2 r l) = ((withLse 70 Q L r l : ℝ) : EReal) := by
  pointwise [k1_pay17]
  rw [show (70#32 : BitVec 32) = BitVec.ofNat 32 70 from rfl, show (71#32 : BitVec 32) = BitVec.ofNat 32 71 from rfl,
    show (72#32 : BitVec 32) = BitVec.ofNat 32 72 from rfl]
  rw [select_lane _ _ l.isLt (by omega), select_lane _ _ l.isLt (by omega), select_lane _ _ l.isLt (by omega), h0 r l, h1 r]
  unfold withLse
  simp only [zero_sub_coe, sub_self_coe, sub_zero]
  split_ifs <;> rfl

theorem query1 (r : Fin 256) (l : Fin 128) :
    k1_pay20 (F := Ideal) (iota .tc S1x128 32 [1] iota_S1x128_d1_w32) x1 x0 (ix2 r l) = ((withLse 6 Q L r l : ℝ) : EReal) := by
  pointwise [k1_pay20]
  rw [show (6#32 : BitVec 32) = BitVec.ofNat 32 6 from rfl, show (7#32 : BitVec 32) = BitVec.ofNat 32 7 from rfl,
    show (8#32 : BitVec 32) = BitVec.ofNat 32 8 from rfl]
  rw [select_lane _ _ l.isLt (by omega), select_lane _ _ l.isLt (by omega), select_lane _ _ l.isLt (by omega), h0 r l, h1 r]
  unfold withLse
  simp only [zero_sub_coe, sub_self_coe, sub_zero]
  split_ifs <;> rfl

end

section

variable (x3 x2 : Vec Ideal S256x128 .f32) (D O : ℕ → ℕ → ℝ) (h3 : ∀ (r : Fin 256) (l : Fin 128), x3 (ix2 r l) = ((D r l : ℝ) : EReal))
  (h2 : ∀ (r : Fin 256) (l : Fin 128), x2 (ix2 r l) = ((O r l : ℝ) : EReal))

/-- A lane outside the 64 lanes from `e` on. -/
theorem select_outside (e : ℕ) (he : e ≤ 64) (l : Fin 128) (a b : EReal) :
    Scalar.select (α := EReal) (IntOp.xori (IntOp.andi (IntOp.cmpi .sge (BitVec.ofNat 32 l.val) (BitVec.ofNat 32 e))
      (IntOp.cmpi .slt (BitVec.ofNat 32 l.val) (BitVec.ofNat 32 (e + 64)))) 1#1) a b = if e ≤ l.val ∧ l.val < e + 64 then b else a := by
  have h := (by decide +kernel : ∀ (e : Fin 65) (l : Fin 128), IntOp.xori (IntOp.andi (IntOp.cmpi .sge (BitVec.ofNat 32 l.val) (BitVec.ofNat 32 e.val))
      (IntOp.cmpi .slt (BitVec.ofNat 32 l.val) (BitVec.ofNat 32 (e.val + 64)))) 1#1
      = BitVec.ofBool (decide ¬(e.val ≤ l.val ∧ l.val < e.val + 64))) ⟨e, by omega⟩ l
  rw [h]
  split_ifs with hc
  · simp [hc, Scalar.select]
  · simp only [hc, not_false_iff, decide_true]; simp [Scalar.select]

include h3 h2 in
theorem delta_sum (e : ℕ) (r : Fin 256) :
    ∑ l : Fin 128, (if e ≤ l.val ∧ l.val < e + 64 then (0 : EReal) else (x3 (ix2 r l) : EReal) * (x2 (ix2 r l) : EReal)) = ((rowDelta e D O r : ℝ) : EReal) := by
  rw [rowDelta, Finset.sum_range, coe_sum]
  refine Finset.sum_congr rfl fun l _ => ?_
  split_ifs
  · rfl
  · rw [h3, h2, EReal.coe_mul]

include h3 h2 in
theorem cot0 (r : Fin 256) (l : Fin 128) :
    k1_pay16 (F := Ideal) (k1_pay10 x3 x2) (k1_pay12 x3 x2) k1_pay13 (k1_pay14 x3 x2) k1_pay15 (ix2 r l)
      = ((withDelta 64 D (rowDelta 64 D O) r l : ℝ) : EReal) := by
  pointwise [k1_pay16, k1_pay10, k1_pay12, k1_pay13, k1_pay14, k1_pay15, k1_pay11, k1_pay9, k1_pay8, k1_pay7, k1_pay6]
  rw [show (64#32 : BitVec 32) = BitVec.ofNat 32 64 from rfl, show (65#32 : BitVec 32) = BitVec.ofNat 32 65 from rfl,
    show (66#32 : BitVec 32) = BitVec.ofNat 32 66 from rfl, show (128#32 : BitVec 32) = BitVec.ofNat 32 (64 + 64) from rfl]
  simp only [select_outside 64 le_rfl]
  rw [select_lane _ _ l.isLt (by omega), select_lane _ _ l.isLt (by omega), select_lane _ _ l.isLt (by omega), delta_sum x3 x2 D O h3 h2 64 r, h3 r l]
  unfold withDelta
  simp only [zero_sub_coe, sub_self_coe, sub_zero]
  split_ifs <;> first | rfl | omega

include h3 h2 in
theorem cot1 (r : Fin 256) (l : Fin 128) :
    k1_pay19 (F := Ideal) (k1_pay18 (iota .tc S1x128 32 [1] iota_S1x128_d1_w32) (k1_pay6 x3) (k1_pay7 x3 x2)) (ix2 r l)
      = ((withDelta 0 D (rowDelta 0 D O) r l : ℝ) : EReal) := by
  pointwise [k1_pay19, k1_pay18, k1_pay6, k1_pay7]
  rw [show (0#32 : BitVec 32) = BitVec.ofNat 32 0 from rfl, show (1#32 : BitVec 32) = BitVec.ofNat 32 1 from rfl,
    show (2#32 : BitVec 32) = BitVec.ofNat 32 2 from rfl, show (64#32 : BitVec 32) = BitVec.ofNat 32 (0 + 64) from rfl]
  simp only [select_outside 0 (by omega)]
  rw [select_lane _ _ l.isLt (by omega), select_lane _ _ l.isLt (by omega), select_lane _ _ l.isLt (by omega), delta_sum x3 x2 D O h3 h2 0 r, h3 r l]
  unfold withDelta
  simp only [zero_sub_coe, sub_self_coe, sub_zero]
  split_ifs <;> first | rfl | omega

end

/-- The weight of column `j` in row `r`: the score's exponential times the product of the cotangent's and the values' lanes. -/
def wt (P D K V : ℕ → ℕ → ℝ) (r j : ℕ) : ℝ := Real.exp (sc P K r j) * sc D V r j

section

variable (x y : Vec Ideal S256x128 .bf16) (acc : FVec Ideal S256x128 .f32) (k v : Vec Ideal S512x128 .bf16) (P D K V : ℕ → ℕ → ℝ) (a : ℕ)
  (hx : ∀ (r : Fin 256) (l : Fin 128), x (ix2 r l) = ((P r l : ℝ) : EReal)) (hy : ∀ (r : Fin 256) (l : Fin 128), y (ix2 r l) = ((D r l : ℝ) : EReal))
  (hk : ∀ (c : Fin 512) (l : Fin 128), k (ix2 c l) = ((K (a + c) l : ℝ) : EReal))
  (hv : ∀ (c : Fin 512) (l : Fin 128), v (ix2 c l) = ((V (a + c) l : ℝ) : EReal))

include hx hy hk hv

theorem update_term (r : Fin 256) (c : Fin 512) (l : Fin 128) :
    (Ideal.exp (∑ d : Fin 128, (x (ix2 r d) : EReal) * (k (ix2 c d) : EReal)) * ∑ d : Fin 128, (y (ix2 r d) : EReal) * (v (ix2 c d) : EReal)) * (k (ix2 c l) : EReal)
      = ((wt P D K V r (a + c) * K (a + c) l : ℝ) : EReal) := by
  have h1 : ∑ d : Fin 128, (x (ix2 r d) : EReal) * (k (ix2 c d) : EReal) = ((sc P K r (a + c) : ℝ) : EReal) := by
    rw [sc, Finset.sum_range, coe_sum]
    exact Finset.sum_congr rfl fun d _ => by rw [hx, hk, EReal.coe_mul]
  have h2 : ∑ d : Fin 128, (y (ix2 r d) : EReal) * (v (ix2 c d) : EReal) = ((sc D V r (a + c) : ℝ) : EReal) := by
    rw [sc, Finset.sum_range, coe_sum]
    exact Finset.sum_congr rfl fun d _ => by rw [hy, hv, EReal.coe_mul]
  rw [h1, h2, hk, Ideal.exp_coe, wt, EReal.coe_mul, EReal.coe_mul]

/-- An update over a whole block, of either head. -/
theorem update0 (r : Fin 256) (l : Fin 128) :
    k1_pay26 (F := Ideal) x y acc k v (ix2 r l) = (acc (ix2 r l) : EReal) + ((∑ c : Fin 512, wt P D K V r (a + c) * K (a + c) l : ℝ) : EReal) := by
  pointwise [k1_pay26, k1_pay23]
  rw [coe_sum]
  exact congrArg _ (Finset.sum_congr rfl fun c _ => update_term x y k v P D K V a hx hy hk hv r c l)

theorem update1 (r : Fin 256) (l : Fin 128) :
    k1_pay27 (F := Ideal) x y acc k v (ix2 r l) = (acc (ix2 r l) : EReal) + ((∑ c : Fin 512, wt P D K V r (a + c) * K (a + c) l : ℝ) : EReal) := by
  pointwise [k1_pay27, k1_pay22, k1_pay24]
  rw [coe_sum]
  exact congrArg _ (Finset.sum_congr rfl fun c _ => update_term x y k v P D K V a hx hy hk hv r c l)

theorem masked_term (i : grid1.Coords) (r : Fin 256) (c : Fin 512) (l : Fin 128) :
    Scalar.select (α := EReal) (k1_pay30 (BitVec.ofNat 32 (i 1).val) (ix2 r c))
      ((Ideal.exp (∑ d : Fin 128, (x (ix2 r d) : EReal) * (k (ix2 c d) : EReal)) * ∑ d : Fin 128, (y (ix2 r d) : EReal) * (v (ix2 c d) : EReal)) * (k (ix2 c l) : EReal)) 0
      = ((if 512 * ((i 1).val / 2) + c.val ≤ 256 * (i 1).val + r.val then wt P D K V r (a + c) * K (a + c) l else 0 : ℝ) : EReal) := by
  rw [update_term x y k v P D K V a hx hy hk hv, show k1_pay30 (BitVec.ofNat 32 (i 1).val) (ix2 r c) = _ from causal i r c]
  split_ifs with h <;> simp [h, Scalar.select]

/-- The masked update, of either head. -/
theorem last0 (i : grid1.Coords) (r : Fin 256) (l : Fin 128) :
    k1_pay1 (F := Ideal) acc (k1_pay31 k) (k1_pay32 (BitVec.ofNat 32 (i 1).val) x y k v) (ix2 r l)
      = (acc (ix2 r l) : EReal) + ((∑ c : Fin 512, if 512 * ((i 1).val / 2) + c.val ≤ 256 * (i 1).val + r.val then wt P D K V r (a + c) * K (a + c) l else 0 : ℝ) : EReal) := by
  pointwise [k1_pay1, k1_pay31, k1_pay23, k1_pay32]
  rw [coe_sum]
  exact congrArg _ (Finset.sum_congr rfl fun c _ => masked_term x y k v P D K V a hx hy hk hv i r c l)

theorem last1 (i : grid1.Coords) (r : Fin 256) (l : Fin 128) :
    k1_pay2 (F := Ideal) x y acc (k1_pay30 (BitVec.ofNat 32 (i 1).val)) k v (ix2 r l)
      = (acc (ix2 r l) : EReal) + ((∑ c : Fin 512, if 512 * ((i 1).val / 2) + c.val ≤ 256 * (i 1).val + r.val then wt P D K V r (a + c) * K (a + c) l else 0 : ℝ) : EReal) := by
  pointwise [k1_pay2]
  rw [coe_sum]
  exact congrArg _ (Finset.sum_congr rfl fun c _ => masked_term x y k v P D K V a hx hy hk hv i r c l)

end

end Cert.FoxKernelIdeal.Fox

end
-- ==== Proof.Fox.DqBlock.lean ====
module

public import proofs.«01_k».proof.Proof.Fox.DqPay
public import Idealize.ShloMosaic.Lib.Pipeline.ReadBack

/-! The queries' gradient: what one block computes, from real operands. -/

@[expose] public section

set_option maxRecDepth 16384

noncomputable section

namespace Cert.FoxKernelIdeal.Fox

open Idealize.ShloMosaic Idealize.ShloMosaic.TcCoe Idealize.SL.Sem
open Cert.FoxKernelIdeal.Gen Cert.Fox

/-- The two halves of a block of 256 lanes, written one after the other. -/
abbrev halves (w0 w1 : Vec Ideal S256x128 .bf16) : List (View.Piece (Elt Ideal) S256x256 .bf16) :=
  [⟨Rect.unit ![0, 128] ![256, 128] inb_S256x256_S256x128_0_128, w1⟩, ⟨Rect.unit ![0, 0] ![256, 128] inb_S256x256_S256x128_0_0, w0⟩]

theorem halves_first {arg : Memref sig .tc .vmem S256x256 .bf16} (w0 w1 : Vec Ideal S256x128 .bf16) :
    arg.view.readCov (halves w0 w1) (Rect.unit ![0, 0] ![256, 128] inb_S256x256_S256x128_0_0).toLoadRect = w0 := by
  have h : LoadRect.disj (Rect.unit (s := S256x256) ![0, 128] ![256, 128] inb_S256x256_S256x128_0_128)
      (Rect.unit (s := S256x256) ![0, 0] ![256, 128] inb_S256x256_S256x128_0_0).toLoadRect = true := by decide
  rw [halves, View.readCov_skip _ _ _ _ _ h]
  exact View.readCov_cons_toLoadRect arg.view (Rect.unit (s := S256x256) ![0, 0] ![256, 128] inb_S256x256_S256x128_0_0) w0 []

theorem halves_second {arg : Memref sig .tc .vmem S256x256 .bf16} (w0 w1 : Vec Ideal S256x128 .bf16) :
    arg.view.readCov (halves w0 w1) (Rect.unit ![0, 128] ![256, 128] inb_S256x256_S256x128_0_128).toLoadRect = w1 :=
  View.readCov_cons_toLoadRect ..

/-- Both halves, read at an index. -/
theorem halves_canon (w0 w1 : Vec Ideal S256x128 .bf16) (X Y : ℕ → ℕ → ℝ) (h0 : ∀ (r : Fin 256) (l : Fin 128), w0 (ix2 r l) = ((X r l : ℝ) : EReal))
    (h1 : ∀ (r : Fin 256) (l : Fin 128), w1 (ix2 r l) = ((Y r l : ℝ) : EReal)) (r l : Fin 256) :
    View.canon (halves w0 w1) (ix2 r l) = ((if l.val < 128 then X r l else Y r (l.val - 128) : ℝ) : EReal) := by
  have hA : ∀ l : Fin 128, (Rect.unit (s := S256x256) ![0, 0] ![256, 128] inb_S256x256_S256x128_0_0).emb (ix2 r l : (⟨2, ![256, 128]⟩ : Shape).Idx)
      = ix2 r ⟨l.val, by omega⟩ := fun l => by
    funext d
    match d with
    | ⟨0, _⟩ => exact Fin.ext (by simp [Rect.unit, Rect.emb])
    | ⟨1, _⟩ => exact Fin.ext (by simp [Rect.unit, Rect.emb])
  have hB : ∀ l : Fin 128, (Rect.unit (s := S256x256) ![0, 128] ![256, 128] inb_S256x256_S256x128_0_128).emb (ix2 r l : (⟨2, ![256, 128]⟩ : Shape).Idx)
      = ix2 r ⟨128 + l.val, by omega⟩ := fun l => by
    funext d
    match d with
    | ⟨0, _⟩ => exact Fin.ext (by simp [Rect.unit, Rect.emb])
    | ⟨1, _⟩ => exact Fin.ext (by simp [Rect.unit, Rect.emb])
  have hd : Disjoint (Rect.unit (s := S256x256) ![0, 128] ![256, 128] inb_S256x256_S256x128_0_128).set
      (Rect.unit (s := S256x256) ![0, 0] ![256, 128] inb_S256x256_S256x128_0_0).set := Rect.unit_disjoint 1 (.inr (by decide))
  split_ifs with h
  · rw [show (ix2 r l : S256x256.Idx) = _ from (hA ⟨l, h⟩).symm, halves, View.canon_cons_of_not_mem]
    · exact (View.canon_cons_emb (Rect.unit (s := S256x256) ![0, 0] ![256, 128] inb_S256x256_S256x128_0_0) w0 [] (ix2 r (⟨l.val, h⟩ : Fin 128))).trans (h0 r ⟨l, h⟩)
    · exact fun hm => Finset.disjoint_left.1 hd hm (LoadRect.idx_mem (Rect.unit (s := S256x256) ![0, 0] ![256, 128] inb_S256x256_S256x128_0_0).toLoadRect _)
  · rw [show (ix2 r l : S256x256.Idx) = _ from (by rw [hB]; congr 1; exact Fin.ext (by simp; omega) :
      (ix2 r l : S256x256.Idx) = (Rect.unit (s := S256x256) ![0, 128] ![256, 128] inb_S256x256_S256x128_0_128).emb (ix2 r (⟨l.val - 128, by omega⟩ : Fin 128) : (⟨2, ![256, 128]⟩ : Shape).Idx))]
    exact (View.canon_cons_emb (Rect.unit (s := S256x256) ![0, 128] ![256, 128] inb_S256x256_S256x128_0_128) w1 _ (ix2 r (⟨l.val - 128, by omega⟩ : Fin 128))).trans (h1 r ⟨l - 128, by omega⟩)

/-- The sum of lane `l` of the keys up to column `n`, weighted. -/
def dsum (P D K V : ℕ → ℕ → ℝ) (r n l : ℕ) : ℝ := ∑ j ∈ Finset.range n, wt P D K V r j * K j l

section

variable (c : Dev nD) (i : grid1.Coords) (arg2 : Memref sig .tc .vmem S256x256 .bf16) (harg2 : arg2.IsWhole)
  (arg3 : Memref sig .tc .vmem S256x128 .f32) (harg3 : arg3.IsWhole) (arg4 : Memref sig .tc .vmem S256x128 .f32) (harg4 : arg4.IsWhole)
  (arg5 : Memref sig .tc .vmem S256x128 .f32) (harg5 : arg5.IsWhole) (arg6 : Memref sig .tc .vmem S4096x256 .bf16) (harg6 : arg6.IsWhole)
  (arg7 : Memref sig .tc .vmem S4096x256 .bf16) (harg7 : arg7.IsWhole) (arg8 : Memref sig .tc .vmem S256x128 .bf16) (harg8 : arg8.IsWhole)
  (arg9 : Memref sig .tc .vmem S256x128 .f32) (harg9 : arg9.IsWhole) (arg10 : Memref sig .tc .vmem S256x256 .bf16) (harg10 : arg10.IsWhole)
  (arg11 : Memref sig .tc .vmem S256x256 .bf16) (harg11 : arg11.IsWhole)
  (x0 : Vec Ideal S256x256 .bf16) (x1 x2 x3 : Vec Ideal S256x128 .f32) (x4 x5 : Vec Ideal S4096x256 .bf16)

/-- The two heads' queries and cotangents, with the row's scalars in the spare lanes. -/
abbrev qy0 : Vec Ideal S256x128 .bf16 := k1_pay17 (F := Ideal) (iota Kind.tc S1x128 32 [1] iota_S1x128_d1_w32)
  (View.ld (Val := Elt Ideal) x1 (Rect.unit ![0, 0] ![256, 1] inb_S256x128_S256x1_0_0)) (View.ld (Val := Elt Ideal) x0 (Rect.unit ![0, 0] ![256, 128] inb_S256x256_S256x128_0_0))
abbrev qy1 : Vec Ideal S256x128 .bf16 := k1_pay20 (F := Ideal) (iota Kind.tc S1x128 32 [1] iota_S1x128_d1_w32)
  (View.ld (Val := Elt Ideal) x1 (Rect.unit ![0, 64] ![256, 1] inb_S256x128_S256x1_0_64)) (View.ld (Val := Elt Ideal) x0 (Rect.unit ![0, 128] ![256, 128] inb_S256x256_S256x128_0_128))
abbrev ct0 : Vec Ideal S256x128 .bf16 := k1_pay16 (F := Ideal) (k1_pay10 x3 x2) (k1_pay12 x3 x2) k1_pay13 (k1_pay14 x3 x2) k1_pay15
abbrev ct1 : Vec Ideal S256x128 .bf16 := k1_pay19 (F := Ideal) (k1_pay18 (iota Kind.tc S1x128 32 [1] iota_S1x128_d1_w32) (k1_pay6 x3) (k1_pay7 x3 x2))

/-- What the loop over whole blocks carries before trip `n`. -/
def grads (n : ℕ) := st_k1_t1 (F := Ideal) Variants.none c none i arg2 harg2 arg3 harg3 arg4 harg4 arg5 harg5 arg6 harg6 arg7 harg7 arg8 harg8 arg9 harg9
  arg10 harg10 arg11 harg11 (BitVec.ofNat 32 (i 1).val) (k1_pay21 (qy0 x0 x1)) (qy1 x0 x1) (ct0 x2 x3) (ct1 x2 x3)
  (harg6.unread x4) (harg7.unread x5) (k1_pay25, k1_pay25) n

theorem out8_eq : out1_A_8 (F := Ideal) c i arg2 harg2 arg3 harg3 arg4 harg4 arg5 harg5 arg6 harg6 arg7 harg7 arg8 harg8 arg9 harg9 arg10 harg10 arg11 harg11
    x0 x1 x2 x3 x4 x5 = View.canon (halves (qy0 x0 x1) (qy1 x0 x1)) := by
  frame_out

theorem out9_eq : out1_A_9 (F := Ideal) c i arg2 harg2 arg3 harg3 arg4 harg4 arg5 harg5 arg6 harg6 arg7 harg7 arg8 harg8 arg9 harg9 arg10 harg10 arg11 harg11
    x0 x1 x2 x3 x4 x5 = View.canon (halves (ct0 x2 x3) (ct1 x2 x3)) := by
  frame_out

theorem grads_last :
    st_k1_t2 (F := Ideal) Variants.none c none i arg2 harg2 arg3 harg3 arg4 harg4 arg5 harg5 arg6 harg6 arg7 harg7 arg8 harg8 arg9 harg9
      arg10 harg10 arg11 harg11 (BitVec.ofNat 32 (i 1).val) (k1_pay21 (qy0 x0 x1)) (qy1 x0 x1) (ct0 x2 x3) (ct1 x2 x3) (harg6.unread x4) (harg7.unread x5)
      (grads c i arg2 harg2 arg3 harg3 arg4 harg4 arg5 harg5 arg6 harg6 arg7 harg7 arg8 harg8 arg9 harg9 arg10 harg10 arg11 harg11
        x0 x1 x2 x3 x4 x5 (k1_t1_loop i).trips) (k1_t2_loop i).trips
    = grads c i arg2 harg2 arg3 harg3 arg4 harg4 arg5 harg5 arg6 harg6 arg7 harg7 arg8 harg8 arg9 harg9 arg10 harg10 arg11 harg11
        x0 x1 x2 x3 x4 x5 ((i 1).val / 2) := by
  rw [(by decide +kernel : ∀ i : grid1.Coords, (k1_t1_loop i).trips = (i 1).val / 2) i,
    (by decide +kernel : ∀ i : grid1.Coords, (k1_t2_loop i).trips = 0) i]
  rfl

/-- The keys' and values' masked blocks, of either head. -/
abbrev blkA (x : Vec Ideal S4096x256 .bf16) := View.ld (Val := Elt Ideal) x (Rect.unit (s := S4096x256) (k1_off5 i) ![512, 128] (k1_off5_inb i))
abbrev blkB (x : Vec Ideal S4096x256 .bf16) := View.ld (Val := Elt Ideal) x (Rect.unit (s := S4096x256) (k1_off6 i) ![512, 128] (k1_off6_inb i))

theorem out6_eq : out1_A_6 (F := Ideal) c i arg2 harg2 arg3 harg3 arg4 harg4 arg5 harg5 arg6 harg6 arg7 harg7 arg8 harg8 arg9 harg9 arg10 harg10 arg11 harg11
      x0 x1 x2 x3 x4 x5
    = (fun z => k1_pay4 (iota Kind.tc S1x128 32 [1] iota_S1x128_d1_w32) (k1_pay22 (qy1 x0 x1)) (k1_pay24 (ct1 x2 x3)) z.1 z.2 (k1_pay30 (BitVec.ofNat 32 (i 1).val))
        (k1_pay31 (blkA i x4)) (k1_pay32 (BitVec.ofNat 32 (i 1).val) (k1_pay21 (qy0 x0 x1)) (ct0 x2 x3) (blkA i x4) (blkA i x5)) (blkB i x4) (blkB i x5))
      (grads c i arg2 harg2 arg3 harg3 arg4 harg4 arg5 harg5 arg6 harg6 arg7 harg7 arg8 harg8 arg9 harg9 arg10 harg10 arg11 harg11
        x0 x1 x2 x3 x4 x5 ((i 1).val / 2)) := by
  rw [← grads_last]
  frame_out
  have a0 := halves_first (arg := arg10) (qy0 x0 x1) (qy1 x0 x1)
  have a1 := halves_second (arg := arg10) (qy0 x0 x1) (qy1 x0 x1)
  have b0 := halves_first (arg := arg11) (ct0 x2 x3) (ct1 x2 x3)
  have b1 := halves_second (arg := arg11) (ct0 x2 x3) (ct1 x2 x3)
  rw [a0, a1, b0, b1]
  rfl

theorem out7_eq : out1_A_7 (F := Ideal) c i arg2 harg2 arg3 harg3 arg4 harg4 arg5 harg5 arg6 harg6 arg7 harg7 arg8 harg8 arg9 harg9 arg10 harg10 arg11 harg11
      x0 x1 x2 x3 x4 x5
    = (fun z => k1_pay5 (iota Kind.tc S1x128 32 [1] iota_S1x128_d1_w32) (k1_pay22 (qy1 x0 x1)) (k1_pay24 (ct1 x2 x3)) z.1 z.2 (k1_pay30 (BitVec.ofNat 32 (i 1).val))
        (k1_pay31 (blkA i x4)) (k1_pay32 (BitVec.ofNat 32 (i 1).val) (k1_pay21 (qy0 x0 x1)) (ct0 x2 x3) (blkA i x4) (blkA i x5)) (blkB i x4) (blkB i x5))
      (grads c i arg2 harg2 arg3 harg3 arg4 harg4 arg5 harg5 arg6 harg6 arg7 harg7 arg8 harg8 arg9 harg9 arg10 harg10 arg11 harg11
        x0 x1 x2 x3 x4 x5 ((i 1).val / 2)) := by
  rw [← grads_last]
  frame_out
  have a0 := halves_first (arg := arg10) (qy0 x0 x1) (qy1 x0 x1)
  have a1 := halves_second (arg := arg10) (qy0 x0 x1) (qy1 x0 x1)
  have b0 := halves_first (arg := arg11) (ct0 x2 x3) (ct1 x2 x3)
  have b1 := halves_second (arg := arg11) (ct0 x2 x3) (ct1 x2 x3)
  rw [a0, a1, b0, b1]
  rfl

variable (Q L O D K V : ℕ → ℕ → ℝ) (h0 : Holds x0 Q) (h1 : Holds x1 L) (h2 : Holds x2 O) (h3 : Holds x3 D) (h4 : Holds x4 K) (h5 : Holds x5 V)

/-- The heads' lanes as reals. -/
abbrev QY0 := withLse 70 (lanes 0 Q) (fun r => L r 0)
abbrev QY1 := withLse 6 (lanes 128 Q) (fun r => L r 64)
abbrev CT0 := withDelta 64 D (rowDelta 64 D O)
abbrev CT1 := withDelta 0 D (rowDelta 0 D O)

include h0 h1 in
theorem qy0_real (r : Fin 256) (l : Fin 128) : qy0 x0 x1 (ix2 r l) = ((QY0 Q L r l : ℝ) : EReal) := by
  refine query0 _ _ _ _ (fun r l => ?_) (fun r => ?_) r l
  · have := h0.ld ![0, 0] inb_S256x256_S256x128_0_0 0 0 rfl r l
    rwa [Nat.zero_add] at this
  · exact (congrArg x1 (by funext d; match d with | ⟨0, _⟩ => exact Fin.ext (by simp [Rect.unit, Rect.emb]) | ⟨1, _⟩ => rfl)).trans (h1 r 0)

include h0 h1 in
theorem qy1_real (r : Fin 256) (l : Fin 128) : qy1 x0 x1 (ix2 r l) = ((QY1 Q L r l : ℝ) : EReal) := by
  refine query1 _ _ _ _ (fun r l => ?_) (fun r => ?_) r l
  · have := h0.ld ![0, 128] inb_S256x256_S256x128_0_128 0 128 rfl r l
    rwa [Nat.zero_add] at this
  · exact (congrArg x1 (by funext d; match d with | ⟨0, _⟩ => exact Fin.ext (by simp [Rect.unit, Rect.emb]) | ⟨1, _⟩ => rfl)).trans (h1 r 64)

include h0 h1 h2 h3 h4 h5 in
/-- Before trip `n` the carried value is both heads' sums over the columns below `512 * n`. -/
theorem grads_spec (n : ℕ) (hn : n ≤ (i 1).val / 2) :
    let z := grads c i arg2 harg2 arg3 harg3 arg4 harg4 arg5 harg5 arg6 harg6 arg7 harg7 arg8 harg8 arg9 harg9 arg10 harg10 arg11 harg11 x0 x1 x2 x3 x4 x5 n
    ∀ (r : Fin 256) (l : Fin 128), z.1 (ix2 r l) = ((dsum (QY0 Q L) (CT0 O D) (lanes 0 K) (lanes 0 V) r (512 * n) l : ℝ) : EReal)
      ∧ z.2 (ix2 r l) = ((dsum (QY1 Q L) (CT1 O D) (lanes 128 K) (lanes 128 V) r (512 * n) l : ℝ) : EReal) := by
  have htr : (k1_t1_loop i).trips = (i 1).val / 2 := (by decide +kernel : ∀ i : grid1.Coords, (k1_t1_loop i).trips = (i 1).val / 2) i
  induction n with
  | zero =>
    have hz : ∀ (r : Fin 256) (l : Fin 128), (k1_pay25 (F := Ideal) (ix2 r l) : EReal) = 0 := fun r l => by pointwise [k1_pay25]
    exact fun r l => ⟨(hz r l).trans (by simp [dsum]), (hz r l).trans (by simp [dsum])⟩
  | succ n ih =>
    have ih := ih (by omega)
    have hlt : n < (k1_t1_loop i).trips := by omega
    have hs := st_k1_t1_succ (F := Ideal) Variants.none c none i arg2 harg2 arg3 harg3 arg4 harg4 arg5 harg5 arg6 harg6 arg7 harg7 arg8 harg8 arg9 harg9
      arg10 harg10 arg11 harg11 (BitVec.ofNat 32 (i 1).val) (k1_pay21 (qy0 x0 x1)) (qy1 x0 x1) (ct0 x2 x3) (ct1 x2 x3)
      (harg6.unread x4) (harg7.unread x5) (k1_pay25, k1_pay25) ⟨n, hlt⟩
    have ho1 : k1_off1 i ⟨n, hlt⟩ = ![512 * n, 0] :=
      (by decide +kernel : ∀ (i : grid1.Coords) (k : Fin (k1_t1_loop i).trips), k1_off1 i k = ![512 * k.val, 0]) i ⟨n, hlt⟩
    have ho2 : k1_off2 i ⟨n, hlt⟩ = ![512 * n, 128] :=
      (by decide +kernel : ∀ (i : grid1.Coords) (k : Fin (k1_t1_loop i).trips), k1_off2 i k = ![512 * k.val, 128]) i ⟨n, hlt⟩
    change grads c i arg2 harg2 arg3 harg3 arg4 harg4 arg5 harg5 arg6 harg6 arg7 harg7 arg8 harg8 arg9 harg9 arg10 harg10 arg11 harg11 x0 x1 x2 x3 x4 x5 (n + 1) = _ at hs
    intro z
    have hz : z = _ := hs
    clear_value z
    subst hz
    unfold tripR_k1_t1 trip_k1_t1
    dsimp only
    simp only [View.readAt_eq_ld, Memref.IsWhole.read_unread]
    intro r l
    have e0 := update0 (k1_pay21 (qy0 x0 x1)) (ct0 x2 x3) (st_k1_t1 (F := Ideal) Variants.none c none i arg2 harg2 arg3 harg3 arg4 harg4 arg5 harg5 arg6 harg6 arg7 harg7 arg8 harg8 arg9 harg9
      arg10 harg10 arg11 harg11 (BitVec.ofNat 32 (i 1).val) (k1_pay21 (qy0 x0 x1)) (qy1 x0 x1) (ct0 x2 x3) (ct1 x2 x3)
      (harg6.unread x4) (harg7.unread x5) (k1_pay25, k1_pay25) n).1 _ _ (QY0 Q L) (CT0 O D) (lanes 0 K) (lanes 0 V) (512 * n)
      (fun r l => (by pointwise [k1_pay21] : k1_pay21 (qy0 x0 x1) (ix2 r l) = qy0 x0 x1 (ix2 r l)).trans (qy0_real x0 x1 Q L h0 h1 r l)) (cot0 x3 x2 D O h3 h2)
      (h4.ld _ (k1_off1_inb i ⟨n, hlt⟩) _ _ ho1) (h5.ld _ (k1_off1_inb i ⟨n, hlt⟩) _ _ ho1) r l
    have e1 := update1 (qy1 x0 x1) (ct1 x2 x3) (st_k1_t1 (F := Ideal) Variants.none c none i arg2 harg2 arg3 harg3 arg4 harg4 arg5 harg5 arg6 harg6 arg7 harg7 arg8 harg8 arg9 harg9
      arg10 harg10 arg11 harg11 (BitVec.ofNat 32 (i 1).val) (k1_pay21 (qy0 x0 x1)) (qy1 x0 x1) (ct0 x2 x3) (ct1 x2 x3)
      (harg6.unread x4) (harg7.unread x5) (k1_pay25, k1_pay25) n).2 _ _ (QY1 Q L) (CT1 O D) (lanes 128 K) (lanes 128 V) (512 * n)
      (qy1_real x0 x1 Q L h0 h1) (cot1 x3 x2 D O h3 h2)
      (h4.ld _ (k1_off2_inb i ⟨n, hlt⟩) _ _ ho2) (h5.ld _ (k1_off2_inb i ⟨n, hlt⟩) _ _ ho2) r l
    have i0 := (ih r l).1
    have i1 := (ih r l).2
    unfold grads at i0 i1
    rw [i0, ← EReal.coe_add] at e0
    rw [i1, ← EReal.coe_add] at e1
    unfold dsum at e0 e1 ⊢
    rw [sum_block (T := 512) (fun j => wt (QY0 Q L) (CT0 O D) (lanes 0 K) (lanes 0 V) r j * lanes 0 K j l) (512 * n)] at e0
    rw [sum_block (T := 512) (fun j => wt (QY1 Q L) (CT1 O D) (lanes 128 K) (lanes 128 V) r j * lanes 128 K j l) (512 * n)] at e1
    exact ⟨e0, e1⟩

/-- A lane's head in the block: the operands of the head that output lane `n` belongs to. -/
abbrev qyh (n : ℕ) := if n < 64 then QY0 Q L else QY1 Q L
abbrev cth (n : ℕ) := if n < 64 then CT0 O D else CT1 O D

include h0 h1 h2 h3 h4 h5 in
/-- THE QUERIES' GRADIENT AND THE ROW SUMS of a block. -/
theorem dq_block (r : Fin 256) (n : Fin 128) :
    out1_A_6 (F := Ideal) c i arg2 harg2 arg3 harg3 arg4 harg4 arg5 harg5 arg6 harg6 arg7 harg7 arg8 harg8 arg9 harg9 arg10 harg10 arg11 harg11
      x0 x1 x2 x3 x4 x5 (ix2 r n)
      = ((dsum (qyh Q L n) (cth O D n) (lanes (hb n) K) (lanes (hb n) V) r (256 * (i 1).val + r + 1) n * (1 / 8) : ℝ) : EReal)
    ∧ out1_A_7 (F := Ideal) c i arg2 harg2 arg3 harg3 arg4 harg4 arg5 harg5 arg6 harg6 arg7 harg7 arg8 harg8 arg9 harg9 arg10 harg10 arg11 harg11
      x0 x1 x2 x3 x4 x5 (ix2 r n)
      = ((dsum (qyh Q L n) (cth O D n) (lanes (hb n) K) (lanes (hb n) V) r (256 * (i 1).val + r + 1) (hs n) : ℝ) : EReal) := by
  have hsp := grads_spec c i arg2 harg2 arg3 harg3 arg4 harg4 arg5 harg5 arg6 harg6 arg7 harg7 arg8 harg8 arg9 harg9 arg10 harg10 arg11 harg11
    x0 x1 x2 x3 x4 x5 Q L O D K V h0 h1 h2 h3 h4 h5 _ le_rfl
  rw [out6_eq, out7_eq]
  set z := grads c i arg2 harg2 arg3 harg3 arg4 harg4 arg5 harg5 arg6 harg6 arg7 harg7 arg8 harg8 arg9 harg9 arg10 harg10 arg11 harg11 x0 x1 x2 x3 x4 x5 ((i 1).val / 2)
    with hz
  clear_value z
  have ho5 : k1_off5 i = ![512 * ((i 1).val / 2), 0] := (by decide +kernel : ∀ i : grid1.Coords, k1_off5 i = ![512 * ((i 1).val / 2), 0]) i
  have ho6 : k1_off6 i = ![512 * ((i 1).val / 2), 128] := (by decide +kernel : ∀ i : grid1.Coords, k1_off6 i = ![512 * ((i 1).val / 2), 128]) i
  have l0 : ∀ l : Fin 128, k1_pay1 (F := Ideal) z.1 (k1_pay31 (blkA i x4)) (k1_pay32 (BitVec.ofNat 32 (i 1).val) (k1_pay21 (qy0 x0 x1)) (ct0 x2 x3) (blkA i x4) (blkA i x5)) (ix2 r l)
      = ((dsum (QY0 Q L) (CT0 O D) (lanes 0 K) (lanes 0 V) r (256 * (i 1).val + r + 1) l : ℝ) : EReal) := fun l => by
    have e0 := last0 (k1_pay21 (qy0 x0 x1)) (ct0 x2 x3) z.1 _ _ (QY0 Q L) (CT0 O D) (lanes 0 K) (lanes 0 V) (512 * ((i 1).val / 2))
      (fun r l => (by pointwise [k1_pay21] : k1_pay21 (qy0 x0 x1) (ix2 r l) = qy0 x0 x1 (ix2 r l)).trans (qy0_real x0 x1 Q L h0 h1 r l)) (cot0 x3 x2 D O h3 h2)
      (h4.ld _ (k1_off5_inb i) _ _ ho5) (h5.ld _ (k1_off5_inb i) _ _ ho5) i r l
    rw [(hsp r l).1, ← EReal.coe_add] at e0
    unfold dsum at e0 ⊢
    rw [sum_upto (T := 512) (fun j => wt (QY0 Q L) (CT0 O D) (lanes 0 K) (lanes 0 V) r j * lanes 0 K j l) (512 * ((i 1).val / 2)) (256 * (i 1).val + r) (by omega) (by omega)] at e0
    exact e0
  have l1 : ∀ l : Fin 128, k1_pay2 (F := Ideal) (k1_pay22 (qy1 x0 x1)) (k1_pay24 (ct1 x2 x3)) z.2 (k1_pay30 (BitVec.ofNat 32 (i 1).val)) (blkB i x4) (blkB i x5) (ix2 r l)
      = ((dsum (QY1 Q L) (CT1 O D) (lanes 128 K) (lanes 128 V) r (256 * (i 1).val + r + 1) l : ℝ) : EReal) := fun l => by
    have e0 := last1 (k1_pay22 (qy1 x0 x1)) (k1_pay24 (ct1 x2 x3)) z.2 _ _ (QY1 Q L) (CT1 O D) (lanes 128 K) (lanes 128 V) (512 * ((i 1).val / 2))
      (fun r l => (by pointwise [k1_pay22] : k1_pay22 (qy1 x0 x1) (ix2 r l) = qy1 x0 x1 (ix2 r l)).trans (qy1_real x0 x1 Q L h0 h1 r l))
      (fun r l => (by pointwise [k1_pay24] : k1_pay24 (ct1 x2 x3) (ix2 r l) = ct1 x2 x3 (ix2 r l)).trans (cot1 x3 x2 D O h3 h2 r l))
      (h4.ld _ (k1_off6_inb i) _ _ ho6) (h5.ld _ (k1_off6_inb i) _ _ ho6) i r l
    rw [(hsp r l).2, ← EReal.coe_add] at e0
    unfold dsum at e0 ⊢
    rw [sum_upto (T := 512) (fun j => wt (QY1 Q L) (CT1 O D) (lanes 128 K) (lanes 128 V) r j * lanes 128 K j l) (512 * ((i 1).val / 2)) (256 * (i 1).val + r) (by omega) (by omega)] at e0
    exact e0
  constructor
  · have hp : k1_pay4 (F := Ideal) (iota Kind.tc S1x128 32 [1] iota_S1x128_d1_w32) (k1_pay22 (qy1 x0 x1)) (k1_pay24 (ct1 x2 x3)) z.1 z.2 (k1_pay30 (BitVec.ofNat 32 (i 1).val))
        (k1_pay31 (blkA i x4)) (k1_pay32 (BitVec.ofNat 32 (i 1).val) (k1_pay21 (qy0 x0 x1)) (ct0 x2 x3) (blkA i x4) (blkA i x5)) (blkB i x4) (blkB i x5) (ix2 r n)
        = Scalar.select (α := EReal) (IntOp.cmpi .slt (BitVec.ofNat 32 n.val) 64#32)
          (k1_pay1 (F := Ideal) z.1 (k1_pay31 (blkA i x4)) (k1_pay32 (BitVec.ofNat 32 (i 1).val) (k1_pay21 (qy0 x0 x1)) (ct0 x2 x3) (blkA i x4) (blkA i x5)) (ix2 r n))
          (k1_pay2 (F := Ideal) (k1_pay22 (qy1 x0 x1)) (k1_pay24 (ct1 x2 x3)) z.2 (k1_pay30 (BitVec.ofNat 32 (i 1).val)) (blkB i x4) (blkB i x5) (ix2 r n))
          * Ideal.ofBits FTy.f32 0x3E000000#32 := by
      pointwise [k1_pay4, k1_pay3]
    refine hp.trans ?_
    rw [select_low n n.isLt, l0, l1, eighth, EReal.coe_mul]
    unfold hb
    split_ifs <;> rfl
  · have hp : k1_pay5 (F := Ideal) (iota Kind.tc S1x128 32 [1] iota_S1x128_d1_w32) (k1_pay22 (qy1 x0 x1)) (k1_pay24 (ct1 x2 x3)) z.1 z.2 (k1_pay30 (BitVec.ofNat 32 (i 1).val))
        (k1_pay31 (blkA i x4)) (k1_pay32 (BitVec.ofNat 32 (i 1).val) (k1_pay21 (qy0 x0 x1)) (ct0 x2 x3) (blkA i x4) (blkA i x5)) (blkB i x4) (blkB i x5) (ix2 r n)
        = Scalar.select (α := EReal) (IntOp.cmpi .slt (BitVec.ofNat 32 n.val) 64#32)
          (k1_pay1 (F := Ideal) z.1 (k1_pay31 (blkA i x4)) (k1_pay32 (BitVec.ofNat 32 (i 1).val) (k1_pay21 (qy0 x0 x1)) (ct0 x2 x3) (blkA i x4) (blkA i x5)) (ix2 r 64))
          (k1_pay2 (F := Ideal) (k1_pay22 (qy1 x0 x1)) (k1_pay24 (ct1 x2 x3)) z.2 (k1_pay30 (BitVec.ofNat 32 (i 1).val)) (blkB i x4) (blkB i x5) (ix2 r 0)) := by
      pointwise [k1_pay5, k1_pay3]
    refine hp.trans ?_
    rw [select_low n n.isLt, l0, l1]
    unfold hb hs
    split_ifs <;> rfl

end

end Cert.FoxKernelIdeal.Fox

end
-- ==== Proof.Fox.Dkv.lean ====
module

public import proofs.«01_k».proof.Proof.Fox.DqPay

/-! The keys' and values' gradients: one update of the accumulators, and what one block computes, from real operands. -/

@[expose] public section

set_option maxRecDepth 16384

noncomputable section

namespace Cert.FoxKernelIdeal.Fox

open Idealize.ShloMosaic Idealize.ShloMosaic.TcCoe Idealize.SL.Sem
open Cert.FoxKernelIdeal.Gen Cert.Fox

/-- The causal comparison, the other way round: key row `256 * i 1 + r` against query row `512 * (i 1 / 2) + c`. -/
theorem causal' (i : grid2.Coords) (r : Fin 256) (c : Fin 512) :
    k2_pay7 i (ix2 r c) = BitVec.ofBool (decide (256 * (i 1).val + r.val ≤ 512 * ((i 1).val / 2) + c.val)) := by
  have hi : Scalar.muli (Scalar.addi (Scalar.shrui (BitVec.ofNat 32 (i 1).val) 1#32) 0#32) 512#32 = BitVec.ofNat 32 (512 * ((i 1).val / 2)) :=
    (by decide +kernel : ∀ k : Fin 16, Scalar.muli (Scalar.addi (Scalar.shrui (BitVec.ofNat 32 k.val) 1#32) 0#32) 512#32
      = BitVec.ofNat 32 (512 * (k.val / 2))) (i 1)
  have hj : Scalar.muli (BitVec.ofNat 32 (i 1).val) 256#32 = BitVec.ofNat 32 (256 * (i 1).val) :=
    (by decide +kernel : ∀ k : Fin 16, Scalar.muli (BitVec.ofNat 32 k.val) 256#32 = BitVec.ofNat 32 (256 * k.val)) (i 1)
  have h16 : (i 1).val < 16 := (i 1).isLt
  pointwise [k2_pay7]
  rw [hi, hj]
  show IntOp.cmpi .sle (BitVec.ofNat 32 r.val + BitVec.ofNat 32 _) (BitVec.ofNat 32 c.val + BitVec.ofNat 32 _) = _
  rw [← BitVec.ofNat_add, ← BitVec.ofNat_add, WordCmp.cmpi_sle_ofNat (by omega) (by omega)]
  congr 2
  rw [Nat.add_comm, Nat.add_comm c.val]

/-- A query row counts for key row `r` of block `i`. -/
abbrev sees (i : grid2.Coords) (r : Fin 256) (c : Fin 512) : Prop := 256 * (i 1).val + r.val ≤ 512 * ((i 1).val / 2) + c.val

section

variable (x y : Vec Ideal S256x128 .bf16) (acc : FVec Ideal S256x128 .f32) (q d : Vec Ideal S512x128 .bf16) (P W K D : ℕ → ℕ → ℝ) (a : ℕ)
  (hx : ∀ (r : Fin 256) (l : Fin 128), x (ix2 r l) = ((P r l : ℝ) : EReal)) (hy : ∀ (r : Fin 256) (l : Fin 128), y (ix2 r l) = ((W r l : ℝ) : EReal))
  (hq : ∀ (c : Fin 512) (l : Fin 128), q (ix2 c l) = ((K (a + c) l : ℝ) : EReal))
  (hd : ∀ (c : Fin 512) (l : Fin 128), d (ix2 c l) = ((D (a + c) l : ℝ) : EReal))

include hx hq hd in
theorem value_term (r : Fin 256) (c : Fin 512) (l : Fin 128) :
    Ideal.exp (∑ e : Fin 128, (x (ix2 r e) : EReal) * (q (ix2 c e) : EReal)) * (d (ix2 c l) : EReal)
      = ((Real.exp (sc P K r (a + c)) * D (a + c) l : ℝ) : EReal) := by
  have h1 : ∑ e : Fin 128, (x (ix2 r e) : EReal) * (q (ix2 c e) : EReal) = ((sc P K r (a + c) : ℝ) : EReal) := by
    rw [sc, Finset.sum_range, coe_sum]
    exact Finset.sum_congr rfl fun e _ => by rw [hx, hq, EReal.coe_mul]
  rw [h1, hd, Ideal.exp_coe, EReal.coe_mul]

theorem select_sees (i : grid2.Coords) (r : Fin 256) (c : Fin 512) (u : ℝ) :
    Scalar.select (α := EReal) (k2_pay7 i (ix2 r c)) ((u : ℝ) : EReal) 0 = ((if sees i r c then u else 0 : ℝ) : EReal) := by
  rw [causal' i r c]
  split_ifs with h <;> simp [h, Scalar.select]

include hx hq hd in
/-- The values' gradient over a whole block, of either head. -/
theorem dv0 (r : Fin 256) (l : Fin 128) :
    k2_pay21 (F := Ideal) x acc q d (ix2 r l) = (acc (ix2 r l) : EReal) + ((∑ c : Fin 512, Real.exp (sc P K r (a + c)) * D (a + c) l : ℝ) : EReal) := by
  pointwise [k2_pay21, k2_pay20, k2_pay19, k2_pay18]
  rw [coe_sum]
  exact congrArg _ (Finset.sum_congr rfl fun c _ => value_term x q d P K D a hx hq hd r c l)

include hx hq hd in
theorem dv1 (r : Fin 256) (l : Fin 128) :
    k2_pay26 (F := Ideal) x acc q d (ix2 r l) = (acc (ix2 r l) : EReal) + ((∑ c : Fin 512, Real.exp (sc P K r (a + c)) * D (a + c) l : ℝ) : EReal) := by
  pointwise [k2_pay26, k2_pay25, k2_pay24, k2_pay23]
  rw [coe_sum]
  exact congrArg _ (Finset.sum_congr rfl fun c _ => value_term x q d P K D a hx hq hd r c l)

include hx hq hd in
/-- The values' gradient over the masked block. -/
theorem dvm0 (i : grid2.Coords) (r : Fin 256) (l : Fin 128) :
    k2_pay11 (F := Ideal) i x q d (ix2 r l) = ((∑ c : Fin 512, if sees i r c then Real.exp (sc P K r (a + c)) * D (a + c) l else 0 : ℝ) : EReal) := by
  pointwise [k2_pay11, k2_pay10, k2_pay9, k2_pay8, k2_pay2, k2_pay6]
  rw [coe_sum]
  exact Finset.sum_congr rfl fun c _ => by rw [value_term x q d P K D a hx hq hd, select_sees]

include hx hq hd in
theorem dvm1 (i : grid2.Coords) (r : Fin 256) (l : Fin 128) :
    k2_pay16 (F := Ideal) x k2_pay6 (k2_pay7 i) q d (ix2 r l) = ((∑ c : Fin 512, if sees i r c then Real.exp (sc P K r (a + c)) * D (a + c) l else 0 : ℝ) : EReal) := by
  pointwise [k2_pay16, k2_pay15, k2_pay14, k2_pay13, k2_pay6]
  rw [coe_sum]
  exact Finset.sum_congr rfl fun c _ => by rw [value_term x q d P K D a hx hq hd, select_sees]

include hx hy hq hd

theorem dk0 (r : Fin 256) (l : Fin 128) :
    k2_pay22 (F := Ideal) x y acc q d (ix2 r l) = (acc (ix2 r l) : EReal) + ((∑ c : Fin 512, wt P W K D r (a + c) * K (a + c) l : ℝ) : EReal) := by
  pointwise [k2_pay22, k2_pay20, k2_pay19, k2_pay18]
  rw [coe_sum]
  exact congrArg _ (Finset.sum_congr rfl fun c _ => update_term x y q d P W K D a hx hy hq hd r c l)

theorem dk1 (r : Fin 256) (l : Fin 128) :
    k2_pay27 (F := Ideal) x y acc q d (ix2 r l) = (acc (ix2 r l) : EReal) + ((∑ c : Fin 512, wt P W K D r (a + c) * K (a + c) l : ℝ) : EReal) := by
  pointwise [k2_pay27, k2_pay25, k2_pay24, k2_pay23]
  rw [coe_sum]
  exact congrArg _ (Finset.sum_congr rfl fun c _ => update_term x y q d P W K D a hx hy hq hd r c l)

theorem dkm0 (i : grid2.Coords) (r : Fin 256) (l : Fin 128) :
    k2_pay12 (F := Ideal) y k2_pay6 (k2_pay8 q) (k2_pay9 d) (k2_pay10 i x q) (constant S256x512 FTy.f32 0#32) (ix2 r l)
      = ((∑ c : Fin 512, if sees i r c then wt P W K D r (a + c) * K (a + c) l else 0 : ℝ) : EReal) := by
  pointwise [k2_pay12, k2_pay10, k2_pay9, k2_pay8, k2_pay2, k2_pay6]
  rw [coe_sum]
  exact Finset.sum_congr rfl fun c _ => by rw [update_term x y q d P W K D a hx hy hq hd, select_sees]

theorem dkm1 (i : grid2.Coords) (r : Fin 256) (l : Fin 128) :
    k2_pay17 (F := Ideal) x y k2_pay6 (k2_pay7 i) q d (ix2 r l)
      = ((∑ c : Fin 512, if sees i r c then wt P W K D r (a + c) * K (a + c) l else 0 : ℝ) : EReal) := by
  pointwise [k2_pay17, k2_pay15, k2_pay14, k2_pay13, k2_pay6]
  rw [coe_sum]
  exact Finset.sum_congr rfl fun c _ => by rw [update_term x y q d P W K D a hx hy hq hd, select_sees]

end

end Cert.FoxKernelIdeal.Fox

end
-- ==== Proof.Fox.DkvBlock.lean ====
module

public import proofs.«01_k».proof.Proof.Fox.Dkv

/-! The keys' and values' gradients: what one block computes, from real operands. -/

@[expose] public section

set_option maxRecDepth 16384

noncomputable section

namespace Cert.FoxKernelIdeal.Fox

open Idealize.ShloMosaic Idealize.ShloMosaic.TcCoe Idealize.SL.Sem
open Cert.FoxKernelIdeal.Gen Cert.Fox

/-- The sum over the rows from `a` to `b` of lane `l` of the queries, weighted, for key row `r`; and that of the cotangents. -/
def ksum (P W K D : ℕ → ℕ → ℝ) (r a b l : ℕ) : ℝ := ∑ j ∈ Finset.Ico a b, wt P W K D r j * K j l
def vsum (P K D : ℕ → ℕ → ℝ) (r a b l : ℕ) : ℝ := ∑ j ∈ Finset.Ico a b, Real.exp (sc P K r j) * D j l

section

variable (c : Dev nD) (i : grid2.Coords) (arg2 : Memref sig .tc .vmem S256x256 .bf16) (harg2 : arg2.IsWhole)
  (arg3 : Memref sig .tc .vmem S256x256 .bf16) (harg3 : arg3.IsWhole) (arg4 : Memref sig .tc .vmem S4096x256 .bf16) (harg4 : arg4.IsWhole)
  (arg5 : Memref sig .tc .vmem S4096x256 .bf16) (harg5 : arg5.IsWhole) (arg6 : Memref sig .tc .vmem S256x128 .bf16) (harg6 : arg6.IsWhole)
  (arg7 : Memref sig .tc .vmem S256x128 .bf16) (harg7 : arg7.IsWhole) (arg8 : Memref sig .tc .vmem S256x128 .f32) (harg8 : arg8.IsWhole)
  (x0 x1 : Vec Ideal S256x256 .bf16) (x2 x3 : Vec Ideal S4096x256 .bf16)

/-- The two heads' lanes of a block, and the masked chunks of the whole arrays. -/
abbrev lowL (x : Vec Ideal S256x256 .bf16) := View.ld (Val := Elt Ideal) x (Rect.unit ![0, 0] ![256, 128] inb_S256x256_S256x128_0_0)
abbrev highL (x : Vec Ideal S256x256 .bf16) := View.ld (Val := Elt Ideal) x (Rect.unit ![0, 128] ![256, 128] inb_S256x256_S256x128_0_128)
abbrev chA (x : Vec Ideal S4096x256 .bf16) := View.ld (Val := Elt Ideal) x (Rect.unit (s := S4096x256) (k2_off1 i) ![512, 128] (k2_off1_inb i))
abbrev chB (x : Vec Ideal S4096x256 .bf16) := View.ld (Val := Elt Ideal) x (Rect.unit (s := S4096x256) (k2_off2 i) ![512, 128] (k2_off2_inb i))

/-- What the loop over whole chunks carries before trip `n`: both heads' gradients of keys and values. -/
def kvs (n : ℕ) := st_k2_t1 (F := Ideal) Variants.none c none i arg2 harg2 arg3 harg3 arg4 harg4 arg5 harg5 arg6 harg6 arg7 harg7 arg8 harg8 (iota Kind.tc S1x128 32 [1] iota_S1x128_d1_w32)
  (k2_pay2 (lowL x0)) (k2_pay3 (highL x0)) (k2_pay4 (lowL x1)) (k2_pay5 (highL x1)) (Scalar.shrui (BitVec.ofNat 32 (i 1).val) 1#32) k2_pay6 (k2_pay7 i)
  (Scalar.muli (Scalar.addi (Scalar.shrui (BitVec.ofNat 32 (i 1).val) 1#32) 0#32) 512#32) (k2_pay8 (chA i x2)) (k2_pay9 (chA i x3)) (k2_pay10 i (lowL x0) (chA i x2))
  (k2_pay11 i (lowL x0) (chA i x2) (chA i x3)) (constant S256x512 FTy.f32 0#32) (harg4.unread x2) (harg5.unread x3)
  (k2_pay12 (k2_pay4 (lowL x1)) k2_pay6 (k2_pay8 (chA i x2)) (k2_pay9 (chA i x3)) (k2_pay10 i (lowL x0) (chA i x2)) (constant S256x512 FTy.f32 0#32),
    k2_pay11 i (lowL x0) (chA i x2) (chA i x3),
    k2_pay17 (k2_pay3 (highL x0)) (k2_pay5 (highL x1)) k2_pay6 (k2_pay7 i) (chB i x2) (chB i x3),
    k2_pay16 (k2_pay3 (highL x0)) k2_pay6 (k2_pay7 i) (chB i x2) (chB i x3)) n

theorem trips_whole : Scf.trips (Scalar.addi (Scalar.shrui (BitVec.ofNat 32 (i 1).val) 1#32) 1#32) (Scalar.addi (Scalar.addi (Scalar.shrui (BitVec.ofNat 32 (i 1).val) 1#32) 1#32)
    (Scalar.muli (Scalar.divsi (Scalar.subi 8#32 (Scalar.addi (Scalar.shrui (BitVec.ofNat 32 (i 1).val) 1#32) 1#32)) 1#32) 1#32)) 1#32 = 7 - (i 1).val / 2 :=
  (by decide +kernel : ∀ i : grid2.Coords, (k2_t1_loop i).trips = 7 - (i 1).val / 2) i

theorem trips_rest : Scf.trips (Scalar.addi (Scalar.addi (Scalar.shrui (BitVec.ofNat 32 (i 1).val) 1#32) 1#32)
    (Scalar.muli (Scalar.divsi (Scalar.subi 8#32 (Scalar.addi (Scalar.shrui (BitVec.ofNat 32 (i 1).val) 1#32) 1#32)) 1#32) 1#32))
    (Scalar.addi (Scalar.addi (Scalar.shrui (BitVec.ofNat 32 (i 1).val) 1#32) 1#32) (Scalar.subi 8#32 (Scalar.addi (Scalar.shrui (BitVec.ofNat 32 (i 1).val) 1#32) 1#32))) 1#32 = 0 :=
  (by decide +kernel : ∀ i : grid2.Coords, (k2_t2_loop i).trips = 0) i

theorem out2_4_eq : out2_A_4 (F := Ideal) c i arg2 harg2 arg3 harg3 arg4 harg4 arg5 harg5 arg6 harg6 arg7 harg7 arg8 harg8 x0 x1 x2 x3
    = (fun z => k2_pay39 (iota Kind.tc S1x128 32 [1] iota_S1x128_d1_w32) z.1 z.2.2.1) (kvs c i arg2 harg2 arg3 harg3 arg4 harg4 arg5 harg5 arg6 harg6 arg7 harg7 arg8 harg8 x0 x1 x2 x3 (7 - (i 1).val / 2)) := by
  frame_out
  rw [trips_whole, trips_rest]
  unfold kvs
  simp only [st_k2_t2_zero]

theorem out2_5_eq : out2_A_5 (F := Ideal) c i arg2 harg2 arg3 harg3 arg4 harg4 arg5 harg5 arg6 harg6 arg7 harg7 arg8 harg8 x0 x1 x2 x3
    = (fun z => k2_pay40 (iota Kind.tc S1x128 32 [1] iota_S1x128_d1_w32) z.2.1 z.2.2.2) (kvs c i arg2 harg2 arg3 harg3 arg4 harg4 arg5 harg5 arg6 harg6 arg7 harg7 arg8 harg8 x0 x1 x2 x3 (7 - (i 1).val / 2)) := by
  frame_out
  rw [trips_whole, trips_rest]
  unfold kvs
  simp only [st_k2_t2_zero]

theorem out2_6_eq : out2_A_6 (F := Ideal) c i arg2 harg2 arg3 harg3 arg4 harg4 arg5 harg5 arg6 harg6 arg7 harg7 arg8 harg8 x0 x1 x2 x3
    = (fun z => k2_pay1 z.1 z.2.2.1 (k2_pay38 (iota Kind.tc S1x128 32 [1] iota_S1x128_d1_w32))) (kvs c i arg2 harg2 arg3 harg3 arg4 harg4 arg5 harg5 arg6 harg6 arg7 harg7 arg8 harg8 x0 x1 x2 x3 (7 - (i 1).val / 2)) := by
  frame_out
  rw [trips_whole, trips_rest]
  unfold kvs
  simp only [st_k2_t2_zero]

variable (K V Q D : ℕ → ℕ → ℝ) (h0 : Holds x0 K) (h1 : Holds x1 V) (h2 : Holds x2 Q) (h3 : Holds x3 D)

theorem lowL_real (x : Vec Ideal S256x256 .bf16) (X : ℕ → ℕ → ℝ) (h : Holds x X) (r : Fin 256) (l : Fin 128) : lowL x (ix2 r l) = ((lanes 0 X r l : ℝ) : EReal) := by
  have := h.ld ![0, 0] inb_S256x256_S256x128_0_0 0 0 rfl r l
  rwa [Nat.zero_add] at this

theorem highL_real (x : Vec Ideal S256x256 .bf16) (X : ℕ → ℕ → ℝ) (h : Holds x X) (r : Fin 256) (l : Fin 128) : highL x (ix2 r l) = ((lanes 128 X r l : ℝ) : EReal) := by
  have := h.ld ![0, 128] inb_S256x256_S256x128_0_128 0 128 rfl r l
  rwa [Nat.zero_add] at this

include h0 h1 h2 h3 in
/-- Before trip `n` the carried value is the sums over the rows from the key's own up to the chunk. -/
theorem kvs_spec (n : ℕ) (hn : n ≤ 7 - (i 1).val / 2) :
    let z := kvs c i arg2 harg2 arg3 harg3 arg4 harg4 arg5 harg5 arg6 harg6 arg7 harg7 arg8 harg8 x0 x1 x2 x3 n
    ∀ (r : Fin 256) (l : Fin 128),
      z.1 (ix2 r l) = ((ksum (lanes 0 K) (lanes 0 V) (lanes 0 Q) (lanes 0 D) r (256 * (i 1).val + r) (512 * ((i 1).val / 2 + 1 + n)) l : ℝ) : EReal)
      ∧ z.2.1 (ix2 r l) = ((vsum (lanes 0 K) (lanes 0 Q) (lanes 0 D) r (256 * (i 1).val + r) (512 * ((i 1).val / 2 + 1 + n)) l : ℝ) : EReal)
      ∧ z.2.2.1 (ix2 r l) = ((ksum (lanes 128 K) (lanes 128 V) (lanes 128 Q) (lanes 128 D) r (256 * (i 1).val + r) (512 * ((i 1).val / 2 + 1 + n)) l : ℝ) : EReal)
      ∧ z.2.2.2 (ix2 r l) = ((vsum (lanes 128 K) (lanes 128 Q) (lanes 128 D) r (256 * (i 1).val + r) (512 * ((i 1).val / 2 + 1 + n)) l : ℝ) : EReal) := by
  have htr : (k2_t1_loop i).trips = 7 - (i 1).val / 2 := (by decide +kernel : ∀ i : grid2.Coords, (k2_t1_loop i).trips = 7 - (i 1).val / 2) i
  have c2 : ∀ (r : Fin 256) (l : Fin 128), k2_pay2 (lowL x0) (ix2 r l) = ((lanes 0 K r l : ℝ) : EReal) := fun r l =>
    (by pointwise [k2_pay2] : k2_pay2 (lowL x0) (ix2 r l) = lowL x0 (ix2 r l)).trans (lowL_real x0 K h0 r l)
  have c3 : ∀ (r : Fin 256) (l : Fin 128), k2_pay3 (highL x0) (ix2 r l) = ((lanes 128 K r l : ℝ) : EReal) := fun r l =>
    (by pointwise [k2_pay3] : k2_pay3 (highL x0) (ix2 r l) = highL x0 (ix2 r l)).trans (highL_real x0 K h0 r l)
  have c4 : ∀ (r : Fin 256) (l : Fin 128), k2_pay4 (lowL x1) (ix2 r l) = ((lanes 0 V r l : ℝ) : EReal) := fun r l =>
    (by pointwise [k2_pay4] : k2_pay4 (lowL x1) (ix2 r l) = lowL x1 (ix2 r l)).trans (lowL_real x1 V h1 r l)
  have c5 : ∀ (r : Fin 256) (l : Fin 128), k2_pay5 (highL x1) (ix2 r l) = ((lanes 128 V r l : ℝ) : EReal) := fun r l =>
    (by pointwise [k2_pay5] : k2_pay5 (highL x1) (ix2 r l) = highL x1 (ix2 r l)).trans (highL_real x1 V h1 r l)
  induction n with
  | zero =>
    have ho1 : k2_off1 i = ![512 * ((i 1).val / 2), 0] := (by decide +kernel : ∀ i : grid2.Coords, k2_off1 i = ![512 * ((i 1).val / 2), 0]) i
    have ho2 : k2_off2 i = ![512 * ((i 1).val / 2), 128] := (by decide +kernel : ∀ i : grid2.Coords, k2_off2 i = ![512 * ((i 1).val / 2), 128]) i
    intro z r l
    have e1 := dkm0 (lowL x0) (k2_pay4 (lowL x1)) (chA i x2) (chA i x3) (lanes 0 K) (lanes 0 V) (lanes 0 Q) (lanes 0 D) _ (lowL_real x0 K h0) c4
      (h2.ld _ _ _ _ ho1) (h3.ld _ _ _ _ ho1) i r l
    have e2 := dvm0 (lowL x0) (chA i x2) (chA i x3) (lanes 0 K) (lanes 0 Q) (lanes 0 D) _ (lowL_real x0 K h0) (h2.ld _ _ _ _ ho1) (h3.ld _ _ _ _ ho1) i r l
    have e3 := dkm1 (k2_pay3 (highL x0)) (k2_pay5 (highL x1)) (chB i x2) (chB i x3) (lanes 128 K) (lanes 128 V) (lanes 128 Q) (lanes 128 D) _ c3 c5
      (h2.ld _ _ _ _ ho2) (h3.ld _ _ _ _ ho2) i r l
    have e4 := dvm1 (k2_pay3 (highL x0)) (chB i x2) (chB i x3) (lanes 128 K) (lanes 128 Q) (lanes 128 D) _ c3 (h2.ld _ _ _ _ ho2) (h3.ld _ _ _ _ ho2) i r l
    have hl : 512 * ((i 1).val / 2) ≤ 256 * (i 1).val + r.val := by omega
    have hu : 256 * (i 1).val + r.val < 512 * ((i 1).val / 2) + 512 := by omega
    rw [sum_from (T := 512) (fun j => wt (lanes 0 K) (lanes 0 V) (lanes 0 Q) (lanes 0 D) r j * lanes 0 Q j l) _ _ hl hu] at e1
    rw [sum_from (T := 512) (fun j => Real.exp (sc (lanes 0 K) (lanes 0 Q) r j) * lanes 0 D j l) _ _ hl hu] at e2
    rw [sum_from (T := 512) (fun j => wt (lanes 128 K) (lanes 128 V) (lanes 128 Q) (lanes 128 D) r j * lanes 128 Q j l) _ _ hl hu] at e3
    rw [sum_from (T := 512) (fun j => Real.exp (sc (lanes 128 K) (lanes 128 Q) r j) * lanes 128 D j l) _ _ hl hu] at e4
    unfold ksum vsum
    rw [show 512 * ((i 1).val / 2 + 1 + 0) = 512 * ((i 1).val / 2) + 512 by omega]
    exact ⟨e1, e2, e3, e4⟩
  | succ n ih =>
    have ih := ih (by omega)
    have hlt : n < (k2_t1_loop i).trips := by omega
    have hs := st_k2_t1_succ (F := Ideal) Variants.none c none i arg2 harg2 arg3 harg3 arg4 harg4 arg5 harg5 arg6 harg6 arg7 harg7 arg8 harg8 (iota Kind.tc S1x128 32 [1] iota_S1x128_d1_w32)
        (k2_pay2 (lowL x0)) (k2_pay3 (highL x0)) (k2_pay4 (lowL x1)) (k2_pay5 (highL x1)) (Scalar.shrui (BitVec.ofNat 32 (i 1).val) 1#32) k2_pay6 (k2_pay7 i)
        (Scalar.muli (Scalar.addi (Scalar.shrui (BitVec.ofNat 32 (i 1).val) 1#32) 0#32) 512#32) (k2_pay8 (chA i x2)) (k2_pay9 (chA i x3)) (k2_pay10 i (lowL x0) (chA i x2))
        (k2_pay11 i (lowL x0) (chA i x2) (chA i x3)) (constant S256x512 FTy.f32 0#32) (harg4.unread x2) (harg5.unread x3)
            (k2_pay12 (k2_pay4 (lowL x1)) k2_pay6 (k2_pay8 (chA i x2)) (k2_pay9 (chA i x3)) (k2_pay10 i (lowL x0) (chA i x2)) (constant S256x512 FTy.f32 0#32),
          k2_pay11 i (lowL x0) (chA i x2) (chA i x3),
          k2_pay17 (k2_pay3 (highL x0)) (k2_pay5 (highL x1)) k2_pay6 (k2_pay7 i) (chB i x2) (chB i x3),
          k2_pay16 (k2_pay3 (highL x0)) k2_pay6 (k2_pay7 i) (chB i x2) (chB i x3)) ⟨n, hlt⟩
    have ho3 : k2_off3 i ⟨n, hlt⟩ = ![512 * ((i 1).val / 2 + 1 + n), 0] :=
      (by decide +kernel : ∀ (i : grid2.Coords) (k : Fin (k2_t1_loop i).trips), k2_off3 i k = ![512 * ((i 1).val / 2 + 1 + k.val), 0]) i ⟨n, hlt⟩
    have ho4 : k2_off4 i ⟨n, hlt⟩ = ![512 * ((i 1).val / 2 + 1 + n), 128] :=
      (by decide +kernel : ∀ (i : grid2.Coords) (k : Fin (k2_t1_loop i).trips), k2_off4 i k = ![512 * ((i 1).val / 2 + 1 + k.val), 128]) i ⟨n, hlt⟩
    change kvs c i arg2 harg2 arg3 harg3 arg4 harg4 arg5 harg5 arg6 harg6 arg7 harg7 arg8 harg8 x0 x1 x2 x3 (n + 1) = _ at hs
    change let z := kvs c i arg2 harg2 arg3 harg3 arg4 harg4 arg5 harg5 arg6 harg6 arg7 harg7 arg8 harg8 x0 x1 x2 x3 n; _ at ih
    intro z
    have hz : z = _ := hs
    clear_value z
    subst hz
    unfold tripR_k2_t1 trip_k2_t1
    dsimp only
    simp only [View.readAt_eq_ld, Memref.IsWhole.read_unread]
    intro r l
    change ∀ (r : Fin 256) (l : Fin 128), _ at ih
    obtain ⟨i1, i2, i3, i4⟩ := ih r l
    unfold kvs at i1 i2 i3 i4
    have hl : 256 * (i 1).val + r.val ≤ 512 * ((i 1).val / 2 + 1 + n) := by omega
    have hb : 512 * ((i 1).val / 2 + 1 + (n + 1)) = 512 * ((i 1).val / 2 + 1 + n) + 512 := by omega
    rw [hb]
    simp only [ksum, vsum] at i1 i2 i3 i4 ⊢
    rw [← sum_Ico_block (T := 512) _ _ _ hl, ← sum_Ico_block (T := 512) _ _ _ hl, ← sum_Ico_block (T := 512) _ _ _ hl, ← sum_Ico_block (T := 512) _ _ _ hl]
    simp only [EReal.coe_add]
    rw [← i1, ← i2, ← i3, ← i4]
    exact ⟨dk0 _ _ _ _ _ _ _ _ _ _ c2 c4 (h2.ld _ (k2_off3_inb i ⟨n, hlt⟩) _ _ ho3) (h3.ld _ (k2_off3_inb i ⟨n, hlt⟩) _ _ ho3) r l,
      dv0 _ _ _ _ _ _ _ _ c2 (h2.ld _ (k2_off3_inb i ⟨n, hlt⟩) _ _ ho3) (h3.ld _ (k2_off3_inb i ⟨n, hlt⟩) _ _ ho3) r l,
      dk1 _ _ _ _ _ _ _ _ _ _ c3 c5 (h2.ld _ (k2_off4_inb i ⟨n, hlt⟩) _ _ ho4) (h3.ld _ (k2_off4_inb i ⟨n, hlt⟩) _ _ ho4) r l,
      dv1 _ _ _ _ _ _ _ _ c3 (h2.ld _ (k2_off4_inb i ⟨n, hlt⟩) _ _ ho4) (h3.ld _ (k2_off4_inb i ⟨n, hlt⟩) _ _ ho4) r l⟩

include h0 h1 h2 h3 in
/-- THE KEYS' AND VALUES' GRADIENTS AND THE COLUMN SUMS of a block. -/
theorem dkv_block (r : Fin 256) (n : Fin 128) :
    out2_A_4 (F := Ideal) c i arg2 harg2 arg3 harg3 arg4 harg4 arg5 harg5 arg6 harg6 arg7 harg7 arg8 harg8 x0 x1 x2 x3 (ix2 r n)
      = ((ksum (lanes (hb n) K) (lanes (hb n) V) (lanes (hb n) Q) (lanes (hb n) D) r (256 * (i 1).val + r) 4096 n : ℝ) : EReal)
    ∧ out2_A_5 (F := Ideal) c i arg2 harg2 arg3 harg3 arg4 harg4 arg5 harg5 arg6 harg6 arg7 harg7 arg8 harg8 x0 x1 x2 x3 (ix2 r n)
      = ((vsum (lanes (hb n) K) (lanes (hb n) Q) (lanes (hb n) D) r (256 * (i 1).val + r) 4096 n : ℝ) : EReal)
    ∧ out2_A_6 (F := Ideal) c i arg2 harg2 arg3 harg3 arg4 harg4 arg5 harg5 arg6 harg6 arg7 harg7 arg8 harg8 x0 x1 x2 x3 (ix2 r n)
      = ((ksum (lanes (hb n) K) (lanes (hb n) V) (lanes (hb n) Q) (lanes (hb n) D) r (256 * (i 1).val + r) 4096 (hs n + 3) : ℝ) : EReal) := by
  have hsp := kvs_spec c i arg2 harg2 arg3 harg3 arg4 harg4 arg5 harg5 arg6 harg6 arg7 harg7 arg8 harg8 x0 x1 x2 x3 K V Q D h0 h1 h2 h3 _ le_rfl
  rw [out2_4_eq, out2_5_eq, out2_6_eq]
  have h16 : (i 1).val < 16 := (i 1).isLt
  rw [show 512 * ((i 1).val / 2 + 1 + (7 - (i 1).val / 2)) = 4096 by omega] at hsp
  set z := kvs c i arg2 harg2 arg3 harg3 arg4 harg4 arg5 harg5 arg6 harg6 arg7 harg7 arg8 harg8 x0 x1 x2 x3 (7 - (i 1).val / 2) with hz
  clear_value z
  change ∀ (r : Fin 256) (l : Fin 128), _ at hsp
  refine ⟨?_, ?_, ?_⟩
  · have hp : k2_pay39 (F := Ideal) (iota Kind.tc S1x128 32 [1] iota_S1x128_d1_w32) z.1 z.2.2.1 (ix2 r n)
        = Scalar.select (α := EReal) (IntOp.cmpi .slt (BitVec.ofNat 32 n.val) 64#32) (z.1 (ix2 r n)) (z.2.2.1 (ix2 r n)) := by
      pointwise [k2_pay39, k2_pay38]
    refine hp.trans ?_
    rw [select_low n n.isLt, (hsp r n).1, (hsp r n).2.2.1]
    unfold hb
    split_ifs <;> rfl
  · have hp : k2_pay40 (F := Ideal) (iota Kind.tc S1x128 32 [1] iota_S1x128_d1_w32) z.2.1 z.2.2.2 (ix2 r n)
        = Scalar.select (α := EReal) (IntOp.cmpi .slt (BitVec.ofNat 32 n.val) 64#32) (z.2.1 (ix2 r n)) (z.2.2.2 (ix2 r n)) := by
      pointwise [k2_pay40, k2_pay38]
    refine hp.trans ?_
    rw [select_low n n.isLt, (hsp r n).2.1, (hsp r n).2.2.2]
    unfold hb
    split_ifs <;> rfl
  · have hp : k2_pay1 (F := Ideal) z.1 z.2.2.1 (k2_pay38 (iota Kind.tc S1x128 32 [1] iota_S1x128_d1_w32)) (ix2 r n)
        = Scalar.select (α := EReal) (IntOp.cmpi .slt (BitVec.ofNat 32 n.val) 64#32) (z.1 (ix2 r 67)) (z.2.2.1 (ix2 r 3)) := by
      pointwise [k2_pay1, k2_pay38]
    refine hp.trans ?_
    rw [select_low n n.isLt, (hsp r 67).1, (hsp r 3).2.2.1]
    unfold hb hs
    split_ifs <;> rfl

end

end Cert.FoxKernelIdeal.Fox

end
-- ==== Proof.Fox.Bwd.lean ====
module

public import proofs.«01_k».proof.Proof.Fox.Fwd
public import proofs.«01_k».proof.Proof.Fox.DqBlock
public import proofs.«01_k».proof.Proof.Fox.DkvBlock

/-! The attention's two backward calls: their arrays, from real operand arrays. -/

@[expose] public section

set_option maxRecDepth 16384

noncomputable section

namespace Cert.FoxKernelIdeal.Fox

open Idealize.ShloMosaic Idealize.ShloMosaic.TcCoe Idealize.SL.Sem
open Idealize.ShloMosaic.Pipeline (Dat)
open Cert.FoxKernelIdeal.Gen Cert.Fox

/-- The query operand with the rows' log-sums in a spare lane of each head, and the cotangent operand with the rows' sums in one. -/
def QB (QA LS : ℕ → ℕ → ℝ) (r x : ℕ) : ℝ :=
  withLse (if x / 128 % 2 = 0 then 70 else 6) (lanes (128 * (x / 128)) QA) (fun r => LS r (64 * (x / 128))) r (x % 128)
def CT (O DO : ℕ → ℕ → ℝ) (r x : ℕ) : ℝ :=
  withDelta (if x / 128 % 2 = 0 then 64 else 0) (lanes (128 * (x / 128 / 2)) DO)
    (rowDelta (if x / 128 % 2 = 0 then 64 else 0) (lanes (128 * (x / 128 / 2)) DO) (lanes (128 * (x / 128 / 2)) O)) r (x % 128)

theorem qb_block (QA LS : ℕ → ℕ → ℝ) (i p r l : ℕ) (hl : l < 256) :
    QB QA LS (256 * i + r) (256 * p + l) = if l < 128 then QY0 (fun r l => QA (256 * i + r) (256 * p + l)) (fun r l => LS (256 * i + r) (128 * p + l)) r l
      else QY1 (fun r l => QA (256 * i + r) (256 * p + l)) (fun r l => LS (256 * i + r) (128 * p + l)) r (l - 128) := by
  unfold QB
  split_ifs with h h' h' <;> try omega
  · rw [show (256 * p + l) / 128 = 2 * p by omega, show (256 * p + l) % 128 = l by omega, show 128 * (2 * p) = 256 * p by omega,
      show 64 * (2 * p) = 128 * p by omega]
    simp only [QY0, withLse, lanes, Nat.zero_add, Nat.add_zero]
  · rw [show (256 * p + l) / 128 = 2 * p + 1 by omega, show (256 * p + l) % 128 = l - 128 by omega, show 128 * (2 * p + 1) = 256 * p + 128 by omega,
      show 64 * (2 * p + 1) = 128 * p + 64 by omega]
    simp only [QY1, withLse, lanes, Nat.add_assoc]

theorem ct_block (O DO : ℕ → ℕ → ℝ) (i p r l : ℕ) (hl : l < 256) :
    CT O DO (256 * i + r) (256 * p + l) = if l < 128 then CT0 (fun r l => O (256 * i + r) (128 * p + l)) (fun r l => DO (256 * i + r) (128 * p + l)) r l
      else CT1 (fun r l => O (256 * i + r) (128 * p + l)) (fun r l => DO (256 * i + r) (128 * p + l)) r (l - 128) := by
  unfold CT
  split_ifs with h h' h' <;> try omega
  · rw [show (256 * p + l) / 128 / 2 = p by omega, show (256 * p + l) % 128 = l by omega]
    rfl
  · rw [show (256 * p + l) / 128 / 2 = p by omega, show (256 * p + l) % 128 = l - 128 by omega]
    rfl

theorem dsum_congr {P P' D D' K V : ℕ → ℕ → ℝ} (r r' n l : ℕ) (hP : ∀ l < 128, P r l = P' r' l) (hD : ∀ l < 128, D r l = D' r' l) :
    dsum P D K V r n l = dsum P' D' K V r' n l := by
  unfold dsum wt sc
  refine Finset.sum_congr rfl fun j _ => ?_
  rw [Finset.sum_congr rfl fun l hl => show P r l * K j l = P' r' l * K j l by rw [hP l (Finset.mem_range.mp hl)],
    Finset.sum_congr rfl fun l hl => show D r l * V j l = D' r' l * V j l by rw [hD l (Finset.mem_range.mp hl)]]

/-- The weighted sum over the columns up to the row, in the head of output column `n`; and those over the rows from the column on. -/
def qg (QA LS O DO KA VA : ℕ → ℕ → ℝ) (r n l : ℕ) : ℝ :=
  dsum (lanes (hd n) (QB QA LS)) (lanes (hd n) (CT O DO)) (lanes (hd n) KA) (lanes (hd n) VA) r (r + 1) l
def kg (KA VA Q D : ℕ → ℕ → ℝ) (r n l : ℕ) : ℝ := ksum (lanes (hd n) KA) (lanes (hd n) VA) (lanes (hd n) Q) (lanes (hd n) D) r r 4096 l
def vg (KA Q D : ℕ → ℕ → ℝ) (r n l : ℕ) : ℝ := vsum (lanes (hd n) KA) (lanes (hd n) Q) (lanes (hd n) D) r r 4096 l

theorem hd_block (p n : ℕ) (hn : n < 128) : hd (128 * p + n) = 256 * p + hb n := by
  unfold hd hb; split_ifs <;> omega

theorem qg_block (QA LS O DO KA VA : ℕ → ℕ → ℝ) (i p r n l : ℕ) (hn : n < 128) :
    qg QA LS O DO KA VA (256 * i + r) (128 * p + n) l
      = dsum (qyh (fun r l => QA (256 * i + r) (256 * p + l)) (fun r l => LS (256 * i + r) (128 * p + l)) n)
          (cth (fun r l => O (256 * i + r) (128 * p + l)) (fun r l => DO (256 * i + r) (128 * p + l)) n)
          (lanes (hb n) fun r l => KA r (256 * p + l)) (lanes (hb n) fun r l => VA r (256 * p + l)) r (256 * i + r + 1) l := by
  have hK : ∀ X : ℕ → ℕ → ℝ, lanes (hd (128 * p + n)) X = lanes (hb n) fun r l => X r (256 * p + l) := fun X => by
    funext r l; unfold lanes; rw [hd_block p n hn, Nat.add_assoc]
  unfold qg
  rw [hK KA, hK VA, hK, hK]
  refine dsum_congr _ _ _ _ (fun l hl => ?_) fun l hl => ?_
  · show QB QA LS (256 * i + r) (256 * p + (hb n + l)) = _
    have hh : hb n + l < 256 := by unfold hb; split_ifs <;> omega
    rw [qb_block _ _ _ _ _ _ hh]
    unfold hb qyh
    by_cases h : n < 64
    · rw [if_pos h, if_pos h, if_pos (by omega), Nat.zero_add]
    · rw [if_neg h, if_neg h, if_neg (by omega), Nat.add_sub_cancel_left]
  · show CT O DO (256 * i + r) (256 * p + (hb n + l)) = _
    have hh : hb n + l < 256 := by unfold hb; split_ifs <;> omega
    rw [ct_block _ _ _ _ _ _ hh]
    unfold hb cth
    by_cases h : n < 64
    · rw [if_pos h, if_pos h, if_pos (by omega), Nat.zero_add]
    · rw [if_neg h, if_neg h, if_neg (by omega), Nat.add_sub_cancel_left]

theorem kg_block (KA VA Q D : ℕ → ℕ → ℝ) (i p r n l : ℕ) (hn : n < 128) :
    kg KA VA Q D (256 * i + r) (128 * p + n) l
      = ksum (lanes (hb n) fun r l => KA (256 * i + r) (256 * p + l)) (lanes (hb n) fun r l => VA (256 * i + r) (256 * p + l))
          (lanes (hb n) fun r l => Q r (256 * p + l)) (lanes (hb n) fun r l => D r (256 * p + l)) r (256 * i + r) 4096 l := by
  unfold kg ksum wt sc lanes
  simp only [hd_block p n hn, Nat.add_assoc]

theorem vg_block (KA Q D : ℕ → ℕ → ℝ) (i p r n l : ℕ) (hn : n < 128) :
    vg KA Q D (256 * i + r) (128 * p + n) l
      = vsum (lanes (hb n) fun r l => KA (256 * i + r) (256 * p + l))
          (lanes (hb n) fun r l => Q r (256 * p + l)) (lanes (hb n) fun r l => D r (256 * p + l)) r (256 * i + r) 4096 l := by
  unfold vg vsum sc lanes
  simp only [hd_block p n hn, Nat.add_assoc]

variable (V : (c : Dev nD) → (b : Ref sig .tc) → Buf (Elt Ideal) ((c : Thread nD τ).loc b)) (c : Dev nD)

/-- The windows' block indices. -/
theorem idx1 : ∀ t : Fin cfg1.N, win1_0.index t = ![t.val % 16, t.val / 16] ∧ win1_1.index t = ![t.val % 16, t.val / 16] ∧ win1_2.index t = ![t.val % 16, t.val / 16]
    ∧ win1_3.index t = ![t.val % 16, 4 + t.val / 16] ∧ win1_4.index t = ![0, t.val / 16] ∧ win1_5.index t = ![0, t.val / 16]
    ∧ win1_6.index t = ![t.val % 16, t.val / 16] ∧ win1_7.index t = ![t.val % 16, t.val / 16] ∧ win1_8.index t = ![t.val % 16, t.val / 16]
    ∧ win1_9.index t = ![t.val % 16, t.val / 16] ∧ (grid1.coords t 1).val = t.val % 16 :=
  (by decide +kernel : ∀ t : Fin grid1.N, _)

theorem idx2 : ∀ t : Fin cfg2.N, win2_0.index t = ![t.val % 16, t.val / 16] ∧ win2_1.index t = ![t.val % 16, t.val / 16] ∧ win2_2.index t = ![0, t.val / 16]
    ∧ win2_3.index t = ![0, t.val / 16] ∧ win2_4.index t = ![t.val % 16, t.val / 16] ∧ win2_5.index t = ![t.val % 16, t.val / 16]
    ∧ win2_6.index t = ![t.val % 16, t.val / 16] ∧ (grid2.coords t 1).val = t.val % 16 :=
  (by decide +kernel : ∀ t : Fin grid2.N, _)

/-- A block of the operands, as reals. -/
theorem blk1 (QA LS O DC KA VA : ℕ → ℕ → ℝ) (h0 : Holds (n := 4096) (d := 1024) (V c (Pipeline.arrRef spec1 0)) QA) (h1 : Holds (n := 4096) (d := 512) (V c (Pipeline.arrRef spec1 1)) LS) (h2 : Holds (n := 4096) (d := 512) (V c (Pipeline.arrRef spec1 2)) O) (h3 : Holds (n := 4096) (d := 1024) (V c (Pipeline.arrRef spec1 3)) DC) (h4 : Holds (n := 4096) (d := 1024) (V c (Pipeline.arrRef spec1 4)) KA) (h5 : Holds (n := 4096) (d := 1024) (V c (Pipeline.arrRef spec1 5)) VA) (t : Fin cfg1.N) :
    Holds (n := 256) (d := 256) (iblk1 V c 0 t) (fun r l => QA (256 * (t.val % 16) + r) (256 * (t.val / 16) + l))
      ∧ Holds (n := 256) (d := 128) (iblk1 V c 1 t) (fun r l => LS (256 * (t.val % 16) + r) (128 * (t.val / 16) + l))
      ∧ Holds (n := 256) (d := 128) (iblk1 V c 2 t) (fun r l => O (256 * (t.val % 16) + r) (128 * (t.val / 16) + l))
      ∧ Holds (n := 256) (d := 128) (iblk1 V c 3 t) (fun r l => DC (256 * (t.val % 16) + r) (512 + (128 * (t.val / 16) + l)))
      ∧ Holds (n := 4096) (d := 256) (iblk1 V c 4 t) (fun r l => KA r (256 * (t.val / 16) + l))
      ∧ Holds (n := 4096) (d := 256) (iblk1 V c 5 t) (fun r l => VA r (256 * (t.val / 16) + l)) := by
  have ht : t.val < 64 := lt_of_lt_of_eq t.isLt N_1
  refine ⟨fun r l => ?_, fun r l => ?_, fun r l => ?_, fun r l => ?_, fun r l => ?_, fun r l => ?_⟩
  · rw [show ((QA (256 * (t.val % 16) + r) (256 * (t.val / 16) + l) : ℝ) : EReal) = _ from (h0 ⟨(256 * (t.val % 16) + r), by omega⟩ ⟨(256 * (t.val / 16) + l), by omega⟩).symm]
    blk_point [iblk1, idx1 t]
  · rw [show ((LS (256 * (t.val % 16) + r) (128 * (t.val / 16) + l) : ℝ) : EReal) = _ from (h1 ⟨(256 * (t.val % 16) + r), by omega⟩ ⟨(128 * (t.val / 16) + l), by omega⟩).symm]
    blk_point [iblk1, idx1 t]
  · rw [show ((O (256 * (t.val % 16) + r) (128 * (t.val / 16) + l) : ℝ) : EReal) = _ from (h2 ⟨(256 * (t.val % 16) + r), by omega⟩ ⟨(128 * (t.val / 16) + l), by omega⟩).symm]
    blk_point [iblk1, idx1 t]
  · rw [show ((DC (256 * (t.val % 16) + r) (512 + (128 * (t.val / 16) + l)) : ℝ) : EReal) = _ from (h3 ⟨(256 * (t.val % 16) + r), by omega⟩ ⟨(512 + (128 * (t.val / 16) + l)), by omega⟩).symm]
    blk_point [iblk1, idx1 t]
  · rw [show ((KA r (256 * (t.val / 16) + l) : ℝ) : EReal) = _ from (h4 r ⟨(256 * (t.val / 16) + l), by omega⟩).symm]
    blk_point [iblk1, idx1 t]
  · rw [show ((VA r (256 * (t.val / 16) + l) : ℝ) : EReal) = _ from (h5 r ⟨(256 * (t.val / 16) + l), by omega⟩).symm]
    blk_point [iblk1, idx1 t]

/-- A block of the operands, as reals. -/
theorem blk2 (KA VA Q D : ℕ → ℕ → ℝ) (h0 : Holds (n := 4096) (d := 1024) (V c (Pipeline.arrRef spec2 0)) KA) (h1 : Holds (n := 4096) (d := 1024) (V c (Pipeline.arrRef spec2 1)) VA) (h2 : Holds (n := 4096) (d := 1024) (V c (Pipeline.arrRef spec2 2)) Q) (h3 : Holds (n := 4096) (d := 1024) (V c (Pipeline.arrRef spec2 3)) D) (t : Fin cfg2.N) :
    Holds (n := 256) (d := 256) (iblk2 V c 0 t) (fun r l => KA (256 * (t.val % 16) + r) (256 * (t.val / 16) + l))
      ∧ Holds (n := 256) (d := 256) (iblk2 V c 1 t) (fun r l => VA (256 * (t.val % 16) + r) (256 * (t.val / 16) + l))
      ∧ Holds (n := 4096) (d := 256) (iblk2 V c 2 t) (fun r l => Q r (256 * (t.val / 16) + l))
      ∧ Holds (n := 4096) (d := 256) (iblk2 V c 3 t) (fun r l => D r (256 * (t.val / 16) + l)) := by
  have ht : t.val < 64 := lt_of_lt_of_eq t.isLt N_2
  refine ⟨fun r l => ?_, fun r l => ?_, fun r l => ?_, fun r l => ?_⟩
  · rw [show ((KA (256 * (t.val % 16) + r) (256 * (t.val / 16) + l) : ℝ) : EReal) = _ from (h0 ⟨(256 * (t.val % 16) + r), by omega⟩ ⟨(256 * (t.val / 16) + l), by omega⟩).symm]
    blk_point [iblk2, idx2 t]
  · rw [show ((VA (256 * (t.val % 16) + r) (256 * (t.val / 16) + l) : ℝ) : EReal) = _ from (h1 ⟨(256 * (t.val % 16) + r), by omega⟩ ⟨(256 * (t.val / 16) + l), by omega⟩).symm]
    blk_point [iblk2, idx2 t]
  · rw [show ((Q r (256 * (t.val / 16) + l) : ℝ) : EReal) = _ from (h2 r ⟨(256 * (t.val / 16) + l), by omega⟩).symm]
    blk_point [iblk2, idx2 t]
  · rw [show ((D r (256 * (t.val / 16) + l) : ℝ) : EReal) = _ from (h3 r ⟨(256 * (t.val / 16) + l), by omega⟩).symm]
    blk_point [iblk2, idx2 t]

set_option maxHeartbeats 1000000 in
/-- THE QUERIES' CALL: the queries' gradient, the row sums, and the operands it leaves for the other call. -/
theorem region1 (QA LS O DC KA VA : ℕ → ℕ → ℝ) (h0 : Holds (n := 4096) (d := 1024) (V c (Pipeline.arrRef spec1 0)) QA) (h1 : Holds (n := 4096) (d := 512) (V c (Pipeline.arrRef spec1 1)) LS) (h2 : Holds (n := 4096) (d := 512) (V c (Pipeline.arrRef spec1 2)) O) (h3 : Holds (n := 4096) (d := 1024) (V c (Pipeline.arrRef spec1 3)) DC) (h4 : Holds (n := 4096) (d := 1024) (V c (Pipeline.arrRef spec1 4)) KA) (h5 : Holds (n := 4096) (d := 1024) (V c (Pipeline.arrRef spec1 5)) VA) :
    Holds (n := 4096) (d := 512) ((dat1 V c).arrAt 6 cfg1.N) (fun r n => qg QA LS O (fun r n => DC r (512 + n)) KA VA r n (n % 128) * (1 / 8))
      ∧ Holds (n := 4096) (d := 512) ((dat1 V c).arrAt 7 cfg1.N) (fun r n => qg QA LS O (fun r n => DC r (512 + n)) KA VA r n (sp n))
      ∧ Holds (n := 4096) (d := 1024) ((dat1 V c).arrAt 8 cfg1.N) (QB QA LS)
      ∧ Holds (n := 4096) (d := 1024) ((dat1 V c).arrAt 9 cfg1.N) (CT O (fun r n => DC r (512 + n))) := by
  have key : ∀ (t : Fin cfg1.N) (r : Fin 256) (n : Fin 128),
      (outsAt1 V c t).1 (ix2 r n) = ((qg QA LS O (fun r n => DC r (512 + n)) KA VA (256 * (t.val % 16) + r) (128 * (t.val / 16) + n) n * (1 / 8) : ℝ) : EReal)
      ∧ (outsAt1 V c t).2.1 (ix2 r n) = ((qg QA LS O (fun r n => DC r (512 + n)) KA VA (256 * (t.val % 16) + r) (128 * (t.val / 16) + n) (hs n) : ℝ) : EReal) := by
    intro t r n
    obtain ⟨b0, b1, b2, b3, b4, b5⟩ := blk1 V c QA LS O DC KA VA h0 h1 h2 h3 h4 h5 t
    have hi := (idx1 t).2.2.2.2.2.2.2.2.2.2
    have e := dq_block c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t)
      (iblk1 V c 0 t) (iblk1 V c 1 t) (iblk1 V c 2 t) (iblk1 V c 3 t) (iblk1 V c 4 t) (iblk1 V c 5 t) _ _ _ _ _ _ b0 b1 b2 b3 b4 b5 r n
    rw [hi] at e
    rw [qg_block _ _ _ _ _ _ _ _ _ _ _ n.isLt, qg_block _ _ _ _ _ _ _ _ _ _ _ n.isLt]
    unfold outsAt1
    dsimp only
    exact e
  have key' : ∀ (t : Fin cfg1.N) (r l : Fin 256),
      (outsAt1 V c t).2.2.1 (ix2 r l) = ((QB QA LS (256 * (t.val % 16) + r) (256 * (t.val / 16) + l) : ℝ) : EReal)
      ∧ (outsAt1 V c t).2.2.2 (ix2 r l) = ((CT O (fun r n => DC r (512 + n)) (256 * (t.val % 16) + r) (256 * (t.val / 16) + l) : ℝ) : EReal) := by
    intro t r l
    obtain ⟨b0, b1, b2, b3, b4, b5⟩ := blk1 V c QA LS O DC KA VA h0 h1 h2 h3 h4 h5 t
    have e8 := congrFun (out8_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t)
      (iblk1 V c 0 t) (iblk1 V c 1 t) (iblk1 V c 2 t) (iblk1 V c 3 t) (iblk1 V c 4 t) (iblk1 V c 5 t)) (ix2 r l)
    have e9 := congrFun (out9_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t)
      (iblk1 V c 0 t) (iblk1 V c 1 t) (iblk1 V c 2 t) (iblk1 V c 3 t) (iblk1 V c 4 t) (iblk1 V c 5 t)) (ix2 r l)
    rw [halves_canon _ _ _ _ (qy0_real _ _ _ _ b0 b1) (qy1_real _ _ _ _ b0 b1)] at e8
    rw [halves_canon _ _ _ _ (cot0 (iblk1 V c 3 t) (iblk1 V c 2 t) (fun r l => DC (256 * (t.val % 16) + r) (512 + (128 * (t.val / 16) + l))) (fun r l => O (256 * (t.val % 16) + r) (128 * (t.val / 16) + l)) b3 b2) (cot1 (iblk1 V c 3 t) (iblk1 V c 2 t) (fun r l => DC (256 * (t.val % 16) + r) (512 + (128 * (t.val / 16) + l))) (fun r l => O (256 * (t.val % 16) + r) (128 * (t.val / 16) + l)) b3 b2)] at e9
    rw [qb_block _ _ _ _ _ _ l.isLt, ct_block _ _ _ _ _ _ l.isLt]
    unfold outsAt1
    dsimp only
    exact ⟨e8, e9⟩
  refine ⟨fun r n => ?_, fun r n => ?_, fun r n => ?_, fun r n => ?_⟩
  · exact congrFun ((dat1 V c).arrAt_eq_of_covers 6 (fun y : S4096x512.Idx => ((qg QA LS O (fun r n => DC r (512 + n)) KA VA (y 0) (y 1) (((y 1) : ℕ) % 128) * (1 / 8) : ℝ) : EReal))
      (by decide +kernel) fun t _ y => by
        have hidx : win1_6.index t = ![t.val % 16, t.val / 16] := (idx1 t).2.2.2.2.2.2.1
        blk_simp
        rw [hidx, after1_6]
        have ht : t.val < 64 := lt_of_lt_of_eq t.isLt N_1
        obtain ⟨r, n, rfl⟩ : ∃ (r : Fin 256) (n : Fin 128), y = ix2 r n := ⟨y 0, y 1, by funext d; match d with | ⟨0, _⟩ => rfl | ⟨1, _⟩ => rfl⟩
        have hn := n.isLt
        show _ = ((qg QA LS O (fun r n => DC r (512 + n)) KA VA (t.val % 16 * 256 + r.val) (t.val / 16 * 128 + n.val) (((t.val / 16 * 128 + n.val) : ℕ) % 128) * (1 / 8) : ℝ) : EReal)
        rw [Nat.mul_comm _ 256, Nat.mul_comm _ 128]
        rw [show (128 * (t.val / 16) + n.val) % 128 = n.val by omega]
        exact (key t r n).1) (ix2 r n)
  · exact congrFun ((dat1 V c).arrAt_eq_of_covers 7 (fun y : S4096x512.Idx => ((qg QA LS O (fun r n => DC r (512 + n)) KA VA (y 0) (y 1) (sp (y 1)) : ℝ) : EReal))
      (by decide +kernel) fun t _ y => by
        have hidx : win1_7.index t = ![t.val % 16, t.val / 16] := (idx1 t).2.2.2.2.2.2.2.1
        blk_simp
        rw [hidx, after1_7]
        have ht : t.val < 64 := lt_of_lt_of_eq t.isLt N_1
        obtain ⟨r, n, rfl⟩ : ∃ (r : Fin 256) (n : Fin 128), y = ix2 r n := ⟨y 0, y 1, by funext d; match d with | ⟨0, _⟩ => rfl | ⟨1, _⟩ => rfl⟩
        have hn := n.isLt
        show _ = ((qg QA LS O (fun r n => DC r (512 + n)) KA VA (t.val % 16 * 256 + r.val) (t.val / 16 * 128 + n.val) (sp (t.val / 16 * 128 + n.val)) : ℝ) : EReal)
        rw [Nat.mul_comm _ 256, Nat.mul_comm _ 128]
        rw [sp_block _ _ n.isLt]
        exact (key t r n).2) (ix2 r n)
  · exact congrFun ((dat1 V c).arrAt_eq_of_covers 8 (fun y : S4096x1024.Idx => ((QB QA LS (y 0) (y 1) : ℝ) : EReal))
      (by decide +kernel) fun t _ y => by
        have hidx : win1_8.index t = ![t.val % 16, t.val / 16] := (idx1 t).2.2.2.2.2.2.2.2.1
        blk_simp
        rw [hidx, after1_8]
        have ht : t.val < 64 := lt_of_lt_of_eq t.isLt N_1
        obtain ⟨r, n, rfl⟩ : ∃ (r : Fin 256) (n : Fin 256), y = ix2 r n := ⟨y 0, y 1, by funext d; match d with | ⟨0, _⟩ => rfl | ⟨1, _⟩ => rfl⟩
        have hn := n.isLt
        show _ = ((QB QA LS (t.val % 16 * 256 + r.val) (t.val / 16 * 256 + n.val) : ℝ) : EReal)
        rw [Nat.mul_comm _ 256, Nat.mul_comm _ 256]
        exact (key' t r n).1) (ix2 r n)
  · exact congrFun ((dat1 V c).arrAt_eq_of_covers 9 (fun y : S4096x1024.Idx => ((CT O (fun r n => DC r (512 + n)) (y 0) (y 1) : ℝ) : EReal))
      (by decide +kernel) fun t _ y => by
        have hidx : win1_9.index t = ![t.val % 16, t.val / 16] := (idx1 t).2.2.2.2.2.2.2.2.2.1
        blk_simp
        rw [hidx, after1_9]
        have ht : t.val < 64 := lt_of_lt_of_eq t.isLt N_1
        obtain ⟨r, n, rfl⟩ : ∃ (r : Fin 256) (n : Fin 256), y = ix2 r n := ⟨y 0, y 1, by funext d; match d with | ⟨0, _⟩ => rfl | ⟨1, _⟩ => rfl⟩
        have hn := n.isLt
        show _ = ((CT O (fun r n => DC r (512 + n)) (t.val % 16 * 256 + r.val) (t.val / 16 * 256 + n.val) : ℝ) : EReal)
        rw [Nat.mul_comm _ 256, Nat.mul_comm _ 256]
        exact (key' t r n).2) (ix2 r n)

/-- THE KEYS' AND VALUES' CALL: both gradients and the column sums. -/
theorem region2 (KA VA Q D : ℕ → ℕ → ℝ) (h0 : Holds (n := 4096) (d := 1024) (V c (Pipeline.arrRef spec2 0)) KA) (h1 : Holds (n := 4096) (d := 1024) (V c (Pipeline.arrRef spec2 1)) VA) (h2 : Holds (n := 4096) (d := 1024) (V c (Pipeline.arrRef spec2 2)) Q) (h3 : Holds (n := 4096) (d := 1024) (V c (Pipeline.arrRef spec2 3)) D) :
    Holds (n := 4096) (d := 512) ((dat2 V c).arrAt 4 cfg2.N) (fun r n => kg KA VA Q D r n (n % 128))
      ∧ Holds (n := 4096) (d := 512) ((dat2 V c).arrAt 5 cfg2.N) (fun r n => vg KA Q D r n (n % 128))
      ∧ Holds (n := 4096) (d := 512) ((dat2 V c).arrAt 6 cfg2.N) (fun r n => kg KA VA Q D r n (sp n + 3)) := by
  have key : ∀ (t : Fin cfg2.N) (r : Fin 256) (n : Fin 128),
      (outsAt2 V c t).1 (ix2 r n) = ((kg KA VA Q D (256 * (t.val % 16) + r) (128 * (t.val / 16) + n) n : ℝ) : EReal)
      ∧ (outsAt2 V c t).2.1 (ix2 r n) = ((vg KA Q D (256 * (t.val % 16) + r) (128 * (t.val / 16) + n) n : ℝ) : EReal)
      ∧ (outsAt2 V c t).2.2 (ix2 r n) = ((kg KA VA Q D (256 * (t.val % 16) + r) (128 * (t.val / 16) + n) (hs n + 3) : ℝ) : EReal) := by
    intro t r n
    obtain ⟨b0, b1, b2, b3⟩ := blk2 V c KA VA Q D h0 h1 h2 h3 t
    have hi := (idx2 t).2.2.2.2.2.2.2
    have e := dkv_block c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t)
      (iblk2 V c 0 t) (iblk2 V c 1 t) (iblk2 V c 2 t) (iblk2 V c 3 t) _ _ _ _ b0 b1 b2 b3 r n
    rw [hi] at e
    rw [kg_block _ _ _ _ _ _ _ _ _ n.isLt, kg_block _ _ _ _ _ _ _ _ _ n.isLt, vg_block _ _ _ _ _ _ _ _ n.isLt]
    unfold outsAt2
    dsimp only
    exact e
  refine ⟨fun r n => ?_, fun r n => ?_, fun r n => ?_⟩
  · exact congrFun ((dat2 V c).arrAt_eq_of_covers 4 (fun y : S4096x512.Idx => ((kg KA VA Q D (y 0) (y 1) (((y 1) : ℕ) % 128) : ℝ) : EReal))
      (by decide +kernel) fun t _ y => by
        have hidx : win2_4.index t = ![t.val % 16, t.val / 16] := (idx2 t).2.2.2.2.1
        blk_simp
        rw [hidx, after2_4]
        have ht : t.val < 64 := lt_of_lt_of_eq t.isLt N_2
        obtain ⟨r, n, rfl⟩ : ∃ (r : Fin 256) (n : Fin 128), y = ix2 r n := ⟨y 0, y 1, by funext d; match d with | ⟨0, _⟩ => rfl | ⟨1, _⟩ => rfl⟩
        have hn := n.isLt
        show _ = ((kg KA VA Q D (t.val % 16 * 256 + r.val) (t.val / 16 * 128 + n.val) (((t.val / 16 * 128 + n.val) : ℕ) % 128) : ℝ) : EReal)
        rw [Nat.mul_comm _ 256, Nat.mul_comm _ 128]
        rw [show (128 * (t.val / 16) + n.val) % 128 = n.val by omega]
        exact (key t r n).1) (ix2 r n)
  · exact congrFun ((dat2 V c).arrAt_eq_of_covers 5 (fun y : S4096x512.Idx => ((vg KA Q D (y 0) (y 1) (((y 1) : ℕ) % 128) : ℝ) : EReal))
      (by decide +kernel) fun t _ y => by
        have hidx : win2_5.index t = ![t.val % 16, t.val / 16] := (idx2 t).2.2.2.2.2.1
        blk_simp
        rw [hidx, after2_5]
        have ht : t.val < 64 := lt_of_lt_of_eq t.isLt N_2
        obtain ⟨r, n, rfl⟩ : ∃ (r : Fin 256) (n : Fin 128), y = ix2 r n := ⟨y 0, y 1, by funext d; match d with | ⟨0, _⟩ => rfl | ⟨1, _⟩ => rfl⟩
        have hn := n.isLt
        show _ = ((vg KA Q D (t.val % 16 * 256 + r.val) (t.val / 16 * 128 + n.val) (((t.val / 16 * 128 + n.val) : ℕ) % 128) : ℝ) : EReal)
        rw [Nat.mul_comm _ 256, Nat.mul_comm _ 128]
        rw [show (128 * (t.val / 16) + n.val) % 128 = n.val by omega]
        exact (key t r n).2.1) (ix2 r n)
  · exact congrFun ((dat2 V c).arrAt_eq_of_covers 6 (fun y : S4096x512.Idx => ((kg KA VA Q D (y 0) (y 1) (sp (y 1) + 3) : ℝ) : EReal))
      (by decide +kernel) fun t _ y => by
        have hidx : win2_6.index t = ![t.val % 16, t.val / 16] := (idx2 t).2.2.2.2.2.2.1
        blk_simp
        rw [hidx, after2_6]
        have ht : t.val < 64 := lt_of_lt_of_eq t.isLt N_2
        obtain ⟨r, n, rfl⟩ : ∃ (r : Fin 256) (n : Fin 128), y = ix2 r n := ⟨y 0, y 1, by funext d; match d with | ⟨0, _⟩ => rfl | ⟨1, _⟩ => rfl⟩
        have hn := n.isLt
        show _ = ((kg KA VA Q D (t.val % 16 * 256 + r.val) (t.val / 16 * 128 + n.val) (sp (t.val / 16 * 128 + n.val) + 3) : ℝ) : EReal)
        rw [Nat.mul_comm _ 256, Nat.mul_comm _ 128]
        rw [sp_block _ _ n.isLt]
        exact (key t r n).2.2) (ix2 r n)

end Cert.FoxKernelIdeal.Fox

end
-- ==== Proof.Fox.Spec.lean ====
module

public import proofs.«01_k».proof.Proof.Fox.Bwd

/-! The attention's gradients over the reals, and the calls' lane sums as these gradients. -/

@[expose] public section

noncomputable section

namespace Cert.FoxKernelIdeal.Fox

open Cert.Fox

section Spec

variable (q k v : ℕ → ℕ → ℝ) (C : ℕ → ℕ → ℝ) (g : ℕ → ℕ → ℝ)

/-- Head `h`'s score of column `j` in row `r`: the scaled product and the decay between the two. -/
def score (h r j : ℕ) : ℝ := (∑ d ∈ Finset.range 64, q r (64 * h + d) * k j (64 * h + d)) * (1 / 8) + C r h - C j h
/-- A row's sum of exponentials, the weight of a column, the output. -/
def rowSum (h r : ℕ) : ℝ := ∑ j ∈ Finset.range (r + 1), Real.exp (score q k C h r j)
def prob (h r j : ℕ) : ℝ := Real.exp (score q k C h r j) / rowSum q k C h r
def out (r n : ℕ) : ℝ := ∑ j ∈ Finset.range (r + 1), prob q k C (n / 64) r j * v j n
/-- A weight's gradient, a row's sum of cotangent times output, a score's gradient. -/
def dprob (h r j : ℕ) : ℝ := ∑ d ∈ Finset.range 64, g r (64 * h + d) * v j (64 * h + d)
def delta (h r : ℕ) : ℝ := ∑ d ∈ Finset.range 64, g r (64 * h + d) * out q k v C r (64 * h + d)
def dscore (h r j : ℕ) : ℝ := prob q k C h r j * (dprob v g h r j - delta q k v C g h r)
/-- The gradients of the queries, keys and values, and the scores' gradients summed over a row's columns and a column's rows. -/
def dQ (r n : ℕ) : ℝ := (∑ j ∈ Finset.range (r + 1), dscore q k v C g (n / 64) r j * k j n) * (1 / 8)
def dK (r n : ℕ) : ℝ := (∑ i ∈ Finset.Ico r 4096, dscore q k v C g (n / 64) i r * q i n) * (1 / 8)
def dV (r n : ℕ) : ℝ := ∑ i ∈ Finset.Ico r 4096, prob q k C (n / 64) i r * g i n
def dRow (r n : ℕ) : ℝ := ∑ j ∈ Finset.range (r + 1), dscore q k v C g (n / 64) r j
def dCol (r n : ℕ) : ℝ := ∑ i ∈ Finset.Ico r 4096, dscore q k v C g (n / 64) i r

theorem rowSum_pos (h r : ℕ) : 0 < rowSum q k C h r :=
  Finset.sum_pos (fun _ _ => Real.exp_pos _) ⟨0, Finset.mem_range.mpr (Nat.succ_pos r)⟩

end Spec

/-- A head's 128 lanes: its own 64 and 64 spare ones, the order by the head's parity. -/
def hx (h l : ℕ) (a e : ℕ → ℝ) : ℝ :=
  if h % 2 = 0 then (if l < 64 then a l else e (l - 64)) else (if l < 64 then e l else a (l - 64))

theorem hx_sum (h : ℕ) (a e a' e' : ℕ → ℝ) :
    ∑ l ∈ Finset.range 128, hx h l a e * hx h l a' e' = ∑ d ∈ Finset.range 64, a d * a' d + ∑ y ∈ Finset.range 64, e y * e' y := by
  rw [show 128 = 64 + 64 from rfl, Finset.sum_range_add]
  unfold hx
  by_cases hp : h % 2 = 0
  · simp only [if_pos hp]
    refine congrArg₂ (· + ·) (Finset.sum_congr rfl fun l hl => ?_) (Finset.sum_congr rfl fun l hl => ?_)
    · rw [if_pos (Finset.mem_range.mp hl), if_pos (Finset.mem_range.mp hl)]
    · rw [if_neg (by omega), if_neg (by omega), Nat.add_sub_cancel_left]
  · simp only [if_neg hp]
    rw [add_comm]
    refine congrArg₂ (· + ·) (Finset.sum_congr rfl fun l hl => ?_) (Finset.sum_congr rfl fun l hl => ?_)
    · rw [if_neg (by omega), if_neg (by omega), Nat.add_sub_cancel_left]
    · rw [if_pos (Finset.mem_range.mp hl), if_pos (Finset.mem_range.mp hl)]

/-- The heads of `X` beside their spare lanes `E`: in a pair of heads first, last, the spare lanes in the middle. -/
def laneArr (X : ℕ → ℕ → ℝ) (E : ℕ → ℕ → ℕ → ℝ) (r x : ℕ) : ℝ :=
  if x % 256 / 64 = 0 then X r (128 * (x / 256) + x % 64) else if x % 256 / 64 = 1 then E r (2 * (x / 256)) (x % 64)
    else if x % 256 / 64 = 2 then E r (2 * (x / 256) + 1) (x % 64) else X r (128 * (x / 256) + (64 + x % 64))

theorem laneArr_head (X : ℕ → ℕ → ℝ) (E : ℕ → ℕ → ℕ → ℝ) (h r l : ℕ) (hl : l < 128) :
    lanes (128 * h) (laneArr X E) r l = hx h l (fun d => X r (64 * h + d)) (fun y => E r h y) := by
  unfold lanes laneArr hx
  by_cases hp : h % 2 = 0
  · by_cases h6 : l < 64
    · rw [if_pos (by omega), if_pos hp, if_pos h6, show 128 * ((128 * h + l) / 256) + (128 * h + l) % 64 = 64 * h + l by omega]
    · rw [if_neg (by omega), if_pos (by omega), if_pos hp, if_neg h6, show 2 * ((128 * h + l) / 256) = h by omega, show (128 * h + l) % 64 = l - 64 by omega]
  · by_cases h6 : l < 64
    · rw [if_neg (by omega), if_neg (by omega), if_pos (by omega), if_neg hp, if_pos h6, show 2 * ((128 * h + l) / 256) + 1 = h by omega,
        show (128 * h + l) % 64 = l by omega]
    · rw [if_neg (by omega), if_neg (by omega), if_neg (by omega), if_neg hp, if_neg h6,
        show 128 * ((128 * h + l) / 256) + (64 + (128 * h + l) % 64) = 64 * h + (l - 64) by omega]

/-- The spare lanes: of the queries the row's decay and three ones, of the keys three ones, the negated decay and three ones, of the values three ones. -/
def exQ (C : ℕ → ℕ → ℝ) (r h y : ℕ) : ℝ := if y = 0 then C r h else if y < 3 then 0 else if y < 6 then 1 else 0
def exK (C : ℕ → ℕ → ℝ) (r h y : ℕ) : ℝ := if y < 3 then 1 else if y = 3 then -C r h else if y < 6 then 0 else if y < 9 then 1 else 0
def exV (r h y : ℕ) : ℝ := if y < 3 then 1 else 0

variable (q k v C g : ℕ → ℕ → ℝ)

abbrev qa := laneArr (fun r n => q r n * (1 / 8)) (exQ C)
abbrev ka := laneArr k (exK C)
abbrev va := laneArr v exV
abbrev lseOf (r n : ℕ) := Real.log (rowSum q k C (n / 64) r)
abbrev qb := QB (qa q C) (lseOf q k C)
abbrev ct := CT (out q k v C) g

theorem qb_head (h r l : ℕ) (hl : l < 128) :
    lanes (128 * h) (qb q k C) r l = hx h l (fun d => q r (64 * h + d) * (1 / 8))
      (fun y => if y = 6 then -Real.log (rowSum q k C h r) else if y = 7 then 0 else if y = 8 then 0 else exQ C r h y) := by
  show QB (qa q C) (lseOf q k C) r (128 * h + l) = _
  unfold QB withLse
  rw [show (128 * h + l) / 128 = h by omega, show (128 * h + l) % 128 = l by omega, laneArr_head _ _ _ _ _ hl]
  have hL : lseOf q k C r (64 * h) = Real.log (rowSum q k C h r) := by
    show Real.log (rowSum q k C (64 * h / 64) r) = _
    rw [Nat.mul_div_cancel_left _ (by omega)]
  rw [show (fun r => lseOf q k C r (64 * h)) r = _ from hL]
  unfold hx
  by_cases hp : h % 2 = 0
  · by_cases h6 : l < 64
    · simp only [if_pos hp, if_pos h6, if_neg (show ¬l = 70 by omega), if_neg (show ¬l = 70 + 1 by omega), if_neg (show ¬l = 70 + 2 by omega)]
    · simp only [if_pos hp, if_neg h6, show (l = 70) = (l - 64 = 6) by rw [eq_iff_iff]; omega, show (l = 70 + 1) = (l - 64 = 7) by rw [eq_iff_iff]; omega,
        show (l = 70 + 2) = (l - 64 = 8) by rw [eq_iff_iff]; omega]
  · by_cases h6 : l < 64
    · simp only [if_neg hp, if_pos h6]
    · simp only [if_neg hp, if_neg h6, if_neg (show ¬l = 6 by omega), if_neg (show ¬l = 6 + 1 by omega), if_neg (show ¬l = 6 + 2 by omega)]

theorem rowDelta_head (h r : ℕ) :
    rowDelta (if h % 2 = 0 then 64 else 0) (lanes (128 * (h / 2)) g) (lanes (128 * (h / 2)) (out q k v C)) r = delta q k v C g h r := by
  unfold rowDelta delta lanes
  rw [show 128 = 64 + 64 from rfl, Finset.sum_range_add]
  by_cases hp : h % 2 = 0
  · rw [if_pos hp, Finset.sum_eq_zero (s := Finset.range 64) (f := fun x => if 64 ≤ 64 + x ∧ 64 + x < 64 + 64 then _ else _)
      (fun x hx => if_pos ⟨by omega, by have := Finset.mem_range.mp hx; omega⟩), add_zero]
    refine Finset.sum_congr rfl fun l hl => ?_
    rw [if_neg (by have := Finset.mem_range.mp hl; omega), show (64 + 64) * (h / 2) + l = 64 * h + l by omega]
  · rw [if_neg hp, Finset.sum_eq_zero (s := Finset.range 64) (f := fun x => if 0 ≤ x ∧ x < 0 + 64 then _ else _)
      (fun x hx => if_pos ⟨by omega, by have := Finset.mem_range.mp hx; omega⟩), zero_add]
    refine Finset.sum_congr rfl fun l hl => ?_
    rw [if_neg (by omega), show (64 + 64) * (h / 2) + (64 + l) = 64 * h + l by omega]

theorem ct_head (h r l : ℕ) (hl : l < 128) :
    lanes (128 * h) (ct q k v C g) r l = hx h l (fun d => g r (64 * h + d)) (fun y => if y = 0 then -delta q k v C g h r else 0) := by
  show CT (out q k v C) g r (128 * h + l) = _
  unfold CT withDelta
  rw [show (128 * h + l) / 128 = h by omega, show (128 * h + l) % 128 = l by omega, rowDelta_head]
  unfold hx lanes
  by_cases hp : h % 2 = 0
  · by_cases h6 : l < 64
    · simp only [if_pos hp, if_pos h6, if_neg (show ¬l = 64 by omega)]
      rw [if_neg (by omega), show 128 * (h / 2) + l = 64 * h + l by omega]
    · simp only [if_pos hp, if_neg h6, show (l = 64) = (l - 64 = 0) by rw [eq_iff_iff]; omega]
      rw [if_pos (show 64 ≤ l ∧ l < 64 + 64 by omega)]
  · by_cases h6 : l < 64
    · simp only [if_neg hp, if_pos h6]
      rw [if_pos (show 0 ≤ l ∧ l < 0 + 64 by omega)]
    · simp only [if_neg hp, if_neg h6, if_neg (show ¬l = 0 by omega)]
      rw [if_neg (by omega), show 128 * (h / 2) + l = 64 * h + (l - 64) by omega]

/-- A product of two operands' lanes, split: only the first nine spare lanes of one carry anything. -/
theorem sc_head (P K : ℕ → ℕ → ℝ) (a e a' e' : ℕ → ℝ) (h r j : ℕ) (hP : ∀ l < 128, P r l = hx h l a e) (hK : ∀ l < 128, K j l = hx h l a' e')
    (he : ∀ y, 9 ≤ y → e y = 0) :
    sc P K r j = ∑ d ∈ Finset.range 64, a d * a' d
      + (e 0 * e' 0 + e 1 * e' 1 + e 2 * e' 2 + e 3 * e' 3 + e 4 * e' 4 + e 5 * e' 5 + e 6 * e' 6 + e 7 * e' 7 + e 8 * e' 8) := by
  unfold sc
  rw [Finset.sum_congr rfl fun l hl => show P r l * K j l = hx h l a e * hx h l a' e' by rw [hP l (Finset.mem_range.mp hl), hK l (Finset.mem_range.mp hl)], hx_sum h]
  refine congrArg (∑ d ∈ Finset.range 64, a d * a' d + ·) ?_
  rw [show 64 = 9 + 55 from rfl, Finset.sum_range_add, Finset.sum_eq_zero (s := Finset.range 55) (fun x _ => by rw [he _ (by omega), zero_mul]), add_zero]
  simp [Finset.sum_range_succ]

/-- The scores: of the forward call, with the row's log-sum, and the gradient of a weight. -/
theorem score_lanes (h r j : ℕ) : sc (lanes (128 * h) (qa q C)) (lanes (128 * h) (ka k C)) r j = score q k C h r j := by
  rw [sc_head _ _ _ _ _ _ h r j (fun l hl => laneArr_head _ _ h r l hl) (fun l hl => laneArr_head _ _ h j l hl)
    (fun y hy => by unfold exQ; rw [if_neg (by omega), if_neg (by omega), if_neg (by omega)])]
  unfold exQ exK score
  rw [Finset.sum_mul, Finset.sum_congr rfl fun d _ => show q r (64 * h + d) * (1 / 8) * k j (64 * h + d) = q r (64 * h + d) * k j (64 * h + d) * (1 / 8) by ring]
  generalize ∑ d ∈ Finset.range 64, q r (64 * h + d) * k j (64 * h + d) * (1 / 8) = X
  norm_num
  ring

theorem shifted_lanes (h r j : ℕ) : sc (lanes (128 * h) (qb q k C)) (lanes (128 * h) (ka k C)) r j = score q k C h r j - Real.log (rowSum q k C h r) := by
  rw [sc_head _ _ _ _ _ _ h r j (fun l hl => qb_head q k C h r l hl) (fun l hl => laneArr_head _ _ h j l hl)
    (fun y hy => by unfold exQ; rw [if_neg (by omega), if_neg (by omega), if_neg (by omega), if_neg (by omega), if_neg (by omega), if_neg (by omega)])]
  unfold exQ exK score
  rw [Finset.sum_mul, Finset.sum_congr rfl fun d _ => show q r (64 * h + d) * (1 / 8) * k j (64 * h + d) = q r (64 * h + d) * k j (64 * h + d) * (1 / 8) by ring]
  generalize ∑ d ∈ Finset.range 64, q r (64 * h + d) * k j (64 * h + d) * (1 / 8) = X
  norm_num
  ring

theorem dprob_lanes (h r j : ℕ) : sc (lanes (128 * h) (ct q k v C g)) (lanes (128 * h) (va v)) r j = dprob v g h r j - delta q k v C g h r := by
  rw [sc_head _ _ _ _ _ _ h r j (fun l hl => ct_head q k v C g h r l hl) (fun l hl => laneArr_head _ _ h j l hl)
    (fun y hy => by rw [if_neg (by omega)])]
  unfold exV dprob
  generalize ∑ d ∈ Finset.range 64, g r (64 * h + d) * v j (64 * h + d) = X
  norm_num
  ring

theorem sc_comm (P K : ℕ → ℕ → ℝ) (r j : ℕ) : sc P K r j = sc K P j r := by
  unfold sc; exact Finset.sum_congr rfl fun l _ => mul_comm _ _

theorem exp_shifted (h r j : ℕ) : Real.exp (score q k C h r j - Real.log (rowSum q k C h r)) = prob q k C h r j := by
  rw [Real.exp_sub, Real.exp_log (rowSum_pos q k C h r)]; rfl

/-- The lane of an output column in its head: its own, and the first spare ones. -/
theorem own_lane (n : ℕ) (a e : ℕ → ℝ) : hx (n / 64) (n % 128) a e = a (n % 64) := by
  unfold hx
  split_ifs with hp h6 h6
  · rw [show n % 128 = n % 64 by omega]
  · omega
  · omega
  · rw [show n % 128 - 64 = n % 64 by omega]

theorem spare_lane (n y : ℕ) (hy : y < 64) (a e : ℕ → ℝ) : hx (n / 64) (sp n + y) a e = e y := by
  unfold hx sp
  split_ifs with hp h6 h6 h7 h8 h9 <;> first | omega | (congr 1; omega)

theorem ws_own (r n : ℕ) : ws (qa q C) (ka k C) (va v) r n (n % 128) = ∑ j ∈ Finset.range (r + 1), Real.exp (score q k C (n / 64) r j) * v j n := by
  unfold ws wsum hd
  refine Finset.sum_congr rfl fun j _ => ?_
  rw [score_lanes, laneArr_head _ _ _ _ _ (by omega), own_lane, show 64 * (n / 64) + n % 64 = n by omega]

theorem ws_spare (r n : ℕ) : ws (qa q C) (ka k C) (va v) r n (sp n) = rowSum q k C (n / 64) r := by
  unfold ws wsum hd rowSum
  refine Finset.sum_congr rfl fun j _ => ?_
  have hs : sp n < 128 := by unfold sp; split_ifs <;> omega
  rw [score_lanes, laneArr_head _ _ _ _ _ hs, show sp n = sp n + 0 from rfl, spare_lane n 0 (by omega)]
  unfold exV
  rw [if_pos (by omega), mul_one]

theorem out_eq (r n : ℕ) : ws (qa q C) (ka k C) (va v) r n (n % 128) / ws (qa q C) (ka k C) (va v) r n (sp n) = out q k v C r n := by
  rw [ws_own, ws_spare]
  unfold out prob
  rw [Finset.sum_div]
  exact Finset.sum_congr rfl fun j _ => by ring

/-- A weighted term of the two backward calls. -/
theorem wt_q (h r j : ℕ) : wt (lanes (128 * h) (qb q k C)) (lanes (128 * h) (ct q k v C g)) (lanes (128 * h) (ka k C)) (lanes (128 * h) (va v)) r j
    = dscore q k v C g h r j := by
  unfold wt
  rw [shifted_lanes, dprob_lanes, exp_shifted]; rfl

theorem wt_k (h r j : ℕ) : wt (lanes (128 * h) (ka k C)) (lanes (128 * h) (va v)) (lanes (128 * h) (qb q k C)) (lanes (128 * h) (ct q k v C g)) r j
    = dscore q k v C g h j r := by
  unfold wt
  rw [sc_comm, shifted_lanes, sc_comm (lanes (128 * h) (va v)), dprob_lanes, exp_shifted]; rfl

theorem dq_eq (r n : ℕ) : qg (qa q C) (lseOf q k C) (out q k v C) g (ka k C) (va v) r n (n % 128) * (1 / 8) = dQ q k v C g r n := by
  unfold qg dsum dQ hd
  refine congrArg (· * (1 / 8 : ℝ)) (Finset.sum_congr rfl fun j _ => ?_)
  rw [wt_q q k v C g, laneArr_head _ _ _ _ _ (by omega), own_lane, show 64 * (n / 64) + n % 64 = n by omega]

theorem rs_eq (r n : ℕ) : qg (qa q C) (lseOf q k C) (out q k v C) g (ka k C) (va v) r n (sp n) = dRow q k v C g r n := by
  unfold qg dsum dRow hd
  refine Finset.sum_congr rfl fun j _ => ?_
  have hs : sp n < 128 := by unfold sp; split_ifs <;> omega
  rw [wt_q q k v C g, laneArr_head _ _ _ _ _ hs, show sp n = sp n + 0 from rfl, spare_lane n 0 (by omega)]
  unfold exK
  rw [if_pos (by omega), mul_one]

theorem dk_eq (r n : ℕ) : kg (ka k C) (va v) (qb q k C) (ct q k v C g) r n (n % 128) = dK q k v C g r n := by
  unfold kg ksum dK hd
  rw [Finset.sum_mul]
  refine Finset.sum_congr rfl fun j _ => ?_
  rw [wt_k, qb_head _ _ _ _ _ _ (by omega), own_lane, show 64 * (n / 64) + n % 64 = n by omega]
  ring

theorem cs_eq (r n : ℕ) : kg (ka k C) (va v) (qb q k C) (ct q k v C g) r n (sp n + 3) = dCol q k v C g r n := by
  unfold kg ksum dCol hd
  refine Finset.sum_congr rfl fun j _ => ?_
  have hs : sp n + 3 < 128 := by unfold sp; split_ifs <;> omega
  rw [wt_k, qb_head _ _ _ _ _ _ hs, spare_lane n 3 (by omega)]
  unfold exQ
  norm_num

theorem dv_eq (r n : ℕ) : vg (ka k C) (qb q k C) (ct q k v C g) r n (n % 128) = dV q k C g r n := by
  unfold vg vsum dV hd
  refine Finset.sum_congr rfl fun j _ => ?_
  rw [sc_comm, shifted_lanes, exp_shifted, ct_head _ _ _ _ _ _ _ _ (by omega), own_lane, show 64 * (n / 64) + n % 64 = n by omega]

end Cert.FoxKernelIdeal.Fox

end
-- ==== Proof.Fox.Run.lean ====
module

public import proofs.«01_k».proof.Proof.Gen.FoxKernelIdeal.Frame

/-! The run of the three attention calls with what its results hold. -/

@[expose] public section

set_option maxRecDepth 16384

noncomputable section

namespace Cert.FoxKernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FoxKernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! Each result at the end, as the array its region leaves. -/

theorem W7_main_v74_2 (c : Dev nD) : W7 m ρ c (Proc.devRef .tc main_v74_2) = (dat0 (V4 m ρ) c).arrAt 5 cfg0.N :=
  (W7_of_ne m ρ c main_v74_2 (by decide)).trans ((W6_of_ne m ρ c main_v74_2 (by decide)).trans (W5_arr m ρ c 5))

theorem W7_main_v75_0 (c : Dev nD) : W7 m ρ c (Proc.devRef .tc main_v75_0) = (dat1 (V5 m ρ) c).arrAt 6 cfg1.N :=
  (W7_of_ne m ρ c main_v75_0 (by decide)).trans (W6_arr m ρ c 6)

theorem W7_main_v76_0 (c : Dev nD) : W7 m ρ c (Proc.devRef .tc main_v76_0) = (dat2 (V6 m ρ) c).arrAt 4 cfg2.N :=
  W7_arr m ρ c 4

theorem W7_main_v76_1 (c : Dev nD) : W7 m ρ c (Proc.devRef .tc main_v76_1) = (dat2 (V6 m ρ) c).arrAt 5 cfg2.N :=
  W7_arr m ρ c 5

theorem W7_main_v75_1 (c : Dev nD) : W7 m ρ c (Proc.devRef .tc main_v75_1) = (dat1 (V5 m ρ) c).arrAt 7 cfg1.N :=
  (W7_of_ne m ρ c main_v75_1 (by decide)).trans (W6_arr m ρ c 7)

theorem W7_main_v76_2 (c : Dev nD) : W7 m ρ c (Proc.devRef .tc main_v76_2) = (dat2 (V6 m ρ) c).arrAt 6 cfg2.N :=
  W7_arr m ρ c 6

set_option maxHeartbeats 2000000 in
set_option backward.isDefEq.respectTransparency.types false in
/-- Every run ends with each result at its region's array and the arguments as launched. -/
theorem run : θ_run defs (onTc (τ := τ) (main (F := F))) ⟨m, fun _ => 0, ρ⟩ (fun r => ∀ c : Dev nD,
      r.2.mem ((c.tc : Thread nD τ).loc main_v74_2) = (dat0 (V4 m ρ) c).arrAt 5 cfg0.N
      ∧ r.2.mem ((c.tc : Thread nD τ).loc main_v75_0) = (dat1 (V5 m ρ) c).arrAt 6 cfg1.N
      ∧ r.2.mem ((c.tc : Thread nD τ).loc main_v76_0) = (dat2 (V6 m ρ) c).arrAt 4 cfg2.N
      ∧ r.2.mem ((c.tc : Thread nD τ).loc main_v76_1) = (dat2 (V6 m ρ) c).arrAt 5 cfg2.N
      ∧ r.2.mem ((c.tc : Thread nD τ).loc main_v75_1) = (dat1 (V5 m ρ) c).arrAt 7 cfg1.N
      ∧ r.2.mem ((c.tc : Thread nD τ).loc main_v76_2) = (dat2 (V6 m ρ) c).arrAt 6 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => fun c => ⟨
      (h c _ (mem_uc main_v74_2 (by decide))).trans (W7_main_v74_2 m ρ c),
      (h c _ (mem_uc main_v75_0 (by decide))).trans (W7_main_v75_0 m ρ c),
      (h c _ (mem_uc main_v76_0 (by decide))).trans (W7_main_v76_0 m ρ c),
      (h c _ (mem_uc main_v76_1 (by decide))).trans (W7_main_v76_1 m ρ c),
      (h c _ (mem_uc main_v75_1 (by decide))).trans (W7_main_v75_1 m ρ c),
      (h c _ (mem_uc main_v76_2 (by decide))).trans (W7_main_v76_2 m ρ c),
      (h c _ (mem_uc main_arg0 (by decide))).trans (W7_args m ρ c main_arg0 (by decide)),
      (h c _ (mem_uc main_arg1 (by decide))).trans (W7_args m ρ c main_arg1 (by decide)),
      (h c _ (mem_uc main_arg2 (by decide))).trans (W7_args m ρ c main_arg2 (by decide)),
      (h c _ (mem_uc main_arg3 (by decide))).trans (W7_args m ρ c main_arg3 (by decide)),
      (h c _ (mem_uc main_arg4 (by decide))).trans (W7_args m ρ c main_arg4 (by decide)),
      (h c _ (mem_uc main_arg5 (by decide))).trans (W7_args m ρ c main_arg5 (by decide))⟩)

end Cert.FoxKernelIdeal.Fox

end
-- ==== Proof.Fox.Prep.lean ====
module

public import proofs.«01_k».proof.Proof.Fox.Spec
public import proofs.«01_k».proof.Proof.Fox.Run
public import Idealize.ShloMosaic.Lib.Claim
public import Idealize.ShloMosaic.Lib.StableHlo.RunRead

/-! What the calls' operands hold when the first call is entered, from real arguments. -/

@[expose] public section

set_option maxRecDepth 16384

noncomputable section

namespace Cert.FoxKernelIdeal.Fox

open Idealize.ShloMosaic Idealize.ShloMosaic.TcCoe Idealize.SL.Sem
open Cert.FoxKernelIdeal.Gen Cert.Fox

variable (m : (ℓ : Loc nD τ sig) → Buf (Elt Ideal) ℓ) (ρ : Dev nD → PrngReg) (c : Dev nD)

/-- The heads of an array beside 64 spare lanes for each. -/
def beside (x : Vec Ideal S4096x512 .f32) (e : Vec Ideal S4096x8x64 .f32) : Vec Ideal S4096x1024 .bf16 :=
  (truncf .bf16 (shapeCast S4096x1024 (concatenate S4096x4x256 2
    [⟨S4096x4x64, shapeCast S4096x4x64 (extractStridedSlice S4096x4x1x64 ![0, 0, 0, 0] (shapeCast S4096x4x2x64 x shapeCasts_S4096x512_S4096x4x2x64)
      slices_S4096x4x2x64_S4096x4x1x64_0_0_0_0) shapeCasts_S4096x4x1x64_S4096x4x64⟩,
     ⟨S4096x4x64, shapeCast S4096x4x64 (extractStridedSlice S4096x4x1x64 ![0, 0, 0, 0] (shapeCast S4096x4x2x64 e shapeCasts_S4096x8x64_S4096x4x2x64)
      slices_S4096x4x2x64_S4096x4x1x64_0_0_0_0) shapeCasts_S4096x4x1x64_S4096x4x64⟩,
     ⟨S4096x4x64, shapeCast S4096x4x64 (extractStridedSlice S4096x4x1x64 ![0, 0, 1, 0] (shapeCast S4096x4x2x64 e shapeCasts_S4096x8x64_S4096x4x2x64)
      slices_S4096x4x2x64_S4096x4x1x64_0_0_1_0) shapeCasts_S4096x4x1x64_S4096x4x64⟩,
     ⟨S4096x4x64, shapeCast S4096x4x64 (extractStridedSlice S4096x4x1x64 ![0, 0, 1, 0] (shapeCast S4096x4x2x64 x shapeCasts_S4096x512_S4096x4x2x64)
      slices_S4096x4x2x64_S4096x4x1x64_0_0_1_0) shapeCasts_S4096x4x1x64_S4096x4x64⟩]
    concatenates_S4096x4x64_S4096x4x64_S4096x4x64_S4096x4x64_S4096x4x256_d2) shapeCasts_S4096x4x256_S4096x1024 : FVec Ideal S4096x1024 .f32) bitsLt_bf16_f32)

theorem beside_apply (x : Vec Ideal S4096x512 .f32) (e : Vec Ideal S4096x8x64 .f32) (X : ℕ → ℕ → ℝ) (E : ℕ → ℕ → ℕ → ℝ)
    (hx : Holds (n := 4096) (d := 512) x X) (he : ∀ r h y, e (ix3 r h y) = ((E r h y : ℝ) : EReal)) :
    Holds (n := 4096) (d := 1024) (beside x e) (laneArr X E) := by
  intro r l
  have hl := l.isLt
  have w0 (h : (l : ℕ) % 256 / 64 = 0) : laneArr X E r l = X r (l / 256 * 128 + l % 256) := by
    unfold laneArr; rw [if_pos h]; exact congrArg (X r) (by omega)
  have w1 (h : (l : ℕ) % 256 / 64 = 1) : laneArr X E r l = E r (l / 256 * 2) (l % 256 - 64) := by
    unfold laneArr; rw [if_neg (by omega), if_pos h]; exact congrArg₂ (E r) (by omega) (by omega)
  have w2 (h : (l : ℕ) % 256 / 64 = 2) : laneArr X E r l = E r (l / 256 * 2 + 1) (l % 256 - 64 - 64) := by
    unfold laneArr; rw [if_neg (by omega), if_neg (by omega), if_pos h]; exact congrArg₂ (E r) (by omega) (by omega)
  have w3 (h : (l : ℕ) % 256 / 64 = 3) : laneArr X E r l = X r (l / 256 * 128 + 64 + (l % 256 - 64 - 64 - 64)) := by
    unfold laneArr; rw [if_neg (by omega), if_neg (by omega), if_neg (by omega)]; exact congrArg (X r) (by omega)
  generalize laneArr X E r l = z at w0 w1 w2 w3 ⊢
  unfold beside
  pointwise
  by_cases h0 : (l : ℕ) % 256 < 64
  · exact (dif_pos h0).trans ((hx _ _).trans (congrArg _ (w0 (by omega)).symm))
  · refine (dif_neg h0).trans ?_
    by_cases h1 : (l : ℕ) % 256 - 64 < 64
    · exact (dif_pos h1).trans ((he _ _ _).trans (congrArg _ (w1 (by omega)).symm))
    · refine (dif_neg h1).trans ?_
      by_cases h2 : (l : ℕ) % 256 - 64 - 64 < 64
      · exact (dif_pos h2).trans ((he _ _ _).trans (congrArg _ (w2 (by omega)).symm))
      · exact (dif_neg h2).trans ((hx _ _).trans (congrArg _ (w3 (by omega)).symm))

/-- The decay in three words, and what it leaves out. -/
def hi (c : Vec Ideal S4096x8 .f32) : Vec Ideal S4096x8 .f32 := extf (F := Ideal) .f32 (truncf (F := Ideal) .bf16 c bitsLt_bf16_f32) bitsLt_bf16_f32
def rest (c : Vec Ideal S4096x8 .f32) : Vec Ideal S4096x8 .f32 := subf (F := Ideal) (φ := .f32) c (hi c)
def lane1 (c : Vec Ideal S4096x8 .f32) : Vec Ideal S4096x8x1 .f32 := broadcastInDim S4096x8x1 ![0, 1] bcast_S4096x8_S4096x8x1_0_1 c
def one3 : Vec Ideal S4096x8x3 .f32 := broadcastInDim S4096x8x3 ![] bcast_S_S4096x8x3 (constant (F := Ideal) S_ .f32 0x3F800000#32)

def spareQ (c : Vec Ideal S4096x8 .f32) : Vec Ideal S4096x8x64 .f32 :=
  concatenate S4096x8x64 2 [⟨S4096x8x1, lane1 (hi c)⟩, ⟨S4096x8x1, lane1 (hi (rest c))⟩, ⟨S4096x8x1, lane1 (hi (rest (rest c)))⟩,
    ⟨S4096x8x3, one3⟩, ⟨S4096x8x58, broadcastInDim S4096x8x58 ![] bcast_S_S4096x8x58 (constant (F := Ideal) S_ .f32 0x00000000#32)⟩]
    concatenates_S4096x8x1_S4096x8x1_S4096x8x1_S4096x8x3_S4096x8x58_S4096x8x64_d2
def spareK (c : Vec Ideal S4096x8 .f32) : Vec Ideal S4096x8x64 .f32 :=
  concatenate S4096x8x64 2 [⟨S4096x8x3, one3⟩, ⟨S4096x8x1, Host.negf (F := Ideal) (φ := .f32) (lane1 (hi c))⟩, ⟨S4096x8x1, Host.negf (F := Ideal) (φ := .f32) (lane1 (hi (rest c)))⟩,
    ⟨S4096x8x1, Host.negf (F := Ideal) (φ := .f32) (lane1 (hi (rest (rest c))))⟩,
    ⟨S4096x8x3, one3⟩, ⟨S4096x8x55, broadcastInDim S4096x8x55 ![] bcast_S_S4096x8x55 (constant (F := Ideal) S_ .f32 0x00000000#32)⟩]
    concatenates_S4096x8x3_S4096x8x1_S4096x8x1_S4096x8x1_S4096x8x3_S4096x8x55_S4096x8x64_d2
def spareV : Vec Ideal S4096x8x64 .f32 :=
  concatenate S4096x8x64 2 [⟨S4096x8x3, one3⟩, ⟨S4096x8x61, broadcastInDim S4096x8x61 ![] bcast_S_S4096x8x61 (constant (F := Ideal) S_ .f32 0x00000000#32)⟩]
    concatenates_S4096x8x3_S4096x8x61_S4096x8x64_d2

theorem hi_eq (c : Vec Ideal S4096x8 .f32) : hi c = c := rfl

theorem rest_apply (c : Vec Ideal S4096x8 .f32) (C : ℕ → ℕ → ℝ) (h : Holds (n := 4096) (d := 8) c C) : Holds (n := 4096) (d := 8) (rest c) (fun _ _ => 0) := by
  intro r l
  unfold rest
  rw [hi_eq]
  show c (ix2 r l) - c (ix2 r l) = _
  rw [h, ← EReal.coe_sub, sub_self]

theorem spareQ_apply (c : Vec Ideal S4096x8 .f32) (C : ℕ → ℕ → ℝ) (h : Holds (n := 4096) (d := 8) c C) (r : Fin 4096) (p : Fin 8) (y : Fin 64) :
    spareQ c (ix3 r p y) = ((exQ C r p y : ℝ) : EReal) := by
  have h1 := rest_apply c C h
  have h2 := rest_apply _ _ h1
  unfold spareQ lane1 one3
  simp only [hi_eq]
  pointwise
  unfold exQ
  split_ifs <;> first | omega | exact h r p | exact h1 r p | exact h2 r p | norm_num

theorem spareK_apply (c : Vec Ideal S4096x8 .f32) (C : ℕ → ℕ → ℝ) (h : Holds (n := 4096) (d := 8) c C) (r : Fin 4096) (p : Fin 8) (y : Fin 64) :
    spareK c (ix3 r p y) = ((exK C r p y : ℝ) : EReal) := by
  have h0 : -c (ix2 r p) = ((-C r p : ℝ) : EReal) := by rw [h, EReal.coe_neg]
  have h1 := rest_apply c C h
  have h2 := rest_apply _ _ h1
  have h1' : -rest c (ix2 r p) = ((0 : ℝ) : EReal) := by rw [h1]; simp
  have h2' : -rest (rest c) (ix2 r p) = ((0 : ℝ) : EReal) := by rw [h2]; simp
  unfold spareK lane1 one3
  simp only [hi_eq]
  pointwise
  unfold exK
  split_ifs <;> first | omega | exact h0 | exact h1' | exact h2' | norm_num

theorem spareV_apply (r : Fin 4096) (p : Fin 8) (y : Fin 64) : spareV (ix3 r p y) = ((exV r p y : ℝ) : EReal) := by
  unfold spareV one3
  pointwise
  unfold exV
  split_ifs <;> first | omega | norm_num

theorem read34 (W : Valuation τ sig (Elt Ideal)) : StableHlo.after hostOps0_3 W (Proc.devRef .tc main_v34) =
    beside (mulf (F := Ideal) (φ := .f32) (extf (F := Ideal) .f32 (truncf (F := Ideal) .bf16 (W (Proc.devRef .tc main_arg0)) bitsLt_bf16_f32) bitsLt_bf16_f32)
      (broadcastInDim S4096x512 ![] bcast_S_S4096x512 (constant (F := Ideal) S_ .f32 0x3E000000#32))) (spareQ (W (Proc.devRef .tc main_v3))) := by
  after_reads_simp
  rfl

theorem read54 (W : Valuation τ sig (Elt Ideal)) : StableHlo.after hostOps0_3 W (Proc.devRef .tc main_v54) =
    beside (extf (F := Ideal) .f32 (truncf (F := Ideal) .bf16 (W (Proc.devRef .tc main_arg1)) bitsLt_bf16_f32) bitsLt_bf16_f32)
      (spareK (W (Proc.devRef .tc main_v3))) := by
  after_reads_simp
  rfl

theorem read71 (W : Valuation τ sig (Elt Ideal)) : StableHlo.after hostOps0_3 W (Proc.devRef .tc main_v71) =
    beside (extf (F := Ideal) .f32 (truncf (F := Ideal) .bf16 (W (Proc.devRef .tc main_arg2)) bitsLt_bf16_f32) bitsLt_bf16_f32) spareV := by
  after_reads_simp
  rfl

theorem read73 (W : Valuation τ sig (Elt Ideal)) : StableHlo.after hostOps0_3 W (Proc.devRef .tc main_v73) =
    concatenate S4096x1024 1 [⟨S4096x512, broadcastInDim S4096x512 ![] bcast_S_S4096x512 (constant (F := Ideal) S_ .f32 0x00000000#32)⟩,
      ⟨S4096x512, W (Proc.devRef .tc main_arg5)⟩] concatenates_S4096x512_S4096x512_S4096x1024_d1 := by
  after_reads_simp
  rfl

end Cert.FoxKernelIdeal.Fox

end
-- ==== Proof.Fox.RefFwd.lean ====
module

public import proofs.«01_k».proof.Proof.Fox.Spec
public import proofs.«01_k».proof.Proof.Reals
public import proofs.«01_k».proof.Proof.Gen.FoxReferenceIdeal.Read
public import Idealize.ShloMosaic.Lib.Claim

/-! The reference's scores, weights and output, from real arguments. -/

@[expose] public section

set_option maxRecDepth 16384

noncomputable section

namespace Cert.FoxReferenceIdeal.Fox

open Idealize.ShloMosaic Idealize.ShloMosaic.TcCoe Idealize.SL.Sem
open Cert.FoxReferenceIdeal.Read Cert.FoxKernelIdeal.Fox

variable (x0 x1 x2 x5 : (⟨S4096x512, .f32⟩ : BufTy).Contents (Elt Ideal)) (x3 : (⟨S4096x8, .f32⟩ : BufTy).Contents (Elt Ideal))
  (x4 : (⟨S1x8, .f32⟩ : BufTy).Contents (Elt Ideal))

theorem neg_inf : Ideal.ofBits .f32 0xFF800000#32 = ⊥ := by
  simp [Ideal.ofBits, Ideal.ieee]

/-- An array of three axes holds a real function of its indices. -/
def Holds3 {a b c : ℕ} (x : Shape.Idx ⟨3, ![a, b, c]⟩ → EReal) (X : ℕ → ℕ → ℕ → ℝ) : Prop := ∀ i j k, x (ix3 i j k) = ((X i j k : ℝ) : EReal)

theorem sum_fin (n : ℕ) (f : ℕ → ℝ) : ∑ x : Fin n, ((f x : ℝ) : EReal) = ((∑ j ∈ Finset.range n, f j : ℝ) : EReal) := by
  rw [Finset.sum_range, Cert.Reals.coe_sum]

/-- A sum over all columns of what is zero right of the diagonal; over all rows of what is zero above it. -/
theorem sum_below (r : ℕ) (hr : r < 4096) (f : ℕ → ℝ) :
    ∑ j ∈ Finset.range 4096, (if j ≤ r then f j else 0) = ∑ j ∈ Finset.range (r + 1), f j := by
  rw [← Finset.sum_filter]
  exact Finset.sum_congr (by ext j; simp only [Finset.mem_filter, Finset.mem_range]; omega) fun _ _ => rfl

theorem sum_above (j : ℕ) (f : ℕ → ℝ) :
    ∑ i ∈ Finset.range 4096, (if j ≤ i then f i else 0) = ∑ i ∈ Finset.Ico j 4096, f i := by
  rw [← Finset.sum_filter]
  exact Finset.sum_congr (by ext i; simp only [Finset.mem_filter, Finset.mem_range, Finset.mem_Ico]; omega) fun _ _ => rfl

section Stages

variable {q k v C g : ℕ → ℕ → ℝ}

theorem v17_at (h0 : Holds (n := 4096) (d := 512) x0 q) (h1 : Holds (n := 4096) (d := 512) x1 k) (hC : Holds (n := 4096) (d := 8) (val_main_v3 (F := Ideal) x3 x4) C) :
    Holds3 (a := 8) (b := 4096) (c := 4096) (val_main_v17 (F := Ideal) x0 x1 x3 x4) (score q k C) := by
  intro h r j
  have hs : (∑ x : Fin 64, x0 (ix2 r (⟨h * 64 + x, by omega⟩ : Fin 512)) * x1 (ix2 j (⟨h * 64 + x, by omega⟩ : Fin 512)))
      = ((∑ d ∈ Finset.range 64, q r (64 * h + d) * k j (64 * h + d) : ℝ) : EReal) := by
    rw [← sum_fin]
    refine Finset.sum_congr rfl fun x _ => ?_
    rw [h0, h1, ← EReal.coe_mul]
    simp only [mul_comm (h : ℕ) 64]
  pointwise [val_main_v17, val_main_v13, val_main_v9, val_main_v7, val_main_v8, val_main_cst, val_main_v12, val_main_v11, val_main_v10, val_main_v16, val_main_v15, val_main_v14,
    val_main_v4, val_main_v5]
  rw [hs, hC, hC, eighth, ← EReal.coe_mul, ← EReal.coe_add, ← EReal.coe_sub]
  rfl

theorem v24_at (h0 : Holds (n := 4096) (d := 512) x0 q) (h1 : Holds (n := 4096) (d := 512) x1 k) (hC : Holds (n := 4096) (d := 8) (val_main_v3 (F := Ideal) x3 x4) C)
    (h : Fin 8) (r j : Fin 4096) : val_main_v24_0 (F := Ideal) x0 x1 x3 x4 (ix3 h r j) = if (j : ℕ) ≤ r then ((score q k C h r j : ℝ) : EReal) else ⊥ := by
  have hc := v17_at x0 x1 x3 x4 h0 h1 hC h r j
  pointwise [val_main_v24_0, val_main_v24_1, val_main_v23, val_main_v22, val_main_v21, val_main_v20, val_main_v19, val_main_v18, val_main_call2_v2, val_main_call2_v0, val_main_cst_0]
  rw [hc, WordCmp.cmpi_sle_ofNat (by omega) (by omega)]
  show Scalar.select _ _ (Ideal.ofBits .f32 0xFF800000#32) = _
  rw [neg_inf]
  split_ifs with hj <;> simp [hj, Scalar.select]

theorem v32_at (h0 : Holds (n := 4096) (d := 512) x0 q) (h1 : Holds (n := 4096) (d := 512) x1 k) (hC : Holds (n := 4096) (d := 8) (val_main_v3 (F := Ideal) x3 x4) C)
    (h : Fin 8) (r : Fin 4096) : ∃ M : ℝ, val_main_v32 (F := Ideal) x0 x1 x3 x4 (ix2 h r) = M := by
  have hc := v24_at x0 x1 x3 x4 h0 h1 hC h r
  rw [val_main_v32_apply]
  unfold val_main_v25
  generalize val_main_v24_0 (F := Ideal) x0 x1 x3 x4 = c at hc
  rw [Host.reduce_eq_fold_single (FloatOps.maximumf (F := Ideal) (φ := .f32)) c _ _ (by decide) _ (ix2 h r)]
  have e31 : val_main_v31 (F := Ideal) (ix2 h r) = ⊥ := by
    rw [val_main_v31_apply, val_main_cst_3_apply]; exact neg_inf
  have e1 : val_main_cst_1 (F := Ideal) (Shape.Idx.first Gen.h_S_) = ⊥ := by
    rw [val_main_cst_1_apply]; exact neg_inf
  rw [e31, e1]
  set f := c ∘ _ with hf
  have hfj (j : Fin 4096) : f j = if (j : ℕ) ≤ r then ((score q k C h r j : ℝ) : EReal) else ⊥ := by
    rw [← hc j, hf]
    refine congrArg c (funext fun a => Fin.ext ?_)
    fin_cases a <;> rfl
  clear_value f
  have hb : ⊥ < Finset.univ.fold max (⊥ : EReal) f := by
    rw [Finset.lt_fold_max]
    exact .inr ⟨(⟨0, by decide⟩ : Fin 4096), Finset.mem_univ _, by rw [hfj, if_pos (Nat.zero_le _)]; exact EReal.bot_lt_coe _⟩
  have ht : Finset.univ.fold max (⊥ : EReal) f < ⊤ := by
    rw [Finset.fold_max_lt]
    refine ⟨bot_lt_top, fun j _ => ?_⟩
    refine lt_of_eq_of_lt (hfj j) ?_
    split_ifs
    · exact EReal.coe_lt_top _
    · exact bot_lt_top
  refine ⟨(Finset.univ.fold max (⊥ : EReal) f).toReal, ?_⟩
  rw [EReal.coe_toReal ht.ne hb.ne']
  exact max_eq_right bot_le

/-- A row's weights before their sum divides them, `M` the row's maximum. -/
def weight (q k C : ℕ → ℕ → ℝ) (M : ℕ → ℕ → ℝ) (h r j : ℕ) : ℝ := if j ≤ r then Real.exp (score q k C h r j - M h r) else 0
def probM (q k C : ℕ → ℕ → ℝ) (h r j : ℕ) : ℝ := if j ≤ r then prob q k C h r j else 0

theorem weight_sum (M : ℕ → ℕ → ℝ) (h r : ℕ) (hr : r < 4096) :
    ∑ j ∈ Finset.range 4096, weight q k C M h r j = Real.exp (-M h r) * rowSum q k C h r := by
  unfold weight rowSum
  rw [sum_below r hr, Finset.mul_sum]
  refine Finset.sum_congr rfl fun j _ => ?_
  rw [← Real.exp_add]; ring_nf

theorem weight_div (M : ℕ → ℕ → ℝ) (h r j : ℕ) : weight q k C M h r j / (Real.exp (-M h r) * rowSum q k C h r) = probM q k C h r j := by
  unfold weight probM prob
  split_ifs
  · rw [sub_eq_neg_add, Real.exp_add, mul_div_mul_left _ _ (Real.exp_pos _).ne']
  · exact zero_div _

theorem delta_eq (q k v C g : ℕ → ℕ → ℝ) (h r : ℕ) (hr : r < 4096) :
    ∑ j ∈ Finset.range 4096, dprob v g h r j * probM q k C h r j = delta q k v C g h r := by
  unfold dprob delta
  simp only [Finset.sum_mul]
  rw [Finset.sum_comm]
  refine Finset.sum_congr rfl fun d hd => ?_
  have hd := Finset.mem_range.mp hd
  unfold out
  rw [show (64 * h + d) / 64 = h by omega, ← sum_below r hr, Finset.mul_sum]
  refine Finset.sum_congr rfl fun j _ => ?_
  unfold probM
  split_ifs <;> ring

section Max

variable {M : ℕ → ℕ → ℝ} (h0 : Holds (n := 4096) (d := 512) x0 q) (h1 : Holds (n := 4096) (d := 512) x1 k) (hC : Holds (n := 4096) (d := 8) (val_main_v3 (F := Ideal) x3 x4) C)
  (hM : Holds (n := 8) (d := 4096) (val_main_v32 (F := Ideal) x0 x1 x3 x4) M)

include h0 h1 hC hM

theorem v45_at : Holds3 (a := 8) (b := 4096) (c := 4096) (val_main_v45 (F := Ideal) x0 x1 x3 x4) (weight q k C M) := by
  intro h r j
  have hc := v24_at x0 x1 x3 x4 h0 h1 hC h r j
  pointwise [val_main_v45, val_main_v44, val_main_v43, val_main_v42]
  rw [hc, hM]
  unfold weight
  split_ifs
  · rw [← EReal.coe_sub, Ideal.exp_coe]
  · rw [EReal.bot_sub, Ideal.exp_bot, EReal.coe_zero]

theorem v46_at : Holds (n := 8) (d := 4096) (val_main_v46 (F := Ideal) x0 x1 x3 x4) (fun h r => Real.exp (-M h r) * rowSum q k C h r) := by
  intro h r
  have hc := v45_at x0 x1 x3 x4 h0 h1 hC hM
  pointwise [val_main_v46, val_main_cst_9]
  simp only [hc h r _]
  rw [sum_fin, weight_sum M h r r.isLt]

theorem v49_at : Holds3 (a := 8) (b := 4096) (c := 4096) (val_main_v49 (F := Ideal) x0 x1 x3 x4) (probM q k C) := by
  intro h r j
  have hc := v45_at x0 x1 x3 x4 h0 h1 hC hM
  have hs := v46_at x0 x1 x3 x4 h0 h1 hC hM
  pointwise [val_main_v49, val_main_v48, val_main_v47]
  rw [hc, hs, Ideal.div_coe (mul_pos (Real.exp_pos _) (rowSum_pos q k C h r)).ne', ← EReal.coe_mul, mul_one_div, weight_div]

theorem v92_at {v : ℕ → ℕ → ℝ} (h2 : Holds (n := 4096) (d := 512) x2 v) :
    Holds (n := 4096) (d := 512) (val_main_v92 (F := Ideal) x0 x1 x2 x3 x4) (out q k v C) := by
  intro r n
  have hc := v49_at x0 x1 x3 x4 h0 h1 hC hM
  pointwise [val_main_v92, val_main_v55, val_main_v54, val_main_v53, val_main_v6]
  simp only [h2 _ n, hc _ r _, ← EReal.coe_mul]
  rw [sum_fin 4096 fun x => v x n * probM q k C (n / 64) r x]
  unfold out
  rw [← sum_below r r.isLt]
  refine congrArg _ (Finset.sum_congr rfl fun j _ => ?_)
  unfold probM
  split_ifs <;> ring

variable {v g : ℕ → ℕ → ℝ} (h2 : Holds (n := 4096) (d := 512) x2 v) (h5 : Holds (n := 4096) (d := 512) x5 g)

include h2 h5

theorem v95_at : Holds (n := 4096) (d := 512) (val_main_v95 (F := Ideal) x0 x1 x3 x4 x5) (dV q k C g) := by
  intro r n
  have hc := v49_at x0 x1 x3 x4 h0 h1 hC hM
  pointwise [val_main_v95, val_main_v89, val_main_v60, val_main_v59, val_main_v57, val_main_v56]
  simp only [h5 _ n, hc _ _ r, ← EReal.coe_mul]
  rw [sum_fin 4096 fun x => g x n * probM q k C (n / 64) x r]
  unfold dV
  rw [← sum_above]
  refine congrArg _ (Finset.sum_congr rfl fun j _ => ?_)
  unfold probM
  split_ifs <;> ring

theorem v58_at : Holds3 (a := 8) (b := 4096) (c := 4096) (val_main_v58 (F := Ideal) x2 x5) (dprob v g) := by
  intro h r j
  pointwise [val_main_v58, val_main_v57, val_main_v56, val_main_v6]
  unfold dprob
  rw [← sum_fin]
  refine Finset.sum_congr rfl fun x _ => ?_
  rw [h5, h2, ← EReal.coe_mul]
  simp only [mul_comm (h : ℕ) 64]

theorem v64_at : Holds (n := 8) (d := 4096) (val_main_v64 (F := Ideal) x0 x1 x2 x3 x4 x5) (fun h r => delta q k v C g h r / (Real.exp (-M h r) * rowSum q k C h r)) := by
  intro h r
  have hw := v45_at x0 x1 x3 x4 h0 h1 hC hM
  have hs := v46_at x0 x1 x3 x4 h0 h1 hC hM
  pointwise [val_main_v64, val_main_v63, val_main_v62, val_main_v61, val_main_v52, val_main_v51, val_main_cst_10, val_main_v50, val_main_v47, val_main_cst_11]
  have hp := v58_at x0 x1 x2 x5 x3 x4 h0 h1 hC hM h2 h5
  have hL := mul_pos (Real.exp_pos (-M h r)) (rowSum_pos q k C h r)
  simp only [hp h r _, hw h r _, hs h r]
  rw [← EReal.coe_mul, Ideal.div_coe (mul_pos hL hL).ne', one_mul]
  simp only [← EReal.coe_mul]
  rw [sum_fin 4096 fun x => dprob v g h r x * (1 / ((Real.exp (-M h r) * rowSum q k C h r) * (Real.exp (-M h r) * rowSum q k C h r))) * weight q k C M h r x,
    ← delta_eq q k v C g h r r.isLt, Finset.sum_div]
  refine congrArg _ (Finset.sum_congr rfl fun j _ => ?_)
  rw [← weight_div M]
  field_simp

theorem v73_at : Holds3 (a := 8) (b := 4096) (c := 4096) (val_main_v73 (F := Ideal) x0 x1 x2 x3 x4 x5)
    (fun h r j => if j ≤ r then dscore q k v C g h r j else 0) := by
  intro h r j
  have hw := v45_at x0 x1 x3 x4 h0 h1 hC hM
  have hs := v46_at x0 x1 x3 x4 h0 h1 hC hM
  pointwise [val_main_v73, val_main_call3_v0, val_main_call3_cst, val_main_v72, val_main_v71, val_main_v70, val_main_v69, val_main_cst_12, val_main_v68, val_main_v67, val_main_v66, val_main_v65, val_main_v47]
  have hp := v58_at x0 x1 x2 x5 x3 x4 h0 h1 hC hM h2 h5
  have hd := v64_at x0 x1 x2 x5 x3 x4 h0 h1 hC hM h2 h5
  have hL := mul_pos (Real.exp_pos (-M h r)) (rowSum_pos q k C h r)
  have hmask : val_main_v24_1 (F := Ideal) (ix3 h r j) = BitVec.ofBool (decide ((j : ℕ) ≤ r)) := by
    pointwise [val_main_v24_1, val_main_v23, val_main_v22, val_main_v21, val_main_v20, val_main_v19, val_main_v18]
    rw [WordCmp.cmpi_sle_ofNat (by omega) (by omega)]
  rw [hmask, hp, hs, hw, hd, Ideal.div_coe hL.ne']
  by_cases hj : (j : ℕ) ≤ r
  · have he : weight q k C M h r j = prob q k C h r j * (Real.exp (-M h r) * rowSum q k C h r) := by
      have := weight_div M (q := q) (k := k) (C := C) h r j
      unfold probM at this
      rw [if_pos hj] at this
      rw [← this, div_mul_cancel₀ _ hL.ne']
    rw [he, Fin.sum_univ_one, if_pos hj]
    simp only [hj, decide_true, BitVec.ofBool_true]
    show _ * _ = _
    rw [← EReal.coe_mul, ← EReal.coe_neg, ← EReal.coe_add, ← EReal.coe_mul]
    unfold dscore
    refine congrArg _ ?_
    generalize Real.exp (-M h r) * rowSum q k C h r = L at hL
    field_simp
    ring
  · rw [if_neg hj]
    simp only [hj, decide_false, BitVec.ofBool_false]
    rfl

theorem v97_at : Holds (n := 4096) (d := 512) (val_main_v97 (F := Ideal) x0 x1 x2 x3 x4 x5) (dRow q k v C g) := by
  intro r n
  have hc := v73_at x0 x1 x2 x5 x3 x4 h0 h1 hC hM h2 h5
  pointwise [val_main_v97, val_main_v96, val_main_v82, val_main_v81, val_main_v80, val_main_v79, val_main_cst_15, val_main_cst_16]
  rw [Fin.sum_univ_one]
  simp only [hc _ r _]
  rw [sum_fin 4096 fun x => if x ≤ (r : ℕ) then dscore q k v C g (n / 64) r x else 0, sum_below r r.isLt]
  rfl

theorem v100_at : Holds (n := 4096) (d := 512) (val_main_v100 (F := Ideal) x0 x1 x2 x3 x4 x5) (dCol q k v C g) := by
  intro r n
  have hc := v73_at x0 x1 x2 x5 x3 x4 h0 h1 hC hM h2 h5
  pointwise [val_main_v100, val_main_v99, val_main_v98, val_main_v78, val_main_v77, val_main_v76, val_main_v75, val_main_v74, val_main_cst_13, val_main_cst_14]
  rw [Fin.sum_univ_one]
  simp only [hc _ _ r, ← EReal.coe_neg]
  rw [sum_fin 4096 fun x => -if (r : ℕ) ≤ x then dscore q k v C g (n / 64) x r else 0, Finset.sum_neg_distrib, ← EReal.coe_neg, neg_neg, sum_above]
  rfl

theorem v93_at : Holds (n := 4096) (d := 512) (val_main_v93 (F := Ideal) x0 x1 x2 x3 x4 x5) (dQ q k v C g) := by
  intro r n
  have hc := v73_at x0 x1 x2 x5 x3 x4 h0 h1 hC hM h2 h5
  pointwise [val_main_v93, val_main_v91, val_main_v88, val_main_v87, val_main_v84, val_main_v83, val_main_cst_17, val_main_v5]
  rw [eighth]
  simp only [hc _ r _, h1 _ n, ← EReal.coe_mul]
  rw [sum_fin 4096 fun x => (if x ≤ (r : ℕ) then dscore q k v C g (n / 64) r x else 0) * (1 / 8) * k x n]
  unfold dQ
  rw [← sum_below r r.isLt, Finset.sum_mul]
  refine congrArg _ (Finset.sum_congr rfl fun j _ => ?_)
  split_ifs <;> ring

theorem v94_at : Holds (n := 4096) (d := 512) (val_main_v94 (F := Ideal) x0 x1 x2 x3 x4 x5) (dK q k v C g) := by
  intro r n
  have hc := v73_at x0 x1 x2 x5 x3 x4 h0 h1 hC hM h2 h5
  pointwise [val_main_v94, val_main_v90, val_main_v86, val_main_v85, val_main_v84, val_main_v83, val_main_cst_17, val_main_v4]
  rw [eighth]
  simp only [hc _ _ r, h0 _ n, ← EReal.coe_mul]
  rw [sum_fin 4096 fun x => (if (r : ℕ) ≤ x then dscore q k v C g (n / 64) x r else 0) * (1 / 8) * q x n]
  unfold dK
  rw [← sum_above, Finset.sum_mul]
  refine congrArg _ (Finset.sum_congr rfl fun j _ => ?_)
  split_ifs <;> ring

end Max

end Stages

theorem foldl_real {α : Type*} (l : List α) (f : EReal → α → EReal) (v : EReal) (hv : ∃ a : ℝ, v = a) (hf : ∀ x n, (∃ a : ℝ, x = a) → ∃ a : ℝ, f x n = a) :
    ∃ a : ℝ, l.foldl f v = a := by
  induction l generalizing v with
  | nil => exact hv
  | cons n l ih => obtain ⟨a, rfl⟩ := hv; exact ih _ (hf _ _ ⟨a, rfl⟩)

theorem v2_real (h3 : ∀ i, ∃ a : ℝ, x3 i = a) (h4 : ∀ i, ∃ a : ℝ, x4 i = a) (i) : ∃ a : ℝ, val_main_v2 (F := Ideal) x3 x4 i = a := by
  rw [eq_ix2 i]
  obtain ⟨a, ha⟩ : ∃ a : ℝ, val_main_v1 (F := Ideal) x3 x4 (ix2 (i 0) (i 1)) = a := by
    rw [val_main_v1_apply, val_main_v0_apply]
    obtain ⟨a, ha⟩ := h3 (ix2 (i 0) (i 1))
    obtain ⟨b, hb⟩ := h4 (idx_main_v0 (ix2 (i 0) (i 1)))
    exact ⟨a + b, by rw [ha, hb, EReal.coe_add]; rfl⟩
  generalize i 0 = r at ha ⊢
  generalize i 1 = h at ha ⊢
  refine ⟨-(max (-a) 0 + Real.log (1 + Real.exp (-|a|))), ?_⟩
  change Fin 4096 at r
  change Fin 8 at h
  pointwise [val_main_v2, val_main_call0_v1, val_main_call0_v0, val_main_call0_call0_v11, val_main_call0_call0_v10, val_main_call0_call0_v9, val_main_call0_call0_v8, val_main_call0_call0_v7,
    val_main_call0_call0_v6, val_main_call0_call0_v5, val_main_call0_call0_v4, val_main_call0_call0_v3, val_main_call0_call0_v2, val_main_call0_call0_v1, val_main_call0_call0_v0, val_main_call0_call0_cst]
  rw [ha, if_neg (not_not.mpr rfl)]
  have he : FloatOps.absf (F := Ideal) (φ := .f32) (-(a : EReal)) = ((|a| : ℝ) : EReal) := by
    rw [← EReal.coe_neg]
    show max ((-a : ℝ) : EReal) (-((-a : ℝ) : EReal)) = _
    rw [← EReal.coe_neg, ← EReal.coe_strictMono.monotone.map_max, neg_neg, max_comm]; rfl
  rw [he, ← EReal.coe_neg, ← EReal.coe_neg, Ideal.exp_coe]
  have hp : ¬ (1 + Real.exp (-|a|) ≤ 0) := not_le.mpr (by positivity)
  have hl : Ideal.log1p ((Real.exp (-|a|) : ℝ) : EReal) = ((Real.log (1 + Real.exp (-|a|)) : ℝ) : EReal) := by
    show Ideal.log (1 + _) = _
    rw [← EReal.coe_one, ← EReal.coe_add, Ideal.log_coe, if_neg hp]
  rw [hl, ← EReal.coe_zero, ← EReal.coe_strictMono.monotone.map_max, ← EReal.coe_add, ← EReal.coe_neg]

theorem v3_real (h3 : ∀ i, ∃ a : ℝ, x3 i = a) (h4 : ∀ i, ∃ a : ℝ, x4 i = a) (i) : ∃ a : ℝ, val_main_v3 (F := Ideal) x3 x4 i = a := by
  have h := v2_real x3 x4 h3 h4
  unfold val_main_v3
  generalize val_main_v2 (F := Ideal) x3 x4 = c at h
  unfold Host.reduceWindowAdd
  rw [Ideal.hostReduceWindowAdd_def]
  unfold Ideal.hostReduceWindowAdd Host.reduceWindow
  have hv : ∃ a : ℝ, val_main_call1_call0_v0 (F := Ideal) (Shape.Idx.first Gen.h_S_) = a := ⟨0, by rw [val_main_call1_call0_v0_apply, val_main_call1_call0_cst_apply]; simp⟩
  refine foldl_real _ _ _ hv fun x n hx => ?_
  obtain ⟨a, hx⟩ := hx
  rw [hx]
  dsimp only
  split
  · obtain ⟨b, hb⟩ := h _
    exact ⟨a + b, by rw [hb, EReal.coe_add]⟩
  · obtain ⟨b, hb⟩ := hv
    exact ⟨a + b, by rw [hb, EReal.coe_add]⟩

end Cert.FoxReferenceIdeal.Fox

end
-- ==== Proof.Fox.Kernel.lean ====
module

public import proofs.«01_k».proof.Proof.Fox.Prep
public import proofs.«01_k».proof.Proof.Fox.RefFwd
public import Idealize.ShloMosaic.Lib.Claim
public import Idealize.ShloMosaic.Lib.StableHlo.RunRead

/-! What the three calls' results hold, from real arguments: the output and the gradients. -/

@[expose] public section

set_option maxRecDepth 16384

noncomputable section

namespace Cert.FoxKernelIdeal.Fox

open Idealize.ShloMosaic Idealize.ShloMosaic.TcCoe Idealize.SL.Sem
open Cert.FoxKernelIdeal.Gen Cert.Fox

/-- The cumulative log-gates of the host code, step by step. -/
theorem read1 (W : Valuation τ sig (Elt Ideal)) : StableHlo.after hostOps0 W (Proc.devRef .tc main_v1) =
    Cert.FoxReferenceIdeal.Read.val_main_v1 (F := Ideal) (W (Proc.devRef .tc main_arg3)) (W (Proc.devRef .tc main_arg4)) := by
  after_reads_simp
  rfl

theorem read3 (W : Valuation τ sig (Elt Ideal)) (x3) (x4) (h : W (Proc.devRef .tc main_v1) = Cert.FoxReferenceIdeal.Read.val_main_v1 (F := Ideal) x3 x4) :
    StableHlo.after hostOps0_2 (StableHlo.after hostOps0_1 W) (Proc.devRef .tc main_v3) = Cert.FoxReferenceIdeal.Read.val_main_v3 (F := Ideal) x3 x4 := by
  after_reads_simp
  rw [h]
  rfl

variable (m : (ℓ : Loc nD τ sig) → Buf (Elt Ideal) ℓ) (ρ : Dev nD → PrngReg) (c : Dev nD)

/-- Scaled by an eighth, through the two casts; the casts alone. -/
theorem scaled_holds (x : Vec Ideal S4096x512 .f32) (X : ℕ → ℕ → ℝ) (h : Holds (n := 4096) (d := 512) x X) :
    Holds (n := 4096) (d := 512) (mulf (F := Ideal) (φ := .f32) (extf (F := Ideal) .f32 (truncf (F := Ideal) .bf16 x bitsLt_bf16_f32) bitsLt_bf16_f32)
      (broadcastInDim S4096x512 ![] bcast_S_S4096x512 (constant (F := Ideal) S_ .f32 0x3E000000#32))) (fun r n => X r n * (1 / 8)) := by
  intro r n
  show x (ix2 r n) * Ideal.ofBits FTy.f32 0x3E000000#32 = _
  rw [h, eighth, ← EReal.coe_mul]

/-- Zeros before an array: past column 512 it is the array. -/
theorem padded_holds (x : Vec Ideal S4096x512 .f32) (X : ℕ → ℕ → ℝ) (h : Holds (n := 4096) (d := 512) x X) :
    Holds (n := 4096) (d := 1024) (concatenate S4096x1024 1 [⟨S4096x512, broadcastInDim S4096x512 ![] bcast_S_S4096x512 (constant (F := Ideal) S_ .f32 0x00000000#32)⟩,
      ⟨S4096x512, x⟩] concatenates_S4096x512_S4096x512_S4096x1024_d1) (fun r n => if n < 512 then 0 else X r (n - 512)) := by
  intro r n
  pointwise
  split_ifs with hn
  · rfl
  all_goals exact h _ _

variable (q k v C g : ℕ → ℕ → ℝ)
  (h0 : Holds (n := 4096) (d := 512) (m ((c.tc : Thread nD τ).loc main_arg0)) q)
  (h1 : Holds (n := 4096) (d := 512) (m ((c.tc : Thread nD τ).loc main_arg1)) k)
  (h2 : Holds (n := 4096) (d := 512) (m ((c.tc : Thread nD τ).loc main_arg2)) v)
  (h5 : Holds (n := 4096) (d := 512) (m ((c.tc : Thread nD τ).loc main_arg5)) g)
  (hC : Holds (n := 4096) (d := 8) (Cert.FoxReferenceIdeal.Read.val_main_v3 (F := Ideal) (m ((c.tc : Thread nD τ).loc main_arg3))
    (m ((c.tc : Thread nD τ).loc main_arg4))) C)

include hC in
theorem gates : Holds (n := 4096) (d := 8) (W3 m ρ c (Proc.devRef .tc main_v3)) C := by
  have h := read3 (W1 m ρ c) _ _ (read1 (W0 m ρ c))
  intro r p
  rw [show W3 m ρ c (Proc.devRef .tc main_v3) = _ from h]
  exact hC r p

include h0 hC in
theorem in_q : Holds (n := 4096) (d := 1024) (W4 m ρ c (Proc.devRef .tc main_v34)) (qa q C) := by
  rw [show W4 m ρ c (Proc.devRef .tc main_v34) = _ from read34 (W3 m ρ c), W3_args m ρ c main_arg0 (by decide)]
  exact beside_apply _ _ _ _ (scaled_holds _ _ h0) (spareQ_apply _ _ (gates m ρ c C hC))

include h1 hC in
theorem in_k : Holds (n := 4096) (d := 1024) (W4 m ρ c (Proc.devRef .tc main_v54)) (ka k C) := by
  rw [show W4 m ρ c (Proc.devRef .tc main_v54) = _ from read54 (W3 m ρ c), W3_args m ρ c main_arg1 (by decide)]
  exact beside_apply _ _ _ _ h1 (spareK_apply _ _ (gates m ρ c C hC))

include h2 in
theorem in_v : Holds (n := 4096) (d := 1024) (W4 m ρ c (Proc.devRef .tc main_v71)) (va v) := by
  rw [show W4 m ρ c (Proc.devRef .tc main_v71) = _ from read71 (W3 m ρ c), W3_args m ρ c main_arg2 (by decide)]
  exact beside_apply _ _ _ _ h2 spareV_apply

include h5 in
theorem in_g : Holds (n := 4096) (d := 1024) (W4 m ρ c (Proc.devRef .tc main_v73)) (fun r n => if n < 512 then 0 else g r (n - 512)) := by
  rw [show W4 m ρ c (Proc.devRef .tc main_v73) = _ from read73 (W3 m ρ c), W3_args m ρ c main_arg5 (by decide)]
  exact padded_holds _ _ h5

include h0 h1 h2 hC in
/-- The forward call: the output, in both formats, and the rows' log-sums. -/
theorem forward_holds : Holds (n := 4096) (d := 512) ((dat0 (V4 m ρ) c).arrAt 3 cfg0.N) (out q k v C)
    ∧ Holds (n := 4096) (d := 512) ((dat0 (V4 m ρ) c).arrAt 4 cfg0.N) (lseOf q k C)
    ∧ Holds (n := 4096) (d := 512) ((dat0 (V4 m ρ) c).arrAt 5 cfg0.N) (out q k v C) := by
  obtain ⟨a, b, e⟩ := region0 (V4 m ρ) c (qa q C) (ka k C) (va v) (in_q m ρ c q C h0 hC) (in_k m ρ c k C h1 hC) (in_v m ρ c v h2)
    (fun r n _ _ => by rw [ws_spare]; exact rowSum_pos q k C _ _)
  simp only [ws_spare] at b
  simp only [out_eq] at a e
  exact ⟨a, b, e⟩

include h0 h1 h2 h5 hC in
/-- The first backward call: the queries' gradient, the rows' sums, and the operands of the second. -/
theorem dq_holds : Holds (n := 4096) (d := 512) ((dat1 (V5 m ρ) c).arrAt 6 cfg1.N) (dQ q k v C g)
    ∧ Holds (n := 4096) (d := 512) ((dat1 (V5 m ρ) c).arrAt 7 cfg1.N) (dRow q k v C g)
    ∧ Holds (n := 4096) (d := 1024) ((dat1 (V5 m ρ) c).arrAt 8 cfg1.N) (qb q k C)
    ∧ Holds (n := 4096) (d := 1024) ((dat1 (V5 m ρ) c).arrAt 9 cfg1.N) (ct q k v C g) := by
  obtain ⟨o, l, _⟩ := forward_holds m ρ c q k v C h0 h1 h2 hC
  have hg : (fun r n : ℕ => (fun r n : ℕ => if n < 512 then 0 else g r (n - 512)) r (512 + n)) = g := by
    funext r n
    simp
  obtain ⟨a, b, e, f⟩ := region1 (V5 m ρ) c (qa q C) (lseOf q k C) (out q k v C) (fun r n => if n < 512 then 0 else g r (n - 512)) (ka k C) (va v)
    (by show Holds (W5 m ρ c (Proc.devRef .tc main_v34)) _; rw [W5_of m ρ c main_v34 (by decide)]; exact in_q m ρ c q C h0 hC)
    (by show Holds (W5 m ρ c (Proc.devRef .tc main_v74_1)) _; rw [W5_arr m ρ c 4]; exact l)
    (by show Holds (W5 m ρ c (Proc.devRef .tc main_v74_0)) _; rw [W5_arr m ρ c 3]; exact o)
    (by show Holds (W5 m ρ c (Proc.devRef .tc main_v73)) _; rw [W5_of m ρ c main_v73 (by decide)]; exact in_g m ρ c g h5)
    (by show Holds (W5 m ρ c (Proc.devRef .tc main_v54)) _; rw [W5_of m ρ c main_v54 (by decide)]; exact in_k m ρ c k C h1 hC)
    (by show Holds (W5 m ρ c (Proc.devRef .tc main_v71)) _; rw [W5_of m ρ c main_v71 (by decide)]; exact in_v m ρ c v h2)
  rw [hg] at a b f
  simp only [dq_eq, rs_eq] at a b
  exact ⟨a, b, e, f⟩

include h0 h1 h2 h5 hC in
/-- The second backward call: the keys' and the values' gradients, and the columns' sums. -/
theorem dkv_holds : Holds (n := 4096) (d := 512) ((dat2 (V6 m ρ) c).arrAt 4 cfg2.N) (dK q k v C g)
    ∧ Holds (n := 4096) (d := 512) ((dat2 (V6 m ρ) c).arrAt 5 cfg2.N) (dV q k C g)
    ∧ Holds (n := 4096) (d := 512) ((dat2 (V6 m ρ) c).arrAt 6 cfg2.N) (dCol q k v C g) := by
  obtain ⟨_, _, e, f⟩ := dq_holds m ρ c q k v C g h0 h1 h2 h5 hC
  obtain ⟨a, b, d⟩ := region2 (V6 m ρ) c (ka k C) (va v) (qb q k C) (ct q k v C g)
    (by show Holds (W6 m ρ c (Proc.devRef .tc main_v54)) _; rw [W6_of m ρ c main_v54 (by decide), W5_of m ρ c main_v54 (by decide)]; exact in_k m ρ c k C h1 hC)
    (by show Holds (W6 m ρ c (Proc.devRef .tc main_v71)) _; rw [W6_of m ρ c main_v71 (by decide), W5_of m ρ c main_v71 (by decide)]; exact in_v m ρ c v h2)
    (by show Holds (W6 m ρ c (Proc.devRef .tc main_v75_2)) _; rw [W6_arr m ρ c 8]; exact e)
    (by show Holds (W6 m ρ c (Proc.devRef .tc main_v75_3)) _; rw [W6_arr m ρ c 9]; exact f)
  simp only [dk_eq, dv_eq, cs_eq] at a b d
  exact ⟨a, b, d⟩

end Cert.FoxKernelIdeal.Fox
-- ==== Proof.Finite.lean ====
module

public import Idealize.ShloMosaic.Lib.ReduceAll
public import Idealize.ShloMosaic.Lib.Claim
public import Idealize.ShloMosaic.Lib.StableHlo
public import Idealize.ShloMosaic.PureOps
public import Idealize.ShloMosaic.PureOps.Ideal

/-! A precondition's test, read: an array all of whose elements are smaller than infinity in size holds real numbers. -/

@[expose] public section

noncomputable section

namespace Cert.Finite

open Idealize.ShloMosaic

/-- Both sides of an `and` of two words of one bit that is 1. -/
theorem and_split {s : Shape} {x y : IVec s 1} {i : s.Idx} (h : andi x y i = 1#1) : x i = 1#1 ∧ y i = 1#1 := by
  have h' : x i &&& y i = 1#1 := h
  revert h'
  generalize x i = a
  generalize y i = b
  revert a b
  decide

theorem abs_lt_top (x : EReal) (h : FloatOps.cmpf (F := Ideal) (φ := .f32) .olt (FloatOps.hostAbsf (F := Ideal) (φ := .f32) x) (Ideal.ofBits .f32 0x7F800000#32) = 1#1) :
    ∃ a : ℝ, x = a := by
  have ht : Ideal.ofBits .f32 0x7F800000#32 = ⊤ := by simp [Ideal.ofBits, Ideal.ieee]
  rw [ht] at h
  induction x using EReal.rec with
  | coe a => exact ⟨a, rfl⟩
  | bot => simp [FloatOps.cmpf, FloatOps.hostAbsf, Ideal.cmp] at h
  | top => simp [FloatOps.cmpf, FloatOps.hostAbsf, Ideal.cmp] at h

/-- An array that passes the test holds a real number at every index. -/
theorem real_of_test {s t : Shape} [Subsingleton t.Idx] {axes : List (Fin s.rank)} {f : Fin t.rank → Fin s.rank} (x : FVec Ideal s .f32) (init : IVec t 1)
    (hb : t.BroadcastsInDim s f) (hr : s.ReducesTo axes t) (hu : 0 < t.numel) (j : t.Idx)
    (h : Host.reduce IntOp.andi (cmpf (F := Ideal) .olt (Host.absf (F := Ideal) x) (broadcastInDim s f hb (constant (F := Ideal) t .f32 0x7F800000#32))) init hr hu j = 1#1)
    (i : s.Idx) : ∃ a : ℝ, x i = a :=
  abs_lt_top _ (Host.reduce_andi_all _ init hr hu j h i)

end Cert.Finite
-- ==== Proof.Fox.Claim.lean ====
module

public import proofs.«01_k».proof.Defs
public import proofs.«01_k».proof.Proof.Fox.Kernel
public import proofs.«01_k».proof.Proof.Finite
public import proofs.«01_k».proof.Proof.Gen.Pre_fox_finite
public import proofs.«01_k».proof.Proof.Gen.FoxReferenceIdeal.Run
public import Idealize.ShloMosaic.Lib.Claim

/-! The attention with forgetting gates: its output and its gradients are those of the reference. -/

@[expose] public section

set_option maxRecDepth 16384

noncomputable section

open Idealize.ShloMosaic Idealize.ShloMosaic.TcCoe Idealize.SL.Sem

namespace Cert.Proof.Fox

open Cert.FoxKernelIdeal.Fox Cert.Fox Cert.Finite

instance : Cert.Pre_fox_finite.Facts := Cert.Pre_fox_finite.Gen.facts

/-- What the precondition says of the six arguments. -/
theorem reals (x0 x1 x2 x5 : FVec Ideal Cert.Pre_fox_finite.S4096x512 .f32) (x3 : FVec Ideal Cert.Pre_fox_finite.S4096x8 .f32)
    (x4 : FVec Ideal Cert.Pre_fox_finite.S1x8 .f32) (h : Cert.Pre_fox_finite.fn (F := Ideal) x0 x1 x2 x3 x4 x5 = fun _ => 1#1) :
    (∀ i, ∃ a : ℝ, x0 i = a) ∧ (∀ i, ∃ a : ℝ, x1 i = a) ∧ (∀ i, ∃ a : ℝ, x2 i = a) ∧ (∀ i, ∃ a : ℝ, x3 i = a) ∧ (∀ i, ∃ a : ℝ, x4 i = a)
      ∧ (∀ i, ∃ a : ℝ, x5 i = a) := by
  have h' := congrFun h (fun d => d.elim0)
  unfold Cert.Pre_fox_finite.fn Cert.Pre_fox_finite.fn_part1 at h'
  dsimp only at h'
  obtain ⟨h', h5⟩ := and_split h'
  obtain ⟨h', h4⟩ := and_split h'
  obtain ⟨h', h3⟩ := and_split h'
  obtain ⟨h', h2⟩ := and_split h'
  obtain ⟨h0, h1⟩ := and_split h'
  exact ⟨real_of_test _ _ _ _ _ _ h0, real_of_test _ _ _ _ _ _ h1, real_of_test _ _ _ _ _ _ h2, real_of_test _ _ _ _ _ _ h3,
    real_of_test _ _ _ _ _ _ h4, real_of_test _ _ _ _ _ _ h5⟩

/-- A real array is given by a real function of its two indices. -/
theorem holds_of_real {n d : ℕ} (x : Shape.Idx ⟨2, ![n, d]⟩ → EReal) (h : ∀ i, ∃ a : ℝ, x i = a) : ∃ X : ℕ → ℕ → ℝ, Holds (n := n) (d := d) x X := by
  choose f hf using h
  refine ⟨fun r l => if h : r < n ∧ l < d then f (ix2 ⟨r, h.1⟩ ⟨l, h.2⟩) else 0, fun r l => ?_⟩
  rw [hf]
  dsimp only
  rw [dif_pos ⟨r.isLt, l.isLt⟩]

/-- Two arrays that hold the same real function are the same. -/
theorem eq_of_holds {n d : ℕ} {x y : Shape.Idx ⟨2, ![n, d]⟩ → EReal} {X : ℕ → ℕ → ℝ} (hx : Holds (n := n) (d := d) x X) (hy : Holds (n := n) (d := d) y X) :
    x = y := by
  funext i
  rw [eq_ix2 i]
  exact (hx (i 0) (i 1)).trans (hy (i 0) (i 1)).symm

section Values

open Cert.FoxKernelIdeal Cert.FoxKernelIdeal.Gen Cert.FoxReferenceIdeal.Read

variable (m : (ℓ : Loc nD τ sig) → Buf (Elt Ideal) ℓ) (ρ : Dev nD → PrngReg) (c : Dev nD)

/-- The real functions that the arguments hold, with the row maxima of the reference. -/
theorem functions (hpre : Cert.Pre_FoxKernelIdeal_fox_finite m) : ∃ q k v C g M : ℕ → ℕ → ℝ,
    Holds (n := 4096) (d := 512) (m ((c.tc : Thread nD τ).loc main_arg0)) q ∧ Holds (n := 4096) (d := 512) (m ((c.tc : Thread nD τ).loc main_arg1)) k ∧ Holds (n := 4096) (d := 512) (m ((c.tc : Thread nD τ).loc main_arg2)) v ∧ Holds (n := 4096) (d := 512) (m ((c.tc : Thread nD τ).loc main_arg5)) g
      ∧ Holds (n := 4096) (d := 8) (val_main_v3 (F := Ideal) (m ((c.tc : Thread nD τ).loc main_arg3)) (m ((c.tc : Thread nD τ).loc main_arg4))) C ∧ Holds (n := 8) (d := 4096) (val_main_v32 (F := Ideal) (m ((c.tc : Thread nD τ).loc main_arg0)) (m ((c.tc : Thread nD τ).loc main_arg1)) (m ((c.tc : Thread nD τ).loc main_arg3)) (m ((c.tc : Thread nD τ).loc main_arg4))) M := by
  obtain ⟨r0, r1, r2, r3, r4, r5⟩ := reals _ _ _ _ _ _ (hpre c)
  obtain ⟨q, h0⟩ := holds_of_real _ r0
  obtain ⟨k, h1⟩ := holds_of_real _ r1
  obtain ⟨v, h2⟩ := holds_of_real _ r2
  obtain ⟨g, h5⟩ := holds_of_real _ r5
  obtain ⟨C, hC⟩ := holds_of_real _ (Cert.FoxReferenceIdeal.Fox.v3_real _ _ r3 r4)
  obtain ⟨M, hM⟩ := holds_of_real (n := 8) (d := 4096) (val_main_v32 (F := Ideal) (m ((c.tc : Thread nD τ).loc main_arg0)) (m ((c.tc : Thread nD τ).loc main_arg1)) (m ((c.tc : Thread nD τ).loc main_arg3)) (m ((c.tc : Thread nD τ).loc main_arg4))) (fun i => by
    rw [eq_ix2 i]
    exact Cert.FoxReferenceIdeal.Fox.v32_at _ _ _ _ h0 h1 hC (i 0) (i 1))
  exact ⟨q, k, v, C, g, M, h0, h1, h2, h5, hC, hM⟩

/-- From real arguments the forward call's result is the reference's; so are the first backward call's, and the second's. -/
theorem values0 (hpre : Cert.Pre_FoxKernelIdeal_fox_finite m) : val_main_v92 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) = (dat0 (V4 m ρ) c).arrAt 5 cfg0.N := by
  obtain ⟨q, k, v, C, g, M, h0, h1, h2, h5, hC, hM⟩ := functions m c hpre
  obtain ⟨_, _, o⟩ := forward_holds m ρ c q k v C h0 h1 h2 hC
  exact eq_of_holds (Cert.FoxReferenceIdeal.Fox.v92_at _ _ _ _ _ h0 h1 hC hM h2) o

theorem values1 (hpre : Cert.Pre_FoxKernelIdeal_fox_finite m) : val_main_v93 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = (dat1 (V5 m ρ) c).arrAt 6 cfg1.N
    ∧ val_main_v97 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = (dat1 (V5 m ρ) c).arrAt 7 cfg1.N := by
  obtain ⟨q, k, v, C, g, M, h0, h1, h2, h5, hC, hM⟩ := functions m c hpre
  obtain ⟨a, b, _⟩ := dq_holds m ρ c q k v C g h0 h1 h2 h5 hC
  exact ⟨eq_of_holds (Cert.FoxReferenceIdeal.Fox.v93_at _ _ _ _ _ _ h0 h1 hC hM h2 h5) a,
    eq_of_holds (Cert.FoxReferenceIdeal.Fox.v97_at _ _ _ _ _ _ h0 h1 hC hM h2 h5) b⟩

theorem values2 (hpre : Cert.Pre_FoxKernelIdeal_fox_finite m) : val_main_v94 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = (dat2 (V6 m ρ) c).arrAt 4 cfg2.N
    ∧ val_main_v95 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) = (dat2 (V6 m ρ) c).arrAt 5 cfg2.N
    ∧ val_main_v100 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = (dat2 (V6 m ρ) c).arrAt 6 cfg2.N := by
  obtain ⟨q, k, v, C, g, M, h0, h1, h2, h5, hC, hM⟩ := functions m c hpre
  obtain ⟨d, e, f⟩ := dkv_holds m ρ c q k v C g h0 h1 h2 h5 hC
  exact ⟨eq_of_holds (Cert.FoxReferenceIdeal.Fox.v94_at _ _ _ _ _ _ h0 h1 hC hM h2 h5) d,
    eq_of_holds (Cert.FoxReferenceIdeal.Fox.v95_at _ _ _ _ _ _ h0 h1 hC hM h2 h5) e,
    eq_of_holds (Cert.FoxReferenceIdeal.Fox.v100_at _ _ _ _ _ _ h0 h1 hC hM h2 h5) f⟩

end Values

theorem frame_reference : Cert.quiescent_FoxReferenceIdeal := by
  intro m g _
  exact (θ_run Cert.FoxReferenceIdeal.defs _ _).mono (fun r h => ⟨fun c => (h c).2.2.2.2.2.2, sem_eq_zero_of_no_sems (by decide) r.2⟩)
    (Cert.FoxReferenceIdeal.Value.run m g)

set_option maxHeartbeats 1000000 in
theorem algebraic : Cert.algebraic_FoxKernelIdeal_FoxReferenceIdeal_pre_fox_finite := by
  pair_intro
  · run_from Cert.FoxKernelIdeal.Fox.run m g
  · run_from Cert.FoxReferenceIdeal.Value.run m' g'
    all_goals obtain ⟨a0, a1, a2, a3, a4, a5⟩ := hagree c
    · rw [Cert.FoxReferenceIdeal.Read.val_main_v92_eq, a0, a1, a2, a3, a4]; exact values0 m g c hpre
    · rw [Cert.FoxReferenceIdeal.Read.val_main_v93_eq, a0, a1, a2, a3, a4, a5]; exact (values1 m g c hpre).1
    · rw [Cert.FoxReferenceIdeal.Read.val_main_v94_eq, a0, a1, a2, a3, a4, a5]; exact (values2 m g c hpre).1
    · rw [Cert.FoxReferenceIdeal.Read.val_main_v95_eq, a0, a1, a3, a4, a5]; exact (values2 m g c hpre).2.1
    · rw [Cert.FoxReferenceIdeal.Read.val_main_v97_eq, a0, a1, a2, a3, a4, a5]; exact (values1 m g c hpre).2
    · rw [Cert.FoxReferenceIdeal.Read.val_main_v100_eq, a0, a1, a2, a3, a4, a5]; exact (values2 m g c hpre).2.2

end Cert.Proof.Fox

end
-- ==== Proof.Cum.Spec.lean ====
module

public import Idealize.ShloMosaic.PureOps.Ideal
public import Idealize.ShloMosaic.Lib.ValueIdx
public import Idealize.ShloMosaic.Lib.WordCmp
public import proofs.«01_k».proof.Proof.Reals

/-! Sums from a row on, the gate's derivative, and a few words. -/

@[expose] public section

noncomputable section

namespace Cert.Cum

open Idealize.ShloMosaic

/-- The sum of a column from row `n` on. -/
def tail (D : ℕ → EReal) (n : ℕ) : EReal := ∑ j ∈ Finset.Ico n 4096, D j

theorem tail_end (D : ℕ → EReal) : tail D 4096 = 0 := by simp [tail]

/-- A row's sum from a block of 512 rows: the rows of the block from it on, and all rows below the block. -/
theorem tail_block (D : ℕ → EReal) (b : ℕ) (hb : b < 8) (r : Fin 512) :
    tail D (512 * b + r.val) = (∑ j : Fin 512, if r ≤ j then D (512 * b + j.val) else 0) + tail D (512 * (b + 1)) := by
  unfold tail
  rw [← Finset.sum_Ico_consecutive D (show 512 * b + r.val ≤ 512 * (b + 1) by omega) (show 512 * (b + 1) ≤ 4096 by omega)]
  congr 1
  refine Eq.trans ?_ (Finset.sum_range (fun j => if r.val ≤ j then D (512 * b + j) else 0))
  rw [← Finset.sum_filter]
  refine (Finset.sum_bij (fun j _ => 512 * b + j) ?_ ?_ ?_ ?_).symm
  · intro j hj; simp only [Finset.mem_filter, Finset.mem_range, Finset.mem_Ico] at hj ⊢; omega
  · intro i _ j _ h; omega
  · intro j hj
    simp only [Finset.mem_Ico] at hj
    exact ⟨j - 512 * b, by simp only [Finset.mem_filter, Finset.mem_range]; omega, by omega⟩
  · intro j _; rfl

/-- The whole block's rows, and those below. -/
theorem tail_whole (D : ℕ → EReal) (b : ℕ) (hb : b < 8) :
    tail D (512 * b) = tail D (512 * (b + 1)) + ∑ j : Fin 512, D (512 * b + j.val) := by
  rw [show 512 * b = 512 * b + (0 : Fin 512).val from rfl, tail_block D b hb 0, add_comm]
  exact congrArg₂ (· + ·) rfl (Finset.sum_congr rfl fun j _ => if_pos (Fin.zero_le j))

/-- The gate's derivative as the kernel forms it. -/
def gate (x : EReal) : EReal := Ideal.div 1 (1 + Ideal.exp (0 - (0 - x)))

theorem gate_coe (x : ℝ) : gate (x : EReal) = ((1 / (1 + Real.exp x) : ℝ) : EReal) := by
  unfold gate
  rw [zero_sub, zero_sub, neg_neg, Ideal.exp_coe, show (1 : EReal) = ((1 : ℝ) : EReal) from rfl, ← EReal.coe_add, Ideal.div_coe (by positivity), EReal.coe_one, one_mul]

/-- A 32-bit word of a comparison, as a number. -/
theorem word_ge (r j : ℕ) (hr : r < 512) (hj : j < 512) :
    (FloatOps.sitofp (F := Ideal) FTy.f32 (BitVec.setWidth 32 (IntOp.cmpi CmpIPredicate.sge (BitVec.ofNat 32 j) (BitVec.ofNat 32 r))))
      = if r ≤ j then (1 : EReal) else 0 := by
  have hw : IntOp.cmpi CmpIPredicate.sge (BitVec.ofNat 32 j) (BitVec.ofNat 32 r) = if r ≤ j then 1#1 else 0#1 := by
    rw [WordCmp.cmpi_sge_ofNat (by omega) (by omega)]
    split_ifs with h <;> simp [h]
  rw [hw]
  split_ifs with h
  · show (((1 : ℤ) : ℝ) : EReal) = 1
    norm_num
  · show (((0 : ℤ) : ℝ) : EReal) = 0
    norm_num

theorem select_eq (l k : ℕ) (hl : l < 128) (hk : k < 128) (a b : EReal) :
    Scalar.select (IntOp.cmpi CmpIPredicate.eq (BitVec.ofNat 32 l) (BitVec.ofNat 32 k)) a b = if l = k then a else b := by
  rw [WordCmp.cmpi_eq_ofNat (by omega) (by omega)]
  split_ifs with h <;> simp [h, Scalar.select]

theorem zero_word : (FloatOps.sitofp (F := Ideal) FTy.f32 (0#32)) = (0 : EReal) := by
  show (((0 : ℤ) : ℝ) : EReal) = 0
  norm_num

theorem foldl_add {n : ℕ} (g : Fin n → EReal) : ∀ (l : List (Fin n)) (a : EReal), l.foldl (fun r i => r + g i) a = a + (l.map g).sum
  | [], a => by simp
  | x :: l, a => by rw [List.foldl_cons, foldl_add g l, List.map_cons, List.sum_cons, add_assoc]

abbrev Rows : Shape := ⟨2, ![4096, 8]⟩

/-- jax's reverse cumulative sum down the rows: the sum from the row on. -/
theorem revsum (x : Rows.Idx → EReal) (init : EReal) (h0 : init = 0) (h : Rows.ReduceWindows ![4096, 1] ![1, 1] ![0, 0] ![4095, 0] Rows)
    (r : Fin 4096) (l : Fin 8) :
    Ideal.hostReduceWindowAdd ![4096, 1] ![1, 1] ![0, 0] ![4095, 0] h x init (ix2 r l)
      = tail (fun j => if hj : j < 4096 then x (ix2 ⟨j, hj⟩ l) else 0) r.val := by
  unfold Ideal.hostReduceWindowAdd Host.reduceWindow
  dsimp only
  rw [foldl_add, h0, zero_add, ← List.ofFn_eq_map, List.sum_ofFn, ← Equiv.sum_comp (Shape.rowMajor _)]
  simp only [Equiv.symm_apply_apply]
  rw [sum_idx2]
  simp only [Fin.sum_univ_one]
  have hr := r.isLt
  have key : ∀ a : Fin 4096, (if hin : ∀ d : Fin 2, (![0, 0] : Fin 2 → ℕ) d ≤ (ix2 r l d).val * (![1, 1] : Fin 2 → ℕ) d + ((ix2 a (0 : Fin 1) : Shape.Idx ⟨2, ![4096, 1]⟩) d).val
      ∧ (ix2 r l d).val * (![1, 1] : Fin 2 → ℕ) d + ((ix2 a (0 : Fin 1) : Shape.Idx ⟨2, ![4096, 1]⟩) d).val - (![0, 0] : Fin 2 → ℕ) d < Rows.size d
      then x (fun d => ⟨(ix2 r l d).val * (![1, 1] : Fin 2 → ℕ) d + ((ix2 a (0 : Fin 1) : Shape.Idx ⟨2, ![4096, 1]⟩) d).val - (![0, 0] : Fin 2 → ℕ) d, (hin d).2⟩) else 0)
      = (fun n : ℕ => if n < 4096 - r.val then (fun j => if hj : j < 4096 then x (ix2 ⟨j, hj⟩ l) else 0) (r.val + n) else 0) a.val := by
    intro a
    by_cases h1 : r.val + a.val < 4096
    · have hin : ∀ d : Fin 2, (![0, 0] : Fin 2 → ℕ) d ≤ (ix2 r l d).val * (![1, 1] : Fin 2 → ℕ) d + ((ix2 a (0 : Fin 1) : Shape.Idx ⟨2, ![4096, 1]⟩) d).val
          ∧ (ix2 r l d).val * (![1, 1] : Fin 2 → ℕ) d + ((ix2 a (0 : Fin 1) : Shape.Idx ⟨2, ![4096, 1]⟩) d).val - (![0, 0] : Fin 2 → ℕ) d < Rows.size d := by
        intro d
        match d with
        | ⟨0, _⟩ => exact ⟨Nat.zero_le _, by show r.val * 1 + a.val - 0 < 4096; omega⟩
        | ⟨1, _⟩ => exact ⟨Nat.zero_le _, by show l.val * 1 + 0 - 0 < 8; have := l.isLt; omega⟩
      rw [dif_pos hin]
      dsimp only
      rw [if_pos (by omega), dif_pos h1]
      refine congrArg x (funext fun d => ?_)
      match d with
      | ⟨0, _⟩ => exact Fin.ext (by show r.val * 1 + a.val - 0 = r.val + a.val; omega)
      | ⟨1, _⟩ => exact Fin.ext (by show l.val * 1 + 0 - 0 = l.val; omega)
    · rw [dif_neg fun hin => h1 (by have := (hin 0).2; change r.val * 1 + a.val - 0 < 4096 at this; omega)]
      dsimp only
      rw [if_neg (by omega)]
  refine (Finset.sum_congr rfl fun a _ => key a).trans ?_
  rw [← Finset.sum_range (fun n => if n < 4096 - r.val then (fun j => if hj : j < 4096 then x (ix2 ⟨j, hj⟩ l) else 0) (r.val + n) else 0), ← Finset.sum_filter]
  unfold tail
  refine Finset.sum_bij (fun n _ => r.val + n) ?_ ?_ ?_ ?_
  · intro j hj; simp only [Finset.mem_filter, Finset.mem_range, Finset.mem_Ico] at hj ⊢; omega
  · intro i _ j _ h; omega
  · intro j hj
    simp only [Finset.mem_Ico] at hj
    exact ⟨j - r.val, by simp only [Finset.mem_filter, Finset.mem_range]; omega, by omega⟩
  · intro j _; rfl

end Cert.Cum
-- ==== Proof.Cum.Block.lean ====
module

public import proofs.«01_k».proof.Proof.Gen.CumKernelIdeal.Value
public import Idealize.ShloMosaic.Lib.Claim
public import Idealize.ShloMosaic.Lib.Pipeline.ValueKit
public import Idealize.ShloMosaic.Lib.Pipeline.ReadBack
public import Idealize.ShloMosaic.Lib.Pointwise
public import proofs.«01_k».proof.Proof.Cum.Spec

/-! One tile of the gate's gradient: sums of the rows below, times the gate's derivative. -/

@[expose] public section

set_option maxRecDepth 16384

noncomputable section

namespace Cert.CumKernelIdeal.Cum

open Idealize.ShloMosaic Idealize.ShloMosaic.TcCoe Idealize.SL.Sem
open Cert.CumKernelIdeal Cert.CumKernelIdeal.Gen Cert.Cum

/-- What lane `l` takes of the two operands' difference: of head `l`'s 64 equal columns, one; past the heads nothing. -/
def pick (x0 x1 : Vec Ideal S512x512 .f32) (j : Fin 512) (l : Fin 128) : EReal :=
  if h : l.val < 8 then x0 (ix2 j ⟨65 * l.val, by omega⟩) - x1 (ix2 j ⟨65 * l.val, by omega⟩) else 0

/-- The tile of sums: each row's own and those below it in the block, and what was carried. -/
abbrev sums (x0 x1 : Vec Ideal S512x512 .f32) (cr : Vec Ideal S1x128 .f32) : FVec Ideal S512x128 .f32 :=
  k0_pay11 k0_pay6 (iota Kind.tc S1x128 32 [1] iota_S1x128_d1_w32)
        (k0_pay8 (View.ld x0 (Rect.unit ![0, 0] ![512, 128] inb_S512x512_S512x128_0_0))
          (View.ld x1 (Rect.unit ![0, 0] ![512, 128] inb_S512x512_S512x128_0_0))
          (View.ld x0 (Rect.unit ![0, 128] ![512, 128] inb_S512x512_S512x128_0_128))
          (View.ld x1 (Rect.unit ![0, 128] ![512, 128] inb_S512x512_S512x128_0_128)))
        (k0_pay9 (View.ld x0 (Rect.unit ![0, 128] ![512, 128] inb_S512x512_S512x128_0_128))
          (View.ld x1 (Rect.unit ![0, 128] ![512, 128] inb_S512x512_S512x128_0_128)))
        k0_pay10 (View.ld x0 (Rect.unit ![0, 256] ![512, 128] inb_S512x512_S512x128_0_256))
        (View.ld x1 (Rect.unit ![0, 256] ![512, 128] inb_S512x512_S512x128_0_256))
        (View.ld x0 (Rect.unit ![0, 384] ![512, 128] inb_S512x512_S512x128_0_384))
        (View.ld x1 (Rect.unit ![0, 384] ![512, 128] inb_S512x512_S512x128_0_384)) cr

theorem sums_at (x0 x1 : Vec Ideal S512x512 .f32) (cr : Vec Ideal S1x128 .f32) (r : Fin 512) (l : Fin 128) :
    sums x0 x1 cr (ix2 r l) = (∑ j : Fin 512, if r ≤ j then pick x0 x1 j l else 0) + cr (ix2 0 l) := by
  unfold sums
  pointwise [k0_pay11, k0_pay6, k0_pay7, k0_pay8, k0_pay9, k0_pay10]
  refine congrArg₂ (· + ·) (Finset.sum_congr rfl fun j _ => ?_) rfl
  rw [word_ge r.val j.val r.isLt j.isLt]
  by_cases h : r.val ≤ j.val
  · rw [if_pos h, one_mul, if_pos (show r ≤ j from h)]
    have hl := l.isLt
    rw [select_eq _ 7 hl (by omega), select_eq _ 6 hl (by omega), select_eq _ 5 hl (by omega), select_eq _ 4 hl (by omega),
      select_eq _ 3 hl (by omega), select_eq _ 2 hl (by omega), select_eq _ 1 hl (by omega), select_eq _ 0 hl (by omega)]
    unfold pick
    by_cases h8 : l.val < 8
    · rw [dif_pos h8]
      obtain ⟨l, hl'⟩ := l
      dsimp only at h8
      interval_cases l <;> rfl
    · rw [dif_neg h8]
      simp only [show ∀ k, k < 8 → l.val ≠ k from fun k hk => by omega, if_neg, Nat.reduceLT, ne_eq, not_false_eq_true, reduceIte]
  · rw [if_neg h, zero_mul, if_neg (show ¬ r ≤ j from h)]

/-- The tile of gradients: the sums times the gate's derivative. -/
theorem grad_at (d : FVec Ideal S512x128 .f32) (x : Vec Ideal S512x128 .f32) (b : Vec Ideal S1x128 .f32) (r : Fin 512) (l : Fin 128) :
    k0_pay1 d x b (ix2 r l) = d (ix2 r l) * gate (x (ix2 r l) + b (ix2 0 l)) := by
  unfold gate
  pointwise [k0_pay1]

theorem grad_at' (d : FVec Ideal S512x128 .f32) (x : Vec Ideal S512x128 .f32) (b : Vec Ideal S1x128 .f32) (r : Fin 512) (l : Fin 128) :
    k0_pay2 d x b (ix2 r l) = d (ix2 r l) * gate (x (ix2 r l) + b (ix2 0 l)) := by
  unfold gate
  pointwise [k0_pay2, k0_pay1]

/-- The row of the bias's gradient: the tile's columns summed and added to what stood there. -/
theorem bias_at (d : FVec Ideal S512x128 .f32) (x : Vec Ideal S512x128 .f32) (b o : Vec Ideal S1x128 .f32) (l : Fin 128) :
    k0_pay3 d x b o (ix2 0 l) = o (ix2 0 l) + ∑ r : Fin 512, d (ix2 r l) * gate (x (ix2 r l) + b (ix2 0 l)) := by
  unfold gate
  pointwise [k0_pay3, k0_pay1]

/-- The row carried on: the first row of the sums. -/
theorem carry_at (x0 x1 : Vec Ideal S512x512 .f32) (cr : Vec Ideal S1x128 .f32) (l : Fin 128) :
    k0_pay12 k0_pay6 (iota Kind.tc S1x128 32 [1] iota_S1x128_d1_w32)
        (k0_pay8 (View.ld x0 (Rect.unit ![0, 0] ![512, 128] inb_S512x512_S512x128_0_0))
          (View.ld x1 (Rect.unit ![0, 0] ![512, 128] inb_S512x512_S512x128_0_0))
          (View.ld x0 (Rect.unit ![0, 128] ![512, 128] inb_S512x512_S512x128_0_128))
          (View.ld x1 (Rect.unit ![0, 128] ![512, 128] inb_S512x512_S512x128_0_128)))
        (k0_pay9 (View.ld x0 (Rect.unit ![0, 128] ![512, 128] inb_S512x512_S512x128_0_128))
          (View.ld x1 (Rect.unit ![0, 128] ![512, 128] inb_S512x512_S512x128_0_128)))
        k0_pay10 (View.ld x0 (Rect.unit ![0, 256] ![512, 128] inb_S512x512_S512x128_0_256))
        (View.ld x1 (Rect.unit ![0, 256] ![512, 128] inb_S512x512_S512x128_0_256))
        (View.ld x0 (Rect.unit ![0, 384] ![512, 128] inb_S512x512_S512x128_0_384))
        (View.ld x1 (Rect.unit ![0, 384] ![512, 128] inb_S512x512_S512x128_0_384)) cr (ix2 0 l) = sums x0 x1 cr (ix2 0 l) := by
  unfold sums k0_pay12
  pointwise

theorem zero4 (j) : k0_pay4 (F := Ideal) j = 0 := by pointwise [k0_pay4]
theorem zero5 (j) : k0_pay5 (F := Ideal) j = 0 := by pointwise [k0_pay5]

end Cert.CumKernelIdeal.Cum
-- ==== Proof.Cum.Kernel.lean ====
module

public import proofs.«01_k».proof.Proof.Cum.Block
public import Idealize.ShloMosaic.Lib.StableHlo.RunRead

/-! What the call's two arrays hold: the gate's gradient, and its column sums. -/

@[expose] public section

set_option maxRecDepth 16384

noncomputable section

namespace Cert.CumKernelIdeal.Cum

open Idealize.ShloMosaic Idealize.ShloMosaic.TcCoe Idealize.SL.Sem
open Cert.CumKernelIdeal Cert.CumKernelIdeal.Gen Cert.Cum

variable (m : (ℓ : Loc nD τ sig) → Buf (Elt Ideal) ℓ) (c : Dev nD)

abbrev Lg : FVec Ideal S4096x8 .f32 := m ((c : Thread nD τ).loc main_arg0)
abbrev Bi : FVec Ideal S1x8 .f32 := m ((c : Thread nD τ).loc main_arg1)
abbrev Dr : FVec Ideal S4096x8 .f32 := m ((c : Thread nD τ).loc main_arg2)
abbrev Dc : FVec Ideal S4096x8 .f32 := m ((c : Thread nD τ).loc main_arg3)

/-- The cotangent of a head's cumulative gates: the row part less the column part. -/
def D (l : Fin 128) (j : ℕ) : EReal :=
  if h : l.val < 8 ∧ j < 4096 then Dr m c (ix2 ⟨j, h.2⟩ ⟨l.val, h.1⟩) - Dc m c (ix2 ⟨j, h.2⟩ ⟨l.val, h.1⟩) else 0

/-- The gate's logit with its bias, zero past the heads. -/
def X (l : Fin 128) (j : ℕ) : EReal :=
  if h : l.val < 8 ∧ j < 4096 then Lg m c (ix2 ⟨j, h.2⟩ ⟨l.val, h.1⟩) + Bi m c (ix2 0 ⟨l.val, h.1⟩) else 0

theorem idx : ∀ t : Fin cfg0.N, win0_0.index t = ![7 - t.val, 0] ∧ win0_1.index t = ![7 - t.val, 0] ∧ win0_2.index t = ![7 - t.val, 0]
    ∧ win0_3.index t = ![0, 0] ∧ win0_4.index t = ![7 - t.val, 0] ∧ win0_5.index t = ![0, 0] :=
  (by decide +kernel : ∀ t : Fin grid0.N, _)

/-- The operands as the host code lays them out: a head's column 64 times over, and 120 empty lanes after the heads. -/
theorem read_rs (W : Valuation τ sig (Elt Ideal)) : StableHlo.after [hostOps0, hostOps0_1, hostOps0_2, hostOps0_3, hostOps0_4].flatten W (Proc.devRef .tc main_v3) =
    shapeCast S4096x512 (broadcastInDim S4096x8x64 ![0, 1] bcast_S4096x8_S4096x8x64_0_1 (W (Proc.devRef .tc main_arg2))) shapeCasts_S4096x8x64_S4096x512 := by
  after_reads_simp
  rfl
theorem read_cs (W : Valuation τ sig (Elt Ideal)) : StableHlo.after [hostOps0, hostOps0_1, hostOps0_2, hostOps0_3, hostOps0_4].flatten W (Proc.devRef .tc main_v5) =
    shapeCast S4096x512 (broadcastInDim S4096x8x64 ![0, 1] bcast_S4096x8_S4096x8x64_0_1 (W (Proc.devRef .tc main_arg3))) shapeCasts_S4096x8x64_S4096x512 := by
  after_reads_simp
  rfl
theorem read_fl (W : Valuation τ sig (Elt Ideal)) : StableHlo.after [hostOps0, hostOps0_1, hostOps0_2, hostOps0_3, hostOps0_4].flatten W (Proc.devRef .tc main_v0) =
    pad S4096x128 ![0, 0] ![0, 120] ![0, 0] (W (Proc.devRef .tc main_arg0)) (sitofp (F := Ideal) .f32 (constantI S_ 32 0#32)) pads_S4096x8_S4096x128_000_01200 h_S_ := by
  after_reads_simp
  rfl
theorem read_bi (W : Valuation τ sig (Elt Ideal)) : StableHlo.after [hostOps0, hostOps0_1, hostOps0_2, hostOps0_3, hostOps0_4].flatten W (Proc.devRef .tc main_v1) =
    pad S1x128 ![0, 0] ![0, 120] ![0, 0] (W (Proc.devRef .tc main_arg1)) (sitofp (F := Ideal) .f32 (constantI S_ 32 0#32)) pads_S1x8_S1x128_000_01200 h_S_ := by
  after_reads_simp
  rfl

theorem rs_at (r : Fin 4096) (n : Fin 512) : V m c main_v3 (ix2 r n) = Dr m c (ix2 r ⟨n.val / 64, by omega⟩) := by
  refine (congrFun (show V m c main_v3 = _ from read_rs _) _).trans ?_
  pointwise

theorem cs_at (r : Fin 4096) (n : Fin 512) : V m c main_v5 (ix2 r n) = Dc m c (ix2 r ⟨n.val / 64, by omega⟩) := by
  refine (congrFun (show V m c main_v5 = _ from read_cs _) _).trans ?_
  pointwise

/-- Zeros after the columns of an array. -/
theorem pad_fl (x : FVec Ideal S4096x8 .f32) (r : Fin 4096) (n : Fin 128) :
    pad S4096x128 ![0, 0] ![0, 120] ![0, 0] x (sitofp (F := Ideal) .f32 (constantI S_ 32 0#32)) pads_S4096x8_S4096x128_000_01200 h_S_ (ix2 r n)
      = if h : n.val < 8 then x (ix2 r ⟨n.val, h⟩) else 0 := by
  pointwise
  rw [zero_word]

theorem pad_bi (x : FVec Ideal S1x8 .f32) (n : Fin 128) :
    pad S1x128 ![0, 0] ![0, 120] ![0, 0] x (sitofp (F := Ideal) .f32 (constantI S_ 32 0#32)) pads_S1x8_S1x128_000_01200 h_S_ (ix2 0 n)
      = if h : n.val < 8 then x (ix2 0 ⟨n.val, h⟩) else 0 := by
  pointwise
  rw [zero_word]

theorem fl_at (r : Fin 4096) (n : Fin 128) : V m c main_v0 (ix2 r n) = if h : n.val < 8 then Lg m c (ix2 r ⟨n.val, h⟩) else 0 := by
  refine (congrFun (show V m c main_v0 = _ from read_fl _) _).trans ?_
  exact pad_fl _ r n

theorem bi_at (n : Fin 128) : V m c main_v1 (ix2 (0 : Fin 1) n) = if h : n.val < 8 then Bi m c (ix2 0 ⟨n.val, h⟩) else 0 := by
  refine (congrFun (show V m c main_v1 = _ from read_bi _) _).trans ?_
  exact pad_bi _ n

section
variable (t : Fin cfg0.N) (r : Fin 512)

theorem row_lt : 512 * (7 - t.val) + r.val < 4096 := by omega

theorem blk0 (n : Fin 512) : iblk m c 0 t (ix2 r n) = V m c main_v3 (ix2 ⟨_, row_lt t r⟩ n) := by
  blk_point [iblk, idx t]
theorem blk1 (n : Fin 512) : iblk m c 1 t (ix2 r n) = V m c main_v5 (ix2 ⟨_, row_lt t r⟩ n) := by
  blk_point [iblk, idx t]
theorem blk2 (n : Fin 128) : iblk m c 2 t (ix2 r n) = V m c main_v0 (ix2 ⟨_, row_lt t r⟩ n) := by
  blk_point [iblk, idx t]
theorem blk3 (n : Fin 128) : iblk m c 3 t (ix2 (0 : Fin 1) n) = V m c main_v1 (ix2 (0 : Fin 1) n) := by
  blk_point [iblk, idx t]

theorem pick_blk (l : Fin 128) :
    pick (iblk m c 0 t) (iblk m c 1 t) r l = D m c l (512 * (7 - t.val) + r.val) := by
  unfold pick D
  by_cases h : l.val < 8
  · rw [dif_pos h, dif_pos ⟨h, row_lt t r⟩]
    refine (congrArg₂ (fun a b : EReal => a - b) ((blk0 m c t r _).trans (rs_at m c _ _)) ((blk1 m c t r _).trans (cs_at m c _ _))).trans ?_
    have e : (⟨65 * l.val / 64, by omega⟩ : Fin 8) = ⟨l.val, h⟩ := Fin.ext (by show 65 * l.val / 64 = l.val; omega)
    simp only [e]
  · rw [dif_neg h, dif_neg fun h' => h h'.1]

theorem logit_blk (l : Fin 128) :
    (show EReal from iblk m c 2 t (ix2 r l)) + (show EReal from iblk m c 3 t (ix2 (0 : Fin 1) l)) = X m c l (512 * (7 - t.val) + r.val) := by
  refine (congrArg₂ (fun a b : EReal => a + b) ((blk2 m c t r l).trans (fl_at m c _ l)) ((blk3 m c t l).trans (bi_at m c l))).trans ?_
  unfold X
  by_cases h : l.val < 8
  · rw [dif_pos h, dif_pos h, dif_pos ⟨h, row_lt t r⟩]
  · rw [dif_neg h, dif_neg h, add_zero, dif_neg fun h' => h h'.1]
end

/-- What one point computes from what was carried in: the sums, the gradients. -/
theorem sums_blk (t : Fin cfg0.N) (cr : Vec Ideal S1x128 .f32) (l : Fin 128) (hcr : cr (ix2 0 l) = tail (D m c l) (512 * (7 - t.val + 1))) (r : Fin 512) :
    sums (iblk m c 0 t) (iblk m c 1 t) cr (ix2 r l) = tail (D m c l) (512 * (7 - t.val) + r.val) := by
  rw [sums_at, hcr, tail_block _ _ (by omega)]
  exact congrArg₂ (· + ·) (Finset.sum_congr rfl fun j _ => by rw [pick_blk]) rfl

/-- The gate's gradient, and what the bias's has summed from a row on. -/
def G (l : Fin 128) (j : ℕ) : EReal := tail (D m c l) j * gate (X m c l j)

set_option maxHeartbeats 1000000 in
theorem point (n : ℕ) (hn : n < cfg0.N) (l : Fin 128) :
    (∀ r : Fin 512, (outsAt0 m c n hn).1 (ix2 r l) = G m c l (512 * (7 - n) + r.val))
      ∧ (outsAt0 m c n hn).2.1 (ix2 0 l) = tail (G m c l) (512 * (7 - n))
      ∧ (outsAt0 m c n hn).2.2 (ix2 0 l) = tail (D m c l) (512 * (7 - n)) := by
  have hN : cfg0.N = 8 := N_0
  have fin (t : Fin cfg0.N) (cr o : Vec Ideal S1x128 .f32) (hcr : cr (ix2 0 l) = tail (D m c l) (512 * (7 - t.val + 1)))
      (ho : o (ix2 0 l) = tail (G m c l) (512 * (7 - t.val + 1))) :
      (∀ r : Fin 512, k0_pay2 (sums (iblk m c 0 t) (iblk m c 1 t) cr) (iblk m c 2 t) (iblk m c 3 t) (ix2 r l) = G m c l (512 * (7 - t.val) + r.val))
      ∧ k0_pay3 (sums (iblk m c 0 t) (iblk m c 1 t) cr) (iblk m c 2 t) (iblk m c 3 t) o (ix2 0 l) = tail (G m c l) (512 * (7 - t.val))
      ∧ sums (iblk m c 0 t) (iblk m c 1 t) cr (ix2 0 l) = tail (D m c l) (512 * (7 - t.val)) := by
    have hs := sums_blk m c t cr l hcr
    refine ⟨fun r => ?_, ?_, hs 0⟩
    · rw [grad_at', hs]
      exact congrArg (fun x => _ * gate x) (logit_blk m c t r l)
    · rw [bias_at, ho, tail_whole (G m c l) (7 - t.val) (by omega)]
      refine congrArg₂ (· + ·) rfl (Finset.sum_congr rfl fun r _ => ?_)
      rw [hs]
      exact congrArg (fun x => _ * gate x) (logit_blk m c t r l)
  induction n with
  | zero =>
    rw [show outsAt0 m c 0 hn = _ from outsAt0_A m c ⟨0, hn⟩ rfl]
    obtain ⟨a, b, e⟩ := fin ⟨0, hn⟩ (k0_pay4 (F := Ideal)) (k0_pay5 (F := Ideal)) (by rw [zero4]; exact (tail_end _).symm) (by rw [zero5]; exact (tail_end _).symm)
    refine ⟨fun r => ?_, ?_, ?_⟩
    · frame_out
      exact a r
    · frame_out
      exact b
    · frame_out
      rw [carry_at]
      exact e
  | succ n ih =>
    obtain ⟨_, ib, ie⟩ := ih (by omega)
    rw [show outsAt0 m c (n + 1) hn = _ from outsAt0_B m c ⟨n + 1, hn⟩ (by show ¬ (n + 1) % 8 = 0; omega)]
    obtain ⟨a, b, e⟩ := fin ⟨n + 1, hn⟩ (outsAt0 m c n (by omega)).2.2 (outsAt0 m c n (by omega)).2.1
      (by rw [ie]; congr 2; show 7 - n = 7 - (n + 1) + 1; omega) (by rw [ib]; congr 2; show 7 - n = 7 - (n + 1) + 1; omega)
    refine ⟨fun r => ?_, ?_, ?_⟩
    · frame_out
      simp only [read_unread_whole, Nat.add_sub_cancel]
      exact a r
    · frame_out
      simp only [read_unread_whole, Nat.add_sub_cancel]
      exact b
    · frame_out
      simp only [read_unread_whole, Nat.add_sub_cancel]
      rw [carry_at]
      exact e

/-- The gate's gradient, row by row. -/
theorem final_dfl : (dats m 0 c).arrAt 4 cfg0.N = fun i => G m c (i 1) (i 0).val := by
  refine (dats m 0 c).arrAt_eq_of_covers 4 _ (by decide +kernel) fun t hf y => ?_
  blk_simp
  rw [after0_4, eq_ix2 y]
  refine ((point m c t.val t.isLt (y 1)).1 (y 0)).trans ?_
  have hi : win0_4.index t 0 = 7 - t.val := by rw [(idx t).2.2.2.2.1]; rfl
  have e1 : (win0_4.blk t).view.emb (ix2 (y 0) (y 1)) 1 = y 1 := Fin.ext (by
    show win0_4.index t 1 * 128 + 1 * (y 1).val = (y 1).val
    rw [(idx t).2.2.2.2.1]
    show 0 * 128 + 1 * (y 1).val = (y 1).val
    omega)
  rw [hi, mul_comm 512]
  exact congrArg (fun l => G m c l _) e1.symm

/-- The bias's gradient. -/
theorem final_db : (dats m 0 c).arrAt 5 cfg0.N = fun i => tail (G m c (i 1)) 0 := by
  refine (dats m 0 c).arrAt_eq_of_after_last 5 t0_7 (by decide +kernel) _ fun j => ?_
  blk_simp
  rw [after0_5]
  have hj : j = ix2 (0 : Fin 1) (j 1) := (eq_ix2 j).trans (congrArg (fun a : Fin 1 => ix2 a (j 1)) (Subsingleton.elim _ _))
  refine (congrArg (outsAt0 m c 7 _).2.1 hj).trans ?_
  exact (point m c 7 _ (j 1)).2.1

end Cert.CumKernelIdeal.Cum
-- ==== Proof.Cum.Ref.lean ====
module

public import proofs.«01_k».proof.Proof.Gen.CumReferenceIdeal.Read
public import proofs.«01_k».proof.Proof.Cum.Spec
public import Idealize.ShloMosaic.Lib.Pointwise

/-! The reference's gradients, entry by entry. -/

@[expose] public section

set_option maxRecDepth 16384

noncomputable section

namespace Cert.CumReferenceIdeal.Cum

open Idealize.ShloMosaic Idealize.ShloMosaic.TcCoe Idealize.SL.Sem
open Cert.CumReferenceIdeal Cert.CumReferenceIdeal.Read Cert.Cum

variable (x0 : FVec Ideal S4096x8 .f32) (x1 : FVec Ideal S1x8 .f32) (x2 x3 : FVec Ideal S4096x8 .f32)

/-- The softplus of a real logit, negated inside. -/
theorem soft_at (i) (y : ℝ) (h : x0 i + x1 (ix2 0 (i 1)) = (y : EReal)) :
    val_main_call0_v1_0 (F := Ideal) x0 x1 i = ((max (-y) 0 + Real.log (1 + Real.exp (-|y|)) : ℝ) : EReal) := by
  rw [eq_ix2 i] at h ⊢
  generalize i 0 = r at h ⊢
  generalize i 1 = l at h ⊢
  change Fin 4096 at r
  change Fin 8 at l
  pointwise [val_main_call0_v1_0, val_main_call0_call0_v11, val_main_call0_call0_v10, val_main_call0_call0_v9, val_main_call0_call0_v8, val_main_call0_call0_v7,
    val_main_call0_call0_v6, val_main_call0_call0_v5, val_main_call0_call0_v4, val_main_call0_call0_v3, val_main_call0_call0_v2, val_main_call0_call0_v1, val_main_call0_call0_v0,
    val_main_call0_call0_cst, val_main_call0_v0, val_main_v1, val_main_v0]
  have ha : x0 (ix2 r l) + x1 (ix2 0 l) = (y : EReal) := h
  rw [ha, if_neg (not_not.mpr rfl)]
  have he : FloatOps.absf (F := Ideal) (φ := .f32) (-(y : EReal)) = ((|y| : ℝ) : EReal) := by
    rw [← EReal.coe_neg]
    show max ((-y : ℝ) : EReal) (-((-y : ℝ) : EReal)) = _
    rw [← EReal.coe_neg, ← EReal.coe_strictMono.monotone.map_max, neg_neg, max_comm]; rfl
  rw [he, ← EReal.coe_neg, ← EReal.coe_neg, Ideal.exp_coe, ← EReal.coe_zero, ← EReal.coe_strictMono.monotone.map_max]
  show _ + Ideal.log (1 + _) = _
  rw [← EReal.coe_one, ← EReal.coe_add, Ideal.log_coe, if_neg (not_le.mpr (by positivity)), ← EReal.coe_add]

/-- The derivative that jax takes of log-sigmoid: of a real logit, `1 / (1 + exp y)`. -/
theorem deriv_at (i) (y : ℝ) (h : x0 i + x1 (ix2 0 (i 1)) = (y : EReal)) :
    val_main_v2_1 (F := Ideal) x0 x1 i = gate (y : EReal) := by
  have hs := soft_at x0 x1 i y h
  rw [eq_ix2 i] at h hs ⊢
  generalize i 0 = r at h hs ⊢
  generalize i 1 = l at h hs ⊢
  change Fin 4096 at r
  change Fin 8 at l
  pointwise [val_main_v2_1, val_main_call0_call0_v21, val_main_call0_call0_v20, val_main_call0_call0_v19, val_main_call0_call0_v18, val_main_call0_call0_v17,
    val_main_call0_call0_v16, val_main_call0_call0_v15, val_main_call0_call0_v14, val_main_call0_call0_v13, val_main_call0_v0, val_main_v1, val_main_v0,
    val_main_call0_call0_cst_0, val_main_call0_call0_cst_1, val_main_call0_call0_cst_2, val_main_call0_call0_cst_3]
  rw [hs]
  have ha : x0 (ix2 r l) + x1 (ix2 0 l) = (y : EReal) := h
  have ht : Ideal.ofBits FTy.f32 2139095040#32 = ⊤ := by simp [Ideal.ofBits, Ideal.ieee]
  rw [ha, ht, ← EReal.coe_neg, if_neg (EReal.coe_ne_top _), if_neg (EReal.coe_ne_top _), ← EReal.coe_sub, Ideal.exp_coe, gate_coe]
  congr 1
  rw [Real.exp_sub, Real.exp_add, Real.exp_log (by positivity)]
  rcases le_total 0 y with hy | hy
  · rw [max_eq_right (by linarith), abs_of_nonneg hy, Real.exp_zero, Real.exp_neg]
    have := Real.exp_pos y
    field_simp
    ring
  · rw [max_eq_left (by linarith), abs_of_nonpos hy, neg_neg]
    have := Real.exp_pos (-y)
    field_simp

/-- The sum of the cotangent from a row on. -/
theorem sum_at (r : Fin 4096) (l : Fin 8) : val_main_v7 (F := Ideal) x2 x3 (ix2 r l)
    = tail (fun j => if hj : j < 4096 then x2 (ix2 ⟨j, hj⟩ l) - x3 (ix2 ⟨j, hj⟩ l) else 0) r.val := by
  unfold val_main_v7 Host.reduceWindowAdd
  rw [Ideal.hostReduceWindowAdd_def]
  refine (revsum (val_main_v6 (F := Ideal) x2 x3) _ ?_ _ r l).trans rfl
  rw [val_main_call2_call0_v0_apply, val_main_call2_call0_cst_apply]
  exact Ideal.ofBits_zero_f32

theorem v8_at (r : Fin 4096) (l : Fin 8) (y : ℝ) (h : x0 (ix2 r l) + x1 (ix2 0 l) = (y : EReal)) : val_main_v8 (F := Ideal) x0 x1 x2 x3 (ix2 r l)
    = tail (fun j => if hj : j < 4096 then x2 (ix2 ⟨j, hj⟩ l) - x3 (ix2 ⟨j, hj⟩ l) else 0) r.val * gate (x0 (ix2 r l) + x1 (ix2 0 l)) := by
  rw [val_main_v8_apply, val_main_call3_v1_apply, val_main_call3_v0_apply, sum_at, deriv_at x0 x1 (ix2 r l) y h, h]
  generalize tail _ _ = S
  exact (congrArg (fun z : EReal => -z) (EReal.neg_mul S _)).trans (neg_neg _)

theorem v12_at (r : Fin 4096) (n : Fin 128) : val_main_v12 (F := Ideal) x0 x1 x2 x3 (ix2 r n)
    = if h : n.val < 8 then val_main_v8 (F := Ideal) x0 x1 x2 x3 (ix2 r ⟨n.val, h⟩) else 0 := by
  unfold val_main_v12 val_main_v11
  generalize val_main_v8 (F := Ideal) x0 x1 x2 x3 = X
  pointwise [val_main_call4_v0, val_main_c]
  rw [zero_word]

theorem v13_at (n : Fin 128) : val_main_v13 (F := Ideal) x0 x1 x2 x3 (ix2 (0 : Fin 1) n)
    = if h : n.val < 8 then ∑ r : Fin 4096, val_main_v8 (F := Ideal) x0 x1 x2 x3 (ix2 r ⟨n.val, h⟩) else 0 := by
  unfold val_main_v13 val_main_v10 val_main_v9
  generalize val_main_v8 (F := Ideal) x0 x1 x2 x3 = X
  pointwise [val_main_call5_v0, val_main_c_0, val_main_cst]
  rw [zero_word]

end Cert.CumReferenceIdeal.Cum
-- ==== Proof.Cum.Claim.lean ====
module

public import proofs.«01_k».proof.Defs
public import proofs.«01_k».proof.Proof.Cum.Kernel
public import proofs.«01_k».proof.Proof.Cum.Ref
public import proofs.«01_k».proof.Proof.Finite
public import proofs.«01_k».proof.Proof.Gen.Pre_cum_finite
public import proofs.«01_k».proof.Proof.Gen.CumReferenceIdeal.Run
public import Idealize.ShloMosaic.Lib.Claim

/-! The forget gate's gradients are those of the reference. -/

@[expose] public section

set_option maxRecDepth 16384

noncomputable section

open Idealize.ShloMosaic Idealize.ShloMosaic.TcCoe Idealize.SL.Sem

namespace Cert.Proof.Cum

open Cert.CumKernelIdeal.Cum Cert.Cum Cert.Finite

instance : Cert.Pre_cum_finite.Facts := Cert.Pre_cum_finite.Gen.facts

/-- What the precondition says: the gate's logit and its bias are real. -/
theorem reals (x0 x2 x3 : FVec Ideal Cert.Pre_cum_finite.S4096x8 .f32) (x1 : FVec Ideal Cert.Pre_cum_finite.S1x8 .f32)
    (h : Cert.Pre_cum_finite.fn (F := Ideal) x0 x1 x2 x3 = fun _ => 1#1) :
    (∀ i, ∃ a : ℝ, x0 i = a) ∧ (∀ i, ∃ a : ℝ, x1 i = a) := by
  have h' := congrFun h (fun d => d.elim0)
  unfold Cert.Pre_cum_finite.fn at h'
  dsimp only at h'
  obtain ⟨h0, h1⟩ := and_split h'
  exact ⟨real_of_test _ _ _ _ _ _ h0, real_of_test _ _ _ _ _ _ h1⟩

section Values

open Cert.CumKernelIdeal Cert.CumKernelIdeal.Gen Cert.CumReferenceIdeal.Read

variable (m : (ℓ : Loc nD τ sig) → Buf (Elt Ideal) ℓ) (c : Dev nD)

/-- The reference's gradient of a head is the kernel's lane. -/
theorem head_eq (h : (∀ i, ∃ a : ℝ, Lg m c i = a) ∧ (∀ i, ∃ a : ℝ, Bi m c i = a)) (r : Fin 4096) (n : Fin 128) (hn : n.val < 8) :
    val_main_v8 (F := Ideal) (Lg m c) (Bi m c) (Dr m c) (Dc m c) (ix2 r ⟨n.val, hn⟩) = G m c n r.val := by
  obtain ⟨a, ha⟩ := h.1 (ix2 r ⟨n.val, hn⟩)
  obtain ⟨b, hb⟩ := h.2 (ix2 0 ⟨n.val, hn⟩)
  refine (Cert.CumReferenceIdeal.Cum.v8_at _ _ _ _ r ⟨n.val, hn⟩ (a + b) (by rw [ha, hb, EReal.coe_add])).trans ?_
  unfold G
  refine congrArg₂ (fun x y : EReal => x * gate y) (congrArg (fun D => tail D r.val) (funext fun j => ?_)) ?_
  · unfold D
    by_cases hj : j < 4096
    · rw [dif_pos hj, dif_pos ⟨hn, hj⟩]
    · rw [dif_neg hj, dif_neg fun h => hj h.2]
  · unfold X
    rw [dif_pos ⟨hn, r.isLt⟩]

/-- Past the heads there is nothing. -/
theorem empty (n : Fin 128) (hn : ¬ n.val < 8) (j : ℕ) : G m c n j = 0 := by
  have hD : D m c n = fun _ => 0 := funext fun j => by unfold D; rw [dif_neg fun h => hn h.1]
  unfold G tail
  rw [hD, Finset.sum_const_zero, zero_mul]

theorem value0 (h : (∀ i, ∃ a : ℝ, Lg m c i = a) ∧ (∀ i, ∃ a : ℝ, Bi m c i = a)) :
    val_main_v12 (F := Ideal) (Lg m c) (Bi m c) (Dr m c) (Dc m c) = fun i => G m c (i 1) (i 0).val := by
  funext i
  rw [eq_ix2 i]
  refine (Cert.CumReferenceIdeal.Cum.v12_at _ _ _ _ (i 0) (i 1)).trans ?_
  by_cases hn : (i 1).val < 8
  · exact (dif_pos hn).trans (head_eq m c h (i 0) (i 1) hn)
  · exact (dif_neg hn).trans (empty m c (i 1) hn _).symm

theorem value1 (h : (∀ i, ∃ a : ℝ, Lg m c i = a) ∧ (∀ i, ∃ a : ℝ, Bi m c i = a)) :
    val_main_v13 (F := Ideal) (Lg m c) (Bi m c) (Dr m c) (Dc m c) = fun i => tail (G m c (i 1)) 0 := by
  funext i
  have hi : i = ix2 (0 : Fin 1) (i 1) := (eq_ix2 i).trans (congrArg (fun a : Fin 1 => ix2 a (i 1)) (Subsingleton.elim _ _))
  refine ((congrArg _ hi).trans (Cert.CumReferenceIdeal.Cum.v13_at _ _ _ _ (i 1))).trans ?_
  by_cases hn : (i 1).val < 8
  · refine (dif_pos hn).trans ((Finset.sum_congr rfl fun r _ => head_eq m c h r (i 1) hn).trans ?_)
    unfold tail
    rw [Finset.sum_range (fun j => G m c (i 1) j) |>.symm, Finset.range_eq_Ico]
  · refine (dif_neg hn).trans ?_
    unfold tail
    exact (Finset.sum_eq_zero fun j _ => empty m c (i 1) hn j).symm

end Values

/-- The reference terminates, with its arguments unchanged and every counter at zero. -/
theorem frame_reference : Cert.quiescent_CumReferenceIdeal := by
  intro m g _
  exact (θ_run Cert.CumReferenceIdeal.defs _ _).mono (fun r h => ⟨fun c => (h c).2.2, sem_eq_zero_of_no_sems (by decide) r.2⟩)
    (Cert.CumReferenceIdeal.Value.run m g)

theorem algebraic : Cert.algebraic_CumKernelIdeal_CumReferenceIdeal_pre_cum_finite := by
  pair_intro
  · run_from Cert.CumKernelIdeal.Value.run_blocks m g
  · run_from Cert.CumReferenceIdeal.Value.run m' g'
    · rw [Cert.CumReferenceIdeal.Read.val_main_v12_eq]
      exact (value0 m c (reals _ _ _ _ (hpre c))).trans (final_dfl m c).symm
    · rw [Cert.CumReferenceIdeal.Read.val_main_v13_eq]
      exact (value1 m c (reals _ _ _ _ (hpre c))).trans (final_db m c).symm

end Cert.Proof.Cum

end
-- ==== Proof.Held.lean ====
module

public import proofs.«01_k».proof.Proof.Reals
public import Idealize.ShloMosaic.Lib.Pipeline.ValueKit
public import Idealize.ShloMosaic.Lib.Pipeline.ReadBack

/-! Arrays that hold real numbers, and what keeps them so. -/

@[expose] public section

noncomputable section

namespace Cert.Held

open Idealize.ShloMosaic Idealize.SL.Sem

/-- The array `x` of two axes holds the reals `X`. -/
def Is {n d : ℕ} (x : (⟨2, ![n, d]⟩ : Shape).Idx → EReal) (X : ℕ → ℕ → ℝ) : Prop :=
  ∀ (r : Fin n) (l : Fin d), x (ix2 r l) = ((X r l : ℝ) : EReal)

/-- The array `x` of three axes holds the reals `X`. -/
def Is3 {a b c : ℕ} (x : (⟨3, ![a, b, c]⟩ : Shape).Idx → EReal) (X : ℕ → ℕ → ℕ → ℝ) : Prop :=
  ∀ (i : Fin a) (j : Fin b) (k : Fin c), x (ix3 i j k) = ((X i j k : ℝ) : EReal)

/-- An array of real numbers holds some. -/
theorem exists_is {n d : ℕ} (x : (⟨2, ![n, d]⟩ : Shape).Idx → EReal) (h : ∀ i, ∃ a : ℝ, x i = a) : ∃ X : ℕ → ℕ → ℝ, Is x X := by
  choose f hf using h
  refine ⟨fun r l => if h : r < n ∧ l < d then f (ix2 ⟨r, h.1⟩ ⟨l, h.2⟩) else 0, fun r l => ?_⟩
  refine (hf _).trans (congrArg Real.toEReal ?_)
  show f (ix2 r l) = if h : r.val < n ∧ l.val < d then f (ix2 ⟨r.val, h.1⟩ ⟨l.val, h.2⟩) else 0
  rw [dif_pos ⟨r.isLt, l.isLt⟩]

/-- Two arrays that hold the same reals are equal. -/
theorem Is.eq {n d : ℕ} {x y : (⟨2, ![n, d]⟩ : Shape).Idx → EReal} {X : ℕ → ℕ → ℝ} (hx : Is x X) (hy : Is y X) : x = y := by
  funext i
  rw [eq_ix2 i]
  exact (hx _ _).trans (hy _ _).symm

/-- A sum of products of reals. -/
theorem sum_mul {ι : Type*} (s : Finset ι) (f g : ι → ℝ) : (∑ i ∈ s, (f i : EReal) * (g i : EReal)) = ((∑ i ∈ s, f i * g i : ℝ) : EReal) := by
  rw [Reals.coe_sum]
  exact Finset.sum_congr rfl fun i _ => (EReal.coe_mul _ _).symm

/-- The maximum of finitely many reals, one at least, is a real. -/
theorem fold_max_real {n : ℕ} (b : EReal) (f : Fin n → ℝ) (hb : b ≠ ⊤) (k₀ : Fin n) :
    ∃ M : ℝ, (Finset.univ : Finset (Fin n)).fold max b (fun k => (f k : EReal)) = M := by
  have h1 : (Finset.univ : Finset (Fin n)).fold max b (fun k => (f k : EReal)) < ⊤ :=
    Finset.fold_max_lt _ |>.2 ⟨lt_top_iff_ne_top.2 hb, fun k _ => EReal.coe_lt_top _⟩
  have h2 : ⊥ < (Finset.univ : Finset (Fin n)).fold max b (fun k => (f k : EReal)) :=
    Finset.lt_fold_max _ |>.2 (.inr ⟨k₀, Finset.mem_univ _, EReal.bot_lt_coe _⟩)
  exact ⟨_, (EReal.coe_toReal h1.ne h2.ne').symm⟩

/-- A load of `k` rows from `o` on and of `e` columns from `b` on, at an index. -/
theorem ld_at {n d k e : ℕ} {Val : EltTy → Type} {t : EltTy} (x : (⟨2, ![n, d]⟩ : Shape).Idx → Val t) (o b : ℕ)
    (inb : ∀ a, (![o, b] : Fin 2 → ℕ) a + (![k, e] : Fin 2 → ℕ) a ≤ (⟨2, ![n, d]⟩ : Shape).size a) (r : Fin k) (l : Fin e)
    (hr : o + r.val < n) (hl : b + l.val < d) :
    View.ld (Val := Val) x (Rect.unit (s := ⟨2, ![n, d]⟩) ![o, b] ![k, e] inb) (ix2 r l) = x (ix2 ⟨o + r.val, hr⟩ ⟨b + l.val, hl⟩) := by
  refine congrArg x (funext fun a => ?_)
  match a with
  | ⟨0, _⟩ => exact Fin.ext (by simp [Rect.unit, Rect.emb])
  | ⟨1, _⟩ => exact Fin.ext (by simp [Rect.unit, Rect.emb])

/-- Where the indices of a rectangle lie in its array. -/
theorem emb_at {n d k e : ℕ} (o b : ℕ) (inb : ∀ a, (![o, b] : Fin 2 → ℕ) a + (![k, e] : Fin 2 → ℕ) a ≤ (⟨2, ![n, d]⟩ : Shape).size a) (r : Fin k) (l : Fin e)
    (hr : o + r.val < n) (hl : b + l.val < d) :
    (Rect.unit (s := ⟨2, ![n, d]⟩) ![o, b] ![k, e] inb).emb (ix2 r l : (⟨2, ![k, e]⟩ : Shape).Idx) = ix2 ⟨o + r.val, hr⟩ ⟨b + l.val, hl⟩ := by
  funext a
  match a with
  | ⟨0, _⟩ => exact Fin.ext (by simp [Rect.unit, Rect.emb])
  | ⟨1, _⟩ => exact Fin.ext (by simp [Rect.unit, Rect.emb])

/-- A value taken out of an array: `k` rows from `o` on, `e` columns from `b` on. -/
theorem Is.slice {n d k e : ℕ} {x : (⟨2, ![n, d]⟩ : Shape).Idx → EReal} {X : ℕ → ℕ → ℝ} (h : Is x X) (o b : ℕ)
    (hs : (⟨2, ![n, d]⟩ : Shape).Slices ![o, b] ⟨2, ![k, e]⟩) :
    Is (n := k) (d := e) (extractStridedSlice ⟨2, ![k, e]⟩ ![o, b] x hs) (fun r l => X (o + r) (b + l)) := by
  intro r l
  have h0 : o + k ≤ n := hs.2 0
  have h1 : b + e ≤ d := hs.2 1
  refine Eq.trans ?_ (h ⟨o + r, by have := r.isLt; omega⟩ ⟨b + l, by have := l.isLt; omega⟩)
  refine congrArg x (funext fun a => ?_)
  match a with
  | ⟨0, _⟩ => rfl
  | ⟨1, _⟩ => rfl

/-- A block of the array that holds the reals `X` at every index. -/
theorem block_of {n d k e : ℕ} {X : ℕ → ℕ → ℝ} (o b : ℕ) (inb : ∀ a, (![o, b] : Fin 2 → ℕ) a + (![k, e] : Fin 2 → ℕ) a ≤ (⟨2, ![n, d]⟩ : Shape).size a)
    {w : (⟨2, ![k, e]⟩ : Shape).Idx → EReal} (hw : ∀ (r : Fin k) (l : Fin e), w (ix2 r l) = ((X (o + r) (b + l) : ℝ) : EReal)) (x : (⟨2, ![k, e]⟩ : Shape).Idx) :
    w x = ((X ((Rect.unit (s := ⟨2, ![n, d]⟩) ![o, b] ![k, e] inb).emb x 0).val ((Rect.unit (s := ⟨2, ![n, d]⟩) ![o, b] ![k, e] inb).emb x 1).val : ℝ) : EReal) := by
  have h0 : o + k ≤ n := inb 0
  have h1 : b + e ≤ d := inb 1
  obtain ⟨r, l, rfl⟩ : ∃ (r : Fin k) (l : Fin e), x = ix2 r l := ⟨x 0, x 1, eq_ix2 x⟩
  rw [hw r l, emb_at o b inb r l (by have := r.isLt; omega) (by have := l.isLt; omega)]
  rfl

/-- Stores that are blocks of `G` and cover an index leave `G` there. -/
theorem canon_pieces {s : Shape} {t : EltTy} {Val : EltTy → Type} [∀ e, Nonempty (Val e)] (G : s.Idx → Val t) (L : List (View.Piece Val s t)) (y : s.Idx)
    (hc : ∃ p ∈ L, y ∈ p.1.set) (h : View.PiecesOf G L) : View.canon L y = G y := by
  have := View.canon_append_of_piecesOf G [] L h y hc
  rwa [List.append_nil] at this

/-- The same over an earlier store. -/
theorem canon_pieces_over {s : Shape} {t : EltTy} {Val : EltTy → Type} [∀ e, Nonempty (Val e)] (G : s.Idx → Val t) (L : List (View.Piece Val s t)) (y : s.Idx)
    (hc : ∃ p ∈ L.dropLast, y ∈ p.1.set) (h : View.PiecesOf G L.dropLast) : View.canon L y = G y := by
  have hL : L ≠ [] := fun h => by subst h; obtain ⟨p, hp, _⟩ := hc; simp at hp
  have := View.canon_append_of_piecesOf G [L.getLast hL] L.dropLast h y hc
  rwa [List.dropLast_append_getLast] at this

end Cert.Held

end
-- ==== Proof.Mem.Spec.lean ====
module

public import proofs.«01_k».proof.Proof.Held
public import proofs.«01_k».proof.Proof.Gen.MemKernelIdeal.Value
public import Idealize.ShloMosaic.Lib.Pointwise

/-! Attention over a table of 256 memory rows: its gradients over the reals, and the operations of one head. -/

@[expose] public section

set_option maxRecDepth 16384

noncomputable section

namespace Cert.Mem

/-- The scale of the scores, as the programs write it. -/
def sc : ℝ := 11863283 / 134217728

section
variable (q k v g : ℕ → ℕ → ℝ)

/-- Head `h`'s score of memory row `m` for row `r`. -/
def score (h r m : ℕ) : ℝ := (∑ d : Fin 128, q r (128 * h + d) * k m (128 * h + d)) * sc
def total (h r : ℕ) : ℝ := ∑ m : Fin 256, Real.exp (score q k h r m)
def prob (h r m : ℕ) : ℝ := Real.exp (score q k h r m) / total q k h r
/-- The gradients of a weight and of a score. -/
def dprob (h r m : ℕ) : ℝ := ∑ d : Fin 128, g r (128 * h + d) * v m (128 * h + d)
def dscore (h r m : ℕ) : ℝ := prob q k h r m * (dprob v g h r m - ∑ m' : Fin 256, prob q k h r m' * dprob v g h r m') * sc
/-- The gradients of the queries, and of the keys and values over the first `n` rows. -/
def dQ (r x : ℕ) : ℝ := ∑ m : Fin 256, dscore q k v g (x / 128) r m * k m x
def dK (n m x : ℕ) : ℝ := ∑ r ∈ Finset.range n, dscore q k v g (x / 128) r m * q r x
def dV (n m x : ℕ) : ℝ := ∑ r ∈ Finset.range n, prob q k (x / 128) r m * g r x

theorem total_pos (h r : ℕ) : 0 < total q k h r :=
  Finset.sum_pos (fun _ _ => Real.exp_pos _) ⟨0, Finset.mem_univ _⟩

end

/-- A softmax's weight does not depend on what is taken off the scores. -/
theorem softmax_shift {n : ℕ} (s : Fin n → ℝ) (M : ℝ) (p : Fin n) :
    Real.exp (s p - M) / ∑ x, Real.exp (s x - M) = Real.exp (s p) / ∑ x, Real.exp (s x) := by
  simp only [Real.exp_sub, ← Finset.sum_div]
  exact div_div_div_cancel_right₀ (Real.exp_ne_zero M) _ _

open Idealize.ShloMosaic Held

theorem sc_word : Ideal.ofBits .f32 0x3DB504F3#32 = ((sc : ℝ) : EReal) := by
  simp [Ideal.ofBits, Ideal.ieee, -EReal.coe_mul, sc]; norm_num
theorem bot_word : Ideal.ofBits .f32 0xFF800000#32 = ⊥ := by simp [Ideal.ofBits, Ideal.ieee]

/-- A softmax of reals with the largest score taken off first. -/
theorem softmax_real {n : ℕ} (s : Fin n → ℝ) (p : Fin n) :
    Ideal.div (Ideal.exp ((s p : EReal) - (Finset.univ : Finset (Fin n)).fold max ⊥ fun x => (s x : EReal)))
      (∑ x, Ideal.exp ((s x : EReal) - (Finset.univ : Finset (Fin n)).fold max ⊥ fun x => (s x : EReal))) = ((Real.exp (s p) / ∑ x, Real.exp (s x) : ℝ) : EReal) := by
  obtain ⟨M, hM⟩ := fold_max_real ⊥ s bot_ne_top p
  rw [hM]
  simp only [← EReal.coe_sub, Ideal.exp_coe, ← Reals.coe_sum]
  rw [Ideal.div_coe (Finset.sum_pos (fun _ _ => Real.exp_pos _) ⟨p, Finset.mem_univ _⟩).ne', ← EReal.coe_mul, mul_one_div, softmax_shift]

end Cert.Mem

namespace Cert.MemKernelIdeal.Mem

open Idealize.ShloMosaic Idealize.ShloMosaic.TcCoe Idealize.SL.Sem
open Cert.MemKernelIdeal Cert.MemKernelIdeal.Gen Cert.Held Cert.Mem

/-! One head of a tile of 512 rows: `q`, `g` the head's queries and cotangents, `k`, `v` its keys and values. -/

section
variable (q g : FVec Ideal S512x128 .bf16) (k v : FVec Ideal S256x128 .bf16)

/-- The weights, a memory row's in a row of the array. -/
def probs : FVec Ideal S256x512 .f32 :=
  have s : FVec Ideal S256x512 .f32 := mulf (matmul dot_S256x128_S512x128_S256x512_1_1_0_0_n_n none k q (constant S256x512 .f32 0x00000000#32)) (broadcast S256x512 (Scalar.ofBits .f32 0x3DB504F3#32))
  have e : FVec Ideal S256x512 .f32 := exp (subf s (broadcastTo S256x512 (shapeCast S1x512 (multiReduction .maximumf [0] S512 s 0xFF800000#32 reduces_S256x512_S512 (.inl rfl) rfl) shapeCasts_S512_S1x512) broadcasts_S1x512_S256x512))
  divf e (broadcastTo S256x512 (shapeCast S1x512 (multiReduction .add [0] S512 e 0x00000000#32 reduces_S256x512_S512 (.inl rfl) rfl) shapeCasts_S512_S1x512) broadcasts_S1x512_S256x512)

/-- The weights' gradients. -/
def dprobs : FVec Ideal S256x512 .f32 := matmul dot_S256x128_S512x128_S256x512_1_1_0_0_n_n none v g (constant S256x512 .f32 0x00000000#32)

/-- The scores' gradients, from the weights `p` and their gradients `d`. -/
def dscores (p d : FVec Ideal S256x512 .f32) : FVec Ideal S256x512 .bf16 :=
  truncf .bf16 (mulf (mulf p (subf d (broadcastTo S256x512 (shapeCast S1x512 (multiReduction .add [0] S512 (mulf p d) 0x00000000#32 reduces_S256x512_S512 (.inl rfl) rfl)
    shapeCasts_S512_S1x512) broadcasts_S1x512_S256x512))) (broadcast S256x512 (Scalar.ofBits .f32 0x3DB504F3#32))) bitsLt_bf16_f32

/-- A sum over the tile's rows, added to what was there. -/
def addRows (o : FVec Ideal S256x128 .f32) (w : FVec Ideal S256x512 .bf16) (x : FVec Ideal S512x128 .bf16) : FVec Ideal S256x128 .f32 :=
  addf (shapeCast S256x128 o shapeCasts_S256x128_S256x128) (matmul dot_S256x512_S512x128_S256x128_1_0_0_1_n_n none w x (constant S256x128 .f32 0x00000000#32))

/-- The queries' gradient. -/
def dqs (w : FVec Ideal S256x512 .bf16) : FVec Ideal S512x128 .bf16 :=
  truncf .bf16 (matmul dot_S256x512_S256x128_S512x128_0_0_1_1_n_n none w k (constant S512x128 .f32 0x00000000#32)) bitsLt_bf16_f32

variable {q g k v} {Q G K V : ℕ → ℕ → ℝ}

theorem probs_is (hq : Is (n := 512) (d := 128) q Q) (hk : Is (n := 256) (d := 128) k K) :
    Is (n := 256) (d := 512) (probs q k) fun p r => Real.exp ((∑ d : Fin 128, Q r d * K p d) * sc) / ∑ p' : Fin 256, Real.exp ((∑ d : Fin 128, Q r d * K p' d) * sc) := by
  intro p r
  have e : ∀ p : Fin 256, (∑ x : Fin 128, k (ix2 p x) * q (ix2 r x)) * Ideal.ofBits .f32 0x3DB504F3#32 = (((∑ d : Fin 128, Q r d * K p d) * sc : ℝ) : EReal) := fun p => by
    rw [sc_word, EReal.coe_mul, ← Held.sum_mul]
    refine congrArg (· * _) (Finset.sum_congr rfl fun x _ => ?_)
    rw [hq r x, hk p x, mul_comm]
  unfold probs
  pointwise
  simp only [Fin.eta, e, bot_word]
  exact softmax_real (fun p : Fin 256 => (∑ d : Fin 128, Q r d * K p d) * sc) p

theorem dprobs_is (hg : Is (n := 512) (d := 128) g G) (hv : Is (n := 256) (d := 128) v V) :
    Is (n := 256) (d := 512) (dprobs g v) fun p r => ∑ d : Fin 128, G r d * V p d := by
  intro p r
  unfold dprobs
  pointwise
  refine Eq.trans (Finset.sum_congr rfl fun x _ => ?_) (Held.sum_mul Finset.univ (fun x : Fin 128 => G r x) fun x => V p x)
  exact (congrArg₂ (· * ·) (hv p x) (hg r x)).trans (mul_comm _ _)

theorem dscores_is {p d : FVec Ideal S256x512 .f32} {P D : ℕ → ℕ → ℝ} (hp : Is (n := 256) (d := 512) p P) (hd : Is (n := 256) (d := 512) d D) :
    Is (n := 256) (d := 512) (dscores p d) fun m r => P m r * (D m r - ∑ m' : Fin 256, P m' r * D m' r) * sc := by
  intro m r
  unfold dscores
  pointwise
  simp only [Fin.eta, hp _ _, hd _ _, sc_word, ← EReal.coe_mul, ← Reals.coe_sum, ← EReal.coe_sub]

theorem addRows_is {o : FVec Ideal S256x128 .f32} {w : FVec Ideal S256x512 .bf16} {x : FVec Ideal S512x128 .bf16} {O W X : ℕ → ℕ → ℝ}
    (ho : Is (n := 256) (d := 128) o O) (hw : Is (n := 256) (d := 512) w W) (hx : Is (n := 512) (d := 128) x X) :
    Is (n := 256) (d := 128) (addRows o w x) fun m l => O m l + ∑ r : Fin 512, W m r * X r l := by
  intro m l
  unfold addRows
  pointwise
  simp only [Fin.eta, ho _ _, hw _ _, hx _ _, Held.sum_mul, ← EReal.coe_add]

theorem dqs_is {w : FVec Ideal S256x512 .bf16} {W : ℕ → ℕ → ℝ} (hw : Is (n := 256) (d := 512) w W) (hk : Is (n := 256) (d := 128) k K) :
    Is (n := 512) (d := 128) (dqs k w) fun r l => ∑ m : Fin 256, W m r * K m l := by
  intro r l
  unfold dqs
  pointwise
  simp only [Fin.eta, hk _ _, hw _ _, Held.sum_mul]
end

end Cert.MemKernelIdeal.Mem

end
-- ==== Proof.Mem.Block.lean ====
module

public import proofs.«01_k».proof.Proof.Mem.Spec

/-! The four heads of a tile: what it stores into the queries' gradient, and what it adds to the keys' and values'. -/

@[expose] public section

set_option maxRecDepth 16384

noncomputable section

namespace Cert.MemKernelIdeal.Mem

open Idealize.ShloMosaic Idealize.ShloMosaic.TcCoe Idealize.SL.Sem
open Cert.MemKernelIdeal Cert.MemKernelIdeal.Gen Cert.Held Cert.Mem

variable (x0 : Vec Ideal S512x512 .bf16) (x1 : Vec Ideal S256x1024 .bf16) (x2 : Vec Ideal S512x512 .bf16) (o : Vec Ideal S256x128 .f32)

/-- Head `h`'s columns of the tile's arrays. -/
abbrev cut (x : Vec Ideal S512x512 .bf16) (b : ℕ) (h : S512x512.Slices ![0, b] S512x128 := by decide) : FVec Ideal S512x128 .bf16 := extractStridedSlice S512x128 ![0, b] x h
abbrev cutm (x : Vec Ideal S256x1024 .bf16) (b : ℕ) (h : S256x1024.Slices ![0, b] S256x128 := by decide) : FVec Ideal S256x128 .bf16 := extractStridedSlice S256x128 ![0, b] x h

/-- A head's two arrays: its weights, its scores' gradients. -/
abbrev headP (b : ℕ) (h0 : S512x512.Slices ![0, b] S512x128 := by decide) (h1 : S256x1024.Slices ![0, b] S256x128 := by decide) : FVec Ideal S256x512 .f32 :=
  probs (cut x0 b h0) (cutm x1 b h1)
abbrev headD (b b' : ℕ) (h0 : S512x512.Slices ![0, b] S512x128 := by decide) (h1 : S256x1024.Slices ![0, b] S256x128 := by decide)
    (h2 : S256x1024.Slices ![0, b'] S256x128 := by decide) : FVec Ideal S256x512 .bf16 :=
  dscores (headP x0 x1 b h0 h1) (dprobs (cut x2 b h0) (cutm x1 b' h2))

theorem self0 : k0_pay6 (F := Ideal) x0 = x0 := shapeCast_self ..
theorem self1 : k0_pay7 (F := Ideal) x1 = x1 := shapeCast_self ..
theorem self2 : k0_pay8 (F := Ideal) x2 = x2 := shapeCast_self ..
theorem self3 : k0_pay42 (F := Ideal) o = o := shapeCast_self ..

theorem dv0 : k0_pay13 x0 x1 x2 o = addRows o (truncf .bf16 (headP (k0_pay6 x0) (k0_pay7 x1) 0) bitsLt_bf16_f32) (cut (k0_pay8 x2) 0) := rfl
theorem dv1 : k0_pay23 x0 x1 x2 o = addRows o (truncf .bf16 (headP x0 x1 128) bitsLt_bf16_f32) (cut x2 128) := rfl
theorem dv2 : k0_pay33 x0 x1 x2 o = addRows o (truncf .bf16 (headP x0 x1 256) bitsLt_bf16_f32) (cut x2 256) := rfl
theorem dv3 : k0_pay1 (k0_pay40 x2) (k0_pay41 x0 x1) (k0_pay42 o) = addRows o (truncf .bf16 (headP x0 x1 384) bitsLt_bf16_f32) (cut x2 384) := rfl

theorem dv3' : k0_pay1 (k0_pay40 x2) (k0_pay41 x0 x1) o = addRows o (truncf .bf16 (headP x0 x1 384) bitsLt_bf16_f32) (cut x2 384) := by
  have h := dv3 x0 x1 x2 o
  rwa [self3] at h

theorem dk0 : k0_pay17 (k0_pay9 x0) (k0_pay12 x0 x1) (k0_pay14 x1 x2) (k0_pay15 x0 x1 x2) o =
    addRows o (headD (k0_pay6 x0) (k0_pay7 x1) (k0_pay8 x2) 0 512) (cut (k0_pay6 x0) 0) := rfl
theorem dk1 : k0_pay26 (k0_pay19 x0) (k0_pay22 x0 x1) (k0_pay24 x1 x2) o = addRows o (headD x0 x1 x2 128 640) (cut x0 128) := rfl
theorem dk2 : k0_pay35 (k0_pay28 x0) (k0_pay30 x1) (k0_pay31 x2) (k0_pay32 x0 x1) o = addRows o (headD x0 x1 x2 256 768) (cut x0 256) := rfl
theorem dk3 : k0_pay3 (k0_pay37 x0) (k0_pay39 x1) (k0_pay40 x2) (k0_pay41 x0 x1) o = addRows o (headD x0 x1 x2 384 896) (cut x0 384) := rfl

theorem dq0 : k0_pay18 (k0_pay10 x1) (k0_pay12 x0 x1) (k0_pay14 x1 x2) (k0_pay15 x0 x1 x2) =
    dqs (cutm (k0_pay7 x1) 0) (headD (k0_pay6 x0) (k0_pay7 x1) (k0_pay8 x2) 0 512) := rfl
theorem dq1 : k0_pay27 (k0_pay20 x1) (k0_pay22 x0 x1) (k0_pay24 x1 x2) = dqs (cutm x1 128) (headD x0 x1 x2 128 640) := rfl
theorem dq2 : k0_pay36 (k0_pay29 x1) (k0_pay30 x1) (k0_pay31 x2) (k0_pay32 x0 x1) = dqs (cutm x1 256) (headD x0 x1 x2 256 768) := rfl
theorem dq3 : k0_pay4 (k0_pay38 x1) (k0_pay39 x1) (k0_pay40 x2) (k0_pay41 x0 x1) = dqs (cutm x1 384) (headD x0 x1 x2 384 896) := rfl

section
variable {x0 x1 x2 o} {Q KV G O : ℕ → ℕ → ℝ} (hq : Is (n := 512) (d := 512) x0 Q) (hk : Is (n := 256) (d := 1024) x1 KV) (hg : Is (n := 512) (d := 512) x2 G)
include hq hk

theorem headP_is (h b : ℕ) (hb : b = 128 * h) (h0 : S512x512.Slices ![0, b] S512x128) (h1 : S256x1024.Slices ![0, b] S256x128) :
    Is (n := 256) (d := 512) (headP x0 x1 b h0 h1) fun p r => prob Q KV h r p := by
  subst hb
  intro p r
  refine (probs_is (hq.slice _ _ h0) (hk.slice _ _ h1) p r).trans ?_
  simp only [Nat.zero_add]
  rfl

include hg

theorem headD_is (h b b' : ℕ) (hb : b = 128 * h) (hb' : b' = 512 + 128 * h) (h0 : S512x512.Slices ![0, b] S512x128) (h1 : S256x1024.Slices ![0, b] S256x128)
    (h2 : S256x1024.Slices ![0, b'] S256x128) :
    Is (n := 256) (d := 512) (headD x0 x1 x2 b b' h0 h1 h2) fun p r => dscore Q KV (fun m x => KV m (512 + x)) G h r p := by
  intro p r
  refine (dscores_is (headP_is hq hk h b hb h0 h1) (dprobs_is (hg.slice _ _ h0) (hk.slice _ _ h2)) p r).trans ?_
  subst hb hb'
  simp only [Nat.zero_add, Nat.add_assoc]
  rfl

/-- What the tile adds in column `x` of the keys' and values' gradients. -/
theorem addP_is (ho : Is (n := 256) (d := 128) o O) (h b : ℕ) (hb : b = 128 * h) (h0 : S512x512.Slices ![0, b] S512x128) (h1 : S256x1024.Slices ![0, b] S256x128) :
    Is (n := 256) (d := 128) (addRows o (truncf .bf16 (headP x0 x1 b h0 h1) bitsLt_bf16_f32) (cut x2 b h0))
      fun m l => O m l + ∑ r : Fin 512, prob Q KV h r m * G r (b + l) := by
  intro m l
  refine (addRows_is ho (w := truncf .bf16 (headP x0 x1 b h0 h1) bitsLt_bf16_f32) (headP_is hq hk h b hb h0 h1) (hg.slice _ _ h0) m l).trans ?_
  simp only [Nat.zero_add]

theorem addD_is (ho : Is (n := 256) (d := 128) o O) (h b b' : ℕ) (hb : b = 128 * h) (hb' : b' = 512 + 128 * h) (h0 : S512x512.Slices ![0, b] S512x128)
    (h1 : S256x1024.Slices ![0, b] S256x128) (h2 : S256x1024.Slices ![0, b'] S256x128) :
    Is (n := 256) (d := 128) (addRows o (headD x0 x1 x2 b b' h0 h1 h2) (cut x0 b h0))
      fun m l => O m l + ∑ r : Fin 512, dscore Q KV (fun m x => KV m (512 + x)) G h r m * Q r (b + l) := by
  intro m l
  refine (addRows_is ho (headD_is hq hk hg h b b' hb hb' h0 h1 h2) (hq.slice _ _ h0) m l).trans ?_
  simp only [Nat.zero_add]

theorem dqs_head (h b b' : ℕ) (hb : b = 128 * h) (hb' : b' = 512 + 128 * h) (h0 : S512x512.Slices ![0, b] S512x128)
    (h1 : S256x1024.Slices ![0, b] S256x128) (h2 : S256x1024.Slices ![0, b'] S256x128) :
    Is (n := 512) (d := 128) (dqs (cutm x1 b h1) (headD x0 x1 x2 b b' h0 h1 h2))
      fun r l => ∑ m : Fin 256, dscore Q KV (fun m x => KV m (512 + x)) G h r m * KV m (b + l) := by
  intro r l
  refine (dqs_is (headD_is hq hk hg h b b' hb hb' h0 h1 h2) (hk.slice _ _ h1) r l).trans ?_
  simp only [Nat.zero_add]
end

end Cert.MemKernelIdeal.Mem

end
-- ==== Proof.Mem.Kernel.lean ====
module

public import proofs.«01_k».proof.Proof.Mem.Block
public import Idealize.ShloMosaic.Lib.Claim
public import Idealize.ShloMosaic.Lib.StableHlo.RunRead

/-! What the call's two arrays hold: the queries' gradient, and the keys' and values' side by side. -/

@[expose] public section

set_option maxRecDepth 16384

noncomputable section

namespace Cert.MemKernelIdeal.Mem

open Idealize.ShloMosaic Idealize.ShloMosaic.TcCoe Idealize.SL.Sem
open Cert.MemKernelIdeal Cert.MemKernelIdeal.Gen Cert.Held Cert.Mem

variable (m : (ℓ : Loc nD τ sig) → Buf (Elt Ideal) ℓ) (c : Dev nD)

abbrev Qa : FVec Ideal S4096x512 .f32 := m ((c : Thread nD τ).loc main_arg0)
abbrev Ka : FVec Ideal S256x512 .f32 := m ((c : Thread nD τ).loc main_arg1)
abbrev Va : FVec Ideal S256x512 .f32 := m ((c : Thread nD τ).loc main_arg2)
abbrev Ga : FVec Ideal S4096x512 .f32 := m ((c : Thread nD τ).loc main_arg3)

theorem idx : ∀ t : Fin cfg0.N, win0_0.index t = ![t.val, 0] ∧ win0_1.index t = ![0, 0] ∧ win0_2.index t = ![t.val, 0]
    ∧ win0_3.index t = ![t.val, 0] ∧ win0_4.index t = ![0, 0] :=
  (by decide +kernel : ∀ t : Fin grid0.N, _)

theorem row3 (t : Fin cfg0.N) (a : ℕ) : win0_3.index t 0 * 512 + a = 512 * t.val + a := by
  rw [(idx t).2.2.2.1]
  show t.val * 512 + a = _
  omega
theorem col3 (t : Fin cfg0.N) (a : ℕ) : win0_3.index t 1 * 512 + a = a := by
  rw [(idx t).2.2.2.1]
  show 0 * 512 + a = _
  omega

theorem read_q (W : Valuation τ sig (Elt Ideal)) : StableHlo.after hostOps0 W (Proc.devRef .tc main_v2) = (W (Proc.devRef .tc main_arg0)) := by
  after_reads_simp
  rfl
theorem read_kv (W : Valuation τ sig (Elt Ideal)) : StableHlo.after hostOps0 W (Proc.devRef .tc main_v1) =
    concatenate S256x1024 1 [⟨S256x512, (W (Proc.devRef .tc main_arg1))⟩, ⟨S256x512, (W (Proc.devRef .tc main_arg2))⟩] concatenates_S256x512_S256x512_S256x1024_d1 := by
  after_reads_simp
  rfl
theorem read_g (W : Valuation τ sig (Elt Ideal)) : StableHlo.after hostOps0 W (Proc.devRef .tc main_v3) = (W (Proc.devRef .tc main_arg3)) := by
  after_reads_simp
  rfl

/-- Two arrays side by side, at an index. -/
theorem side (a b : FVec Ideal S256x512 .f32) (A B : ℕ → ℕ → ℝ) (ha : Is (n := 256) (d := 512) a A) (hb : Is (n := 256) (d := 512) b B) :
    Is (n := 256) (d := 1024) (concatenate S256x1024 1 [⟨S256x512, a⟩, ⟨S256x512, b⟩] concatenates_S256x512_S256x512_S256x1024_d1)
      fun p x => if x < 512 then A p x else B p (x - 512) := by
  intro p x
  pointwise
  by_cases h : x.val < 512
  · simp only [dif_pos h, if_pos h]
    exact ha _ _
  · simp only [dif_neg h, if_neg h]
    exact hb _ ⟨x.val - 512, by omega⟩

/-- The reals that a tile and the memory's columns hold. -/
abbrev kv (K V : ℕ → ℕ → ℝ) : ℕ → ℕ → ℝ := fun p x => if x < 512 then K p x else V p (x - 512)
abbrev vof (KV : ℕ → ℕ → ℝ) : ℕ → ℕ → ℝ := fun p x => KV p (512 + x)
/-- The keys' and values' gradients over the first `n` rows, side by side. -/
def acc (Q KV G : ℕ → ℕ → ℝ) (n p x : ℕ) : ℝ := if x < 512 then dK Q KV (vof KV) G n p x else dV Q KV G n p (x - 512)

section
variable {Q KV G : ℕ → ℕ → ℝ}

/-- A tile's 512 rows, added. -/
theorem acc_step (n p x : ℕ) : acc Q KV G (512 * (n + 1)) p x = acc Q KV G (512 * n) p x +
    if x < 512 then ∑ r : Fin 512, dscore Q KV (vof KV) G (x / 128) (512 * n + r) p * Q (512 * n + r) x
      else ∑ r : Fin 512, prob Q KV ((x - 512) / 128) (512 * n + r) p * G (512 * n + r) (x - 512) := by
  unfold acc
  rw [show 512 * (n + 1) = 512 * n + 512 by ring]
  split_ifs
  · unfold dK
    rw [Finset.sum_range_add]
    exact congrArg (_ + ·) (Finset.sum_range _)
  · unfold dV
    rw [Finset.sum_range_add]
    exact congrArg (_ + ·) (Finset.sum_range _)

theorem acc_zero (p x : ℕ) : acc Q KV G 0 p x = 0 := by
  unfold acc dK dV
  simp

variable (t : Fin cfg0.N) (hq : Is (n := 4096) (d := 512) (V m c main_v2) Q) (hk : Is (n := 256) (d := 1024) (V m c main_v1) KV) (hg : Is (n := 4096) (d := 512) (V m c main_v3) G)

include hq in
theorem blk0 : Is (n := 512) (d := 512) (iblk m c 0 t) fun r x => Q (512 * t.val + r) x := by
  intro r x
  have ht : t.val < 8 := t.isLt
  refine Eq.trans ?_ (hq ⟨512 * t.val + r.val, by omega⟩ x)
  blk_point [iblk, idx t]
include hk in
theorem blk1 : Is (n := 256) (d := 1024) (iblk m c 1 t) KV := by
  intro r x
  refine Eq.trans ?_ (hk r x)
  blk_point [iblk, idx t]
include hg in
theorem blk2 : Is (n := 512) (d := 512) (iblk m c 2 t) fun r x => G (512 * t.val + r) x := by
  intro r x
  have ht : t.val < 8 := t.isLt
  refine Eq.trans ?_ (hg ⟨512 * t.val + r.val, by omega⟩ x)
  blk_point [iblk, idx t]

section
variable {x0 x2 : Vec Ideal S512x512 .bf16} {x1 : Vec Ideal S256x1024 .bf16} (n : ℕ)
  (h0 : Is (n := 512) (d := 512) x0 fun r x => Q (512 * n + r) x) (h1 : Is (n := 256) (d := 1024) x1 KV) (h2 : Is (n := 512) (d := 512) x2 fun r x => G (512 * n + r) x)
include h0 h1 h2

/-- A head's stores, from what was there. -/
theorem store_v {o : Vec Ideal S256x128 .f32} (h b e : ℕ) (hh : h < 4) (hb : b = 128 * h) (he : e = 512 + b) (s0 : S512x512.Slices ![0, b] S512x128) (s1 : S256x1024.Slices ![0, b] S256x128)
    (ho : Is (n := 256) (d := 128) o fun p l => acc Q KV G (512 * n) p (e + l)) (p : Fin 256) (l : Fin 128) :
    addRows o (truncf .bf16 (headP x0 x1 b s0 s1) bitsLt_bf16_f32) (cut x2 b s0) (ix2 p l) = ((acc Q KV G (512 * (n + 1)) (0 + p) (e + l) : ℝ) : EReal) := by
  refine (addP_is h0 h1 h2 ho h b hb s0 s1 p l).trans (congrArg Real.toEReal ?_)
  have hl := l.isLt
  rw [acc_step, Nat.zero_add, if_neg (by omega), show e + l.val - 512 = b + l.val by omega, show (b + l.val) / 128 = h by omega]
  rfl

theorem store_k {o : Vec Ideal S256x128 .f32} (h b b' : ℕ) (hh : h < 4) (hb : b = 128 * h) (hb' : b' = 512 + 128 * h) (s0 : S512x512.Slices ![0, b] S512x128)
    (s1 : S256x1024.Slices ![0, b] S256x128) (s2 : S256x1024.Slices ![0, b'] S256x128)
    (ho : Is (n := 256) (d := 128) o fun p l => acc Q KV G (512 * n) p (b + l)) (p : Fin 256) (l : Fin 128) :
    addRows o (headD x0 x1 x2 b b' s0 s1 s2) (cut x0 b s0) (ix2 p l) = ((acc Q KV G (512 * (n + 1)) (0 + p) (b + l) : ℝ) : EReal) := by
  refine (addD_is h0 h1 h2 ho h b b' hb hb' s0 s1 s2 p l).trans (congrArg Real.toEReal ?_)
  have hl := l.isLt
  rw [acc_step, Nat.zero_add, if_pos (by omega), show (b + l.val) / 128 = h by omega]
  rfl

theorem store_q (h b b' : ℕ) (hb : b = 128 * h) (hb' : b' = 512 + 128 * h) (s0 : S512x512.Slices ![0, b] S512x128)
    (s1 : S256x1024.Slices ![0, b] S256x128) (s2 : S256x1024.Slices ![0, b'] S256x128) (r : Fin 512) (l : Fin 128) :
    dqs (cutm x1 b s1) (headD x0 x1 x2 b b' s0 s1 s2) (ix2 r l) = ((dQ Q KV (vof KV) G (512 * n + (0 + r)) (b + l) : ℝ) : EReal) := by
  refine (dqs_head h0 h1 h2 h b b' hb hb' s0 s1 s2 r l).trans (congrArg Real.toEReal ?_)
  have hl := l.isLt
  unfold dQ
  rw [Nat.zero_add, show (b + l.val) / 128 = h by omega]
  rfl
end

/-- A head's store, as a block of the array that holds `X`. -/
theorem piece_q {X : ℕ → ℕ → ℝ} (b : ℕ) (inb : ∀ a, (![0, b] : Fin 2 → ℕ) a + (![512, 128] : Fin 2 → ℕ) a ≤ S512x512.size a) (w : FVec Ideal S512x128 .bf16)
    (hw : ∀ (r : Fin 512) (l : Fin 128), w (ix2 r l) = ((X (0 + r) (b + l) : ℝ) : EReal)) :
    ∀ x : (Rect.unit (s := S512x512) ![0, b] ![512, 128] inb).shape.Idx, (⟨Rect.unit (s := S512x512) ![0, b] ![512, 128] inb, w⟩ : View.Piece (Elt Ideal) S512x512 .bf16).2 x =
      (fun y : S512x512.Idx => ((X (y 0).val (y 1).val : ℝ) : EReal)) ((Rect.unit (s := S512x512) ![0, b] ![512, 128] inb).emb x) :=
  fun x => block_of 0 b inb hw x

theorem piece_kv {X : ℕ → ℕ → ℝ} (b : ℕ) (inb : ∀ a, (![0, b] : Fin 2 → ℕ) a + (![256, 128] : Fin 2 → ℕ) a ≤ S256x1024.size a) (w : FVec Ideal S256x128 .f32)
    (hw : ∀ (r : Fin 256) (l : Fin 128), w (ix2 r l) = ((X (0 + r) (b + l) : ℝ) : EReal)) :
    ∀ x : (Rect.unit (s := S256x1024) ![0, b] ![256, 128] inb).shape.Idx, (⟨Rect.unit (s := S256x1024) ![0, b] ![256, 128] inb, w⟩ : View.Piece (Elt Ideal) S256x1024 .f32).2 x =
      (fun y : S256x1024.Idx => ((X (y 0).val (y 1).val : ℝ) : EReal)) ((Rect.unit (s := S256x1024) ![0, b] ![256, 128] inb).emb x) :=
  fun x => block_of 0 b inb hw x

/-- A store of 128 columns, read as the array's. -/
theorem old {x : Vec Ideal S256x1024 .f32} {A : ℕ → ℕ → ℝ} (hx : Is (n := 256) (d := 1024) x A) (b : ℕ) (hb : b + 128 ≤ 1024)
    (inb : ∀ a, (![0, b] : Fin 2 → ℕ) a + (![256, 128] : Fin 2 → ℕ) a ≤ S256x1024.size a) :
    Is (n := 256) (d := 128) (View.ld (Val := Elt Ideal) x (Rect.unit (s := S256x1024) ![0, b] ![256, 128] inb)) fun p l => A p (b + l) := fun p l => by
  refine (ld_at x 0 b inb p l (by have := p.isLt; omega) (by have := l.isLt; omega)).trans ((hx _ _).trans ?_)
  simp only [Nat.zero_add]

include hq hk hg

/-- After tile `n`. -/
def Good (n : ℕ) (o : Vec Ideal S512x512 .bf16 × Vec Ideal S256x1024 .f32) : Prop :=
  (Is (n := 512) (d := 512) o.1 fun r x => dQ Q KV (vof KV) G (512 * n + r) x) ∧ Is (n := 256) (d := 1024) o.2 (acc Q KV G (512 * (n + 1)))

set_option maxHeartbeats 400000 in
theorem pointB (n : ℕ) (hn : n + 1 < cfg0.N) (ih : Is (n := 256) (d := 1024) (outsAt0 m c n (Nat.lt_of_succ_lt hn)).2 (acc Q KV G (512 * (n + 1)))) :
    Good (Q := Q) (KV := KV) (G := G) (n + 1) (outsAt0 m c (n + 1) hn) := by
  have b0 := blk0 m c ⟨n + 1, hn⟩ hq
  have b1 := blk1 m c ⟨n + 1, hn⟩ hk
  have b2 := blk2 m c ⟨n + 1, hn⟩ hg
  have hN : n + 1 < 8 := hn
  rw [show outsAt0 m c (n + 1) hn = _ from outsAt0_B m c ⟨n + 1, hn⟩ (by show ¬ (n + 1) % 8 = 0; omega)]
  constructor
  · intro r x
    frame_out
    simp only [dq0, dq1, dq2, dq3, self0, self1, self2]
    refine (canon_pieces (s := S512x512) (t := .bf16) (Val := Elt Ideal) (fun y => ((dQ Q KV (vof KV) G (512 * (n + 1) + (y 0).val) (y 1).val : ℝ) : EReal)) _ _ ?_ ?_)
    · exact View.cover_of_tiledL (s := S512x512) _ ![512, 128] (by sl_kernel_rfl) _
    let X : ℕ → ℕ → ℝ := fun r x => dQ Q KV (vof KV) G (512 * (n + 1) + r) x
    refine ⟨piece_q (X := X) 384 _ _ (store_q (n + 1) b0 b1 b2 3 384 896 rfl rfl _ _ _), piece_q (X := X) 256 _ _ (store_q (n + 1) b0 b1 b2 2 256 768 rfl rfl _ _ _),
      piece_q (X := X) 128 _ _ (store_q (n + 1) b0 b1 b2 1 128 640 rfl rfl _ _ _), piece_q (X := X) 0 _ _ (store_q (n + 1) b0 b1 b2 0 0 512 rfl rfl _ _ _), trivial⟩
  · intro p x
    frame_out
    simp only [dk0, dk1, dk2, dk3, dv0, dv1, dv2, dv3', self0, self1, self2, self3]
    refine (canon_pieces (s := S256x1024) (t := .f32) (Val := Elt Ideal) (fun y => ((acc Q KV G (512 * (n + 1 + 1)) (y 0).val (y 1).val : ℝ) : EReal)) _ _ ?_ ?_)
    · exact View.cover_of_tiledL (s := S256x1024) _ ![256, 128] (by sl_kernel_rfl) _
    refine ⟨?_, ?_, ?_, ?_, ?_, ?_, ?_, ?_, trivial⟩
    · exact piece_kv 384 _ _ (store_k (n + 1) b0 b1 b2 3 384 896 (by decide) rfl rfl _ _ _ (old ih 384 (by decide) _))
    · exact piece_kv 896 _ _ (store_v (n + 1) b0 b1 b2 3 384 896 (by decide) rfl rfl _ _ (old ih 896 (by decide) _))
    · exact piece_kv 256 _ _ (store_k (n + 1) b0 b1 b2 2 256 768 (by decide) rfl rfl _ _ _ (old ih 256 (by decide) _))
    · exact piece_kv 768 _ _ (store_v (n + 1) b0 b1 b2 2 256 768 (by decide) rfl rfl _ _ (old ih 768 (by decide) _))
    · exact piece_kv 128 _ _ (store_k (n + 1) b0 b1 b2 1 128 640 (by decide) rfl rfl _ _ _ (old ih 128 (by decide) _))
    · exact piece_kv 640 _ _ (store_v (n + 1) b0 b1 b2 1 128 640 (by decide) rfl rfl _ _ (old ih 640 (by decide) _))
    · exact piece_kv 0 _ _ (store_k (n + 1) b0 b1 b2 0 0 512 (by decide) rfl rfl _ _ _ (old ih 0 (by decide) _))
    · exact piece_kv 512 _ _ (store_v (n + 1) b0 b1 b2 0 0 512 (by decide) rfl rfl _ _ (old ih 512 (by decide) _))

set_option maxHeartbeats 400000 in
theorem pointA (hn : 0 < cfg0.N) : Good (Q := Q) (KV := KV) (G := G) 0 (outsAt0 m c 0 hn) := by
  have b0 := blk0 m c ⟨0, hn⟩ hq
  have b1 := blk1 m c ⟨0, hn⟩ hk
  have b2 := blk2 m c ⟨0, hn⟩ hg
  have z : Is (n := 256) (d := 1024) (k0_pay5 (F := Ideal)) (acc Q KV G (512 * 0)) := fun p x => by
    rw [Nat.mul_zero, acc_zero]
    exact Ideal.ofBits_zero_f32
  rw [show outsAt0 m c 0 hn = _ from outsAt0_A m c ⟨0, hn⟩ rfl]
  constructor
  · intro r x
    frame_out
    simp only [dq0, dq1, dq2, dq3, self0, self1, self2]
    refine (canon_pieces (s := S512x512) (t := .bf16) (Val := Elt Ideal) (fun y => ((dQ Q KV (vof KV) G (512 * 0 + (y 0).val) (y 1).val : ℝ) : EReal)) _ _ ?_ ?_)
    · exact View.cover_of_tiledL (s := S512x512) _ ![512, 128] (by sl_kernel_rfl) _
    let X : ℕ → ℕ → ℝ := fun r x => dQ Q KV (vof KV) G (512 * 0 + r) x
    refine ⟨piece_q (X := X) 384 _ _ (store_q 0 b0 b1 b2 3 384 896 rfl rfl _ _ _), piece_q (X := X) 256 _ _ (store_q 0 b0 b1 b2 2 256 768 rfl rfl _ _ _),
      piece_q (X := X) 128 _ _ (store_q 0 b0 b1 b2 1 128 640 rfl rfl _ _ _), piece_q (X := X) 0 _ _ (store_q 0 b0 b1 b2 0 0 512 rfl rfl _ _ _), trivial⟩
  · intro p x
    frame_out
    simp only [dk0, dk1, dk2, dk3, dv0, dv1, dv2, dv3', self0, self1, self2, self3]
    refine (canon_pieces_over (s := S256x1024) (t := .f32) (Val := Elt Ideal) (fun y => ((acc Q KV G (512 * (0 + 1)) (y 0).val (y 1).val : ℝ) : EReal)) _ _ ?_ ?_)
    · exact View.cover_of_tiledL (s := S256x1024) _ ![256, 128] (by sl_kernel_rfl) _
    refine ⟨?_, ?_, ?_, ?_, ?_, ?_, ?_, ?_, trivial⟩
    · exact piece_kv 384 _ _ (store_k 0 b0 b1 b2 3 384 896 (by decide) rfl rfl _ _ _ (by (repeat rw [View.readCov_skip _ _ _ _ _ (by decide)]); rw [View.readCov_fill _ _ _ _ _ (by decide)]; exact old z 384 (by decide) _))
    · exact piece_kv 896 _ _ (store_v 0 b0 b1 b2 3 384 896 (by decide) rfl rfl _ _ (by (repeat rw [View.readCov_skip _ _ _ _ _ (by decide)]); rw [View.readCov_fill _ _ _ _ _ (by decide)]; exact old z 896 (by decide) _))
    · exact piece_kv 256 _ _ (store_k 0 b0 b1 b2 2 256 768 (by decide) rfl rfl _ _ _ (by (repeat rw [View.readCov_skip _ _ _ _ _ (by decide)]); rw [View.readCov_fill _ _ _ _ _ (by decide)]; exact old z 256 (by decide) _))
    · exact piece_kv 768 _ _ (store_v 0 b0 b1 b2 2 256 768 (by decide) rfl rfl _ _ (by (repeat rw [View.readCov_skip _ _ _ _ _ (by decide)]); rw [View.readCov_fill _ _ _ _ _ (by decide)]; exact old z 768 (by decide) _))
    · exact piece_kv 128 _ _ (store_k 0 b0 b1 b2 1 128 640 (by decide) rfl rfl _ _ _ (by (repeat rw [View.readCov_skip _ _ _ _ _ (by decide)]); rw [View.readCov_fill _ _ _ _ _ (by decide)]; exact old z 128 (by decide) _))
    · exact piece_kv 640 _ _ (store_v 0 b0 b1 b2 1 128 640 (by decide) rfl rfl _ _ (by (repeat rw [View.readCov_skip _ _ _ _ _ (by decide)]); rw [View.readCov_fill _ _ _ _ _ (by decide)]; exact old z 640 (by decide) _))
    · exact piece_kv 0 _ _ (store_k 0 b0 b1 b2 0 0 512 (by decide) rfl rfl _ _ _ (by (repeat rw [View.readCov_skip _ _ _ _ _ (by decide)]); rw [View.readCov_fill _ _ _ _ _ (by decide)]; exact old z 0 (by decide) _))
    · exact piece_kv 512 _ _ (store_v 0 b0 b1 b2 0 0 512 (by decide) rfl rfl _ _ (by (repeat rw [View.readCov_skip _ _ _ _ _ (by decide)]); rw [View.readCov_fill _ _ _ _ _ (by decide)]; exact old z 512 (by decide) _))

theorem point : ∀ (n : ℕ) (hn : n < cfg0.N), Good (Q := Q) (KV := KV) (G := G) n (outsAt0 m c n hn)
  | 0, hn => pointA m c hq hk hg hn
  | n + 1, hn => pointB m c hq hk hg n hn (point n (Nat.lt_of_succ_lt hn)).2

/-- The queries' gradient. -/
theorem final_q : Is (n := 4096) (d := 512) ((dats m 0 c).arrAt 3 cfg0.N) (dQ Q KV (vof KV) G) := by
  have h : (dats m 0 c).arrAt 3 cfg0.N = fun i => ((dQ Q KV (vof KV) G (i 0).val (i 1).val : ℝ) : EReal) := by
    refine (dats m 0 c).arrAt_eq_of_covers 3 _ (by decide +kernel) fun t hf y => ?_
    blk_simp
    rw [after0_3, eq_ix2 y]
    refine ((point m c hq hk hg t.val t.isLt).1 (y 0) (y 1)).trans ?_
    exact (congrArg₂ (fun a b : ℕ => ((dQ Q KV (vof KV) G a b : ℝ) : EReal)) (row3 t _) (col3 t _)).symm
  intro r x
  exact congrFun h _

/-- The keys' and values' gradients. -/
theorem final_kv : Is (n := 256) (d := 1024) ((dats m 0 c).arrAt 4 cfg0.N) (acc Q KV G 4096) := by
  have h : (dats m 0 c).arrAt 4 cfg0.N = fun i => ((acc Q KV G 4096 (i 0).val (i 1).val : ℝ) : EReal) := by
    refine (dats m 0 c).arrAt_eq_of_after_last 4 t0_7 (by decide +kernel) _ fun j => ?_
    blk_simp
    rw [after0_4]
    refine (congrArg (outsAt0 m c 7 _).2 (eq_ix2 j)).trans ?_
    exact (point m c hq hk hg 7 _).2 (j 0) (j 1)
  intro r x
  exact congrFun h _

end

/-- The region's operands hold the arguments' reals. -/
theorem in_q {Q : ℕ → ℕ → ℝ} (h : Is (n := 4096) (d := 512) (Qa m c) Q) : Is (n := 4096) (d := 512) (V m c main_v2) Q := fun r x =>
  (congrFun (show V m c main_v2 = _ from read_q _) _).trans (h r x)
theorem in_g {G : ℕ → ℕ → ℝ} (h : Is (n := 4096) (d := 512) (Ga m c) G) : Is (n := 4096) (d := 512) (V m c main_v3) G := fun r x =>
  (congrFun (show V m c main_v3 = _ from read_g _) _).trans (h r x)
theorem in_kv {K V' : ℕ → ℕ → ℝ} (hk : Is (n := 256) (d := 512) (Ka m c) K) (hv : Is (n := 256) (d := 512) (Va m c) V') :
    Is (n := 256) (d := 1024) (V m c main_v1) (kv K V') := fun r x =>
  (congrFun (show V m c main_v1 = _ from read_kv _) _).trans (side _ _ _ _ hk hv r x)

end Cert.MemKernelIdeal.Mem
end
-- ==== Proof.Mem.Ref.lean ====
module

public import proofs.«01_k».proof.Proof.Gen.MemReferenceIdeal.Read
public import proofs.«01_k».proof.Proof.Mem.Spec
public import Idealize.ShloMosaic.Lib.Pointwise

/-! The reference's gradients, entry by entry. -/

@[expose] public section

set_option maxRecDepth 16384

noncomputable section

namespace Cert.MemReferenceIdeal.Mem

open Idealize.ShloMosaic Idealize.ShloMosaic.TcCoe Idealize.SL.Sem
open Cert.MemReferenceIdeal Cert.MemReferenceIdeal.Read Cert.Held Cert.Mem

variable (x0 x3 : FVec Ideal S4096x512 .f32) (x1 x2 : FVec Ideal S256x512 .f32) (Q K V G : ℕ → ℕ → ℝ)
variable (hq : Is (n := 4096) (d := 512) x0 Q) (hk : Is (n := 256) (d := 512) x1 K) (hv : Is (n := 256) (d := 512) x2 V) (hg : Is (n := 4096) (d := 512) x3 G)

section
include hq hk

theorem score_is : Is3 (a := 4) (b := 4096) (c := 256) (val_main_v5 (F := Ideal) x0 x1) (score Q K) := by
  intro h r p
  pointwise [val_main_v5, val_main_v4, val_main_cst, val_main_v3, val_main_v1, val_main_v0]
  rw [sc_word]
  unfold score
  rw [EReal.coe_mul, ← Held.sum_mul]
  refine congrArg (· * _) (Finset.sum_congr rfl fun x _ => ?_)
  rw [hq, hk]
  simp only [mul_comm (h : ℕ) 128]

/-- The row maxima are real. -/
theorem max_is : ∃ M : ℕ → ℕ → ℝ, Is (n := 4) (d := 4096) (val_main_v13 (F := Ideal) x0 x1) M := by
  have hs := score_is x0 x1 Q K hq hk
  have key : ∀ i : S4x4096.Idx, ∃ M : ℝ, val_main_v13 (F := Ideal) x0 x1 i = M := by
    intro i
    rw [eq_ix2 i]
    generalize i 0 = h
    generalize i 1 = r
    change Fin 4 at h
    change Fin 4096 at r
    obtain ⟨M, hM⟩ := fold_max_real ⊥ (fun k : Fin 256 => score Q K h r k) bot_ne_top 0
    refine ⟨M, ?_⟩
    rw [val_main_v13_apply, val_main_v12_apply, val_main_cst_2_apply]
    unfold val_main_v6
    generalize val_main_v5 (F := Ideal) x0 x1 = s at hs
    rw [Host.reduce_eq_fold_single (FloatOps.maximumf (F := Ideal) (φ := .f32)) s _ _ (by decide) _ (ix2 h r), val_main_cst_0_apply]
    refine (congrArg₂ max bot_word (congrArg₂ (fun b f => (Finset.univ : Finset (Fin 256)).fold max b f) bot_word (funext fun k => ?_))).trans ((max_eq_right bot_le).trans hM)
    refine Eq.trans (congrArg s (funext fun a => Fin.ext ?_)) (hs h r k)
    fin_cases a <;> rfl
  exact exists_is _ key

theorem exp_is (M : ℕ → ℕ → ℝ) (hM : Is (n := 4) (d := 4096) (val_main_v13 (F := Ideal) x0 x1) M) :
    Is3 (a := 4) (b := 4096) (c := 256) (val_main_v26 (F := Ideal) x0 x1) fun h r p => Real.exp (score Q K h r p - M h r) := by
  intro h r p
  have hs := score_is x0 x1 Q K hq hk h r p
  unfold val_main_v26 val_main_v25 val_main_v24 val_main_v23
  generalize val_main_v13 (F := Ideal) x0 x1 = y at *
  generalize val_main_v5 (F := Ideal) x0 x1 = s at *
  pointwise
  rw [hs, hM, ← EReal.coe_sub, Ideal.exp_coe]

theorem sum_is (M : ℕ → ℕ → ℝ) (hM : Is (n := 4) (d := 4096) (val_main_v13 (F := Ideal) x0 x1) M) (h : Fin 4) (r : Fin 4096) :
    ∑ p : Fin 256, val_main_v26 (F := Ideal) x0 x1 (ix3 h r p) = ((Real.exp (-M h r) * total Q K h r : ℝ) : EReal) := by
  have he := exp_is x0 x1 Q K hq hk M hM
  simp only [he h r _, ← Reals.coe_sum]
  unfold total
  rw [Finset.mul_sum]
  refine congrArg _ (Finset.sum_congr rfl fun p _ => ?_)
  rw [← Real.exp_add]
  ring_nf

theorem prob_is : Is3 (a := 4) (b := 4096) (c := 256) (val_main_v30 (F := Ideal) x0 x1) (prob Q K) := by
  intro h r p
  obtain ⟨M, hM⟩ := max_is x0 x1 Q K hq hk
  have he := exp_is x0 x1 Q K hq hk M hM h r p
  have hs := sum_is x0 x1 Q K hq hk M hM h r
  unfold val_main_v30 val_main_v29 val_main_v28 val_main_v27
  generalize val_main_v26 (F := Ideal) x0 x1 = e at *
  pointwise [val_main_cst_8]
  have ht := total_pos Q K h r
  have hx := Real.exp_pos (-M h r)
  rw [he, hs, Ideal.div_coe (by positivity), ← EReal.coe_mul]
  unfold prob
  dsimp only
  rw [sub_eq_neg_add, Real.exp_add]
  congr 1
  field_simp
end

section
include hv hg
theorem dprob_is : Is3 (a := 4) (b := 4096) (c := 256) (val_main_v39 (F := Ideal) x2 x3) (dprob V G) := by
  intro h r p
  pointwise [val_main_v39, val_main_v38, val_main_v37, val_main_v2]
  unfold dprob
  rw [← Held.sum_mul]
  refine Finset.sum_congr rfl fun x _ => ?_
  rw [hg, hv]
  simp only [mul_comm (h : ℕ) 128]
end

include hq hk hg

theorem dv_is : Is (n := 256) (d := 512) (val_main_v60 (F := Ideal) x0 x1 x3) (dV Q K G 4096) := by
  intro p x
  have hp := prob_is x0 x1 Q K hq hk
  unfold val_main_v60 val_main_v41 val_main_v40
  generalize val_main_v30 (F := Ideal) x0 x1 = d at *
  pointwise [val_main_v38, val_main_v37]
  simp only [hp _ _ _, hg _ _]
  rw [Held.sum_mul]
  unfold dV
  rw [Finset.sum_range]
  exact congrArg _ (Finset.sum_congr rfl fun r _ => mul_comm _ _)

include hv

theorem dscore_is : Is3 (a := 4) (b := 4096) (c := 256) (val_main_v55 (F := Ideal) x0 x1 x2 x3) (dscore Q K V G) := by
  intro h r p
  obtain ⟨M, hM⟩ := max_is x0 x1 Q K hq hk
  have he := exp_is x0 x1 Q K hq hk M hM
  have hs := sum_is x0 x1 Q K hq hk M hM h r
  have hd := dprob_is x3 x2 V G hv hg
  unfold val_main_v55 val_main_v53 val_main_v52 val_main_v51 val_main_v50 val_main_v49 val_main_v48 val_main_v47 val_main_v46 val_main_v45 val_main_v44 val_main_v43 val_main_v42 val_main_v33 val_main_v32 val_main_v31 val_main_v28 val_main_v27
  generalize val_main_v26 (F := Ideal) x0 x1 = e at *
  generalize val_main_v39 (F := Ideal) x2 x3 = d at *
  pointwise [val_main_v54, val_main_cst_12, val_main_cst_11, val_main_cst_10, val_main_cst_9, val_main_cst_8]
  have ht := total_pos Q K h r
  have hx := Real.exp_pos (-M h r)
  simp only [hs]
  simp only [hd h r _, he h r _, sc_word, Finset.univ_unique, Finset.sum_singleton]
  rw [← EReal.coe_mul, Ideal.div_coe (by positivity), Ideal.div_coe (by positivity), one_mul]
  simp only [← EReal.coe_mul, ← Reals.coe_sum, ← EReal.coe_neg, ← EReal.coe_add]
  congr 1
  have key : ∑ x : Fin 256, dprob V G h r x * (1 / (Real.exp (-M h r) * total Q K h r * (Real.exp (-M h r) * total Q K h r))) * Real.exp (score Q K h r x - M h r)
      = (∑ x : Fin 256, prob Q K h r x * dprob V G h r x) / (Real.exp (-M h r) * total Q K h r) := by
    rw [Finset.sum_div]
    refine Finset.sum_congr rfl fun x _ => ?_
    unfold prob
    rw [sub_eq_neg_add, Real.exp_add]
    field_simp
  rw [key]
  unfold dscore
  generalize (∑ x : Fin 256, prob Q K h r x * dprob V G h r x) = S
  unfold prob
  rw [sub_eq_neg_add, Real.exp_add]
  field_simp
  ring

theorem dq_is : Is (n := 4096) (d := 512) (val_main_v63 (F := Ideal) x0 x1 x2 x3) (dQ Q K V G) := by
  intro r x
  have hd := dscore_is x0 x3 x1 x2 Q K V G hq hk hv hg
  unfold val_main_v63 val_main_v62 val_main_v59 val_main_v58
  generalize val_main_v55 (F := Ideal) x0 x1 x2 x3 = d at *
  pointwise [val_main_v1]
  simp only [hd _ _ _, hk _ _]
  rw [Held.sum_mul]
  rfl

theorem dk_is : Is (n := 256) (d := 512) (val_main_v61 (F := Ideal) x0 x1 x2 x3) (dK Q K V G 4096) := by
  intro p x
  have hd := dscore_is x0 x3 x1 x2 Q K V G hq hk hv hg
  unfold val_main_v61 val_main_v57 val_main_v56
  generalize val_main_v55 (F := Ideal) x0 x1 x2 x3 = d at *
  pointwise [val_main_v0]
  simp only [hd _ _ _, hq _ _]
  rw [Held.sum_mul]
  unfold dK
  rw [Finset.sum_range]

theorem dkv_is : Is (n := 256) (d := 1024) (val_main_v64 (F := Ideal) x0 x1 x2 x3) fun p x => if x < 512 then dK Q K V G 4096 p x else dV Q K G 4096 p (x - 512) := by
  intro p x
  have h1 := dk_is x0 x3 x1 x2 Q K V G hq hk hv hg
  have h2 := dv_is x0 x3 x1 Q K G hq hk hg
  unfold val_main_v64
  generalize val_main_v61 (F := Ideal) x0 x1 x2 x3 = a at *
  generalize val_main_v60 (F := Ideal) x0 x1 x3 = b at *
  pointwise
  by_cases h : x.val < 512
  · simp only [dif_pos h, if_pos h]
    exact h1 _ _
  · simp only [dif_neg h, if_neg h]
    exact h2 _ ⟨x.val - 512, by omega⟩

end Cert.MemReferenceIdeal.Mem
end
-- ==== Proof.Mem.Claim.lean ====
module

public import proofs.«01_k».proof.Defs
public import proofs.«01_k».proof.Proof.Mem.Kernel
public import proofs.«01_k».proof.Proof.Mem.Ref
public import proofs.«01_k».proof.Proof.Finite
public import proofs.«01_k».proof.Proof.Gen.Pre_mem_finite
public import proofs.«01_k».proof.Proof.Gen.MemReferenceIdeal.Run
public import Idealize.ShloMosaic.Lib.Claim

/-! The memory attention's gradients are those of the reference. -/

@[expose] public section

set_option maxRecDepth 16384

noncomputable section

open Idealize.ShloMosaic Idealize.ShloMosaic.TcCoe Idealize.SL.Sem

namespace Cert.Proof.Mem

open Cert.MemKernelIdeal.Mem Cert.Mem Cert.Finite Cert.Held

instance : Cert.Pre_mem_finite.Facts := Cert.Pre_mem_finite.Gen.facts

/-- What the precondition says: queries, keys, values and cotangent are real. -/
theorem reals (x0 x3 : FVec Ideal Cert.Pre_mem_finite.S4096x512 .f32) (x1 x2 : FVec Ideal Cert.Pre_mem_finite.S256x512 .f32)
    (h : Cert.Pre_mem_finite.fn (F := Ideal) x0 x1 x2 x3 = fun _ => 1#1) :
    (∀ i, ∃ a : ℝ, x0 i = a) ∧ (∀ i, ∃ a : ℝ, x1 i = a) ∧ (∀ i, ∃ a : ℝ, x2 i = a) ∧ (∀ i, ∃ a : ℝ, x3 i = a) := by
  have h' := congrFun h (fun d => d.elim0)
  unfold Cert.Pre_mem_finite.fn Cert.Pre_mem_finite.fn_part1 at h'
  dsimp only at h'
  obtain ⟨h', h3⟩ := and_split h'
  obtain ⟨h', h2⟩ := and_split h'
  obtain ⟨h0, h1⟩ := and_split h'
  exact ⟨real_of_test _ _ _ _ _ _ h0, real_of_test _ _ _ _ _ _ h1, real_of_test _ _ _ _ _ _ h2, real_of_test _ _ _ _ _ _ h3⟩

section Values

open Cert.MemKernelIdeal Cert.MemKernelIdeal.Gen Cert.MemReferenceIdeal.Read

variable (m : (ℓ : Loc nD τ sig) → Buf (Elt Ideal) ℓ) (c : Dev nD)

/-- The first 512 columns are the keys', so a head's scores and weights are those of the keys alone. -/
theorem prob_kv (Q K V' : ℕ → ℕ → ℝ) (g : ℕ) (h : g < 4) : prob Q (kv K V') g = prob Q K g := by
  have hs : ∀ r p, score Q (kv K V') g r p = score Q K g r p := fun r p => by
    unfold score
    refine congrArg (· * sc) (Finset.sum_congr rfl fun d _ => congrArg (Q r _ * ·) (if_pos ?_))
    have := d.isLt
    omega
  funext r p
  unfold prob total
  simp only [hs]

theorem dscore_kv (Q K V' G : ℕ → ℕ → ℝ) (g : ℕ) (h : g < 4) : dscore Q (kv K V') V' G g = dscore Q K V' G g := by
  funext r p
  unfold dscore
  rw [prob_kv Q K V' g h]

/-- Both results of the reference are the arrays of the kernel. -/
theorem values (h : (∀ i, ∃ a : ℝ, Qa m c i = a) ∧ (∀ i, ∃ a : ℝ, Ka m c i = a) ∧ (∀ i, ∃ a : ℝ, Va m c i = a) ∧ (∀ i, ∃ a : ℝ, Ga m c i = a)) :
    val_main_v63 (F := Ideal) (Qa m c) (Ka m c) (Va m c) (Ga m c) = (dats m 0 c).arrAt 3 cfg0.N
    ∧ val_main_v64 (F := Ideal) (Qa m c) (Ka m c) (Va m c) (Ga m c) = (dats m 0 c).arrAt 4 cfg0.N := by
  obtain ⟨Q, hq⟩ := exists_is _ h.1
  obtain ⟨K, hk⟩ := exists_is _ h.2.1
  obtain ⟨V', hv⟩ := exists_is _ h.2.2.1
  obtain ⟨G, hg⟩ := exists_is _ h.2.2.2
  have hV : vof (kv K V') = V' := by
    funext p x
    show (if 512 + x < 512 then _ else V' p (512 + x - 512)) = _
    rw [if_neg (by omega), Nat.add_sub_cancel_left]
  have h1 := final_q m c (in_q m c hq) (in_kv m c hk hv) (in_g m c hg)
  have h2 := final_kv m c (in_q m c hq) (in_kv m c hk hv) (in_g m c hg)
  unfold acc at h2
  rw [hV] at h1 h2
  have r1 := Cert.MemReferenceIdeal.Mem.dq_is _ _ _ _ Q K V' G hq hk hv hg
  have r2 := Cert.MemReferenceIdeal.Mem.dkv_is _ _ _ _ Q K V' G hq hk hv hg
  refine ⟨r1.eq fun r x => (h1 r x).trans (congrArg _ ?_), r2.eq fun p x => (h2 p x).trans (congrArg _ ?_)⟩
  · have := x.isLt
    unfold dQ
    rw [dscore_kv Q K V' G _ (by omega)]
    exact Finset.sum_congr rfl fun p _ => congrArg (_ * ·) (if_pos (by omega))
  · have := x.isLt
    dsimp only
    split_ifs with h
    · unfold dK
      rw [dscore_kv Q K V' G _ (by omega)]
    · unfold dV
      rw [prob_kv Q K V' _ (by omega)]

end Values

/-- The reference terminates, with its arguments unchanged and every counter at zero. -/
theorem frame_reference : Cert.quiescent_MemReferenceIdeal := by
  intro m g _
  exact (θ_run Cert.MemReferenceIdeal.defs _ _).mono (fun r h => ⟨fun c => (h c).2.2, sem_eq_zero_of_no_sems (by decide) r.2⟩)
    (Cert.MemReferenceIdeal.Value.run m g)

theorem algebraic : Cert.algebraic_MemKernelIdeal_MemReferenceIdeal_pre_mem_finite := by
  pair_intro
  · run_from Cert.MemKernelIdeal.Value.run_blocks m g
  · run_from Cert.MemReferenceIdeal.Value.run m' g'
    all_goals obtain ⟨a0, a1, a2, a3⟩ := hagree c
    · rw [Cert.MemReferenceIdeal.Read.val_main_v63_eq, a0, a1, a2, a3]
      exact (values m c (reals _ _ _ _ (hpre c))).1
    · rw [Cert.MemReferenceIdeal.Read.val_main_v64_eq, a0, a1, a2, a3]
      exact (values m c (reals _ _ _ _ (hpre c))).2

end Cert.Proof.Mem

end
-- ==== Proof.Norm.Spec.lean ====
module

public import proofs.«01_k».proof.Proof.Held
public import Idealize.ShloMosaic.Lib.Pointwise

/-! The gradient of a row's division by its root mean square, over the reals. -/

@[expose] public section

set_option maxRecDepth 16384

noncomputable section

namespace Cert.Norm

open Idealize.ShloMosaic Held

/-- What is added to the mean square, as the programs write it. -/
def eps : ℝ := 8796093 / 8796093022208

section
variable (X G H : ℕ → ℕ → ℝ)

/-- A row's mean square, and one over its root. -/
def ms (r : ℕ) : ℝ := (∑ l : Fin 1024, X r l * X r l) / 1024 + eps
def rs (r : ℕ) : ℝ := (Real.sqrt (ms X r))⁻¹
/-- The row's products of the scaled cotangent `H · G` and the row, added. -/
def cc (r : ℕ) : ℝ := ∑ l : Fin 1024, H r l * G 0 l * X r l
/-- The gradient of a row, `G` the gain (one row), `H` the cotangent. -/
def dX (r l : ℕ) : ℝ := rs X r * (H r l * G 0 l) - X r l * (rs X r * rs X r * rs X r * (cc X G H r / 1024))
/-- The gain's gradient over the first `n` rows. -/
def dG (n l : ℕ) : ℝ := ∑ r ∈ Finset.range n, H r l * (X r l * rs X r)

theorem eps_pos : 0 < eps := by unfold eps; norm_num
theorem ms_pos (r : ℕ) : 0 < ms X r := add_pos_of_nonneg_of_pos (div_nonneg (Finset.sum_nonneg fun _ _ => mul_self_nonneg _) (by norm_num)) eps_pos
theorem rs_sq (r : ℕ) : rs X r * rs X r = 1 / ms X r := by
  unfold rs
  rw [← mul_inv, Real.mul_self_sqrt (ms_pos X r).le, one_div]

/-- A tile's 512 rows, added. -/
theorem dG_step (n l : ℕ) : dG X H (512 * (n + 1)) l = dG X H (512 * n) l + ∑ r : Fin 512, H (512 * n + r) l * (X (512 * n + r) l * rs X (512 * n + r)) := by
  unfold dG
  rw [show 512 * (n + 1) = 512 * n + 512 by ring, Finset.sum_range_add]
  exact congrArg (_ + ·) (Finset.sum_range _)
theorem dG_zero (l : ℕ) : dG X H 0 l = 0 := by unfold dG; simp

/-- The gradient in the form that differentiates the mean square, its root and the division in turn. -/
theorem dX_eq (r l : ℕ) : dX X G H r l
    = H r l * G 0 l * rs X r + X r l * ((∑ l : Fin 1024, X r l * (H r l * G 0 l)) * (-(1 / 2) * (rs X r / ms X r)) / 1024)
      + (∑ l : Fin 1024, X r l * (H r l * G 0 l)) * (-(1 / 2) * (rs X r / ms X r)) / 1024 * X r l := by
  have e : (∑ l : Fin 1024, X r l * (H r l * G 0 l)) = cc X G H r := Finset.sum_congr rfl fun _ _ => mul_comm _ _
  rw [e]
  unfold dX
  rw [rs_sq]
  ring
end

theorem w1024 : Ideal.ofBits .f32 0x44800000#32 = ((1024 : ℝ) : EReal) := by
  simp [Ideal.ofBits, Ideal.ieee, -EReal.coe_mul]; norm_num
theorem eps_word : Ideal.ofBits .f32 0x358637BD#32 = ((eps : ℝ) : EReal) := by
  simp [Ideal.ofBits, Ideal.ieee, -EReal.coe_mul, eps]; norm_num
theorem half_word : Ideal.ofBits .f32 0xBF000000#32 = ((-(1 / 2) : ℝ) : EReal) := by
  simp [Ideal.ofBits, Ideal.ieee, -EReal.coe_mul]; norm_num
theorem two_word : Ideal.ofBits .f32 0x40000000#32 = ((2 : ℝ) : EReal) := by
  simp [Ideal.ofBits, Ideal.ieee, -EReal.coe_mul]; norm_num

theorem div1024 (s : ℝ) : Ideal.div (s : EReal) ((1024 : ℝ) : EReal) = ((s / 1024 : ℝ) : EReal) := by
  rw [Ideal.div_coe (by norm_num), ← EReal.coe_mul, mul_one_div]

/-- One over the root of a row's mean square, in the programs' words. -/
abbrev rE (x : Fin 1024 → EReal) : EReal := Ideal.rsqrt (Ideal.div (∑ k, x k * x k) (Ideal.ofBits .f32 0x44800000#32) + Ideal.ofBits .f32 0x358637BD#32)
/-- The mean square, in the programs' words. -/
abbrev mE (x : Fin 1024 → EReal) : EReal := Ideal.div (∑ k, x k * x k) (Ideal.ofBits .f32 0x44800000#32) + Ideal.ofBits .f32 0x358637BD#32

section
variable (x h g : Fin 1024 → EReal) {X G H : ℕ → ℕ → ℝ} (ρ : ℕ) (hx : ∀ l : Fin 1024, x l = ((X ρ l : ℝ) : EReal))
  (hh : ∀ l : Fin 1024, h l = ((H ρ l : ℝ) : EReal)) (hg : ∀ l : Fin 1024, g l = ((G 0 l : ℝ) : EReal))

include hx in
theorem mE_eq : mE x = ((ms X ρ : ℝ) : EReal) := by
  unfold mE ms
  simp only [hx, sum_mul, w1024, eps_word, div1024, ← EReal.coe_add]
include hx in
theorem rE_eq : rE x = ((rs X ρ : ℝ) : EReal) := by
  have h := ms_pos X ρ
  rw [show rE x = Ideal.rsqrt (mE x) from rfl, mE_eq x ρ hx, Ideal.rsqrt_coe, if_neg (not_lt.2 h.le), if_neg h.ne']
  rfl

include hx hh hg in
/-- A row's gradient as the kernels write it. -/
theorem dx_kernel (l : Fin 1024) : rE x * (h l * g l) - x l * (rE x * rE x * rE x * Ideal.div (∑ k, h k * g k * x k) (Ideal.ofBits .f32 0x44800000#32))
    = ((dX X G H ρ l : ℝ) : EReal) := by
  unfold dX cc
  simp only [rE_eq x ρ hx, hx, hh, hg, w1024, ← EReal.coe_mul, ← Reals.coe_sum, div1024, ← EReal.coe_sub]

include hx hh in
/-- A row's part of the gain's gradient. -/
theorem dg_kernel (l : Fin 1024) : h l * (x l * rE x) = ((H ρ l * (X ρ l * rs X ρ) : ℝ) : EReal) := by
  simp only [rE_eq x ρ hx, hx, hh, ← EReal.coe_mul]

include hx hh in
theorem dg_ref (l : Fin 1024) : x l * rE x * h l = ((H ρ l * (X ρ l * rs X ρ) : ℝ) : EReal) := by
  simp only [rE_eq x ρ hx, hx, hh, ← EReal.coe_mul]
  exact congrArg Real.toEReal (mul_comm _ _)

/-- The share of the mean square, in the reference's words. -/
abbrev tE (x h g : Fin 1024 → EReal) : EReal :=
  Ideal.div ((∑ k, x k * (h k * g k)) * (Ideal.ofBits .f32 0xBF000000#32 * Ideal.div (rE x) (mE x))) (Ideal.ofBits .f32 0x44800000#32)

include hx hh hg in
/-- A row's gradient as the derivative of the forward lines writes it. -/
theorem dx_ref (l : Fin 1024) : h l * g l * rE x + x l * tE x h g + tE x h g * x l = ((dX X G H ρ l : ℝ) : EReal) := by
  have e : Ideal.div ((rs X ρ : ℝ) : EReal) ((ms X ρ : ℝ) : EReal) = ((rs X ρ / ms X ρ : ℝ) : EReal) := by
    rw [Ideal.div_coe (ms_pos X ρ).ne', ← EReal.coe_mul, mul_one_div]
  rw [dX_eq]
  unfold tE
  rw [rE_eq x ρ hx, mE_eq x ρ hx, e]
  simp only [hx, hh, hg, w1024, half_word, ← EReal.coe_mul, ← Reals.coe_sum, div1024, ← EReal.coe_add]
end

/-- An array that is only added, of any extended reals. -/
def IsE {n d : ℕ} (x : (⟨2, ![n, d]⟩ : Shape).Idx → EReal) (E : ℕ → ℕ → EReal) : Prop := ∀ (r : Fin n) (l : Fin d), x (ix2 r l) = E r l

theorem exists_isE {n d : ℕ} (x : (⟨2, ![n, d]⟩ : Shape).Idx → EReal) : ∃ E, IsE x E := by
  refine ⟨fun r l => if h : r < n ∧ l < d then x (ix2 ⟨r, h.1⟩ ⟨l, h.2⟩) else 0, fun r l => ?_⟩
  show x (ix2 r l) = if h : r.val < n ∧ l.val < d then x (ix2 ⟨r.val, h.1⟩ ⟨l.val, h.2⟩) else 0
  rw [dif_pos ⟨r.isLt, l.isLt⟩]

theorem IsE.eq {n d : ℕ} {x y : (⟨2, ![n, d]⟩ : Shape).Idx → EReal} {E : ℕ → ℕ → EReal} (hx : IsE x E) (hy : IsE y E) : x = y := by
  funext i
  rw [eq_ix2 i]
  exact (hx _ _).trans (hy _ _).symm

/-- The reference adds the residual's cotangent first, the kernel last. -/
theorem add_last (a b c d : EReal) : d + a + b + c = a + b + c + d := by
  rw [add_assoc d, add_assoc d, add_comm]

/-- The rows' parts, added. -/
theorem dg_all {X H : ℕ → ℕ → ℝ} (l : ℕ) (n : ℕ) : (∑ r : Fin n, ((H r l * (X r l * rs X r) : ℝ) : EReal)) = ((dG X H n l : ℝ) : EReal) := by
  rw [← Reals.coe_sum]
  unfold dG
  rw [Finset.sum_range]

end Cert.Norm
end
-- ==== Proof.Down.Spec.lean ====
module

public import proofs.«01_k».proof.Proof.Norm.Spec

/-! The squared relu over the reals, and its gradient. -/

@[expose] public section

noncomputable section

namespace Cert.Down

open Idealize.ShloMosaic Cert.Norm

/-- The squared relu. -/
abbrev hid (P : ℕ → ℕ → ℝ) : ℕ → ℕ → ℝ := fun r x => max (P r x) 0 * max (P r x) 0

/-- The product with the weight. -/
abbrev prod (P W : ℕ → ℕ → ℝ) : ℕ → ℕ → ℝ := fun r l => ∑ x : Fin 4096, hid P r x * W x l

/-- The gradient of the squared relu's argument. -/
abbrev dA (Y W G D P : ℕ → ℕ → ℝ) : ℕ → ℕ → ℝ := fun r k => (∑ l : Fin 1024, dX Y G D r l * W k l) * (2 * max (P r k) 0)

theorem relu_coe (p : ℝ) : max (p : EReal) 0 = ((max p 0 : ℝ) : EReal) :=
  (EReal.coe_strictMono.monotone.map_max (a := p) (b := 0)).symm

end Cert.Down

end
-- ==== Proof.Down.Kernel.lean ====
module

public import proofs.«01_k».proof.Proof.Down.Spec
public import proofs.«01_k».proof.Proof.Gen.DownKernelIdeal.Value
public import Idealize.ShloMosaic.Lib.Claim
public import Idealize.ShloMosaic.Lib.StableHlo.RunRead

/-! What the call's three arrays hold: the norm's gradient, its product with the weight, the gain's gradient. -/

@[expose] public section

set_option maxRecDepth 16384

noncomputable section

namespace Cert.DownKernelIdeal.Down

open Idealize.ShloMosaic Idealize.ShloMosaic.TcCoe Idealize.SL.Sem
open Cert.DownKernelIdeal Cert.DownKernelIdeal.Gen Cert.Held Cert.Norm Cert.Down

variable (m : (ℓ : Loc nD τ sig) → Buf (Elt Ideal) ℓ) (c : Dev nD)

abbrev Pa : FVec Ideal S4096x4096 .f32 := m ((c : Thread nD τ).loc main_arg0)
abbrev Wa : FVec Ideal S4096x1024 .f32 := m ((c : Thread nD τ).loc main_arg1)
abbrev Ga : FVec Ideal S1x1024 .f32 := m ((c : Thread nD τ).loc main_arg2)
abbrev Da : FVec Ideal S4096x1024 .f32 := m ((c : Thread nD τ).loc main_arg3)

/-- A tile's rows: the norm's gradient. -/
theorem dy_tile {y dx : Vec Ideal S512x1024 .f32} {g : Vec Ideal S1x1024 .f32} {Y G D : ℕ → ℕ → ℝ} (n : ℕ) (hy : Is (n := 512) (d := 1024) y fun r l => Y (512 * n + r) l)
    (hg : Is (n := 1) (d := 1024) g G) (hd : Is (n := 512) (d := 1024) dx fun r l => D (512 * n + r) l) :
    Is (n := 512) (d := 1024) (k0_pay5 y g dx) fun r l => dX Y G D (512 * n + r) l := by
  intro r l
  refine Eq.trans ?_ (dx_kernel (fun k => y (ix2 r k)) (fun k => dx (ix2 r k)) (fun k => g (ix2 0 k)) (512 * n + r) (hy r) (hd r) (hg 0) l)
  pointwise [k0_pay5, k0_pay3, k0_pay2]

/-- A tile's rows of the gain's gradient, added to what was there. -/
theorem dg_tile {y dx : Vec Ideal S512x1024 .f32} {o : Vec Ideal S1x1024 .f32} {Y D : ℕ → ℕ → ℝ} (n : ℕ) (hy : Is (n := 512) (d := 1024) y fun r l => Y (512 * n + r) l)
    (hd : Is (n := 512) (d := 1024) dx fun r l => D (512 * n + r) l) (ho : Is (n := 1) (d := 1024) o fun _ l => dG Y D (512 * n) l) :
    Is (n := 1) (d := 1024) (k0_pay8 (k0_pay4 y dx) (k0_pay7 o)) fun _ l => dG Y D (512 * (n + 1)) l := by
  intro r l
  have hs := Finset.sum_congr (s₁ := Finset.univ) rfl fun (p : Fin 512) _ => dg_kernel (fun k => y (ix2 p k)) (fun k => dx (ix2 p k)) (512 * n + p) (hy p) (hd p) l
  have e : k0_pay8 (k0_pay4 y dx) (k0_pay7 o) (ix2 r l) = o (ix2 r l) + ∑ p : Fin 512, dx (ix2 p l) * (y (ix2 p l) * rE fun k => y (ix2 p k)) := by
    pointwise [k0_pay8, k0_pay4, k0_pay7, k0_pay3, k0_pay2]
  rw [e, ho, hs, ← Reals.coe_sum, ← EReal.coe_add]
  dsimp only
  rw [dG_step]

/-- Some of a tile's columns of the gradient of the squared relu's argument. -/
theorem da_tile {dy w : FVec Ideal S512x1024 .bf16} {p : FVec Ideal S512x512 .bf16} {Y W P : ℕ → ℕ → ℝ} (hy : Is (n := 512) (d := 1024) dy Y) (hw : Is (n := 512) (d := 1024) w W)
    (hp : Is (n := 512) (d := 512) p P) : Is (n := 512) (d := 512) (k0_pay9 dy w p) fun r k => (∑ l : Fin 1024, Y r l * W k l) * (2 * max (P r k) 0) := by
  intro r l
  pointwise [k0_pay9]
  simp only [hy _ _, hw _ _, hp _ _, sum_mul, two_word, relu_coe]
  simp only [← EReal.coe_mul]

theorem idx : ∀ t : Fin cfg0.N, win0_0.index t = ![t.val, 0] ∧ win0_1.index t = ![t.val, 0] ∧ win0_2.index t = ![0, 0] ∧ win0_3.index t = ![0, 0] ∧ win0_4.index t = ![t.val, 0]
    ∧ win0_5.index t = ![t.val, 0] ∧ win0_6.index t = ![t.val, 0] ∧ win0_7.index t = ![0, 0] :=
  (by decide +kernel : ∀ t : Fin grid0.N, _)

theorem row5 (t : Fin cfg0.N) (a : ℕ) : win0_5.index t 0 * 512 + a = 512 * t.val + a := by
  rw [(idx t).2.2.2.2.2.1]
  show t.val * 512 + a = _
  omega
theorem col5 (t : Fin cfg0.N) (a : ℕ) : win0_5.index t 1 * 1024 + a = a := by
  rw [(idx t).2.2.2.2.2.1]
  show 0 * 1024 + a = _
  omega
theorem row6 (t : Fin cfg0.N) (a : ℕ) : win0_6.index t 0 * 512 + a = 512 * t.val + a := by
  rw [(idx t).2.2.2.2.2.2.1]
  show t.val * 512 + a = _
  omega
theorem col6 (t : Fin cfg0.N) (a : ℕ) : win0_6.index t 1 * 4096 + a = a := by
  rw [(idx t).2.2.2.2.2.2.1]
  show 0 * 4096 + a = _
  omega

/-- The squared relu of the host's lines. -/
abbrev act (p : FVec Ideal S4096x4096 .f32) : FVec Ideal S4096x4096 .f32 :=
  mulf (maximumf p (broadcastInDim S4096x4096 ![] bcast_S_S4096x4096 (constant S_ .f32 0x00000000#32))) (maximumf p (broadcastInDim S4096x4096 ![] bcast_S_S4096x4096 (constant S_ .f32 0x00000000#32)))

theorem act_is {p : FVec Ideal S4096x4096 .f32} {P : ℕ → ℕ → ℝ} (hp : Is (n := 4096) (d := 4096) p P) : Is (n := 4096) (d := 4096) (act p) (hid P) := by
  intro r l
  pointwise [act]
  rw [hp r l, relu_coe, ← EReal.coe_mul]

theorem read_y (W : Valuation τ sig (Elt Ideal)) : StableHlo.after hostOps0 W (Proc.devRef .tc main_v3) =
    (Host.dotGeneral (φ₁ := .f32) (φ₂ := .f32) dot_S4096x4096_S4096x1024_S4096x1024_1_0_0_1_n_n none (act (W (Proc.devRef .tc main_arg0) : FVec Ideal S4096x4096 .f32))
      (W (Proc.devRef .tc main_arg1) : FVec Ideal S4096x1024 .f32) : FVec Ideal S4096x1024 .f32) := by
  after_reads_simp
theorem read_w (W : Valuation τ sig (Elt Ideal)) : StableHlo.after hostOps0 W (Proc.devRef .tc main_v4) = (W (Proc.devRef .tc main_arg1)) := by
  after_reads_simp
  rfl
theorem read_p (W : Valuation τ sig (Elt Ideal)) : StableHlo.after hostOps0 W (Proc.devRef .tc main_v5) = (W (Proc.devRef .tc main_arg0)) := by
  after_reads_simp
  rfl
theorem read_g (W : Valuation τ sig (Elt Ideal)) : StableHlo.after hostOps0 W (Proc.devRef .tc main_arg2) = (W (Proc.devRef .tc main_arg2)) := by
  after_reads_simp
theorem read_d (W : Valuation τ sig (Elt Ideal)) : StableHlo.after hostOps0 W (Proc.devRef .tc main_arg3) = (W (Proc.devRef .tc main_arg3)) := by
  after_reads_simp

section
variable {Y W G D P : ℕ → ℕ → ℝ} (t : Fin cfg0.N) (hd : Is (n := 4096) (d := 1024) (V m c main_arg3) D) (hy : Is (n := 4096) (d := 1024) (V m c main_v3) Y)
  (hg : Is (n := 1) (d := 1024) (V m c main_arg2) G) (hw : Is (n := 4096) (d := 1024) (V m c main_v4) W) (hp : Is (n := 4096) (d := 4096) (V m c main_v5) P)

include hd in
theorem blk0 : Is (n := 512) (d := 1024) (iblk m c 0 t) fun r x => D (512 * t.val + r) x := by
  intro r x
  have ht : t.val < 8 := t.isLt
  refine Eq.trans ?_ (hd ⟨512 * t.val + r.val, by omega⟩ x)
  blk_point [iblk, idx t]
include hy in
theorem blk1 : Is (n := 512) (d := 1024) (iblk m c 1 t) fun r x => Y (512 * t.val + r) x := by
  intro r x
  have ht : t.val < 8 := t.isLt
  refine Eq.trans ?_ (hy ⟨512 * t.val + r.val, by omega⟩ x)
  blk_point [iblk, idx t]
include hg in
theorem blk2 : Is (n := 1) (d := 1024) (iblk m c 2 t) G := by
  intro r x
  refine Eq.trans ?_ (hg r x)
  blk_point [iblk, idx t]
include hw in
theorem blk3 : Is (n := 4096) (d := 1024) (iblk m c 3 t) W := by
  intro r x
  refine Eq.trans ?_ (hw r x)
  blk_point [iblk, idx t]
include hp in
theorem blk4 : Is (n := 512) (d := 4096) (iblk m c 4 t) fun r x => P (512 * t.val + r) x := by
  intro r x
  have ht : t.val < 8 := t.isLt
  refine Eq.trans ?_ (hp ⟨512 * t.val + r.val, by omega⟩ x)
  blk_point [iblk, idx t]

/-- A load of some rows and columns. -/
theorem cut {n d k e : ℕ} {x : (⟨2, ![n, d]⟩ : Shape).Idx → Elt Ideal .bf16} {X : ℕ → ℕ → ℝ} (h : Is (n := n) (d := d) x X) (o b : ℕ) (ho : o + k ≤ n) (hb : b + e ≤ d)
    (inb : ∀ a, (![o, b] : Fin 2 → ℕ) a + (![k, e] : Fin 2 → ℕ) a ≤ (⟨2, ![n, d]⟩ : Shape).size a) :
    Is (n := k) (d := e) (View.ld (Val := Elt Ideal) x (Rect.unit (s := ⟨2, ![n, d]⟩) ![o, b] ![k, e] inb)) fun r l => X (o + r) (b + l) := fun r l =>
  (ld_at x o b inb r l (by have := r.isLt; omega) (by have := l.isLt; omega)).trans (h _ _)

theorem piece {X : ℕ → ℕ → ℝ} (b : ℕ) (inb : ∀ a, (![0, b] : Fin 2 → ℕ) a + (![512, 512] : Fin 2 → ℕ) a ≤ S512x4096.size a) (w : FVec Ideal S512x512 .bf16)
    (hw : Is (n := 512) (d := 512) w fun r l => X r (b + l)) :
    ∀ x : (Rect.unit (s := S512x4096) ![0, b] ![512, 512] inb).shape.Idx, (⟨Rect.unit (s := S512x4096) ![0, b] ![512, 512] inb, w⟩ : View.Piece (Elt Ideal) S512x4096 .bf16).2 x =
      (fun y : S512x4096.Idx => ((X (y 0).val (y 1).val : ℝ) : EReal)) ((Rect.unit (s := S512x4096) ![0, b] ![512, 512] inb).emb x) :=
  fun x => block_of 0 b inb (fun r l => (hw r l).trans (by rw [Nat.zero_add])) x

include hd hy hg in
theorem dy_point : Is (n := 512) (d := 1024) (k0_pay5 (iblk m c 1 t) (iblk m c 2 t) (iblk m c 0 t)) fun r l => dX Y G D (512 * t.val + r) l :=
  dy_tile t.val (blk1 m c t hy) (blk2 m c t hg) (blk0 m c t hd)

include hd hy hg hw hp in
/-- Eight stretches of 512 columns. -/
theorem da_point (b : ℕ) (hb : b + 512 ≤ 4096) (inbw : ∀ a, (![b, 0] : Fin 2 → ℕ) a + (![512, 1024] : Fin 2 → ℕ) a ≤ S4096x1024.size a)
    (inbp : ∀ a, (![0, b] : Fin 2 → ℕ) a + (![512, 512] : Fin 2 → ℕ) a ≤ S512x4096.size a) :
    Is (n := 512) (d := 512) (k0_pay9 (k0_pay5 (iblk m c 1 t) (iblk m c 2 t) (iblk m c 0 t)) (View.ld (Val := Elt Ideal) (iblk m c 3 t) (Rect.unit (s := S4096x1024) ![b, 0] ![512, 1024] inbw))
      (View.ld (Val := Elt Ideal) (iblk m c 4 t) (Rect.unit (s := S512x4096) ![0, b] ![512, 512] inbp))) fun r k => dA Y W G D P (512 * t.val + r) (b + k) := by
  have h := da_tile (dy_point m c t hd hy hg) (cut (blk3 m c t hw) b 0 (by omega) (by omega) inbw) (cut (blk4 m c t hp) 0 b (by omega) (by omega) inbp)
  simp only [Nat.zero_add] at h
  exact h

include hd hy hg in
theorem out_y : Is (n := 512) (d := 1024) (outsAt0 m c t.val t.isLt).1 fun r l => dX Y G D (512 * t.val + r) l := by
  intro r l
  refine Eq.trans ?_ (dy_point m c t hd hy hg r l)
  by_cases h0 : t.val % 8 = 0
  · rw [outsAt0_A m c t h0]
    frame_out
  · rw [outsAt0_B m c t h0]
    frame_out

include hd hy hg hw hp in
theorem out_a : Is (n := 512) (d := 4096) (outsAt0 m c t.val t.isLt).2.1 fun r k => dA Y W G D P (512 * t.val + r) k := by
  intro r l
  let X : ℕ → ℕ → ℝ := fun r k => dA Y W G D P (512 * t.val + r) k
  have q := da_point m c t hd hy hg hw hp
  by_cases h0 : t.val % 8 = 0
  on_goal 1 => rw [outsAt0_A m c t h0]
  on_goal 2 => rw [outsAt0_B m c t h0]
  all_goals
    frame_out
    refine canon_pieces (s := S512x4096) (t := .bf16) (Val := Elt Ideal) (fun y => ((X (y 0).val (y 1).val : ℝ) : EReal)) _ _ (View.cover_of_tiledL (s := S512x4096) _ ![512, 512] (by sl_kernel_rfl) _) ?_
    exact ⟨piece (X := X) 3584 _ _ (q 3584 (by omega) _ _), piece (X := X) 3072 _ _ (q 3072 (by omega) _ _), piece (X := X) 2560 _ _ (q 2560 (by omega) _ _), piece (X := X) 2048 _ _ (q 2048 (by omega) _ _),
      piece (X := X) 1536 _ _ (q 1536 (by omega) _ _), piece (X := X) 1024 _ _ (q 1024 (by omega) _ _), piece (X := X) 512 _ _ (q 512 (by omega) _ _), piece (X := X) 0 _ _ (q 0 (by omega) _ _), trivial⟩

include hd hy in
theorem out_g : ∀ (n : ℕ) (hn : n < cfg0.N), Is (n := 1) (d := 1024) (outsAt0 m c n hn).2.2 fun _ l => dG Y D (512 * (n + 1)) l
  | 0, hn => by
    have z : Is (n := 1) (d := 1024) (k0_pay6 (F := Ideal)) fun _ l => dG Y D (512 * 0) l := fun _ l => by
      dsimp only
      rw [Nat.mul_zero, dG_zero]
      exact Ideal.ofBits_zero_f32
    rw [show outsAt0 m c 0 hn = _ from outsAt0_A m c ⟨0, hn⟩ rfl]
    intro r l
    frame_out
    exact dg_tile 0 (blk1 m c ⟨0, hn⟩ hy) (blk0 m c ⟨0, hn⟩ hd) z r l
  | n + 1, hn => by
    have ih := out_g n (Nat.lt_of_succ_lt hn)
    have hN : n + 1 < 8 := hn
    rw [show outsAt0 m c (n + 1) hn = _ from outsAt0_B m c ⟨n + 1, hn⟩ (by show ¬ (n + 1) % 8 = 0; omega)]
    intro r l
    frame_out
    exact dg_tile (n + 1) (blk1 m c ⟨n + 1, hn⟩ hy) (blk0 m c ⟨n + 1, hn⟩ hd) ih r l

include hd hy hg

/-- The norm's gradient. -/
theorem final_y : Is (n := 4096) (d := 1024) ((dats m 0 c).arrAt 5 cfg0.N) (dX Y G D) := by
  have h : (dats m 0 c).arrAt 5 cfg0.N = fun i => ((dX Y G D (i 0).val (i 1).val : ℝ) : EReal) := by
    refine (dats m 0 c).arrAt_eq_of_covers 5 _ (by decide +kernel) fun t flush y => ?_
    blk_simp
    rw [after0_5, eq_ix2 y]
    refine (out_y m c t hd hy hg (y 0) (y 1)).trans ?_
    exact (congrArg₂ (fun a b : ℕ => ((dX Y G D a b : ℝ) : EReal)) (row5 t _) (col5 t _)).symm
  exact fun r x => congrFun h _

include hw hp in
/-- The gradient of the squared relu's argument. -/
theorem final_a : Is (n := 4096) (d := 4096) ((dats m 0 c).arrAt 6 cfg0.N) (dA Y W G D P) := by
  have h : (dats m 0 c).arrAt 6 cfg0.N = fun i => ((dA Y W G D P (i 0).val (i 1).val : ℝ) : EReal) := by
    refine (dats m 0 c).arrAt_eq_of_covers 6 _ (by decide +kernel) fun t flush y => ?_
    blk_simp
    rw [after0_6, eq_ix2 y]
    refine (out_a m c t hd hy hg hw hp (y 0) (y 1)).trans ?_
    exact (congrArg₂ (fun a b : ℕ => ((dA Y W G D P a b : ℝ) : EReal)) (row6 t _) (col6 t _)).symm
  exact fun r x => congrFun h _

omit hg in
/-- The gain's gradient. -/
theorem final_g : Is (n := 1) (d := 1024) ((dats m 0 c).arrAt 7 cfg0.N) fun _ l => dG Y D 4096 l := by
  have h : (dats m 0 c).arrAt 7 cfg0.N = fun i => ((dG Y D 4096 (i 1).val : ℝ) : EReal) := by
    refine (dats m 0 c).arrAt_eq_of_after_last 7 t0_7 (by decide +kernel) _ fun j => ?_
    blk_simp
    rw [after0_7]
    refine (congrArg (outsAt0 m c 7 _).2.2 (eq_ix2 j)).trans ?_
    exact out_g m c hd hy 7 _ (j 0) (j 1)
  exact fun r x => congrFun h _

end

section
variable {P W G D : ℕ → ℕ → ℝ} (hp : Is (n := 4096) (d := 4096) (Pa m c) P) (hw : Is (n := 4096) (d := 1024) (Wa m c) W)
  (hg : Is (n := 1) (d := 1024) (Ga m c) G) (hd : Is (n := 4096) (d := 1024) (Da m c) D)

include hd in
/-- The region's operands hold the arguments' reals. -/
theorem in_d : Is (n := 4096) (d := 1024) (V m c main_arg3) D := fun r x => (congrFun (show V m c main_arg3 = _ from read_d _) _).trans (hd r x)
include hg in
theorem in_g : Is (n := 1) (d := 1024) (V m c main_arg2) G := fun r x => (congrFun (show V m c main_arg2 = _ from read_g _) _).trans (hg r x)
include hw in
theorem in_w : Is (n := 4096) (d := 1024) (V m c main_v4) W := fun r x => (congrFun (show V m c main_v4 = _ from read_w _) _).trans (hw r x)
include hp in
theorem in_p : Is (n := 4096) (d := 4096) (V m c main_v5) P := fun r x => (congrFun (show V m c main_v5 = _ from read_p _) _).trans (hp r x)
include hp hw in
theorem in_y : Is (n := 4096) (d := 1024) (V m c main_v3) (prod P W) := fun r l => by
  have ha := act_is hp
  refine (congrFun (show V m c main_v3 = _ from read_y _) _).trans ?_
  change Host.dotGeneral dot_S4096x4096_S4096x1024_S4096x1024_1_0_0_1_n_n none (act (Pa m c)) (Wa m c) (ix2 r l) = _
  generalize act (Pa m c) = a at *
  refine Eq.trans (b := ∑ x : Fin 4096, a (ix2 r x) * Wa m c (ix2 x l)) ?_ ?_
  · pointwise
  · simp only [ha _ _, hw _ _, sum_mul]
end

end Cert.DownKernelIdeal.Down
end
-- ==== Proof.Down.Ref.lean ====
module

public import proofs.«01_k».proof.Proof.Down.Spec
public import proofs.«01_k».proof.Proof.Gen.DownReferenceIdeal.Read
public import Idealize.ShloMosaic.Lib.Claim

/-! What the reference's results hold: the norm's gradient, its product with the weight, the gain's gradient. -/

@[expose] public section

set_option maxRecDepth 16384

noncomputable section

namespace Cert.DownReferenceIdeal.Down

open Idealize.ShloMosaic Idealize.ShloMosaic.TcCoe Idealize.SL.Sem
open Cert.DownReferenceIdeal Cert.DownReferenceIdeal.Read Cert.Held Cert.Norm Cert.Down

variable (p : FVec Ideal S4096x4096 .f32) (w dx : FVec Ideal S4096x1024 .f32) (g : FVec Ideal S1x1024 .f32) {P W G D : ℕ → ℕ → ℝ}
  (hp : Is (n := 4096) (d := 4096) p P) (hw : Is (n := 4096) (d := 1024) w W) (hg : Is (n := 1) (d := 1024) g G) (hd : Is (n := 4096) (d := 1024) dx D)

include hp in
theorem hid_is : Is (n := 4096) (d := 4096) (val_main_v4 (F := Ideal) p) (hid P) := by
  intro r l
  pointwise [val_main_v4, val_main_v0, val_main_call0_v0, val_main_call0_cst]
  rw [hp r l, relu_coe, ← EReal.coe_mul]

include hp hw in
theorem y_is : Is (n := 4096) (d := 1024) (val_main_v7 (F := Ideal) p w) (prod P W) := by
  intro r l
  have hh := hid_is p hp
  unfold val_main_v7
  generalize val_main_v4 (F := Ideal) p = h at *
  pointwise []
  simp only [hh _ _, hw _ _, sum_mul]

include hp hw hg hd

theorem dy_is : Is (n := 4096) (d := 1024) (val_main_v41 (F := Ideal) p w g dx) (dX (prod P W) G D) := by
  intro r l
  have hy := y_is p w hp hw
  refine Eq.trans ?_ (dx_ref (fun k => val_main_v7 (F := Ideal) p w (ix2 r k)) (fun k => dx (ix2 r k)) (fun k => g (ix2 0 k)) r (hy r) (hd r) (hg 0) l)
  unfold val_main_v41 val_main_v40 val_main_v39 val_main_v38 val_main_v37 val_main_v36 val_main_v35 val_main_v33 val_main_v32 val_main_v31 val_main_v30 val_main_v29 val_main_v28 val_main_v27 val_main_v26 val_main_v18 val_main_v16 val_main_v15 val_main_v14 val_main_v12 val_main_v10 val_main_v9 val_main_v8
  generalize val_main_v7 (F := Ideal) p w = y at *
  pointwise [val_main_v34, val_main_v17, val_main_v13, val_main_v11, val_main_cst_2, val_main_cst_3, val_main_cst_4, val_main_cst_5, val_main_cst_7, val_main_cst_8, val_main_cst_9]
  simp only [Finset.univ_unique, Finset.sum_singleton]

theorem dy_cast : Is (n := 4096) (d := 1024) (val_main_v42 (F := Ideal) p w g dx) (dX (prod P W) G D) := fun r l =>
  Eq.trans (by pointwise [val_main_v42]) (dy_is p w dx g hp hw hg hd r l)

/-- Where the argument is not positive, its gradient is zero in both forms. -/
theorem da_is : Is (n := 4096) (d := 4096) (val_main_v47 (F := Ideal) p w g dx) (dA (prod P W) W G D P) := by
  intro r k
  have hy := dy_is p w dx g hp hw hg hd
  unfold val_main_v47 val_main_v46 val_main_v44 val_main_v43
  generalize val_main_v41 (F := Ideal) p w g dx = y at *
  pointwise [val_main_v2, val_main_v1, val_main_cst, val_main_v6, val_main_v5, val_main_cst_1, val_main_v0, val_main_call0_v0, val_main_call0_cst, val_main_v45, val_main_cst_10]
  simp only [hy _ _, hw _ _, hp _ _, sum_mul, two_word, relu_coe, ← EReal.coe_mul]
  split_ifs with h
  · rfl
  · rw [EReal.coe_pos, not_lt] at h
    simp only [dA, max_eq_right h, mul_zero, EReal.coe_zero]

omit hg in
theorem dg_is : Is (n := 1) (d := 1024) (val_main_v25 (F := Ideal) p w dx) fun _ l => dG (prod P W) D 4096 l := by
  intro r l
  have hy := y_is p w hp hw
  refine Eq.trans ?_ (dg_all _ _)
  refine Eq.trans ?_ (Finset.sum_congr rfl fun q _ => dg_ref (fun k => val_main_v7 (F := Ideal) p w (ix2 q k)) (fun k => dx (ix2 q k)) q (hy q) (hd q) l)
  unfold val_main_v25 val_main_v24 val_main_v23 val_main_v20 val_main_v19 val_main_v15 val_main_v14 val_main_v12 val_main_v10 val_main_v9 val_main_v8
  generalize val_main_v7 (F := Ideal) p w = y at *
  pointwise [val_main_v13, val_main_v11, val_main_cst_2, val_main_cst_3, val_main_cst_4, val_main_cst_6]

end Cert.DownReferenceIdeal.Down
end
-- ==== Proof.Down.Claim.lean ====
module

public import proofs.«01_k».proof.Defs
public import proofs.«01_k».proof.Proof.Down.Kernel
public import proofs.«01_k».proof.Proof.Down.Ref
public import proofs.«01_k».proof.Proof.Finite
public import proofs.«01_k».proof.Proof.Gen.Pre_down_finite
public import proofs.«01_k».proof.Proof.Gen.DownReferenceIdeal.Run
public import Idealize.ShloMosaic.Lib.Claim

/-! The gradients of the mixer's output product and norm are those of the reference. -/

@[expose] public section

set_option maxRecDepth 16384

noncomputable section

open Idealize.ShloMosaic Idealize.ShloMosaic.TcCoe Idealize.SL.Sem

namespace Cert.Proof.Down

open Cert.DownKernelIdeal.Down Cert.Finite Cert.Held

instance : Cert.Pre_down_finite.Facts := Cert.Pre_down_finite.Gen.facts

/-- What the precondition says: every argument is real. -/
theorem reals (x0 : FVec Ideal Cert.Pre_down_finite.S4096x4096 .f32) (x1 x3 : FVec Ideal Cert.Pre_down_finite.S4096x1024 .f32) (x2 : FVec Ideal Cert.Pre_down_finite.S1x1024 .f32)
    (h : Cert.Pre_down_finite.fn (F := Ideal) x0 x1 x2 x3 = fun _ => 1#1) :
    (∀ i, ∃ a : ℝ, x0 i = a) ∧ (∀ i, ∃ a : ℝ, x1 i = a) ∧ (∀ i, ∃ a : ℝ, x2 i = a) ∧ (∀ i, ∃ a : ℝ, x3 i = a) := by
  have h' := congrFun h (fun d => d.elim0)
  unfold Cert.Pre_down_finite.fn Cert.Pre_down_finite.fn_part1 at h'
  dsimp only at h'
  obtain ⟨h', h3⟩ := and_split h'
  obtain ⟨h', h2⟩ := and_split h'
  obtain ⟨h0, h1⟩ := and_split h'
  exact ⟨real_of_test _ _ _ _ _ _ h0, real_of_test _ _ _ _ _ _ h1, real_of_test _ _ _ _ _ _ h2, real_of_test _ _ _ _ _ _ h3⟩

section Values

open Cert.DownKernelIdeal Cert.DownKernelIdeal.Gen Cert.DownReferenceIdeal.Read

variable (m : (ℓ : Loc nD τ sig) → Buf (Elt Ideal) ℓ) (c : Dev nD)

/-- The reference's results are the arrays of the kernel. -/
theorem values (h : (∀ i, ∃ a : ℝ, Pa m c i = a) ∧ (∀ i, ∃ a : ℝ, Wa m c i = a) ∧ (∀ i, ∃ a : ℝ, Ga m c i = a) ∧ (∀ i, ∃ a : ℝ, Da m c i = a)) :
    val_main_v42 (F := Ideal) (Pa m c) (Wa m c) (Ga m c) (Da m c) = (dats m 0 c).arrAt 5 cfg0.N
    ∧ val_main_v47 (F := Ideal) (Pa m c) (Wa m c) (Ga m c) (Da m c) = (dats m 0 c).arrAt 6 cfg0.N
    ∧ val_main_v25 (F := Ideal) (Pa m c) (Wa m c) (Da m c) = (dats m 0 c).arrAt 7 cfg0.N := by
  obtain ⟨P, hp⟩ := exists_is _ h.1
  obtain ⟨W, hw⟩ := exists_is _ h.2.1
  obtain ⟨G, hg⟩ := exists_is _ h.2.2.1
  obtain ⟨D, hd⟩ := exists_is _ h.2.2.2
  have y := in_y m c hp hw
  have d := in_d m c hd
  have g := in_g m c hg
  exact ⟨(Cert.DownReferenceIdeal.Down.dy_cast _ _ _ _ hp hw hg hd).eq (final_y m c d y g),
    (Cert.DownReferenceIdeal.Down.da_is _ _ _ _ hp hw hg hd).eq (final_a m c d y g (in_w m c hw) (in_p m c hp)),
    (Cert.DownReferenceIdeal.Down.dg_is _ _ _ hp hw hd).eq (final_g m c d y)⟩

end Values

/-- The reference terminates, with its arguments unchanged and every counter at zero. -/
theorem frame_reference : Cert.quiescent_DownReferenceIdeal := by
  intro m g _
  exact (θ_run Cert.DownReferenceIdeal.defs _ _).mono (fun r h => ⟨fun c => (h c).2.2.2, sem_eq_zero_of_no_sems (by decide) r.2⟩)
    (Cert.DownReferenceIdeal.Value.run m g)

theorem algebraic : Cert.algebraic_DownKernelIdeal_DownReferenceIdeal_pre_down_finite := by
  pair_intro
  · run_from Cert.DownKernelIdeal.Value.run_blocks m g
  · refine θ_run_mono (Cert.DownReferenceIdeal.Value.run m' g') ?_
    intro r hr c
    obtain ⟨a0, a1, a2, a3⟩ := hagree c
    obtain ⟨h42, h47, h25, same⟩ := hr c
    have v := values m c (reals _ _ _ _ (hpre c))
    refine ⟨h42.trans ?_, h47.trans ?_, h25.trans ?_, same⟩
    · rw [Cert.DownReferenceIdeal.Read.val_main_v42_eq, a0, a1, a2, a3]
      exact v.1
    · rw [Cert.DownReferenceIdeal.Read.val_main_v47_eq, a0, a1, a2, a3]
      exact v.2.1
    · rw [Cert.DownReferenceIdeal.Read.val_main_v25_eq, a0, a1, a3]
      exact v.2.2

end Cert.Proof.Down

end
-- ==== Proof.Out.Kernel.lean ====
module

public import proofs.«01_k».proof.Proof.Norm.Spec
public import proofs.«01_k».proof.Proof.Gen.OutKernelIdeal.Value
public import Idealize.ShloMosaic.Lib.Claim
public import Idealize.ShloMosaic.Lib.StableHlo.RunRead

/-! What the call's three arrays hold: the norm's gradient, its product with the weight, the gain's gradient. -/

@[expose] public section

set_option maxRecDepth 16384

noncomputable section

namespace Cert.OutKernelIdeal.Out

open Idealize.ShloMosaic Idealize.ShloMosaic.TcCoe Idealize.SL.Sem
open Cert.OutKernelIdeal Cert.OutKernelIdeal.Gen Cert.Held Cert.Norm

variable (m : (ℓ : Loc nD τ sig) → Buf (Elt Ideal) ℓ) (c : Dev nD)

abbrev Aa : FVec Ideal S4096x1024 .f32 := m ((c : Thread nD τ).loc main_arg0)
abbrev Wa : FVec Ideal S1024x1024 .f32 := m ((c : Thread nD τ).loc main_arg1)
abbrev Ga : FVec Ideal S1x1024 .f32 := m ((c : Thread nD τ).loc main_arg2)
abbrev Da : FVec Ideal S4096x1024 .f32 := m ((c : Thread nD τ).loc main_arg3)

/-- A tile's rows: the norm's gradient. -/
theorem dy_tile {y dx : Vec Ideal S512x1024 .f32} {g : Vec Ideal S1x1024 .f32} {Y G D : ℕ → ℕ → ℝ} (n : ℕ) (hy : Is (n := 512) (d := 1024) y fun r l => Y (512 * n + r) l)
    (hg : Is (n := 1) (d := 1024) g G) (hd : Is (n := 512) (d := 1024) dx fun r l => D (512 * n + r) l) :
    Is (n := 512) (d := 1024) (k0_pay7 y g dx) fun r l => dX Y G D (512 * n + r) l := by
  intro r l
  refine Eq.trans ?_ (dx_kernel (fun k => y (ix2 r k)) (fun k => dx (ix2 r k)) (fun k => g (ix2 0 k)) (512 * n + r) (hy r) (hd r) (hg 0) l)
  pointwise [k0_pay7, k0_pay5, k0_pay4]

/-- A tile's rows of the gain's gradient, added to what was there. -/
theorem dg_tile {y dx : Vec Ideal S512x1024 .f32} {o : Vec Ideal S1x1024 .f32} {Y D : ℕ → ℕ → ℝ} (n : ℕ) (hy : Is (n := 512) (d := 1024) y fun r l => Y (512 * n + r) l)
    (hd : Is (n := 512) (d := 1024) dx fun r l => D (512 * n + r) l) (ho : Is (n := 1) (d := 1024) o fun _ l => dG Y D (512 * n) l) :
    Is (n := 1) (d := 1024) (k0_pay1 (k0_pay6 y dx) (k0_pay9 o)) fun _ l => dG Y D (512 * (n + 1)) l := by
  intro r l
  have hs := Finset.sum_congr (s₁ := Finset.univ) rfl fun (p : Fin 512) _ => dg_kernel (fun k => y (ix2 p k)) (fun k => dx (ix2 p k)) (512 * n + p) (hy p) (hd p) l
  have e : k0_pay1 (k0_pay6 y dx) (k0_pay9 o) (ix2 r l) = o (ix2 r l) + ∑ p : Fin 512, dx (ix2 p l) * (y (ix2 p l) * rE fun k => y (ix2 p k)) := by
    pointwise [k0_pay1, k0_pay6, k0_pay9, k0_pay5, k0_pay4]
  rw [e, ho, hs, ← Reals.coe_sum, ← EReal.coe_add]
  dsimp only
  rw [dG_step]

theorem da_tile {dy : FVec Ideal S512x1024 .bf16} {w : FVec Ideal S512x1024 .bf16} {Y W : ℕ → ℕ → ℝ} (hy : Is (n := 512) (d := 1024) dy Y) (hw : Is (n := 512) (d := 1024) w W) :
    (Is (n := 512) (d := 512) (k0_pay2 dy w) fun r k => ∑ l : Fin 1024, Y r l * W k l) ∧ Is (n := 512) (d := 512) (k0_pay3 dy w) fun r k => ∑ l : Fin 1024, Y r l * W k l := by
  constructor <;> intro r l
  · pointwise [k0_pay2]
    simp only [hy _ _, hw _ _, sum_mul]
  · pointwise [k0_pay3]
    simp only [hy _ _, hw _ _, sum_mul]

theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![t.val, 0] ∧ win0_6.index t = ![0, 0] :=
  (by decide +kernel : ∀ t : Fin grid0.N, _)

theorem row4 (t : Fin cfg0.N) (a : ℕ) : win0_4.index t 0 * 512 + a = 512 * t.val + a := by
  rw [(idx t).2.2.2.2.1]
  show t.val * 512 + a = _
  omega
theorem col4 (t : Fin cfg0.N) (a : ℕ) : win0_4.index t 1 * 1024 + a = a := by
  rw [(idx t).2.2.2.2.1]
  show 0 * 1024 + a = _
  omega
theorem row5 (t : Fin cfg0.N) (a : ℕ) : win0_5.index t 0 * 512 + a = 512 * t.val + a := by
  rw [(idx t).2.2.2.2.2.1]
  show t.val * 512 + a = _
  omega
theorem col5 (t : Fin cfg0.N) (a : ℕ) : win0_5.index t 1 * 1024 + a = a := by
  rw [(idx t).2.2.2.2.2.1]
  show 0 * 1024 + a = _
  omega

theorem read_y (W : Valuation τ sig (Elt Ideal)) : StableHlo.after hostOps0 W (Proc.devRef .tc main_v0) =
    (Host.dotGeneral (φ₁ := .f32) (φ₂ := .f32) dot_S4096x1024_S1024x1024_S4096x1024_1_0_0_1_n_n none (W (Proc.devRef .tc main_arg0) : FVec Ideal S4096x1024 .f32)
      (W (Proc.devRef .tc main_arg1) : FVec Ideal S1024x1024 .f32) : FVec Ideal S4096x1024 .f32) := by
  after_reads_simp
theorem read_w (W : Valuation τ sig (Elt Ideal)) : StableHlo.after hostOps0 W (Proc.devRef .tc main_v1) = (W (Proc.devRef .tc main_arg1)) := by
  after_reads_simp
  rfl
theorem read_g (W : Valuation τ sig (Elt Ideal)) : StableHlo.after hostOps0 W (Proc.devRef .tc main_arg2) = (W (Proc.devRef .tc main_arg2)) := by
  after_reads_simp
theorem read_d (W : Valuation τ sig (Elt Ideal)) : StableHlo.after hostOps0 W (Proc.devRef .tc main_arg3) = (W (Proc.devRef .tc main_arg3)) := by
  after_reads_simp

section
variable {Y W G D : ℕ → ℕ → ℝ} (t : Fin cfg0.N) (hd : Is (n := 4096) (d := 1024) (V m c main_arg3) D) (hy : Is (n := 4096) (d := 1024) (V m c main_v0) Y)
  (hg : Is (n := 1) (d := 1024) (V m c main_arg2) G) (hw : Is (n := 1024) (d := 1024) (V m c main_v1) W)

include hd in
theorem blk0 : Is (n := 512) (d := 1024) (iblk m c 0 t) fun r x => D (512 * t.val + r) x := by
  intro r x
  have ht : t.val < 8 := t.isLt
  refine Eq.trans ?_ (hd ⟨512 * t.val + r.val, by omega⟩ x)
  blk_point [iblk, idx t]
include hy in
theorem blk1 : Is (n := 512) (d := 1024) (iblk m c 1 t) fun r x => Y (512 * t.val + r) x := by
  intro r x
  have ht : t.val < 8 := t.isLt
  refine Eq.trans ?_ (hy ⟨512 * t.val + r.val, by omega⟩ x)
  blk_point [iblk, idx t]
include hg in
theorem blk2 : Is (n := 1) (d := 1024) (iblk m c 2 t) G := by
  intro r x
  refine Eq.trans ?_ (hg r x)
  blk_point [iblk, idx t]
include hw in
theorem blk3 : Is (n := 1024) (d := 1024) (iblk m c 3 t) W := by
  intro r x
  refine Eq.trans ?_ (hw r x)
  blk_point [iblk, idx t]

/-- 512 rows of the weight. -/
theorem cut {w : Vec Ideal S1024x1024 .bf16} (h : Is (n := 1024) (d := 1024) w W) (b : ℕ) (hb : b + 512 ≤ 1024)
    (inb : ∀ a, (![b, 0] : Fin 2 → ℕ) a + (![512, 1024] : Fin 2 → ℕ) a ≤ S1024x1024.size a) :
    Is (n := 512) (d := 1024) (View.ld (Val := Elt Ideal) w (Rect.unit (s := S1024x1024) ![b, 0] ![512, 1024] inb)) fun k l => W (b + k) l := fun k l => by
  refine (ld_at w b 0 inb k l (by have := k.isLt; omega) (by have := l.isLt; omega)).trans ((h _ _).trans ?_)
  simp only [Nat.zero_add]

/-- The product of the norm's gradient with the weight. -/
abbrev dA (Y W G D : ℕ → ℕ → ℝ) : ℕ → ℕ → ℝ := fun r k => ∑ l : Fin 1024, dX Y G D r l * W k l

theorem piece {X : ℕ → ℕ → ℝ} (b : ℕ) (inb : ∀ a, (![0, b] : Fin 2 → ℕ) a + (![512, 512] : Fin 2 → ℕ) a ≤ S512x1024.size a) (w : FVec Ideal S512x512 .f32)
    (hw : Is (n := 512) (d := 512) w fun r l => X r (b + l)) :
    ∀ x : (Rect.unit (s := S512x1024) ![0, b] ![512, 512] inb).shape.Idx, (⟨Rect.unit (s := S512x1024) ![0, b] ![512, 512] inb, w⟩ : View.Piece (Elt Ideal) S512x1024 .f32).2 x =
      (fun y : S512x1024.Idx => ((X (y 0).val (y 1).val : ℝ) : EReal)) ((Rect.unit (s := S512x1024) ![0, b] ![512, 512] inb).emb x) :=
  fun x => block_of 0 b inb (fun r l => (hw r l).trans (by rw [Nat.zero_add])) x

/-- After tile `n`. -/
def Good (Y W G D : ℕ → ℕ → ℝ) (n : ℕ) (o : Vec Ideal S512x1024 .bf16 × Vec Ideal S512x1024 .f32 × Vec Ideal S1x1024 .f32) : Prop :=
  (Is (n := 512) (d := 1024) o.1 fun r l => dX Y G D (512 * n + r) l) ∧ (Is (n := 512) (d := 1024) o.2.1 fun r k => dA Y W G D (512 * n + r) k)
    ∧ Is (n := 1) (d := 1024) o.2.2 fun _ l => dG Y D (512 * (n + 1)) l

include hd hy hg hw

theorem point : ∀ (n : ℕ) (hn : n < cfg0.N), Good Y W G D n (outsAt0 m c n hn)
  | 0, hn => by
    have b0 := blk0 m c ⟨0, hn⟩ hd
    have b1 := blk1 m c ⟨0, hn⟩ hy
    have b2 := blk2 m c ⟨0, hn⟩ hg
    have b3 := blk3 m c ⟨0, hn⟩ hw
    have p := dy_tile 0 b1 b2 b0
    let X : ℕ → ℕ → ℝ := fun r k => dA Y W G D (512 * 0 + r) k
    have z : Is (n := 1) (d := 1024) (k0_pay8 (F := Ideal)) fun _ l => dG Y D (512 * 0) l := fun _ l => by
      dsimp only
      rw [Nat.mul_zero, dG_zero]
      exact Ideal.ofBits_zero_f32
    rw [show outsAt0 m c 0 hn = _ from outsAt0_A m c ⟨0, hn⟩ rfl]
    refine ⟨?_, ?_, ?_⟩ <;> intro r l
    · frame_out
      exact p r l
    · frame_out
      refine canon_pieces (s := S512x1024) (t := .f32) (Val := Elt Ideal) (fun y => ((X (y 0).val (y 1).val : ℝ) : EReal)) _ _ ?_ ?_
      · exact View.cover_of_tiledL (s := S512x1024) _ ![512, 512] (by sl_kernel_rfl) _
      exact ⟨piece (X := X) 512 _ _ (da_tile p (cut b3 512 (by decide) _)).2, piece (X := X) 0 _ _ (da_tile p (cut b3 0 (by decide) _)).1, trivial⟩
    · frame_out
      exact dg_tile 0 b1 b0 z r l
  | n + 1, hn => by
    have ih := (point n (Nat.lt_of_succ_lt hn)).2.2
    have b0 := blk0 m c ⟨n + 1, hn⟩ hd
    have b1 := blk1 m c ⟨n + 1, hn⟩ hy
    have b2 := blk2 m c ⟨n + 1, hn⟩ hg
    have b3 := blk3 m c ⟨n + 1, hn⟩ hw
    have hN : n + 1 < 8 := hn
    have p := dy_tile (n + 1) b1 b2 b0
    let X : ℕ → ℕ → ℝ := fun r k => dA Y W G D (512 * (n + 1) + r) k
    rw [show outsAt0 m c (n + 1) hn = _ from outsAt0_B m c ⟨n + 1, hn⟩ (by show ¬ (n + 1) % 8 = 0; omega)]
    refine ⟨?_, ?_, ?_⟩ <;> intro r l
    · frame_out
      exact p r l
    · frame_out
      refine canon_pieces (s := S512x1024) (t := .f32) (Val := Elt Ideal) (fun y => ((X (y 0).val (y 1).val : ℝ) : EReal)) _ _ ?_ ?_
      · exact View.cover_of_tiledL (s := S512x1024) _ ![512, 512] (by sl_kernel_rfl) _
      exact ⟨piece (X := X) 512 _ _ (da_tile p (cut b3 512 (by decide) _)).2, piece (X := X) 0 _ _ (da_tile p (cut b3 0 (by decide) _)).1, trivial⟩
    · frame_out
      exact dg_tile (n + 1) b1 b0 ih r l

/-- The norm's gradient. -/
theorem final_y : Is (n := 4096) (d := 1024) ((dats m 0 c).arrAt 4 cfg0.N) (dX Y G D) := by
  have h : (dats m 0 c).arrAt 4 cfg0.N = fun i => ((dX Y G D (i 0).val (i 1).val : ℝ) : EReal) := by
    refine (dats m 0 c).arrAt_eq_of_covers 4 _ (by decide +kernel) fun t hf y => ?_
    blk_simp
    rw [after0_4, eq_ix2 y]
    refine ((point m c hd hy hg hw t.val t.isLt).1 (y 0) (y 1)).trans ?_
    exact (congrArg₂ (fun a b : ℕ => ((dX Y G D a b : ℝ) : EReal)) (row4 t _) (col4 t _)).symm
  exact fun r x => congrFun h _

/-- The gradient of the attention's output. -/
theorem final_a : Is (n := 4096) (d := 1024) ((dats m 0 c).arrAt 5 cfg0.N) (dA Y W G D) := by
  have h : (dats m 0 c).arrAt 5 cfg0.N = fun i => ((dA Y W G D (i 0).val (i 1).val : ℝ) : EReal) := by
    refine (dats m 0 c).arrAt_eq_of_covers 5 _ (by decide +kernel) fun t hf y => ?_
    blk_simp
    rw [after0_5, eq_ix2 y]
    refine ((point m c hd hy hg hw t.val t.isLt).2.1 (y 0) (y 1)).trans ?_
    exact (congrArg₂ (fun a b : ℕ => ((dA Y W G D a b : ℝ) : EReal)) (row5 t _) (col5 t _)).symm
  exact fun r x => congrFun h _

/-- The gain's gradient. -/
theorem final_g : Is (n := 1) (d := 1024) ((dats m 0 c).arrAt 6 cfg0.N) fun _ l => dG Y D 4096 l := by
  have h : (dats m 0 c).arrAt 6 cfg0.N = fun i => ((dG Y D 4096 (i 1).val : ℝ) : EReal) := by
    refine (dats m 0 c).arrAt_eq_of_after_last 6 t0_7 (by decide +kernel) _ fun j => ?_
    blk_simp
    rw [after0_6]
    refine (congrArg (outsAt0 m c 7 _).2.2 (eq_ix2 j)).trans ?_
    exact (point m c hd hy hg hw 7 _).2.2 (j 0) (j 1)
  exact fun r x => congrFun h _

end

section
variable {A W G D : ℕ → ℕ → ℝ} (ha : Is (n := 4096) (d := 1024) (Aa m c) A) (hw : Is (n := 1024) (d := 1024) (Wa m c) W)
  (hg : Is (n := 1) (d := 1024) (Ga m c) G) (hd : Is (n := 4096) (d := 1024) (Da m c) D)

include hd in
/-- The region's operands hold the arguments' reals. -/
theorem in_d : Is (n := 4096) (d := 1024) (V m c main_arg3) D := fun r x => (congrFun (show V m c main_arg3 = _ from read_d _) _).trans (hd r x)
include hg in
theorem in_g : Is (n := 1) (d := 1024) (V m c main_arg2) G := fun r x => (congrFun (show V m c main_arg2 = _ from read_g _) _).trans (hg r x)
include hw in
theorem in_w : Is (n := 1024) (d := 1024) (V m c main_v1) W := fun r x => (congrFun (show V m c main_v1 = _ from read_w _) _).trans (hw r x)
include ha hw in
theorem in_y : Is (n := 4096) (d := 1024) (V m c main_v0) fun r l => ∑ x : Fin 1024, A r x * W x l := fun r l => by
  refine (congrFun (show V m c main_v0 = _ from read_y _) _).trans ?_
  refine Eq.trans (b := ∑ x : Fin 1024, Aa m c (ix2 r x) * Wa m c (ix2 x l)) ?_ ?_
  · show Host.dotGeneral dot_S4096x1024_S1024x1024_S4096x1024_1_0_0_1_n_n none (Aa m c) (Wa m c) (ix2 r l) = _
    pointwise
  · simp only [ha _ _, hw _ _, sum_mul]
end

end Cert.OutKernelIdeal.Out
end
-- ==== Proof.Out.Ref.lean ====
module

public import proofs.«01_k».proof.Proof.Norm.Spec
public import proofs.«01_k».proof.Proof.Gen.OutReferenceIdeal.Read
public import Idealize.ShloMosaic.Lib.Claim

/-! What the reference's results hold: the norm's gradient, its product with the weight, the gain's gradient. -/

@[expose] public section

set_option maxRecDepth 16384

noncomputable section

namespace Cert.OutReferenceIdeal.Out

open Idealize.ShloMosaic Idealize.ShloMosaic.TcCoe Idealize.SL.Sem
open Cert.OutReferenceIdeal Cert.OutReferenceIdeal.Read Cert.Held Cert.Norm

variable (a dx : FVec Ideal S4096x1024 .f32) (w : FVec Ideal S1024x1024 .f32) (g : FVec Ideal S1x1024 .f32) {A W G D : ℕ → ℕ → ℝ}
  (ha : Is (n := 4096) (d := 1024) a A) (hw : Is (n := 1024) (d := 1024) w W) (hg : Is (n := 1) (d := 1024) g G) (hd : Is (n := 4096) (d := 1024) dx D)

/-- The product with the weight. -/
abbrev prod (A W : ℕ → ℕ → ℝ) : ℕ → ℕ → ℝ := fun r l => ∑ x : Fin 1024, A r x * W x l

include ha hw in
theorem y_is : Is (n := 4096) (d := 1024) (val_main_v0 (F := Ideal) a w) (prod A W) := by
  intro r l
  pointwise [val_main_v0]
  simp only [ha _ _, hw _ _, sum_mul]

include ha hw hg hd

theorem dy_is : Is (n := 4096) (d := 1024) (val_main_v34 (F := Ideal) a w g dx) (dX (prod A W) G D) := by
  intro r l
  have hy := y_is a w ha hw
  refine Eq.trans ?_ (dx_ref (fun k => val_main_v0 (F := Ideal) a w (ix2 r k)) (fun k => dx (ix2 r k)) (fun k => g (ix2 0 k)) r (hy r) (hd r) (hg 0) l)
  unfold val_main_v34 val_main_v33 val_main_v32 val_main_v31 val_main_v30 val_main_v29 val_main_v28 val_main_v26 val_main_v25 val_main_v24 val_main_v23 val_main_v22 val_main_v21 val_main_v20 val_main_v19 val_main_v11 val_main_v9 val_main_v8 val_main_v7 val_main_v5 val_main_v3 val_main_v2 val_main_v1
  generalize val_main_v0 (F := Ideal) a w = y at *
  pointwise [val_main_v27, val_main_cst, val_main_cst_0, val_main_cst_1, val_main_cst_2, val_main_cst_3, val_main_cst_4, val_main_cst_5, val_main_cst_6, val_main_v10, val_main_v6, val_main_v4]
  simp only [Finset.univ_unique, Finset.sum_singleton]

theorem dy_cast : Is (n := 4096) (d := 1024) (val_main_v35 (F := Ideal) a w g dx) (dX (prod A W) G D) := fun r l =>
  Eq.trans (by pointwise [val_main_v35]) (dy_is a dx w g ha hw hg hd r l)

theorem da_is : Is (n := 4096) (d := 1024) (val_main_v36 (F := Ideal) a w g dx) fun r k => ∑ l : Fin 1024, dX (prod A W) G D r l * W k l := by
  intro r k
  have hy := dy_is a dx w g ha hw hg hd
  unfold val_main_v36
  generalize val_main_v34 (F := Ideal) a w g dx = y at *
  pointwise []
  simp only [hy _ _, hw _ _, sum_mul]

omit hg in
theorem dg_is : Is (n := 1) (d := 1024) (val_main_v18 (F := Ideal) a w dx) fun _ l => dG (prod A W) D 4096 l := by
  intro r l
  have hy := y_is a w ha hw
  refine Eq.trans ?_ (dg_all _ _)
  refine Eq.trans ?_ (Finset.sum_congr rfl fun p _ => dg_ref (fun k => val_main_v0 (F := Ideal) a w (ix2 p k)) (fun k => dx (ix2 p k)) p (hy p) (hd p) l)
  unfold val_main_v18 val_main_v17 val_main_v16 val_main_v13 val_main_v12 val_main_v8 val_main_v7 val_main_v5 val_main_v3 val_main_v2 val_main_v1
  generalize val_main_v0 (F := Ideal) a w = y at *
  pointwise [val_main_cst, val_main_cst_0, val_main_cst_1, val_main_cst_3, val_main_v6, val_main_v4]

end Cert.OutReferenceIdeal.Out
end
-- ==== Proof.Out.Claim.lean ====
module

public import proofs.«01_k».proof.Defs
public import proofs.«01_k».proof.Proof.Out.Kernel
public import proofs.«01_k».proof.Proof.Out.Ref
public import proofs.«01_k».proof.Proof.Finite
public import proofs.«01_k».proof.Proof.Gen.Pre_out_finite
public import proofs.«01_k».proof.Proof.Gen.OutReferenceIdeal.Run
public import Idealize.ShloMosaic.Lib.Claim

/-! The gradients of the mixer's output product and norm are those of the reference. -/

@[expose] public section

set_option maxRecDepth 16384

noncomputable section

open Idealize.ShloMosaic Idealize.ShloMosaic.TcCoe Idealize.SL.Sem

namespace Cert.Proof.Out

open Cert.OutKernelIdeal.Out Cert.Finite Cert.Held

instance : Cert.Pre_out_finite.Facts := Cert.Pre_out_finite.Gen.facts

/-- What the precondition says: every argument is real. -/
theorem reals (x0 x3 : FVec Ideal Cert.Pre_out_finite.S4096x1024 .f32) (x1 : FVec Ideal Cert.Pre_out_finite.S1024x1024 .f32) (x2 : FVec Ideal Cert.Pre_out_finite.S1x1024 .f32)
    (h : Cert.Pre_out_finite.fn (F := Ideal) x0 x1 x2 x3 = fun _ => 1#1) :
    (∀ i, ∃ a : ℝ, x0 i = a) ∧ (∀ i, ∃ a : ℝ, x1 i = a) ∧ (∀ i, ∃ a : ℝ, x2 i = a) ∧ (∀ i, ∃ a : ℝ, x3 i = a) := by
  have h' := congrFun h (fun d => d.elim0)
  unfold Cert.Pre_out_finite.fn Cert.Pre_out_finite.fn_part1 at h'
  dsimp only at h'
  obtain ⟨h', h3⟩ := and_split h'
  obtain ⟨h', h2⟩ := and_split h'
  obtain ⟨h0, h1⟩ := and_split h'
  exact ⟨real_of_test _ _ _ _ _ _ h0, real_of_test _ _ _ _ _ _ h1, real_of_test _ _ _ _ _ _ h2, real_of_test _ _ _ _ _ _ h3⟩

section Values

open Cert.OutKernelIdeal Cert.OutKernelIdeal.Gen Cert.OutReferenceIdeal.Read

variable (m : (ℓ : Loc nD τ sig) → Buf (Elt Ideal) ℓ) (c : Dev nD)

/-- The reference's results are the arrays of the kernel. -/
theorem values (h : (∀ i, ∃ a : ℝ, Aa m c i = a) ∧ (∀ i, ∃ a : ℝ, Wa m c i = a) ∧ (∀ i, ∃ a : ℝ, Ga m c i = a) ∧ (∀ i, ∃ a : ℝ, Da m c i = a)) :
    val_main_v35 (F := Ideal) (Aa m c) (Wa m c) (Ga m c) (Da m c) = (dats m 0 c).arrAt 4 cfg0.N
    ∧ val_main_v36 (F := Ideal) (Aa m c) (Wa m c) (Ga m c) (Da m c) = (dats m 0 c).arrAt 5 cfg0.N
    ∧ val_main_v18 (F := Ideal) (Aa m c) (Wa m c) (Da m c) = (dats m 0 c).arrAt 6 cfg0.N := by
  obtain ⟨A, ha⟩ := exists_is _ h.1
  obtain ⟨W, hw⟩ := exists_is _ h.2.1
  obtain ⟨G, hg⟩ := exists_is _ h.2.2.1
  obtain ⟨D, hd⟩ := exists_is _ h.2.2.2
  have hy := in_y m c ha hw
  exact ⟨(Cert.OutReferenceIdeal.Out.dy_cast _ _ _ _ ha hw hg hd).eq (final_y m c (in_d m c hd) hy (in_g m c hg) (in_w m c hw)),
    (Cert.OutReferenceIdeal.Out.da_is _ _ _ _ ha hw hg hd).eq (final_a m c (in_d m c hd) hy (in_g m c hg) (in_w m c hw)),
    (Cert.OutReferenceIdeal.Out.dg_is _ _ _ ha hw hd).eq (final_g m c (in_d m c hd) hy (in_g m c hg) (in_w m c hw))⟩

end Values

/-- The reference terminates, with its arguments unchanged and every counter at zero. -/
theorem frame_reference : Cert.quiescent_OutReferenceIdeal := by
  intro m g _
  exact (θ_run Cert.OutReferenceIdeal.defs _ _).mono (fun r h => ⟨fun c => (h c).2.2.2, sem_eq_zero_of_no_sems (by decide) r.2⟩)
    (Cert.OutReferenceIdeal.Value.run m g)

theorem algebraic : Cert.algebraic_OutKernelIdeal_OutReferenceIdeal_pre_out_finite := by
  pair_intro
  · run_from Cert.OutKernelIdeal.Value.run_blocks m g
  · run_from Cert.OutReferenceIdeal.Value.run m' g'
    all_goals obtain ⟨a0, a1, a2, a3⟩ := hagree c
    · rw [Cert.OutReferenceIdeal.Read.val_main_v35_eq, a0, a1, a2, a3]
      exact (values m c (reals _ _ _ _ (hpre c))).1
    · rw [Cert.OutReferenceIdeal.Read.val_main_v36_eq, a0, a1, a2, a3]
      exact (values m c (reals _ _ _ _ (hpre c))).2.1
    · rw [Cert.OutReferenceIdeal.Read.val_main_v18_eq]
      exact (values m c (reals _ _ _ _ (hpre c))).2.2

end Cert.Proof.Out

end
-- ==== Proof.Up.Kernel.lean ====
module

public import proofs.«01_k».proof.Proof.Norm.Spec
public import proofs.«01_k».proof.Proof.Gen.UpKernelIdeal.Value
public import Idealize.ShloMosaic.Lib.Claim
public import Idealize.ShloMosaic.Lib.StableHlo.RunRead

/-! What the call's two arrays hold: the norm's gradient and the gain's. -/

@[expose] public section

set_option maxRecDepth 16384

noncomputable section

namespace Cert.UpKernelIdeal.Up

open Idealize.ShloMosaic Idealize.ShloMosaic.TcCoe Idealize.SL.Sem
open Cert.UpKernelIdeal Cert.UpKernelIdeal.Gen Cert.Held Cert.Norm

variable (m : (ℓ : Loc nD τ sig) → Buf (Elt Ideal) ℓ) (c : Dev nD)

abbrev Xa : FVec Ideal S4096x1024 .f32 := m ((c : Thread nD τ).loc main_arg0)
abbrev Ga : FVec Ideal S1x1024 .f32 := m ((c : Thread nD τ).loc main_arg1)
abbrev Wa : FVec Ideal S1024x4096 .f32 := m ((c : Thread nD τ).loc main_arg2)
abbrev Ea : FVec Ideal S4096x1024 .f32 := m ((c : Thread nD τ).loc main_arg3)
abbrev Za : FVec Ideal S4096x4096 .f32 := m ((c : Thread nD τ).loc main_arg4)

/-- The cotangent of the norm's result. -/
abbrev back (Z W : ℕ → ℕ → ℝ) : ℕ → ℕ → ℝ := fun r l => ∑ x : Fin 4096, Z r x * W l x

section
variable {dz : Vec Ideal S512x4096 .bf16} {w : Vec Ideal S1024x4096 .bf16} {x e : Vec Ideal S512x1024 .f32} {g o : Vec Ideal S1x1024 .f32} {X G W Z : ℕ → ℕ → ℝ} {E : ℕ → ℕ → EReal}
  (n : ℕ) (hz : Is (n := 512) (d := 4096) dz fun r l => Z (512 * n + r) l) (hw : Is (n := 1024) (d := 4096) w W) (hx : Is (n := 512) (d := 1024) x fun r l => X (512 * n + r) l)
  (hg : Is (n := 1) (d := 1024) g G) (he : IsE (n := 512) (d := 1024) e fun r l => E (512 * n + r) l)

include hz hw in
theorem dh_tile : Is (n := 512) (d := 1024) (k0_pay3 dz w) fun r l => back Z W (512 * n + r) l := by
  intro r l
  pointwise [k0_pay3]
  simp only [hz _ _, hw _ _, sum_mul]

include hz hw hx hg he in
/-- A tile's rows: the norm's gradient and what comes past it. -/
theorem dx_tile : IsE (n := 512) (d := 1024) (k0_pay6 dz w x g e) fun r l => ((dX X G (back Z W) (512 * n + r) l : ℝ) : EReal) + E (512 * n + r) l := by
  intro r l
  have hh := dh_tile n hz hw
  refine Eq.trans ?_ (congrArg₂ (· + ·) (dx_kernel (fun k => x (ix2 r k)) (fun k => k0_pay3 dz w (ix2 r k)) (fun k => g (ix2 0 k)) (512 * n + r) (hx r) (hh r) (hg 0) l) (he r l))
  unfold k0_pay6
  generalize k0_pay3 dz w = h
  pointwise [k0_pay4]

include hz hw hx in
/-- A tile's rows of the gain's gradient, added to what was there. -/
theorem dg_tile (ho : Is (n := 1) (d := 1024) o fun _ l => dG X (back Z W) (512 * n) l) :
    Is (n := 1) (d := 1024) (k0_pay2 (k0_pay5 dz w x) o) fun _ l => dG X (back Z W) (512 * (n + 1)) l := by
  intro r l
  have hh := dh_tile n hz hw
  have hs := Finset.sum_congr (s₁ := Finset.univ) rfl fun (p : Fin 512) _ => dg_kernel (fun k => x (ix2 p k)) (fun k => k0_pay3 dz w (ix2 p k)) (512 * n + p) (hx p) (hh p) l
  have e : k0_pay2 (k0_pay5 dz w x) o (ix2 r l) = o (ix2 r l) + ∑ p : Fin 512, k0_pay3 dz w (ix2 p l) * (x (ix2 p l) * rE fun k => x (ix2 p k)) := by
    unfold k0_pay5
    generalize k0_pay3 dz w = h
    pointwise [k0_pay2, k0_pay4]
  rw [e, ho, hs, ← Reals.coe_sum, ← EReal.coe_add]
  dsimp only
  rw [dG_step]
end

theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![0, 0] :=
  (by decide +kernel : ∀ t : Fin grid0.N, _)

theorem row5 (t : Fin cfg0.N) (a : ℕ) : win0_5.index t 0 * 512 + a = 512 * t.val + a := by
  rw [(idx t).2.2.2.2.2.1]
  show t.val * 512 + a = _
  omega
theorem col5 (t : Fin cfg0.N) (a : ℕ) : win0_5.index t 1 * 1024 + a = a := by
  rw [(idx t).2.2.2.2.2.1]
  show 0 * 1024 + a = _
  omega

theorem read_z (W : Valuation τ sig (Elt Ideal)) : StableHlo.after hostOps0 W (Proc.devRef .tc main_v0) = (W (Proc.devRef .tc main_arg4)) := by
  after_reads_simp
  rfl
theorem read_w (W : Valuation τ sig (Elt Ideal)) : StableHlo.after hostOps0 W (Proc.devRef .tc main_v1) = (W (Proc.devRef .tc main_arg2)) := by
  after_reads_simp
  rfl
theorem read_x (W : Valuation τ sig (Elt Ideal)) : StableHlo.after hostOps0 W (Proc.devRef .tc main_arg0) = (W (Proc.devRef .tc main_arg0)) := by
  after_reads_simp
theorem read_g (W : Valuation τ sig (Elt Ideal)) : StableHlo.after hostOps0 W (Proc.devRef .tc main_arg1) = (W (Proc.devRef .tc main_arg1)) := by
  after_reads_simp
theorem read_e (W : Valuation τ sig (Elt Ideal)) : StableHlo.after hostOps0 W (Proc.devRef .tc main_arg3) = (W (Proc.devRef .tc main_arg3)) := by
  after_reads_simp

section
variable {X G W Z : ℕ → ℕ → ℝ} {E : ℕ → ℕ → EReal} (t : Fin cfg0.N) (hx : Is (n := 4096) (d := 1024) (Xa m c) X) (hg : Is (n := 1) (d := 1024) (Ga m c) G)
  (hw : Is (n := 1024) (d := 4096) (Wa m c) W) (he : IsE (n := 4096) (d := 1024) (Ea m c) E) (hz : Is (n := 4096) (d := 4096) (Za m c) Z)

include hz in
theorem blk0 : Is (n := 512) (d := 4096) (iblk m c 0 t) fun r x => Z (512 * t.val + r) x := by
  intro r x
  have ht : t.val < 8 := t.isLt
  refine Eq.trans ?_ ((congrFun (show V m c main_v0 = _ from read_z _) _).trans (hz ⟨512 * t.val + r.val, by omega⟩ x))
  blk_point [iblk, idx t]
include hw in
theorem blk1 : Is (n := 1024) (d := 4096) (iblk m c 1 t) W := by
  intro r x
  refine Eq.trans ?_ ((congrFun (show V m c main_v1 = _ from read_w _) _).trans (hw r x))
  blk_point [iblk, idx t]
include hx in
theorem blk2 : Is (n := 512) (d := 1024) (iblk m c 2 t) fun r x => X (512 * t.val + r) x := by
  intro r x
  have ht : t.val < 8 := t.isLt
  refine Eq.trans ?_ ((congrFun (show V m c main_arg0 = _ from read_x _) _).trans (hx ⟨512 * t.val + r.val, by omega⟩ x))
  blk_point [iblk, idx t]
include hg in
theorem blk3 : Is (n := 1) (d := 1024) (iblk m c 3 t) G := by
  intro r x
  refine Eq.trans ?_ ((congrFun (show V m c main_arg1 = _ from read_g _) _).trans (hg r x))
  blk_point [iblk, idx t]
include he in
theorem blk4 : IsE (n := 512) (d := 1024) (iblk m c 4 t) fun r x => E (512 * t.val + r) x := by
  intro r x
  have ht : t.val < 8 := t.isLt
  refine Eq.trans ?_ ((congrFun (show V m c main_arg3 = _ from read_e _) _).trans (he ⟨512 * t.val + r.val, by omega⟩ x))
  blk_point [iblk, idx t]

/-- After tile `n`. -/
def Good (X G H : ℕ → ℕ → ℝ) (E : ℕ → ℕ → EReal) (n : ℕ) (o : Vec Ideal S512x1024 .f32 × Vec Ideal S1x1024 .f32) : Prop :=
  (IsE (n := 512) (d := 1024) o.1 fun r l => ((dX X G H (512 * n + r) l : ℝ) : EReal) + E (512 * n + r) l) ∧ Is (n := 1) (d := 1024) o.2 fun _ l => dG X H (512 * (n + 1)) l

include hx hg hw he hz

theorem point : ∀ (n : ℕ) (hn : n < cfg0.N), Good X G (back Z W) E n (outsAt0 m c n hn)
  | 0, hn => by
    have z : Is (n := 1) (d := 1024) (k0_pay1 (F := Ideal)) fun _ l => dG X (back Z W) (512 * 0) l := fun _ l => by
      dsimp only
      rw [Nat.mul_zero, dG_zero]
      exact Ideal.ofBits_zero_f32
    rw [show outsAt0 m c 0 hn = _ from outsAt0_A m c ⟨0, hn⟩ rfl]
    constructor <;> intro r l <;> frame_out
    · exact dx_tile 0 (blk0 m c ⟨0, hn⟩ hz) (blk1 m c ⟨0, hn⟩ hw) (blk2 m c ⟨0, hn⟩ hx) (blk3 m c ⟨0, hn⟩ hg) (blk4 m c ⟨0, hn⟩ he) r l
    · exact dg_tile 0 (blk0 m c ⟨0, hn⟩ hz) (blk1 m c ⟨0, hn⟩ hw) (blk2 m c ⟨0, hn⟩ hx) z r l
  | n + 1, hn => by
    have ih := (point n (Nat.lt_of_succ_lt hn)).2
    have hN : n + 1 < 8 := hn
    rw [show outsAt0 m c (n + 1) hn = _ from outsAt0_B m c ⟨n + 1, hn⟩ (by show ¬ (n + 1) % 8 = 0; omega)]
    constructor <;> intro r l <;> frame_out
    · exact dx_tile (n + 1) (blk0 m c ⟨n + 1, hn⟩ hz) (blk1 m c ⟨n + 1, hn⟩ hw) (blk2 m c ⟨n + 1, hn⟩ hx) (blk3 m c ⟨n + 1, hn⟩ hg) (blk4 m c ⟨n + 1, hn⟩ he) r l
    · exact dg_tile (n + 1) (blk0 m c ⟨n + 1, hn⟩ hz) (blk1 m c ⟨n + 1, hn⟩ hw) (blk2 m c ⟨n + 1, hn⟩ hx) ih r l

/-- The norm's gradient, and what comes past it. -/
theorem final_x : IsE (n := 4096) (d := 1024) ((dats m 0 c).arrAt 5 cfg0.N) fun r l => ((dX X G (back Z W) r l : ℝ) : EReal) + E r l := by
  have h : (dats m 0 c).arrAt 5 cfg0.N = fun i => ((dX X G (back Z W) (i 0).val (i 1).val : ℝ) : EReal) + E (i 0).val (i 1).val := by
    refine (dats m 0 c).arrAt_eq_of_covers 5 _ (by decide +kernel) fun t hf y => ?_
    blk_simp
    rw [after0_5, eq_ix2 y]
    refine ((point m c hx hg hw he hz t.val t.isLt).1 (y 0) (y 1)).trans ?_
    exact (congrArg₂ (fun a b : ℕ => ((dX X G (back Z W) a b : ℝ) : EReal) + E a b) (row5 t _) (col5 t _)).symm
  exact fun r x => congrFun h _

/-- The gain's gradient. -/
theorem final_g : Is (n := 1) (d := 1024) ((dats m 0 c).arrAt 6 cfg0.N) fun _ l => dG X (back Z W) 4096 l := by
  have h : (dats m 0 c).arrAt 6 cfg0.N = fun i => ((dG X (back Z W) 4096 (i 1).val : ℝ) : EReal) := by
    refine (dats m 0 c).arrAt_eq_of_after_last 6 t0_7 (by decide +kernel) _ fun j => ?_
    blk_simp
    rw [after0_6]
    refine (congrArg (outsAt0 m c 7 _).2 (eq_ix2 j)).trans ?_
    exact (point m c hx hg hw he hz 7 _).2 (j 0) (j 1)
  exact fun r x => congrFun h _

end

end Cert.UpKernelIdeal.Up
end
-- ==== Proof.Up.Ref.lean ====
module

public import proofs.«01_k».proof.Proof.Norm.Spec
public import proofs.«01_k».proof.Proof.Gen.UpReferenceIdeal.Read
public import Idealize.ShloMosaic.Lib.Claim

/-! What the reference's results hold: the norm's gradient and the gain's. -/

@[expose] public section

set_option maxRecDepth 16384

noncomputable section

namespace Cert.UpReferenceIdeal.Up

open Idealize.ShloMosaic Idealize.ShloMosaic.TcCoe Idealize.SL.Sem
open Cert.UpReferenceIdeal Cert.UpReferenceIdeal.Read Cert.Held Cert.Norm

variable (x dx : FVec Ideal S4096x1024 .f32) (g : FVec Ideal S1x1024 .f32) (w : FVec Ideal S1024x4096 .f32) (dz : FVec Ideal S4096x4096 .f32) {X G W Z : ℕ → ℕ → ℝ} {E : ℕ → ℕ → EReal}
  (hx : Is (n := 4096) (d := 1024) x X) (hg : Is (n := 1) (d := 1024) g G) (hw : Is (n := 1024) (d := 4096) w W) (he : IsE (n := 4096) (d := 1024) dx E) (hz : Is (n := 4096) (d := 4096) dz Z)

/-- The cotangent of the norm's result. -/
abbrev back (Z W : ℕ → ℕ → ℝ) : ℕ → ℕ → ℝ := fun r l => ∑ x : Fin 4096, Z r x * W l x

include hw hz in
theorem dh_is : Is (n := 4096) (d := 1024) (val_main_v16 (F := Ideal) w dz) (back Z W) := by
  intro r l
  pointwise [val_main_v16]
  simp only [hz _ _, hw _ _, sum_mul]

include hx hw hz

include hg he in
theorem dx_is : IsE (n := 4096) (d := 1024) (val_main_v36 (F := Ideal) x g w dx dz) fun r l => ((dX X G (back Z W) r l : ℝ) : EReal) + E r l := by
  intro r l
  have hh := dh_is w dz hw hz
  refine Eq.trans ?_ (congrArg₂ (· + ·) (dx_ref (fun k => x (ix2 r k)) (fun k => val_main_v16 (F := Ideal) w dz (ix2 r k)) (fun k => g (ix2 0 k)) r (hx r) (hh r) (hg 0) l) (he r l))
  refine Eq.trans ?_ (add_last _ _ _ _)
  unfold val_main_v36 val_main_v35 val_main_v34 val_main_v33 val_main_v32 val_main_v31 val_main_v30 val_main_v28 val_main_v27 val_main_v26 val_main_v25 val_main_v24 val_main_v23 val_main_v22 val_main_v21 val_main_v20 val_main_v10 val_main_v8 val_main_v7 val_main_v6 val_main_v4 val_main_v2 val_main_v1 val_main_v0
  generalize val_main_v16 (F := Ideal) w dz = h at *
  pointwise [val_main_v29, val_main_cst, val_main_cst_0, val_main_cst_1, val_main_cst_2, val_main_cst_3, val_main_cst_4, val_main_cst_5, val_main_cst_6, val_main_v9, val_main_v5, val_main_v3]
  simp only [Finset.univ_unique, Finset.sum_singleton]

theorem dg_is : Is (n := 1) (d := 1024) (val_main_v19 (F := Ideal) x w dz) fun _ l => dG X (back Z W) 4096 l := by
  intro r l
  have hh := dh_is w dz hw hz
  refine Eq.trans ?_ (dg_all _ _)
  refine Eq.trans ?_ (Finset.sum_congr rfl fun p _ => dg_ref (fun k => x (ix2 p k)) (fun k => val_main_v16 (F := Ideal) w dz (ix2 p k)) p (hx p) (hh p) l)
  unfold val_main_v19 val_main_v18 val_main_v17 val_main_v12 val_main_v11 val_main_v7 val_main_v6 val_main_v4 val_main_v2 val_main_v1 val_main_v0
  generalize val_main_v16 (F := Ideal) w dz = h at *
  pointwise [val_main_cst, val_main_cst_0, val_main_cst_1, val_main_cst_3, val_main_v5, val_main_v3]

end Cert.UpReferenceIdeal.Up
end
-- ==== Proof.Up.Claim.lean ====
module

public import proofs.«01_k».proof.Defs
public import proofs.«01_k».proof.Proof.Up.Kernel
public import proofs.«01_k».proof.Proof.Up.Ref
public import proofs.«01_k».proof.Proof.Finite
public import proofs.«01_k».proof.Proof.Gen.Pre_up_finite
public import proofs.«01_k».proof.Proof.Gen.UpReferenceIdeal.Run
public import Idealize.ShloMosaic.Lib.Claim

/-! The gradients of the hidden layer's norm are those of the reference. -/

@[expose] public section

set_option maxRecDepth 16384

noncomputable section

open Idealize.ShloMosaic Idealize.ShloMosaic.TcCoe Idealize.SL.Sem

namespace Cert.Proof.Up

open Cert.UpKernelIdeal.Up Cert.Finite Cert.Held

instance : Cert.Pre_up_finite.Facts := Cert.Pre_up_finite.Gen.facts

/-- What the precondition says of the arguments that it names: they are real. -/
theorem reals (x0 : FVec Ideal Cert.Pre_up_finite.S4096x1024 .f32) (x1 : FVec Ideal Cert.Pre_up_finite.S1x1024 .f32) (x2 : FVec Ideal Cert.Pre_up_finite.S1024x4096 .f32) (x3 : FVec Ideal Cert.Pre_up_finite.S4096x1024 .f32) (x4 : FVec Ideal Cert.Pre_up_finite.S4096x4096 .f32)
    (h : Cert.Pre_up_finite.fn (F := Ideal) x0 x1 x2 x3 x4 = fun _ => 1#1) :
    (∀ i, ∃ a : ℝ, x0 i = a) ∧ (∀ i, ∃ a : ℝ, x1 i = a) ∧ (∀ i, ∃ a : ℝ, x2 i = a) ∧ (∀ i, ∃ a : ℝ, x4 i = a) := by
  have h' := congrFun h (fun d => d.elim0)
  unfold Cert.Pre_up_finite.fn Cert.Pre_up_finite.fn_part1 at h'
  dsimp only at h'
  obtain ⟨h', h4⟩ := and_split h'
  obtain ⟨h', h2⟩ := and_split h'
  obtain ⟨h0, h1⟩ := and_split h'
  exact ⟨real_of_test _ _ _ _ _ _ h0, real_of_test _ _ _ _ _ _ h1, real_of_test _ _ _ _ _ _ h2, real_of_test _ _ _ _ _ _ h4⟩

section Values

open Cert.UpKernelIdeal Cert.UpKernelIdeal.Gen Cert.UpReferenceIdeal.Read

variable (m : (ℓ : Loc nD τ sig) → Buf (Elt Ideal) ℓ) (c : Dev nD)

/-- The reference's results are the arrays of the kernel. -/
theorem values (h : (∀ i, ∃ a : ℝ, Xa m c i = a) ∧ (∀ i, ∃ a : ℝ, Ga m c i = a) ∧ (∀ i, ∃ a : ℝ, Wa m c i = a) ∧ (∀ i, ∃ a : ℝ, Za m c i = a)) :
    val_main_v36 (F := Ideal) (Xa m c) (Ga m c) (Wa m c) (Ea m c) (Za m c) = (dats m 0 c).arrAt 5 cfg0.N
    ∧ val_main_v19 (F := Ideal) (Xa m c) (Wa m c) (Za m c) = (dats m 0 c).arrAt 6 cfg0.N := by
  obtain ⟨X, hx⟩ := exists_is _ h.1
  obtain ⟨G, hg⟩ := exists_is _ h.2.1
  obtain ⟨W, hw⟩ := exists_is _ h.2.2.1
  obtain ⟨Z, hz⟩ := exists_is _ h.2.2.2
  obtain ⟨E, he⟩ := Cert.Norm.exists_isE (Ea m c)
  exact ⟨(Cert.UpReferenceIdeal.Up.dx_is _ _ _ _ _ hx hg hw he hz).eq (final_x m c hx hg hw he hz),
    (Cert.UpReferenceIdeal.Up.dg_is _ _ _ hx hw hz).eq (final_g m c hx hg hw he hz)⟩

end Values

/-- The reference terminates, with its arguments unchanged and every counter at zero. -/
theorem frame_reference : Cert.quiescent_UpReferenceIdeal := by
  intro m g _
  exact (θ_run Cert.UpReferenceIdeal.defs _ _).mono (fun r h => ⟨fun c => (h c).2.2, sem_eq_zero_of_no_sems (by decide) r.2⟩)
    (Cert.UpReferenceIdeal.Value.run m g)

theorem algebraic : Cert.algebraic_UpKernelIdeal_UpReferenceIdeal_pre_up_finite := by
  pair_intro
  · run_from Cert.UpKernelIdeal.Value.run_blocks m g
  · refine θ_run_mono (Cert.UpReferenceIdeal.Value.run m' g') ?_
    intro r hr c
    obtain ⟨a0, a1, a2, a3, a4⟩ := hagree c
    obtain ⟨h36, h19, same⟩ := hr c
    have v := values m c (reals _ _ _ _ _ (hpre c))
    refine ⟨h36.trans ?_, h19.trans ?_, same⟩
    · rw [Cert.UpReferenceIdeal.Read.val_main_v36_eq, a0, a1, a2, a3, a4]
      exact v.1
    · rw [Cert.UpReferenceIdeal.Read.val_main_v19_eq, a0, a2, a4]
      exact v.2

end Cert.Proof.Up

end
-- ==== Proof.MemKv.Kernel.lean ====
module

public import proofs.«01_k».proof.Proof.Norm.Spec
public import proofs.«01_k».proof.Proof.Gen.MemKvKernelIdeal.Value
public import Idealize.ShloMosaic.Lib.Claim
public import Idealize.ShloMosaic.Lib.StableHlo.RunRead

/-! What the call's two arrays hold: the norm's gradient and the gain's. -/

@[expose] public section

set_option maxRecDepth 16384

noncomputable section

namespace Cert.MemKvKernelIdeal.MemKv

open Idealize.ShloMosaic Idealize.ShloMosaic.TcCoe Idealize.SL.Sem
open Cert.MemKvKernelIdeal Cert.MemKvKernelIdeal.Gen Cert.Held Cert.Norm

variable (m : (ℓ : Loc nD τ sig) → Buf (Elt Ideal) ℓ) (c : Dev nD)

abbrev Xa : FVec Ideal S256x1024 .f32 := m ((c : Thread nD τ).loc main_arg0)
abbrev Ga : FVec Ideal S1x1024 .f32 := m ((c : Thread nD τ).loc main_arg1)
abbrev W0a : FVec Ideal S1024x512 .f32 := m ((c : Thread nD τ).loc main_arg2)
abbrev W1a : FVec Ideal S1024x512 .f32 := m ((c : Thread nD τ).loc main_arg3)
abbrev D0a : FVec Ideal S256x512 .f32 := m ((c : Thread nD τ).loc main_arg4)
abbrev D1a : FVec Ideal S256x512 .f32 := m ((c : Thread nD τ).loc main_arg5)

/-- Two arrays of 512 columns side by side. -/
abbrev beside (A B : ℕ → ℕ → ℝ) : ℕ → ℕ → ℝ := fun r x => if x < 512 then A r x else B r (x - 512)

/-- The cotangent of the norm's result. -/
abbrev back (Z W : ℕ → ℕ → ℝ) : ℕ → ℕ → ℝ := fun r l => ∑ x : Fin 1024, Z r x * W l x

/-- Side by side, the products are those of the keys and of the values. -/
theorem back_beside (D0 D1 W0 W1 : ℕ → ℕ → ℝ) (r l : ℕ) : back (beside D0 D1) (beside W0 W1) r l =
    (∑ x : Fin 512, D1 r x * W1 l x) + ∑ x : Fin 512, D0 r x * W0 l x := by
  show (∑ x : Fin (512 + 512), beside D0 D1 r x * beside W0 W1 l x) = _
  rw [Fin.sum_univ_add, add_comm]
  refine congrArg₂ (· + ·) (Finset.sum_congr rfl fun x _ => ?_) (Finset.sum_congr rfl fun x _ => ?_)
  · simp [beside]
  · simp [beside]

section
variable {dz : Vec Ideal S256x1024 .bf16} {w : Vec Ideal S1024x1024 .bf16} {x : Vec Ideal S256x1024 .f32} {g : Vec Ideal S1x1024 .f32} {X G W Z : ℕ → ℕ → ℝ}
  (hz : Is (n := 256) (d := 1024) dz Z) (hw : Is (n := 1024) (d := 1024) w W) (hx : Is (n := 256) (d := 1024) x X) (hg : Is (n := 1) (d := 1024) g G)

include hz hw in
theorem dh_tile : Is (n := 256) (d := 1024) (k0_pay3 dz w) (back Z W) := by
  intro r l
  pointwise [k0_pay3]
  simp only [hz _ _, hw _ _, sum_mul]

include hz hw hx hg in
/-- The norm's gradient. -/
theorem dx_tile : Is (n := 256) (d := 1024) (k0_pay5 dz w x g) (dX X G (back Z W)) := by
  intro r l
  have hh := dh_tile hz hw
  refine Eq.trans ?_ (dx_kernel (fun k => x (ix2 r k)) (fun k => k0_pay3 dz w (ix2 r k)) (fun k => g (ix2 0 k)) r (hx r) (hh r) (hg 0) l)
  unfold k0_pay5
  generalize k0_pay3 dz w = h
  pointwise [k0_pay4]

include hz hw hx in
/-- The gain's gradient. -/
theorem dg_tile : Is (n := 1) (d := 1024) (k0_pay2 (k0_pay6 dz w x) (k0_pay1 (F := Ideal))) fun _ l => dG X (back Z W) 256 l := by
  intro r l
  have hh := dh_tile hz hw
  refine Eq.trans ?_ (dg_all _ _)
  refine Eq.trans ?_ (Finset.sum_congr rfl fun (p : Fin 256) _ => dg_kernel (fun k => x (ix2 p k)) (fun k => k0_pay3 dz w (ix2 p k)) p (hx p) (hh p) l)
  unfold k0_pay6
  generalize k0_pay3 dz w = h
  pointwise [k0_pay2, k0_pay1, k0_pay4]
end

theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] :=
  (by decide +kernel : ∀ t : Fin grid0.N, _)

theorem read_z (W : Valuation τ sig (Elt Ideal)) : StableHlo.after hostOps0 W (Proc.devRef .tc main_v3) =
    concatenate S256x1024 1 [⟨S256x512, (W (Proc.devRef .tc main_arg4))⟩, ⟨S256x512, (W (Proc.devRef .tc main_arg5))⟩] concatenates_S256x512_S256x512_S256x1024_d1 := by
  after_reads_simp
  rfl
theorem read_w (W : Valuation τ sig (Elt Ideal)) : StableHlo.after hostOps0 W (Proc.devRef .tc main_v1) =
    concatenate S1024x1024 1 [⟨S1024x512, (W (Proc.devRef .tc main_arg2))⟩, ⟨S1024x512, (W (Proc.devRef .tc main_arg3))⟩] concatenates_S1024x512_S1024x512_S1024x1024_d1 := by
  after_reads_simp
  rfl
theorem read_x (W : Valuation τ sig (Elt Ideal)) : StableHlo.after hostOps0 W (Proc.devRef .tc main_arg0) = (W (Proc.devRef .tc main_arg0)) := by
  after_reads_simp
theorem read_g (W : Valuation τ sig (Elt Ideal)) : StableHlo.after hostOps0 W (Proc.devRef .tc main_arg1) = (W (Proc.devRef .tc main_arg1)) := by
  after_reads_simp

/-- Two arrays side by side, at an index. -/
theorem side_z (a b : FVec Ideal S256x512 .f32) (A B : ℕ → ℕ → ℝ) (ha : Is (n := 256) (d := 512) a A) (hb : Is (n := 256) (d := 512) b B) :
    Is (n := 256) (d := 1024) (concatenate S256x1024 1 [⟨S256x512, a⟩, ⟨S256x512, b⟩] concatenates_S256x512_S256x512_S256x1024_d1) (beside A B) := by
  intro p x
  pointwise
  by_cases h : x.val < 512
  · simp only [dif_pos h, if_pos h]
    exact ha _ _
  · simp only [dif_neg h, if_neg h]
    exact hb _ ⟨x.val - 512, by omega⟩
theorem side_w (a b : FVec Ideal S1024x512 .f32) (A B : ℕ → ℕ → ℝ) (ha : Is (n := 1024) (d := 512) a A) (hb : Is (n := 1024) (d := 512) b B) :
    Is (n := 1024) (d := 1024) (concatenate S1024x1024 1 [⟨S1024x512, a⟩, ⟨S1024x512, b⟩] concatenates_S1024x512_S1024x512_S1024x1024_d1) (beside A B) := by
  intro p x
  pointwise
  by_cases h : x.val < 512
  · simp only [dif_pos h, if_pos h]
    exact ha _ _
  · simp only [dif_neg h, if_neg h]
    exact hb _ ⟨x.val - 512, by omega⟩

section
variable {X G W0 W1 D0 D1 : ℕ → ℕ → ℝ} (t : Fin cfg0.N) (hx : Is (n := 256) (d := 1024) (Xa m c) X) (hg : Is (n := 1) (d := 1024) (Ga m c) G)
  (hw0 : Is (n := 1024) (d := 512) (W0a m c) W0) (hw1 : Is (n := 1024) (d := 512) (W1a m c) W1) (hd0 : Is (n := 256) (d := 512) (D0a m c) D0) (hd1 : Is (n := 256) (d := 512) (D1a m c) D1)

include hd0 hd1 in
theorem blk0 : Is (n := 256) (d := 1024) (iblk m c 0 t) (beside D0 D1) := by
  intro r x
  refine Eq.trans ?_ ((congrFun (show V m c main_v3 = _ from read_z _) _).trans (side_z _ _ _ _ hd0 hd1 r x))
  blk_point [iblk, idx t]
include hw0 hw1 in
theorem blk1 : Is (n := 1024) (d := 1024) (iblk m c 1 t) (beside W0 W1) := by
  intro r x
  refine Eq.trans ?_ ((congrFun (show V m c main_v1 = _ from read_w _) _).trans (side_w _ _ _ _ hw0 hw1 r x))
  blk_point [iblk, idx t]
include hx in
theorem blk2 : Is (n := 256) (d := 1024) (iblk m c 2 t) X := by
  intro r x
  refine Eq.trans ?_ ((congrFun (show V m c main_arg0 = _ from read_x _) _).trans (hx r x))
  blk_point [iblk, idx t]
include hg in
theorem blk3 : Is (n := 1) (d := 1024) (iblk m c 3 t) G := by
  intro r x
  refine Eq.trans ?_ ((congrFun (show V m c main_arg1 = _ from read_g _) _).trans (hg r x))
  blk_point [iblk, idx t]

include hx hw0 hw1 hd0 hd1

include hg in
/-- The norm's gradient. -/
theorem final_x : Is (n := 256) (d := 1024) ((dats m 0 c).arrAt 4 cfg0.N) (dX X G (back (beside D0 D1) (beside W0 W1))) := by
  have h : (dats m 0 c).arrAt 4 cfg0.N = fun i => ((dX X G (back (beside D0 D1) (beside W0 W1)) (i 0).val (i 1).val : ℝ) : EReal) := by
    refine (dats m 0 c).arrAt_eq_of_after_last 4 t0_0 (by decide +kernel) _ fun j => ?_
    blk_simp
    rw [after0_4]
    refine (congrArg (outsAt0 m c t0_0).1 (eq_ix2 j)).trans ?_
    unfold outsAt0
    frame_out
    exact dx_tile (blk0 m c t0_0 hd0 hd1) (blk1 m c t0_0 hw0 hw1) (blk2 m c t0_0 hx) (blk3 m c t0_0 hg) (j 0) (j 1)
  exact fun r x => congrFun h _

/-- The gain's gradient. -/
theorem final_g : Is (n := 1) (d := 1024) ((dats m 0 c).arrAt 5 cfg0.N) fun _ l => dG X (back (beside D0 D1) (beside W0 W1)) 256 l := by
  have h : (dats m 0 c).arrAt 5 cfg0.N = fun i => ((dG X (back (beside D0 D1) (beside W0 W1)) 256 (i 1).val : ℝ) : EReal) := by
    refine (dats m 0 c).arrAt_eq_of_after_last 5 t0_0 (by decide +kernel) _ fun j => ?_
    blk_simp
    rw [after0_5]
    refine (congrArg (outsAt0 m c t0_0).2 (eq_ix2 j)).trans ?_
    unfold outsAt0
    frame_out
    exact dg_tile (blk0 m c t0_0 hd0 hd1) (blk1 m c t0_0 hw0 hw1) (blk2 m c t0_0 hx) (j 0) (j 1)
  exact fun r x => congrFun h _

end

end Cert.MemKvKernelIdeal.MemKv
end
-- ==== Proof.MemKv.Ref.lean ====
module

public import proofs.«01_k».proof.Proof.Norm.Spec
public import proofs.«01_k».proof.Proof.Gen.MemKvReferenceIdeal.Read
public import Idealize.ShloMosaic.Lib.Claim

/-! What the reference's results hold: the norm's gradient and the gain's. -/

@[expose] public section

set_option maxRecDepth 16384

noncomputable section

namespace Cert.MemKvReferenceIdeal.MemKv

open Idealize.ShloMosaic Idealize.ShloMosaic.TcCoe Idealize.SL.Sem
open Cert.MemKvReferenceIdeal Cert.MemKvReferenceIdeal.Read Cert.Held Cert.Norm

variable (x : FVec Ideal S256x1024 .f32) (g : FVec Ideal S1x1024 .f32) (w0 w1 : FVec Ideal S1024x512 .f32) (d0 d1 : FVec Ideal S256x512 .f32) {X G W0 W1 D0 D1 : ℕ → ℕ → ℝ}
  (hx : Is (n := 256) (d := 1024) x X) (hg : Is (n := 1) (d := 1024) g G) (hw0 : Is (n := 1024) (d := 512) w0 W0) (hw1 : Is (n := 1024) (d := 512) w1 W1)
  (hd0 : Is (n := 256) (d := 512) d0 D0) (hd1 : Is (n := 256) (d := 512) d1 D1)

/-- The cotangent of the norm's result. -/
abbrev back (D0 D1 W0 W1 : ℕ → ℕ → ℝ) : ℕ → ℕ → ℝ := fun r l => (∑ x : Fin 512, D1 r x * W1 l x) + ∑ x : Fin 512, D0 r x * W0 l x

include hw0 hw1 hd0 hd1

theorem dh_is : Is (n := 256) (d := 1024) (val_main_v19 (F := Ideal) w0 w1 d0 d1) (back D0 D1 W0 W1) := by
  intro r l
  pointwise [val_main_v19, val_main_v18, val_main_v17]
  simp only [hd0 _ _, hd1 _ _, hw0 _ _, hw1 _ _, sum_mul, ← EReal.coe_add]

include hx

include hg in
theorem dx_is : Is (n := 256) (d := 1024) (val_main_v38 (F := Ideal) x g w0 w1 d0 d1) (dX X G (back D0 D1 W0 W1)) := by
  intro r l
  have hh := dh_is w0 w1 d0 d1 hw0 hw1 hd0 hd1
  refine Eq.trans ?_ (dx_ref (fun k => x (ix2 r k)) (fun k => val_main_v19 (F := Ideal) w0 w1 d0 d1 (ix2 r k)) (fun k => g (ix2 0 k)) r (hx r) (hh r) (hg 0) l)
  unfold val_main_v38 val_main_v37 val_main_v36 val_main_v35 val_main_v34 val_main_v33 val_main_v32 val_main_v30 val_main_v29 val_main_v28 val_main_v27 val_main_v26 val_main_v25 val_main_v24 val_main_v23 val_main_v10 val_main_v8 val_main_v7 val_main_v6 val_main_v4 val_main_v2 val_main_v1 val_main_v0
  generalize val_main_v19 (F := Ideal) w0 w1 d0 d1 = h at *
  pointwise [val_main_v31, val_main_cst, val_main_cst_0, val_main_cst_1, val_main_cst_2, val_main_cst_3, val_main_cst_4, val_main_cst_5, val_main_cst_6, val_main_v9, val_main_v5, val_main_v3]
  simp only [Finset.univ_unique, Finset.sum_singleton]

theorem dg_is : Is (n := 1) (d := 1024) (val_main_v22 (F := Ideal) x w0 w1 d0 d1) fun _ l => dG X (back D0 D1 W0 W1) 256 l := by
  intro r l
  have hh := dh_is w0 w1 d0 d1 hw0 hw1 hd0 hd1
  refine Eq.trans ?_ (dg_all _ _)
  refine Eq.trans ?_ (Finset.sum_congr rfl fun p _ => dg_ref (fun k => x (ix2 p k)) (fun k => val_main_v19 (F := Ideal) w0 w1 d0 d1 (ix2 p k)) p (hx p) (hh p) l)
  unfold val_main_v22 val_main_v21 val_main_v20 val_main_v12 val_main_v11 val_main_v7 val_main_v6 val_main_v4 val_main_v2 val_main_v1 val_main_v0
  generalize val_main_v19 (F := Ideal) w0 w1 d0 d1 = h at *
  pointwise [val_main_cst, val_main_cst_0, val_main_cst_1, val_main_cst_3, val_main_v5, val_main_v3]

end Cert.MemKvReferenceIdeal.MemKv
end
-- ==== Proof.MemKv.Claim.lean ====
module

public import proofs.«01_k».proof.Defs
public import proofs.«01_k».proof.Proof.MemKv.Kernel
public import proofs.«01_k».proof.Proof.MemKv.Ref
public import proofs.«01_k».proof.Proof.Finite
public import proofs.«01_k».proof.Proof.Gen.Pre_memkv_finite
public import proofs.«01_k».proof.Proof.Gen.MemKvReferenceIdeal.Run
public import Idealize.ShloMosaic.Lib.Claim

/-! The gradients of the memory's norm are those of the reference. -/

@[expose] public section

set_option maxRecDepth 16384

noncomputable section

open Idealize.ShloMosaic Idealize.ShloMosaic.TcCoe Idealize.SL.Sem

namespace Cert.Proof.MemKv

open Cert.MemKvKernelIdeal.MemKv Cert.Finite Cert.Held

instance : Cert.Pre_memkv_finite.Facts := Cert.Pre_memkv_finite.Gen.facts

/-- What the precondition says of the arguments that it names: they are real. -/
theorem reals (x0 : FVec Ideal Cert.Pre_memkv_finite.S256x1024 .f32) (x1 : FVec Ideal Cert.Pre_memkv_finite.S1x1024 .f32) (x2 : FVec Ideal Cert.Pre_memkv_finite.S1024x512 .f32) (x3 : FVec Ideal Cert.Pre_memkv_finite.S1024x512 .f32) (x4 : FVec Ideal Cert.Pre_memkv_finite.S256x512 .f32) (x5 : FVec Ideal Cert.Pre_memkv_finite.S256x512 .f32)
    (h : Cert.Pre_memkv_finite.fn (F := Ideal) x0 x1 x2 x3 x4 x5 = fun _ => 1#1) :
    (∀ i, ∃ a : ℝ, x0 i = a) ∧ (∀ i, ∃ a : ℝ, x1 i = a) ∧ (∀ i, ∃ a : ℝ, x2 i = a) ∧ (∀ i, ∃ a : ℝ, x3 i = a) ∧ (∀ i, ∃ a : ℝ, x4 i = a) ∧ (∀ i, ∃ a : ℝ, x5 i = a) := by
  have h' := congrFun h (fun d => d.elim0)
  unfold Cert.Pre_memkv_finite.fn Cert.Pre_memkv_finite.fn_part1 at h'
  dsimp only at h'
  obtain ⟨h', h5⟩ := and_split h'
  obtain ⟨h', h4⟩ := and_split h'
  obtain ⟨h', h3⟩ := and_split h'
  obtain ⟨h', h2⟩ := and_split h'
  obtain ⟨h0, h1⟩ := and_split h'
  exact ⟨real_of_test _ _ _ _ _ _ h0, real_of_test _ _ _ _ _ _ h1, real_of_test _ _ _ _ _ _ h2, real_of_test _ _ _ _ _ _ h3, real_of_test _ _ _ _ _ _ h4, real_of_test _ _ _ _ _ _ h5⟩

section Values

open Cert.MemKvKernelIdeal Cert.MemKvKernelIdeal.Gen Cert.MemKvReferenceIdeal.Read

variable (m : (ℓ : Loc nD τ sig) → Buf (Elt Ideal) ℓ) (c : Dev nD)

/-- The reference's results are the arrays of the kernel. -/
theorem values (h : (∀ i, ∃ a : ℝ, Xa m c i = a) ∧ (∀ i, ∃ a : ℝ, Ga m c i = a) ∧ (∀ i, ∃ a : ℝ, W0a m c i = a) ∧ (∀ i, ∃ a : ℝ, W1a m c i = a)
      ∧ (∀ i, ∃ a : ℝ, D0a m c i = a) ∧ (∀ i, ∃ a : ℝ, D1a m c i = a)) :
    val_main_v38 (F := Ideal) (Xa m c) (Ga m c) (W0a m c) (W1a m c) (D0a m c) (D1a m c) = (dats m 0 c).arrAt 4 cfg0.N
    ∧ val_main_v22 (F := Ideal) (Xa m c) (W0a m c) (W1a m c) (D0a m c) (D1a m c) = (dats m 0 c).arrAt 5 cfg0.N := by
  obtain ⟨X, hx⟩ := exists_is _ h.1
  obtain ⟨G, hg⟩ := exists_is _ h.2.1
  obtain ⟨W0, hw0⟩ := exists_is _ h.2.2.1
  obtain ⟨W1, hw1⟩ := exists_is _ h.2.2.2.1
  obtain ⟨D0, hd0⟩ := exists_is _ h.2.2.2.2.1
  obtain ⟨D1, hd1⟩ := exists_is _ h.2.2.2.2.2
  have e : back (beside D0 D1) (beside W0 W1) = Cert.MemKvReferenceIdeal.MemKv.back D0 D1 W0 W1 := by
    funext r l
    exact back_beside D0 D1 W0 W1 r l
  have h1 := final_x m c hx hg hw0 hw1 hd0 hd1
  have h2 := final_g m c hx hw0 hw1 hd0 hd1
  rw [e] at h1 h2
  exact ⟨(Cert.MemKvReferenceIdeal.MemKv.dx_is _ _ _ _ _ _ hx hg hw0 hw1 hd0 hd1).eq h1, (Cert.MemKvReferenceIdeal.MemKv.dg_is _ _ _ _ _ hx hw0 hw1 hd0 hd1).eq h2⟩

end Values

/-- The reference terminates, with its arguments unchanged and every counter at zero. -/
theorem frame_reference : Cert.quiescent_MemKvReferenceIdeal := by
  intro m g _
  exact (θ_run Cert.MemKvReferenceIdeal.defs _ _).mono (fun r h => ⟨fun c => (h c).2.2, sem_eq_zero_of_no_sems (by decide) r.2⟩)
    (Cert.MemKvReferenceIdeal.Value.run m g)

set_option maxHeartbeats 1600000 in
theorem algebraic : Cert.algebraic_MemKvKernelIdeal_MemKvReferenceIdeal_pre_memkv_finite := by
  pair_intro
  · run_from Cert.MemKvKernelIdeal.Value.run_blocks m g
  · run_from Cert.MemKvReferenceIdeal.Value.run m' g'
    all_goals obtain ⟨a0, a1, a2, a3, a4, a5⟩ := hagree c
    · rw [Cert.MemKvReferenceIdeal.Read.val_main_v38_eq, a0, a1, a2, a3, a4, a5]
      exact (values m c (reals _ _ _ _ _ _ (hpre c))).1
    · rw [Cert.MemKvReferenceIdeal.Read.val_main_v22_eq]
      exact (values m c (reals _ _ _ _ _ _ (hpre c))).2

end Cert.Proof.MemKv

end
-- ==== Proof.MixIn.Kernel.lean ====
module

public import proofs.«01_k».proof.Proof.Norm.Spec
public import proofs.«01_k».proof.Proof.Consts
public import proofs.«01_k».proof.Proof.Gen.MixInKernelIdeal.Value
public import Idealize.ShloMosaic.Lib.Claim
public import Idealize.ShloMosaic.Lib.StableHlo.RunRead

/-! What the call's two arrays hold: the norm's gradient and the gain's. -/

@[expose] public section

set_option maxRecDepth 16384

noncomputable section

namespace Cert.MixInKernelIdeal.MixIn

open Idealize.ShloMosaic Idealize.ShloMosaic.TcCoe Idealize.SL.Sem
open Cert.MixInKernelIdeal Cert.MixInKernelIdeal.Gen Cert.Held Cert.Norm

variable (m : (ℓ : Loc nD τ sig) → Buf (Elt Ideal) ℓ) (c : Dev nD)

abbrev Xa : FVec Ideal S4096x1024 .f32 := m ((c : Thread nD τ).loc main_arg0)
abbrev Ga : FVec Ideal S1x1024 .f32 := m ((c : Thread nD τ).loc main_arg1)
abbrev Wa : FVec Ideal S1024x2568 .f32 := m ((c : Thread nD τ).loc main_arg2)
abbrev Ea : FVec Ideal S4096x1024 .f32 := m ((c : Thread nD τ).loc main_arg3)
abbrev Aa : FVec Ideal S4096x1024 .f32 := m ((c : Thread nD τ).loc main_arg4)
abbrev Qa : FVec Ideal S4096x512 .f32 := m ((c : Thread nD τ).loc main_arg5)
abbrev Ka : FVec Ideal S4096x512 .f32 := m ((c : Thread nD τ).loc main_arg6)
abbrev Ua : FVec Ideal S4096x512 .f32 := m ((c : Thread nD τ).loc main_arg7)
abbrev La : FVec Ideal S4096x8 .f32 := m ((c : Thread nD τ).loc main_arg8)

/-- Eight columns, and zeros after them. -/
abbrev lanes (L : ℕ → ℕ → ℝ) : ℕ → ℕ → ℝ := fun r x => if x < 8 then L r x else 0

/-- The weight's columns as rows, and zeros after them. -/
abbrev rows (W : ℕ → ℕ → ℝ) : ℕ → ℕ → ℝ := fun x l => if x < 2568 then W l x else 0

/-- The cotangent of the norm's result, part by part. -/
abbrev back5 (A Q K U L T : ℕ → ℕ → ℝ) : ℕ → ℕ → ℝ := fun r l =>
  (∑ x : Fin 1024, A r x * T (0 + x) l) + (∑ x : Fin 512, Q r x * T (1024 + x) l) + (∑ x : Fin 512, K r x * T (1536 + x) l) + (∑ x : Fin 512, U r x * T (2048 + x) l)
    + ∑ x : Fin 128, L r x * T (2560 + x) l

abbrev back (A Q K U L W : ℕ → ℕ → ℝ) : ℕ → ℕ → ℝ := back5 A Q K U (lanes L) (rows W)

/-- The parts' products are one sum over all columns. -/
theorem back_parts (A Q K U L W : ℕ → ℕ → ℝ) (r l : ℕ) : back A Q K U L W r l =
    ∑ c : Fin 2568, (if (c : ℕ) < 1024 then A r c else if (c : ℕ) < 1536 then Q r (c - 1024) else if (c : ℕ) < 2048 then K r (c - 1536) else if (c : ℕ) < 2560 then U r (c - 2048) else L r (c - 2560)) * W l c := by
  have h8 : (∑ x : Fin 128, lanes L r x * rows W (2560 + x) l) = ∑ x : Fin 8, L r x * W l (2560 + x) := by
    show (∑ x : Fin (8 + 120), lanes L r x * rows W (2560 + x) l) = _
    rw [Fin.sum_univ_add]
    refine (congrArg₂ (· + ·) (Finset.sum_congr rfl fun x _ => ?_) (Finset.sum_eq_zero fun x _ => ?_)).trans (add_zero _)
    · have := x.isLt
      simp only [lanes, rows, Fin.val_castAdd]
      rw [if_pos this, if_pos (by omega)]
    · simp only [lanes, Fin.val_natAdd]
      rw [if_neg (by omega), zero_mul]
  show _ = ∑ c : Fin (1024 + 512 + 512 + 512 + 8), _
  rw [Fin.sum_univ_add, Fin.sum_univ_add, Fin.sum_univ_add, Fin.sum_univ_add]
  show _ + (∑ x : Fin 128, lanes L r x * rows W (2560 + x) l) = _
  rw [h8]
  refine congrArg₂ (· + ·) (congrArg₂ (· + ·) (congrArg₂ (· + ·) (congrArg₂ (· + ·) ?_ ?_) ?_) ?_) ?_ <;> refine Finset.sum_congr rfl fun x _ => ?_ <;> have := x.isLt <;>
    simp only [rows, Fin.val_castAdd, Fin.val_natAdd, Nat.add_sub_cancel_left, Nat.zero_add] <;> split_ifs <;> first | rfl | (exfalso; omega)

section
variable {a : Vec Ideal S512x1024 .bf16} {q k v : Vec Ideal S512x512 .bf16} {f : Vec Ideal S512x128 .bf16} {wa : Vec Ideal S1024x1024 .bf16} {wq wk wv : Vec Ideal S512x1024 .bf16} {wf : Vec Ideal S128x1024 .bf16}
  {A Q K U L T : ℕ → ℕ → ℝ} (n : ℕ)

/-- A tile's rows of the cotangent of the norm's result. -/
theorem dh_tile (ha : Is (n := 512) (d := 1024) a fun r l => A (512 * n + r) l) (hq : Is (n := 512) (d := 512) q fun r l => Q (512 * n + r) l)
    (hk : Is (n := 512) (d := 512) k fun r l => K (512 * n + r) l) (hv : Is (n := 512) (d := 512) v fun r l => U (512 * n + r) l) (hf : Is (n := 512) (d := 128) f fun r l => L (512 * n + r) l)
    (ga : Is (n := 1024) (d := 1024) wa fun x l => T (0 + x) l) (gq : Is (n := 512) (d := 1024) wq fun x l => T (1024 + x) l) (gk : Is (n := 512) (d := 1024) wk fun x l => T (1536 + x) l)
    (gv : Is (n := 512) (d := 1024) wv fun x l => T (2048 + x) l) (gf : Is (n := 128) (d := 1024) wf fun x l => T (2560 + x) l) :
    Is (n := 512) (d := 1024) (k0_pay5 a wa q wq k wk v wv f wf) fun r l => back5 A Q K U L T (512 * n + r) l := by
  intro r l
  pointwise [k0_pay5]
  simp only [ha _ _, hq _ _, hk _ _, hv _ _, hf _ _, ga _ _, gq _ _, gk _ _, gv _ _, gf _ _, sum_mul, ← EReal.coe_add]
end

section
variable {h : FVec Ideal S512x1024 .f32} {x e : Vec Ideal S512x1024 .f32} {g o : Vec Ideal S1x1024 .f32} {X G H : ℕ → ℕ → ℝ} {E : ℕ → ℕ → EReal}
  (n : ℕ) (hh : Is (n := 512) (d := 1024) h fun r l => H (512 * n + r) l) (hx : Is (n := 512) (d := 1024) x fun r l => X (512 * n + r) l)
  (hg : Is (n := 1) (d := 1024) g G) (he : IsE (n := 512) (d := 1024) e fun r l => E (512 * n + r) l)

include hh hx hg he in
/-- A tile's rows: the norm's gradient and what comes past it. -/
theorem dx_tile : IsE (n := 512) (d := 1024) (k0_pay2 h x g e) fun r l => ((dX X G H (512 * n + r) l : ℝ) : EReal) + E (512 * n + r) l := by
  intro r l
  refine Eq.trans ?_ (congrArg₂ (· + ·) (dx_kernel (fun k => x (ix2 r k)) (fun k => h (ix2 r k)) (fun k => g (ix2 0 k)) (512 * n + r) (hx r) (hh r) (hg 0) l) (he r l))
  pointwise [k0_pay2, k0_pay1]

include hh hx in
/-- A tile's rows of the gain's gradient, added to what was there. -/
theorem dg_tile (ho : Is (n := 1) (d := 1024) o fun _ l => dG X H (512 * n) l) :
    Is (n := 1) (d := 1024) (k0_pay4 h x o) fun _ l => dG X H (512 * (n + 1)) l := by
  intro r l
  have hs := Finset.sum_congr (s₁ := Finset.univ) rfl fun (p : Fin 512) _ => dg_kernel (fun k => x (ix2 p k)) (fun k => h (ix2 p k)) (512 * n + p) (hx p) (hh p) l
  have e : k0_pay4 h x o (ix2 r l) = o (ix2 r l) + ∑ p : Fin 512, h (ix2 p l) * (x (ix2 p l) * rE fun k => x (ix2 p k)) := by
    pointwise [k0_pay4, k0_pay1]
  rw [e, ho, hs, ← Reals.coe_sum, ← EReal.coe_add]
  dsimp only
  rw [dG_step]
end

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![0, 0] ∧ win0_6.index t = ![t.val, 0] ∧ win0_7.index t = ![0, 0] ∧ win0_8.index t = ![t.val, 0] ∧ win0_9.index t = ![t.val, 0] ∧ win0_10.index t = ![0, 0] :=
  (by decide +kernel : ∀ t : Fin grid0.N, _)

theorem row9 (t : Fin cfg0.N) (a : ℕ) : win0_9.index t 0 * 512 + a = 512 * t.val + a := by
  rw [(idx t).2.2.2.2.2.2.2.2.2.1]
  show t.val * 512 + a = _
  omega
theorem col9 (t : Fin cfg0.N) (a : ℕ) : win0_9.index t 1 * 1024 + a = a := by
  rw [(idx t).2.2.2.2.2.2.2.2.2.1]
  show 0 * 1024 + a = _
  omega

/-- The host's lines before the call. -/
abbrev host : List (HloOp τ sig (Elt Ideal)) := [hostOps0, hostOps0_1, hostOps0_2, hostOps0_3, hostOps0_4].flatten

theorem read_a (W : Valuation τ sig (Elt Ideal)) : StableHlo.after host W (Proc.devRef .tc main_v4) = (W (Proc.devRef .tc main_arg4)) := by
  after_reads_simp
  rfl
theorem read_q (W : Valuation τ sig (Elt Ideal)) : StableHlo.after host W (Proc.devRef .tc main_v5) = (W (Proc.devRef .tc main_arg5)) := by
  after_reads_simp
  rfl
theorem read_k (W : Valuation τ sig (Elt Ideal)) : StableHlo.after host W (Proc.devRef .tc main_v6) = (W (Proc.devRef .tc main_arg6)) := by
  after_reads_simp
  rfl
theorem read_v (W : Valuation τ sig (Elt Ideal)) : StableHlo.after host W (Proc.devRef .tc main_v7) = (W (Proc.devRef .tc main_arg7)) := by
  after_reads_simp
  rfl
theorem read_f (W : Valuation τ sig (Elt Ideal)) : StableHlo.after host W (Proc.devRef .tc main_v8) = pad S4096x128 ![0, 0] ![0, 120] ![0, 0] (W (Proc.devRef .tc main_arg8)) (sitofp (F := Ideal) .f32 (constantI S_ 32 0#32)) pads_S4096x8_S4096x128_000_01200 h_S_ := by
  after_reads_simp
  rfl
theorem read_w (W : Valuation τ sig (Elt Ideal)) : StableHlo.after host W (Proc.devRef .tc main_v2) = pad S2688x1024 ![0, 0] ![120, 0] ![0, 0] (transpose S2568x1024 [1, 0] (W (Proc.devRef .tc main_arg2)) transposes_S1024x2568_S2568x1024_1_0) (sitofp (F := Ideal) .f32 (constantI S_ 32 0#32)) pads_S2568x1024_S2688x1024_01200_000 h_S_ := by
  after_reads_simp
  rfl
theorem read_x (W : Valuation τ sig (Elt Ideal)) : StableHlo.after host W (Proc.devRef .tc main_arg0) = (W (Proc.devRef .tc main_arg0)) := by
  after_reads_simp
theorem read_g (W : Valuation τ sig (Elt Ideal)) : StableHlo.after host W (Proc.devRef .tc main_arg1) = (W (Proc.devRef .tc main_arg1)) := by
  after_reads_simp
theorem read_e (W : Valuation τ sig (Elt Ideal)) : StableHlo.after host W (Proc.devRef .tc main_arg3) = (W (Proc.devRef .tc main_arg3)) := by
  after_reads_simp

theorem pad_f {x : FVec Ideal S4096x8 .f32} {L : ℕ → ℕ → ℝ} (h : Is (n := 4096) (d := 8) x L) :
    Is (n := 4096) (d := 128) (pad S4096x128 ![0, 0] ![0, 120] ![0, 0] x (sitofp (F := Ideal) .f32 (constantI S_ 32 0#32)) pads_S4096x8_S4096x128_000_01200 h_S_) (lanes L) := by
  intro r l
  pointwise
  rw [show (FloatOps.sitofp FTy.f32 0#32 : Ideal .f32) = 0 from by simp [FloatOps.sitofp]]
  unfold lanes
  by_cases hl : l.val < 8
  · rw [dif_pos hl, if_pos hl]
    exact h r ⟨l.val, hl⟩
  · rw [dif_neg hl, if_neg hl]
    rfl

theorem pad_w {x : FVec Ideal S1024x2568 .f32} {W : ℕ → ℕ → ℝ} (h : Is (n := 1024) (d := 2568) x W) :
    Is (n := 2688) (d := 1024) (pad S2688x1024 ![0, 0] ![120, 0] ![0, 0] (transpose S2568x1024 [1, 0] x transposes_S1024x2568_S2568x1024_1_0) (sitofp (F := Ideal) .f32 (constantI S_ 32 0#32))
      pads_S2568x1024_S2688x1024_01200_000 h_S_) (rows W) := by
  intro r l
  pointwise
  rw [show (FloatOps.sitofp FTy.f32 0#32 : Ideal .f32) = 0 from by simp [FloatOps.sitofp]]
  unfold rows
  by_cases hl : r.val < 2568
  · rw [dif_pos hl, if_pos hl]
    exact h l ⟨r.val, hl⟩
  · rw [dif_neg hl, if_neg hl]
    rfl

section
variable {X G W A Q K U L : ℕ → ℕ → ℝ} {E : ℕ → ℕ → EReal} (t : Fin cfg0.N)
  (hx : Is (n := 4096) (d := 1024) (Xa m c) X) (hg : Is (n := 1) (d := 1024) (Ga m c) G) (hw : Is (n := 1024) (d := 2568) (Wa m c) W) (he : IsE (n := 4096) (d := 1024) (Ea m c) E)
  (ha : Is (n := 4096) (d := 1024) (Aa m c) A) (hq : Is (n := 4096) (d := 512) (Qa m c) Q) (hk : Is (n := 4096) (d := 512) (Ka m c) K) (hv : Is (n := 4096) (d := 512) (Ua m c) U) (hf : Is (n := 4096) (d := 8) (La m c) L)

include ha in
theorem blk0 : Is (n := 512) (d := 1024) (iblk m c 0 t) fun r x => A (512 * t.val + r) x := by
  intro r x
  have ht : t.val < 8 := t.isLt
  refine Eq.trans ?_ ((congrFun (show V m c main_v4 = _ from read_a _) _).trans (ha ⟨512 * t.val + r.val, by omega⟩ x))
  blk_point [iblk, idx t]
include hq in
theorem blk1 : Is (n := 512) (d := 512) (iblk m c 1 t) fun r x => Q (512 * t.val + r) x := by
  intro r x
  have ht : t.val < 8 := t.isLt
  refine Eq.trans ?_ ((congrFun (show V m c main_v5 = _ from read_q _) _).trans (hq ⟨512 * t.val + r.val, by omega⟩ x))
  blk_point [iblk, idx t]
include hk in
theorem blk2 : Is (n := 512) (d := 512) (iblk m c 2 t) fun r x => K (512 * t.val + r) x := by
  intro r x
  have ht : t.val < 8 := t.isLt
  refine Eq.trans ?_ ((congrFun (show V m c main_v6 = _ from read_k _) _).trans (hk ⟨512 * t.val + r.val, by omega⟩ x))
  blk_point [iblk, idx t]
include hv in
theorem blk3 : Is (n := 512) (d := 512) (iblk m c 3 t) fun r x => U (512 * t.val + r) x := by
  intro r x
  have ht : t.val < 8 := t.isLt
  refine Eq.trans ?_ ((congrFun (show V m c main_v7 = _ from read_v _) _).trans (hv ⟨512 * t.val + r.val, by omega⟩ x))
  blk_point [iblk, idx t]
include hf in
theorem blk4 : Is (n := 512) (d := 128) (iblk m c 4 t) fun r x => lanes L (512 * t.val + r) x := by
  intro r x
  have ht : t.val < 8 := t.isLt
  refine Eq.trans ?_ ((congrFun (show V m c main_v8 = _ from read_f _) _).trans (pad_f hf ⟨512 * t.val + r.val, by omega⟩ x))
  blk_point [iblk, idx t]
include hw in
theorem blk5 : Is (n := 2688) (d := 1024) (iblk m c 5 t) (rows W) := by
  intro r x
  refine Eq.trans ?_ ((congrFun (show V m c main_v2 = _ from read_w _) _).trans (pad_w hw r x))
  blk_point [iblk, idx t]
include hx in
theorem blk6 : Is (n := 512) (d := 1024) (iblk m c 6 t) fun r x => X (512 * t.val + r) x := by
  intro r x
  have ht : t.val < 8 := t.isLt
  refine Eq.trans ?_ ((congrFun (show V m c main_arg0 = _ from read_x _) _).trans (hx ⟨512 * t.val + r.val, by omega⟩ x))
  blk_point [iblk, idx t]
include hg in
theorem blk7 : Is (n := 1) (d := 1024) (iblk m c 7 t) G := by
  intro r x
  refine Eq.trans ?_ ((congrFun (show V m c main_arg1 = _ from read_g _) _).trans (hg r x))
  blk_point [iblk, idx t]
include he in
theorem blk8 : IsE (n := 512) (d := 1024) (iblk m c 8 t) fun r x => E (512 * t.val + r) x := by
  intro r x
  have ht : t.val < 8 := t.isLt
  refine Eq.trans ?_ ((congrFun (show V m c main_arg3 = _ from read_e _) _).trans (he ⟨512 * t.val + r.val, by omega⟩ x))
  blk_point [iblk, idx t]

/-- Some rows of the weight. -/
theorem cut {w : Vec Ideal S2688x1024 .bf16} {T : ℕ → ℕ → ℝ} (h : Is (n := 2688) (d := 1024) w T) (b k : ℕ) (hb : b + k ≤ 2688)
    (inb : ∀ a, (![b, 0] : Fin 2 → ℕ) a + (![k, 1024] : Fin 2 → ℕ) a ≤ S2688x1024.size a) :
    Is (n := k) (d := 1024) (View.ld (Val := Elt Ideal) w (Rect.unit (s := S2688x1024) ![b, 0] ![k, 1024] inb)) fun x l => T (b + x) l := fun x l => by
  refine (ld_at w b 0 inb x l (by have := x.isLt; omega) (by have := l.isLt; omega)).trans ((h _ _).trans ?_)
  simp only [Nat.zero_add]

include hw ha hq hk hv hf in
theorem dh_point (inb0 inb1 inb2 inb3 inb4) : Is (n := 512) (d := 1024) (k0_pay5 (iblk m c 0 t) (View.ld (Val := Elt Ideal) (iblk m c 5 t) (Rect.unit (s := S2688x1024) ![0, 0] ![1024, 1024] inb0))
    (iblk m c 1 t) (View.ld (Val := Elt Ideal) (iblk m c 5 t) (Rect.unit (s := S2688x1024) ![1024, 0] ![512, 1024] inb1)) (iblk m c 2 t) (View.ld (Val := Elt Ideal) (iblk m c 5 t) (Rect.unit (s := S2688x1024) ![1536, 0] ![512, 1024] inb2))
    (iblk m c 3 t) (View.ld (Val := Elt Ideal) (iblk m c 5 t) (Rect.unit (s := S2688x1024) ![2048, 0] ![512, 1024] inb3)) (iblk m c 4 t) (View.ld (Val := Elt Ideal) (iblk m c 5 t) (Rect.unit (s := S2688x1024) ![2560, 0] ![128, 1024] inb4)))
    fun r l => back A Q K U L W (512 * t.val + r) l :=
  have w := blk5 m c t hw
  dh_tile t.val (blk0 m c t ha) (blk1 m c t hq) (blk2 m c t hk) (blk3 m c t hv) (blk4 m c t hf) (cut w 0 1024 (by omega) _) (cut w 1024 512 (by omega) _) (cut w 1536 512 (by omega) _)
    (cut w 2048 512 (by omega) _) (cut w 2560 128 (by omega) _)

/-- After tile `n`. -/
def Good (X G H : ℕ → ℕ → ℝ) (E : ℕ → ℕ → EReal) (n : ℕ) (o : Vec Ideal S512x1024 .f32 × Vec Ideal S1x1024 .f32) : Prop :=
  (IsE (n := 512) (d := 1024) o.1 fun r l => ((dX X G H (512 * n + r) l : ℝ) : EReal) + E (512 * n + r) l) ∧ Is (n := 1) (d := 1024) o.2 fun _ l => dG X H (512 * (n + 1)) l

include hx hg hw he ha hq hk hv hf

theorem point : ∀ (n : ℕ) (hn : n < cfg0.N), Good X G (back A Q K U L W) E n (outsAt0 m c n hn)
  | 0, hn => by
    have z : Is (n := 1) (d := 1024) (k0_pay3 (F := Ideal)) fun _ l => dG X (back A Q K U L W) (512 * 0) l := fun _ l => by
      dsimp only
      rw [Nat.mul_zero, dG_zero]
      exact Ideal.ofBits_zero_f32
    rw [show outsAt0 m c 0 hn = _ from outsAt0_A m c ⟨0, hn⟩ rfl]
    constructor <;> intro r l <;> frame_out
    · exact dx_tile 0 (dh_point m c ⟨0, hn⟩ hw ha hq hk hv hf _ _ _ _ _) (blk6 m c ⟨0, hn⟩ hx) (blk7 m c ⟨0, hn⟩ hg) (blk8 m c ⟨0, hn⟩ he) r l
    · exact dg_tile 0 (dh_point m c ⟨0, hn⟩ hw ha hq hk hv hf _ _ _ _ _) (blk6 m c ⟨0, hn⟩ hx) z r l
  | n + 1, hn => by
    have ih := (point n (Nat.lt_of_succ_lt hn)).2
    have hN : n + 1 < 8 := hn
    rw [show outsAt0 m c (n + 1) hn = _ from outsAt0_B m c ⟨n + 1, hn⟩ (by show ¬ (n + 1) % 8 = 0; omega)]
    constructor <;> intro r l <;> frame_out
    · exact dx_tile (n + 1) (dh_point m c ⟨n + 1, hn⟩ hw ha hq hk hv hf _ _ _ _ _) (blk6 m c ⟨n + 1, hn⟩ hx) (blk7 m c ⟨n + 1, hn⟩ hg) (blk8 m c ⟨n + 1, hn⟩ he) r l
    · exact dg_tile (n + 1) (dh_point m c ⟨n + 1, hn⟩ hw ha hq hk hv hf _ _ _ _ _) (blk6 m c ⟨n + 1, hn⟩ hx) ih r l

/-- The norm's gradient, and what comes past it. -/
theorem final_x : IsE (n := 4096) (d := 1024) ((dats m 0 c).arrAt 9 cfg0.N) fun r l => ((dX X G (back A Q K U L W) r l : ℝ) : EReal) + E r l := by
  have h : (dats m 0 c).arrAt 9 cfg0.N = fun i => ((dX X G (back A Q K U L W) (i 0).val (i 1).val : ℝ) : EReal) + E (i 0).val (i 1).val := by
    refine (dats m 0 c).arrAt_eq_of_covers 9 _ (by decide +kernel) fun t flush y => ?_
    blk_simp
    rw [after0_9, eq_ix2 y]
    refine ((point m c hx hg hw he ha hq hk hv hf t.val t.isLt).1 (y 0) (y 1)).trans ?_
    exact (congrArg₂ (fun a b : ℕ => ((dX X G (back A Q K U L W) a b : ℝ) : EReal) + E a b) (row9 t _) (col9 t _)).symm
  exact fun r x => congrFun h _

/-- The gain's gradient. -/
theorem final_g : Is (n := 1) (d := 1024) ((dats m 0 c).arrAt 10 cfg0.N) fun _ l => dG X (back A Q K U L W) 4096 l := by
  have h : (dats m 0 c).arrAt 10 cfg0.N = fun i => ((dG X (back A Q K U L W) 4096 (i 1).val : ℝ) : EReal) := by
    refine (dats m 0 c).arrAt_eq_of_after_last 10 t0_7 (by decide +kernel) _ fun j => ?_
    blk_simp
    rw [after0_10]
    refine (congrArg (outsAt0 m c 7 _).2 (eq_ix2 j)).trans ?_
    exact (point m c hx hg hw he ha hq hk hv hf 7 _).2 (j 0) (j 1)
  exact fun r x => congrFun h _

end

end Cert.MixInKernelIdeal.MixIn
end
-- ==== Proof.MixIn.Ref.lean ====
module

public import proofs.«01_k».proof.Proof.Norm.Spec
public import proofs.«01_k».proof.Proof.Gen.MixInReferenceIdeal.Read
public import Idealize.ShloMosaic.Lib.Claim

/-! What the reference's results hold: the norm's gradient and the gain's. -/

@[expose] public section

set_option maxRecDepth 16384

noncomputable section

namespace Cert.MixInReferenceIdeal.MixIn

open Idealize.ShloMosaic Idealize.ShloMosaic.TcCoe Idealize.SL.Sem
open Cert.MixInReferenceIdeal Cert.MixInReferenceIdeal.Read Cert.Held Cert.Norm

variable (x dx : FVec Ideal S4096x1024 .f32) (g : FVec Ideal S1x1024 .f32) (w : FVec Ideal S1024x2568 .f32) (ag : FVec Ideal S4096x1024 .f32) (q k v : FVec Ideal S4096x512 .f32) (f : FVec Ideal S4096x8 .f32)
  {X G W A Q K U L : ℕ → ℕ → ℝ} {E : ℕ → ℕ → EReal}
  (hx : Is (n := 4096) (d := 1024) x X) (hg : Is (n := 1) (d := 1024) g G) (hw : Is (n := 1024) (d := 2568) w W) (he : IsE (n := 4096) (d := 1024) dx E)
  (ha : Is (n := 4096) (d := 1024) ag A) (hq : Is (n := 4096) (d := 512) q Q) (hk : Is (n := 4096) (d := 512) k K) (hv : Is (n := 4096) (d := 512) v U) (hf : Is (n := 4096) (d := 8) f L)

/-- The five parts' cotangents side by side. -/
abbrev parts (A Q K U L : ℕ → ℕ → ℝ) : ℕ → ℕ → ℝ := fun r c =>
  if c < 1024 then A r c else if c < 1536 then Q r (c - 1024) else if c < 2048 then K r (c - 1536) else if c < 2560 then U r (c - 2048) else L r (c - 2560)

/-- The cotangent of the norm's result. -/
abbrev back (A Q K U L W : ℕ → ℕ → ℝ) : ℕ → ℕ → ℝ := fun r l => ∑ c : Fin 2568, parts A Q K U L r c * W l c

include ha hq hk hv hf

theorem dz_is : Is (n := 4096) (d := 2568) (val_main_v29 (F := Ideal) ag q k v f) (parts A Q K U L) := by
  intro r l
  pointwise [val_main_v29, val_main_v28, val_main_v27, val_main_v26, val_main_v25, val_main_v24, val_main_v23, val_main_v22, val_main_v21, val_main_cst_3, val_main_cst_4, val_main_cst_5, val_main_cst_6, val_main_cst_7]
  have hl := l.isLt
  unfold parts
  split_ifs <;> first | (exfalso; omega) | simp only [zero_add, add_zero]
  · exact hf _ ⟨l.val - 2560, _⟩
  · exact hv _ ⟨l.val - 2048, _⟩
  · exact hk _ ⟨l.val - 1536, _⟩
  · exact hq _ ⟨l.val - 1024, _⟩
  · exact ha _ _

include hw in
theorem dh_is : Is (n := 4096) (d := 1024) (val_main_v30 (F := Ideal) w ag q k v f) (back A Q K U L W) := by
  intro r l
  have hz := dz_is ag q k v f ha hq hk hv hf
  unfold val_main_v30
  generalize val_main_v29 (F := Ideal) ag q k v f = z at *
  pointwise []
  simp only [hz _ _, hw _ _, sum_mul]

include hx hw

include hg he in
theorem dx_is : IsE (n := 4096) (d := 1024) (val_main_v50 (F := Ideal) x g w dx ag q k v f) fun r l => ((dX X G (back A Q K U L W) r l : ℝ) : EReal) + E r l := by
  intro r l
  have hh := dh_is w ag q k v f hw ha hq hk hv hf
  refine Eq.trans ?_ (congrArg₂ (· + ·) (dx_ref (fun i => x (ix2 r i)) (fun i => val_main_v30 (F := Ideal) w ag q k v f (ix2 r i)) (fun i => g (ix2 0 i)) r (hx r) (hh r) (hg 0) l) (he r l))
  refine Eq.trans ?_ (add_last _ _ _ _)
  unfold val_main_v50 val_main_v49 val_main_v48 val_main_v47 val_main_v46 val_main_v45 val_main_v44 val_main_v42 val_main_v41 val_main_v40 val_main_v39 val_main_v38 val_main_v37 val_main_v36 val_main_v35 val_main_v34 val_main_v10 val_main_v8 val_main_v7 val_main_v6 val_main_v4 val_main_v2 val_main_v1 val_main_v0
  generalize val_main_v30 (F := Ideal) w ag q k v f = h at *
  pointwise [val_main_v43, val_main_cst, val_main_cst_0, val_main_cst_1, val_main_cst_2, val_main_cst_9, val_main_cst_10, val_main_cst_11, val_main_v9, val_main_v5, val_main_v3]
  simp only [Finset.univ_unique, Finset.sum_singleton]

theorem dg_is : Is (n := 1) (d := 1024) (val_main_v33 (F := Ideal) x w ag q k v f) fun _ l => dG X (back A Q K U L W) 4096 l := by
  intro r l
  have hh := dh_is w ag q k v f hw ha hq hk hv hf
  refine Eq.trans ?_ (dg_all _ _)
  refine Eq.trans ?_ (Finset.sum_congr rfl fun p _ => dg_ref (fun i => x (ix2 p i)) (fun i => val_main_v30 (F := Ideal) w ag q k v f (ix2 p i)) p (hx p) (hh p) l)
  unfold val_main_v33 val_main_v32 val_main_v31 val_main_v12 val_main_v11 val_main_v7 val_main_v6 val_main_v4 val_main_v2 val_main_v1 val_main_v0
  generalize val_main_v30 (F := Ideal) w ag q k v f = h at *
  pointwise [val_main_cst, val_main_cst_0, val_main_cst_1, val_main_cst_8, val_main_v5, val_main_v3]

end Cert.MixInReferenceIdeal.MixIn
end
-- ==== Proof.MixIn.Claim.lean ====
module

public import proofs.«01_k».proof.Defs
public import proofs.«01_k».proof.Proof.MixIn.Kernel
public import proofs.«01_k».proof.Proof.MixIn.Ref
public import proofs.«01_k».proof.Proof.Finite
public import proofs.«01_k».proof.Proof.Gen.Pre_mixin_finite
public import proofs.«01_k».proof.Proof.Gen.MixInReferenceIdeal.Run
public import Idealize.ShloMosaic.Lib.Claim

/-! The gradients of the mixer's norm are those of the reference. -/

@[expose] public section

set_option maxRecDepth 16384

noncomputable section

open Idealize.ShloMosaic Idealize.ShloMosaic.TcCoe Idealize.SL.Sem

namespace Cert.Proof.MixIn

open Cert.MixInKernelIdeal.MixIn Cert.Finite Cert.Held

instance : Cert.Pre_mixin_finite.Facts := Cert.Pre_mixin_finite.Gen.facts

/-- What the precondition says of the arguments that it names: they are real. -/
theorem reals (x0 : FVec Ideal Cert.Pre_mixin_finite.S4096x1024 .f32) (x1 : FVec Ideal Cert.Pre_mixin_finite.S1x1024 .f32) (x2 : FVec Ideal Cert.Pre_mixin_finite.S1024x2568 .f32) (x3 : FVec Ideal Cert.Pre_mixin_finite.S4096x1024 .f32) (x4 : FVec Ideal Cert.Pre_mixin_finite.S4096x1024 .f32) (x5 : FVec Ideal Cert.Pre_mixin_finite.S4096x512 .f32) (x6 : FVec Ideal Cert.Pre_mixin_finite.S4096x512 .f32) (x7 : FVec Ideal Cert.Pre_mixin_finite.S4096x512 .f32) (x8 : FVec Ideal Cert.Pre_mixin_finite.S4096x8 .f32)
    (h : Cert.Pre_mixin_finite.fn (F := Ideal) x0 x1 x2 x3 x4 x5 x6 x7 x8 = fun _ => 1#1) :
    (∀ i, ∃ a : ℝ, x0 i = a) ∧ (∀ i, ∃ a : ℝ, x1 i = a) ∧ (∀ i, ∃ a : ℝ, x2 i = a) ∧ (∀ i, ∃ a : ℝ, x4 i = a) ∧ (∀ i, ∃ a : ℝ, x5 i = a) ∧ (∀ i, ∃ a : ℝ, x6 i = a) ∧ (∀ i, ∃ a : ℝ, x7 i = a) ∧ (∀ i, ∃ a : ℝ, x8 i = a) := by
  have h' := congrFun h (fun d => d.elim0)
  unfold Cert.Pre_mixin_finite.fn Cert.Pre_mixin_finite.fn_part1 Cert.Pre_mixin_finite.fn_part2 at h'
  dsimp only at h'
  obtain ⟨h', h8⟩ := and_split h'
  obtain ⟨h', h7⟩ := and_split h'
  obtain ⟨h', h6⟩ := and_split h'
  obtain ⟨h', h5⟩ := and_split h'
  obtain ⟨h', h4⟩ := and_split h'
  obtain ⟨h', h2⟩ := and_split h'
  obtain ⟨h0, h1⟩ := and_split h'
  exact ⟨real_of_test _ _ _ _ _ _ h0, real_of_test _ _ _ _ _ _ h1, real_of_test _ _ _ _ _ _ h2, real_of_test _ _ _ _ _ _ h4, real_of_test _ _ _ _ _ _ h5, real_of_test _ _ _ _ _ _ h6, real_of_test _ _ _ _ _ _ h7, real_of_test _ _ _ _ _ _ h8⟩

section Values

open Cert.MixInKernelIdeal Cert.MixInKernelIdeal.Gen Cert.MixInReferenceIdeal.Read

variable (m : (ℓ : Loc nD τ sig) → Buf (Elt Ideal) ℓ) (c : Dev nD)

/-- The reference's results are the arrays of the kernel. -/
theorem values (h : (∀ i, ∃ a : ℝ, Xa m c i = a) ∧ (∀ i, ∃ a : ℝ, Ga m c i = a) ∧ (∀ i, ∃ a : ℝ, Wa m c i = a) ∧ (∀ i, ∃ a : ℝ, Aa m c i = a)
      ∧ (∀ i, ∃ a : ℝ, Qa m c i = a) ∧ (∀ i, ∃ a : ℝ, Ka m c i = a) ∧ (∀ i, ∃ a : ℝ, Ua m c i = a) ∧ (∀ i, ∃ a : ℝ, La m c i = a)) :
    val_main_v50 (F := Ideal) (Xa m c) (Ga m c) (Wa m c) (Ea m c) (Aa m c) (Qa m c) (Ka m c) (Ua m c) (La m c) = (dats m 0 c).arrAt 9 cfg0.N
    ∧ val_main_v33 (F := Ideal) (Xa m c) (Wa m c) (Aa m c) (Qa m c) (Ka m c) (Ua m c) (La m c) = (dats m 0 c).arrAt 10 cfg0.N := by
  obtain ⟨X, hx⟩ := exists_is _ h.1
  obtain ⟨G, hg⟩ := exists_is _ h.2.1
  obtain ⟨W, hw⟩ := exists_is _ h.2.2.1
  obtain ⟨A, ha⟩ := exists_is _ h.2.2.2.1
  obtain ⟨Q, hq⟩ := exists_is _ h.2.2.2.2.1
  obtain ⟨K, hk⟩ := exists_is _ h.2.2.2.2.2.1
  obtain ⟨U, hv⟩ := exists_is _ h.2.2.2.2.2.2.1
  obtain ⟨L, hf⟩ := exists_is _ h.2.2.2.2.2.2.2
  obtain ⟨E, he⟩ := Cert.Norm.exists_isE (Ea m c)
  have e : back A Q K U L W = Cert.MixInReferenceIdeal.MixIn.back A Q K U L W := by
    funext r l
    exact back_parts A Q K U L W r l
  have h1 := final_x m c hx hg hw he ha hq hk hv hf
  have h2 := final_g m c hx hg hw he ha hq hk hv hf
  rw [e] at h1 h2
  exact ⟨(Cert.MixInReferenceIdeal.MixIn.dx_is _ _ _ _ _ _ _ _ _ hx hg hw he ha hq hk hv hf).eq h1, (Cert.MixInReferenceIdeal.MixIn.dg_is _ _ _ _ _ _ _ hx hw ha hq hk hv hf).eq h2⟩

end Values

/-- The reference terminates, with its arguments unchanged and every counter at zero. -/
theorem frame_reference : Cert.quiescent_MixInReferenceIdeal := by
  intro m g _
  exact (θ_run Cert.MixInReferenceIdeal.defs _ _).mono (fun r h => ⟨fun c => (h c).2.2, sem_eq_zero_of_no_sems (by decide) r.2⟩)
    (Cert.MixInReferenceIdeal.Value.run m g)

theorem algebraic : Cert.algebraic_MixInKernelIdeal_MixInReferenceIdeal_pre_mixin_finite := by
  pair_intro
  · run_from Cert.MixInKernelIdeal.Value.run_blocks m g
  · refine θ_run_mono (Cert.MixInReferenceIdeal.Value.run m' g') ?_
    intro r hr c
    obtain ⟨a0, a1, a2, a3, a4, a5, a6, a7, a8⟩ := hagree c
    obtain ⟨h50, h33, same⟩ := hr c
    have v := values m c (reals _ _ _ _ _ _ _ _ _ (hpre c))
    refine ⟨h50.trans ?_, h33.trans ?_, same⟩
    · rw [Cert.MixInReferenceIdeal.Read.val_main_v50_eq, a0, a1, a2, a3, a4, a5, a6, a7, a8]
      exact v.1
    · rw [Cert.MixInReferenceIdeal.Read.val_main_v33_eq, a0, a2, a4, a5, a6, a7, a8]
      exact v.2

end Cert.Proof.MixIn

end
-- ==== Proof.Conv.Point.lean ====
module

public import proofs.«01_k».proof.Proof.Gen.ConvKernelIdeal.Frame
public import proofs.«01_k».proof.Proof.Gen.ConvKernelIdeal.Loops

@[expose] public section

set_option maxRecDepth 65536

noncomputable section

/-! The backward pass of the convolution group runs without fault, whatever its buffers hold: a point needs
the blocks of its inputs at some contents, and the outputs' and the scratch's buffers at any. -/

namespace Cert.ConvKernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.ConvKernelIdeal Cert.ConvKernelIdeal.Gen

variable {F : FTy → Type} [FloatOps F]

local notation "𝕄" => MT nD τ sig Unit (Elt F) ℕ (UR sig nD τ) ℕ

set_option maxHeartbeats 4000000 in
/-- One point of the body: it leaves its inputs as they were, and the other buffers at some contents. -/
theorem point (c : Dev nD) (i : grid0.Coords) (arg1 : Memref sig .tc .vmem S512x1024 .f32) (harg1 : arg1.IsWhole) (arg2 : Memref sig .tc .vmem S32x1024 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S32x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x1024 .bf16) (harg8 : arg8.IsWhole) (arg9 : Memref sig .tc .vmem S32x512 .f32) (harg9 : arg9.IsWhole) (arg10 : Memref sig .tc .vmem S8x512 .f32) (harg10 : arg10.IsWhole) (arg11 : Memref sig .tc .vmem S552x512 .f32) (harg11 : arg11.IsWhole) (arg12 : Memref sig .tc .vmem S552x512 .f32) (harg12 : arg12.IsWhole) (arg13 : Memref sig .tc .vmem S8x544x512 .f32) (harg13 : arg13.IsWhole) (arg14 : Memref sig .tc .vmem S32x8x512 .f32) (harg14 : arg14.IsWhole)
    (x1 : Vec F S512x1024 .f32) (x2 : Vec F S32x1024 .f32) (x3 : Vec F S512x512 .f32) (x4 : Vec F S512x512 .f32) (x5 : Vec F S32x512 .f32) (x6 : Vec F S1x512 .f32) (x7 : Vec F S1x512 .f32) :
    (iprop(owns (c : Thread nD τ) arg1 fullShare x1
      ∗ owns (c : Thread nD τ) arg2 fullShare x2
      ∗ owns (c : Thread nD τ) arg3 fullShare x3
      ∗ owns (c : Thread nD τ) arg4 fullShare x4
      ∗ owns (c : Thread nD τ) arg5 fullShare x5
      ∗ owns (c : Thread nD τ) arg6 fullShare x6
      ∗ owns (c : Thread nD τ) arg7 fullShare x7
      ∗ (∃ d, owns (c : Thread nD τ) arg8 fullShare d)
      ∗ (∃ d, owns (c : Thread nD τ) arg9 fullShare d)
      ∗ (∃ d, owns (c : Thread nD τ) arg10 fullShare d)
      ∗ (∃ d, owns (c : Thread nD τ) arg11 fullShare d)
      ∗ (∃ d, owns (c : Thread nD τ) arg12 fullShare d)
      ∗ (∃ d, owns (c : Thread nD τ) arg13 fullShare d)
      ∗ (∃ d, owns (c : Thread nD τ) arg14 fullShare d)) : sProp 𝕄)
      ⊢ wp frame (wpE (defs₀ (F := F)) Variants.none c none) Set.univ
          (cc0_conv_bwd i arg1 harg1 arg2 harg2 arg3 harg3 arg4 harg4 arg5 harg5 arg6 harg6 arg7 harg7 arg8 harg8 arg9 harg9 arg10 harg10 arg11 harg11 arg12 harg12 arg13 harg13 arg14 harg14) fun _ =>
        iprop(owns (c : Thread nD τ) arg1 fullShare x1
      ∗ owns (c : Thread nD τ) arg2 fullShare x2
      ∗ owns (c : Thread nD τ) arg3 fullShare x3
      ∗ owns (c : Thread nD τ) arg4 fullShare x4
      ∗ owns (c : Thread nD τ) arg5 fullShare x5
      ∗ owns (c : Thread nD τ) arg6 fullShare x6
      ∗ owns (c : Thread nD τ) arg7 fullShare x7
      ∗ (∃ d, owns (c : Thread nD τ) arg8 fullShare d)
      ∗ (∃ d, owns (c : Thread nD τ) arg9 fullShare d)
      ∗ (∃ d, owns (c : Thread nD τ) arg10 fullShare d)
      ∗ (∃ d, owns (c : Thread nD τ) arg11 fullShare d)
      ∗ (∃ d, owns (c : Thread nD τ) arg12 fullShare d)
      ∗ (∃ d, owns (c : Thread nD τ) arg13 fullShare d)
      ∗ (∃ d, owns (c : Thread nD τ) arg14 fullShare d)) := by
  simp only [cc0_conv_bwd_eq_skeleton]; unfold cc0_conv_bwd_skel
  simp only [k0_part36_eq_skeleton, k0_part37_eq_skeleton, k0_part38_eq_skeleton, k0_part39_eq_skeleton, k0_part30_eq_skeleton, k0_part31_eq_skeleton, k0_part32_eq_skeleton, k0_part33_eq_skeleton, k0_part34_eq_skeleton, k0_part35_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
  by_cases hc0 : (Scalar.cmpi .ne (Scalar.extui (Scalar.cmpi .eq (BitVec.ofNat 32 (i 0).val) 0#32)) 0#32) = 1#1 <;> by_cases hc1 : k0_cond2 i = 1#1
  all_goals
    sl_exec (disch := first | sl_exact hc0 | sl_exact hc1)
    sl_step
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; iexists _; isplitr
      on_goal 2 => iexact H8
      ipureintro; rfl
    isplitl [H9]
    · iexists _; iexists _; isplitr
      on_goal 2 => iexact H9
      ipureintro; rfl
    isplitl [H10]
    · iexists _; iexists _; isplitr
      on_goal 2 => iexact H10
      ipureintro; rfl
    isplitl [H11]
    · iexists _; iexists _; isplitr
      on_goal 2 => iexact H11
      ipureintro; rfl
    isplitl [H12]
    · iexists _; iexists _; isplitr
      on_goal 2 => iexact H12
      ipureintro; rfl
    isplitl [H13]
    · iexists _; iexists _; isplitr
      on_goal 2 => iexact H13
      ipureintro; rfl
    iexists _; iexists _; isplitr
    on_goal 2 => iexact H14
    ipureintro; rfl

end Cert.ConvKernelIdeal.Run
-- ==== Proof.Conv.Frame.lean ====
module

public import proofs.«01_k».proof.Proof.Conv.Point

@[expose] public section

set_option maxRecDepth 65536

noncomputable section

/-! The frame of the backward pass of the convolution group: the program terminates without fault, leaves its
arguments unchanged and every counter at zero. What the outputs hold is not stated: their windows are
forgotten, and the invariant between points holds the four scratch buffers at any contents. -/

namespace Cert.ConvKernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose RDat)
open Cert.ConvKernelIdeal Cert.ConvKernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows that nothing is said of: the three outputs. -/
def forgotten (w : Fin cfg0.W) : Bool := decide (7 ≤ w.val)

/-- What the launch is told: each window's array as the region finds it, its inputs' blocks left in place. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
  Φ _ := Pipeline.ΦA spec0 c
  q w := Pipeline.shareOf spec0 w
  owed _ := 0

/-- The invariant: each scratch buffer at some contents, and the generator register at some state. -/
theorem inv_eq (c : Dev nD) :
    (Pipeline.ΦA spec0 c : sProp 𝕄)
      = iprop(iprop((∃ d, owns (c : Thread nD τ) (Memref.whole cc0_scratch0) fullShare d)
          ∗ (∃ d, owns (c : Thread nD τ) (Memref.whole cc0_scratch1) fullShare d)
          ∗ (∃ d, owns (c : Thread nD τ) (Memref.whole cc0_scratch2) fullShare d)
          ∗ (∃ d, owns (c : Thread nD τ) (Memref.whole cc0_scratch3) fullShare d)) ∗ (∃ r, prngReg c r)) := by
  unfold Pipeline.ΦA; rw [scopedRest0_eq]; simp only [owns_whole]; try rfl

/-- The body that the launch calls at a point. -/
theorem row (t : Fin cfg0.N) :
    defs₀ (F := F) .tc cfg0.body (cfg0.bodyArgs t (cfg0.slots t)) = bodyAt0 t := by
  unfold defs₀; rw [Defs.onTc_tc]

theorem A_eq (c : Dev nD) (w : Fin cfg0.W) : (dats m 0 c).A w = V m c (Pipeline.arrRef spec0 w) := by
  dsimp only [dats]

/-- A window held at given contents. -/
abbrev held (c : Dev nD) (t : Fin cfg0.N) (w : Fin cfg0.W) (x : (cfg0.win w).block.Idx → Elt F (cfg0.win w).elt) : sProp 𝕄 :=
  owns (c : Thread nD τ) ((cfg0.win w).stage (cfg0.slots t w)) fullShare x

/-- A window that is forgotten: it is held at something. -/
abbrev any (c : Dev nD) (t : Fin cfg0.N) (w : Fin cfg0.W) : sProp 𝕄 :=
  iprop(∃ X, owns (c : Thread nD τ) ((cfg0.win w).stage (cfg0.slots t w)) fullShare X)

/-- A point's buffers: the inputs at their blocks, the outputs at anything. -/
abbrev state (c : Dev nD) (t : Fin cfg0.N) : sProp 𝕄 :=
  iprop(held c t 0 (iblk m c 0 t) ∗ held c t 1 (iblk m c 1 t) ∗ held c t 2 (iblk m c 2 t) ∗ held c t 3 (iblk m c 3 t) ∗ held c t 4 (iblk m c 4 t) ∗ held c t 5 (iblk m c 5 t) ∗ held c t 6 (iblk m c 6 t)
    ∗ any (F := F) c t 7 ∗ any (F := F) c t 8 ∗ any (F := F) c t 9)

set_option maxHeartbeats 3200000 in
/-- A point of the launch: the body on the point's staging buffers and the scratch. -/
theorem body (c : Dev nD) (t : Fin cfg0.N) :
    (iprop(Pipeline.ΦA spec0 c ∗ (dats m 0 c).owesAt () t.castSucc ∗ state m c t) : sProp 𝕄)
      ⊢ wp frame (wpE (defs₀ (F := F)) Variants.none c none) Set.univ (bodyAt0 t) (fun _ =>
        iprop(Pipeline.ΦA spec0 c ∗ (dats m 0 c).owesAt () t.castSucc ∗ state m c t)) := by
  rw [inv_eq]
  unfold bodyAt0
  iintro ⟨⟨⟨S0, S1, S2, S3⟩, Hg⟩, Ho, H0, H1, H2, H3, H4, H5, H6, H7, H8, H9⟩
  iapply (wp_wand_r Idealize.ShloMosaic.frame (wpE (defs₀ (F := F)) Variants.none (c : Thread nD τ) none) Set.univ)
  isplitl [S0 S1 S2 S3 H0 H1 H2 H3 H4 H5 H6 H7 H8 H9]
  · iapply (point c (grid0.coords t) _ _ _ _ _ _ _ _ _ _ _ _ _ _ _ _ _ _ _ _ _ _ _ _ _ _ _ _
      _ _ _ _ _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [S0]; · iexact S0
    isplitl [S1]; · iexact S1
    isplitl [S2]; · iexact S2
    iexact S3
  · iintro %_ ⟨H0, H1, H2, H3, H4, H5, H6, H7, H8, H9, S0, S1, S2, S3⟩
    isplitl [S0 S1 S2 S3 Hg]
    · isplitl [S0 S1 S2 S3]
      · isplitl [S0]; · iexact S0
        isplitl [S1]; · iexact S1
        isplitl [S2]; · iexact S2
        iexact S3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

set_option maxHeartbeats 3200000 in
/-- What the launch asks of every point. -/
theorem obligation (c : Dev nD) :
    BodyObligationLoose (dats (F := F) m 0 c) (defs₀ (F := F)) Variants.none () Set.univ forgotten := fun t => by
  rw [bigSep_W0, bigSep_W0, row]
  refine triple_restated (body m c t) rfl ?_ fun _ => .rfl
  rw [show (dats m 0 c).Φ t.castSucc = Pipeline.ΦA spec0 c from by dsimp only [dats]]
  simp only [show forgotten 0 = false from rfl, show forgotten 1 = false from rfl, show forgotten 2 = false from rfl, show forgotten 3 = false from rfl, show forgotten 4 = false from rfl, show forgotten 5 = false from rfl, show forgotten 6 = false from rfl, show forgotten 7 = true from rfl, show forgotten 8 = true from rfl, show forgotten 9 = true from rfl]
  iintro ⟨HΦ, Ho, ⟨%d0, H0⟩, ⟨%d1, H1⟩, ⟨%d2, H2⟩, ⟨%d3, H3⟩, ⟨%d4, H4⟩, ⟨%d5, H5⟩, ⟨%d6, H6⟩, H7, H8, H9⟩
  rw [before0_0_of m (dats m 0 c) (A_eq m c 0) (fun t => by dsimp only [dats]) t d0,
    before0_1_of m (dats m 0 c) (A_eq m c 1) (fun t => by dsimp only [dats]) t d1,
    before0_2_of m (dats m 0 c) (A_eq m c 2) (fun t => by dsimp only [dats]) t d2,
    before0_3_of m (dats m 0 c) (A_eq m c 3) (fun t => by dsimp only [dats]) t d3,
    before0_4_of m (dats m 0 c) (A_eq m c 4) (fun t => by dsimp only [dats]) t d4,
    before0_5_of m (dats m 0 c) (A_eq m c 5) (fun t => by dsimp only [dats]) t d5,
    before0_6_of m (dats m 0 c) (A_eq m c 6) (fun t => by dsimp only [dats]) t d6]
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option backward.isDefEq.respectTransparency.types false in
/-- The run, with the counters. -/
theorem run : θ_run defs (onTc (τ := τ) (main (F := F))) (s₀ m ρ)
    (fun r => RDat.FramePost cfg0 (fun c => (dats m 0 c).toRForget forgotten) (V m) r ∧ r.2.sem = fun _ => 0) :=
  Pipeline.θ_run_frame_forget_shared (Q' := _) cfgs (dats m) (0 : Fin 1) launch₀0 defs₀ Variants.none forgotten m ρ main
    (hbody := obligation m) (hq := fun _ _ _ => by dsimp only [dats]) (howed := fun _ _ => rfl) (V := V m)
    (hmain := hmain m Variants.none) (hA := A_eq m) (hΦ := fun _ _ => by dsimp only [dats])

set_option maxHeartbeats 3200000 in
/-- The frame, at any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c =>
    ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      (RDat.FramePost.arr_in h.1 c 5 rfl).trans ((A_eq m c 5).trans (V_main_arg4 m c)),
      (RDat.FramePost.arr_in h.1 c 6 rfl).trans ((A_eq m c 6).trans (V_main_arg5 m c)),
      (RDat.FramePost.arr_in h.1 c 3 rfl).trans ((A_eq m c 3).trans (V_main_arg6 m c))⟩, h.2⟩) (run m ρ)

end Cert.ConvKernelIdeal.Run
-- ==== Proof.Conv.Claim.lean ====
module

public import proofs.«01_k».proof.Defs
public import proofs.«01_k».proof.Proof.Conv.Frame
public import proofs.«01_k».proof.Proof.Gen.ConvKernel
public import Idealize.ShloMosaic.Lib.Tactic

@[expose] public section

noncomputable section

/-! The two frame claims of the convolution group's backward pass, from the one run. -/

namespace Cert.Proof.Conv

open Idealize.ShloMosaic Idealize.ShloMosaic.Tactic Idealize.SL.Sem

/-- The idealized program's frame, at the bit patterns: its text is the kernel's. -/
abbrev FrameBits : Prop :=
  ∀ (m : (ℓ : Loc Cert.ConvKernelIdeal.nD Cert.ConvKernelIdeal.τ Cert.ConvKernelIdeal.sig) → Buf (Elt Bits) ℓ)
    (g : Dev Cert.ConvKernelIdeal.nD → PrngReg), True →
    θ_run (Cert.ConvKernelIdeal.defs (F := Bits)) (onTc (τ := Cert.ConvKernelIdeal.τ) (Cert.ConvKernelIdeal.main (F := Bits)))
      ⟨m, fun _ => 0, g⟩ (fun r => (∀ c : Dev Cert.ConvKernelIdeal.nD,
        r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
        ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
        ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2)
        ∧ r.2.mem ((c.tc : Thread Cert.ConvKernelIdeal.nD Cert.ConvKernelIdeal.τ).loc Cert.ConvKernelIdeal.main_arg3) = m ((c.tc : Thread Cert.ConvKernelIdeal.nD Cert.ConvKernelIdeal.τ).loc Cert.ConvKernelIdeal.main_arg3)
        ∧ r.2.mem ((c.tc : Thread Cert.ConvKernelIdeal.nD Cert.ConvKernelIdeal.τ).loc Cert.ConvKernelIdeal.main_arg4) = m ((c.tc : Thread Cert.ConvKernelIdeal.nD Cert.ConvKernelIdeal.τ).loc Cert.ConvKernelIdeal.main_arg4)
        ∧ r.2.mem ((c.tc : Thread Cert.ConvKernelIdeal.nD Cert.ConvKernelIdeal.τ).loc Cert.ConvKernelIdeal.main_arg5) = m ((c.tc : Thread Cert.ConvKernelIdeal.nD Cert.ConvKernelIdeal.τ).loc Cert.ConvKernelIdeal.main_arg5)
        ∧ r.2.mem ((c.tc : Thread Cert.ConvKernelIdeal.nD Cert.ConvKernelIdeal.τ).loc Cert.ConvKernelIdeal.main_arg6) = m ((c.tc : Thread Cert.ConvKernelIdeal.nD Cert.ConvKernelIdeal.τ).loc Cert.ConvKernelIdeal.main_arg6))
        ∧ r.2.sem = fun _ => 0)

/-- The kernel's frame. -/
theorem frame_kernel : Cert.quiescent_ConvKernel := by
  have h : FrameBits := fun m g _ => Cert.ConvKernelIdeal.Run.frame (F := Bits) m g
  have e : FrameBits = Cert.quiescent_ConvKernel := by sl_kernel_rfl
  exact e.mp h

end Cert.Proof.Conv
-- ==== Proof.MemF.Kernel.lean ====
module

public import proofs.«01_k».proof.Proof.Mem.Kernel
public import proofs.«01_k».proof.Proof.Gen.MemFKernelIdeal.Value

/-! The memory attention's forward call: what its array holds. A head's weights are those of the backward call. -/

@[expose] public section

set_option maxRecDepth 16384

noncomputable section

namespace Cert.Mem

/-- The attention's output, row `r` and column `x`. -/
def out (q k v : ℕ → ℕ → ℝ) (r x : ℕ) : ℝ := ∑ m : Fin 256, prob q k (x / 128) r m * v m x

end Cert.Mem

namespace Cert.MemFKernelIdeal.MemF

open Idealize.ShloMosaic Idealize.ShloMosaic.TcCoe Idealize.SL.Sem
open Cert.MemFKernelIdeal Cert.MemFKernelIdeal.Gen Cert.Held Cert.Mem
open Cert.MemKernelIdeal.Mem (headP headP_is dqs dqs_is cutm side kv vof piece_q)

variable (m : (ℓ : Loc nD τ sig) → Buf (Elt Ideal) ℓ) (c : Dev nD)

abbrev Qa : FVec Ideal S4096x512 .f32 := m ((c : Thread nD τ).loc main_arg0)
abbrev Ka : FVec Ideal S256x512 .f32 := m ((c : Thread nD τ).loc main_arg1)
abbrev Va : FVec Ideal S256x512 .f32 := m ((c : Thread nD τ).loc main_arg2)

/-- What a head stores: its weights times its values. -/
abbrev headO (x0 : Vec Ideal S512x512 .bf16) (x1 : Vec Ideal S256x1024 .bf16) (b b' : ℕ) (h0 : S512x512.Slices ![0, b] S512x128 := by decide)
    (h1 : S256x1024.Slices ![0, b] S256x128 := by decide) (h2 : S256x1024.Slices ![0, b'] S256x128 := by decide) : FVec Ideal S512x128 .bf16 :=
  dqs (cutm x1 b' h2) (truncf .bf16 (headP x0 x1 b h0 h1) bitsLt_bf16_f32)

section
variable (x0 : Vec Ideal S512x512 .bf16) (x1 : Vec Ideal S256x1024 .bf16)

theorem self0 : k0_pay3 (F := Ideal) x0 = x0 := shapeCast_self ..
theorem self1 : k0_pay4 (F := Ideal) x1 = x1 := shapeCast_self ..

theorem o0 : k0_pay5 x0 x1 = headO (k0_pay3 x0) (k0_pay4 x1) 0 512 := rfl
theorem o1 : k0_pay6 x0 x1 = headO (k0_pay3 x0) (k0_pay4 x1) 128 640 := rfl
theorem o2 : k0_pay1 x0 x1 = headO x0 x1 256 768 := rfl
theorem o3 : k0_pay2 x0 x1 = headO x0 x1 384 896 := rfl
end

/-- A head's store, in the array's rows and columns. -/
theorem headO_is {x0 : Vec Ideal S512x512 .bf16} {x1 : Vec Ideal S256x1024 .bf16} {Q KV : ℕ → ℕ → ℝ} (n : ℕ) (h0 : Is (n := 512) (d := 512) x0 fun r x => Q (512 * n + r) x)
    (h1 : Is (n := 256) (d := 1024) x1 KV) (h b b' : ℕ) (hb : b = 128 * h) (hb' : b' = 512 + b) (s0 : S512x512.Slices ![0, b] S512x128)
    (s1 : S256x1024.Slices ![0, b] S256x128) (s2 : S256x1024.Slices ![0, b'] S256x128) (r : Fin 512) (l : Fin 128) :
    headO x0 x1 b b' s0 s1 s2 (ix2 r l) = ((out Q KV (vof KV) (512 * n + (0 + r)) (b + l) : ℝ) : EReal) := by
  refine (dqs_is (w := truncf .bf16 (headP x0 x1 b s0 s1) bitsLt_bf16_f32) (headP_is h0 h1 h b hb s0 s1) (h1.slice _ _ s2) r l).trans (congrArg Real.toEReal ?_)
  have hl := l.isLt
  unfold out
  rw [Nat.zero_add, show (b + l.val) / 128 = h by omega, hb']
  simp only [Nat.zero_add, Nat.add_assoc]
  rfl

theorem idx : ∀ t : Fin cfg0.N, win0_0.index t = ![t.val, 0] ∧ win0_1.index t = ![0, 0] ∧ win0_2.index t = ![t.val, 0] :=
  (by decide +kernel : ∀ t : Fin grid0.N, _)

theorem row2 (t : Fin cfg0.N) (a : ℕ) : win0_2.index t 0 * 512 + a = 512 * t.val + a := by
  rw [(idx t).2.2]
  show t.val * 512 + a = _
  omega
theorem col2 (t : Fin cfg0.N) (a : ℕ) : win0_2.index t 1 * 512 + a = a := by
  rw [(idx t).2.2]
  show 0 * 512 + a = _
  omega

theorem read_q (W : Valuation τ sig (Elt Ideal)) : StableHlo.after hostOps0 W (Proc.devRef .tc main_v2) = (W (Proc.devRef .tc main_arg0)) := by
  after_reads_simp
  rfl
theorem read_kv (W : Valuation τ sig (Elt Ideal)) : StableHlo.after hostOps0 W (Proc.devRef .tc main_v1) =
    concatenate S256x1024 1 [⟨S256x512, (W (Proc.devRef .tc main_arg1))⟩, ⟨S256x512, (W (Proc.devRef .tc main_arg2))⟩] concatenates_S256x512_S256x512_S256x1024_d1 := by
  after_reads_simp
  rfl

section
variable {Q KV : ℕ → ℕ → ℝ} (t : Fin cfg0.N) (hq : Is (n := 4096) (d := 512) (V m c main_v2) Q) (hk : Is (n := 256) (d := 1024) (V m c main_v1) KV)

include hq in
theorem blk0 : Is (n := 512) (d := 512) (iblk m c 0 t) fun r x => Q (512 * t.val + r) x := by
  intro r x
  have ht : t.val < 8 := t.isLt
  refine Eq.trans ?_ (hq ⟨512 * t.val + r.val, by omega⟩ x)
  blk_point [iblk, idx t]
include hk in
theorem blk1 : Is (n := 256) (d := 1024) (iblk m c 1 t) KV := by
  intro r x
  refine Eq.trans ?_ (hk r x)
  blk_point [iblk, idx t]

/-- One tile's stores, from the blocks that it reads. -/
theorem point {x0 : Vec Ideal S512x512 .bf16} {x1 : Vec Ideal S256x1024 .bf16} (n : ℕ) (h0 : Is (n := 512) (d := 512) x0 fun r x => Q (512 * n + r) x)
    (h1 : Is (n := 256) (d := 1024) x1 KV) : Is (n := 512) (d := 512) (out0_2 x0 x1) fun r x => out Q KV (vof KV) (512 * n + r) x := by
  intro r x
  have l0 : View.ld x0 r0_0 = x0 := View.ld_unit_zero (funext fun a => by fin_cases a <;> rfl) _ _
  have l1 : View.ld x1 r0_1 = x1 := View.ld_unit_zero (funext fun a => by fin_cases a <;> rfl) _ _
  unfold_out out0_2
  simp only [l0, l1, o0, o1, o2, o3, self0, self1]
  refine (canon_pieces (s := S512x512) (t := .bf16) (Val := Elt Ideal) (fun y => ((out Q KV (vof KV) (512 * n + (y 0).val) (y 1).val : ℝ) : EReal)) _ _ ?_ ?_)
  · exact cover0_2 _ _ _ _ _
  let X : ℕ → ℕ → ℝ := fun r x => out Q KV (vof KV) (512 * n + r) x
  exact ⟨piece_q (X := X) 384 _ _ (headO_is n h0 h1 3 384 896 rfl rfl _ _ _), piece_q (X := X) 256 _ _ (headO_is n h0 h1 2 256 768 rfl rfl _ _ _),
    piece_q (X := X) 128 _ _ (headO_is n h0 h1 1 128 640 rfl rfl _ _ _), piece_q (X := X) 0 _ _ (headO_is n h0 h1 0 0 512 rfl rfl _ _ _), trivial⟩

include hq hk

/-- The attention's output. -/
theorem final : Is (n := 4096) (d := 512) ((dats m 0 c).arrAt 2 cfg0.N) (out Q KV (vof KV)) := by
  have h : (dats m 0 c).arrAt 2 cfg0.N = fun i => ((out Q KV (vof KV) (i 0).val (i 1).val : ℝ) : EReal) := by
    refine (dats m 0 c).arrAt_eq_of_covers 2 _ (by decide +kernel) fun t hf y => ?_
    blk_simp
    rw [after0_2, eq_ix2 y]
    refine (point t.val (blk0 m c t hq) (blk1 m c t hk) (y 0) (y 1)).trans ?_
    exact (congrArg₂ (fun a b : ℕ => ((out Q KV (vof KV) a b : ℝ) : EReal)) (row2 t _) (col2 t _)).symm
  intro r x
  exact congrFun h _

end

/-- The region's operands hold the arguments' reals. -/
theorem in_q {Q : ℕ → ℕ → ℝ} (h : Is (n := 4096) (d := 512) (Qa m c) Q) : Is (n := 4096) (d := 512) (V m c main_v2) Q := fun r x =>
  (congrFun (show V m c main_v2 = _ from read_q _) _).trans (h r x)
theorem in_kv {K V' : ℕ → ℕ → ℝ} (hk : Is (n := 256) (d := 512) (Ka m c) K) (hv : Is (n := 256) (d := 512) (Va m c) V') :
    Is (n := 256) (d := 1024) (V m c main_v1) (kv K V') := fun r x =>
  (congrFun (show V m c main_v1 = _ from read_kv _) _).trans (side _ _ _ _ hk hv r x)

end Cert.MemFKernelIdeal.MemF
end
-- ==== Proof.MemF.Ref.lean ====
module

public import proofs.«01_k».proof.Proof.Gen.MemFReferenceIdeal.Read
public import proofs.«01_k».proof.Proof.MemF.Kernel
public import Idealize.ShloMosaic.Lib.Pointwise

/-! The reference's attention, entry by entry. -/

@[expose] public section

set_option maxRecDepth 16384

noncomputable section

namespace Cert.MemFReferenceIdeal.MemF

open Idealize.ShloMosaic Idealize.ShloMosaic.TcCoe Idealize.SL.Sem
open Cert.MemFReferenceIdeal Cert.MemFReferenceIdeal.Read Cert.Held Cert.Mem

variable (x0 : FVec Ideal S4096x512 .f32) (x1 x2 : FVec Ideal S256x512 .f32) (Q K V : ℕ → ℕ → ℝ)
variable (hq : Is (n := 4096) (d := 512) x0 Q) (hk : Is (n := 256) (d := 512) x1 K) (hv : Is (n := 256) (d := 512) x2 V)

include hq hk

theorem score_is : Is3 (a := 4) (b := 4096) (c := 256) (val_main_v5 (F := Ideal) x0 x1) (score Q K) := by
  intro h r p
  pointwise [val_main_v5, val_main_v4, val_main_cst, val_main_v3, val_main_v1, val_main_v0]
  rw [sc_word]
  unfold score
  rw [EReal.coe_mul, ← Held.sum_mul]
  refine congrArg (· * _) (Finset.sum_congr rfl fun x _ => ?_)
  rw [hq, hk]
  simp only [mul_comm (h : ℕ) 128]

/-- A row's largest score, as the program takes it. -/
theorem max_at (h : Fin 4) (r : Fin 4096) : val_main_v8 (F := Ideal) x0 x1 (ix2 h r) =
    (Finset.univ : Finset (Fin 256)).fold max ⊥ fun k : Fin 256 => ((score Q K h r k : ℝ) : EReal) := by
  have hs := score_is x0 x1 Q K hq hk
  rw [val_main_v8_apply, val_main_v7_apply, val_main_cst_1_apply]
  unfold val_main_v6
  generalize val_main_v5 (F := Ideal) x0 x1 = s at hs
  rw [Host.reduce_eq_fold_single (FloatOps.maximumf (F := Ideal) (φ := .f32)) s _ _ (by decide) _ (ix2 h r), val_main_cst_0_apply]
  refine (congrArg₂ max bot_word (congrArg₂ (fun b f => (Finset.univ : Finset (Fin 256)).fold max b f) bot_word (funext fun k => ?_))).trans (max_eq_right bot_le)
  refine Eq.trans (congrArg s (funext fun a => Fin.ext ?_)) (hs h r k)
  fin_cases a <;> rfl

theorem prob_is : Is3 (a := 4) (b := 4096) (c := 256) (val_main_v16 (F := Ideal) x0 x1) (prob Q K) := by
  intro h r p
  have hs := score_is x0 x1 Q K hq hk
  have hM := max_at x0 x1 Q K hq hk h r
  unfold val_main_v16 val_main_v15 val_main_v14 val_main_v13 val_main_v12 val_main_v11 val_main_v10 val_main_v9
  generalize val_main_v8 (F := Ideal) x0 x1 = y at *
  generalize val_main_v5 (F := Ideal) x0 x1 = s at *
  pointwise [val_main_cst_2]
  simp only [hs _ _ _, hM]
  exact softmax_real (fun p : Fin 256 => score Q K h r p) p

include hv

theorem out_is : Is (n := 4096) (d := 512) (val_main_v20 (F := Ideal) x0 x1 x2) (out Q K V) := by
  intro r x
  have hp := prob_is x0 x1 Q K hq hk
  unfold val_main_v20 val_main_v19 val_main_v18 val_main_v17
  generalize val_main_v16 (F := Ideal) x0 x1 = d at *
  pointwise [val_main_v2]
  simp only [hp _ _ _, hv _ _]
  rw [Held.sum_mul]
  unfold out
  exact congrArg _ (Finset.sum_congr rfl fun m _ => mul_comm _ _)

end Cert.MemFReferenceIdeal.MemF
end
-- ==== Proof.MemF.Claim.lean ====
module

public import proofs.«01_k».proof.Defs
public import proofs.«01_k».proof.Proof.MemF.Kernel
public import proofs.«01_k».proof.Proof.MemF.Ref
public import proofs.«01_k».proof.Proof.Mem.Claim
public import proofs.«01_k».proof.Proof.Finite
public import proofs.«01_k».proof.Proof.Gen.Pre_memf_finite
public import proofs.«01_k».proof.Proof.Gen.MemFReferenceIdeal.Run
public import Idealize.ShloMosaic.Lib.Claim

/-! The memory attention's forward call computes the attention of the reference. -/

@[expose] public section

set_option maxRecDepth 16384

noncomputable section

open Idealize.ShloMosaic Idealize.ShloMosaic.TcCoe Idealize.SL.Sem

namespace Cert.Proof.MemF

open Cert.MemFKernelIdeal.MemF Cert.Mem Cert.Finite Cert.Held
open Cert.MemKernelIdeal.Mem (kv vof)

instance : Cert.Pre_memf_finite.Facts := Cert.Pre_memf_finite.Gen.facts

/-- What the precondition says: queries, keys and values are real. -/
theorem reals (x0 : FVec Ideal Cert.Pre_memf_finite.S4096x512 .f32) (x1 x2 : FVec Ideal Cert.Pre_memf_finite.S256x512 .f32)
    (h : Cert.Pre_memf_finite.fn (F := Ideal) x0 x1 x2 = fun _ => 1#1) :
    (∀ i, ∃ a : ℝ, x0 i = a) ∧ (∀ i, ∃ a : ℝ, x1 i = a) ∧ (∀ i, ∃ a : ℝ, x2 i = a) := by
  have h' := congrFun h (fun d => d.elim0)
  unfold Cert.Pre_memf_finite.fn at h'
  dsimp only at h'
  obtain ⟨h', h2⟩ := and_split h'
  obtain ⟨h0, h1⟩ := and_split h'
  exact ⟨real_of_test _ _ _ _ _ _ h0, real_of_test _ _ _ _ _ _ h1, real_of_test _ _ _ _ _ _ h2⟩

section Values

open Cert.MemFKernelIdeal Cert.MemFKernelIdeal.Gen Cert.MemFReferenceIdeal.Read

variable (m : (ℓ : Loc nD τ sig) → Buf (Elt Ideal) ℓ) (c : Dev nD)

/-- The reference's result is the array of the kernel. -/
theorem values (h : (∀ i, ∃ a : ℝ, Qa m c i = a) ∧ (∀ i, ∃ a : ℝ, Ka m c i = a) ∧ (∀ i, ∃ a : ℝ, Va m c i = a)) :
    val_main_v20 (F := Ideal) (Qa m c) (Ka m c) (Va m c) = (dats m 0 c).arrAt 2 cfg0.N := by
  obtain ⟨Q, hq⟩ := exists_is _ h.1
  obtain ⟨K, hk⟩ := exists_is _ h.2.1
  obtain ⟨V', hv⟩ := exists_is _ h.2.2
  have hV : vof (kv K V') = V' := by
    funext p x
    show (if 512 + x < 512 then _ else V' p (512 + x - 512)) = _
    rw [if_neg (by omega), Nat.add_sub_cancel_left]
  have h1 := final m c (in_q m c hq) (in_kv m c hk hv)
  rw [hV] at h1
  refine (Cert.MemFReferenceIdeal.MemF.out_is _ _ _ Q K V' hq hk hv).eq fun r x => (h1 r x).trans (congrArg _ ?_)
  have := x.isLt
  unfold out
  rw [Cert.Proof.Mem.prob_kv Q K V' _ (by omega)]

end Values

/-- The reference terminates, with its arguments unchanged and every counter at zero. -/
theorem frame_reference : Cert.quiescent_MemFReferenceIdeal := by
  intro m g _
  exact (θ_run Cert.MemFReferenceIdeal.defs _ _).mono (fun r h => ⟨fun c => (h c).2, sem_eq_zero_of_no_sems (by decide) r.2⟩)
    (Cert.MemFReferenceIdeal.Value.run m g)

theorem algebraic : Cert.algebraic_MemFKernelIdeal_MemFReferenceIdeal_pre_memf_finite := by
  pair_intro
  · run_from Cert.MemFKernelIdeal.Value.run_blocks m g
  · run_from Cert.MemFReferenceIdeal.Value.run m' g'
    obtain ⟨a0, a1, a2⟩ := hagree c
    rw [Cert.MemFReferenceIdeal.Read.val_main_v20_eq]
    exact values m c (reals _ _ _ (hpre c))

end Cert.Proof.MemF

end
-- ==== Proof.Norm.Forward.lean ====
module

public import proofs.«01_k».proof.Proof.Norm.Spec

/-! A row's norm in the forward direction, of any extended reals: the operations are the same on both sides, so nothing need be finite. -/

@[expose] public section

set_option maxRecDepth 16384

noncomputable section

namespace Cert.Norm

open Idealize.ShloMosaic Idealize.ShloMosaic.TcCoe Cert.Held

/-- A row, times the reciprocal root of its mean square, times the gain. -/
def fwd (X G : ℕ → ℕ → EReal) (r l : ℕ) : EReal := X r l * rE (fun k : Fin 1024 => X r k) * G 0 l

/-- Rows times columns, the sum `n` long. -/
def dot (n : ℕ) (A W : ℕ → ℕ → EReal) (r l : ℕ) : EReal := ∑ k : Fin n, A r k * W k l

/-- A load of `k` rows from `o` on and of `e` columns from `b` on. -/
theorem IsE.load {n d k e : ℕ} {t : EltTy} {x : (⟨2, ![n, d]⟩ : Shape).Idx → EReal} {X : ℕ → ℕ → EReal} (h : IsE x X) (o b : ℕ)
    (inb : ∀ a, (![o, b] : Fin 2 → ℕ) a + (![k, e] : Fin 2 → ℕ) a ≤ (⟨2, ![n, d]⟩ : Shape).size a) :
    IsE (n := k) (d := e) (View.ld (Val := fun _ => EReal) (e' := t) x (Rect.unit (s := ⟨2, ![n, d]⟩) ![o, b] ![k, e] inb)) fun r l => X (o + r) (b + l) := by
  intro r l
  have h0 : o + k ≤ n := inb 0
  have h1 : b + e ≤ d := inb 1
  rw [ld_at (Val := fun _ => EReal) (t := t) x o b inb r l (by have := r.isLt; omega) (by have := l.isLt; omega)]
  exact h _ _

/-- A block of the array that holds `X`, at every index. -/
theorem blockE {n d k e : ℕ} {X : ℕ → ℕ → EReal} (o b : ℕ) (inb : ∀ a, (![o, b] : Fin 2 → ℕ) a + (![k, e] : Fin 2 → ℕ) a ≤ (⟨2, ![n, d]⟩ : Shape).size a)
    {w : (⟨2, ![k, e]⟩ : Shape).Idx → EReal} (hw : IsE w fun r l => X (o + r) (b + l)) (x : (⟨2, ![k, e]⟩ : Shape).Idx) :
    w x = X ((Rect.unit (s := ⟨2, ![n, d]⟩) ![o, b] ![k, e] inb).emb x 0).val ((Rect.unit (s := ⟨2, ![n, d]⟩) ![o, b] ![k, e] inb).emb x 1).val := by
  have h0 : o + k ≤ n := inb 0
  have h1 : b + e ≤ d := inb 1
  obtain ⟨r, l, rfl⟩ : ∃ (r : Fin k) (l : Fin e), x = ix2 r l := ⟨x 0, x 1, eq_ix2 x⟩
  rw [hw r l, emb_at o b inb r l (by have := r.isLt; omega) (by have := l.isLt; omega)]
  rfl

end Cert.Norm
end
-- ==== Proof.ResN.Kernel.lean ====
module

public import proofs.«01_k».proof.Proof.Norm.Forward
public import proofs.«01_k».proof.Proof.Gen.ResNKernelIdeal.Value
public import Idealize.ShloMosaic.Lib.Claim
public import Idealize.ShloMosaic.Lib.StableHlo.RunRead

/-! The second product of the squared relu's block, its norm and the residual: what the call's two arrays hold. -/

@[expose] public section

set_option maxRecDepth 16384

noncomputable section

namespace Cert.ResNKernelIdeal.ResN

open Idealize.ShloMosaic Idealize.ShloMosaic.TcCoe Idealize.SL.Sem
open Cert.ResNKernelIdeal Cert.ResNKernelIdeal.Gen Cert.Held Cert.Norm

variable (m : (ℓ : Loc nD τ sig) → Buf (Elt Ideal) ℓ) (c : Dev nD)

abbrev Aa : FVec Ideal S4096x4096 .f32 := m ((c : Thread nD τ).loc main_arg0)
abbrev Wa : FVec Ideal S4096x1024 .f32 := m ((c : Thread nD τ).loc main_arg1)
abbrev Xa : FVec Ideal S4096x1024 .f32 := m ((c : Thread nD τ).loc main_arg2)
abbrev Ga : FVec Ideal S1x1024 .f32 := m ((c : Thread nD τ).loc main_arg3)

/-- The stream after the block: what came in, and the product's norm. -/
def sum (X A W G : ℕ → ℕ → EReal) (r l : ℕ) : EReal := X r l + fwd (dot 4096 A W) G r l

section
variable {a : Vec Ideal S512x4096 .bf16} {w : Vec Ideal S4096x1024 .bf16} {x : Vec Ideal S512x1024 .f32} {g : Vec Ideal S1x1024 .f32} {A W X G : ℕ → ℕ → EReal}
  (n : ℕ) (ha : IsE (n := 512) (d := 4096) a fun r l => A (512 * n + r) l) (hw : IsE (n := 4096) (d := 1024) w W)
  (hx : IsE (n := 512) (d := 1024) x fun r l => X (512 * n + r) l) (hg : IsE (n := 1) (d := 1024) g G)

include ha hw in
theorem y_tile : IsE (n := 512) (d := 1024) (k0_pay1 a w) fun r l => dot 4096 A W (512 * n + r) l := by
  intro r l
  pointwise [k0_pay1]
  simp only [ha _ _, hw _ _]
  rfl

include ha hw hx hg in
theorem s_tile : IsE (n := 512) (d := 1024) (k0_pay2 a w x g) fun r l => sum X A W G (512 * n + r) l := by
  intro r l
  have hy := y_tile n ha hw
  have e : k0_pay2 a w x g (ix2 r l) = x (ix2 r l) + k0_pay1 a w (ix2 r l) * rE (fun k : Fin 1024 => k0_pay1 a w (ix2 r k)) * g (ix2 0 l) := by
    unfold k0_pay2
    generalize k0_pay1 a w = y
    pointwise
  rw [e]
  simp only [hy _ _, hx _ _, hg _ _]
  rfl
include ha hw in
theorem point_y : IsE (n := 512) (d := 1024) (out0_4 a w x g) fun r l => dot 4096 A W (512 * n + r) l := by
  intro r l
  have l0 : View.ld a r0_0 = a := View.ld_unit_zero (funext fun b => by fin_cases b <;> rfl) _ _
  have l1 : View.ld w r0_1 = w := View.ld_unit_zero (funext fun b => by fin_cases b <;> rfl) _ _
  unfold out0_4
  rw [l0, l1]
  let Y : ℕ → ℕ → EReal := fun r l => dot 4096 A W (512 * n + r) l
  have q : IsE (n := 512) (d := 1024) (k0_pay1 a w) fun r l => Y (0 + r) (0 + l) := by
    simp only [Nat.zero_add]
    exact y_tile n ha hw
  exact canon_pieces (s := S512x1024) (t := .f32) (Val := Elt Ideal) (fun y => Y (y 0).val (y 1).val) _ _ (cover0_4 _ _) ⟨fun y => blockE (X := Y) 0 0 inb_S512x1024_S512x1024_0_0 q y, trivial⟩

include ha hw hx hg in
theorem point_s : IsE (n := 512) (d := 1024) (out0_5 a w x g) fun r l => sum X A W G (512 * n + r) l := by
  intro r l
  have l0 : View.ld a r0_0 = a := View.ld_unit_zero (funext fun b => by fin_cases b <;> rfl) _ _
  have l1 : View.ld w r0_1 = w := View.ld_unit_zero (funext fun b => by fin_cases b <;> rfl) _ _
  have l2 : View.ld x r0_2 = x := View.ld_unit_zero (funext fun b => by fin_cases b <;> rfl) _ _
  have l3 : View.ld g r0_3 = g := View.ld_unit_zero (funext fun b => by fin_cases b <;> rfl) _ _
  unfold out0_5
  rw [l0, l1, l2, l3]
  let Y : ℕ → ℕ → EReal := fun r l => sum X A W G (512 * n + r) l
  have q : IsE (n := 512) (d := 1024) (k0_pay2 a w x g) fun r l => Y (0 + r) (0 + l) := by
    simp only [Nat.zero_add]
    exact s_tile n ha hw hx hg
  exact canon_pieces (s := S512x1024) (t := .f32) (Val := Elt Ideal) (fun y => Y (y 0).val (y 1).val) _ _ (cover0_5 _ _) ⟨fun y => blockE (X := Y) 0 0 inb_S512x1024_S512x1024_0_0 q y, trivial⟩

end

theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] :=
  (by decide +kernel : ∀ t : Fin grid0.N, _)

theorem row4 (t : Fin cfg0.N) (a : ℕ) : win0_4.index t 0 * 512 + a = 512 * t.val + a := by
  rw [(idx t).2.2.2.2.1]
  show t.val * 512 + a = _
  omega
theorem col4 (t : Fin cfg0.N) (a : ℕ) : win0_4.index t 1 * 1024 + a = a := by
  rw [(idx t).2.2.2.2.1]
  show 0 * 1024 + a = _
  omega
theorem row5 (t : Fin cfg0.N) (a : ℕ) : win0_5.index t 0 * 512 + a = 512 * t.val + a := by
  rw [(idx t).2.2.2.2.2]
  show t.val * 512 + a = _
  omega
theorem col5 (t : Fin cfg0.N) (a : ℕ) : win0_5.index t 1 * 1024 + a = a := by
  rw [(idx t).2.2.2.2.2]
  show 0 * 1024 + a = _
  omega

theorem read_a (W : Valuation τ sig (Elt Ideal)) : StableHlo.after hostOps0 W (Proc.devRef .tc main_v0) = (W (Proc.devRef .tc main_arg0)) := by
  after_reads_simp
  rfl
theorem read_w (W : Valuation τ sig (Elt Ideal)) : StableHlo.after hostOps0 W (Proc.devRef .tc main_v1) = (W (Proc.devRef .tc main_arg1)) := by
  after_reads_simp
  rfl
theorem read_x (W : Valuation τ sig (Elt Ideal)) : StableHlo.after hostOps0 W (Proc.devRef .tc main_arg2) = (W (Proc.devRef .tc main_arg2)) := by
  after_reads_simp
theorem read_g (W : Valuation τ sig (Elt Ideal)) : StableHlo.after hostOps0 W (Proc.devRef .tc main_arg3) = (W (Proc.devRef .tc main_arg3)) := by
  after_reads_simp

section
variable {A W X G : ℕ → ℕ → EReal} (t : Fin cfg0.N) (ha : IsE (n := 4096) (d := 4096) (Aa m c) A) (hw : IsE (n := 4096) (d := 1024) (Wa m c) W)
  (hx : IsE (n := 4096) (d := 1024) (Xa m c) X) (hg : IsE (n := 1) (d := 1024) (Ga m c) G)

include ha in
theorem blk0 : IsE (n := 512) (d := 4096) (iblk m c 0 t) fun r x => A (512 * t.val + r) x := by
  intro r x
  have ht : t.val < 8 := t.isLt
  refine Eq.trans ?_ ((congrFun (show V m c main_v0 = _ from read_a _) _).trans (ha ⟨512 * t.val + r.val, by omega⟩ x))
  blk_point [iblk, idx t]
include hw in
theorem blk1 : IsE (n := 4096) (d := 1024) (iblk m c 1 t) W := by
  intro r x
  refine Eq.trans ?_ ((congrFun (show V m c main_v1 = _ from read_w _) _).trans (hw r x))
  blk_point [iblk, idx t]
include hx in
theorem blk2 : IsE (n := 512) (d := 1024) (iblk m c 2 t) fun r x => X (512 * t.val + r) x := by
  intro r x
  have ht : t.val < 8 := t.isLt
  refine Eq.trans ?_ ((congrFun (show V m c main_arg2 = _ from read_x _) _).trans (hx ⟨512 * t.val + r.val, by omega⟩ x))
  blk_point [iblk, idx t]
include hg in
theorem blk3 : IsE (n := 1) (d := 1024) (iblk m c 3 t) G := by
  intro r x
  refine Eq.trans ?_ ((congrFun (show V m c main_arg3 = _ from read_g _) _).trans (hg r x))
  blk_point [iblk, idx t]

include ha hw in
/-- The product. -/
theorem final_y : IsE (n := 4096) (d := 1024) ((dats m 0 c).arrAt 4 cfg0.N) (dot 4096 A W) := by
  have h : (dats m 0 c).arrAt 4 cfg0.N = fun i => (dot 4096 A W) (i 0).val (i 1).val := by
    refine (dats m 0 c).arrAt_eq_of_covers 4 _ (by decide +kernel) fun t hf y => ?_
    blk_simp
    rw [after0_4, eq_ix2 y]
    refine (point_y t.val (blk0 m c t ha) (blk1 m c t hw) (y 0) (y 1)).trans ?_
    exact (congrArg₂ (fun a b : ℕ => (dot 4096 A W) a b) (row4 t _) (col4 t _)).symm
  exact fun r x => congrFun h _

include ha hw hx hg in
/-- The stream after the block. -/
theorem final_s : IsE (n := 4096) (d := 1024) ((dats m 0 c).arrAt 5 cfg0.N) (sum X A W G) := by
  have h : (dats m 0 c).arrAt 5 cfg0.N = fun i => (sum X A W G) (i 0).val (i 1).val := by
    refine (dats m 0 c).arrAt_eq_of_covers 5 _ (by decide +kernel) fun t hf y => ?_
    blk_simp
    rw [after0_5, eq_ix2 y]
    refine (point_s t.val (blk0 m c t ha) (blk1 m c t hw) (blk2 m c t hx) (blk3 m c t hg) (y 0) (y 1)).trans ?_
    exact (congrArg₂ (fun a b : ℕ => (sum X A W G) a b) (row5 t _) (col5 t _)).symm
  exact fun r x => congrFun h _

end

end Cert.ResNKernelIdeal.ResN
end
-- ==== Proof.ResN.Ref.lean ====
module

public import proofs.«01_k».proof.Proof.ResN.Kernel
public import proofs.«01_k».proof.Proof.Gen.ResNReferenceIdeal.Read
public import Idealize.ShloMosaic.Lib.Claim

/-! What the reference's two results hold. -/

@[expose] public section

set_option maxRecDepth 16384

noncomputable section

namespace Cert.ResNReferenceIdeal.ResN

open Idealize.ShloMosaic Idealize.ShloMosaic.TcCoe Idealize.SL.Sem
open Cert.ResNReferenceIdeal Cert.ResNReferenceIdeal.Read Cert.Held Cert.Norm

variable (a : FVec Ideal S4096x4096 .f32) (w x : FVec Ideal S4096x1024 .f32) (g : FVec Ideal S1x1024 .f32) {A W X G : ℕ → ℕ → EReal}
  (ha : IsE (n := 4096) (d := 4096) a A) (hw : IsE (n := 4096) (d := 1024) w W) (hx : IsE (n := 4096) (d := 1024) x X) (hg : IsE (n := 1) (d := 1024) g G)

include ha hw in
theorem y_is : IsE (n := 4096) (d := 1024) (val_main_v0 (F := Ideal) a w) (dot 4096 A W) := by
  intro r l
  pointwise [val_main_v0]
  simp only [ha _ _, hw _ _]
  rfl

include ha hw hx hg in
theorem s_is : IsE (n := 4096) (d := 1024) (val_main_v13 (F := Ideal) a w x g) (Cert.ResNKernelIdeal.ResN.sum X A W G) := by
  intro r l
  have hy := y_is a w ha hw
  have e : val_main_v13 (F := Ideal) a w x g (ix2 r l) = x (ix2 r l) + val_main_v0 (F := Ideal) a w (ix2 r l) * rE (fun k : Fin 1024 => val_main_v0 (F := Ideal) a w (ix2 r k)) * g (ix2 0 l) := by
    unfold val_main_v13 val_main_v12 val_main_v11 val_main_v10 val_main_v9 val_main_v8 val_main_v7 val_main_v6 val_main_v5 val_main_v4 val_main_v3 val_main_v2 val_main_v1
    generalize val_main_v0 (F := Ideal) a w = y
    pointwise [val_main_cst, val_main_cst_0, val_main_cst_1]
  rw [e]
  simp only [hy _ _, hx _ _, hg _ _]
  rfl

end Cert.ResNReferenceIdeal.ResN
end
-- ==== Proof.ResN.Claim.lean ====
module

public import proofs.«01_k».proof.Defs
public import proofs.«01_k».proof.Proof.ResN.Ref
public import proofs.«01_k».proof.Proof.Gen.ResNReferenceIdeal.Run
public import Idealize.ShloMosaic.Lib.Claim

/-! The product, its norm and the residual: the call computes the reference's two results, of any arguments. -/

@[expose] public section

set_option maxRecDepth 16384

noncomputable section

open Idealize.ShloMosaic Idealize.ShloMosaic.TcCoe Idealize.SL.Sem

namespace Cert.Proof.ResN

open Cert.ResNKernelIdeal.ResN Cert.Norm

section Values

open Cert.ResNKernelIdeal Cert.ResNKernelIdeal.Gen Cert.ResNReferenceIdeal.Read

variable (m : (ℓ : Loc nD τ sig) → Buf (Elt Ideal) ℓ) (c : Dev nD)

/-- The reference's results are the arrays of the kernel. -/
theorem values : val_main_v0 (F := Ideal) (Aa m c) (Wa m c) = (dats m 0 c).arrAt 4 cfg0.N
    ∧ val_main_v13 (F := Ideal) (Aa m c) (Wa m c) (Xa m c) (Ga m c) = (dats m 0 c).arrAt 5 cfg0.N := by
  obtain ⟨A, ha⟩ := exists_isE (Aa m c)
  obtain ⟨W, hw⟩ := exists_isE (Wa m c)
  obtain ⟨X, hx⟩ := exists_isE (Xa m c)
  obtain ⟨G, hg⟩ := exists_isE (Ga m c)
  exact ⟨(Cert.ResNReferenceIdeal.ResN.y_is _ _ ha hw).eq (final_y m c ha hw), (Cert.ResNReferenceIdeal.ResN.s_is _ _ _ _ ha hw hx hg).eq (final_s m c ha hw hx hg)⟩

end Values

/-- The reference terminates, with its arguments unchanged and every counter at zero. -/
theorem frame_reference : Cert.quiescent_ResNReferenceIdeal := by
  intro m g _
  exact (θ_run Cert.ResNReferenceIdeal.defs _ _).mono (fun r h => ⟨fun c => (h c).2.2, sem_eq_zero_of_no_sems (by decide) r.2⟩)
    (Cert.ResNReferenceIdeal.Value.run m g)

theorem algebraic : Cert.algebraic_ResNKernelIdeal_ResNReferenceIdeal := by
  pair_intro
  · run_from Cert.ResNKernelIdeal.Value.run_blocks m g
  · refine θ_run_mono (Cert.ResNReferenceIdeal.Value.run m' g') ?_
    intro r hr c
    obtain ⟨a0, a1, a2, a3⟩ := hagree c
    obtain ⟨hy, hs, same⟩ := hr c
    have v := values m c
    refine ⟨hy.trans ?_, hs.trans ?_, same⟩
    · rw [Cert.ResNReferenceIdeal.Read.val_main_v0_eq, a0, a1]
      exact v.1
    · rw [Cert.ResNReferenceIdeal.Read.val_main_v13_eq, a0, a1, a2, a3]
      exact v.2

end Cert.Proof.ResN

end
-- ==== Proof.RmsM.Kernel.lean ====
module

public import proofs.«01_k».proof.Proof.Norm.Forward
public import proofs.«01_k».proof.Proof.Gen.RmsMKernelIdeal.Value
public import Idealize.ShloMosaic.Lib.Claim
public import Idealize.ShloMosaic.Lib.StableHlo.RunRead

/-! A norm, its product and the squared relu: what the call's three arrays hold. -/

@[expose] public section

set_option maxRecDepth 16384

noncomputable section

namespace Cert.RmsMKernelIdeal.RmsM

open Idealize.ShloMosaic Idealize.ShloMosaic.TcCoe Idealize.SL.Sem
open Cert.RmsMKernelIdeal Cert.RmsMKernelIdeal.Gen Cert.Held Cert.Norm

variable (m : (ℓ : Loc nD τ sig) → Buf (Elt Ideal) ℓ) (c : Dev nD)

abbrev Xa : FVec Ideal S4096x1024 .f32 := m ((c : Thread nD τ).loc main_arg0)
abbrev Ga : FVec Ideal S1x1024 .f32 := m ((c : Thread nD τ).loc main_arg1)
abbrev Wa : FVec Ideal S1024x4096 .f32 := m ((c : Thread nD τ).loc main_arg2)

/-- The norm's product, and the square of its positive part. -/
def pre (X G W : ℕ → ℕ → EReal) (r l : ℕ) : EReal := dot 1024 (fwd X G) W r l
def act (X G W : ℕ → ℕ → EReal) (r l : ℕ) : EReal := max (pre X G W r l) (Ideal.ofBits .f32 0x00000000#32) * max (pre X G W r l) (Ideal.ofBits .f32 0x00000000#32)

section
variable {x : Vec Ideal S512x1024 .f32} {g : Vec Ideal S1x1024 .f32} {w : Vec Ideal S1024x4096 .bf16} {X G W : ℕ → ℕ → EReal}
  (n : ℕ) (hx : IsE (n := 512) (d := 1024) x fun r l => X (512 * n + r) l) (hg : IsE (n := 1) (d := 1024) g G) (hw : IsE (n := 1024) (d := 4096) w W)

include hx hg in
theorem h_tile : IsE (n := 512) (d := 1024) (k0_pay2 x g) fun r l => fwd X G (512 * n + r) l := by
  intro r l
  have e : k0_pay2 x g (ix2 r l) = x (ix2 r l) * rE (fun k : Fin 1024 => x (ix2 r k)) * g (ix2 0 l) := by
    pointwise [k0_pay2]
  rw [e]
  simp only [hx _ _, hg _ _]
  rfl

/-- A stretch of 512 columns of the product, and of its activation. -/
abbrev yP (h : FVec Ideal S512x1024 .bf16) (v : Vec Ideal S1024x512 .bf16) : FVec Ideal S512x512 .bf16 := k0_pay21 h v
abbrev uP (h : FVec Ideal S512x1024 .bf16) (v : Vec Ideal S1024x512 .bf16) : FVec Ideal S512x512 .bf16 := k0_pay22 h v

include hx hg hw in
theorem y_tile (b : ℕ) (inb : ∀ a, (![0, b] : Fin 2 → ℕ) a + (![1024, 512] : Fin 2 → ℕ) a ≤ S1024x4096.size a) :
    IsE (n := 512) (d := 512) (yP (k0_pay2 x g) (View.ld (Val := Elt Ideal) w (Rect.unit (s := S1024x4096) ![0, b] ![1024, 512] inb))) fun r l => pre X G W (512 * n + (0 + r)) (b + l) := by
  intro r l
  have hh := h_tile n hx hg
  have hv : IsE (n := 1024) (d := 512) (View.ld (Val := Elt Ideal) w (Rect.unit (s := S1024x4096) ![0, b] ![1024, 512] inb)) fun r l => W (0 + r) (b + l) := hw.load (t := .bf16) 0 b inb
  generalize View.ld (Val := Elt Ideal) w (Rect.unit (s := S1024x4096) ![0, b] ![1024, 512] inb) = v at *
  generalize k0_pay2 x g = h at *
  pointwise [k0_pay21, k0_pay20]
  simp only [hh _ _, hv _ _, Nat.zero_add]
  rfl

include hx hg hw in
theorem u_tile (b : ℕ) (inb : ∀ a, (![0, b] : Fin 2 → ℕ) a + (![1024, 512] : Fin 2 → ℕ) a ≤ S1024x4096.size a) :
    IsE (n := 512) (d := 512) (uP (k0_pay2 x g) (View.ld (Val := Elt Ideal) w (Rect.unit (s := S1024x4096) ![0, b] ![1024, 512] inb))) fun r l => act X G W (512 * n + (0 + r)) (b + l) := by
  intro r l
  have hy := y_tile n hx hg hw b inb r l
  generalize View.ld (Val := Elt Ideal) w (Rect.unit (s := S1024x4096) ![0, b] ![1024, 512] inb) = v at *
  generalize k0_pay2 x g = h at *
  refine Eq.trans (b := max (yP h v (ix2 r l)) (Ideal.ofBits .f32 0x00000000#32) * max (yP h v (ix2 r l)) (Ideal.ofBits .f32 0x00000000#32)) rfl ?_
  rw [hy]
  rfl

/-- A store of 512 columns, read as the array's. -/
theorem piece {X : ℕ → ℕ → EReal} (b : ℕ) (inb : ∀ a, (![0, b] : Fin 2 → ℕ) a + (![512, 512] : Fin 2 → ℕ) a ≤ S512x4096.size a) (w : FVec Ideal S512x512 .bf16)
    (hw : IsE (n := 512) (d := 512) w fun r l => X (0 + r) (b + l)) :
    ∀ x : (Rect.unit (s := S512x4096) ![0, b] ![512, 512] inb).shape.Idx, (⟨Rect.unit (s := S512x4096) ![0, b] ![512, 512] inb, w⟩ : View.Piece (Elt Ideal) S512x4096 .bf16).2 x =
      (fun y : S512x4096.Idx => X (y 0).val (y 1).val) ((Rect.unit (s := S512x4096) ![0, b] ![512, 512] inb).emb x) :=
  fun x => blockE 0 b inb hw x

include hx hg in
theorem point_h : IsE (n := 512) (d := 1024) (out0_3 x g w) fun r l => fwd X G (512 * n + r) l := by
  intro r l
  have l0 : View.ld x r0_0 = x := View.ld_unit_zero (funext fun a => by fin_cases a <;> rfl) _ _
  have l1 : View.ld g r0_1 = g := View.ld_unit_zero (funext fun a => by fin_cases a <;> rfl) _ _
  unfold_out out0_3
  rw [l0, l1]
  let Y : ℕ → ℕ → EReal := fun r l => fwd X G (512 * n + r) l
  have q : IsE (n := 512) (d := 1024) (k0_pay2 x g) fun r l => Y (0 + r) (0 + l) := by
    simp only [Nat.zero_add]
    exact h_tile n hx hg
  exact canon_pieces (s := S512x1024) (t := .bf16) (Val := Elt Ideal) (fun y => Y (y 0).val (y 1).val) _ _ (cover0_3 _ _) ⟨fun x => blockE (X := Y) 0 0 inb_S512x1024_S512x1024_0_0 q x, trivial⟩

include hx hg hw in
theorem point_y : IsE (n := 512) (d := 4096) (out0_4 x g w) fun r l => pre X G W (512 * n + r) l := by
  intro r l
  have l0 : View.ld x r0_0 = x := View.ld_unit_zero (funext fun a => by fin_cases a <;> rfl) _ _
  have l1 : View.ld g r0_1 = g := View.ld_unit_zero (funext fun a => by fin_cases a <;> rfl) _ _
  have q := y_tile n hx hg hw
  unfold_out out0_4
  rw [l0, l1]
  let Y : ℕ → ℕ → EReal := fun r l => pre X G W (512 * n + r) l
  refine canon_pieces (s := S512x4096) (t := .bf16) (Val := Elt Ideal) (fun y => Y (y 0).val (y 1).val) _ _ (View.cover_of_tiledL (s := S512x4096) _ ![512, 512] (by sl_kernel_rfl) _) ?_
  exact ⟨piece (X := Y) 3584 _ _ (q 3584 _), piece (X := Y) 3072 _ _ (q 3072 _), piece (X := Y) 2560 _ _ (q 2560 _), piece (X := Y) 2048 _ _ (q 2048 _), piece (X := Y) 1536 _ _ (q 1536 _), piece (X := Y) 1024 _ _ (q 1024 _), piece (X := Y) 512 _ _ (q 512 _), piece (X := Y) 0 _ _ (q 0 _), trivial⟩

include hx hg hw in
theorem point_u : IsE (n := 512) (d := 4096) (out0_5 x g w) fun r l => act X G W (512 * n + r) l := by
  intro r l
  have l0 : View.ld x r0_0 = x := View.ld_unit_zero (funext fun a => by fin_cases a <;> rfl) _ _
  have l1 : View.ld g r0_1 = g := View.ld_unit_zero (funext fun a => by fin_cases a <;> rfl) _ _
  have q := u_tile n hx hg hw
  unfold_out out0_5
  rw [l0, l1]
  let Y : ℕ → ℕ → EReal := fun r l => act X G W (512 * n + r) l
  refine canon_pieces (s := S512x4096) (t := .bf16) (Val := Elt Ideal) (fun y => Y (y 0).val (y 1).val) _ _ (View.cover_of_tiledL (s := S512x4096) _ ![512, 512] (by sl_kernel_rfl) _) ?_
  exact ⟨piece (X := Y) 3584 _ _ (q 3584 _), piece (X := Y) 3072 _ _ (q 3072 _), piece (X := Y) 2560 _ _ (q 2560 _), piece (X := Y) 2048 _ _ (q 2048 _), piece (X := Y) 1536 _ _ (q 1536 _), piece (X := Y) 1024 _ _ (q 1024 _), piece (X := Y) 512 _ _ (q 512 _), piece (X := Y) 0 _ _ (q 0 _), trivial⟩

end

theorem idx : ∀ t : Fin cfg0.N, win0_0.index t = ![t.val, 0] ∧ win0_1.index t = ![0, 0] ∧ win0_2.index t = ![0, 0] ∧ win0_3.index t = ![t.val, 0]
    ∧ win0_4.index t = ![t.val, 0] ∧ win0_5.index t = ![t.val, 0] :=
  (by decide +kernel : ∀ t : Fin grid0.N, _)

theorem row3 (t : Fin cfg0.N) (a : ℕ) : win0_3.index t 0 * 512 + a = 512 * t.val + a := by
  rw [(idx t).2.2.2.1]
  show t.val * 512 + a = _
  omega
theorem col3 (t : Fin cfg0.N) (a : ℕ) : win0_3.index t 1 * 1024 + a = a := by
  rw [(idx t).2.2.2.1]
  show 0 * 1024 + a = _
  omega
theorem row4 (t : Fin cfg0.N) (a : ℕ) : win0_4.index t 0 * 512 + a = 512 * t.val + a := by
  rw [(idx t).2.2.2.2.1]
  show t.val * 512 + a = _
  omega
theorem col4 (t : Fin cfg0.N) (a : ℕ) : win0_4.index t 1 * 4096 + a = a := by
  rw [(idx t).2.2.2.2.1]
  show 0 * 4096 + a = _
  omega
theorem row5 (t : Fin cfg0.N) (a : ℕ) : win0_5.index t 0 * 512 + a = 512 * t.val + a := by
  rw [(idx t).2.2.2.2.2]
  show t.val * 512 + a = _
  omega
theorem col5 (t : Fin cfg0.N) (a : ℕ) : win0_5.index t 1 * 4096 + a = a := by
  rw [(idx t).2.2.2.2.2]
  show 0 * 4096 + a = _
  omega

theorem read_x (W : Valuation τ sig (Elt Ideal)) : StableHlo.after hostOps0 W (Proc.devRef .tc main_arg0) = (W (Proc.devRef .tc main_arg0)) := by
  after_reads_simp
theorem read_g (W : Valuation τ sig (Elt Ideal)) : StableHlo.after hostOps0 W (Proc.devRef .tc main_arg1) = (W (Proc.devRef .tc main_arg1)) := by
  after_reads_simp
theorem read_w (W : Valuation τ sig (Elt Ideal)) : StableHlo.after hostOps0 W (Proc.devRef .tc main_v0) = (W (Proc.devRef .tc main_arg2)) := by
  after_reads_simp
  rfl

section
variable {X G W : ℕ → ℕ → EReal} (t : Fin cfg0.N) (hx : IsE (n := 4096) (d := 1024) (Xa m c) X) (hg : IsE (n := 1) (d := 1024) (Ga m c) G)
  (hw : IsE (n := 1024) (d := 4096) (Wa m c) W)

include hx in
theorem blk0 : IsE (n := 512) (d := 1024) (iblk m c 0 t) fun r x => X (512 * t.val + r) x := by
  intro r x
  have ht : t.val < 8 := t.isLt
  refine Eq.trans ?_ ((congrFun (show V m c main_arg0 = _ from read_x _) _).trans (hx ⟨512 * t.val + r.val, by omega⟩ x))
  blk_point [iblk, idx t]
include hg in
theorem blk1 : IsE (n := 1) (d := 1024) (iblk m c 1 t) G := by
  intro r x
  refine Eq.trans ?_ ((congrFun (show V m c main_arg1 = _ from read_g _) _).trans (hg r x))
  blk_point [iblk, idx t]
include hw in
theorem blk2 : IsE (n := 1024) (d := 4096) (iblk m c 2 t) W := by
  intro r x
  refine Eq.trans ?_ ((congrFun (show V m c main_v0 = _ from read_w _) _).trans (hw r x))
  blk_point [iblk, idx t]

include hx hg in
/-- The norm. -/
theorem final_h : IsE (n := 4096) (d := 1024) ((dats m 0 c).arrAt 3 cfg0.N) (fwd X G) := by
  have h : (dats m 0 c).arrAt 3 cfg0.N = fun i => (fwd X G) (i 0).val (i 1).val := by
    refine (dats m 0 c).arrAt_eq_of_covers 3 _ (by decide +kernel) fun t hf y => ?_
    blk_simp
    rw [after0_3, eq_ix2 y]
    refine (point_h t.val (blk0 m c t hx) (blk1 m c t hg) (y 0) (y 1)).trans ?_
    exact (congrArg₂ (fun a b : ℕ => (fwd X G) a b) (row3 t _) (col3 t _)).symm
  exact fun r x => congrFun h _

include hx hg hw

/-- The product. -/
theorem final_y : IsE (n := 4096) (d := 4096) ((dats m 0 c).arrAt 4 cfg0.N) (pre X G W) := by
  have h : (dats m 0 c).arrAt 4 cfg0.N = fun i => (pre X G W) (i 0).val (i 1).val := by
    refine (dats m 0 c).arrAt_eq_of_covers 4 _ (by decide +kernel) fun t hf y => ?_
    blk_simp
    rw [after0_4, eq_ix2 y]
    refine (point_y t.val (blk0 m c t hx) (blk1 m c t hg) (blk2 m c t hw) (y 0) (y 1)).trans ?_
    exact (congrArg₂ (fun a b : ℕ => (pre X G W) a b) (row4 t _) (col4 t _)).symm
  exact fun r x => congrFun h _

/-- The squared relu. -/
theorem final_u : IsE (n := 4096) (d := 4096) ((dats m 0 c).arrAt 5 cfg0.N) (act X G W) := by
  have h : (dats m 0 c).arrAt 5 cfg0.N = fun i => (act X G W) (i 0).val (i 1).val := by
    refine (dats m 0 c).arrAt_eq_of_covers 5 _ (by decide +kernel) fun t hf y => ?_
    blk_simp
    rw [after0_5, eq_ix2 y]
    refine (point_u t.val (blk0 m c t hx) (blk1 m c t hg) (blk2 m c t hw) (y 0) (y 1)).trans ?_
    exact (congrArg₂ (fun a b : ℕ => (act X G W) a b) (row5 t _) (col5 t _)).symm
  exact fun r x => congrFun h _

end

end Cert.RmsMKernelIdeal.RmsM
end
-- ==== Proof.RmsM.Ref.lean ====
module

public import proofs.«01_k».proof.Proof.RmsM.Kernel
public import proofs.«01_k».proof.Proof.Gen.RmsMReferenceIdeal.Read
public import Idealize.ShloMosaic.Lib.Claim

/-! What the reference's three results hold. -/

@[expose] public section

set_option maxRecDepth 16384

noncomputable section

namespace Cert.RmsMReferenceIdeal.RmsM

open Idealize.ShloMosaic Idealize.ShloMosaic.TcCoe Idealize.SL.Sem
open Cert.RmsMReferenceIdeal Cert.RmsMReferenceIdeal.Read Cert.Held Cert.Norm
open Cert.RmsMKernelIdeal.RmsM (pre act)

variable (x : FVec Ideal S4096x1024 .f32) (g : FVec Ideal S1x1024 .f32) (w : FVec Ideal S1024x4096 .f32) {X G W : ℕ → ℕ → EReal}
  (hx : IsE (n := 4096) (d := 1024) x X) (hg : IsE (n := 1) (d := 1024) g G) (hw : IsE (n := 1024) (d := 4096) w W)

include hx hg

theorem h_is : IsE (n := 4096) (d := 1024) (val_main_v11 (F := Ideal) x g) (fwd X G) := by
  intro r l
  have e : val_main_v11 (F := Ideal) x g (ix2 r l) = x (ix2 r l) * rE (fun k : Fin 1024 => x (ix2 r k)) * g (ix2 0 l) := by
    unfold val_main_v11 val_main_v10 val_main_v9 val_main_v8 val_main_v7 val_main_v6 val_main_v5 val_main_v4 val_main_v3 val_main_v2 val_main_v1 val_main_v0
    pointwise [val_main_cst, val_main_cst_0, val_main_cst_1]
  rw [e]
  simp only [hx _ _, hg _ _]
  rfl

theorem n_is : IsE (n := 4096) (d := 1024) (val_main_v13 (F := Ideal) x g) (fwd X G) := h_is x g hx hg

include hw

theorem p_is : IsE (n := 4096) (d := 4096) (val_main_v12 (F := Ideal) x g w) (pre X G W) := by
  intro r l
  have hh := h_is x g hx hg
  unfold val_main_v12
  generalize val_main_v11 (F := Ideal) x g = h at *
  pointwise
  simp only [hh _ _, hw _ _]
  rfl

theorem y_is : IsE (n := 4096) (d := 4096) (val_main_v14 (F := Ideal) x g w) (pre X G W) := p_is x g w hx hg hw

theorem u_is : IsE (n := 4096) (d := 4096) (val_main_v17 (F := Ideal) x g w) (act X G W) := by
  intro r l
  have hp := p_is x g w hx hg hw r l
  refine Eq.trans (b := max (val_main_v12 (F := Ideal) x g w (ix2 r l)) (Ideal.ofBits .f32 0x00000000#32) * max (val_main_v12 (F := Ideal) x g w (ix2 r l)) (Ideal.ofBits .f32 0x00000000#32)) rfl ?_
  rw [hp]
  rfl

end Cert.RmsMReferenceIdeal.RmsM
end
-- ==== Proof.RmsM.Claim.lean ====
module

public import proofs.«01_k».proof.Defs
public import proofs.«01_k».proof.Proof.RmsM.Ref
public import proofs.«01_k».proof.Proof.Gen.RmsMReferenceIdeal.Run
public import Idealize.ShloMosaic.Lib.Claim

/-! A norm, its product and the squared relu: the call computes the reference's three results, of any arguments. -/

@[expose] public section

set_option maxRecDepth 16384

noncomputable section

open Idealize.ShloMosaic Idealize.ShloMosaic.TcCoe Idealize.SL.Sem

namespace Cert.Proof.RmsM

open Cert.RmsMKernelIdeal.RmsM Cert.Norm

section Values

open Cert.RmsMKernelIdeal Cert.RmsMKernelIdeal.Gen Cert.RmsMReferenceIdeal.Read

variable (m : (ℓ : Loc nD τ sig) → Buf (Elt Ideal) ℓ) (c : Dev nD)

/-- The reference's results are the arrays of the kernel. -/
theorem values : val_main_v13 (F := Ideal) (Xa m c) (Ga m c) = (dats m 0 c).arrAt 3 cfg0.N
    ∧ val_main_v14 (F := Ideal) (Xa m c) (Ga m c) (Wa m c) = (dats m 0 c).arrAt 4 cfg0.N
    ∧ val_main_v17 (F := Ideal) (Xa m c) (Ga m c) (Wa m c) = (dats m 0 c).arrAt 5 cfg0.N := by
  obtain ⟨X, hx⟩ := exists_isE (Xa m c)
  obtain ⟨G, hg⟩ := exists_isE (Ga m c)
  obtain ⟨W, hw⟩ := exists_isE (Wa m c)
  exact ⟨(Cert.RmsMReferenceIdeal.RmsM.n_is _ _ hx hg).eq (final_h m c hx hg), (Cert.RmsMReferenceIdeal.RmsM.y_is _ _ _ hx hg hw).eq (final_y m c hx hg hw),
    (Cert.RmsMReferenceIdeal.RmsM.u_is _ _ _ hx hg hw).eq (final_u m c hx hg hw)⟩

end Values

/-- The reference terminates, with its arguments unchanged and every counter at zero. -/
theorem frame_reference : Cert.quiescent_RmsMReferenceIdeal := by
  intro m g _
  exact (θ_run Cert.RmsMReferenceIdeal.defs _ _).mono (fun r h => ⟨fun c => (h c).2.2.2, sem_eq_zero_of_no_sems (by decide) r.2⟩)
    (Cert.RmsMReferenceIdeal.Value.run m g)

theorem algebraic : Cert.algebraic_RmsMKernelIdeal_RmsMReferenceIdeal := by
  pair_intro
  · run_from Cert.RmsMKernelIdeal.Value.run_blocks m g
  · refine θ_run_mono (Cert.RmsMReferenceIdeal.Value.run m' g') ?_
    intro r hr c
    obtain ⟨a0, a1, a2⟩ := hagree c
    obtain ⟨hh, hy, hu, same⟩ := hr c
    have v := values m c
    refine ⟨hh.trans ?_, hy.trans ?_, hu.trans ?_, same⟩
    · rw [Cert.RmsMReferenceIdeal.Read.val_main_v13_eq, a0, a1]
      exact v.1
    · rw [Cert.RmsMReferenceIdeal.Read.val_main_v14_eq, a0, a1, a2]
      exact v.2.1
    · rw [Cert.RmsMReferenceIdeal.Read.val_main_v17_eq, a0, a1, a2]
      exact v.2.2

end Cert.Proof.RmsM

end
-- ==== Proof.lean ====
module

public import proofs.«01_k».proof.Defs
public import proofs.«01_k».proof.Proof.Gen.LossKernel
public import proofs.«01_k».proof.Proof.Gen.LossKernel.Skeleton
public import proofs.«01_k».proof.Proof.Gen.LossKernel.Launch
public import proofs.«01_k».proof.Proof.Gen.LossKernel.Points
public import proofs.«01_k».proof.Proof.Gen.LossKernel.Frame
public import proofs.«01_k».proof.Proof.Gen.LossReferenceIdeal.Run
public import proofs.«01_k».proof.Proof.Gen.LossReferenceIdeal.Read
public import proofs.«01_k».proof.Proof.Gen.LossKernelIdeal
public import proofs.«01_k».proof.Proof.Gen.LossKernelIdeal.Skeleton
public import proofs.«01_k».proof.Proof.Gen.LossKernelIdeal.Launch
public import proofs.«01_k».proof.Proof.Gen.LossKernelIdeal.Points
public import proofs.«01_k».proof.Proof.Gen.LossKernelIdeal.Frame
public import proofs.«01_k».proof.Proof.Gen.LossReferenceIdeal
public import proofs.«01_k».proof.Proof.Gen.FoxKernel
public import proofs.«01_k».proof.Proof.Gen.FoxKernel.Frame
public import proofs.«01_k».proof.Proof.Gen.FoxKernelIdeal
public import proofs.«01_k».proof.Proof.Gen.FoxKernelIdeal.Frame
public import proofs.«01_k».proof.Proof.Gen.FoxReferenceIdeal
public import proofs.«01_k».proof.Proof.Gen.FoxReferenceIdeal.Run
public import proofs.«01_k».proof.Proof.Gen.FoxReferenceIdeal.Read
public import Idealize.ShloMosaic.Adequacy
public import Idealize.ShloMosaic.Init
public import proofs.«01_k».proof.Proof.Loss.Claim
public import proofs.«01_k».proof.Proof.Fox.Claim
public import proofs.«01_k».proof.Proof.Cum.Claim
public import proofs.«01_k».proof.Proof.Gen.CumKernel
public import proofs.«01_k».proof.Proof.Gen.CumKernel.Frame
public import proofs.«01_k».proof.Proof.Gen.CumKernelIdeal
public import proofs.«01_k».proof.Proof.Gen.CumKernelIdeal.Frame
public import proofs.«01_k».proof.Proof.Gen.CumKernelIdeal.Value
public import proofs.«01_k».proof.Proof.Gen.CumReferenceIdeal
public import proofs.«01_k».proof.Proof.Gen.CumReferenceIdeal.Run
public import proofs.«01_k».proof.Proof.Gen.CumReferenceIdeal.Read
public import proofs.«01_k».proof.Proof.Mem.Claim
public import proofs.«01_k».proof.Proof.Gen.MemKernel
public import proofs.«01_k».proof.Proof.Gen.MemKernel.Frame
public import proofs.«01_k».proof.Proof.Gen.MemKernelIdeal
public import proofs.«01_k».proof.Proof.Gen.MemKernelIdeal.Frame
public import proofs.«01_k».proof.Proof.Gen.MemKernelIdeal.Value
public import proofs.«01_k».proof.Proof.Gen.MemReferenceIdeal
public import proofs.«01_k».proof.Proof.Gen.MemReferenceIdeal.Run
public import proofs.«01_k».proof.Proof.Gen.MemReferenceIdeal.Read
public import proofs.«01_k».proof.Proof.Down.Claim
public import proofs.«01_k».proof.Proof.Gen.DownKernel
public import proofs.«01_k».proof.Proof.Gen.DownKernel.Frame
public import proofs.«01_k».proof.Proof.Gen.DownKernelIdeal
public import proofs.«01_k».proof.Proof.Gen.DownKernelIdeal.Frame
public import proofs.«01_k».proof.Proof.Gen.DownKernelIdeal.Value
public import proofs.«01_k».proof.Proof.Gen.DownReferenceIdeal
public import proofs.«01_k».proof.Proof.Gen.DownReferenceIdeal.Run
public import proofs.«01_k».proof.Proof.Gen.DownReferenceIdeal.Read
public import proofs.«01_k».proof.Proof.Out.Claim
public import proofs.«01_k».proof.Proof.Gen.OutKernel
public import proofs.«01_k».proof.Proof.Gen.OutKernel.Frame
public import proofs.«01_k».proof.Proof.Gen.OutKernelIdeal
public import proofs.«01_k».proof.Proof.Gen.OutKernelIdeal.Frame
public import proofs.«01_k».proof.Proof.Gen.OutKernelIdeal.Value
public import proofs.«01_k».proof.Proof.Gen.OutReferenceIdeal
public import proofs.«01_k».proof.Proof.Gen.OutReferenceIdeal.Run
public import proofs.«01_k».proof.Proof.Gen.OutReferenceIdeal.Read
public import proofs.«01_k».proof.Proof.Up.Claim
public import proofs.«01_k».proof.Proof.Gen.UpKernel
public import proofs.«01_k».proof.Proof.Gen.UpKernel.Frame
public import proofs.«01_k».proof.Proof.Gen.UpKernelIdeal
public import proofs.«01_k».proof.Proof.Gen.UpKernelIdeal.Frame
public import proofs.«01_k».proof.Proof.Gen.UpKernelIdeal.Value
public import proofs.«01_k».proof.Proof.Gen.UpReferenceIdeal
public import proofs.«01_k».proof.Proof.Gen.UpReferenceIdeal.Run
public import proofs.«01_k».proof.Proof.Gen.UpReferenceIdeal.Read
public import proofs.«01_k».proof.Proof.MemKv.Claim
public import proofs.«01_k».proof.Proof.Gen.MemKvKernel
public import proofs.«01_k».proof.Proof.Gen.MemKvKernel.Frame
public import proofs.«01_k».proof.Proof.Gen.MemKvKernelIdeal
public import proofs.«01_k».proof.Proof.Gen.MemKvKernelIdeal.Frame
public import proofs.«01_k».proof.Proof.Gen.MemKvKernelIdeal.Value
public import proofs.«01_k».proof.Proof.Gen.MemKvReferenceIdeal
public import proofs.«01_k».proof.Proof.Gen.MemKvReferenceIdeal.Run
public import proofs.«01_k».proof.Proof.Gen.MemKvReferenceIdeal.Read
public import proofs.«01_k».proof.Proof.MixIn.Claim
public import proofs.«01_k».proof.Proof.Gen.MixInKernel
public import proofs.«01_k».proof.Proof.Gen.MixInKernel.Frame
public import proofs.«01_k».proof.Proof.Gen.MixInKernelIdeal
public import proofs.«01_k».proof.Proof.Gen.MixInKernelIdeal.Frame
public import proofs.«01_k».proof.Proof.Gen.MixInKernelIdeal.Value
public import proofs.«01_k».proof.Proof.Gen.MixInReferenceIdeal
public import proofs.«01_k».proof.Proof.Gen.MixInReferenceIdeal.Run
public import proofs.«01_k».proof.Proof.Gen.MixInReferenceIdeal.Read
public import proofs.«01_k».proof.Proof.Conv.Claim
public import proofs.«01_k».proof.Proof.Gen.ConvKernel
public import proofs.«01_k».proof.Proof.Gen.ConvKernelIdeal
public import proofs.«01_k».proof.Proof.Gen.ConvKernelIdeal.Frame
public import proofs.«01_k».proof.Proof.Gen.ConvKernelIdeal.Skeleton
public import proofs.«01_k».proof.Proof.Gen.ConvKernelIdeal.Loops
public import proofs.«01_k».proof.Proof.MemF.Claim
public import proofs.«01_k».proof.Proof.Gen.MemFKernel
public import proofs.«01_k».proof.Proof.Gen.MemFKernel.Frame
public import proofs.«01_k».proof.Proof.Gen.MemFKernelIdeal
public import proofs.«01_k».proof.Proof.Gen.MemFKernelIdeal.Frame
public import proofs.«01_k».proof.Proof.Gen.MemFKernelIdeal.Value
public import proofs.«01_k».proof.Proof.Gen.MemFReferenceIdeal
public import proofs.«01_k».proof.Proof.Gen.MemFReferenceIdeal.Run
public import proofs.«01_k».proof.Proof.Gen.MemFReferenceIdeal.Read
public import proofs.«01_k».proof.Proof.ResN.Claim
public import proofs.«01_k».proof.Proof.Gen.ResNKernel
public import proofs.«01_k».proof.Proof.Gen.ResNKernel.Frame
public import proofs.«01_k».proof.Proof.Gen.ResNKernelIdeal
public import proofs.«01_k».proof.Proof.Gen.ResNKernelIdeal.Frame
public import proofs.«01_k».proof.Proof.Gen.ResNKernelIdeal.Value
public import proofs.«01_k».proof.Proof.Gen.ResNReferenceIdeal
public import proofs.«01_k».proof.Proof.Gen.ResNReferenceIdeal.Run
public import proofs.«01_k».proof.Proof.Gen.ResNReferenceIdeal.Read
public import proofs.«01_k».proof.Proof.RmsM.Claim
public import proofs.«01_k».proof.Proof.Gen.RmsMKernel
public import proofs.«01_k».proof.Proof.Gen.RmsMKernel.Frame
public import proofs.«01_k».proof.Proof.Gen.RmsMKernelIdeal
public import proofs.«01_k».proof.Proof.Gen.RmsMKernelIdeal.Frame
public import proofs.«01_k».proof.Proof.Gen.RmsMKernelIdeal.Value
public import proofs.«01_k».proof.Proof.Gen.RmsMReferenceIdeal
public import proofs.«01_k».proof.Proof.Gen.RmsMReferenceIdeal.Run
public import proofs.«01_k».proof.Proof.Gen.RmsMReferenceIdeal.Read
public import proofs.«01_k».proof.Proof.Gen.Pre_cum_finite
public import proofs.«01_k».proof.Proof.Gen.Pre_mem_finite
public import proofs.«01_k».proof.Proof.Gen.Pre_down_finite
public import proofs.«01_k».proof.Proof.Gen.Pre_out_finite
public import proofs.«01_k».proof.Proof.Gen.Pre_up_finite
public import proofs.«01_k».proof.Proof.Gen.Pre_memkv_finite
public import proofs.«01_k».proof.Proof.Gen.Pre_mixin_finite
public import proofs.«01_k».proof.Proof.Gen.Pre_memf_finite

@[expose] public section

noncomputable section

namespace Cert.Proof

open Idealize.ShloMosaic Idealize.SL.Sem Cert.LossKernel

theorem claim : Cert.Claim := ⟨Cert.LossKernel.Gen.facts, Cert.LossKernelIdeal.Gen.facts, Cert.LossReferenceIdeal.Gen.facts,
  Cert.FoxKernel.Gen.facts, Cert.FoxKernelIdeal.Gen.facts, Cert.FoxReferenceIdeal.Gen.facts,
  Cert.CumKernel.Gen.facts, Cert.CumKernelIdeal.Gen.facts, Cert.CumReferenceIdeal.Gen.facts,
  Cert.MemKernel.Gen.facts, Cert.MemKernelIdeal.Gen.facts, Cert.MemReferenceIdeal.Gen.facts,
  Cert.DownKernel.Gen.facts, Cert.DownKernelIdeal.Gen.facts, Cert.DownReferenceIdeal.Gen.facts,
  Cert.OutKernel.Gen.facts, Cert.OutKernelIdeal.Gen.facts, Cert.OutReferenceIdeal.Gen.facts,
  Cert.UpKernel.Gen.facts, Cert.UpKernelIdeal.Gen.facts, Cert.UpReferenceIdeal.Gen.facts,
  Cert.MemKvKernel.Gen.facts, Cert.MemKvKernelIdeal.Gen.facts, Cert.MemKvReferenceIdeal.Gen.facts,
  Cert.MixInKernel.Gen.facts, Cert.MixInKernelIdeal.Gen.facts, Cert.MixInReferenceIdeal.Gen.facts,
  Cert.ConvKernel.Gen.facts, Cert.ConvKernelIdeal.Gen.facts,
  Cert.MemFKernel.Gen.facts, Cert.MemFKernelIdeal.Gen.facts, Cert.MemFReferenceIdeal.Gen.facts,
  Cert.ResNKernel.Gen.facts, Cert.ResNKernelIdeal.Gen.facts, Cert.ResNReferenceIdeal.Gen.facts,
  Cert.RmsMKernel.Gen.facts, Cert.RmsMKernelIdeal.Gen.facts, Cert.RmsMReferenceIdeal.Gen.facts,
  Cert.Pre_fox_finite.Gen.facts, Cert.Pre_cum_finite.Gen.facts, Cert.Pre_mem_finite.Gen.facts, Cert.Pre_down_finite.Gen.facts, Cert.Pre_out_finite.Gen.facts, Cert.Pre_up_finite.Gen.facts, Cert.Pre_memkv_finite.Gen.facts, Cert.Pre_mixin_finite.Gen.facts, Cert.Pre_memf_finite.Gen.facts,
  fun m ρ _ => Cert.LossKernel.Gen.frame m ρ, fun m ρ _ => Cert.LossKernelIdeal.Gen.frame m ρ, Loss.frame_reference,
  fun m ρ _ => Cert.FoxKernel.Gen.frame m ρ, fun m ρ _ => Cert.FoxKernelIdeal.Gen.frame m ρ, fun m ρ _ => Cert.FoxKernelIdeal.Gen.frame m ρ,
  Fox.frame_reference, fun m ρ _ => Fox.frame_reference m ρ ⟨⟩,
  fun m ρ _ => Cert.CumKernel.Gen.frame m ρ, fun m ρ _ => Cert.CumKernelIdeal.Gen.frame m ρ, fun m ρ _ => Cert.CumKernelIdeal.Gen.frame m ρ,
  Cum.frame_reference, fun m ρ _ => Cum.frame_reference m ρ ⟨⟩,
  fun m ρ _ => Cert.MemKernel.Gen.frame m ρ, fun m ρ _ => Cert.MemKernelIdeal.Gen.frame m ρ, fun m ρ _ => Cert.MemKernelIdeal.Gen.frame m ρ,
  Mem.frame_reference, fun m ρ _ => Mem.frame_reference m ρ ⟨⟩,
  fun m ρ _ => Cert.DownKernel.Gen.frame m ρ, fun m ρ _ => Cert.DownKernelIdeal.Gen.frame m ρ, fun m ρ _ => Cert.DownKernelIdeal.Gen.frame m ρ,
  Down.frame_reference, fun m ρ _ => Down.frame_reference m ρ ⟨⟩,
  fun m ρ _ => Cert.OutKernel.Gen.frame m ρ, fun m ρ _ => Cert.OutKernelIdeal.Gen.frame m ρ, fun m ρ _ => Cert.OutKernelIdeal.Gen.frame m ρ,
  Out.frame_reference, fun m ρ _ => Out.frame_reference m ρ ⟨⟩,
  fun m ρ _ => Cert.UpKernel.Gen.frame m ρ, fun m ρ _ => Cert.UpKernelIdeal.Gen.frame m ρ, fun m ρ _ => Cert.UpKernelIdeal.Gen.frame m ρ,
  Up.frame_reference, fun m ρ _ => Up.frame_reference m ρ ⟨⟩,
  fun m ρ _ => Cert.MemKvKernel.Gen.frame m ρ, fun m ρ _ => Cert.MemKvKernelIdeal.Gen.frame m ρ, fun m ρ _ => Cert.MemKvKernelIdeal.Gen.frame m ρ,
  MemKv.frame_reference, fun m ρ _ => MemKv.frame_reference m ρ ⟨⟩,
  fun m ρ _ => Cert.MixInKernel.Gen.frame m ρ, fun m ρ _ => Cert.MixInKernelIdeal.Gen.frame m ρ, fun m ρ _ => Cert.MixInKernelIdeal.Gen.frame m ρ,
  MixIn.frame_reference, fun m ρ _ => MixIn.frame_reference m ρ ⟨⟩,
  Conv.frame_kernel, fun m ρ _ => Cert.ConvKernelIdeal.Run.frame m ρ,
  fun m ρ _ => Cert.MemFKernel.Gen.frame m ρ, fun m ρ _ => Cert.MemFKernelIdeal.Gen.frame m ρ, fun m ρ _ => Cert.MemFKernelIdeal.Gen.frame m ρ,
  MemF.frame_reference, fun m ρ _ => MemF.frame_reference m ρ ⟨⟩,
  fun m ρ _ => Cert.ResNKernel.Gen.frame m ρ, fun m ρ _ => Cert.ResNKernelIdeal.Gen.frame m ρ, ResN.frame_reference,
  fun m ρ _ => Cert.RmsMKernel.Gen.frame m ρ, fun m ρ _ => Cert.RmsMKernelIdeal.Gen.frame m ρ, RmsM.frame_reference,
  trivial, Loss.algebraic,
  IdealRules.named_const.statement Cert.FoxKernelIdeal.κ "mask" .f32 0xF149F2CA#32 ⊥ rfl, Fox.algebraic,
  trivial, Cum.algebraic,
  trivial, Mem.algebraic,
  trivial, Down.algebraic,
  trivial, Out.algebraic,
  trivial, Up.algebraic,
  trivial, MemKv.algebraic,
  trivial, MixIn.algebraic,
  trivial,
  trivial, MemF.algebraic,
  trivial, ResN.algebraic,
  trivial, RmsM.algebraic⟩

end Cert.Proof

end
